-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))) = (fun _ => 1#1)

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXRefIdeal (m : (ℓ : Loc Cert.GateXRefIdeal.nD Cert.GateXRefIdeal.τ Cert.GateXRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutAX (m : (ℓ : Loc Cert.OutAX.nD Cert.OutAX.τ Cert.OutAX.sig) → Buf (Elt Bits) ℓ) : Prop :=
  True

def Pre_OutAXIdeal (m : (ℓ : Loc Cert.OutAXIdeal.nD Cert.OutAXIdeal.τ Cert.OutAXIdeal.sig) → Buf (Elt Ideal) ℓ) : Prop :=
  True

def Pre_OutAXRefIdeal (m : (ℓ : Loc Cert.OutAXRefIdeal.nD Cert.OutAXRefIdeal.τ Cert.OutAXRefIdeal.sig) → Buf (Elt Ideal) ℓ) : Prop :=
  True

def Pre_OutAW (m : (ℓ : Loc Cert.OutAW.nD Cert.OutAW.τ Cert.OutAW.sig) → Buf (Elt Bits) ℓ) : Prop :=
  True

def Pre_OutAWIdeal (m : (ℓ : Loc Cert.OutAWIdeal.nD Cert.OutAWIdeal.τ Cert.OutAWIdeal.sig) → Buf (Elt Ideal) ℓ) : Prop :=
  True

def Pre_OutAWRefIdeal (m : (ℓ : Loc Cert.OutAWRefIdeal.nD Cert.OutAWRefIdeal.τ Cert.OutAWRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_XqX (m : (ℓ : Loc Cert.XqX.nD Cert.XqX.τ Cert.XqX.sig) → Buf (Elt Bits) ℓ) : Prop :=
  True

def Pre_XqXIdeal (m : (ℓ : Loc Cert.XqXIdeal.nD Cert.XqXIdeal.τ Cert.XqXIdeal.sig) → Buf (Elt Ideal) ℓ) : Prop :=
  True

def Pre_XqXRefIdeal (m : (ℓ : Loc Cert.XqXRefIdeal.nD Cert.XqXRefIdeal.τ Cert.XqXRefIdeal.sig) → Buf (Elt Ideal) ℓ) : Prop :=
  True

def Pre_XqW (m : (ℓ : Loc Cert.XqW.nD Cert.XqW.τ Cert.XqW.sig) → Buf (Elt Bits) ℓ) : Prop :=
  True

def Pre_XqWIdeal (m : (ℓ : Loc Cert.XqWIdeal.nD Cert.XqWIdeal.τ Cert.XqWIdeal.sig) → Buf (Elt Ideal) ℓ) : Prop :=
  True

def Pre_XqWRefIdeal (m : (ℓ : Loc Cert.XqWRefIdeal.nD Cert.XqWRefIdeal.τ Cert.XqWRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_XoX (m : (ℓ : Loc Cert.XoX.nD Cert.XoX.τ Cert.XoX.sig) → Buf (Elt Bits) ℓ) : Prop :=
  True

def Pre_XoXIdeal (m : (ℓ : Loc Cert.XoXIdeal.nD Cert.XoXIdeal.τ Cert.XoXIdeal.sig) → Buf (Elt Ideal) ℓ) : Prop :=
  True

def Pre_XoXRefIdeal (m : (ℓ : Loc Cert.XoXRefIdeal.nD Cert.XoXRefIdeal.τ Cert.XoXRefIdeal.sig) → Buf (Elt Ideal) ℓ) : Prop :=
  True

def Pre_XoW (m : (ℓ : Loc Cert.XoW.nD Cert.XoW.τ Cert.XoW.sig) → Buf (Elt Bits) ℓ) : Prop :=
  True

def Pre_XoWIdeal (m : (ℓ : Loc Cert.XoWIdeal.nD Cert.XoWIdeal.τ Cert.XoWIdeal.sig) → Buf (Elt Ideal) ℓ) : Prop :=
  True

def Pre_XoWRefIdeal (m : (ℓ : Loc Cert.XoWRefIdeal.nD Cert.XoWRefIdeal.τ Cert.XoWRefIdeal.sig) → Buf (Elt Ideal) ℓ) : Prop :=
  True

def Pre_QkvX (m : (ℓ : Loc Cert.QkvX.nD Cert.QkvX.τ Cert.QkvX.sig) → Buf (Elt Bits) ℓ) : Prop :=
  True

def Pre_QkvXIdeal (m : (ℓ : Loc Cert.QkvXIdeal.nD Cert.QkvXIdeal.τ Cert.QkvXIdeal.sig) → Buf (Elt Ideal) ℓ) : Prop :=
  True

def Pre_QkvXRefIdeal (m : (ℓ : Loc Cert.QkvXRefIdeal.nD Cert.QkvXRefIdeal.τ Cert.QkvXRefIdeal.sig) → Buf (Elt Ideal) ℓ) : Prop :=
  True

def Pre_QkvW (m : (ℓ : Loc Cert.QkvW.nD Cert.QkvW.τ Cert.QkvW.sig) → Buf (Elt Bits) ℓ) : Prop :=
  True

def Pre_QkvWIdeal (m : (ℓ : Loc Cert.QkvWIdeal.nD Cert.QkvWIdeal.τ Cert.QkvWIdeal.sig) → Buf (Elt Ideal) ℓ) : Prop :=
  True

def Pre_QkvWRefIdeal (m : (ℓ : Loc Cert.QkvWRefIdeal.nD Cert.QkvWRefIdeal.τ Cert.QkvWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InQW (m : (ℓ : Loc Cert.InQW.nD Cert.InQW.τ Cert.InQW.sig) → Buf (Elt Bits) ℓ) : Prop :=
  True

def Pre_InQWIdeal (m : (ℓ : Loc Cert.InQWIdeal.nD Cert.InQWIdeal.τ Cert.InQWIdeal.sig) → Buf (Elt Ideal) ℓ) : Prop :=
  True

def Pre_InQWRefIdeal (m : (ℓ : Loc Cert.InQWRefIdeal.nD Cert.InQWRefIdeal.τ Cert.InQWRefIdeal.sig) → Buf (Elt Ideal) ℓ) : Prop :=
  True

def Pre_InKvW (m : (ℓ : Loc Cert.InKvW.nD Cert.InKvW.τ Cert.InKvW.sig) → Buf (Elt Bits) ℓ) : Prop :=
  True

def Pre_InKvWIdeal (m : (ℓ : Loc Cert.InKvWIdeal.nD Cert.InKvWIdeal.τ Cert.InKvWIdeal.sig) → Buf (Elt Ideal) ℓ) : Prop :=
  True

def Pre_InKvWRefIdeal (m : (ℓ : Loc Cert.InKvWRefIdeal.nD Cert.InKvWRefIdeal.τ Cert.InKvWRefIdeal.sig) → Buf (Elt Ideal) ℓ) : Prop :=
  True

def Pre_InCqW (m : (ℓ : Loc Cert.InCqW.nD Cert.InCqW.τ Cert.InCqW.sig) → Buf (Elt Bits) ℓ) : Prop :=
  True

def Pre_InCqWIdeal (m : (ℓ : Loc Cert.InCqWIdeal.nD Cert.InCqWIdeal.τ Cert.InCqWIdeal.sig) → Buf (Elt Ideal) ℓ) : Prop :=
  True

def Pre_InCqWRefIdeal (m : (ℓ : Loc Cert.InCqWRefIdeal.nD Cert.InCqWRefIdeal.τ Cert.InCqWRefIdeal.sig) → Buf (Elt Ideal) ℓ) : Prop :=
  True

def Pre_InKrW (m : (ℓ : Loc Cert.InKrW.nD Cert.InKrW.τ Cert.InKrW.sig) → Buf (Elt Bits) ℓ) : Prop :=
  True

def Pre_InKrWIdeal (m : (ℓ : Loc Cert.InKrWIdeal.nD Cert.InKrWIdeal.τ Cert.InKrWIdeal.sig) → Buf (Elt Ideal) ℓ) : Prop :=
  True

def Pre_InKrWRefIdeal (m : (ℓ : Loc Cert.InKrWRefIdeal.nD Cert.InKrWRefIdeal.τ Cert.InKrWRefIdeal.sig) → Buf (Elt Ideal) ℓ) : Prop :=
  True

def Pre_UqX (m : (ℓ : Loc Cert.UqX.nD Cert.UqX.τ Cert.UqX.sig) → Buf (Elt Bits) ℓ) : Prop :=
  True

def Pre_UqXIdeal (m : (ℓ : Loc Cert.UqXIdeal.nD Cert.UqXIdeal.τ Cert.UqXIdeal.sig) → Buf (Elt Ideal) ℓ) : Prop :=
  True

def Pre_UqXRefIdeal (m : (ℓ : Loc Cert.UqXRefIdeal.nD Cert.UqXRefIdeal.τ Cert.UqXRefIdeal.sig) → Buf (Elt Ideal) ℓ) : Prop :=
  True

def Pre_UqW (m : (ℓ : Loc Cert.UqW.nD Cert.UqW.τ Cert.UqW.sig) → Buf (Elt Bits) ℓ) : Prop :=
  True

def Pre_UqWIdeal (m : (ℓ : Loc Cert.UqWIdeal.nD Cert.UqWIdeal.τ Cert.UqWIdeal.sig) → Buf (Elt Ideal) ℓ) : Prop :=
  True

def Pre_UqWRefIdeal (m : (ℓ : Loc Cert.UqWRefIdeal.nD Cert.UqWRefIdeal.τ Cert.UqWRefIdeal.sig) → Buf (Elt Ideal) ℓ) : Prop :=
  True

def Pre_UkvX (m : (ℓ : Loc Cert.UkvX.nD Cert.UkvX.τ Cert.UkvX.sig) → Buf (Elt Bits) ℓ) : Prop :=
  True

def Pre_UkvXIdeal (m : (ℓ : Loc Cert.UkvXIdeal.nD Cert.UkvXIdeal.τ Cert.UkvXIdeal.sig) → Buf (Elt Ideal) ℓ) : Prop :=
  True

def Pre_UkvXRefIdeal (m : (ℓ : Loc Cert.UkvXRefIdeal.nD Cert.UkvXRefIdeal.τ Cert.UkvXRefIdeal.sig) → Buf (Elt Ideal) ℓ) : Prop :=
  True

def Pre_UkvW (m : (ℓ : Loc Cert.UkvW.nD Cert.UkvW.τ Cert.UkvW.sig) → Buf (Elt Bits) ℓ) : Prop :=
  True

def Pre_UkvWIdeal (m : (ℓ : Loc Cert.UkvWIdeal.nD Cert.UkvWIdeal.τ Cert.UkvWIdeal.sig) → Buf (Elt Ideal) ℓ) : Prop :=
  True

def Pre_UkvWRefIdeal (m : (ℓ : Loc Cert.UkvWRefIdeal.nD Cert.UkvWRefIdeal.τ Cert.UkvWRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_XkvX (m : (ℓ : Loc Cert.XkvX.nD Cert.XkvX.τ Cert.XkvX.sig) → Buf (Elt Bits) ℓ) : Prop :=
  True

def Pre_XkvXIdeal (m : (ℓ : Loc Cert.XkvXIdeal.nD Cert.XkvXIdeal.τ Cert.XkvXIdeal.sig) → Buf (Elt Ideal) ℓ) : Prop :=
  True

def Pre_XkvXRefIdeal (m : (ℓ : Loc Cert.XkvXRefIdeal.nD Cert.XkvXRefIdeal.τ Cert.XkvXRefIdeal.sig) → Buf (Elt Ideal) ℓ) : Prop :=
  True

def Pre_XkvW (m : (ℓ : Loc Cert.XkvW.nD Cert.XkvW.τ Cert.XkvW.sig) → Buf (Elt Bits) ℓ) : Prop :=
  True

def Pre_XkvWIdeal (m : (ℓ : Loc Cert.XkvWIdeal.nD Cert.XkvWIdeal.τ Cert.XkvWIdeal.sig) → Buf (Elt Ideal) ℓ) : Prop :=
  True

def Pre_XkvWRefIdeal (m : (ℓ : Loc Cert.XkvWRefIdeal.nD Cert.XkvWRefIdeal.τ Cert.XkvWRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1)
      ∧ r.2.mem ((c.tc : Thread Cert.GateW.nD Cert.GateW.τ).loc Cert.GateW.main_arg2) = m ((c.tc : Thread Cert.GateW.nD Cert.GateW.τ).loc Cert.GateW.main_arg2))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1)
      ∧ r.2.mem ((c.tc : Thread Cert.GateWIdeal.nD Cert.GateWIdeal.τ).loc Cert.GateWIdeal.main_arg2) = m ((c.tc : Thread Cert.GateWIdeal.nD Cert.GateWIdeal.τ).loc Cert.GateWIdeal.main_arg2))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1)
      ∧ r.2.mem ((c.tc : Thread Cert.GateWRefIdeal.nD Cert.GateWRefIdeal.τ).loc Cert.GateWRefIdeal.main_arg2) = m ((c.tc : Thread Cert.GateWRefIdeal.nD Cert.GateWRefIdeal.τ).loc Cert.GateWRefIdeal.main_arg2))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1)
      ∧ r.2.mem ((c.tc : Thread Cert.GateX.nD Cert.GateX.τ).loc Cert.GateX.main_arg2) = m ((c.tc : Thread Cert.GateX.nD Cert.GateX.τ).loc Cert.GateX.main_arg2))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
      ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ r.2.sem = fun _ => 0)

def quiescent_GateXRefIdeal [hGateXRefIdeal : Cert.GateXRefIdeal.Facts] : Prop :=
  ∀ (m : (ℓ : Loc Cert.GateXRefIdeal.nD Cert.GateXRefIdeal.τ Cert.GateXRefIdeal.sig) → Buf (Elt Ideal) ℓ) (g : Dev Cert.GateXRefIdeal.nD → PrngReg), Pre_GateXRefIdeal m →
    θ_run (Cert.GateXRefIdeal.defs (F := Ideal)) (onTc (τ := Cert.GateXRefIdeal.τ) (Cert.GateXRefIdeal.main (F := Ideal))) ⟨m, fun _ => 0, g⟩ (fun r => (∀ c : Dev Cert.GateXRefIdeal.nD,
      r.2.mem ((c.tc : Thread Cert.GateXRefIdeal.nD Cert.GateXRefIdeal.τ).loc Cert.GateXRefIdeal.main_arg0) = m ((c.tc : Thread Cert.GateXRefIdeal.nD Cert.GateXRefIdeal.τ).loc Cert.GateXRefIdeal.main_arg0)
      ∧ r.2.mem ((c.tc : Thread Cert.GateXRefIdeal.nD Cert.GateXRefIdeal.τ).loc Cert.GateXRefIdeal.main_arg1) = m ((c.tc : Thread Cert.GateXRefIdeal.nD Cert.GateXRefIdeal.τ).loc Cert.GateXRefIdeal.main_arg1)
      ∧ r.2.mem ((c.tc : Thread Cert.GateXRefIdeal.nD Cert.GateXRefIdeal.τ).loc Cert.GateXRefIdeal.main_arg2) = m ((c.tc : Thread Cert.GateXRefIdeal.nD Cert.GateXRefIdeal.τ).loc Cert.GateXRefIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2)
      ∧ r.2.mem ((c.tc : Thread Cert.UpX.nD Cert.UpX.τ).loc Cert.UpX.main_arg3) = m ((c.tc : Thread Cert.UpX.nD Cert.UpX.τ).loc Cert.UpX.main_arg3))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
      ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2)
      ∧ r.2.mem ((c.tc : Thread Cert.UpXRefIdeal.nD Cert.UpXRefIdeal.τ).loc Cert.UpXRefIdeal.main_arg3) = m ((c.tc : Thread Cert.UpXRefIdeal.nD Cert.UpXRefIdeal.τ).loc Cert.UpXRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2))
      ∧ r.2.sem = fun _ => 0)

def quiescent_OutAX [hOutAX : Cert.OutAX.Facts] : Prop :=
  ∀ (m : (ℓ : Loc Cert.OutAX.nD Cert.OutAX.τ Cert.OutAX.sig) → Buf (Elt Bits) ℓ) (g : Dev Cert.OutAX.nD → PrngReg), Pre_OutAX m →
    θ_run (Cert.OutAX.defs (F := Bits)) (onTc (τ := Cert.OutAX.τ) (Cert.OutAX.main (F := Bits))) ⟨m, fun _ => 0, g⟩ (fun r => (∀ c : Dev Cert.OutAX.nD,
      r.2.mem ((c.tc : Thread Cert.OutAX.nD Cert.OutAX.τ).loc Cert.OutAX.main_arg0) = m ((c.tc : Thread Cert.OutAX.nD Cert.OutAX.τ).loc Cert.OutAX.main_arg0)
      ∧ r.2.mem ((c.tc : Thread Cert.OutAX.nD Cert.OutAX.τ).loc Cert.OutAX.main_arg1) = m ((c.tc : Thread Cert.OutAX.nD Cert.OutAX.τ).loc Cert.OutAX.main_arg1)
      ∧ r.2.mem ((c.tc : Thread Cert.OutAX.nD Cert.OutAX.τ).loc Cert.OutAX.main_arg2) = m ((c.tc : Thread Cert.OutAX.nD Cert.OutAX.τ).loc Cert.OutAX.main_arg2))
      ∧ r.2.sem = fun _ => 0)

def quiescent_OutAXIdeal [hOutAXIdeal : Cert.OutAXIdeal.Facts] : Prop :=
  ∀ (m : (ℓ : Loc Cert.OutAXIdeal.nD Cert.OutAXIdeal.τ Cert.OutAXIdeal.sig) → Buf (Elt Ideal) ℓ) (g : Dev Cert.OutAXIdeal.nD → PrngReg), Pre_OutAXIdeal m →
    θ_run (Cert.OutAXIdeal.defs (F := Ideal)) (onTc (τ := Cert.OutAXIdeal.τ) (Cert.OutAXIdeal.main (F := Ideal))) ⟨m, fun _ => 0, g⟩ (fun r => (∀ c : Dev Cert.OutAXIdeal.nD,
      r.2.mem ((c.tc : Thread Cert.OutAXIdeal.nD Cert.OutAXIdeal.τ).loc Cert.OutAXIdeal.main_arg0) = m ((c.tc : Thread Cert.OutAXIdeal.nD Cert.OutAXIdeal.τ).loc Cert.OutAXIdeal.main_arg0)
      ∧ r.2.mem ((c.tc : Thread Cert.OutAXIdeal.nD Cert.OutAXIdeal.τ).loc Cert.OutAXIdeal.main_arg1) = m ((c.tc : Thread Cert.OutAXIdeal.nD Cert.OutAXIdeal.τ).loc Cert.OutAXIdeal.main_arg1)
      ∧ r.2.mem ((c.tc : Thread Cert.OutAXIdeal.nD Cert.OutAXIdeal.τ).loc Cert.OutAXIdeal.main_arg2) = m ((c.tc : Thread Cert.OutAXIdeal.nD Cert.OutAXIdeal.τ).loc Cert.OutAXIdeal.main_arg2))
      ∧ r.2.sem = fun _ => 0)

def quiescent_OutAXRefIdeal [hOutAXRefIdeal : Cert.OutAXRefIdeal.Facts] : Prop :=
  ∀ (m : (ℓ : Loc Cert.OutAXRefIdeal.nD Cert.OutAXRefIdeal.τ Cert.OutAXRefIdeal.sig) → Buf (Elt Ideal) ℓ) (g : Dev Cert.OutAXRefIdeal.nD → PrngReg), Pre_OutAXRefIdeal m →
    θ_run (Cert.OutAXRefIdeal.defs (F := Ideal)) (onTc (τ := Cert.OutAXRefIdeal.τ) (Cert.OutAXRefIdeal.main (F := Ideal))) ⟨m, fun _ => 0, g⟩ (fun r => (∀ c : Dev Cert.OutAXRefIdeal.nD,
      r.2.mem ((c.tc : Thread Cert.OutAXRefIdeal.nD Cert.OutAXRefIdeal.τ).loc Cert.OutAXRefIdeal.main_arg0) = m ((c.tc : Thread Cert.OutAXRefIdeal.nD Cert.OutAXRefIdeal.τ).loc Cert.OutAXRefIdeal.main_arg0)
      ∧ r.2.mem ((c.tc : Thread Cert.OutAXRefIdeal.nD Cert.OutAXRefIdeal.τ).loc Cert.OutAXRefIdeal.main_arg1) = m ((c.tc : Thread Cert.OutAXRefIdeal.nD Cert.OutAXRefIdeal.τ).loc Cert.OutAXRefIdeal.main_arg1)
      ∧ r.2.mem ((c.tc : Thread Cert.OutAXRefIdeal.nD Cert.OutAXRefIdeal.τ).loc Cert.OutAXRefIdeal.main_arg2) = m ((c.tc : Thread Cert.OutAXRefIdeal.nD Cert.OutAXRefIdeal.τ).loc Cert.OutAXRefIdeal.main_arg2))
      ∧ r.2.sem = fun _ => 0)

def quiescent_OutAW [hOutAW : Cert.OutAW.Facts] : Prop :=
  ∀ (m : (ℓ : Loc Cert.OutAW.nD Cert.OutAW.τ Cert.OutAW.sig) → Buf (Elt Bits) ℓ) (g : Dev Cert.OutAW.nD → PrngReg), Pre_OutAW m →
    θ_run (Cert.OutAW.defs (F := Bits)) (onTc (τ := Cert.OutAW.τ) (Cert.OutAW.main (F := Bits))) ⟨m, fun _ => 0, g⟩ (fun r => (∀ c : Dev Cert.OutAW.nD,
      r.2.mem ((c.tc : Thread Cert.OutAW.nD Cert.OutAW.τ).loc Cert.OutAW.main_arg0) = m ((c.tc : Thread Cert.OutAW.nD Cert.OutAW.τ).loc Cert.OutAW.main_arg0)
      ∧ r.2.mem ((c.tc : Thread Cert.OutAW.nD Cert.OutAW.τ).loc Cert.OutAW.main_arg1) = m ((c.tc : Thread Cert.OutAW.nD Cert.OutAW.τ).loc Cert.OutAW.main_arg1)
      ∧ r.2.mem ((c.tc : Thread Cert.OutAW.nD Cert.OutAW.τ).loc Cert.OutAW.main_arg2) = m ((c.tc : Thread Cert.OutAW.nD Cert.OutAW.τ).loc Cert.OutAW.main_arg2))
      ∧ r.2.sem = fun _ => 0)

def quiescent_OutAWIdeal [hOutAWIdeal : Cert.OutAWIdeal.Facts] : Prop :=
  ∀ (m : (ℓ : Loc Cert.OutAWIdeal.nD Cert.OutAWIdeal.τ Cert.OutAWIdeal.sig) → Buf (Elt Ideal) ℓ) (g : Dev Cert.OutAWIdeal.nD → PrngReg), Pre_OutAWIdeal m →
    θ_run (Cert.OutAWIdeal.defs (F := Ideal)) (onTc (τ := Cert.OutAWIdeal.τ) (Cert.OutAWIdeal.main (F := Ideal))) ⟨m, fun _ => 0, g⟩ (fun r => (∀ c : Dev Cert.OutAWIdeal.nD,
      r.2.mem ((c.tc : Thread Cert.OutAWIdeal.nD Cert.OutAWIdeal.τ).loc Cert.OutAWIdeal.main_arg0) = m ((c.tc : Thread Cert.OutAWIdeal.nD Cert.OutAWIdeal.τ).loc Cert.OutAWIdeal.main_arg0)
      ∧ r.2.mem ((c.tc : Thread Cert.OutAWIdeal.nD Cert.OutAWIdeal.τ).loc Cert.OutAWIdeal.main_arg1) = m ((c.tc : Thread Cert.OutAWIdeal.nD Cert.OutAWIdeal.τ).loc Cert.OutAWIdeal.main_arg1)
      ∧ r.2.mem ((c.tc : Thread Cert.OutAWIdeal.nD Cert.OutAWIdeal.τ).loc Cert.OutAWIdeal.main_arg2) = m ((c.tc : Thread Cert.OutAWIdeal.nD Cert.OutAWIdeal.τ).loc Cert.OutAWIdeal.main_arg2))
      ∧ r.2.sem = fun _ => 0)

def quiescent_OutAWRefIdeal [hOutAWRefIdeal : Cert.OutAWRefIdeal.Facts] : Prop :=
  ∀ (m : (ℓ : Loc Cert.OutAWRefIdeal.nD Cert.OutAWRefIdeal.τ Cert.OutAWRefIdeal.sig) → Buf (Elt Ideal) ℓ) (g : Dev Cert.OutAWRefIdeal.nD → PrngReg), Pre_OutAWRefIdeal m →
    θ_run (Cert.OutAWRefIdeal.defs (F := Ideal)) (onTc (τ := Cert.OutAWRefIdeal.τ) (Cert.OutAWRefIdeal.main (F := Ideal))) ⟨m, fun _ => 0, g⟩ (fun r => (∀ c : Dev Cert.OutAWRefIdeal.nD,
      r.2.mem ((c.tc : Thread Cert.OutAWRefIdeal.nD Cert.OutAWRefIdeal.τ).loc Cert.OutAWRefIdeal.main_arg0) = m ((c.tc : Thread Cert.OutAWRefIdeal.nD Cert.OutAWRefIdeal.τ).loc Cert.OutAWRefIdeal.main_arg0)
      ∧ r.2.mem ((c.tc : Thread Cert.OutAWRefIdeal.nD Cert.OutAWRefIdeal.τ).loc Cert.OutAWRefIdeal.main_arg1) = m ((c.tc : Thread Cert.OutAWRefIdeal.nD Cert.OutAWRefIdeal.τ).loc Cert.OutAWRefIdeal.main_arg1)
      ∧ r.2.mem ((c.tc : Thread Cert.OutAWRefIdeal.nD Cert.OutAWRefIdeal.τ).loc Cert.OutAWRefIdeal.main_arg2) = m ((c.tc : Thread Cert.OutAWRefIdeal.nD Cert.OutAWRefIdeal.τ).loc Cert.OutAWRefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_XqX [hXqX : Cert.XqX.Facts] : Prop :=
  ∀ (m : (ℓ : Loc Cert.XqX.nD Cert.XqX.τ Cert.XqX.sig) → Buf (Elt Bits) ℓ) (g : Dev Cert.XqX.nD → PrngReg), Pre_XqX m →
    θ_run (Cert.XqX.defs (F := Bits)) (onTc (τ := Cert.XqX.τ) (Cert.XqX.main (F := Bits))) ⟨m, fun _ => 0, g⟩ (fun r => (∀ c : Dev Cert.XqX.nD,
      r.2.mem ((c.tc : Thread Cert.XqX.nD Cert.XqX.τ).loc Cert.XqX.main_arg0) = m ((c.tc : Thread Cert.XqX.nD Cert.XqX.τ).loc Cert.XqX.main_arg0)
      ∧ r.2.mem ((c.tc : Thread Cert.XqX.nD Cert.XqX.τ).loc Cert.XqX.main_arg1) = m ((c.tc : Thread Cert.XqX.nD Cert.XqX.τ).loc Cert.XqX.main_arg1)
      ∧ r.2.mem ((c.tc : Thread Cert.XqX.nD Cert.XqX.τ).loc Cert.XqX.main_arg2) = m ((c.tc : Thread Cert.XqX.nD Cert.XqX.τ).loc Cert.XqX.main_arg2))
      ∧ r.2.sem = fun _ => 0)

def quiescent_XqXIdeal [hXqXIdeal : Cert.XqXIdeal.Facts] : Prop :=
  ∀ (m : (ℓ : Loc Cert.XqXIdeal.nD Cert.XqXIdeal.τ Cert.XqXIdeal.sig) → Buf (Elt Ideal) ℓ) (g : Dev Cert.XqXIdeal.nD → PrngReg), Pre_XqXIdeal m →
    θ_run (Cert.XqXIdeal.defs (F := Ideal)) (onTc (τ := Cert.XqXIdeal.τ) (Cert.XqXIdeal.main (F := Ideal))) ⟨m, fun _ => 0, g⟩ (fun r => (∀ c : Dev Cert.XqXIdeal.nD,
      r.2.mem ((c.tc : Thread Cert.XqXIdeal.nD Cert.XqXIdeal.τ).loc Cert.XqXIdeal.main_arg0) = m ((c.tc : Thread Cert.XqXIdeal.nD Cert.XqXIdeal.τ).loc Cert.XqXIdeal.main_arg0)
      ∧ r.2.mem ((c.tc : Thread Cert.XqXIdeal.nD Cert.XqXIdeal.τ).loc Cert.XqXIdeal.main_arg1) = m ((c.tc : Thread Cert.XqXIdeal.nD Cert.XqXIdeal.τ).loc Cert.XqXIdeal.main_arg1)
      ∧ r.2.mem ((c.tc : Thread Cert.XqXIdeal.nD Cert.XqXIdeal.τ).loc Cert.XqXIdeal.main_arg2) = m ((c.tc : Thread Cert.XqXIdeal.nD Cert.XqXIdeal.τ).loc Cert.XqXIdeal.main_arg2))
      ∧ r.2.sem = fun _ => 0)

def quiescent_XqXRefIdeal [hXqXRefIdeal : Cert.XqXRefIdeal.Facts] : Prop :=
  ∀ (m : (ℓ : Loc Cert.XqXRefIdeal.nD Cert.XqXRefIdeal.τ Cert.XqXRefIdeal.sig) → Buf (Elt Ideal) ℓ) (g : Dev Cert.XqXRefIdeal.nD → PrngReg), Pre_XqXRefIdeal m →
    θ_run (Cert.XqXRefIdeal.defs (F := Ideal)) (onTc (τ := Cert.XqXRefIdeal.τ) (Cert.XqXRefIdeal.main (F := Ideal))) ⟨m, fun _ => 0, g⟩ (fun r => (∀ c : Dev Cert.XqXRefIdeal.nD,
      r.2.mem ((c.tc : Thread Cert.XqXRefIdeal.nD Cert.XqXRefIdeal.τ).loc Cert.XqXRefIdeal.main_arg0) = m ((c.tc : Thread Cert.XqXRefIdeal.nD Cert.XqXRefIdeal.τ).loc Cert.XqXRefIdeal.main_arg0)
      ∧ r.2.mem ((c.tc : Thread Cert.XqXRefIdeal.nD Cert.XqXRefIdeal.τ).loc Cert.XqXRefIdeal.main_arg1) = m ((c.tc : Thread Cert.XqXRefIdeal.nD Cert.XqXRefIdeal.τ).loc Cert.XqXRefIdeal.main_arg1)
      ∧ r.2.mem ((c.tc : Thread Cert.XqXRefIdeal.nD Cert.XqXRefIdeal.τ).loc Cert.XqXRefIdeal.main_arg2) = m ((c.tc : Thread Cert.XqXRefIdeal.nD Cert.XqXRefIdeal.τ).loc Cert.XqXRefIdeal.main_arg2))
      ∧ r.2.sem = fun _ => 0)

def quiescent_XqW [hXqW : Cert.XqW.Facts] : Prop :=
  ∀ (m : (ℓ : Loc Cert.XqW.nD Cert.XqW.τ Cert.XqW.sig) → Buf (Elt Bits) ℓ) (g : Dev Cert.XqW.nD → PrngReg), Pre_XqW m →
    θ_run (Cert.XqW.defs (F := Bits)) (onTc (τ := Cert.XqW.τ) (Cert.XqW.main (F := Bits))) ⟨m, fun _ => 0, g⟩ (fun r => (∀ c : Dev Cert.XqW.nD,
      r.2.mem ((c.tc : Thread Cert.XqW.nD Cert.XqW.τ).loc Cert.XqW.main_arg0) = m ((c.tc : Thread Cert.XqW.nD Cert.XqW.τ).loc Cert.XqW.main_arg0)
      ∧ r.2.mem ((c.tc : Thread Cert.XqW.nD Cert.XqW.τ).loc Cert.XqW.main_arg1) = m ((c.tc : Thread Cert.XqW.nD Cert.XqW.τ).loc Cert.XqW.main_arg1)
      ∧ r.2.mem ((c.tc : Thread Cert.XqW.nD Cert.XqW.τ).loc Cert.XqW.main_arg2) = m ((c.tc : Thread Cert.XqW.nD Cert.XqW.τ).loc Cert.XqW.main_arg2))
      ∧ r.2.sem = fun _ => 0)

def quiescent_XqWIdeal [hXqWIdeal : Cert.XqWIdeal.Facts] : Prop :=
  ∀ (m : (ℓ : Loc Cert.XqWIdeal.nD Cert.XqWIdeal.τ Cert.XqWIdeal.sig) → Buf (Elt Ideal) ℓ) (g : Dev Cert.XqWIdeal.nD → PrngReg), Pre_XqWIdeal m →
    θ_run (Cert.XqWIdeal.defs (F := Ideal)) (onTc (τ := Cert.XqWIdeal.τ) (Cert.XqWIdeal.main (F := Ideal))) ⟨m, fun _ => 0, g⟩ (fun r => (∀ c : Dev Cert.XqWIdeal.nD,
      r.2.mem ((c.tc : Thread Cert.XqWIdeal.nD Cert.XqWIdeal.τ).loc Cert.XqWIdeal.main_arg0) = m ((c.tc : Thread Cert.XqWIdeal.nD Cert.XqWIdeal.τ).loc Cert.XqWIdeal.main_arg0)
      ∧ r.2.mem ((c.tc : Thread Cert.XqWIdeal.nD Cert.XqWIdeal.τ).loc Cert.XqWIdeal.main_arg1) = m ((c.tc : Thread Cert.XqWIdeal.nD Cert.XqWIdeal.τ).loc Cert.XqWIdeal.main_arg1)
      ∧ r.2.mem ((c.tc : Thread Cert.XqWIdeal.nD Cert.XqWIdeal.τ).loc Cert.XqWIdeal.main_arg2) = m ((c.tc : Thread Cert.XqWIdeal.nD Cert.XqWIdeal.τ).loc Cert.XqWIdeal.main_arg2))
      ∧ r.2.sem = fun _ => 0)

def quiescent_XqWRefIdeal [hXqWRefIdeal : Cert.XqWRefIdeal.Facts] : Prop :=
  ∀ (m : (ℓ : Loc Cert.XqWRefIdeal.nD Cert.XqWRefIdeal.τ Cert.XqWRefIdeal.sig) → Buf (Elt Ideal) ℓ) (g : Dev Cert.XqWRefIdeal.nD → PrngReg), Pre_XqWRefIdeal m →
    θ_run (Cert.XqWRefIdeal.defs (F := Ideal)) (onTc (τ := Cert.XqWRefIdeal.τ) (Cert.XqWRefIdeal.main (F := Ideal))) ⟨m, fun _ => 0, g⟩ (fun r => (∀ c : Dev Cert.XqWRefIdeal.nD,
      r.2.mem ((c.tc : Thread Cert.XqWRefIdeal.nD Cert.XqWRefIdeal.τ).loc Cert.XqWRefIdeal.main_arg0) = m ((c.tc : Thread Cert.XqWRefIdeal.nD Cert.XqWRefIdeal.τ).loc Cert.XqWRefIdeal.main_arg0)
      ∧ r.2.mem ((c.tc : Thread Cert.XqWRefIdeal.nD Cert.XqWRefIdeal.τ).loc Cert.XqWRefIdeal.main_arg1) = m ((c.tc : Thread Cert.XqWRefIdeal.nD Cert.XqWRefIdeal.τ).loc Cert.XqWRefIdeal.main_arg1)
      ∧ r.2.mem ((c.tc : Thread Cert.XqWRefIdeal.nD Cert.XqWRefIdeal.τ).loc Cert.XqWRefIdeal.main_arg2) = m ((c.tc : Thread Cert.XqWRefIdeal.nD Cert.XqWRefIdeal.τ).loc Cert.XqWRefIdeal.main_arg2))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_XoX [hXoX : Cert.XoX.Facts] : Prop :=
  ∀ (m : (ℓ : Loc Cert.XoX.nD Cert.XoX.τ Cert.XoX.sig) → Buf (Elt Bits) ℓ) (g : Dev Cert.XoX.nD → PrngReg), Pre_XoX m →
    θ_run (Cert.XoX.defs (F := Bits)) (onTc (τ := Cert.XoX.τ) (Cert.XoX.main (F := Bits))) ⟨m, fun _ => 0, g⟩ (fun r => (∀ c : Dev Cert.XoX.nD,
      r.2.mem ((c.tc : Thread Cert.XoX.nD Cert.XoX.τ).loc Cert.XoX.main_arg0) = m ((c.tc : Thread Cert.XoX.nD Cert.XoX.τ).loc Cert.XoX.main_arg0)
      ∧ r.2.mem ((c.tc : Thread Cert.XoX.nD Cert.XoX.τ).loc Cert.XoX.main_arg1) = m ((c.tc : Thread Cert.XoX.nD Cert.XoX.τ).loc Cert.XoX.main_arg1)
      ∧ r.2.mem ((c.tc : Thread Cert.XoX.nD Cert.XoX.τ).loc Cert.XoX.main_arg2) = m ((c.tc : Thread Cert.XoX.nD Cert.XoX.τ).loc Cert.XoX.main_arg2))
      ∧ r.2.sem = fun _ => 0)

def quiescent_XoXIdeal [hXoXIdeal : Cert.XoXIdeal.Facts] : Prop :=
  ∀ (m : (ℓ : Loc Cert.XoXIdeal.nD Cert.XoXIdeal.τ Cert.XoXIdeal.sig) → Buf (Elt Ideal) ℓ) (g : Dev Cert.XoXIdeal.nD → PrngReg), Pre_XoXIdeal m →
    θ_run (Cert.XoXIdeal.defs (F := Ideal)) (onTc (τ := Cert.XoXIdeal.τ) (Cert.XoXIdeal.main (F := Ideal))) ⟨m, fun _ => 0, g⟩ (fun r => (∀ c : Dev Cert.XoXIdeal.nD,
      r.2.mem ((c.tc : Thread Cert.XoXIdeal.nD Cert.XoXIdeal.τ).loc Cert.XoXIdeal.main_arg0) = m ((c.tc : Thread Cert.XoXIdeal.nD Cert.XoXIdeal.τ).loc Cert.XoXIdeal.main_arg0)
      ∧ r.2.mem ((c.tc : Thread Cert.XoXIdeal.nD Cert.XoXIdeal.τ).loc Cert.XoXIdeal.main_arg1) = m ((c.tc : Thread Cert.XoXIdeal.nD Cert.XoXIdeal.τ).loc Cert.XoXIdeal.main_arg1)
      ∧ r.2.mem ((c.tc : Thread Cert.XoXIdeal.nD Cert.XoXIdeal.τ).loc Cert.XoXIdeal.main_arg2) = m ((c.tc : Thread Cert.XoXIdeal.nD Cert.XoXIdeal.τ).loc Cert.XoXIdeal.main_arg2))
      ∧ r.2.sem = fun _ => 0)

def quiescent_XoXRefIdeal [hXoXRefIdeal : Cert.XoXRefIdeal.Facts] : Prop :=
  ∀ (m : (ℓ : Loc Cert.XoXRefIdeal.nD Cert.XoXRefIdeal.τ Cert.XoXRefIdeal.sig) → Buf (Elt Ideal) ℓ) (g : Dev Cert.XoXRefIdeal.nD → PrngReg), Pre_XoXRefIdeal m →
    θ_run (Cert.XoXRefIdeal.defs (F := Ideal)) (onTc (τ := Cert.XoXRefIdeal.τ) (Cert.XoXRefIdeal.main (F := Ideal))) ⟨m, fun _ => 0, g⟩ (fun r => (∀ c : Dev Cert.XoXRefIdeal.nD,
      r.2.mem ((c.tc : Thread Cert.XoXRefIdeal.nD Cert.XoXRefIdeal.τ).loc Cert.XoXRefIdeal.main_arg0) = m ((c.tc : Thread Cert.XoXRefIdeal.nD Cert.XoXRefIdeal.τ).loc Cert.XoXRefIdeal.main_arg0)
      ∧ r.2.mem ((c.tc : Thread Cert.XoXRefIdeal.nD Cert.XoXRefIdeal.τ).loc Cert.XoXRefIdeal.main_arg1) = m ((c.tc : Thread Cert.XoXRefIdeal.nD Cert.XoXRefIdeal.τ).loc Cert.XoXRefIdeal.main_arg1)
      ∧ r.2.mem ((c.tc : Thread Cert.XoXRefIdeal.nD Cert.XoXRefIdeal.τ).loc Cert.XoXRefIdeal.main_arg2) = m ((c.tc : Thread Cert.XoXRefIdeal.nD Cert.XoXRefIdeal.τ).loc Cert.XoXRefIdeal.main_arg2))
      ∧ r.2.sem = fun _ => 0)

def quiescent_XoW [hXoW : Cert.XoW.Facts] : Prop :=
  ∀ (m : (ℓ : Loc Cert.XoW.nD Cert.XoW.τ Cert.XoW.sig) → Buf (Elt Bits) ℓ) (g : Dev Cert.XoW.nD → PrngReg), Pre_XoW m →
    θ_run (Cert.XoW.defs (F := Bits)) (onTc (τ := Cert.XoW.τ) (Cert.XoW.main (F := Bits))) ⟨m, fun _ => 0, g⟩ (fun r => (∀ c : Dev Cert.XoW.nD,
      r.2.mem ((c.tc : Thread Cert.XoW.nD Cert.XoW.τ).loc Cert.XoW.main_arg0) = m ((c.tc : Thread Cert.XoW.nD Cert.XoW.τ).loc Cert.XoW.main_arg0)
      ∧ r.2.mem ((c.tc : Thread Cert.XoW.nD Cert.XoW.τ).loc Cert.XoW.main_arg1) = m ((c.tc : Thread Cert.XoW.nD Cert.XoW.τ).loc Cert.XoW.main_arg1)
      ∧ r.2.mem ((c.tc : Thread Cert.XoW.nD Cert.XoW.τ).loc Cert.XoW.main_arg2) = m ((c.tc : Thread Cert.XoW.nD Cert.XoW.τ).loc Cert.XoW.main_arg2))
      ∧ r.2.sem = fun _ => 0)

def quiescent_XoWIdeal [hXoWIdeal : Cert.XoWIdeal.Facts] : Prop :=
  ∀ (m : (ℓ : Loc Cert.XoWIdeal.nD Cert.XoWIdeal.τ Cert.XoWIdeal.sig) → Buf (Elt Ideal) ℓ) (g : Dev Cert.XoWIdeal.nD → PrngReg), Pre_XoWIdeal m →
    θ_run (Cert.XoWIdeal.defs (F := Ideal)) (onTc (τ := Cert.XoWIdeal.τ) (Cert.XoWIdeal.main (F := Ideal))) ⟨m, fun _ => 0, g⟩ (fun r => (∀ c : Dev Cert.XoWIdeal.nD,
      r.2.mem ((c.tc : Thread Cert.XoWIdeal.nD Cert.XoWIdeal.τ).loc Cert.XoWIdeal.main_arg0) = m ((c.tc : Thread Cert.XoWIdeal.nD Cert.XoWIdeal.τ).loc Cert.XoWIdeal.main_arg0)
      ∧ r.2.mem ((c.tc : Thread Cert.XoWIdeal.nD Cert.XoWIdeal.τ).loc Cert.XoWIdeal.main_arg1) = m ((c.tc : Thread Cert.XoWIdeal.nD Cert.XoWIdeal.τ).loc Cert.XoWIdeal.main_arg1)
      ∧ r.2.mem ((c.tc : Thread Cert.XoWIdeal.nD Cert.XoWIdeal.τ).loc Cert.XoWIdeal.main_arg2) = m ((c.tc : Thread Cert.XoWIdeal.nD Cert.XoWIdeal.τ).loc Cert.XoWIdeal.main_arg2))
      ∧ r.2.sem = fun _ => 0)

def quiescent_XoWRefIdeal [hXoWRefIdeal : Cert.XoWRefIdeal.Facts] : Prop :=
  ∀ (m : (ℓ : Loc Cert.XoWRefIdeal.nD Cert.XoWRefIdeal.τ Cert.XoWRefIdeal.sig) → Buf (Elt Ideal) ℓ) (g : Dev Cert.XoWRefIdeal.nD → PrngReg), Pre_XoWRefIdeal m →
    θ_run (Cert.XoWRefIdeal.defs (F := Ideal)) (onTc (τ := Cert.XoWRefIdeal.τ) (Cert.XoWRefIdeal.main (F := Ideal))) ⟨m, fun _ => 0, g⟩ (fun r => (∀ c : Dev Cert.XoWRefIdeal.nD,
      r.2.mem ((c.tc : Thread Cert.XoWRefIdeal.nD Cert.XoWRefIdeal.τ).loc Cert.XoWRefIdeal.main_arg0) = m ((c.tc : Thread Cert.XoWRefIdeal.nD Cert.XoWRefIdeal.τ).loc Cert.XoWRefIdeal.main_arg0)
      ∧ r.2.mem ((c.tc : Thread Cert.XoWRefIdeal.nD Cert.XoWRefIdeal.τ).loc Cert.XoWRefIdeal.main_arg1) = m ((c.tc : Thread Cert.XoWRefIdeal.nD Cert.XoWRefIdeal.τ).loc Cert.XoWRefIdeal.main_arg1)
      ∧ r.2.mem ((c.tc : Thread Cert.XoWRefIdeal.nD Cert.XoWRefIdeal.τ).loc Cert.XoWRefIdeal.main_arg2) = m ((c.tc : Thread Cert.XoWRefIdeal.nD Cert.XoWRefIdeal.τ).loc Cert.XoWRefIdeal.main_arg2))
      ∧ r.2.sem = fun _ => 0)

def quiescent_QkvX [hQkvX : Cert.QkvX.Facts] : Prop :=
  ∀ (m : (ℓ : Loc Cert.QkvX.nD Cert.QkvX.τ Cert.QkvX.sig) → Buf (Elt Bits) ℓ) (g : Dev Cert.QkvX.nD → PrngReg), Pre_QkvX m →
    θ_run (Cert.QkvX.defs (F := Bits)) (onTc (τ := Cert.QkvX.τ) (Cert.QkvX.main (F := Bits))) ⟨m, fun _ => 0, g⟩ (fun r => (∀ c : Dev Cert.QkvX.nD,
      r.2.mem ((c.tc : Thread Cert.QkvX.nD Cert.QkvX.τ).loc Cert.QkvX.main_arg0) = m ((c.tc : Thread Cert.QkvX.nD Cert.QkvX.τ).loc Cert.QkvX.main_arg0)
      ∧ r.2.mem ((c.tc : Thread Cert.QkvX.nD Cert.QkvX.τ).loc Cert.QkvX.main_arg1) = m ((c.tc : Thread Cert.QkvX.nD Cert.QkvX.τ).loc Cert.QkvX.main_arg1)
      ∧ r.2.mem ((c.tc : Thread Cert.QkvX.nD Cert.QkvX.τ).loc Cert.QkvX.main_arg2) = m ((c.tc : Thread Cert.QkvX.nD Cert.QkvX.τ).loc Cert.QkvX.main_arg2)
      ∧ r.2.mem ((c.tc : Thread Cert.QkvX.nD Cert.QkvX.τ).loc Cert.QkvX.main_arg3) = m ((c.tc : Thread Cert.QkvX.nD Cert.QkvX.τ).loc Cert.QkvX.main_arg3)
      ∧ r.2.mem ((c.tc : Thread Cert.QkvX.nD Cert.QkvX.τ).loc Cert.QkvX.main_arg4) = m ((c.tc : Thread Cert.QkvX.nD Cert.QkvX.τ).loc Cert.QkvX.main_arg4))
      ∧ r.2.sem = fun _ => 0)

def quiescent_QkvXIdeal [hQkvXIdeal : Cert.QkvXIdeal.Facts] : Prop :=
  ∀ (m : (ℓ : Loc Cert.QkvXIdeal.nD Cert.QkvXIdeal.τ Cert.QkvXIdeal.sig) → Buf (Elt Ideal) ℓ) (g : Dev Cert.QkvXIdeal.nD → PrngReg), Pre_QkvXIdeal m →
    θ_run (Cert.QkvXIdeal.defs (F := Ideal)) (onTc (τ := Cert.QkvXIdeal.τ) (Cert.QkvXIdeal.main (F := Ideal))) ⟨m, fun _ => 0, g⟩ (fun r => (∀ c : Dev Cert.QkvXIdeal.nD,
      r.2.mem ((c.tc : Thread Cert.QkvXIdeal.nD Cert.QkvXIdeal.τ).loc Cert.QkvXIdeal.main_arg0) = m ((c.tc : Thread Cert.QkvXIdeal.nD Cert.QkvXIdeal.τ).loc Cert.QkvXIdeal.main_arg0)
      ∧ r.2.mem ((c.tc : Thread Cert.QkvXIdeal.nD Cert.QkvXIdeal.τ).loc Cert.QkvXIdeal.main_arg1) = m ((c.tc : Thread Cert.QkvXIdeal.nD Cert.QkvXIdeal.τ).loc Cert.QkvXIdeal.main_arg1)
      ∧ r.2.mem ((c.tc : Thread Cert.QkvXIdeal.nD Cert.QkvXIdeal.τ).loc Cert.QkvXIdeal.main_arg2) = m ((c.tc : Thread Cert.QkvXIdeal.nD Cert.QkvXIdeal.τ).loc Cert.QkvXIdeal.main_arg2)
      ∧ r.2.mem ((c.tc : Thread Cert.QkvXIdeal.nD Cert.QkvXIdeal.τ).loc Cert.QkvXIdeal.main_arg3) = m ((c.tc : Thread Cert.QkvXIdeal.nD Cert.QkvXIdeal.τ).loc Cert.QkvXIdeal.main_arg3)
      ∧ r.2.mem ((c.tc : Thread Cert.QkvXIdeal.nD Cert.QkvXIdeal.τ).loc Cert.QkvXIdeal.main_arg4) = m ((c.tc : Thread Cert.QkvXIdeal.nD Cert.QkvXIdeal.τ).loc Cert.QkvXIdeal.main_arg4))
      ∧ r.2.sem = fun _ => 0)

def quiescent_QkvXRefIdeal [hQkvXRefIdeal : Cert.QkvXRefIdeal.Facts] : Prop :=
  ∀ (m : (ℓ : Loc Cert.QkvXRefIdeal.nD Cert.QkvXRefIdeal.τ Cert.QkvXRefIdeal.sig) → Buf (Elt Ideal) ℓ) (g : Dev Cert.QkvXRefIdeal.nD → PrngReg), Pre_QkvXRefIdeal m →
    θ_run (Cert.QkvXRefIdeal.defs (F := Ideal)) (onTc (τ := Cert.QkvXRefIdeal.τ) (Cert.QkvXRefIdeal.main (F := Ideal))) ⟨m, fun _ => 0, g⟩ (fun r => (∀ c : Dev Cert.QkvXRefIdeal.nD,
      r.2.mem ((c.tc : Thread Cert.QkvXRefIdeal.nD Cert.QkvXRefIdeal.τ).loc Cert.QkvXRefIdeal.main_arg0) = m ((c.tc : Thread Cert.QkvXRefIdeal.nD Cert.QkvXRefIdeal.τ).loc Cert.QkvXRefIdeal.main_arg0)
      ∧ r.2.mem ((c.tc : Thread Cert.QkvXRefIdeal.nD Cert.QkvXRefIdeal.τ).loc Cert.QkvXRefIdeal.main_arg1) = m ((c.tc : Thread Cert.QkvXRefIdeal.nD Cert.QkvXRefIdeal.τ).loc Cert.QkvXRefIdeal.main_arg1)
      ∧ r.2.mem ((c.tc : Thread Cert.QkvXRefIdeal.nD Cert.QkvXRefIdeal.τ).loc Cert.QkvXRefIdeal.main_arg2) = m ((c.tc : Thread Cert.QkvXRefIdeal.nD Cert.QkvXRefIdeal.τ).loc Cert.QkvXRefIdeal.main_arg2)
      ∧ r.2.mem ((c.tc : Thread Cert.QkvXRefIdeal.nD Cert.QkvXRefIdeal.τ).loc Cert.QkvXRefIdeal.main_arg3) = m ((c.tc : Thread Cert.QkvXRefIdeal.nD Cert.QkvXRefIdeal.τ).loc Cert.QkvXRefIdeal.main_arg3)
      ∧ r.2.mem ((c.tc : Thread Cert.QkvXRefIdeal.nD Cert.QkvXRefIdeal.τ).loc Cert.QkvXRefIdeal.main_arg4) = m ((c.tc : Thread Cert.QkvXRefIdeal.nD Cert.QkvXRefIdeal.τ).loc Cert.QkvXRefIdeal.main_arg4))
      ∧ r.2.sem = fun _ => 0)

def quiescent_QkvW [hQkvW : Cert.QkvW.Facts] : Prop :=
  ∀ (m : (ℓ : Loc Cert.QkvW.nD Cert.QkvW.τ Cert.QkvW.sig) → Buf (Elt Bits) ℓ) (g : Dev Cert.QkvW.nD → PrngReg), Pre_QkvW m →
    θ_run (Cert.QkvW.defs (F := Bits)) (onTc (τ := Cert.QkvW.τ) (Cert.QkvW.main (F := Bits))) ⟨m, fun _ => 0, g⟩ (fun r => (∀ c : Dev Cert.QkvW.nD,
      r.2.mem ((c.tc : Thread Cert.QkvW.nD Cert.QkvW.τ).loc Cert.QkvW.main_arg0) = m ((c.tc : Thread Cert.QkvW.nD Cert.QkvW.τ).loc Cert.QkvW.main_arg0)
      ∧ r.2.mem ((c.tc : Thread Cert.QkvW.nD Cert.QkvW.τ).loc Cert.QkvW.main_arg1) = m ((c.tc : Thread Cert.QkvW.nD Cert.QkvW.τ).loc Cert.QkvW.main_arg1)
      ∧ r.2.mem ((c.tc : Thread Cert.QkvW.nD Cert.QkvW.τ).loc Cert.QkvW.main_arg2) = m ((c.tc : Thread Cert.QkvW.nD Cert.QkvW.τ).loc Cert.QkvW.main_arg2))
      ∧ r.2.sem = fun _ => 0)

def quiescent_QkvWIdeal [hQkvWIdeal : Cert.QkvWIdeal.Facts] : Prop :=
  ∀ (m : (ℓ : Loc Cert.QkvWIdeal.nD Cert.QkvWIdeal.τ Cert.QkvWIdeal.sig) → Buf (Elt Ideal) ℓ) (g : Dev Cert.QkvWIdeal.nD → PrngReg), Pre_QkvWIdeal m →
    θ_run (Cert.QkvWIdeal.defs (F := Ideal)) (onTc (τ := Cert.QkvWIdeal.τ) (Cert.QkvWIdeal.main (F := Ideal))) ⟨m, fun _ => 0, g⟩ (fun r => (∀ c : Dev Cert.QkvWIdeal.nD,
      r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
      ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1)
      ∧ r.2.mem ((c.tc : Thread Cert.QkvWIdeal.nD Cert.QkvWIdeal.τ).loc Cert.QkvWIdeal.main_arg2) = m ((c.tc : Thread Cert.QkvWIdeal.nD Cert.QkvWIdeal.τ).loc Cert.QkvWIdeal.main_arg2))
      ∧ r.2.sem = fun _ => 0)

def quiescent_QkvWRefIdeal [hQkvWRefIdeal : Cert.QkvWRefIdeal.Facts] : Prop :=
  ∀ (m : (ℓ : Loc Cert.QkvWRefIdeal.nD Cert.QkvWRefIdeal.τ Cert.QkvWRefIdeal.sig) → Buf (Elt Ideal) ℓ) (g : Dev Cert.QkvWRefIdeal.nD → PrngReg), Pre_QkvWRefIdeal m →
    θ_run (Cert.QkvWRefIdeal.defs (F := Ideal)) (onTc (τ := Cert.QkvWRefIdeal.τ) (Cert.QkvWRefIdeal.main (F := Ideal))) ⟨m, fun _ => 0, g⟩ (fun r => (∀ c : Dev Cert.QkvWRefIdeal.nD,
      r.2.mem ((c.tc : Thread Cert.QkvWRefIdeal.nD Cert.QkvWRefIdeal.τ).loc Cert.QkvWRefIdeal.main_arg0) = m ((c.tc : Thread Cert.QkvWRefIdeal.nD Cert.QkvWRefIdeal.τ).loc Cert.QkvWRefIdeal.main_arg0)
      ∧ r.2.mem ((c.tc : Thread Cert.QkvWRefIdeal.nD Cert.QkvWRefIdeal.τ).loc Cert.QkvWRefIdeal.main_arg1) = m ((c.tc : Thread Cert.QkvWRefIdeal.nD Cert.QkvWRefIdeal.τ).loc Cert.QkvWRefIdeal.main_arg1)
      ∧ r.2.mem ((c.tc : Thread Cert.QkvWRefIdeal.nD Cert.QkvWRefIdeal.τ).loc Cert.QkvWRefIdeal.main_arg2) = m ((c.tc : Thread Cert.QkvWRefIdeal.nD Cert.QkvWRefIdeal.τ).loc Cert.QkvWRefIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5)
      ∧ r.2.mem ((c.tc : Thread Cert.InX.nD Cert.InX.τ).loc Cert.InX.main_arg6) = m ((c.tc : Thread Cert.InX.nD Cert.InX.τ).loc Cert.InX.main_arg6))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6))
      ∧ r.2.sem = fun _ => 0)

def quiescent_InQW [hInQW : Cert.InQW.Facts] : Prop :=
  ∀ (m : (ℓ : Loc Cert.InQW.nD Cert.InQW.τ Cert.InQW.sig) → Buf (Elt Bits) ℓ) (g : Dev Cert.InQW.nD → PrngReg), Pre_InQW m →
    θ_run (Cert.InQW.defs (F := Bits)) (onTc (τ := Cert.InQW.τ) (Cert.InQW.main (F := Bits))) ⟨m, fun _ => 0, g⟩ (fun r => (∀ c : Dev Cert.InQW.nD,
      r.2.mem ((c.tc : Thread Cert.InQW.nD Cert.InQW.τ).loc Cert.InQW.main_arg0) = m ((c.tc : Thread Cert.InQW.nD Cert.InQW.τ).loc Cert.InQW.main_arg0)
      ∧ r.2.mem ((c.tc : Thread Cert.InQW.nD Cert.InQW.τ).loc Cert.InQW.main_arg1) = m ((c.tc : Thread Cert.InQW.nD Cert.InQW.τ).loc Cert.InQW.main_arg1)
      ∧ r.2.mem ((c.tc : Thread Cert.InQW.nD Cert.InQW.τ).loc Cert.InQW.main_arg2) = m ((c.tc : Thread Cert.InQW.nD Cert.InQW.τ).loc Cert.InQW.main_arg2))
      ∧ r.2.sem = fun _ => 0)

def quiescent_InQWIdeal [hInQWIdeal : Cert.InQWIdeal.Facts] : Prop :=
  ∀ (m : (ℓ : Loc Cert.InQWIdeal.nD Cert.InQWIdeal.τ Cert.InQWIdeal.sig) → Buf (Elt Ideal) ℓ) (g : Dev Cert.InQWIdeal.nD → PrngReg), Pre_InQWIdeal m →
    θ_run (Cert.InQWIdeal.defs (F := Ideal)) (onTc (τ := Cert.InQWIdeal.τ) (Cert.InQWIdeal.main (F := Ideal))) ⟨m, fun _ => 0, g⟩ (fun r => (∀ c : Dev Cert.InQWIdeal.nD,
      r.2.mem ((c.tc : Thread Cert.InQWIdeal.nD Cert.InQWIdeal.τ).loc Cert.InQWIdeal.main_arg0) = m ((c.tc : Thread Cert.InQWIdeal.nD Cert.InQWIdeal.τ).loc Cert.InQWIdeal.main_arg0)
      ∧ r.2.mem ((c.tc : Thread Cert.InQWIdeal.nD Cert.InQWIdeal.τ).loc Cert.InQWIdeal.main_arg1) = m ((c.tc : Thread Cert.InQWIdeal.nD Cert.InQWIdeal.τ).loc Cert.InQWIdeal.main_arg1)
      ∧ r.2.mem ((c.tc : Thread Cert.InQWIdeal.nD Cert.InQWIdeal.τ).loc Cert.InQWIdeal.main_arg2) = m ((c.tc : Thread Cert.InQWIdeal.nD Cert.InQWIdeal.τ).loc Cert.InQWIdeal.main_arg2))
      ∧ r.2.sem = fun _ => 0)

def quiescent_InQWRefIdeal [hInQWRefIdeal : Cert.InQWRefIdeal.Facts] : Prop :=
  ∀ (m : (ℓ : Loc Cert.InQWRefIdeal.nD Cert.InQWRefIdeal.τ Cert.InQWRefIdeal.sig) → Buf (Elt Ideal) ℓ) (g : Dev Cert.InQWRefIdeal.nD → PrngReg), Pre_InQWRefIdeal m →
    θ_run (Cert.InQWRefIdeal.defs (F := Ideal)) (onTc (τ := Cert.InQWRefIdeal.τ) (Cert.InQWRefIdeal.main (F := Ideal))) ⟨m, fun _ => 0, g⟩ (fun r => (∀ c : Dev Cert.InQWRefIdeal.nD,
      r.2.mem ((c.tc : Thread Cert.InQWRefIdeal.nD Cert.InQWRefIdeal.τ).loc Cert.InQWRefIdeal.main_arg0) = m ((c.tc : Thread Cert.InQWRefIdeal.nD Cert.InQWRefIdeal.τ).loc Cert.InQWRefIdeal.main_arg0)
      ∧ r.2.mem ((c.tc : Thread Cert.InQWRefIdeal.nD Cert.InQWRefIdeal.τ).loc Cert.InQWRefIdeal.main_arg1) = m ((c.tc : Thread Cert.InQWRefIdeal.nD Cert.InQWRefIdeal.τ).loc Cert.InQWRefIdeal.main_arg1)
      ∧ r.2.mem ((c.tc : Thread Cert.InQWRefIdeal.nD Cert.InQWRefIdeal.τ).loc Cert.InQWRefIdeal.main_arg2) = m ((c.tc : Thread Cert.InQWRefIdeal.nD Cert.InQWRefIdeal.τ).loc Cert.InQWRefIdeal.main_arg2))
      ∧ r.2.sem = fun _ => 0)

def quiescent_InKvW [hInKvW : Cert.InKvW.Facts] : Prop :=
  ∀ (m : (ℓ : Loc Cert.InKvW.nD Cert.InKvW.τ Cert.InKvW.sig) → Buf (Elt Bits) ℓ) (g : Dev Cert.InKvW.nD → PrngReg), Pre_InKvW m →
    θ_run (Cert.InKvW.defs (F := Bits)) (onTc (τ := Cert.InKvW.τ) (Cert.InKvW.main (F := Bits))) ⟨m, fun _ => 0, g⟩ (fun r => (∀ c : Dev Cert.InKvW.nD,
      r.2.mem ((c.tc : Thread Cert.InKvW.nD Cert.InKvW.τ).loc Cert.InKvW.main_arg0) = m ((c.tc : Thread Cert.InKvW.nD Cert.InKvW.τ).loc Cert.InKvW.main_arg0)
      ∧ r.2.mem ((c.tc : Thread Cert.InKvW.nD Cert.InKvW.τ).loc Cert.InKvW.main_arg1) = m ((c.tc : Thread Cert.InKvW.nD Cert.InKvW.τ).loc Cert.InKvW.main_arg1)
      ∧ r.2.mem ((c.tc : Thread Cert.InKvW.nD Cert.InKvW.τ).loc Cert.InKvW.main_arg2) = m ((c.tc : Thread Cert.InKvW.nD Cert.InKvW.τ).loc Cert.InKvW.main_arg2))
      ∧ r.2.sem = fun _ => 0)

def quiescent_InKvWIdeal [hInKvWIdeal : Cert.InKvWIdeal.Facts] : Prop :=
  ∀ (m : (ℓ : Loc Cert.InKvWIdeal.nD Cert.InKvWIdeal.τ Cert.InKvWIdeal.sig) → Buf (Elt Ideal) ℓ) (g : Dev Cert.InKvWIdeal.nD → PrngReg), Pre_InKvWIdeal m →
    θ_run (Cert.InKvWIdeal.defs (F := Ideal)) (onTc (τ := Cert.InKvWIdeal.τ) (Cert.InKvWIdeal.main (F := Ideal))) ⟨m, fun _ => 0, g⟩ (fun r => (∀ c : Dev Cert.InKvWIdeal.nD,
      r.2.mem ((c.tc : Thread Cert.InKvWIdeal.nD Cert.InKvWIdeal.τ).loc Cert.InKvWIdeal.main_arg0) = m ((c.tc : Thread Cert.InKvWIdeal.nD Cert.InKvWIdeal.τ).loc Cert.InKvWIdeal.main_arg0)
      ∧ r.2.mem ((c.tc : Thread Cert.InKvWIdeal.nD Cert.InKvWIdeal.τ).loc Cert.InKvWIdeal.main_arg1) = m ((c.tc : Thread Cert.InKvWIdeal.nD Cert.InKvWIdeal.τ).loc Cert.InKvWIdeal.main_arg1)
      ∧ r.2.mem ((c.tc : Thread Cert.InKvWIdeal.nD Cert.InKvWIdeal.τ).loc Cert.InKvWIdeal.main_arg2) = m ((c.tc : Thread Cert.InKvWIdeal.nD Cert.InKvWIdeal.τ).loc Cert.InKvWIdeal.main_arg2))
      ∧ r.2.sem = fun _ => 0)

def quiescent_InKvWRefIdeal [hInKvWRefIdeal : Cert.InKvWRefIdeal.Facts] : Prop :=
  ∀ (m : (ℓ : Loc Cert.InKvWRefIdeal.nD Cert.InKvWRefIdeal.τ Cert.InKvWRefIdeal.sig) → Buf (Elt Ideal) ℓ) (g : Dev Cert.InKvWRefIdeal.nD → PrngReg), Pre_InKvWRefIdeal m →
    θ_run (Cert.InKvWRefIdeal.defs (F := Ideal)) (onTc (τ := Cert.InKvWRefIdeal.τ) (Cert.InKvWRefIdeal.main (F := Ideal))) ⟨m, fun _ => 0, g⟩ (fun r => (∀ c : Dev Cert.InKvWRefIdeal.nD,
      r.2.mem ((c.tc : Thread Cert.InKvWRefIdeal.nD Cert.InKvWRefIdeal.τ).loc Cert.InKvWRefIdeal.main_arg0) = m ((c.tc : Thread Cert.InKvWRefIdeal.nD Cert.InKvWRefIdeal.τ).loc Cert.InKvWRefIdeal.main_arg0)
      ∧ r.2.mem ((c.tc : Thread Cert.InKvWRefIdeal.nD Cert.InKvWRefIdeal.τ).loc Cert.InKvWRefIdeal.main_arg1) = m ((c.tc : Thread Cert.InKvWRefIdeal.nD Cert.InKvWRefIdeal.τ).loc Cert.InKvWRefIdeal.main_arg1)
      ∧ r.2.mem ((c.tc : Thread Cert.InKvWRefIdeal.nD Cert.InKvWRefIdeal.τ).loc Cert.InKvWRefIdeal.main_arg2) = m ((c.tc : Thread Cert.InKvWRefIdeal.nD Cert.InKvWRefIdeal.τ).loc Cert.InKvWRefIdeal.main_arg2))
      ∧ r.2.sem = fun _ => 0)

def quiescent_InCqW [hInCqW : Cert.InCqW.Facts] : Prop :=
  ∀ (m : (ℓ : Loc Cert.InCqW.nD Cert.InCqW.τ Cert.InCqW.sig) → Buf (Elt Bits) ℓ) (g : Dev Cert.InCqW.nD → PrngReg), Pre_InCqW m →
    θ_run (Cert.InCqW.defs (F := Bits)) (onTc (τ := Cert.InCqW.τ) (Cert.InCqW.main (F := Bits))) ⟨m, fun _ => 0, g⟩ (fun r => (∀ c : Dev Cert.InCqW.nD,
      r.2.mem ((c.tc : Thread Cert.InCqW.nD Cert.InCqW.τ).loc Cert.InCqW.main_arg0) = m ((c.tc : Thread Cert.InCqW.nD Cert.InCqW.τ).loc Cert.InCqW.main_arg0)
      ∧ r.2.mem ((c.tc : Thread Cert.InCqW.nD Cert.InCqW.τ).loc Cert.InCqW.main_arg1) = m ((c.tc : Thread Cert.InCqW.nD Cert.InCqW.τ).loc Cert.InCqW.main_arg1)
      ∧ r.2.mem ((c.tc : Thread Cert.InCqW.nD Cert.InCqW.τ).loc Cert.InCqW.main_arg2) = m ((c.tc : Thread Cert.InCqW.nD Cert.InCqW.τ).loc Cert.InCqW.main_arg2))
      ∧ r.2.sem = fun _ => 0)

def quiescent_InCqWIdeal [hInCqWIdeal : Cert.InCqWIdeal.Facts] : Prop :=
  ∀ (m : (ℓ : Loc Cert.InCqWIdeal.nD Cert.InCqWIdeal.τ Cert.InCqWIdeal.sig) → Buf (Elt Ideal) ℓ) (g : Dev Cert.InCqWIdeal.nD → PrngReg), Pre_InCqWIdeal m →
    θ_run (Cert.InCqWIdeal.defs (F := Ideal)) (onTc (τ := Cert.InCqWIdeal.τ) (Cert.InCqWIdeal.main (F := Ideal))) ⟨m, fun _ => 0, g⟩ (fun r => (∀ c : Dev Cert.InCqWIdeal.nD,
      r.2.mem ((c.tc : Thread Cert.InCqWIdeal.nD Cert.InCqWIdeal.τ).loc Cert.InCqWIdeal.main_arg0) = m ((c.tc : Thread Cert.InCqWIdeal.nD Cert.InCqWIdeal.τ).loc Cert.InCqWIdeal.main_arg0)
      ∧ r.2.mem ((c.tc : Thread Cert.InCqWIdeal.nD Cert.InCqWIdeal.τ).loc Cert.InCqWIdeal.main_arg1) = m ((c.tc : Thread Cert.InCqWIdeal.nD Cert.InCqWIdeal.τ).loc Cert.InCqWIdeal.main_arg1)
      ∧ r.2.mem ((c.tc : Thread Cert.InCqWIdeal.nD Cert.InCqWIdeal.τ).loc Cert.InCqWIdeal.main_arg2) = m ((c.tc : Thread Cert.InCqWIdeal.nD Cert.InCqWIdeal.τ).loc Cert.InCqWIdeal.main_arg2))
      ∧ r.2.sem = fun _ => 0)

def quiescent_InCqWRefIdeal [hInCqWRefIdeal : Cert.InCqWRefIdeal.Facts] : Prop :=
  ∀ (m : (ℓ : Loc Cert.InCqWRefIdeal.nD Cert.InCqWRefIdeal.τ Cert.InCqWRefIdeal.sig) → Buf (Elt Ideal) ℓ) (g : Dev Cert.InCqWRefIdeal.nD → PrngReg), Pre_InCqWRefIdeal m →
    θ_run (Cert.InCqWRefIdeal.defs (F := Ideal)) (onTc (τ := Cert.InCqWRefIdeal.τ) (Cert.InCqWRefIdeal.main (F := Ideal))) ⟨m, fun _ => 0, g⟩ (fun r => (∀ c : Dev Cert.InCqWRefIdeal.nD,
      r.2.mem ((c.tc : Thread Cert.InCqWRefIdeal.nD Cert.InCqWRefIdeal.τ).loc Cert.InCqWRefIdeal.main_arg0) = m ((c.tc : Thread Cert.InCqWRefIdeal.nD Cert.InCqWRefIdeal.τ).loc Cert.InCqWRefIdeal.main_arg0)
      ∧ r.2.mem ((c.tc : Thread Cert.InCqWRefIdeal.nD Cert.InCqWRefIdeal.τ).loc Cert.InCqWRefIdeal.main_arg1) = m ((c.tc : Thread Cert.InCqWRefIdeal.nD Cert.InCqWRefIdeal.τ).loc Cert.InCqWRefIdeal.main_arg1)
      ∧ r.2.mem ((c.tc : Thread Cert.InCqWRefIdeal.nD Cert.InCqWRefIdeal.τ).loc Cert.InCqWRefIdeal.main_arg2) = m ((c.tc : Thread Cert.InCqWRefIdeal.nD Cert.InCqWRefIdeal.τ).loc Cert.InCqWRefIdeal.main_arg2))
      ∧ r.2.sem = fun _ => 0)

def quiescent_InKrW [hInKrW : Cert.InKrW.Facts] : Prop :=
  ∀ (m : (ℓ : Loc Cert.InKrW.nD Cert.InKrW.τ Cert.InKrW.sig) → Buf (Elt Bits) ℓ) (g : Dev Cert.InKrW.nD → PrngReg), Pre_InKrW m →
    θ_run (Cert.InKrW.defs (F := Bits)) (onTc (τ := Cert.InKrW.τ) (Cert.InKrW.main (F := Bits))) ⟨m, fun _ => 0, g⟩ (fun r => (∀ c : Dev Cert.InKrW.nD,
      r.2.mem ((c.tc : Thread Cert.InKrW.nD Cert.InKrW.τ).loc Cert.InKrW.main_arg0) = m ((c.tc : Thread Cert.InKrW.nD Cert.InKrW.τ).loc Cert.InKrW.main_arg0)
      ∧ r.2.mem ((c.tc : Thread Cert.InKrW.nD Cert.InKrW.τ).loc Cert.InKrW.main_arg1) = m ((c.tc : Thread Cert.InKrW.nD Cert.InKrW.τ).loc Cert.InKrW.main_arg1)
      ∧ r.2.mem ((c.tc : Thread Cert.InKrW.nD Cert.InKrW.τ).loc Cert.InKrW.main_arg2) = m ((c.tc : Thread Cert.InKrW.nD Cert.InKrW.τ).loc Cert.InKrW.main_arg2))
      ∧ r.2.sem = fun _ => 0)

def quiescent_InKrWIdeal [hInKrWIdeal : Cert.InKrWIdeal.Facts] : Prop :=
  ∀ (m : (ℓ : Loc Cert.InKrWIdeal.nD Cert.InKrWIdeal.τ Cert.InKrWIdeal.sig) → Buf (Elt Ideal) ℓ) (g : Dev Cert.InKrWIdeal.nD → PrngReg), Pre_InKrWIdeal m →
    θ_run (Cert.InKrWIdeal.defs (F := Ideal)) (onTc (τ := Cert.InKrWIdeal.τ) (Cert.InKrWIdeal.main (F := Ideal))) ⟨m, fun _ => 0, g⟩ (fun r => (∀ c : Dev Cert.InKrWIdeal.nD,
      r.2.mem ((c.tc : Thread Cert.InKrWIdeal.nD Cert.InKrWIdeal.τ).loc Cert.InKrWIdeal.main_arg0) = m ((c.tc : Thread Cert.InKrWIdeal.nD Cert.InKrWIdeal.τ).loc Cert.InKrWIdeal.main_arg0)
      ∧ r.2.mem ((c.tc : Thread Cert.InKrWIdeal.nD Cert.InKrWIdeal.τ).loc Cert.InKrWIdeal.main_arg1) = m ((c.tc : Thread Cert.InKrWIdeal.nD Cert.InKrWIdeal.τ).loc Cert.InKrWIdeal.main_arg1)
      ∧ r.2.mem ((c.tc : Thread Cert.InKrWIdeal.nD Cert.InKrWIdeal.τ).loc Cert.InKrWIdeal.main_arg2) = m ((c.tc : Thread Cert.InKrWIdeal.nD Cert.InKrWIdeal.τ).loc Cert.InKrWIdeal.main_arg2))
      ∧ r.2.sem = fun _ => 0)

def quiescent_InKrWRefIdeal [hInKrWRefIdeal : Cert.InKrWRefIdeal.Facts] : Prop :=
  ∀ (m : (ℓ : Loc Cert.InKrWRefIdeal.nD Cert.InKrWRefIdeal.τ Cert.InKrWRefIdeal.sig) → Buf (Elt Ideal) ℓ) (g : Dev Cert.InKrWRefIdeal.nD → PrngReg), Pre_InKrWRefIdeal m →
    θ_run (Cert.InKrWRefIdeal.defs (F := Ideal)) (onTc (τ := Cert.InKrWRefIdeal.τ) (Cert.InKrWRefIdeal.main (F := Ideal))) ⟨m, fun _ => 0, g⟩ (fun r => (∀ c : Dev Cert.InKrWRefIdeal.nD,
      r.2.mem ((c.tc : Thread Cert.InKrWRefIdeal.nD Cert.InKrWRefIdeal.τ).loc Cert.InKrWRefIdeal.main_arg0) = m ((c.tc : Thread Cert.InKrWRefIdeal.nD Cert.InKrWRefIdeal.τ).loc Cert.InKrWRefIdeal.main_arg0)
      ∧ r.2.mem ((c.tc : Thread Cert.InKrWRefIdeal.nD Cert.InKrWRefIdeal.τ).loc Cert.InKrWRefIdeal.main_arg1) = m ((c.tc : Thread Cert.InKrWRefIdeal.nD Cert.InKrWRefIdeal.τ).loc Cert.InKrWRefIdeal.main_arg1)
      ∧ r.2.mem ((c.tc : Thread Cert.InKrWRefIdeal.nD Cert.InKrWRefIdeal.τ).loc Cert.InKrWRefIdeal.main_arg2) = m ((c.tc : Thread Cert.InKrWRefIdeal.nD Cert.InKrWRefIdeal.τ).loc Cert.InKrWRefIdeal.main_arg2))
      ∧ r.2.sem = fun _ => 0)

def quiescent_UqX [hUqX : Cert.UqX.Facts] : Prop :=
  ∀ (m : (ℓ : Loc Cert.UqX.nD Cert.UqX.τ Cert.UqX.sig) → Buf (Elt Bits) ℓ) (g : Dev Cert.UqX.nD → PrngReg), Pre_UqX m →
    θ_run (Cert.UqX.defs (F := Bits)) (onTc (τ := Cert.UqX.τ) (Cert.UqX.main (F := Bits))) ⟨m, fun _ => 0, g⟩ (fun r => (∀ c : Dev Cert.UqX.nD,
      r.2.mem ((c.tc : Thread Cert.UqX.nD Cert.UqX.τ).loc Cert.UqX.main_arg0) = m ((c.tc : Thread Cert.UqX.nD Cert.UqX.τ).loc Cert.UqX.main_arg0)
      ∧ r.2.mem ((c.tc : Thread Cert.UqX.nD Cert.UqX.τ).loc Cert.UqX.main_arg1) = m ((c.tc : Thread Cert.UqX.nD Cert.UqX.τ).loc Cert.UqX.main_arg1)
      ∧ r.2.mem ((c.tc : Thread Cert.UqX.nD Cert.UqX.τ).loc Cert.UqX.main_arg2) = m ((c.tc : Thread Cert.UqX.nD Cert.UqX.τ).loc Cert.UqX.main_arg2))
      ∧ r.2.sem = fun _ => 0)

def quiescent_UqXIdeal [hUqXIdeal : Cert.UqXIdeal.Facts] : Prop :=
  ∀ (m : (ℓ : Loc Cert.UqXIdeal.nD Cert.UqXIdeal.τ Cert.UqXIdeal.sig) → Buf (Elt Ideal) ℓ) (g : Dev Cert.UqXIdeal.nD → PrngReg), Pre_UqXIdeal m →
    θ_run (Cert.UqXIdeal.defs (F := Ideal)) (onTc (τ := Cert.UqXIdeal.τ) (Cert.UqXIdeal.main (F := Ideal))) ⟨m, fun _ => 0, g⟩ (fun r => (∀ c : Dev Cert.UqXIdeal.nD,
      r.2.mem ((c.tc : Thread Cert.UqXIdeal.nD Cert.UqXIdeal.τ).loc Cert.UqXIdeal.main_arg0) = m ((c.tc : Thread Cert.UqXIdeal.nD Cert.UqXIdeal.τ).loc Cert.UqXIdeal.main_arg0)
      ∧ r.2.mem ((c.tc : Thread Cert.UqXIdeal.nD Cert.UqXIdeal.τ).loc Cert.UqXIdeal.main_arg1) = m ((c.tc : Thread Cert.UqXIdeal.nD Cert.UqXIdeal.τ).loc Cert.UqXIdeal.main_arg1)
      ∧ r.2.mem ((c.tc : Thread Cert.UqXIdeal.nD Cert.UqXIdeal.τ).loc Cert.UqXIdeal.main_arg2) = m ((c.tc : Thread Cert.UqXIdeal.nD Cert.UqXIdeal.τ).loc Cert.UqXIdeal.main_arg2))
      ∧ r.2.sem = fun _ => 0)

def quiescent_UqXRefIdeal [hUqXRefIdeal : Cert.UqXRefIdeal.Facts] : Prop :=
  ∀ (m : (ℓ : Loc Cert.UqXRefIdeal.nD Cert.UqXRefIdeal.τ Cert.UqXRefIdeal.sig) → Buf (Elt Ideal) ℓ) (g : Dev Cert.UqXRefIdeal.nD → PrngReg), Pre_UqXRefIdeal m →
    θ_run (Cert.UqXRefIdeal.defs (F := Ideal)) (onTc (τ := Cert.UqXRefIdeal.τ) (Cert.UqXRefIdeal.main (F := Ideal))) ⟨m, fun _ => 0, g⟩ (fun r => (∀ c : Dev Cert.UqXRefIdeal.nD,
      r.2.mem ((c.tc : Thread Cert.UqXRefIdeal.nD Cert.UqXRefIdeal.τ).loc Cert.UqXRefIdeal.main_arg0) = m ((c.tc : Thread Cert.UqXRefIdeal.nD Cert.UqXRefIdeal.τ).loc Cert.UqXRefIdeal.main_arg0)
      ∧ r.2.mem ((c.tc : Thread Cert.UqXRefIdeal.nD Cert.UqXRefIdeal.τ).loc Cert.UqXRefIdeal.main_arg1) = m ((c.tc : Thread Cert.UqXRefIdeal.nD Cert.UqXRefIdeal.τ).loc Cert.UqXRefIdeal.main_arg1)
      ∧ r.2.mem ((c.tc : Thread Cert.UqXRefIdeal.nD Cert.UqXRefIdeal.τ).loc Cert.UqXRefIdeal.main_arg2) = m ((c.tc : Thread Cert.UqXRefIdeal.nD Cert.UqXRefIdeal.τ).loc Cert.UqXRefIdeal.main_arg2))
      ∧ r.2.sem = fun _ => 0)

def quiescent_UqW [hUqW : Cert.UqW.Facts] : Prop :=
  ∀ (m : (ℓ : Loc Cert.UqW.nD Cert.UqW.τ Cert.UqW.sig) → Buf (Elt Bits) ℓ) (g : Dev Cert.UqW.nD → PrngReg), Pre_UqW m →
    θ_run (Cert.UqW.defs (F := Bits)) (onTc (τ := Cert.UqW.τ) (Cert.UqW.main (F := Bits))) ⟨m, fun _ => 0, g⟩ (fun r => (∀ c : Dev Cert.UqW.nD,
      r.2.mem ((c.tc : Thread Cert.UqW.nD Cert.UqW.τ).loc Cert.UqW.main_arg0) = m ((c.tc : Thread Cert.UqW.nD Cert.UqW.τ).loc Cert.UqW.main_arg0)
      ∧ r.2.mem ((c.tc : Thread Cert.UqW.nD Cert.UqW.τ).loc Cert.UqW.main_arg1) = m ((c.tc : Thread Cert.UqW.nD Cert.UqW.τ).loc Cert.UqW.main_arg1)
      ∧ r.2.mem ((c.tc : Thread Cert.UqW.nD Cert.UqW.τ).loc Cert.UqW.main_arg2) = m ((c.tc : Thread Cert.UqW.nD Cert.UqW.τ).loc Cert.UqW.main_arg2))
      ∧ r.2.sem = fun _ => 0)

def quiescent_UqWIdeal [hUqWIdeal : Cert.UqWIdeal.Facts] : Prop :=
  ∀ (m : (ℓ : Loc Cert.UqWIdeal.nD Cert.UqWIdeal.τ Cert.UqWIdeal.sig) → Buf (Elt Ideal) ℓ) (g : Dev Cert.UqWIdeal.nD → PrngReg), Pre_UqWIdeal m →
    θ_run (Cert.UqWIdeal.defs (F := Ideal)) (onTc (τ := Cert.UqWIdeal.τ) (Cert.UqWIdeal.main (F := Ideal))) ⟨m, fun _ => 0, g⟩ (fun r => (∀ c : Dev Cert.UqWIdeal.nD,
      r.2.mem ((c.tc : Thread Cert.UqWIdeal.nD Cert.UqWIdeal.τ).loc Cert.UqWIdeal.main_arg0) = m ((c.tc : Thread Cert.UqWIdeal.nD Cert.UqWIdeal.τ).loc Cert.UqWIdeal.main_arg0)
      ∧ r.2.mem ((c.tc : Thread Cert.UqWIdeal.nD Cert.UqWIdeal.τ).loc Cert.UqWIdeal.main_arg1) = m ((c.tc : Thread Cert.UqWIdeal.nD Cert.UqWIdeal.τ).loc Cert.UqWIdeal.main_arg1)
      ∧ r.2.mem ((c.tc : Thread Cert.UqWIdeal.nD Cert.UqWIdeal.τ).loc Cert.UqWIdeal.main_arg2) = m ((c.tc : Thread Cert.UqWIdeal.nD Cert.UqWIdeal.τ).loc Cert.UqWIdeal.main_arg2))
      ∧ r.2.sem = fun _ => 0)

def quiescent_UqWRefIdeal [hUqWRefIdeal : Cert.UqWRefIdeal.Facts] : Prop :=
  ∀ (m : (ℓ : Loc Cert.UqWRefIdeal.nD Cert.UqWRefIdeal.τ Cert.UqWRefIdeal.sig) → Buf (Elt Ideal) ℓ) (g : Dev Cert.UqWRefIdeal.nD → PrngReg), Pre_UqWRefIdeal m →
    θ_run (Cert.UqWRefIdeal.defs (F := Ideal)) (onTc (τ := Cert.UqWRefIdeal.τ) (Cert.UqWRefIdeal.main (F := Ideal))) ⟨m, fun _ => 0, g⟩ (fun r => (∀ c : Dev Cert.UqWRefIdeal.nD,
      r.2.mem ((c.tc : Thread Cert.UqWRefIdeal.nD Cert.UqWRefIdeal.τ).loc Cert.UqWRefIdeal.main_arg0) = m ((c.tc : Thread Cert.UqWRefIdeal.nD Cert.UqWRefIdeal.τ).loc Cert.UqWRefIdeal.main_arg0)
      ∧ r.2.mem ((c.tc : Thread Cert.UqWRefIdeal.nD Cert.UqWRefIdeal.τ).loc Cert.UqWRefIdeal.main_arg1) = m ((c.tc : Thread Cert.UqWRefIdeal.nD Cert.UqWRefIdeal.τ).loc Cert.UqWRefIdeal.main_arg1)
      ∧ r.2.mem ((c.tc : Thread Cert.UqWRefIdeal.nD Cert.UqWRefIdeal.τ).loc Cert.UqWRefIdeal.main_arg2) = m ((c.tc : Thread Cert.UqWRefIdeal.nD Cert.UqWRefIdeal.τ).loc Cert.UqWRefIdeal.main_arg2))
      ∧ r.2.sem = fun _ => 0)

def quiescent_UkvX [hUkvX : Cert.UkvX.Facts] : Prop :=
  ∀ (m : (ℓ : Loc Cert.UkvX.nD Cert.UkvX.τ Cert.UkvX.sig) → Buf (Elt Bits) ℓ) (g : Dev Cert.UkvX.nD → PrngReg), Pre_UkvX m →
    θ_run (Cert.UkvX.defs (F := Bits)) (onTc (τ := Cert.UkvX.τ) (Cert.UkvX.main (F := Bits))) ⟨m, fun _ => 0, g⟩ (fun r => (∀ c : Dev Cert.UkvX.nD,
      r.2.mem ((c.tc : Thread Cert.UkvX.nD Cert.UkvX.τ).loc Cert.UkvX.main_arg0) = m ((c.tc : Thread Cert.UkvX.nD Cert.UkvX.τ).loc Cert.UkvX.main_arg0)
      ∧ r.2.mem ((c.tc : Thread Cert.UkvX.nD Cert.UkvX.τ).loc Cert.UkvX.main_arg1) = m ((c.tc : Thread Cert.UkvX.nD Cert.UkvX.τ).loc Cert.UkvX.main_arg1)
      ∧ r.2.mem ((c.tc : Thread Cert.UkvX.nD Cert.UkvX.τ).loc Cert.UkvX.main_arg2) = m ((c.tc : Thread Cert.UkvX.nD Cert.UkvX.τ).loc Cert.UkvX.main_arg2)
      ∧ r.2.mem ((c.tc : Thread Cert.UkvX.nD Cert.UkvX.τ).loc Cert.UkvX.main_arg3) = m ((c.tc : Thread Cert.UkvX.nD Cert.UkvX.τ).loc Cert.UkvX.main_arg3)
      ∧ r.2.mem ((c.tc : Thread Cert.UkvX.nD Cert.UkvX.τ).loc Cert.UkvX.main_arg4) = m ((c.tc : Thread Cert.UkvX.nD Cert.UkvX.τ).loc Cert.UkvX.main_arg4))
      ∧ r.2.sem = fun _ => 0)

def quiescent_UkvXIdeal [hUkvXIdeal : Cert.UkvXIdeal.Facts] : Prop :=
  ∀ (m : (ℓ : Loc Cert.UkvXIdeal.nD Cert.UkvXIdeal.τ Cert.UkvXIdeal.sig) → Buf (Elt Ideal) ℓ) (g : Dev Cert.UkvXIdeal.nD → PrngReg), Pre_UkvXIdeal m →
    θ_run (Cert.UkvXIdeal.defs (F := Ideal)) (onTc (τ := Cert.UkvXIdeal.τ) (Cert.UkvXIdeal.main (F := Ideal))) ⟨m, fun _ => 0, g⟩ (fun r => (∀ c : Dev Cert.UkvXIdeal.nD,
      r.2.mem ((c.tc : Thread Cert.UkvXIdeal.nD Cert.UkvXIdeal.τ).loc Cert.UkvXIdeal.main_arg0) = m ((c.tc : Thread Cert.UkvXIdeal.nD Cert.UkvXIdeal.τ).loc Cert.UkvXIdeal.main_arg0)
      ∧ r.2.mem ((c.tc : Thread Cert.UkvXIdeal.nD Cert.UkvXIdeal.τ).loc Cert.UkvXIdeal.main_arg1) = m ((c.tc : Thread Cert.UkvXIdeal.nD Cert.UkvXIdeal.τ).loc Cert.UkvXIdeal.main_arg1)
      ∧ r.2.mem ((c.tc : Thread Cert.UkvXIdeal.nD Cert.UkvXIdeal.τ).loc Cert.UkvXIdeal.main_arg2) = m ((c.tc : Thread Cert.UkvXIdeal.nD Cert.UkvXIdeal.τ).loc Cert.UkvXIdeal.main_arg2)
      ∧ r.2.mem ((c.tc : Thread Cert.UkvXIdeal.nD Cert.UkvXIdeal.τ).loc Cert.UkvXIdeal.main_arg3) = m ((c.tc : Thread Cert.UkvXIdeal.nD Cert.UkvXIdeal.τ).loc Cert.UkvXIdeal.main_arg3)
      ∧ r.2.mem ((c.tc : Thread Cert.UkvXIdeal.nD Cert.UkvXIdeal.τ).loc Cert.UkvXIdeal.main_arg4) = m ((c.tc : Thread Cert.UkvXIdeal.nD Cert.UkvXIdeal.τ).loc Cert.UkvXIdeal.main_arg4))
      ∧ r.2.sem = fun _ => 0)

def quiescent_UkvXRefIdeal [hUkvXRefIdeal : Cert.UkvXRefIdeal.Facts] : Prop :=
  ∀ (m : (ℓ : Loc Cert.UkvXRefIdeal.nD Cert.UkvXRefIdeal.τ Cert.UkvXRefIdeal.sig) → Buf (Elt Ideal) ℓ) (g : Dev Cert.UkvXRefIdeal.nD → PrngReg), Pre_UkvXRefIdeal m →
    θ_run (Cert.UkvXRefIdeal.defs (F := Ideal)) (onTc (τ := Cert.UkvXRefIdeal.τ) (Cert.UkvXRefIdeal.main (F := Ideal))) ⟨m, fun _ => 0, g⟩ (fun r => (∀ c : Dev Cert.UkvXRefIdeal.nD,
      r.2.mem ((c.tc : Thread Cert.UkvXRefIdeal.nD Cert.UkvXRefIdeal.τ).loc Cert.UkvXRefIdeal.main_arg0) = m ((c.tc : Thread Cert.UkvXRefIdeal.nD Cert.UkvXRefIdeal.τ).loc Cert.UkvXRefIdeal.main_arg0)
      ∧ r.2.mem ((c.tc : Thread Cert.UkvXRefIdeal.nD Cert.UkvXRefIdeal.τ).loc Cert.UkvXRefIdeal.main_arg1) = m ((c.tc : Thread Cert.UkvXRefIdeal.nD Cert.UkvXRefIdeal.τ).loc Cert.UkvXRefIdeal.main_arg1)
      ∧ r.2.mem ((c.tc : Thread Cert.UkvXRefIdeal.nD Cert.UkvXRefIdeal.τ).loc Cert.UkvXRefIdeal.main_arg2) = m ((c.tc : Thread Cert.UkvXRefIdeal.nD Cert.UkvXRefIdeal.τ).loc Cert.UkvXRefIdeal.main_arg2)
      ∧ r.2.mem ((c.tc : Thread Cert.UkvXRefIdeal.nD Cert.UkvXRefIdeal.τ).loc Cert.UkvXRefIdeal.main_arg3) = m ((c.tc : Thread Cert.UkvXRefIdeal.nD Cert.UkvXRefIdeal.τ).loc Cert.UkvXRefIdeal.main_arg3)
      ∧ r.2.mem ((c.tc : Thread Cert.UkvXRefIdeal.nD Cert.UkvXRefIdeal.τ).loc Cert.UkvXRefIdeal.main_arg4) = m ((c.tc : Thread Cert.UkvXRefIdeal.nD Cert.UkvXRefIdeal.τ).loc Cert.UkvXRefIdeal.main_arg4))
      ∧ r.2.sem = fun _ => 0)

def quiescent_UkvW [hUkvW : Cert.UkvW.Facts] : Prop :=
  ∀ (m : (ℓ : Loc Cert.UkvW.nD Cert.UkvW.τ Cert.UkvW.sig) → Buf (Elt Bits) ℓ) (g : Dev Cert.UkvW.nD → PrngReg), Pre_UkvW m →
    θ_run (Cert.UkvW.defs (F := Bits)) (onTc (τ := Cert.UkvW.τ) (Cert.UkvW.main (F := Bits))) ⟨m, fun _ => 0, g⟩ (fun r => (∀ c : Dev Cert.UkvW.nD,
      r.2.mem ((c.tc : Thread Cert.UkvW.nD Cert.UkvW.τ).loc Cert.UkvW.main_arg0) = m ((c.tc : Thread Cert.UkvW.nD Cert.UkvW.τ).loc Cert.UkvW.main_arg0)
      ∧ r.2.mem ((c.tc : Thread Cert.UkvW.nD Cert.UkvW.τ).loc Cert.UkvW.main_arg1) = m ((c.tc : Thread Cert.UkvW.nD Cert.UkvW.τ).loc Cert.UkvW.main_arg1)
      ∧ r.2.mem ((c.tc : Thread Cert.UkvW.nD Cert.UkvW.τ).loc Cert.UkvW.main_arg2) = m ((c.tc : Thread Cert.UkvW.nD Cert.UkvW.τ).loc Cert.UkvW.main_arg2))
      ∧ r.2.sem = fun _ => 0)

def quiescent_UkvWIdeal [hUkvWIdeal : Cert.UkvWIdeal.Facts] : Prop :=
  ∀ (m : (ℓ : Loc Cert.UkvWIdeal.nD Cert.UkvWIdeal.τ Cert.UkvWIdeal.sig) → Buf (Elt Ideal) ℓ) (g : Dev Cert.UkvWIdeal.nD → PrngReg), Pre_UkvWIdeal m →
    θ_run (Cert.UkvWIdeal.defs (F := Ideal)) (onTc (τ := Cert.UkvWIdeal.τ) (Cert.UkvWIdeal.main (F := Ideal))) ⟨m, fun _ => 0, g⟩ (fun r => (∀ c : Dev Cert.UkvWIdeal.nD,
      r.2.mem ((c.tc : Thread Cert.UkvWIdeal.nD Cert.UkvWIdeal.τ).loc Cert.UkvWIdeal.main_arg0) = m ((c.tc : Thread Cert.UkvWIdeal.nD Cert.UkvWIdeal.τ).loc Cert.UkvWIdeal.main_arg0)
      ∧ r.2.mem ((c.tc : Thread Cert.UkvWIdeal.nD Cert.UkvWIdeal.τ).loc Cert.UkvWIdeal.main_arg1) = m ((c.tc : Thread Cert.UkvWIdeal.nD Cert.UkvWIdeal.τ).loc Cert.UkvWIdeal.main_arg1)
      ∧ r.2.mem ((c.tc : Thread Cert.UkvWIdeal.nD Cert.UkvWIdeal.τ).loc Cert.UkvWIdeal.main_arg2) = m ((c.tc : Thread Cert.UkvWIdeal.nD Cert.UkvWIdeal.τ).loc Cert.UkvWIdeal.main_arg2))
      ∧ r.2.sem = fun _ => 0)

def quiescent_UkvWRefIdeal [hUkvWRefIdeal : Cert.UkvWRefIdeal.Facts] : Prop :=
  ∀ (m : (ℓ : Loc Cert.UkvWRefIdeal.nD Cert.UkvWRefIdeal.τ Cert.UkvWRefIdeal.sig) → Buf (Elt Ideal) ℓ) (g : Dev Cert.UkvWRefIdeal.nD → PrngReg), Pre_UkvWRefIdeal m →
    θ_run (Cert.UkvWRefIdeal.defs (F := Ideal)) (onTc (τ := Cert.UkvWRefIdeal.τ) (Cert.UkvWRefIdeal.main (F := Ideal))) ⟨m, fun _ => 0, g⟩ (fun r => (∀ c : Dev Cert.UkvWRefIdeal.nD,
      r.2.mem ((c.tc : Thread Cert.UkvWRefIdeal.nD Cert.UkvWRefIdeal.τ).loc Cert.UkvWRefIdeal.main_arg0) = m ((c.tc : Thread Cert.UkvWRefIdeal.nD Cert.UkvWRefIdeal.τ).loc Cert.UkvWRefIdeal.main_arg0)
      ∧ r.2.mem ((c.tc : Thread Cert.UkvWRefIdeal.nD Cert.UkvWRefIdeal.τ).loc Cert.UkvWRefIdeal.main_arg1) = m ((c.tc : Thread Cert.UkvWRefIdeal.nD Cert.UkvWRefIdeal.τ).loc Cert.UkvWRefIdeal.main_arg1)
      ∧ r.2.mem ((c.tc : Thread Cert.UkvWRefIdeal.nD Cert.UkvWRefIdeal.τ).loc Cert.UkvWRefIdeal.main_arg2) = m ((c.tc : Thread Cert.UkvWRefIdeal.nD Cert.UkvWRefIdeal.τ).loc Cert.UkvWRefIdeal.main_arg2))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1)
      ∧ r.2.mem ((c.tc : Thread Cert.Uq.nD Cert.Uq.τ).loc Cert.Uq.main_arg2) = m ((c.tc : Thread Cert.Uq.nD Cert.Uq.τ).loc Cert.Uq.main_arg2))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
      ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1)
      ∧ r.2.mem ((c.tc : Thread Cert.UqRefIdeal.nD Cert.UqRefIdeal.τ).loc Cert.UqRefIdeal.main_arg2) = m ((c.tc : Thread Cert.UqRefIdeal.nD Cert.UqRefIdeal.τ).loc Cert.UqRefIdeal.main_arg2))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_XkvX [hXkvX : Cert.XkvX.Facts] : Prop :=
  ∀ (m : (ℓ : Loc Cert.XkvX.nD Cert.XkvX.τ Cert.XkvX.sig) → Buf (Elt Bits) ℓ) (g : Dev Cert.XkvX.nD → PrngReg), Pre_XkvX m →
    θ_run (Cert.XkvX.defs (F := Bits)) (onTc (τ := Cert.XkvX.τ) (Cert.XkvX.main (F := Bits))) ⟨m, fun _ => 0, g⟩ (fun r => (∀ c : Dev Cert.XkvX.nD,
      r.2.mem ((c.tc : Thread Cert.XkvX.nD Cert.XkvX.τ).loc Cert.XkvX.main_arg0) = m ((c.tc : Thread Cert.XkvX.nD Cert.XkvX.τ).loc Cert.XkvX.main_arg0)
      ∧ r.2.mem ((c.tc : Thread Cert.XkvX.nD Cert.XkvX.τ).loc Cert.XkvX.main_arg1) = m ((c.tc : Thread Cert.XkvX.nD Cert.XkvX.τ).loc Cert.XkvX.main_arg1)
      ∧ r.2.mem ((c.tc : Thread Cert.XkvX.nD Cert.XkvX.τ).loc Cert.XkvX.main_arg2) = m ((c.tc : Thread Cert.XkvX.nD Cert.XkvX.τ).loc Cert.XkvX.main_arg2))
      ∧ r.2.sem = fun _ => 0)

def quiescent_XkvXIdeal [hXkvXIdeal : Cert.XkvXIdeal.Facts] : Prop :=
  ∀ (m : (ℓ : Loc Cert.XkvXIdeal.nD Cert.XkvXIdeal.τ Cert.XkvXIdeal.sig) → Buf (Elt Ideal) ℓ) (g : Dev Cert.XkvXIdeal.nD → PrngReg), Pre_XkvXIdeal m →
    θ_run (Cert.XkvXIdeal.defs (F := Ideal)) (onTc (τ := Cert.XkvXIdeal.τ) (Cert.XkvXIdeal.main (F := Ideal))) ⟨m, fun _ => 0, g⟩ (fun r => (∀ c : Dev Cert.XkvXIdeal.nD,
      r.2.mem ((c.tc : Thread Cert.XkvXIdeal.nD Cert.XkvXIdeal.τ).loc Cert.XkvXIdeal.main_arg0) = m ((c.tc : Thread Cert.XkvXIdeal.nD Cert.XkvXIdeal.τ).loc Cert.XkvXIdeal.main_arg0)
      ∧ r.2.mem ((c.tc : Thread Cert.XkvXIdeal.nD Cert.XkvXIdeal.τ).loc Cert.XkvXIdeal.main_arg1) = m ((c.tc : Thread Cert.XkvXIdeal.nD Cert.XkvXIdeal.τ).loc Cert.XkvXIdeal.main_arg1)
      ∧ r.2.mem ((c.tc : Thread Cert.XkvXIdeal.nD Cert.XkvXIdeal.τ).loc Cert.XkvXIdeal.main_arg2) = m ((c.tc : Thread Cert.XkvXIdeal.nD Cert.XkvXIdeal.τ).loc Cert.XkvXIdeal.main_arg2))
      ∧ r.2.sem = fun _ => 0)

def quiescent_XkvXRefIdeal [hXkvXRefIdeal : Cert.XkvXRefIdeal.Facts] : Prop :=
  ∀ (m : (ℓ : Loc Cert.XkvXRefIdeal.nD Cert.XkvXRefIdeal.τ Cert.XkvXRefIdeal.sig) → Buf (Elt Ideal) ℓ) (g : Dev Cert.XkvXRefIdeal.nD → PrngReg), Pre_XkvXRefIdeal m →
    θ_run (Cert.XkvXRefIdeal.defs (F := Ideal)) (onTc (τ := Cert.XkvXRefIdeal.τ) (Cert.XkvXRefIdeal.main (F := Ideal))) ⟨m, fun _ => 0, g⟩ (fun r => (∀ c : Dev Cert.XkvXRefIdeal.nD,
      r.2.mem ((c.tc : Thread Cert.XkvXRefIdeal.nD Cert.XkvXRefIdeal.τ).loc Cert.XkvXRefIdeal.main_arg0) = m ((c.tc : Thread Cert.XkvXRefIdeal.nD Cert.XkvXRefIdeal.τ).loc Cert.XkvXRefIdeal.main_arg0)
      ∧ r.2.mem ((c.tc : Thread Cert.XkvXRefIdeal.nD Cert.XkvXRefIdeal.τ).loc Cert.XkvXRefIdeal.main_arg1) = m ((c.tc : Thread Cert.XkvXRefIdeal.nD Cert.XkvXRefIdeal.τ).loc Cert.XkvXRefIdeal.main_arg1)
      ∧ r.2.mem ((c.tc : Thread Cert.XkvXRefIdeal.nD Cert.XkvXRefIdeal.τ).loc Cert.XkvXRefIdeal.main_arg2) = m ((c.tc : Thread Cert.XkvXRefIdeal.nD Cert.XkvXRefIdeal.τ).loc Cert.XkvXRefIdeal.main_arg2))
      ∧ r.2.sem = fun _ => 0)

def quiescent_XkvW [hXkvW : Cert.XkvW.Facts] : Prop :=
  ∀ (m : (ℓ : Loc Cert.XkvW.nD Cert.XkvW.τ Cert.XkvW.sig) → Buf (Elt Bits) ℓ) (g : Dev Cert.XkvW.nD → PrngReg), Pre_XkvW m →
    θ_run (Cert.XkvW.defs (F := Bits)) (onTc (τ := Cert.XkvW.τ) (Cert.XkvW.main (F := Bits))) ⟨m, fun _ => 0, g⟩ (fun r => (∀ c : Dev Cert.XkvW.nD,
      r.2.mem ((c.tc : Thread Cert.XkvW.nD Cert.XkvW.τ).loc Cert.XkvW.main_arg0) = m ((c.tc : Thread Cert.XkvW.nD Cert.XkvW.τ).loc Cert.XkvW.main_arg0)
      ∧ r.2.mem ((c.tc : Thread Cert.XkvW.nD Cert.XkvW.τ).loc Cert.XkvW.main_arg1) = m ((c.tc : Thread Cert.XkvW.nD Cert.XkvW.τ).loc Cert.XkvW.main_arg1)
      ∧ r.2.mem ((c.tc : Thread Cert.XkvW.nD Cert.XkvW.τ).loc Cert.XkvW.main_arg2) = m ((c.tc : Thread Cert.XkvW.nD Cert.XkvW.τ).loc Cert.XkvW.main_arg2))
      ∧ r.2.sem = fun _ => 0)

def quiescent_XkvWIdeal [hXkvWIdeal : Cert.XkvWIdeal.Facts] : Prop :=
  ∀ (m : (ℓ : Loc Cert.XkvWIdeal.nD Cert.XkvWIdeal.τ Cert.XkvWIdeal.sig) → Buf (Elt Ideal) ℓ) (g : Dev Cert.XkvWIdeal.nD → PrngReg), Pre_XkvWIdeal m →
    θ_run (Cert.XkvWIdeal.defs (F := Ideal)) (onTc (τ := Cert.XkvWIdeal.τ) (Cert.XkvWIdeal.main (F := Ideal))) ⟨m, fun _ => 0, g⟩ (fun r => (∀ c : Dev Cert.XkvWIdeal.nD,
      r.2.mem ((c.tc : Thread Cert.XkvWIdeal.nD Cert.XkvWIdeal.τ).loc Cert.XkvWIdeal.main_arg0) = m ((c.tc : Thread Cert.XkvWIdeal.nD Cert.XkvWIdeal.τ).loc Cert.XkvWIdeal.main_arg0)
      ∧ r.2.mem ((c.tc : Thread Cert.XkvWIdeal.nD Cert.XkvWIdeal.τ).loc Cert.XkvWIdeal.main_arg1) = m ((c.tc : Thread Cert.XkvWIdeal.nD Cert.XkvWIdeal.τ).loc Cert.XkvWIdeal.main_arg1)
      ∧ r.2.mem ((c.tc : Thread Cert.XkvWIdeal.nD Cert.XkvWIdeal.τ).loc Cert.XkvWIdeal.main_arg2) = m ((c.tc : Thread Cert.XkvWIdeal.nD Cert.XkvWIdeal.τ).loc Cert.XkvWIdeal.main_arg2))
      ∧ r.2.sem = fun _ => 0)

def quiescent_XkvWRefIdeal [hXkvWRefIdeal : Cert.XkvWRefIdeal.Facts] : Prop :=
  ∀ (m : (ℓ : Loc Cert.XkvWRefIdeal.nD Cert.XkvWRefIdeal.τ Cert.XkvWRefIdeal.sig) → Buf (Elt Ideal) ℓ) (g : Dev Cert.XkvWRefIdeal.nD → PrngReg), Pre_XkvWRefIdeal m →
    θ_run (Cert.XkvWRefIdeal.defs (F := Ideal)) (onTc (τ := Cert.XkvWRefIdeal.τ) (Cert.XkvWRefIdeal.main (F := Ideal))) ⟨m, fun _ => 0, g⟩ (fun r => (∀ c : Dev Cert.XkvWRefIdeal.nD,
      r.2.mem ((c.tc : Thread Cert.XkvWRefIdeal.nD Cert.XkvWRefIdeal.τ).loc Cert.XkvWRefIdeal.main_arg0) = m ((c.tc : Thread Cert.XkvWRefIdeal.nD Cert.XkvWRefIdeal.τ).loc Cert.XkvWRefIdeal.main_arg0)
      ∧ r.2.mem ((c.tc : Thread Cert.XkvWRefIdeal.nD Cert.XkvWRefIdeal.τ).loc Cert.XkvWRefIdeal.main_arg1) = m ((c.tc : Thread Cert.XkvWRefIdeal.nD Cert.XkvWRefIdeal.τ).loc Cert.XkvWRefIdeal.main_arg1)
      ∧ r.2.mem ((c.tc : Thread Cert.XkvWRefIdeal.nD Cert.XkvWRefIdeal.τ).loc Cert.XkvWRefIdeal.main_arg2) = m ((c.tc : Thread Cert.XkvWRefIdeal.nD Cert.XkvWRefIdeal.τ).loc Cert.XkvWRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84_0)) (v1 : (c : Dev Cert.KernelIdeal.nD) → Buf (Elt Ideal) ((c.tc : Thread Cert.KernelIdeal.nD Cert.KernelIdeal.τ).loc Cert.KernelIdeal.main_v84_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_0) = v0 c
          ∧ r.2.mem ((c.tc : Thread Cert.KernelIdeal.nD Cert.KernelIdeal.τ).loc Cert.KernelIdeal.main_v84_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v5_0)) (v1 : (c : Dev Cert.GateUpIdeal.nD) → Buf (Elt Ideal) ((c.tc : Thread Cert.GateUpIdeal.nD Cert.GateUpIdeal.τ).loc Cert.GateUpIdeal.main_v5_1)) (v2 : (c : Dev Cert.GateUpIdeal.nD) → Buf (Elt Ideal) ((c.tc : Thread Cert.GateUpIdeal.nD Cert.GateUpIdeal.τ).loc Cert.GateUpIdeal.main_v5_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_v5_1) = v1 c
          ∧ r.2.mem ((c.tc : Thread Cert.GateUpIdeal.nD Cert.GateUpIdeal.τ).loc Cert.GateUpIdeal.main_v5_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0) = v0 c
          ∧ r.2.mem ((c.tc : Thread Cert.GateUpRefIdeal.nD Cert.GateUpRefIdeal.τ).loc Cert.GateUpRefIdeal.main_v1) = v1 c
          ∧ r.2.mem ((c.tc : Thread Cert.GateUpRefIdeal.nD Cert.GateUpRefIdeal.τ).loc Cert.GateUpRefIdeal.main_v4) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v1_0)) (v1 : (c : Dev Cert.ActIdeal.nD) → Buf (Elt Ideal) ((c.tc : Thread Cert.ActIdeal.nD Cert.ActIdeal.τ).loc Cert.ActIdeal.main_v1_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v1_0) = v0 c
          ∧ r.2.mem ((c.tc : Thread Cert.ActIdeal.nD Cert.ActIdeal.τ).loc Cert.ActIdeal.main_v1_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v7) = v0 c
          ∧ r.2.mem ((c.tc : Thread Cert.ActRefIdeal.nD Cert.ActRefIdeal.τ).loc Cert.ActRefIdeal.main_v8) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v1)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v1) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v3) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)
      ∧ m' ((c.tc : Thread Cert.GateWRefIdeal.nD Cert.GateWRefIdeal.τ).loc Cert.GateWRefIdeal.main_arg2) = m ((c.tc : Thread Cert.GateWIdeal.nD Cert.GateWIdeal.τ).loc Cert.GateWIdeal.main_arg2)) →
    ∃ (v0 : (c : Dev Cert.GateWIdeal.nD) → Buf (Elt Ideal) ((c.tc : Thread Cert.GateWIdeal.nD Cert.GateWIdeal.τ).loc Cert.GateWIdeal.main_v2)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v2) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1)
          ∧ r.2.mem ((c.tc : Thread Cert.GateWIdeal.nD Cert.GateWIdeal.τ).loc Cert.GateWIdeal.main_arg2) = m ((c.tc : Thread Cert.GateWIdeal.nD Cert.GateWIdeal.τ).loc Cert.GateWIdeal.main_arg2))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v4) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1)
          ∧ r.2.mem ((c.tc : Thread Cert.GateWRefIdeal.nD Cert.GateWRefIdeal.τ).loc Cert.GateWRefIdeal.main_arg2) = m' ((c.tc : Thread Cert.GateWRefIdeal.nD Cert.GateWRefIdeal.τ).loc Cert.GateWRefIdeal.main_arg2))

def preserves_GateX_GateXIdeal : Prop :=
  True

def algebraic_GateXIdeal_GateXRefIdeal [hGateXIdeal : Cert.GateXIdeal.Facts] [hGateXRefIdeal : Cert.GateXRefIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXRefIdeal.nD Cert.GateXRefIdeal.τ Cert.GateXRefIdeal.sig) → Buf (Elt Ideal) ℓ) (g' : Dev Cert.GateXRefIdeal.nD → PrngReg), Pre_GateXIdeal m →
    (∀ c : Dev Cert.GateXIdeal.nD,
      m' ((c.tc : Thread Cert.GateXRefIdeal.nD Cert.GateXRefIdeal.τ).loc Cert.GateXRefIdeal.main_arg0) = m ((c.tc : Thread Cert.GateXIdeal.nD Cert.GateXIdeal.τ).loc Cert.GateXIdeal.main_arg0)
      ∧ m' ((c.tc : Thread Cert.GateXRefIdeal.nD Cert.GateXRefIdeal.τ).loc Cert.GateXRefIdeal.main_arg1) = m ((c.tc : Thread Cert.GateXIdeal.nD Cert.GateXIdeal.τ).loc Cert.GateXIdeal.main_arg1)
      ∧ m' ((c.tc : Thread Cert.GateXRefIdeal.nD Cert.GateXRefIdeal.τ).loc Cert.GateXRefIdeal.main_arg2) = m ((c.tc : Thread Cert.GateXIdeal.nD Cert.GateXIdeal.τ).loc Cert.GateXIdeal.main_arg2)) →
    ∃ (v0 : (c : Dev Cert.GateXIdeal.nD) → Buf (Elt Ideal) ((c.tc : Thread Cert.GateXIdeal.nD Cert.GateXIdeal.τ).loc Cert.GateXIdeal.main_v3)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v3) = v0 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
          ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ θ_run (Cert.GateXRefIdeal.defs (F := Ideal)) (onTc (τ := Cert.GateXRefIdeal.τ) (Cert.GateXRefIdeal.main (F := Ideal))) ⟨m', fun _ => 0, g'⟩ (fun r => ∀ c : Dev Cert.GateXRefIdeal.nD,
          r.2.mem ((c.tc : Thread Cert.GateXRefIdeal.nD Cert.GateXRefIdeal.τ).loc Cert.GateXRefIdeal.main_v1) = v0 c
          ∧ r.2.mem ((c.tc : Thread Cert.GateXRefIdeal.nD Cert.GateXRefIdeal.τ).loc Cert.GateXRefIdeal.main_arg0) = m' ((c.tc : Thread Cert.GateXRefIdeal.nD Cert.GateXRefIdeal.τ).loc Cert.GateXRefIdeal.main_arg0)
          ∧ r.2.mem ((c.tc : Thread Cert.GateXRefIdeal.nD Cert.GateXRefIdeal.τ).loc Cert.GateXRefIdeal.main_arg1) = m' ((c.tc : Thread Cert.GateXRefIdeal.nD Cert.GateXRefIdeal.τ).loc Cert.GateXRefIdeal.main_arg1)
          ∧ r.2.mem ((c.tc : Thread Cert.GateXRefIdeal.nD Cert.GateXRefIdeal.τ).loc Cert.GateXRefIdeal.main_arg2) = m' ((c.tc : Thread Cert.GateXRefIdeal.nD Cert.GateXRefIdeal.τ).loc Cert.GateXRefIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)
      ∧ m' ((c.tc : Thread Cert.UpXRefIdeal.nD Cert.UpXRefIdeal.τ).loc Cert.UpXRefIdeal.main_arg3) = m ((c.tc : Thread Cert.UpXIdeal.nD Cert.UpXIdeal.τ).loc Cert.UpXIdeal.main_arg3)) →
    ∃ (v0 : (c : Dev Cert.UpXIdeal.nD) → Buf (Elt Ideal) ((c.tc : Thread Cert.UpXIdeal.nD Cert.UpXIdeal.τ).loc Cert.UpXIdeal.main_v3)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v3) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
          ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v2) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2)
          ∧ r.2.mem ((c.tc : Thread Cert.UpXRefIdeal.nD Cert.UpXRefIdeal.τ).loc Cert.UpXRefIdeal.main_arg3) = m' ((c.tc : Thread Cert.UpXRefIdeal.nD Cert.UpXRefIdeal.τ).loc Cert.UpXRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)) →
    ∃ (v0 : (c : Dev Cert.OutXIdeal.nD) → Buf (Elt Ideal) ((c.tc : Thread Cert.OutXIdeal.nD Cert.OutXIdeal.τ).loc Cert.OutXIdeal.main_v1)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v1) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v1) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v3) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)) →
    ∃ (v0 : (c : Dev Cert.OutAIdeal.nD) → Buf (Elt Ideal) ((c.tc : Thread Cert.OutAIdeal.nD Cert.OutAIdeal.τ).loc Cert.OutAIdeal.main_v1)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v1) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v1) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2))

def preserves_OutAX_OutAXIdeal : Prop :=
  True

def algebraic_OutAXIdeal_OutAXRefIdeal [hOutAXIdeal : Cert.OutAXIdeal.Facts] [hOutAXRefIdeal : Cert.OutAXRefIdeal.Facts] : Prop :=
  ∀ (m : (ℓ : Loc Cert.OutAXIdeal.nD Cert.OutAXIdeal.τ Cert.OutAXIdeal.sig) → Buf (Elt Ideal) ℓ) (g : Dev Cert.OutAXIdeal.nD → PrngReg)
    (m' : (ℓ : Loc Cert.OutAXRefIdeal.nD Cert.OutAXRefIdeal.τ Cert.OutAXRefIdeal.sig) → Buf (Elt Ideal) ℓ) (g' : Dev Cert.OutAXRefIdeal.nD → PrngReg), Pre_OutAXIdeal m →
    (∀ c : Dev Cert.OutAXIdeal.nD,
      m' ((c.tc : Thread Cert.OutAXRefIdeal.nD Cert.OutAXRefIdeal.τ).loc Cert.OutAXRefIdeal.main_arg0) = m ((c.tc : Thread Cert.OutAXIdeal.nD Cert.OutAXIdeal.τ).loc Cert.OutAXIdeal.main_arg0)
      ∧ m' ((c.tc : Thread Cert.OutAXRefIdeal.nD Cert.OutAXRefIdeal.τ).loc Cert.OutAXRefIdeal.main_arg1) = m ((c.tc : Thread Cert.OutAXIdeal.nD Cert.OutAXIdeal.τ).loc Cert.OutAXIdeal.main_arg1)
      ∧ m' ((c.tc : Thread Cert.OutAXRefIdeal.nD Cert.OutAXRefIdeal.τ).loc Cert.OutAXRefIdeal.main_arg2) = m ((c.tc : Thread Cert.OutAXIdeal.nD Cert.OutAXIdeal.τ).loc Cert.OutAXIdeal.main_arg2)) →
    ∃ (v0 : (c : Dev Cert.OutAXIdeal.nD) → Buf (Elt Ideal) ((c.tc : Thread Cert.OutAXIdeal.nD Cert.OutAXIdeal.τ).loc Cert.OutAXIdeal.main_v1)),
      θ_run (Cert.OutAXIdeal.defs (F := Ideal)) (onTc (τ := Cert.OutAXIdeal.τ) (Cert.OutAXIdeal.main (F := Ideal))) ⟨m, fun _ => 0, g⟩ (fun r => ∀ c : Dev Cert.OutAXIdeal.nD,
          r.2.mem ((c.tc : Thread Cert.OutAXIdeal.nD Cert.OutAXIdeal.τ).loc Cert.OutAXIdeal.main_v1) = v0 c
          ∧ r.2.mem ((c.tc : Thread Cert.OutAXIdeal.nD Cert.OutAXIdeal.τ).loc Cert.OutAXIdeal.main_arg0) = m ((c.tc : Thread Cert.OutAXIdeal.nD Cert.OutAXIdeal.τ).loc Cert.OutAXIdeal.main_arg0)
          ∧ r.2.mem ((c.tc : Thread Cert.OutAXIdeal.nD Cert.OutAXIdeal.τ).loc Cert.OutAXIdeal.main_arg1) = m ((c.tc : Thread Cert.OutAXIdeal.nD Cert.OutAXIdeal.τ).loc Cert.OutAXIdeal.main_arg1)
          ∧ r.2.mem ((c.tc : Thread Cert.OutAXIdeal.nD Cert.OutAXIdeal.τ).loc Cert.OutAXIdeal.main_arg2) = m ((c.tc : Thread Cert.OutAXIdeal.nD Cert.OutAXIdeal.τ).loc Cert.OutAXIdeal.main_arg2))
      ∧ θ_run (Cert.OutAXRefIdeal.defs (F := Ideal)) (onTc (τ := Cert.OutAXRefIdeal.τ) (Cert.OutAXRefIdeal.main (F := Ideal))) ⟨m', fun _ => 0, g'⟩ (fun r => ∀ c : Dev Cert.OutAXRefIdeal.nD,
          r.2.mem ((c.tc : Thread Cert.OutAXRefIdeal.nD Cert.OutAXRefIdeal.τ).loc Cert.OutAXRefIdeal.main_v1) = v0 c
          ∧ r.2.mem ((c.tc : Thread Cert.OutAXRefIdeal.nD Cert.OutAXRefIdeal.τ).loc Cert.OutAXRefIdeal.main_arg0) = m' ((c.tc : Thread Cert.OutAXRefIdeal.nD Cert.OutAXRefIdeal.τ).loc Cert.OutAXRefIdeal.main_arg0)
          ∧ r.2.mem ((c.tc : Thread Cert.OutAXRefIdeal.nD Cert.OutAXRefIdeal.τ).loc Cert.OutAXRefIdeal.main_arg1) = m' ((c.tc : Thread Cert.OutAXRefIdeal.nD Cert.OutAXRefIdeal.τ).loc Cert.OutAXRefIdeal.main_arg1)
          ∧ r.2.mem ((c.tc : Thread Cert.OutAXRefIdeal.nD Cert.OutAXRefIdeal.τ).loc Cert.OutAXRefIdeal.main_arg2) = m' ((c.tc : Thread Cert.OutAXRefIdeal.nD Cert.OutAXRefIdeal.τ).loc Cert.OutAXRefIdeal.main_arg2))

def preserves_OutAW_OutAWIdeal : Prop :=
  True

def algebraic_OutAWIdeal_OutAWRefIdeal [hOutAWIdeal : Cert.OutAWIdeal.Facts] [hOutAWRefIdeal : Cert.OutAWRefIdeal.Facts] : Prop :=
  ∀ (m : (ℓ : Loc Cert.OutAWIdeal.nD Cert.OutAWIdeal.τ Cert.OutAWIdeal.sig) → Buf (Elt Ideal) ℓ) (g : Dev Cert.OutAWIdeal.nD → PrngReg)
    (m' : (ℓ : Loc Cert.OutAWRefIdeal.nD Cert.OutAWRefIdeal.τ Cert.OutAWRefIdeal.sig) → Buf (Elt Ideal) ℓ) (g' : Dev Cert.OutAWRefIdeal.nD → PrngReg), Pre_OutAWIdeal m →
    (∀ c : Dev Cert.OutAWIdeal.nD,
      m' ((c.tc : Thread Cert.OutAWRefIdeal.nD Cert.OutAWRefIdeal.τ).loc Cert.OutAWRefIdeal.main_arg0) = m ((c.tc : Thread Cert.OutAWIdeal.nD Cert.OutAWIdeal.τ).loc Cert.OutAWIdeal.main_arg0)
      ∧ m' ((c.tc : Thread Cert.OutAWRefIdeal.nD Cert.OutAWRefIdeal.τ).loc Cert.OutAWRefIdeal.main_arg1) = m ((c.tc : Thread Cert.OutAWIdeal.nD Cert.OutAWIdeal.τ).loc Cert.OutAWIdeal.main_arg1)
      ∧ m' ((c.tc : Thread Cert.OutAWRefIdeal.nD Cert.OutAWRefIdeal.τ).loc Cert.OutAWRefIdeal.main_arg2) = m ((c.tc : Thread Cert.OutAWIdeal.nD Cert.OutAWIdeal.τ).loc Cert.OutAWIdeal.main_arg2)) →
    ∃ (v0 : (c : Dev Cert.OutAWIdeal.nD) → Buf (Elt Ideal) ((c.tc : Thread Cert.OutAWIdeal.nD Cert.OutAWIdeal.τ).loc Cert.OutAWIdeal.main_v0)),
      θ_run (Cert.OutAWIdeal.defs (F := Ideal)) (onTc (τ := Cert.OutAWIdeal.τ) (Cert.OutAWIdeal.main (F := Ideal))) ⟨m, fun _ => 0, g⟩ (fun r => ∀ c : Dev Cert.OutAWIdeal.nD,
          r.2.mem ((c.tc : Thread Cert.OutAWIdeal.nD Cert.OutAWIdeal.τ).loc Cert.OutAWIdeal.main_v0) = v0 c
          ∧ r.2.mem ((c.tc : Thread Cert.OutAWIdeal.nD Cert.OutAWIdeal.τ).loc Cert.OutAWIdeal.main_arg0) = m ((c.tc : Thread Cert.OutAWIdeal.nD Cert.OutAWIdeal.τ).loc Cert.OutAWIdeal.main_arg0)
          ∧ r.2.mem ((c.tc : Thread Cert.OutAWIdeal.nD Cert.OutAWIdeal.τ).loc Cert.OutAWIdeal.main_arg1) = m ((c.tc : Thread Cert.OutAWIdeal.nD Cert.OutAWIdeal.τ).loc Cert.OutAWIdeal.main_arg1)
          ∧ r.2.mem ((c.tc : Thread Cert.OutAWIdeal.nD Cert.OutAWIdeal.τ).loc Cert.OutAWIdeal.main_arg2) = m ((c.tc : Thread Cert.OutAWIdeal.nD Cert.OutAWIdeal.τ).loc Cert.OutAWIdeal.main_arg2))
      ∧ θ_run (Cert.OutAWRefIdeal.defs (F := Ideal)) (onTc (τ := Cert.OutAWRefIdeal.τ) (Cert.OutAWRefIdeal.main (F := Ideal))) ⟨m', fun _ => 0, g'⟩ (fun r => ∀ c : Dev Cert.OutAWRefIdeal.nD,
          r.2.mem ((c.tc : Thread Cert.OutAWRefIdeal.nD Cert.OutAWRefIdeal.τ).loc Cert.OutAWRefIdeal.main_v3) = v0 c
          ∧ r.2.mem ((c.tc : Thread Cert.OutAWRefIdeal.nD Cert.OutAWRefIdeal.τ).loc Cert.OutAWRefIdeal.main_arg0) = m' ((c.tc : Thread Cert.OutAWRefIdeal.nD Cert.OutAWRefIdeal.τ).loc Cert.OutAWRefIdeal.main_arg0)
          ∧ r.2.mem ((c.tc : Thread Cert.OutAWRefIdeal.nD Cert.OutAWRefIdeal.τ).loc Cert.OutAWRefIdeal.main_arg1) = m' ((c.tc : Thread Cert.OutAWRefIdeal.nD Cert.OutAWRefIdeal.τ).loc Cert.OutAWRefIdeal.main_arg1)
          ∧ r.2.mem ((c.tc : Thread Cert.OutAWRefIdeal.nD Cert.OutAWRefIdeal.τ).loc Cert.OutAWRefIdeal.main_arg2) = m' ((c.tc : Thread Cert.OutAWRefIdeal.nD Cert.OutAWRefIdeal.τ).loc Cert.OutAWRefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v2) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v0) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_XqX_XqXIdeal : Prop :=
  True

def algebraic_XqXIdeal_XqXRefIdeal [hXqXIdeal : Cert.XqXIdeal.Facts] [hXqXRefIdeal : Cert.XqXRefIdeal.Facts] : Prop :=
  ∀ (m : (ℓ : Loc Cert.XqXIdeal.nD Cert.XqXIdeal.τ Cert.XqXIdeal.sig) → Buf (Elt Ideal) ℓ) (g : Dev Cert.XqXIdeal.nD → PrngReg)
    (m' : (ℓ : Loc Cert.XqXRefIdeal.nD Cert.XqXRefIdeal.τ Cert.XqXRefIdeal.sig) → Buf (Elt Ideal) ℓ) (g' : Dev Cert.XqXRefIdeal.nD → PrngReg), Pre_XqXIdeal m →
    (∀ c : Dev Cert.XqXIdeal.nD,
      m' ((c.tc : Thread Cert.XqXRefIdeal.nD Cert.XqXRefIdeal.τ).loc Cert.XqXRefIdeal.main_arg0) = m ((c.tc : Thread Cert.XqXIdeal.nD Cert.XqXIdeal.τ).loc Cert.XqXIdeal.main_arg0)
      ∧ m' ((c.tc : Thread Cert.XqXRefIdeal.nD Cert.XqXRefIdeal.τ).loc Cert.XqXRefIdeal.main_arg1) = m ((c.tc : Thread Cert.XqXIdeal.nD Cert.XqXIdeal.τ).loc Cert.XqXIdeal.main_arg1)
      ∧ m' ((c.tc : Thread Cert.XqXRefIdeal.nD Cert.XqXRefIdeal.τ).loc Cert.XqXRefIdeal.main_arg2) = m ((c.tc : Thread Cert.XqXIdeal.nD Cert.XqXIdeal.τ).loc Cert.XqXIdeal.main_arg2)) →
    ∃ (v0 : (c : Dev Cert.XqXIdeal.nD) → Buf (Elt Ideal) ((c.tc : Thread Cert.XqXIdeal.nD Cert.XqXIdeal.τ).loc Cert.XqXIdeal.main_v1)),
      θ_run (Cert.XqXIdeal.defs (F := Ideal)) (onTc (τ := Cert.XqXIdeal.τ) (Cert.XqXIdeal.main (F := Ideal))) ⟨m, fun _ => 0, g⟩ (fun r => ∀ c : Dev Cert.XqXIdeal.nD,
          r.2.mem ((c.tc : Thread Cert.XqXIdeal.nD Cert.XqXIdeal.τ).loc Cert.XqXIdeal.main_v1) = v0 c
          ∧ r.2.mem ((c.tc : Thread Cert.XqXIdeal.nD Cert.XqXIdeal.τ).loc Cert.XqXIdeal.main_arg0) = m ((c.tc : Thread Cert.XqXIdeal.nD Cert.XqXIdeal.τ).loc Cert.XqXIdeal.main_arg0)
          ∧ r.2.mem ((c.tc : Thread Cert.XqXIdeal.nD Cert.XqXIdeal.τ).loc Cert.XqXIdeal.main_arg1) = m ((c.tc : Thread Cert.XqXIdeal.nD Cert.XqXIdeal.τ).loc Cert.XqXIdeal.main_arg1)
          ∧ r.2.mem ((c.tc : Thread Cert.XqXIdeal.nD Cert.XqXIdeal.τ).loc Cert.XqXIdeal.main_arg2) = m ((c.tc : Thread Cert.XqXIdeal.nD Cert.XqXIdeal.τ).loc Cert.XqXIdeal.main_arg2))
      ∧ θ_run (Cert.XqXRefIdeal.defs (F := Ideal)) (onTc (τ := Cert.XqXRefIdeal.τ) (Cert.XqXRefIdeal.main (F := Ideal))) ⟨m', fun _ => 0, g'⟩ (fun r => ∀ c : Dev Cert.XqXRefIdeal.nD,
          r.2.mem ((c.tc : Thread Cert.XqXRefIdeal.nD Cert.XqXRefIdeal.τ).loc Cert.XqXRefIdeal.main_v1) = v0 c
          ∧ r.2.mem ((c.tc : Thread Cert.XqXRefIdeal.nD Cert.XqXRefIdeal.τ).loc Cert.XqXRefIdeal.main_arg0) = m' ((c.tc : Thread Cert.XqXRefIdeal.nD Cert.XqXRefIdeal.τ).loc Cert.XqXRefIdeal.main_arg0)
          ∧ r.2.mem ((c.tc : Thread Cert.XqXRefIdeal.nD Cert.XqXRefIdeal.τ).loc Cert.XqXRefIdeal.main_arg1) = m' ((c.tc : Thread Cert.XqXRefIdeal.nD Cert.XqXRefIdeal.τ).loc Cert.XqXRefIdeal.main_arg1)
          ∧ r.2.mem ((c.tc : Thread Cert.XqXRefIdeal.nD Cert.XqXRefIdeal.τ).loc Cert.XqXRefIdeal.main_arg2) = m' ((c.tc : Thread Cert.XqXRefIdeal.nD Cert.XqXRefIdeal.τ).loc Cert.XqXRefIdeal.main_arg2))

def preserves_XqW_XqWIdeal : Prop :=
  True

def algebraic_XqWIdeal_XqWRefIdeal [hXqWIdeal : Cert.XqWIdeal.Facts] [hXqWRefIdeal : Cert.XqWRefIdeal.Facts] : Prop :=
  ∀ (m : (ℓ : Loc Cert.XqWIdeal.nD Cert.XqWIdeal.τ Cert.XqWIdeal.sig) → Buf (Elt Ideal) ℓ) (g : Dev Cert.XqWIdeal.nD → PrngReg)
    (m' : (ℓ : Loc Cert.XqWRefIdeal.nD Cert.XqWRefIdeal.τ Cert.XqWRefIdeal.sig) → Buf (Elt Ideal) ℓ) (g' : Dev Cert.XqWRefIdeal.nD → PrngReg), Pre_XqWIdeal m →
    (∀ c : Dev Cert.XqWIdeal.nD,
      m' ((c.tc : Thread Cert.XqWRefIdeal.nD Cert.XqWRefIdeal.τ).loc Cert.XqWRefIdeal.main_arg0) = m ((c.tc : Thread Cert.XqWIdeal.nD Cert.XqWIdeal.τ).loc Cert.XqWIdeal.main_arg0)
      ∧ m' ((c.tc : Thread Cert.XqWRefIdeal.nD Cert.XqWRefIdeal.τ).loc Cert.XqWRefIdeal.main_arg1) = m ((c.tc : Thread Cert.XqWIdeal.nD Cert.XqWIdeal.τ).loc Cert.XqWIdeal.main_arg1)
      ∧ m' ((c.tc : Thread Cert.XqWRefIdeal.nD Cert.XqWRefIdeal.τ).loc Cert.XqWRefIdeal.main_arg2) = m ((c.tc : Thread Cert.XqWIdeal.nD Cert.XqWIdeal.τ).loc Cert.XqWIdeal.main_arg2)) →
    ∃ (v0 : (c : Dev Cert.XqWIdeal.nD) → Buf (Elt Ideal) ((c.tc : Thread Cert.XqWIdeal.nD Cert.XqWIdeal.τ).loc Cert.XqWIdeal.main_v1)),
      θ_run (Cert.XqWIdeal.defs (F := Ideal)) (onTc (τ := Cert.XqWIdeal.τ) (Cert.XqWIdeal.main (F := Ideal))) ⟨m, fun _ => 0, g⟩ (fun r => ∀ c : Dev Cert.XqWIdeal.nD,
          r.2.mem ((c.tc : Thread Cert.XqWIdeal.nD Cert.XqWIdeal.τ).loc Cert.XqWIdeal.main_v1) = v0 c
          ∧ r.2.mem ((c.tc : Thread Cert.XqWIdeal.nD Cert.XqWIdeal.τ).loc Cert.XqWIdeal.main_arg0) = m ((c.tc : Thread Cert.XqWIdeal.nD Cert.XqWIdeal.τ).loc Cert.XqWIdeal.main_arg0)
          ∧ r.2.mem ((c.tc : Thread Cert.XqWIdeal.nD Cert.XqWIdeal.τ).loc Cert.XqWIdeal.main_arg1) = m ((c.tc : Thread Cert.XqWIdeal.nD Cert.XqWIdeal.τ).loc Cert.XqWIdeal.main_arg1)
          ∧ r.2.mem ((c.tc : Thread Cert.XqWIdeal.nD Cert.XqWIdeal.τ).loc Cert.XqWIdeal.main_arg2) = m ((c.tc : Thread Cert.XqWIdeal.nD Cert.XqWIdeal.τ).loc Cert.XqWIdeal.main_arg2))
      ∧ θ_run (Cert.XqWRefIdeal.defs (F := Ideal)) (onTc (τ := Cert.XqWRefIdeal.τ) (Cert.XqWRefIdeal.main (F := Ideal))) ⟨m', fun _ => 0, g'⟩ (fun r => ∀ c : Dev Cert.XqWRefIdeal.nD,
          r.2.mem ((c.tc : Thread Cert.XqWRefIdeal.nD Cert.XqWRefIdeal.τ).loc Cert.XqWRefIdeal.main_v3) = v0 c
          ∧ r.2.mem ((c.tc : Thread Cert.XqWRefIdeal.nD Cert.XqWRefIdeal.τ).loc Cert.XqWRefIdeal.main_arg0) = m' ((c.tc : Thread Cert.XqWRefIdeal.nD Cert.XqWRefIdeal.τ).loc Cert.XqWRefIdeal.main_arg0)
          ∧ r.2.mem ((c.tc : Thread Cert.XqWRefIdeal.nD Cert.XqWRefIdeal.τ).loc Cert.XqWRefIdeal.main_arg1) = m' ((c.tc : Thread Cert.XqWRefIdeal.nD Cert.XqWRefIdeal.τ).loc Cert.XqWRefIdeal.main_arg1)
          ∧ r.2.mem ((c.tc : Thread Cert.XqWRefIdeal.nD Cert.XqWRefIdeal.τ).loc Cert.XqWRefIdeal.main_arg2) = m' ((c.tc : Thread Cert.XqWRefIdeal.nD Cert.XqWRefIdeal.τ).loc Cert.XqWRefIdeal.main_arg2))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v2)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v2) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v1) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_XoX_XoXIdeal : Prop :=
  True

def algebraic_XoXIdeal_XoXRefIdeal [hXoXIdeal : Cert.XoXIdeal.Facts] [hXoXRefIdeal : Cert.XoXRefIdeal.Facts] : Prop :=
  ∀ (m : (ℓ : Loc Cert.XoXIdeal.nD Cert.XoXIdeal.τ Cert.XoXIdeal.sig) → Buf (Elt Ideal) ℓ) (g : Dev Cert.XoXIdeal.nD → PrngReg)
    (m' : (ℓ : Loc Cert.XoXRefIdeal.nD Cert.XoXRefIdeal.τ Cert.XoXRefIdeal.sig) → Buf (Elt Ideal) ℓ) (g' : Dev Cert.XoXRefIdeal.nD → PrngReg), Pre_XoXIdeal m →
    (∀ c : Dev Cert.XoXIdeal.nD,
      m' ((c.tc : Thread Cert.XoXRefIdeal.nD Cert.XoXRefIdeal.τ).loc Cert.XoXRefIdeal.main_arg0) = m ((c.tc : Thread Cert.XoXIdeal.nD Cert.XoXIdeal.τ).loc Cert.XoXIdeal.main_arg0)
      ∧ m' ((c.tc : Thread Cert.XoXRefIdeal.nD Cert.XoXRefIdeal.τ).loc Cert.XoXRefIdeal.main_arg1) = m ((c.tc : Thread Cert.XoXIdeal.nD Cert.XoXIdeal.τ).loc Cert.XoXIdeal.main_arg1)
      ∧ m' ((c.tc : Thread Cert.XoXRefIdeal.nD Cert.XoXRefIdeal.τ).loc Cert.XoXRefIdeal.main_arg2) = m ((c.tc : Thread Cert.XoXIdeal.nD Cert.XoXIdeal.τ).loc Cert.XoXIdeal.main_arg2)) →
    ∃ (v0 : (c : Dev Cert.XoXIdeal.nD) → Buf (Elt Ideal) ((c.tc : Thread Cert.XoXIdeal.nD Cert.XoXIdeal.τ).loc Cert.XoXIdeal.main_v2)),
      θ_run (Cert.XoXIdeal.defs (F := Ideal)) (onTc (τ := Cert.XoXIdeal.τ) (Cert.XoXIdeal.main (F := Ideal))) ⟨m, fun _ => 0, g⟩ (fun r => ∀ c : Dev Cert.XoXIdeal.nD,
          r.2.mem ((c.tc : Thread Cert.XoXIdeal.nD Cert.XoXIdeal.τ).loc Cert.XoXIdeal.main_v2) = v0 c
          ∧ r.2.mem ((c.tc : Thread Cert.XoXIdeal.nD Cert.XoXIdeal.τ).loc Cert.XoXIdeal.main_arg0) = m ((c.tc : Thread Cert.XoXIdeal.nD Cert.XoXIdeal.τ).loc Cert.XoXIdeal.main_arg0)
          ∧ r.2.mem ((c.tc : Thread Cert.XoXIdeal.nD Cert.XoXIdeal.τ).loc Cert.XoXIdeal.main_arg1) = m ((c.tc : Thread Cert.XoXIdeal.nD Cert.XoXIdeal.τ).loc Cert.XoXIdeal.main_arg1)
          ∧ r.2.mem ((c.tc : Thread Cert.XoXIdeal.nD Cert.XoXIdeal.τ).loc Cert.XoXIdeal.main_arg2) = m ((c.tc : Thread Cert.XoXIdeal.nD Cert.XoXIdeal.τ).loc Cert.XoXIdeal.main_arg2))
      ∧ θ_run (Cert.XoXRefIdeal.defs (F := Ideal)) (onTc (τ := Cert.XoXRefIdeal.τ) (Cert.XoXRefIdeal.main (F := Ideal))) ⟨m', fun _ => 0, g'⟩ (fun r => ∀ c : Dev Cert.XoXRefIdeal.nD,
          r.2.mem ((c.tc : Thread Cert.XoXRefIdeal.nD Cert.XoXRefIdeal.τ).loc Cert.XoXRefIdeal.main_v1) = v0 c
          ∧ r.2.mem ((c.tc : Thread Cert.XoXRefIdeal.nD Cert.XoXRefIdeal.τ).loc Cert.XoXRefIdeal.main_arg0) = m' ((c.tc : Thread Cert.XoXRefIdeal.nD Cert.XoXRefIdeal.τ).loc Cert.XoXRefIdeal.main_arg0)
          ∧ r.2.mem ((c.tc : Thread Cert.XoXRefIdeal.nD Cert.XoXRefIdeal.τ).loc Cert.XoXRefIdeal.main_arg1) = m' ((c.tc : Thread Cert.XoXRefIdeal.nD Cert.XoXRefIdeal.τ).loc Cert.XoXRefIdeal.main_arg1)
          ∧ r.2.mem ((c.tc : Thread Cert.XoXRefIdeal.nD Cert.XoXRefIdeal.τ).loc Cert.XoXRefIdeal.main_arg2) = m' ((c.tc : Thread Cert.XoXRefIdeal.nD Cert.XoXRefIdeal.τ).loc Cert.XoXRefIdeal.main_arg2))

def preserves_XoW_XoWIdeal : Prop :=
  True

def algebraic_XoWIdeal_XoWRefIdeal [hXoWIdeal : Cert.XoWIdeal.Facts] [hXoWRefIdeal : Cert.XoWRefIdeal.Facts] : Prop :=
  ∀ (m : (ℓ : Loc Cert.XoWIdeal.nD Cert.XoWIdeal.τ Cert.XoWIdeal.sig) → Buf (Elt Ideal) ℓ) (g : Dev Cert.XoWIdeal.nD → PrngReg)
    (m' : (ℓ : Loc Cert.XoWRefIdeal.nD Cert.XoWRefIdeal.τ Cert.XoWRefIdeal.sig) → Buf (Elt Ideal) ℓ) (g' : Dev Cert.XoWRefIdeal.nD → PrngReg), Pre_XoWIdeal m →
    (∀ c : Dev Cert.XoWIdeal.nD,
      m' ((c.tc : Thread Cert.XoWRefIdeal.nD Cert.XoWRefIdeal.τ).loc Cert.XoWRefIdeal.main_arg0) = m ((c.tc : Thread Cert.XoWIdeal.nD Cert.XoWIdeal.τ).loc Cert.XoWIdeal.main_arg0)
      ∧ m' ((c.tc : Thread Cert.XoWRefIdeal.nD Cert.XoWRefIdeal.τ).loc Cert.XoWRefIdeal.main_arg1) = m ((c.tc : Thread Cert.XoWIdeal.nD Cert.XoWIdeal.τ).loc Cert.XoWIdeal.main_arg1)
      ∧ m' ((c.tc : Thread Cert.XoWRefIdeal.nD Cert.XoWRefIdeal.τ).loc Cert.XoWRefIdeal.main_arg2) = m ((c.tc : Thread Cert.XoWIdeal.nD Cert.XoWIdeal.τ).loc Cert.XoWIdeal.main_arg2)) →
    ∃ (v0 : (c : Dev Cert.XoWIdeal.nD) → Buf (Elt Ideal) ((c.tc : Thread Cert.XoWIdeal.nD Cert.XoWIdeal.τ).loc Cert.XoWIdeal.main_v0)),
      θ_run (Cert.XoWIdeal.defs (F := Ideal)) (onTc (τ := Cert.XoWIdeal.τ) (Cert.XoWIdeal.main (F := Ideal))) ⟨m, fun _ => 0, g⟩ (fun r => ∀ c : Dev Cert.XoWIdeal.nD,
          r.2.mem ((c.tc : Thread Cert.XoWIdeal.nD Cert.XoWIdeal.τ).loc Cert.XoWIdeal.main_v0) = v0 c
          ∧ r.2.mem ((c.tc : Thread Cert.XoWIdeal.nD Cert.XoWIdeal.τ).loc Cert.XoWIdeal.main_arg0) = m ((c.tc : Thread Cert.XoWIdeal.nD Cert.XoWIdeal.τ).loc Cert.XoWIdeal.main_arg0)
          ∧ r.2.mem ((c.tc : Thread Cert.XoWIdeal.nD Cert.XoWIdeal.τ).loc Cert.XoWIdeal.main_arg1) = m ((c.tc : Thread Cert.XoWIdeal.nD Cert.XoWIdeal.τ).loc Cert.XoWIdeal.main_arg1)
          ∧ r.2.mem ((c.tc : Thread Cert.XoWIdeal.nD Cert.XoWIdeal.τ).loc Cert.XoWIdeal.main_arg2) = m ((c.tc : Thread Cert.XoWIdeal.nD Cert.XoWIdeal.τ).loc Cert.XoWIdeal.main_arg2))
      ∧ θ_run (Cert.XoWRefIdeal.defs (F := Ideal)) (onTc (τ := Cert.XoWRefIdeal.τ) (Cert.XoWRefIdeal.main (F := Ideal))) ⟨m', fun _ => 0, g'⟩ (fun r => ∀ c : Dev Cert.XoWRefIdeal.nD,
          r.2.mem ((c.tc : Thread Cert.XoWRefIdeal.nD Cert.XoWRefIdeal.τ).loc Cert.XoWRefIdeal.main_v4) = v0 c
          ∧ r.2.mem ((c.tc : Thread Cert.XoWRefIdeal.nD Cert.XoWRefIdeal.τ).loc Cert.XoWRefIdeal.main_arg0) = m' ((c.tc : Thread Cert.XoWRefIdeal.nD Cert.XoWRefIdeal.τ).loc Cert.XoWRefIdeal.main_arg0)
          ∧ r.2.mem ((c.tc : Thread Cert.XoWRefIdeal.nD Cert.XoWRefIdeal.τ).loc Cert.XoWRefIdeal.main_arg1) = m' ((c.tc : Thread Cert.XoWRefIdeal.nD Cert.XoWRefIdeal.τ).loc Cert.XoWRefIdeal.main_arg1)
          ∧ r.2.mem ((c.tc : Thread Cert.XoWRefIdeal.nD Cert.XoWRefIdeal.τ).loc Cert.XoWRefIdeal.main_arg2) = m' ((c.tc : Thread Cert.XoWRefIdeal.nD Cert.XoWRefIdeal.τ).loc Cert.XoWRefIdeal.main_arg2))

def preserves_QkvX_QkvXIdeal : Prop :=
  True

def algebraic_QkvXIdeal_QkvXRefIdeal [hQkvXIdeal : Cert.QkvXIdeal.Facts] [hQkvXRefIdeal : Cert.QkvXRefIdeal.Facts] : Prop :=
  ∀ (m : (ℓ : Loc Cert.QkvXIdeal.nD Cert.QkvXIdeal.τ Cert.QkvXIdeal.sig) → Buf (Elt Ideal) ℓ) (g : Dev Cert.QkvXIdeal.nD → PrngReg)
    (m' : (ℓ : Loc Cert.QkvXRefIdeal.nD Cert.QkvXRefIdeal.τ Cert.QkvXRefIdeal.sig) → Buf (Elt Ideal) ℓ) (g' : Dev Cert.QkvXRefIdeal.nD → PrngReg), Pre_QkvXIdeal m →
    (∀ c : Dev Cert.QkvXIdeal.nD,
      m' ((c.tc : Thread Cert.QkvXRefIdeal.nD Cert.QkvXRefIdeal.τ).loc Cert.QkvXRefIdeal.main_arg0) = m ((c.tc : Thread Cert.QkvXIdeal.nD Cert.QkvXIdeal.τ).loc Cert.QkvXIdeal.main_arg0)
      ∧ m' ((c.tc : Thread Cert.QkvXRefIdeal.nD Cert.QkvXRefIdeal.τ).loc Cert.QkvXRefIdeal.main_arg1) = m ((c.tc : Thread Cert.QkvXIdeal.nD Cert.QkvXIdeal.τ).loc Cert.QkvXIdeal.main_arg1)
      ∧ m' ((c.tc : Thread Cert.QkvXRefIdeal.nD Cert.QkvXRefIdeal.τ).loc Cert.QkvXRefIdeal.main_arg2) = m ((c.tc : Thread Cert.QkvXIdeal.nD Cert.QkvXIdeal.τ).loc Cert.QkvXIdeal.main_arg2)
      ∧ m' ((c.tc : Thread Cert.QkvXRefIdeal.nD Cert.QkvXRefIdeal.τ).loc Cert.QkvXRefIdeal.main_arg3) = m ((c.tc : Thread Cert.QkvXIdeal.nD Cert.QkvXIdeal.τ).loc Cert.QkvXIdeal.main_arg3)
      ∧ m' ((c.tc : Thread Cert.QkvXRefIdeal.nD Cert.QkvXRefIdeal.τ).loc Cert.QkvXRefIdeal.main_arg4) = m ((c.tc : Thread Cert.QkvXIdeal.nD Cert.QkvXIdeal.τ).loc Cert.QkvXIdeal.main_arg4)) →
    ∃ (v0 : (c : Dev Cert.QkvXIdeal.nD) → Buf (Elt Ideal) ((c.tc : Thread Cert.QkvXIdeal.nD Cert.QkvXIdeal.τ).loc Cert.QkvXIdeal.main_v5)),
      θ_run (Cert.QkvXIdeal.defs (F := Ideal)) (onTc (τ := Cert.QkvXIdeal.τ) (Cert.QkvXIdeal.main (F := Ideal))) ⟨m, fun _ => 0, g⟩ (fun r => ∀ c : Dev Cert.QkvXIdeal.nD,
          r.2.mem ((c.tc : Thread Cert.QkvXIdeal.nD Cert.QkvXIdeal.τ).loc Cert.QkvXIdeal.main_v5) = v0 c
          ∧ r.2.mem ((c.tc : Thread Cert.QkvXIdeal.nD Cert.QkvXIdeal.τ).loc Cert.QkvXIdeal.main_arg0) = m ((c.tc : Thread Cert.QkvXIdeal.nD Cert.QkvXIdeal.τ).loc Cert.QkvXIdeal.main_arg0)
          ∧ r.2.mem ((c.tc : Thread Cert.QkvXIdeal.nD Cert.QkvXIdeal.τ).loc Cert.QkvXIdeal.main_arg1) = m ((c.tc : Thread Cert.QkvXIdeal.nD Cert.QkvXIdeal.τ).loc Cert.QkvXIdeal.main_arg1)
          ∧ r.2.mem ((c.tc : Thread Cert.QkvXIdeal.nD Cert.QkvXIdeal.τ).loc Cert.QkvXIdeal.main_arg2) = m ((c.tc : Thread Cert.QkvXIdeal.nD Cert.QkvXIdeal.τ).loc Cert.QkvXIdeal.main_arg2)
          ∧ r.2.mem ((c.tc : Thread Cert.QkvXIdeal.nD Cert.QkvXIdeal.τ).loc Cert.QkvXIdeal.main_arg3) = m ((c.tc : Thread Cert.QkvXIdeal.nD Cert.QkvXIdeal.τ).loc Cert.QkvXIdeal.main_arg3)
          ∧ r.2.mem ((c.tc : Thread Cert.QkvXIdeal.nD Cert.QkvXIdeal.τ).loc Cert.QkvXIdeal.main_arg4) = m ((c.tc : Thread Cert.QkvXIdeal.nD Cert.QkvXIdeal.τ).loc Cert.QkvXIdeal.main_arg4))
      ∧ θ_run (Cert.QkvXRefIdeal.defs (F := Ideal)) (onTc (τ := Cert.QkvXRefIdeal.τ) (Cert.QkvXRefIdeal.main (F := Ideal))) ⟨m', fun _ => 0, g'⟩ (fun r => ∀ c : Dev Cert.QkvXRefIdeal.nD,
          r.2.mem ((c.tc : Thread Cert.QkvXRefIdeal.nD Cert.QkvXRefIdeal.τ).loc Cert.QkvXRefIdeal.main_v5) = v0 c
          ∧ r.2.mem ((c.tc : Thread Cert.QkvXRefIdeal.nD Cert.QkvXRefIdeal.τ).loc Cert.QkvXRefIdeal.main_arg0) = m' ((c.tc : Thread Cert.QkvXRefIdeal.nD Cert.QkvXRefIdeal.τ).loc Cert.QkvXRefIdeal.main_arg0)
          ∧ r.2.mem ((c.tc : Thread Cert.QkvXRefIdeal.nD Cert.QkvXRefIdeal.τ).loc Cert.QkvXRefIdeal.main_arg1) = m' ((c.tc : Thread Cert.QkvXRefIdeal.nD Cert.QkvXRefIdeal.τ).loc Cert.QkvXRefIdeal.main_arg1)
          ∧ r.2.mem ((c.tc : Thread Cert.QkvXRefIdeal.nD Cert.QkvXRefIdeal.τ).loc Cert.QkvXRefIdeal.main_arg2) = m' ((c.tc : Thread Cert.QkvXRefIdeal.nD Cert.QkvXRefIdeal.τ).loc Cert.QkvXRefIdeal.main_arg2)
          ∧ r.2.mem ((c.tc : Thread Cert.QkvXRefIdeal.nD Cert.QkvXRefIdeal.τ).loc Cert.QkvXRefIdeal.main_arg3) = m' ((c.tc : Thread Cert.QkvXRefIdeal.nD Cert.QkvXRefIdeal.τ).loc Cert.QkvXRefIdeal.main_arg3)
          ∧ r.2.mem ((c.tc : Thread Cert.QkvXRefIdeal.nD Cert.QkvXRefIdeal.τ).loc Cert.QkvXRefIdeal.main_arg4) = m' ((c.tc : Thread Cert.QkvXRefIdeal.nD Cert.QkvXRefIdeal.τ).loc Cert.QkvXRefIdeal.main_arg4))

def preserves_QkvW_QkvWIdeal : Prop :=
  True

def algebraic_QkvWIdeal_QkvWRefIdeal [hQkvWIdeal : Cert.QkvWIdeal.Facts] [hQkvWRefIdeal : Cert.QkvWRefIdeal.Facts] : Prop :=
  ∀ (m : (ℓ : Loc Cert.QkvWIdeal.nD Cert.QkvWIdeal.τ Cert.QkvWIdeal.sig) → Buf (Elt Ideal) ℓ) (g : Dev Cert.QkvWIdeal.nD → PrngReg)
    (m' : (ℓ : Loc Cert.QkvWRefIdeal.nD Cert.QkvWRefIdeal.τ Cert.QkvWRefIdeal.sig) → Buf (Elt Ideal) ℓ) (g' : Dev Cert.QkvWRefIdeal.nD → PrngReg), Pre_QkvWIdeal m →
    (∀ c : Dev Cert.QkvWIdeal.nD,
      m' ((c.tc : Thread Cert.QkvWRefIdeal.nD Cert.QkvWRefIdeal.τ).loc Cert.QkvWRefIdeal.main_arg0) = m ((c.tc : Thread Cert.QkvWIdeal.nD Cert.QkvWIdeal.τ).loc Cert.QkvWIdeal.main_arg0)
      ∧ m' ((c.tc : Thread Cert.QkvWRefIdeal.nD Cert.QkvWRefIdeal.τ).loc Cert.QkvWRefIdeal.main_arg1) = m ((c.tc : Thread Cert.QkvWIdeal.nD Cert.QkvWIdeal.τ).loc Cert.QkvWIdeal.main_arg1)
      ∧ m' ((c.tc : Thread Cert.QkvWRefIdeal.nD Cert.QkvWRefIdeal.τ).loc Cert.QkvWRefIdeal.main_arg2) = m ((c.tc : Thread Cert.QkvWIdeal.nD Cert.QkvWIdeal.τ).loc Cert.QkvWIdeal.main_arg2)) →
    ∃ (v0 : (c : Dev Cert.QkvWIdeal.nD) → Buf (Elt Ideal) ((c.tc : Thread Cert.QkvWIdeal.nD Cert.QkvWIdeal.τ).loc Cert.QkvWIdeal.main_v1)),
      θ_run (Cert.QkvWIdeal.defs (F := Ideal)) (onTc (τ := Cert.QkvWIdeal.τ) (Cert.QkvWIdeal.main (F := Ideal))) ⟨m, fun _ => 0, g⟩ (fun r => ∀ c : Dev Cert.QkvWIdeal.nD,
          r.2.mem ((c.tc : Thread Cert.QkvWIdeal.nD Cert.QkvWIdeal.τ).loc Cert.QkvWIdeal.main_v1) = v0 c
          ∧ r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
          ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1)
          ∧ r.2.mem ((c.tc : Thread Cert.QkvWIdeal.nD Cert.QkvWIdeal.τ).loc Cert.QkvWIdeal.main_arg2) = m ((c.tc : Thread Cert.QkvWIdeal.nD Cert.QkvWIdeal.τ).loc Cert.QkvWIdeal.main_arg2))
      ∧ θ_run (Cert.QkvWRefIdeal.defs (F := Ideal)) (onTc (τ := Cert.QkvWRefIdeal.τ) (Cert.QkvWRefIdeal.main (F := Ideal))) ⟨m', fun _ => 0, g'⟩ (fun r => ∀ c : Dev Cert.QkvWRefIdeal.nD,
          r.2.mem ((c.tc : Thread Cert.QkvWRefIdeal.nD Cert.QkvWRefIdeal.τ).loc Cert.QkvWRefIdeal.main_v4) = v0 c
          ∧ r.2.mem ((c.tc : Thread Cert.QkvWRefIdeal.nD Cert.QkvWRefIdeal.τ).loc Cert.QkvWRefIdeal.main_arg0) = m' ((c.tc : Thread Cert.QkvWRefIdeal.nD Cert.QkvWRefIdeal.τ).loc Cert.QkvWRefIdeal.main_arg0)
          ∧ r.2.mem ((c.tc : Thread Cert.QkvWRefIdeal.nD Cert.QkvWRefIdeal.τ).loc Cert.QkvWRefIdeal.main_arg1) = m' ((c.tc : Thread Cert.QkvWRefIdeal.nD Cert.QkvWRefIdeal.τ).loc Cert.QkvWRefIdeal.main_arg1)
          ∧ r.2.mem ((c.tc : Thread Cert.QkvWRefIdeal.nD Cert.QkvWRefIdeal.τ).loc Cert.QkvWRefIdeal.main_arg2) = m' ((c.tc : Thread Cert.QkvWRefIdeal.nD Cert.QkvWRefIdeal.τ).loc Cert.QkvWRefIdeal.main_arg2))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)
      ∧ m' ((c.tc : Thread Cert.InXRefIdeal.nD Cert.InXRefIdeal.τ).loc Cert.InXRefIdeal.main_arg6) = m ((c.tc : Thread Cert.InXIdeal.nD Cert.InXIdeal.τ).loc Cert.InXIdeal.main_arg6)) →
    ∃ (v0 : (c : Dev Cert.InXIdeal.nD) → Buf (Elt Ideal) ((c.tc : Thread Cert.InXIdeal.nD Cert.InXIdeal.τ).loc Cert.InXIdeal.main_v8)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v8) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
          ∧ r.2.mem ((c.tc : Thread Cert.InXIdeal.nD Cert.InXIdeal.τ).loc Cert.InXIdeal.main_arg6) = m ((c.tc : Thread Cert.InXIdeal.nD Cert.InXIdeal.τ).loc Cert.InXIdeal.main_arg6))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v19) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5)
          ∧ r.2.mem ((c.tc : Thread Cert.InXRefIdeal.nD Cert.InXRefIdeal.τ).loc Cert.InXRefIdeal.main_arg6) = m' ((c.tc : Thread Cert.InXRefIdeal.nD Cert.InXRefIdeal.τ).loc Cert.InXRefIdeal.main_arg6))

def preserves_InQW_InQWIdeal : Prop :=
  True

def algebraic_InQWIdeal_InQWRefIdeal [hInQWIdeal : Cert.InQWIdeal.Facts] [hInQWRefIdeal : Cert.InQWRefIdeal.Facts] : Prop :=
  ∀ (m : (ℓ : Loc Cert.InQWIdeal.nD Cert.InQWIdeal.τ Cert.InQWIdeal.sig) → Buf (Elt Ideal) ℓ) (g : Dev Cert.InQWIdeal.nD → PrngReg)
    (m' : (ℓ : Loc Cert.InQWRefIdeal.nD Cert.InQWRefIdeal.τ Cert.InQWRefIdeal.sig) → Buf (Elt Ideal) ℓ) (g' : Dev Cert.InQWRefIdeal.nD → PrngReg), Pre_InQWIdeal m →
    (∀ c : Dev Cert.InQWIdeal.nD,
      m' ((c.tc : Thread Cert.InQWRefIdeal.nD Cert.InQWRefIdeal.τ).loc Cert.InQWRefIdeal.main_arg0) = m ((c.tc : Thread Cert.InQWIdeal.nD Cert.InQWIdeal.τ).loc Cert.InQWIdeal.main_arg0)
      ∧ m' ((c.tc : Thread Cert.InQWRefIdeal.nD Cert.InQWRefIdeal.τ).loc Cert.InQWRefIdeal.main_arg1) = m ((c.tc : Thread Cert.InQWIdeal.nD Cert.InQWIdeal.τ).loc Cert.InQWIdeal.main_arg1)
      ∧ m' ((c.tc : Thread Cert.InQWRefIdeal.nD Cert.InQWRefIdeal.τ).loc Cert.InQWRefIdeal.main_arg2) = m ((c.tc : Thread Cert.InQWIdeal.nD Cert.InQWIdeal.τ).loc Cert.InQWIdeal.main_arg2)) →
    ∃ (v0 : (c : Dev Cert.InQWIdeal.nD) → Buf (Elt Ideal) ((c.tc : Thread Cert.InQWIdeal.nD Cert.InQWIdeal.τ).loc Cert.InQWIdeal.main_v1)),
      θ_run (Cert.InQWIdeal.defs (F := Ideal)) (onTc (τ := Cert.InQWIdeal.τ) (Cert.InQWIdeal.main (F := Ideal))) ⟨m, fun _ => 0, g⟩ (fun r => ∀ c : Dev Cert.InQWIdeal.nD,
          r.2.mem ((c.tc : Thread Cert.InQWIdeal.nD Cert.InQWIdeal.τ).loc Cert.InQWIdeal.main_v1) = v0 c
          ∧ r.2.mem ((c.tc : Thread Cert.InQWIdeal.nD Cert.InQWIdeal.τ).loc Cert.InQWIdeal.main_arg0) = m ((c.tc : Thread Cert.InQWIdeal.nD Cert.InQWIdeal.τ).loc Cert.InQWIdeal.main_arg0)
          ∧ r.2.mem ((c.tc : Thread Cert.InQWIdeal.nD Cert.InQWIdeal.τ).loc Cert.InQWIdeal.main_arg1) = m ((c.tc : Thread Cert.InQWIdeal.nD Cert.InQWIdeal.τ).loc Cert.InQWIdeal.main_arg1)
          ∧ r.2.mem ((c.tc : Thread Cert.InQWIdeal.nD Cert.InQWIdeal.τ).loc Cert.InQWIdeal.main_arg2) = m ((c.tc : Thread Cert.InQWIdeal.nD Cert.InQWIdeal.τ).loc Cert.InQWIdeal.main_arg2))
      ∧ θ_run (Cert.InQWRefIdeal.defs (F := Ideal)) (onTc (τ := Cert.InQWRefIdeal.τ) (Cert.InQWRefIdeal.main (F := Ideal))) ⟨m', fun _ => 0, g'⟩ (fun r => ∀ c : Dev Cert.InQWRefIdeal.nD,
          r.2.mem ((c.tc : Thread Cert.InQWRefIdeal.nD Cert.InQWRefIdeal.τ).loc Cert.InQWRefIdeal.main_v4) = v0 c
          ∧ r.2.mem ((c.tc : Thread Cert.InQWRefIdeal.nD Cert.InQWRefIdeal.τ).loc Cert.InQWRefIdeal.main_arg0) = m' ((c.tc : Thread Cert.InQWRefIdeal.nD Cert.InQWRefIdeal.τ).loc Cert.InQWRefIdeal.main_arg0)
          ∧ r.2.mem ((c.tc : Thread Cert.InQWRefIdeal.nD Cert.InQWRefIdeal.τ).loc Cert.InQWRefIdeal.main_arg1) = m' ((c.tc : Thread Cert.InQWRefIdeal.nD Cert.InQWRefIdeal.τ).loc Cert.InQWRefIdeal.main_arg1)
          ∧ r.2.mem ((c.tc : Thread Cert.InQWRefIdeal.nD Cert.InQWRefIdeal.τ).loc Cert.InQWRefIdeal.main_arg2) = m' ((c.tc : Thread Cert.InQWRefIdeal.nD Cert.InQWRefIdeal.τ).loc Cert.InQWRefIdeal.main_arg2))

def preserves_InKvW_InKvWIdeal : Prop :=
  True

def algebraic_InKvWIdeal_InKvWRefIdeal [hInKvWIdeal : Cert.InKvWIdeal.Facts] [hInKvWRefIdeal : Cert.InKvWRefIdeal.Facts] : Prop :=
  ∀ (m : (ℓ : Loc Cert.InKvWIdeal.nD Cert.InKvWIdeal.τ Cert.InKvWIdeal.sig) → Buf (Elt Ideal) ℓ) (g : Dev Cert.InKvWIdeal.nD → PrngReg)
    (m' : (ℓ : Loc Cert.InKvWRefIdeal.nD Cert.InKvWRefIdeal.τ Cert.InKvWRefIdeal.sig) → Buf (Elt Ideal) ℓ) (g' : Dev Cert.InKvWRefIdeal.nD → PrngReg), Pre_InKvWIdeal m →
    (∀ c : Dev Cert.InKvWIdeal.nD,
      m' ((c.tc : Thread Cert.InKvWRefIdeal.nD Cert.InKvWRefIdeal.τ).loc Cert.InKvWRefIdeal.main_arg0) = m ((c.tc : Thread Cert.InKvWIdeal.nD Cert.InKvWIdeal.τ).loc Cert.InKvWIdeal.main_arg0)
      ∧ m' ((c.tc : Thread Cert.InKvWRefIdeal.nD Cert.InKvWRefIdeal.τ).loc Cert.InKvWRefIdeal.main_arg1) = m ((c.tc : Thread Cert.InKvWIdeal.nD Cert.InKvWIdeal.τ).loc Cert.InKvWIdeal.main_arg1)
      ∧ m' ((c.tc : Thread Cert.InKvWRefIdeal.nD Cert.InKvWRefIdeal.τ).loc Cert.InKvWRefIdeal.main_arg2) = m ((c.tc : Thread Cert.InKvWIdeal.nD Cert.InKvWIdeal.τ).loc Cert.InKvWIdeal.main_arg2)) →
    ∃ (v0 : (c : Dev Cert.InKvWIdeal.nD) → Buf (Elt Ideal) ((c.tc : Thread Cert.InKvWIdeal.nD Cert.InKvWIdeal.τ).loc Cert.InKvWIdeal.main_v1)),
      θ_run (Cert.InKvWIdeal.defs (F := Ideal)) (onTc (τ := Cert.InKvWIdeal.τ) (Cert.InKvWIdeal.main (F := Ideal))) ⟨m, fun _ => 0, g⟩ (fun r => ∀ c : Dev Cert.InKvWIdeal.nD,
          r.2.mem ((c.tc : Thread Cert.InKvWIdeal.nD Cert.InKvWIdeal.τ).loc Cert.InKvWIdeal.main_v1) = v0 c
          ∧ r.2.mem ((c.tc : Thread Cert.InKvWIdeal.nD Cert.InKvWIdeal.τ).loc Cert.InKvWIdeal.main_arg0) = m ((c.tc : Thread Cert.InKvWIdeal.nD Cert.InKvWIdeal.τ).loc Cert.InKvWIdeal.main_arg0)
          ∧ r.2.mem ((c.tc : Thread Cert.InKvWIdeal.nD Cert.InKvWIdeal.τ).loc Cert.InKvWIdeal.main_arg1) = m ((c.tc : Thread Cert.InKvWIdeal.nD Cert.InKvWIdeal.τ).loc Cert.InKvWIdeal.main_arg1)
          ∧ r.2.mem ((c.tc : Thread Cert.InKvWIdeal.nD Cert.InKvWIdeal.τ).loc Cert.InKvWIdeal.main_arg2) = m ((c.tc : Thread Cert.InKvWIdeal.nD Cert.InKvWIdeal.τ).loc Cert.InKvWIdeal.main_arg2))
      ∧ θ_run (Cert.InKvWRefIdeal.defs (F := Ideal)) (onTc (τ := Cert.InKvWRefIdeal.τ) (Cert.InKvWRefIdeal.main (F := Ideal))) ⟨m', fun _ => 0, g'⟩ (fun r => ∀ c : Dev Cert.InKvWRefIdeal.nD,
          r.2.mem ((c.tc : Thread Cert.InKvWRefIdeal.nD Cert.InKvWRefIdeal.τ).loc Cert.InKvWRefIdeal.main_v4) = v0 c
          ∧ r.2.mem ((c.tc : Thread Cert.InKvWRefIdeal.nD Cert.InKvWRefIdeal.τ).loc Cert.InKvWRefIdeal.main_arg0) = m' ((c.tc : Thread Cert.InKvWRefIdeal.nD Cert.InKvWRefIdeal.τ).loc Cert.InKvWRefIdeal.main_arg0)
          ∧ r.2.mem ((c.tc : Thread Cert.InKvWRefIdeal.nD Cert.InKvWRefIdeal.τ).loc Cert.InKvWRefIdeal.main_arg1) = m' ((c.tc : Thread Cert.InKvWRefIdeal.nD Cert.InKvWRefIdeal.τ).loc Cert.InKvWRefIdeal.main_arg1)
          ∧ r.2.mem ((c.tc : Thread Cert.InKvWRefIdeal.nD Cert.InKvWRefIdeal.τ).loc Cert.InKvWRefIdeal.main_arg2) = m' ((c.tc : Thread Cert.InKvWRefIdeal.nD Cert.InKvWRefIdeal.τ).loc Cert.InKvWRefIdeal.main_arg2))

def preserves_InCqW_InCqWIdeal : Prop :=
  True

def algebraic_InCqWIdeal_InCqWRefIdeal [hInCqWIdeal : Cert.InCqWIdeal.Facts] [hInCqWRefIdeal : Cert.InCqWRefIdeal.Facts] : Prop :=
  ∀ (m : (ℓ : Loc Cert.InCqWIdeal.nD Cert.InCqWIdeal.τ Cert.InCqWIdeal.sig) → Buf (Elt Ideal) ℓ) (g : Dev Cert.InCqWIdeal.nD → PrngReg)
    (m' : (ℓ : Loc Cert.InCqWRefIdeal.nD Cert.InCqWRefIdeal.τ Cert.InCqWRefIdeal.sig) → Buf (Elt Ideal) ℓ) (g' : Dev Cert.InCqWRefIdeal.nD → PrngReg), Pre_InCqWIdeal m →
    (∀ c : Dev Cert.InCqWIdeal.nD,
      m' ((c.tc : Thread Cert.InCqWRefIdeal.nD Cert.InCqWRefIdeal.τ).loc Cert.InCqWRefIdeal.main_arg0) = m ((c.tc : Thread Cert.InCqWIdeal.nD Cert.InCqWIdeal.τ).loc Cert.InCqWIdeal.main_arg0)
      ∧ m' ((c.tc : Thread Cert.InCqWRefIdeal.nD Cert.InCqWRefIdeal.τ).loc Cert.InCqWRefIdeal.main_arg1) = m ((c.tc : Thread Cert.InCqWIdeal.nD Cert.InCqWIdeal.τ).loc Cert.InCqWIdeal.main_arg1)
      ∧ m' ((c.tc : Thread Cert.InCqWRefIdeal.nD Cert.InCqWRefIdeal.τ).loc Cert.InCqWRefIdeal.main_arg2) = m ((c.tc : Thread Cert.InCqWIdeal.nD Cert.InCqWIdeal.τ).loc Cert.InCqWIdeal.main_arg2)) →
    ∃ (v0 : (c : Dev Cert.InCqWIdeal.nD) → Buf (Elt Ideal) ((c.tc : Thread Cert.InCqWIdeal.nD Cert.InCqWIdeal.τ).loc Cert.InCqWIdeal.main_v1)),
      θ_run (Cert.InCqWIdeal.defs (F := Ideal)) (onTc (τ := Cert.InCqWIdeal.τ) (Cert.InCqWIdeal.main (F := Ideal))) ⟨m, fun _ => 0, g⟩ (fun r => ∀ c : Dev Cert.InCqWIdeal.nD,
          r.2.mem ((c.tc : Thread Cert.InCqWIdeal.nD Cert.InCqWIdeal.τ).loc Cert.InCqWIdeal.main_v1) = v0 c
          ∧ r.2.mem ((c.tc : Thread Cert.InCqWIdeal.nD Cert.InCqWIdeal.τ).loc Cert.InCqWIdeal.main_arg0) = m ((c.tc : Thread Cert.InCqWIdeal.nD Cert.InCqWIdeal.τ).loc Cert.InCqWIdeal.main_arg0)
          ∧ r.2.mem ((c.tc : Thread Cert.InCqWIdeal.nD Cert.InCqWIdeal.τ).loc Cert.InCqWIdeal.main_arg1) = m ((c.tc : Thread Cert.InCqWIdeal.nD Cert.InCqWIdeal.τ).loc Cert.InCqWIdeal.main_arg1)
          ∧ r.2.mem ((c.tc : Thread Cert.InCqWIdeal.nD Cert.InCqWIdeal.τ).loc Cert.InCqWIdeal.main_arg2) = m ((c.tc : Thread Cert.InCqWIdeal.nD Cert.InCqWIdeal.τ).loc Cert.InCqWIdeal.main_arg2))
      ∧ θ_run (Cert.InCqWRefIdeal.defs (F := Ideal)) (onTc (τ := Cert.InCqWRefIdeal.τ) (Cert.InCqWRefIdeal.main (F := Ideal))) ⟨m', fun _ => 0, g'⟩ (fun r => ∀ c : Dev Cert.InCqWRefIdeal.nD,
          r.2.mem ((c.tc : Thread Cert.InCqWRefIdeal.nD Cert.InCqWRefIdeal.τ).loc Cert.InCqWRefIdeal.main_v4) = v0 c
          ∧ r.2.mem ((c.tc : Thread Cert.InCqWRefIdeal.nD Cert.InCqWRefIdeal.τ).loc Cert.InCqWRefIdeal.main_arg0) = m' ((c.tc : Thread Cert.InCqWRefIdeal.nD Cert.InCqWRefIdeal.τ).loc Cert.InCqWRefIdeal.main_arg0)
          ∧ r.2.mem ((c.tc : Thread Cert.InCqWRefIdeal.nD Cert.InCqWRefIdeal.τ).loc Cert.InCqWRefIdeal.main_arg1) = m' ((c.tc : Thread Cert.InCqWRefIdeal.nD Cert.InCqWRefIdeal.τ).loc Cert.InCqWRefIdeal.main_arg1)
          ∧ r.2.mem ((c.tc : Thread Cert.InCqWRefIdeal.nD Cert.InCqWRefIdeal.τ).loc Cert.InCqWRefIdeal.main_arg2) = m' ((c.tc : Thread Cert.InCqWRefIdeal.nD Cert.InCqWRefIdeal.τ).loc Cert.InCqWRefIdeal.main_arg2))

def preserves_InKrW_InKrWIdeal : Prop :=
  True

def algebraic_InKrWIdeal_InKrWRefIdeal [hInKrWIdeal : Cert.InKrWIdeal.Facts] [hInKrWRefIdeal : Cert.InKrWRefIdeal.Facts] : Prop :=
  ∀ (m : (ℓ : Loc Cert.InKrWIdeal.nD Cert.InKrWIdeal.τ Cert.InKrWIdeal.sig) → Buf (Elt Ideal) ℓ) (g : Dev Cert.InKrWIdeal.nD → PrngReg)
    (m' : (ℓ : Loc Cert.InKrWRefIdeal.nD Cert.InKrWRefIdeal.τ Cert.InKrWRefIdeal.sig) → Buf (Elt Ideal) ℓ) (g' : Dev Cert.InKrWRefIdeal.nD → PrngReg), Pre_InKrWIdeal m →
    (∀ c : Dev Cert.InKrWIdeal.nD,
      m' ((c.tc : Thread Cert.InKrWRefIdeal.nD Cert.InKrWRefIdeal.τ).loc Cert.InKrWRefIdeal.main_arg0) = m ((c.tc : Thread Cert.InKrWIdeal.nD Cert.InKrWIdeal.τ).loc Cert.InKrWIdeal.main_arg0)
      ∧ m' ((c.tc : Thread Cert.InKrWRefIdeal.nD Cert.InKrWRefIdeal.τ).loc Cert.InKrWRefIdeal.main_arg1) = m ((c.tc : Thread Cert.InKrWIdeal.nD Cert.InKrWIdeal.τ).loc Cert.InKrWIdeal.main_arg1)
      ∧ m' ((c.tc : Thread Cert.InKrWRefIdeal.nD Cert.InKrWRefIdeal.τ).loc Cert.InKrWRefIdeal.main_arg2) = m ((c.tc : Thread Cert.InKrWIdeal.nD Cert.InKrWIdeal.τ).loc Cert.InKrWIdeal.main_arg2)) →
    ∃ (v0 : (c : Dev Cert.InKrWIdeal.nD) → Buf (Elt Ideal) ((c.tc : Thread Cert.InKrWIdeal.nD Cert.InKrWIdeal.τ).loc Cert.InKrWIdeal.main_v1)),
      θ_run (Cert.InKrWIdeal.defs (F := Ideal)) (onTc (τ := Cert.InKrWIdeal.τ) (Cert.InKrWIdeal.main (F := Ideal))) ⟨m, fun _ => 0, g⟩ (fun r => ∀ c : Dev Cert.InKrWIdeal.nD,
          r.2.mem ((c.tc : Thread Cert.InKrWIdeal.nD Cert.InKrWIdeal.τ).loc Cert.InKrWIdeal.main_v1) = v0 c
          ∧ r.2.mem ((c.tc : Thread Cert.InKrWIdeal.nD Cert.InKrWIdeal.τ).loc Cert.InKrWIdeal.main_arg0) = m ((c.tc : Thread Cert.InKrWIdeal.nD Cert.InKrWIdeal.τ).loc Cert.InKrWIdeal.main_arg0)
          ∧ r.2.mem ((c.tc : Thread Cert.InKrWIdeal.nD Cert.InKrWIdeal.τ).loc Cert.InKrWIdeal.main_arg1) = m ((c.tc : Thread Cert.InKrWIdeal.nD Cert.InKrWIdeal.τ).loc Cert.InKrWIdeal.main_arg1)
          ∧ r.2.mem ((c.tc : Thread Cert.InKrWIdeal.nD Cert.InKrWIdeal.τ).loc Cert.InKrWIdeal.main_arg2) = m ((c.tc : Thread Cert.InKrWIdeal.nD Cert.InKrWIdeal.τ).loc Cert.InKrWIdeal.main_arg2))
      ∧ θ_run (Cert.InKrWRefIdeal.defs (F := Ideal)) (onTc (τ := Cert.InKrWRefIdeal.τ) (Cert.InKrWRefIdeal.main (F := Ideal))) ⟨m', fun _ => 0, g'⟩ (fun r => ∀ c : Dev Cert.InKrWRefIdeal.nD,
          r.2.mem ((c.tc : Thread Cert.InKrWRefIdeal.nD Cert.InKrWRefIdeal.τ).loc Cert.InKrWRefIdeal.main_v4) = v0 c
          ∧ r.2.mem ((c.tc : Thread Cert.InKrWRefIdeal.nD Cert.InKrWRefIdeal.τ).loc Cert.InKrWRefIdeal.main_arg0) = m' ((c.tc : Thread Cert.InKrWRefIdeal.nD Cert.InKrWRefIdeal.τ).loc Cert.InKrWRefIdeal.main_arg0)
          ∧ r.2.mem ((c.tc : Thread Cert.InKrWRefIdeal.nD Cert.InKrWRefIdeal.τ).loc Cert.InKrWRefIdeal.main_arg1) = m' ((c.tc : Thread Cert.InKrWRefIdeal.nD Cert.InKrWRefIdeal.τ).loc Cert.InKrWRefIdeal.main_arg1)
          ∧ r.2.mem ((c.tc : Thread Cert.InKrWRefIdeal.nD Cert.InKrWRefIdeal.τ).loc Cert.InKrWRefIdeal.main_arg2) = m' ((c.tc : Thread Cert.InKrWRefIdeal.nD Cert.InKrWRefIdeal.τ).loc Cert.InKrWRefIdeal.main_arg2))

def preserves_UqX_UqXIdeal : Prop :=
  True

def algebraic_UqXIdeal_UqXRefIdeal [hUqXIdeal : Cert.UqXIdeal.Facts] [hUqXRefIdeal : Cert.UqXRefIdeal.Facts] : Prop :=
  ∀ (m : (ℓ : Loc Cert.UqXIdeal.nD Cert.UqXIdeal.τ Cert.UqXIdeal.sig) → Buf (Elt Ideal) ℓ) (g : Dev Cert.UqXIdeal.nD → PrngReg)
    (m' : (ℓ : Loc Cert.UqXRefIdeal.nD Cert.UqXRefIdeal.τ Cert.UqXRefIdeal.sig) → Buf (Elt Ideal) ℓ) (g' : Dev Cert.UqXRefIdeal.nD → PrngReg), Pre_UqXIdeal m →
    (∀ c : Dev Cert.UqXIdeal.nD,
      m' ((c.tc : Thread Cert.UqXRefIdeal.nD Cert.UqXRefIdeal.τ).loc Cert.UqXRefIdeal.main_arg0) = m ((c.tc : Thread Cert.UqXIdeal.nD Cert.UqXIdeal.τ).loc Cert.UqXIdeal.main_arg0)
      ∧ m' ((c.tc : Thread Cert.UqXRefIdeal.nD Cert.UqXRefIdeal.τ).loc Cert.UqXRefIdeal.main_arg1) = m ((c.tc : Thread Cert.UqXIdeal.nD Cert.UqXIdeal.τ).loc Cert.UqXIdeal.main_arg1)
      ∧ m' ((c.tc : Thread Cert.UqXRefIdeal.nD Cert.UqXRefIdeal.τ).loc Cert.UqXRefIdeal.main_arg2) = m ((c.tc : Thread Cert.UqXIdeal.nD Cert.UqXIdeal.τ).loc Cert.UqXIdeal.main_arg2)) →
    ∃ (v0 : (c : Dev Cert.UqXIdeal.nD) → Buf (Elt Ideal) ((c.tc : Thread Cert.UqXIdeal.nD Cert.UqXIdeal.τ).loc Cert.UqXIdeal.main_v2)),
      θ_run (Cert.UqXIdeal.defs (F := Ideal)) (onTc (τ := Cert.UqXIdeal.τ) (Cert.UqXIdeal.main (F := Ideal))) ⟨m, fun _ => 0, g⟩ (fun r => ∀ c : Dev Cert.UqXIdeal.nD,
          r.2.mem ((c.tc : Thread Cert.UqXIdeal.nD Cert.UqXIdeal.τ).loc Cert.UqXIdeal.main_v2) = v0 c
          ∧ r.2.mem ((c.tc : Thread Cert.UqXIdeal.nD Cert.UqXIdeal.τ).loc Cert.UqXIdeal.main_arg0) = m ((c.tc : Thread Cert.UqXIdeal.nD Cert.UqXIdeal.τ).loc Cert.UqXIdeal.main_arg0)
          ∧ r.2.mem ((c.tc : Thread Cert.UqXIdeal.nD Cert.UqXIdeal.τ).loc Cert.UqXIdeal.main_arg1) = m ((c.tc : Thread Cert.UqXIdeal.nD Cert.UqXIdeal.τ).loc Cert.UqXIdeal.main_arg1)
          ∧ r.2.mem ((c.tc : Thread Cert.UqXIdeal.nD Cert.UqXIdeal.τ).loc Cert.UqXIdeal.main_arg2) = m ((c.tc : Thread Cert.UqXIdeal.nD Cert.UqXIdeal.τ).loc Cert.UqXIdeal.main_arg2))
      ∧ θ_run (Cert.UqXRefIdeal.defs (F := Ideal)) (onTc (τ := Cert.UqXRefIdeal.τ) (Cert.UqXRefIdeal.main (F := Ideal))) ⟨m', fun _ => 0, g'⟩ (fun r => ∀ c : Dev Cert.UqXRefIdeal.nD,
          r.2.mem ((c.tc : Thread Cert.UqXRefIdeal.nD Cert.UqXRefIdeal.τ).loc Cert.UqXRefIdeal.main_v1) = v0 c
          ∧ r.2.mem ((c.tc : Thread Cert.UqXRefIdeal.nD Cert.UqXRefIdeal.τ).loc Cert.UqXRefIdeal.main_arg0) = m' ((c.tc : Thread Cert.UqXRefIdeal.nD Cert.UqXRefIdeal.τ).loc Cert.UqXRefIdeal.main_arg0)
          ∧ r.2.mem ((c.tc : Thread Cert.UqXRefIdeal.nD Cert.UqXRefIdeal.τ).loc Cert.UqXRefIdeal.main_arg1) = m' ((c.tc : Thread Cert.UqXRefIdeal.nD Cert.UqXRefIdeal.τ).loc Cert.UqXRefIdeal.main_arg1)
          ∧ r.2.mem ((c.tc : Thread Cert.UqXRefIdeal.nD Cert.UqXRefIdeal.τ).loc Cert.UqXRefIdeal.main_arg2) = m' ((c.tc : Thread Cert.UqXRefIdeal.nD Cert.UqXRefIdeal.τ).loc Cert.UqXRefIdeal.main_arg2))

def preserves_UqW_UqWIdeal : Prop :=
  True

def algebraic_UqWIdeal_UqWRefIdeal [hUqWIdeal : Cert.UqWIdeal.Facts] [hUqWRefIdeal : Cert.UqWRefIdeal.Facts] : Prop :=
  ∀ (m : (ℓ : Loc Cert.UqWIdeal.nD Cert.UqWIdeal.τ Cert.UqWIdeal.sig) → Buf (Elt Ideal) ℓ) (g : Dev Cert.UqWIdeal.nD → PrngReg)
    (m' : (ℓ : Loc Cert.UqWRefIdeal.nD Cert.UqWRefIdeal.τ Cert.UqWRefIdeal.sig) → Buf (Elt Ideal) ℓ) (g' : Dev Cert.UqWRefIdeal.nD → PrngReg), Pre_UqWIdeal m →
    (∀ c : Dev Cert.UqWIdeal.nD,
      m' ((c.tc : Thread Cert.UqWRefIdeal.nD Cert.UqWRefIdeal.τ).loc Cert.UqWRefIdeal.main_arg0) = m ((c.tc : Thread Cert.UqWIdeal.nD Cert.UqWIdeal.τ).loc Cert.UqWIdeal.main_arg0)
      ∧ m' ((c.tc : Thread Cert.UqWRefIdeal.nD Cert.UqWRefIdeal.τ).loc Cert.UqWRefIdeal.main_arg1) = m ((c.tc : Thread Cert.UqWIdeal.nD Cert.UqWIdeal.τ).loc Cert.UqWIdeal.main_arg1)
      ∧ m' ((c.tc : Thread Cert.UqWRefIdeal.nD Cert.UqWRefIdeal.τ).loc Cert.UqWRefIdeal.main_arg2) = m ((c.tc : Thread Cert.UqWIdeal.nD Cert.UqWIdeal.τ).loc Cert.UqWIdeal.main_arg2)) →
    ∃ (v0 : (c : Dev Cert.UqWIdeal.nD) → Buf (Elt Ideal) ((c.tc : Thread Cert.UqWIdeal.nD Cert.UqWIdeal.τ).loc Cert.UqWIdeal.main_v1)),
      θ_run (Cert.UqWIdeal.defs (F := Ideal)) (onTc (τ := Cert.UqWIdeal.τ) (Cert.UqWIdeal.main (F := Ideal))) ⟨m, fun _ => 0, g⟩ (fun r => ∀ c : Dev Cert.UqWIdeal.nD,
          r.2.mem ((c.tc : Thread Cert.UqWIdeal.nD Cert.UqWIdeal.τ).loc Cert.UqWIdeal.main_v1) = v0 c
          ∧ r.2.mem ((c.tc : Thread Cert.UqWIdeal.nD Cert.UqWIdeal.τ).loc Cert.UqWIdeal.main_arg0) = m ((c.tc : Thread Cert.UqWIdeal.nD Cert.UqWIdeal.τ).loc Cert.UqWIdeal.main_arg0)
          ∧ r.2.mem ((c.tc : Thread Cert.UqWIdeal.nD Cert.UqWIdeal.τ).loc Cert.UqWIdeal.main_arg1) = m ((c.tc : Thread Cert.UqWIdeal.nD Cert.UqWIdeal.τ).loc Cert.UqWIdeal.main_arg1)
          ∧ r.2.mem ((c.tc : Thread Cert.UqWIdeal.nD Cert.UqWIdeal.τ).loc Cert.UqWIdeal.main_arg2) = m ((c.tc : Thread Cert.UqWIdeal.nD Cert.UqWIdeal.τ).loc Cert.UqWIdeal.main_arg2))
      ∧ θ_run (Cert.UqWRefIdeal.defs (F := Ideal)) (onTc (τ := Cert.UqWRefIdeal.τ) (Cert.UqWRefIdeal.main (F := Ideal))) ⟨m', fun _ => 0, g'⟩ (fun r => ∀ c : Dev Cert.UqWRefIdeal.nD,
          r.2.mem ((c.tc : Thread Cert.UqWRefIdeal.nD Cert.UqWRefIdeal.τ).loc Cert.UqWRefIdeal.main_v4) = v0 c
          ∧ r.2.mem ((c.tc : Thread Cert.UqWRefIdeal.nD Cert.UqWRefIdeal.τ).loc Cert.UqWRefIdeal.main_arg0) = m' ((c.tc : Thread Cert.UqWRefIdeal.nD Cert.UqWRefIdeal.τ).loc Cert.UqWRefIdeal.main_arg0)
          ∧ r.2.mem ((c.tc : Thread Cert.UqWRefIdeal.nD Cert.UqWRefIdeal.τ).loc Cert.UqWRefIdeal.main_arg1) = m' ((c.tc : Thread Cert.UqWRefIdeal.nD Cert.UqWRefIdeal.τ).loc Cert.UqWRefIdeal.main_arg1)
          ∧ r.2.mem ((c.tc : Thread Cert.UqWRefIdeal.nD Cert.UqWRefIdeal.τ).loc Cert.UqWRefIdeal.main_arg2) = m' ((c.tc : Thread Cert.UqWRefIdeal.nD Cert.UqWRefIdeal.τ).loc Cert.UqWRefIdeal.main_arg2))

def preserves_UkvX_UkvXIdeal : Prop :=
  True

def algebraic_UkvXIdeal_UkvXRefIdeal [hUkvXIdeal : Cert.UkvXIdeal.Facts] [hUkvXRefIdeal : Cert.UkvXRefIdeal.Facts] : Prop :=
  ∀ (m : (ℓ : Loc Cert.UkvXIdeal.nD Cert.UkvXIdeal.τ Cert.UkvXIdeal.sig) → Buf (Elt Ideal) ℓ) (g : Dev Cert.UkvXIdeal.nD → PrngReg)
    (m' : (ℓ : Loc Cert.UkvXRefIdeal.nD Cert.UkvXRefIdeal.τ Cert.UkvXRefIdeal.sig) → Buf (Elt Ideal) ℓ) (g' : Dev Cert.UkvXRefIdeal.nD → PrngReg), Pre_UkvXIdeal m →
    (∀ c : Dev Cert.UkvXIdeal.nD,
      m' ((c.tc : Thread Cert.UkvXRefIdeal.nD Cert.UkvXRefIdeal.τ).loc Cert.UkvXRefIdeal.main_arg0) = m ((c.tc : Thread Cert.UkvXIdeal.nD Cert.UkvXIdeal.τ).loc Cert.UkvXIdeal.main_arg0)
      ∧ m' ((c.tc : Thread Cert.UkvXRefIdeal.nD Cert.UkvXRefIdeal.τ).loc Cert.UkvXRefIdeal.main_arg1) = m ((c.tc : Thread Cert.UkvXIdeal.nD Cert.UkvXIdeal.τ).loc Cert.UkvXIdeal.main_arg1)
      ∧ m' ((c.tc : Thread Cert.UkvXRefIdeal.nD Cert.UkvXRefIdeal.τ).loc Cert.UkvXRefIdeal.main_arg2) = m ((c.tc : Thread Cert.UkvXIdeal.nD Cert.UkvXIdeal.τ).loc Cert.UkvXIdeal.main_arg2)
      ∧ m' ((c.tc : Thread Cert.UkvXRefIdeal.nD Cert.UkvXRefIdeal.τ).loc Cert.UkvXRefIdeal.main_arg3) = m ((c.tc : Thread Cert.UkvXIdeal.nD Cert.UkvXIdeal.τ).loc Cert.UkvXIdeal.main_arg3)
      ∧ m' ((c.tc : Thread Cert.UkvXRefIdeal.nD Cert.UkvXRefIdeal.τ).loc Cert.UkvXRefIdeal.main_arg4) = m ((c.tc : Thread Cert.UkvXIdeal.nD Cert.UkvXIdeal.τ).loc Cert.UkvXIdeal.main_arg4)) →
    ∃ (v0 : (c : Dev Cert.UkvXIdeal.nD) → Buf (Elt Ideal) ((c.tc : Thread Cert.UkvXIdeal.nD Cert.UkvXIdeal.τ).loc Cert.UkvXIdeal.main_v4)),
      θ_run (Cert.UkvXIdeal.defs (F := Ideal)) (onTc (τ := Cert.UkvXIdeal.τ) (Cert.UkvXIdeal.main (F := Ideal))) ⟨m, fun _ => 0, g⟩ (fun r => ∀ c : Dev Cert.UkvXIdeal.nD,
          r.2.mem ((c.tc : Thread Cert.UkvXIdeal.nD Cert.UkvXIdeal.τ).loc Cert.UkvXIdeal.main_v4) = v0 c
          ∧ r.2.mem ((c.tc : Thread Cert.UkvXIdeal.nD Cert.UkvXIdeal.τ).loc Cert.UkvXIdeal.main_arg0) = m ((c.tc : Thread Cert.UkvXIdeal.nD Cert.UkvXIdeal.τ).loc Cert.UkvXIdeal.main_arg0)
          ∧ r.2.mem ((c.tc : Thread Cert.UkvXIdeal.nD Cert.UkvXIdeal.τ).loc Cert.UkvXIdeal.main_arg1) = m ((c.tc : Thread Cert.UkvXIdeal.nD Cert.UkvXIdeal.τ).loc Cert.UkvXIdeal.main_arg1)
          ∧ r.2.mem ((c.tc : Thread Cert.UkvXIdeal.nD Cert.UkvXIdeal.τ).loc Cert.UkvXIdeal.main_arg2) = m ((c.tc : Thread Cert.UkvXIdeal.nD Cert.UkvXIdeal.τ).loc Cert.UkvXIdeal.main_arg2)
          ∧ r.2.mem ((c.tc : Thread Cert.UkvXIdeal.nD Cert.UkvXIdeal.τ).loc Cert.UkvXIdeal.main_arg3) = m ((c.tc : Thread Cert.UkvXIdeal.nD Cert.UkvXIdeal.τ).loc Cert.UkvXIdeal.main_arg3)
          ∧ r.2.mem ((c.tc : Thread Cert.UkvXIdeal.nD Cert.UkvXIdeal.τ).loc Cert.UkvXIdeal.main_arg4) = m ((c.tc : Thread Cert.UkvXIdeal.nD Cert.UkvXIdeal.τ).loc Cert.UkvXIdeal.main_arg4))
      ∧ θ_run (Cert.UkvXRefIdeal.defs (F := Ideal)) (onTc (τ := Cert.UkvXRefIdeal.τ) (Cert.UkvXRefIdeal.main (F := Ideal))) ⟨m', fun _ => 0, g'⟩ (fun r => ∀ c : Dev Cert.UkvXRefIdeal.nD,
          r.2.mem ((c.tc : Thread Cert.UkvXRefIdeal.nD Cert.UkvXRefIdeal.τ).loc Cert.UkvXRefIdeal.main_v4) = v0 c
          ∧ r.2.mem ((c.tc : Thread Cert.UkvXRefIdeal.nD Cert.UkvXRefIdeal.τ).loc Cert.UkvXRefIdeal.main_arg0) = m' ((c.tc : Thread Cert.UkvXRefIdeal.nD Cert.UkvXRefIdeal.τ).loc Cert.UkvXRefIdeal.main_arg0)
          ∧ r.2.mem ((c.tc : Thread Cert.UkvXRefIdeal.nD Cert.UkvXRefIdeal.τ).loc Cert.UkvXRefIdeal.main_arg1) = m' ((c.tc : Thread Cert.UkvXRefIdeal.nD Cert.UkvXRefIdeal.τ).loc Cert.UkvXRefIdeal.main_arg1)
          ∧ r.2.mem ((c.tc : Thread Cert.UkvXRefIdeal.nD Cert.UkvXRefIdeal.τ).loc Cert.UkvXRefIdeal.main_arg2) = m' ((c.tc : Thread Cert.UkvXRefIdeal.nD Cert.UkvXRefIdeal.τ).loc Cert.UkvXRefIdeal.main_arg2)
          ∧ r.2.mem ((c.tc : Thread Cert.UkvXRefIdeal.nD Cert.UkvXRefIdeal.τ).loc Cert.UkvXRefIdeal.main_arg3) = m' ((c.tc : Thread Cert.UkvXRefIdeal.nD Cert.UkvXRefIdeal.τ).loc Cert.UkvXRefIdeal.main_arg3)
          ∧ r.2.mem ((c.tc : Thread Cert.UkvXRefIdeal.nD Cert.UkvXRefIdeal.τ).loc Cert.UkvXRefIdeal.main_arg4) = m' ((c.tc : Thread Cert.UkvXRefIdeal.nD Cert.UkvXRefIdeal.τ).loc Cert.UkvXRefIdeal.main_arg4))

def preserves_UkvW_UkvWIdeal : Prop :=
  True

def algebraic_UkvWIdeal_UkvWRefIdeal [hUkvWIdeal : Cert.UkvWIdeal.Facts] [hUkvWRefIdeal : Cert.UkvWRefIdeal.Facts] : Prop :=
  ∀ (m : (ℓ : Loc Cert.UkvWIdeal.nD Cert.UkvWIdeal.τ Cert.UkvWIdeal.sig) → Buf (Elt Ideal) ℓ) (g : Dev Cert.UkvWIdeal.nD → PrngReg)
    (m' : (ℓ : Loc Cert.UkvWRefIdeal.nD Cert.UkvWRefIdeal.τ Cert.UkvWRefIdeal.sig) → Buf (Elt Ideal) ℓ) (g' : Dev Cert.UkvWRefIdeal.nD → PrngReg), Pre_UkvWIdeal m →
    (∀ c : Dev Cert.UkvWIdeal.nD,
      m' ((c.tc : Thread Cert.UkvWRefIdeal.nD Cert.UkvWRefIdeal.τ).loc Cert.UkvWRefIdeal.main_arg0) = m ((c.tc : Thread Cert.UkvWIdeal.nD Cert.UkvWIdeal.τ).loc Cert.UkvWIdeal.main_arg0)
      ∧ m' ((c.tc : Thread Cert.UkvWRefIdeal.nD Cert.UkvWRefIdeal.τ).loc Cert.UkvWRefIdeal.main_arg1) = m ((c.tc : Thread Cert.UkvWIdeal.nD Cert.UkvWIdeal.τ).loc Cert.UkvWIdeal.main_arg1)
      ∧ m' ((c.tc : Thread Cert.UkvWRefIdeal.nD Cert.UkvWRefIdeal.τ).loc Cert.UkvWRefIdeal.main_arg2) = m ((c.tc : Thread Cert.UkvWIdeal.nD Cert.UkvWIdeal.τ).loc Cert.UkvWIdeal.main_arg2)) →
    ∃ (v0 : (c : Dev Cert.UkvWIdeal.nD) → Buf (Elt Ideal) ((c.tc : Thread Cert.UkvWIdeal.nD Cert.UkvWIdeal.τ).loc Cert.UkvWIdeal.main_v1)),
      θ_run (Cert.UkvWIdeal.defs (F := Ideal)) (onTc (τ := Cert.UkvWIdeal.τ) (Cert.UkvWIdeal.main (F := Ideal))) ⟨m, fun _ => 0, g⟩ (fun r => ∀ c : Dev Cert.UkvWIdeal.nD,
          r.2.mem ((c.tc : Thread Cert.UkvWIdeal.nD Cert.UkvWIdeal.τ).loc Cert.UkvWIdeal.main_v1) = v0 c
          ∧ r.2.mem ((c.tc : Thread Cert.UkvWIdeal.nD Cert.UkvWIdeal.τ).loc Cert.UkvWIdeal.main_arg0) = m ((c.tc : Thread Cert.UkvWIdeal.nD Cert.UkvWIdeal.τ).loc Cert.UkvWIdeal.main_arg0)
          ∧ r.2.mem ((c.tc : Thread Cert.UkvWIdeal.nD Cert.UkvWIdeal.τ).loc Cert.UkvWIdeal.main_arg1) = m ((c.tc : Thread Cert.UkvWIdeal.nD Cert.UkvWIdeal.τ).loc Cert.UkvWIdeal.main_arg1)
          ∧ r.2.mem ((c.tc : Thread Cert.UkvWIdeal.nD Cert.UkvWIdeal.τ).loc Cert.UkvWIdeal.main_arg2) = m ((c.tc : Thread Cert.UkvWIdeal.nD Cert.UkvWIdeal.τ).loc Cert.UkvWIdeal.main_arg2))
      ∧ θ_run (Cert.UkvWRefIdeal.defs (F := Ideal)) (onTc (τ := Cert.UkvWRefIdeal.τ) (Cert.UkvWRefIdeal.main (F := Ideal))) ⟨m', fun _ => 0, g'⟩ (fun r => ∀ c : Dev Cert.UkvWRefIdeal.nD,
          r.2.mem ((c.tc : Thread Cert.UkvWRefIdeal.nD Cert.UkvWRefIdeal.τ).loc Cert.UkvWRefIdeal.main_v4) = v0 c
          ∧ r.2.mem ((c.tc : Thread Cert.UkvWRefIdeal.nD Cert.UkvWRefIdeal.τ).loc Cert.UkvWRefIdeal.main_arg0) = m' ((c.tc : Thread Cert.UkvWRefIdeal.nD Cert.UkvWRefIdeal.τ).loc Cert.UkvWRefIdeal.main_arg0)
          ∧ r.2.mem ((c.tc : Thread Cert.UkvWRefIdeal.nD Cert.UkvWRefIdeal.τ).loc Cert.UkvWRefIdeal.main_arg1) = m' ((c.tc : Thread Cert.UkvWRefIdeal.nD Cert.UkvWRefIdeal.τ).loc Cert.UkvWRefIdeal.main_arg1)
          ∧ r.2.mem ((c.tc : Thread Cert.UkvWRefIdeal.nD Cert.UkvWRefIdeal.τ).loc Cert.UkvWRefIdeal.main_arg2) = m' ((c.tc : Thread Cert.UkvWRefIdeal.nD Cert.UkvWRefIdeal.τ).loc Cert.UkvWRefIdeal.main_arg2))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v6_0)) (v1 : (c : Dev Cert.UkvIdeal.nD) → Buf (Elt Ideal) ((c.tc : Thread Cert.UkvIdeal.nD Cert.UkvIdeal.τ).loc Cert.UkvIdeal.main_v6_1)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v6_0) = v0 c
          ∧ r.2.mem ((c.tc : Thread Cert.UkvIdeal.nD Cert.UkvIdeal.τ).loc Cert.UkvIdeal.main_v6_1) = v1 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v0) = v0 c
          ∧ r.2.mem ((c.tc : Thread Cert.UkvRefIdeal.nD Cert.UkvRefIdeal.τ).loc Cert.UkvRefIdeal.main_v5) = v1 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v34_0)) (v1 : (c : Dev Cert.QkvIdeal.nD) → Buf (Elt Ideal) ((c.tc : Thread Cert.QkvIdeal.nD Cert.QkvIdeal.τ).loc Cert.QkvIdeal.main_v34_1)) (v2 : (c : Dev Cert.QkvIdeal.nD) → Buf (Elt Ideal) ((c.tc : Thread Cert.QkvIdeal.nD Cert.QkvIdeal.τ).loc Cert.QkvIdeal.main_v34_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v34_0) = v0 c
          ∧ r.2.mem ((c.tc : Thread Cert.QkvIdeal.nD Cert.QkvIdeal.τ).loc Cert.QkvIdeal.main_v34_1) = v1 c
          ∧ r.2.mem ((c.tc : Thread Cert.QkvIdeal.nD Cert.QkvIdeal.τ).loc Cert.QkvIdeal.main_v34_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v38) = v0 c
          ∧ r.2.mem ((c.tc : Thread Cert.QkvRefIdeal.nD Cert.QkvRefIdeal.τ).loc Cert.QkvRefIdeal.main_v72) = v1 c
          ∧ r.2.mem ((c.tc : Thread Cert.QkvRefIdeal.nD Cert.QkvRefIdeal.τ).loc Cert.QkvRefIdeal.main_v73) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v37_0)) (v1 : (c : Dev Cert.InIdeal.nD) → Buf (Elt Ideal) ((c.tc : Thread Cert.InIdeal.nD Cert.InIdeal.τ).loc Cert.InIdeal.main_v37_1)) (v2 : (c : Dev Cert.InIdeal.nD) → Buf (Elt Ideal) ((c.tc : Thread Cert.InIdeal.nD Cert.InIdeal.τ).loc Cert.InIdeal.main_v37_2)) (v3 : (c : Dev Cert.InIdeal.nD) → Buf (Elt Ideal) ((c.tc : Thread Cert.InIdeal.nD Cert.InIdeal.τ).loc Cert.InIdeal.main_v37_3)) (v4 : (c : Dev Cert.InIdeal.nD) → Buf (Elt Ideal) ((c.tc : Thread Cert.InIdeal.nD Cert.InIdeal.τ).loc Cert.InIdeal.main_v37_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v37_0) = v0 c
          ∧ r.2.mem ((c.tc : Thread Cert.InIdeal.nD Cert.InIdeal.τ).loc Cert.InIdeal.main_v37_1) = v1 c
          ∧ r.2.mem ((c.tc : Thread Cert.InIdeal.nD Cert.InIdeal.τ).loc Cert.InIdeal.main_v37_2) = v2 c
          ∧ r.2.mem ((c.tc : Thread Cert.InIdeal.nD Cert.InIdeal.τ).loc Cert.InIdeal.main_v37_3) = v3 c
          ∧ r.2.mem ((c.tc : Thread Cert.InIdeal.nD Cert.InIdeal.τ).loc Cert.InIdeal.main_v37_4) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v41) = v0 c
          ∧ r.2.mem ((c.tc : Thread Cert.InRefIdeal.nD Cert.InRefIdeal.τ).loc Cert.InRefIdeal.main_v42) = v1 c
          ∧ r.2.mem ((c.tc : Thread Cert.InRefIdeal.nD Cert.InRefIdeal.τ).loc Cert.InRefIdeal.main_v4) = v2 c
          ∧ r.2.mem ((c.tc : Thread Cert.InRefIdeal.nD Cert.InRefIdeal.τ).loc Cert.InRefIdeal.main_v5) = v3 c
          ∧ r.2.mem ((c.tc : Thread Cert.InRefIdeal.nD Cert.InRefIdeal.τ).loc Cert.InRefIdeal.main_v45) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)
      ∧ m' ((c.tc : Thread Cert.UqRefIdeal.nD Cert.UqRefIdeal.τ).loc Cert.UqRefIdeal.main_arg2) = m ((c.tc : Thread Cert.UqIdeal.nD Cert.UqIdeal.τ).loc Cert.UqIdeal.main_arg2)) →
    ∃ (v0 : (c : Dev Cert.UqIdeal.nD) → Buf (Elt Ideal) ((c.tc : Thread Cert.UqIdeal.nD Cert.UqIdeal.τ).loc Cert.UqIdeal.main_v34)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v34) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
          ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v39) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1)
          ∧ r.2.mem ((c.tc : Thread Cert.UqRefIdeal.nD Cert.UqRefIdeal.τ).loc Cert.UqRefIdeal.main_arg2) = m' ((c.tc : Thread Cert.UqRefIdeal.nD Cert.UqRefIdeal.τ).loc Cert.UqRefIdeal.main_arg2))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v2)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v2) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v0) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_XkvX_XkvXIdeal : Prop :=
  True

def algebraic_XkvXIdeal_XkvXRefIdeal [hXkvXIdeal : Cert.XkvXIdeal.Facts] [hXkvXRefIdeal : Cert.XkvXRefIdeal.Facts] : Prop :=
  ∀ (m : (ℓ : Loc Cert.XkvXIdeal.nD Cert.XkvXIdeal.τ Cert.XkvXIdeal.sig) → Buf (Elt Ideal) ℓ) (g : Dev Cert.XkvXIdeal.nD → PrngReg)
    (m' : (ℓ : Loc Cert.XkvXRefIdeal.nD Cert.XkvXRefIdeal.τ Cert.XkvXRefIdeal.sig) → Buf (Elt Ideal) ℓ) (g' : Dev Cert.XkvXRefIdeal.nD → PrngReg), Pre_XkvXIdeal m →
    (∀ c : Dev Cert.XkvXIdeal.nD,
      m' ((c.tc : Thread Cert.XkvXRefIdeal.nD Cert.XkvXRefIdeal.τ).loc Cert.XkvXRefIdeal.main_arg0) = m ((c.tc : Thread Cert.XkvXIdeal.nD Cert.XkvXIdeal.τ).loc Cert.XkvXIdeal.main_arg0)
      ∧ m' ((c.tc : Thread Cert.XkvXRefIdeal.nD Cert.XkvXRefIdeal.τ).loc Cert.XkvXRefIdeal.main_arg1) = m ((c.tc : Thread Cert.XkvXIdeal.nD Cert.XkvXIdeal.τ).loc Cert.XkvXIdeal.main_arg1)
      ∧ m' ((c.tc : Thread Cert.XkvXRefIdeal.nD Cert.XkvXRefIdeal.τ).loc Cert.XkvXRefIdeal.main_arg2) = m ((c.tc : Thread Cert.XkvXIdeal.nD Cert.XkvXIdeal.τ).loc Cert.XkvXIdeal.main_arg2)) →
    ∃ (v0 : (c : Dev Cert.XkvXIdeal.nD) → Buf (Elt Ideal) ((c.tc : Thread Cert.XkvXIdeal.nD Cert.XkvXIdeal.τ).loc Cert.XkvXIdeal.main_v1)),
      θ_run (Cert.XkvXIdeal.defs (F := Ideal)) (onTc (τ := Cert.XkvXIdeal.τ) (Cert.XkvXIdeal.main (F := Ideal))) ⟨m, fun _ => 0, g⟩ (fun r => ∀ c : Dev Cert.XkvXIdeal.nD,
          r.2.mem ((c.tc : Thread Cert.XkvXIdeal.nD Cert.XkvXIdeal.τ).loc Cert.XkvXIdeal.main_v1) = v0 c
          ∧ r.2.mem ((c.tc : Thread Cert.XkvXIdeal.nD Cert.XkvXIdeal.τ).loc Cert.XkvXIdeal.main_arg0) = m ((c.tc : Thread Cert.XkvXIdeal.nD Cert.XkvXIdeal.τ).loc Cert.XkvXIdeal.main_arg0)
          ∧ r.2.mem ((c.tc : Thread Cert.XkvXIdeal.nD Cert.XkvXIdeal.τ).loc Cert.XkvXIdeal.main_arg1) = m ((c.tc : Thread Cert.XkvXIdeal.nD Cert.XkvXIdeal.τ).loc Cert.XkvXIdeal.main_arg1)
          ∧ r.2.mem ((c.tc : Thread Cert.XkvXIdeal.nD Cert.XkvXIdeal.τ).loc Cert.XkvXIdeal.main_arg2) = m ((c.tc : Thread Cert.XkvXIdeal.nD Cert.XkvXIdeal.τ).loc Cert.XkvXIdeal.main_arg2))
      ∧ θ_run (Cert.XkvXRefIdeal.defs (F := Ideal)) (onTc (τ := Cert.XkvXRefIdeal.τ) (Cert.XkvXRefIdeal.main (F := Ideal))) ⟨m', fun _ => 0, g'⟩ (fun r => ∀ c : Dev Cert.XkvXRefIdeal.nD,
          r.2.mem ((c.tc : Thread Cert.XkvXRefIdeal.nD Cert.XkvXRefIdeal.τ).loc Cert.XkvXRefIdeal.main_v1) = v0 c
          ∧ r.2.mem ((c.tc : Thread Cert.XkvXRefIdeal.nD Cert.XkvXRefIdeal.τ).loc Cert.XkvXRefIdeal.main_arg0) = m' ((c.tc : Thread Cert.XkvXRefIdeal.nD Cert.XkvXRefIdeal.τ).loc Cert.XkvXRefIdeal.main_arg0)
          ∧ r.2.mem ((c.tc : Thread Cert.XkvXRefIdeal.nD Cert.XkvXRefIdeal.τ).loc Cert.XkvXRefIdeal.main_arg1) = m' ((c.tc : Thread Cert.XkvXRefIdeal.nD Cert.XkvXRefIdeal.τ).loc Cert.XkvXRefIdeal.main_arg1)
          ∧ r.2.mem ((c.tc : Thread Cert.XkvXRefIdeal.nD Cert.XkvXRefIdeal.τ).loc Cert.XkvXRefIdeal.main_arg2) = m' ((c.tc : Thread Cert.XkvXRefIdeal.nD Cert.XkvXRefIdeal.τ).loc Cert.XkvXRefIdeal.main_arg2))

def preserves_XkvW_XkvWIdeal : Prop :=
  True

def algebraic_XkvWIdeal_XkvWRefIdeal [hXkvWIdeal : Cert.XkvWIdeal.Facts] [hXkvWRefIdeal : Cert.XkvWRefIdeal.Facts] : Prop :=
  ∀ (m : (ℓ : Loc Cert.XkvWIdeal.nD Cert.XkvWIdeal.τ Cert.XkvWIdeal.sig) → Buf (Elt Ideal) ℓ) (g : Dev Cert.XkvWIdeal.nD → PrngReg)
    (m' : (ℓ : Loc Cert.XkvWRefIdeal.nD Cert.XkvWRefIdeal.τ Cert.XkvWRefIdeal.sig) → Buf (Elt Ideal) ℓ) (g' : Dev Cert.XkvWRefIdeal.nD → PrngReg), Pre_XkvWIdeal m →
    (∀ c : Dev Cert.XkvWIdeal.nD,
      m' ((c.tc : Thread Cert.XkvWRefIdeal.nD Cert.XkvWRefIdeal.τ).loc Cert.XkvWRefIdeal.main_arg0) = m ((c.tc : Thread Cert.XkvWIdeal.nD Cert.XkvWIdeal.τ).loc Cert.XkvWIdeal.main_arg0)
      ∧ m' ((c.tc : Thread Cert.XkvWRefIdeal.nD Cert.XkvWRefIdeal.τ).loc Cert.XkvWRefIdeal.main_arg1) = m ((c.tc : Thread Cert.XkvWIdeal.nD Cert.XkvWIdeal.τ).loc Cert.XkvWIdeal.main_arg1)
      ∧ m' ((c.tc : Thread Cert.XkvWRefIdeal.nD Cert.XkvWRefIdeal.τ).loc Cert.XkvWRefIdeal.main_arg2) = m ((c.tc : Thread Cert.XkvWIdeal.nD Cert.XkvWIdeal.τ).loc Cert.XkvWIdeal.main_arg2)) →
    ∃ (v0 : (c : Dev Cert.XkvWIdeal.nD) → Buf (Elt Ideal) ((c.tc : Thread Cert.XkvWIdeal.nD Cert.XkvWIdeal.τ).loc Cert.XkvWIdeal.main_v1)),
      θ_run (Cert.XkvWIdeal.defs (F := Ideal)) (onTc (τ := Cert.XkvWIdeal.τ) (Cert.XkvWIdeal.main (F := Ideal))) ⟨m, fun _ => 0, g⟩ (fun r => ∀ c : Dev Cert.XkvWIdeal.nD,
          r.2.mem ((c.tc : Thread Cert.XkvWIdeal.nD Cert.XkvWIdeal.τ).loc Cert.XkvWIdeal.main_v1) = v0 c
          ∧ r.2.mem ((c.tc : Thread Cert.XkvWIdeal.nD Cert.XkvWIdeal.τ).loc Cert.XkvWIdeal.main_arg0) = m ((c.tc : Thread Cert.XkvWIdeal.nD Cert.XkvWIdeal.τ).loc Cert.XkvWIdeal.main_arg0)
          ∧ r.2.mem ((c.tc : Thread Cert.XkvWIdeal.nD Cert.XkvWIdeal.τ).loc Cert.XkvWIdeal.main_arg1) = m ((c.tc : Thread Cert.XkvWIdeal.nD Cert.XkvWIdeal.τ).loc Cert.XkvWIdeal.main_arg1)
          ∧ r.2.mem ((c.tc : Thread Cert.XkvWIdeal.nD Cert.XkvWIdeal.τ).loc Cert.XkvWIdeal.main_arg2) = m ((c.tc : Thread Cert.XkvWIdeal.nD Cert.XkvWIdeal.τ).loc Cert.XkvWIdeal.main_arg2))
      ∧ θ_run (Cert.XkvWRefIdeal.defs (F := Ideal)) (onTc (τ := Cert.XkvWRefIdeal.τ) (Cert.XkvWRefIdeal.main (F := Ideal))) ⟨m', fun _ => 0, g'⟩ (fun r => ∀ c : Dev Cert.XkvWRefIdeal.nD,
          r.2.mem ((c.tc : Thread Cert.XkvWRefIdeal.nD Cert.XkvWRefIdeal.τ).loc Cert.XkvWRefIdeal.main_v3) = v0 c
          ∧ r.2.mem ((c.tc : Thread Cert.XkvWRefIdeal.nD Cert.XkvWRefIdeal.τ).loc Cert.XkvWRefIdeal.main_arg0) = m' ((c.tc : Thread Cert.XkvWRefIdeal.nD Cert.XkvWRefIdeal.τ).loc Cert.XkvWRefIdeal.main_arg0)
          ∧ r.2.mem ((c.tc : Thread Cert.XkvWRefIdeal.nD Cert.XkvWRefIdeal.τ).loc Cert.XkvWRefIdeal.main_arg1) = m' ((c.tc : Thread Cert.XkvWRefIdeal.nD Cert.XkvWRefIdeal.τ).loc Cert.XkvWRefIdeal.main_arg1)
          ∧ r.2.mem ((c.tc : Thread Cert.XkvWRefIdeal.nD Cert.XkvWRefIdeal.τ).loc Cert.XkvWRefIdeal.main_arg2) = m' ((c.tc : Thread Cert.XkvWRefIdeal.nD Cert.XkvWRefIdeal.τ).loc Cert.XkvWRefIdeal.main_arg2))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hAct : Cert.Act.Facts) (hActIdeal : Cert.ActIdeal.Facts) (hActRefIdeal : Cert.ActRefIdeal.Facts) (hDownW : Cert.DownW.Facts) (hDownWIdeal : Cert.DownWIdeal.Facts) (hDownWRefIdeal : Cert.DownWRefIdeal.Facts) (hGateW : Cert.GateW.Facts) (hGateWIdeal : Cert.GateWIdeal.Facts) (hGateWRefIdeal : Cert.GateWRefIdeal.Facts) (hGateX : Cert.GateX.Facts) (hGateXIdeal : Cert.GateXIdeal.Facts) (hGateXRefIdeal : Cert.GateXRefIdeal.Facts) (hUpX : Cert.UpX.Facts) (hUpXIdeal : Cert.UpXIdeal.Facts) (hUpXRefIdeal : Cert.UpXRefIdeal.Facts) (hOut : Cert.Out.Facts) (hOutIdeal : Cert.OutIdeal.Facts) (hOutRefIdeal : Cert.OutRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hOutA : Cert.OutA.Facts) (hOutAIdeal : Cert.OutAIdeal.Facts) (hOutARefIdeal : Cert.OutARefIdeal.Facts) (hOutAX : Cert.OutAX.Facts) (hOutAXIdeal : Cert.OutAXIdeal.Facts) (hOutAXRefIdeal : Cert.OutAXRefIdeal.Facts) (hOutAW : Cert.OutAW.Facts) (hOutAWIdeal : Cert.OutAWIdeal.Facts) (hOutAWRefIdeal : Cert.OutAWRefIdeal.Facts) (hXq : Cert.Xq.Facts) (hXqIdeal : Cert.XqIdeal.Facts) (hXqRefIdeal : Cert.XqRefIdeal.Facts) (hXqX : Cert.XqX.Facts) (hXqXIdeal : Cert.XqXIdeal.Facts) (hXqXRefIdeal : Cert.XqXRefIdeal.Facts) (hXqW : Cert.XqW.Facts) (hXqWIdeal : Cert.XqWIdeal.Facts) (hXqWRefIdeal : Cert.XqWRefIdeal.Facts) (hXo : Cert.Xo.Facts) (hXoIdeal : Cert.XoIdeal.Facts) (hXoRefIdeal : Cert.XoRefIdeal.Facts) (hXoX : Cert.XoX.Facts) (hXoXIdeal : Cert.XoXIdeal.Facts) (hXoXRefIdeal : Cert.XoXRefIdeal.Facts) (hXoW : Cert.XoW.Facts) (hXoWIdeal : Cert.XoWIdeal.Facts) (hXoWRefIdeal : Cert.XoWRefIdeal.Facts) (hQkvX : Cert.QkvX.Facts) (hQkvXIdeal : Cert.QkvXIdeal.Facts) (hQkvXRefIdeal : Cert.QkvXRefIdeal.Facts) (hQkvW : Cert.QkvW.Facts) (hQkvWIdeal : Cert.QkvWIdeal.Facts) (hQkvWRefIdeal : Cert.QkvWRefIdeal.Facts) (hInX : Cert.InX.Facts) (hInXIdeal : Cert.InXIdeal.Facts) (hInXRefIdeal : Cert.InXRefIdeal.Facts) (hInQW : Cert.InQW.Facts) (hInQWIdeal : Cert.InQWIdeal.Facts) (hInQWRefIdeal : Cert.InQWRefIdeal.Facts) (hInKvW : Cert.InKvW.Facts) (hInKvWIdeal : Cert.InKvWIdeal.Facts) (hInKvWRefIdeal : Cert.InKvWRefIdeal.Facts) (hInCqW : Cert.InCqW.Facts) (hInCqWIdeal : Cert.InCqWIdeal.Facts) (hInCqWRefIdeal : Cert.InCqWRefIdeal.Facts) (hInKrW : Cert.InKrW.Facts) (hInKrWIdeal : Cert.InKrWIdeal.Facts) (hInKrWRefIdeal : Cert.InKrWRefIdeal.Facts) (hUqX : Cert.UqX.Facts) (hUqXIdeal : Cert.UqXIdeal.Facts) (hUqXRefIdeal : Cert.UqXRefIdeal.Facts) (hUqW : Cert.UqW.Facts) (hUqWIdeal : Cert.UqWIdeal.Facts) (hUqWRefIdeal : Cert.UqWRefIdeal.Facts) (hUkvX : Cert.UkvX.Facts) (hUkvXIdeal : Cert.UkvXIdeal.Facts) (hUkvXRefIdeal : Cert.UkvXRefIdeal.Facts) (hUkvW : Cert.UkvW.Facts) (hUkvWIdeal : Cert.UkvWIdeal.Facts) (hUkvWRefIdeal : Cert.UkvWRefIdeal.Facts) (hUkv : Cert.Ukv.Facts) (hUkvIdeal : Cert.UkvIdeal.Facts) (hUkvRefIdeal : Cert.UkvRefIdeal.Facts) (hQkv : Cert.Qkv.Facts) (hQkvIdeal : Cert.QkvIdeal.Facts) (hQkvRefIdeal : Cert.QkvRefIdeal.Facts) (hIn : Cert.In.Facts) (hInIdeal : Cert.InIdeal.Facts) (hInRefIdeal : Cert.InRefIdeal.Facts) (hUq : Cert.Uq.Facts) (hUqIdeal : Cert.UqIdeal.Facts) (hUqRefIdeal : Cert.UqRefIdeal.Facts) (hXkv : Cert.Xkv.Facts) (hXkvIdeal : Cert.XkvIdeal.Facts) (hXkvRefIdeal : Cert.XkvRefIdeal.Facts) (hXkvX : Cert.XkvX.Facts) (hXkvXIdeal : Cert.XkvXIdeal.Facts) (hXkvXRefIdeal : Cert.XkvXRefIdeal.Facts) (hXkvW : Cert.XkvW.Facts) (hXkvWIdeal : Cert.XkvWIdeal.Facts) (hXkvWRefIdeal : Cert.XkvWRefIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_DownW (hDownW := hDownW)
    ∧ quiescent_DownWIdeal (hDownWIdeal := hDownWIdeal)
    ∧ quiescent_DownWRefIdeal (hDownWRefIdeal := hDownWRefIdeal)
    ∧ quiescent_GateW (hGateW := hGateW)
    ∧ quiescent_GateWIdeal (hGateWIdeal := hGateWIdeal)
    ∧ quiescent_GateWRefIdeal (hGateWRefIdeal := hGateWRefIdeal)
    ∧ quiescent_GateX (hGateX := hGateX)
    ∧ quiescent_GateXIdeal (hGateXIdeal := hGateXIdeal)
    ∧ quiescent_GateXRefIdeal (hGateXRefIdeal := hGateXRefIdeal)
    ∧ quiescent_UpX (hUpX := hUpX)
    ∧ quiescent_UpXIdeal (hUpXIdeal := hUpXIdeal)
    ∧ quiescent_UpXRefIdeal (hUpXRefIdeal := hUpXRefIdeal)
    ∧ quiescent_Out (hOut := hOut)
    ∧ quiescent_OutIdeal (hOutIdeal := hOutIdeal)
    ∧ quiescent_OutRefIdeal (hOutRefIdeal := hOutRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutA (hOutA := hOutA)
    ∧ quiescent_OutAIdeal (hOutAIdeal := hOutAIdeal)
    ∧ quiescent_OutARefIdeal (hOutARefIdeal := hOutARefIdeal)
    ∧ quiescent_OutAX (hOutAX := hOutAX)
    ∧ quiescent_OutAXIdeal (hOutAXIdeal := hOutAXIdeal)
    ∧ quiescent_OutAXRefIdeal (hOutAXRefIdeal := hOutAXRefIdeal)
    ∧ quiescent_OutAW (hOutAW := hOutAW)
    ∧ quiescent_OutAWIdeal (hOutAWIdeal := hOutAWIdeal)
    ∧ quiescent_OutAWRefIdeal (hOutAWRefIdeal := hOutAWRefIdeal)
    ∧ quiescent_Xq (hXq := hXq)
    ∧ quiescent_XqIdeal (hXqIdeal := hXqIdeal)
    ∧ quiescent_XqRefIdeal (hXqRefIdeal := hXqRefIdeal)
    ∧ quiescent_XqX (hXqX := hXqX)
    ∧ quiescent_XqXIdeal (hXqXIdeal := hXqXIdeal)
    ∧ quiescent_XqXRefIdeal (hXqXRefIdeal := hXqXRefIdeal)
    ∧ quiescent_XqW (hXqW := hXqW)
    ∧ quiescent_XqWIdeal (hXqWIdeal := hXqWIdeal)
    ∧ quiescent_XqWRefIdeal (hXqWRefIdeal := hXqWRefIdeal)
    ∧ quiescent_Xo (hXo := hXo)
    ∧ quiescent_XoIdeal (hXoIdeal := hXoIdeal)
    ∧ quiescent_XoRefIdeal (hXoRefIdeal := hXoRefIdeal)
    ∧ quiescent_XoX (hXoX := hXoX)
    ∧ quiescent_XoXIdeal (hXoXIdeal := hXoXIdeal)
    ∧ quiescent_XoXRefIdeal (hXoXRefIdeal := hXoXRefIdeal)
    ∧ quiescent_XoW (hXoW := hXoW)
    ∧ quiescent_XoWIdeal (hXoWIdeal := hXoWIdeal)
    ∧ quiescent_XoWRefIdeal (hXoWRefIdeal := hXoWRefIdeal)
    ∧ quiescent_QkvX (hQkvX := hQkvX)
    ∧ quiescent_QkvXIdeal (hQkvXIdeal := hQkvXIdeal)
    ∧ quiescent_QkvXRefIdeal (hQkvXRefIdeal := hQkvXRefIdeal)
    ∧ quiescent_QkvW (hQkvW := hQkvW)
    ∧ quiescent_QkvWIdeal (hQkvWIdeal := hQkvWIdeal)
    ∧ quiescent_QkvWRefIdeal (hQkvWRefIdeal := hQkvWRefIdeal)
    ∧ quiescent_InX (hInX := hInX)
    ∧ quiescent_InXIdeal (hInXIdeal := hInXIdeal)
    ∧ quiescent_InXRefIdeal (hInXRefIdeal := hInXRefIdeal)
    ∧ quiescent_InQW (hInQW := hInQW)
    ∧ quiescent_InQWIdeal (hInQWIdeal := hInQWIdeal)
    ∧ quiescent_InQWRefIdeal (hInQWRefIdeal := hInQWRefIdeal)
    ∧ quiescent_InKvW (hInKvW := hInKvW)
    ∧ quiescent_InKvWIdeal (hInKvWIdeal := hInKvWIdeal)
    ∧ quiescent_InKvWRefIdeal (hInKvWRefIdeal := hInKvWRefIdeal)
    ∧ quiescent_InCqW (hInCqW := hInCqW)
    ∧ quiescent_InCqWIdeal (hInCqWIdeal := hInCqWIdeal)
    ∧ quiescent_InCqWRefIdeal (hInCqWRefIdeal := hInCqWRefIdeal)
    ∧ quiescent_InKrW (hInKrW := hInKrW)
    ∧ quiescent_InKrWIdeal (hInKrWIdeal := hInKrWIdeal)
    ∧ quiescent_InKrWRefIdeal (hInKrWRefIdeal := hInKrWRefIdeal)
    ∧ quiescent_UqX (hUqX := hUqX)
    ∧ quiescent_UqXIdeal (hUqXIdeal := hUqXIdeal)
    ∧ quiescent_UqXRefIdeal (hUqXRefIdeal := hUqXRefIdeal)
    ∧ quiescent_UqW (hUqW := hUqW)
    ∧ quiescent_UqWIdeal (hUqWIdeal := hUqWIdeal)
    ∧ quiescent_UqWRefIdeal (hUqWRefIdeal := hUqWRefIdeal)
    ∧ quiescent_UkvX (hUkvX := hUkvX)
    ∧ quiescent_UkvXIdeal (hUkvXIdeal := hUkvXIdeal)
    ∧ quiescent_UkvXRefIdeal (hUkvXRefIdeal := hUkvXRefIdeal)
    ∧ quiescent_UkvW (hUkvW := hUkvW)
    ∧ quiescent_UkvWIdeal (hUkvWIdeal := hUkvWIdeal)
    ∧ quiescent_UkvWRefIdeal (hUkvWRefIdeal := hUkvWRefIdeal)
    ∧ quiescent_Ukv (hUkv := hUkv)
    ∧ quiescent_UkvIdeal (hUkvIdeal := hUkvIdeal)
    ∧ quiescent_UkvRefIdeal (hUkvRefIdeal := hUkvRefIdeal)
    ∧ quiescent_Qkv (hQkv := hQkv)
    ∧ quiescent_QkvIdeal (hQkvIdeal := hQkvIdeal)
    ∧ quiescent_QkvRefIdeal (hQkvRefIdeal := hQkvRefIdeal)
    ∧ quiescent_In (hIn := hIn)
    ∧ quiescent_InIdeal (hInIdeal := hInIdeal)
    ∧ quiescent_InRefIdeal (hInRefIdeal := hInRefIdeal)
    ∧ quiescent_Uq (hUq := hUq)
    ∧ quiescent_UqIdeal (hUqIdeal := hUqIdeal)
    ∧ quiescent_UqRefIdeal (hUqRefIdeal := hUqRefIdeal)
    ∧ quiescent_Xkv (hXkv := hXkv)
    ∧ quiescent_XkvIdeal (hXkvIdeal := hXkvIdeal)
    ∧ quiescent_XkvRefIdeal (hXkvRefIdeal := hXkvRefIdeal)
    ∧ quiescent_XkvX (hXkvX := hXkvX)
    ∧ quiescent_XkvXIdeal (hXkvXIdeal := hXkvXIdeal)
    ∧ quiescent_XkvXRefIdeal (hXkvXRefIdeal := hXkvXRefIdeal)
    ∧ quiescent_XkvW (hXkvW := hXkvW)
    ∧ quiescent_XkvWIdeal (hXkvWIdeal := hXkvWIdeal)
    ∧ quiescent_XkvWRefIdeal (hXkvWRefIdeal := hXkvWRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Act_ActIdeal
    ∧ algebraic_ActIdeal_ActRefIdeal_pre_finite_act (hActIdeal := hActIdeal) (hActRefIdeal := hActRefIdeal) (hPre_finite_act := hPre_finite_act)
    ∧ preserves_DownW_DownWIdeal
    ∧ algebraic_DownWIdeal_DownWRefIdeal (hDownWIdeal := hDownWIdeal) (hDownWRefIdeal := hDownWRefIdeal)
    ∧ preserves_GateW_GateWIdeal
    ∧ algebraic_GateWIdeal_GateWRefIdeal (hGateWIdeal := hGateWIdeal) (hGateWRefIdeal := hGateWRefIdeal)
    ∧ preserves_GateX_GateXIdeal
    ∧ algebraic_GateXIdeal_GateXRefIdeal (hGateXIdeal := hGateXIdeal) (hGateXRefIdeal := hGateXRefIdeal)
    ∧ preserves_UpX_UpXIdeal
    ∧ algebraic_UpXIdeal_UpXRefIdeal (hUpXIdeal := hUpXIdeal) (hUpXRefIdeal := hUpXRefIdeal)
    ∧ preserves_Out_OutIdeal
    ∧ algebraic_OutIdeal_OutRefIdeal (hOutIdeal := hOutIdeal) (hOutRefIdeal := hOutRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_OutA_OutAIdeal
    ∧ algebraic_OutAIdeal_OutARefIdeal (hOutAIdeal := hOutAIdeal) (hOutARefIdeal := hOutARefIdeal)
    ∧ preserves_OutAX_OutAXIdeal
    ∧ algebraic_OutAXIdeal_OutAXRefIdeal (hOutAXIdeal := hOutAXIdeal) (hOutAXRefIdeal := hOutAXRefIdeal)
    ∧ preserves_OutAW_OutAWIdeal
    ∧ algebraic_OutAWIdeal_OutAWRefIdeal (hOutAWIdeal := hOutAWIdeal) (hOutAWRefIdeal := hOutAWRefIdeal)
    ∧ preserves_Xq_XqIdeal
    ∧ algebraic_XqIdeal_XqRefIdeal (hXqIdeal := hXqIdeal) (hXqRefIdeal := hXqRefIdeal)
    ∧ preserves_XqX_XqXIdeal
    ∧ algebraic_XqXIdeal_XqXRefIdeal (hXqXIdeal := hXqXIdeal) (hXqXRefIdeal := hXqXRefIdeal)
    ∧ preserves_XqW_XqWIdeal
    ∧ algebraic_XqWIdeal_XqWRefIdeal (hXqWIdeal := hXqWIdeal) (hXqWRefIdeal := hXqWRefIdeal)
    ∧ preserves_Xo_XoIdeal
    ∧ algebraic_XoIdeal_XoRefIdeal (hXoIdeal := hXoIdeal) (hXoRefIdeal := hXoRefIdeal)
    ∧ preserves_XoX_XoXIdeal
    ∧ algebraic_XoXIdeal_XoXRefIdeal (hXoXIdeal := hXoXIdeal) (hXoXRefIdeal := hXoXRefIdeal)
    ∧ preserves_XoW_XoWIdeal
    ∧ algebraic_XoWIdeal_XoWRefIdeal (hXoWIdeal := hXoWIdeal) (hXoWRefIdeal := hXoWRefIdeal)
    ∧ preserves_QkvX_QkvXIdeal
    ∧ algebraic_QkvXIdeal_QkvXRefIdeal (hQkvXIdeal := hQkvXIdeal) (hQkvXRefIdeal := hQkvXRefIdeal)
    ∧ preserves_QkvW_QkvWIdeal
    ∧ algebraic_QkvWIdeal_QkvWRefIdeal (hQkvWIdeal := hQkvWIdeal) (hQkvWRefIdeal := hQkvWRefIdeal)
    ∧ preserves_InX_InXIdeal
    ∧ algebraic_InXIdeal_InXRefIdeal (hInXIdeal := hInXIdeal) (hInXRefIdeal := hInXRefIdeal)
    ∧ preserves_InQW_InQWIdeal
    ∧ algebraic_InQWIdeal_InQWRefIdeal (hInQWIdeal := hInQWIdeal) (hInQWRefIdeal := hInQWRefIdeal)
    ∧ preserves_InKvW_InKvWIdeal
    ∧ algebraic_InKvWIdeal_InKvWRefIdeal (hInKvWIdeal := hInKvWIdeal) (hInKvWRefIdeal := hInKvWRefIdeal)
    ∧ preserves_InCqW_InCqWIdeal
    ∧ algebraic_InCqWIdeal_InCqWRefIdeal (hInCqWIdeal := hInCqWIdeal) (hInCqWRefIdeal := hInCqWRefIdeal)
    ∧ preserves_InKrW_InKrWIdeal
    ∧ algebraic_InKrWIdeal_InKrWRefIdeal (hInKrWIdeal := hInKrWIdeal) (hInKrWRefIdeal := hInKrWRefIdeal)
    ∧ preserves_UqX_UqXIdeal
    ∧ algebraic_UqXIdeal_UqXRefIdeal (hUqXIdeal := hUqXIdeal) (hUqXRefIdeal := hUqXRefIdeal)
    ∧ preserves_UqW_UqWIdeal
    ∧ algebraic_UqWIdeal_UqWRefIdeal (hUqWIdeal := hUqWIdeal) (hUqWRefIdeal := hUqWRefIdeal)
    ∧ preserves_UkvX_UkvXIdeal
    ∧ algebraic_UkvXIdeal_UkvXRefIdeal (hUkvXIdeal := hUkvXIdeal) (hUkvXRefIdeal := hUkvXRefIdeal)
    ∧ preserves_UkvW_UkvWIdeal
    ∧ algebraic_UkvWIdeal_UkvWRefIdeal (hUkvWIdeal := hUkvWIdeal) (hUkvWRefIdeal := hUkvWRefIdeal)
    ∧ preserves_Ukv_UkvIdeal
    ∧ algebraic_UkvIdeal_UkvRefIdeal (hUkvIdeal := hUkvIdeal) (hUkvRefIdeal := hUkvRefIdeal)
    ∧ preserves_Qkv_QkvIdeal
    ∧ algebraic_QkvIdeal_QkvRefIdeal (hQkvIdeal := hQkvIdeal) (hQkvRefIdeal := hQkvRefIdeal)
    ∧ preserves_In_InIdeal
    ∧ algebraic_InIdeal_InRefIdeal (hInIdeal := hInIdeal) (hInRefIdeal := hInRefIdeal)
    ∧ preserves_Uq_UqIdeal
    ∧ algebraic_UqIdeal_UqRefIdeal (hUqIdeal := hUqIdeal) (hUqRefIdeal := hUqRefIdeal)
    ∧ preserves_Xkv_XkvIdeal
    ∧ algebraic_XkvIdeal_XkvRefIdeal (hXkvIdeal := hXkvIdeal) (hXkvRefIdeal := hXkvRefIdeal)
    ∧ preserves_XkvX_XkvXIdeal
    ∧ algebraic_XkvXIdeal_XkvXRefIdeal (hXkvXIdeal := hXkvXIdeal) (hXkvXRefIdeal := hXkvXRefIdeal)
    ∧ preserves_XkvW_XkvWIdeal
    ∧ algebraic_XkvWIdeal_XkvWRefIdeal (hXkvWIdeal := hXkvWIdeal) (hXkvWRefIdeal := hXkvWRefIdeal)
-- ==== Pre_finite.lean ====
abbrev S8192x512 : Shape := ⟨2, ![8192, 512]⟩
abbrev S8192x128 : Shape := ⟨2, ![8192, 128]⟩
abbrev S8 : Shape := ⟨1, ![8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8192x512 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  main_v23

def fn {F : FTy → Type} [FloatOps F] (main_arg0 : FVec F S8192x512 .f32) (main_arg1 : FVec F S8192x128 .f32) (main_arg2 : FVec F S8192x128 .f32) (main_arg3 : FVec F S8 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Pre_finite_act.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S_ 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x512 : Shape := ⟨2, ![8192, 512]⟩
abbrev S8192x128 : Shape := ⟨2, ![8192, 128]⟩
abbrev S8 : Shape := ⟨1, ![8]⟩
abbrev S8192x8x64 : Shape := ⟨3, ![8192, 8, 64]⟩
abbrev S8192x2x64 : Shape := ⟨3, ![8192, 2, 64]⟩
abbrev S64x128x2x4x64 : Shape := ⟨5, ![64, 128, 2, 4, 64]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S64x2x4x128 : Shape := ⟨4, ![64, 2, 4, 128]⟩
abbrev S64x2x4x128x1 : Shape := ⟨5, ![64, 2, 4, 128, 1]⟩
abbrev S2x4 : Shape := ⟨2, ![2, 4]⟩
abbrev S1x2x4x1x1 : Shape := ⟨5, ![1, 2, 4, 1, 1]⟩
abbrev S64x2x64x4x128 : Shape := ⟨5, ![64, 2, 64, 4, 128]⟩
abbrev S64x128x2x4 : Shape := ⟨4, ![64, 128, 2, 4]⟩
abbrev S8192x8 : Shape := ⟨2, ![8192, 8]⟩
abbrev S8192x8x1 : Shape := ⟨3, ![8192, 8, 1]⟩
abbrev S8192x2x1x64 : Shape := ⟨4, ![8192, 2, 1, 64]⟩
abbrev S8192x2x4x64 : Shape := ⟨4, ![8192, 2, 4, 64]⟩
abbrev S8x64 : Shape := ⟨2, ![8, 64]⟩
abbrev S512 : Shape := ⟨1, ![512]⟩
abbrev S1x512 : Shape := ⟨2, ![1, 512]⟩
abbrev S8x512 : Shape := ⟨2, ![8, 512]⟩
abbrev S128x512 : Shape := ⟨2, ![128, 512]⟩
abbrev S1x128 : Shape := ⟨2, ![1, 128]⟩
abbrev S128x128 : Shape := ⟨2, ![128, 128]⟩
abbrev S256x256 : Shape := ⟨2, ![256, 256]⟩
abbrev S256x1 : Shape := ⟨2, ![256, 1]⟩
abbrev S256x128 : Shape := ⟨2, ![256, 128]⟩
abbrev S1x256x128 : Shape := ⟨3, ![1, 256, 128]⟩
abbrev S4x256x128 : Shape := ⟨3, ![4, 256, 128]⟩
abbrev S1x256x256 : Shape := ⟨3, ![1, 256, 256]⟩
abbrev S4x256x256 : Shape := ⟨3, ![4, 256, 256]⟩
abbrev S1x256x1 : Shape := ⟨3, ![1, 256, 1]⟩
abbrev S4x256x1 : Shape := ⟨3, ![4, 256, 1]⟩
abbrev S1x128x128 : Shape := ⟨3, ![1, 128, 128]⟩

abbrev nBuf : Space → Nat
  | .hbm => 107
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S8192x512, .f32⟩
  | .hbm, ⟨5, _⟩ => ⟨S8192x8x64, .f32⟩
  | .hbm, ⟨6, _⟩ => ⟨S8192x2x64, .f32⟩
  | .hbm, ⟨7, _⟩ => ⟨S8192x2x64, .f32⟩
  | .hbm, ⟨8, _⟩ => ⟨S64x128x2x4x64, .f32⟩
  | .hbm, ⟨9, _⟩ => ⟨S64x128x2x64, .f32⟩
  | .hbm, ⟨10, _⟩ => ⟨S_, .i32⟩
  | .hbm, ⟨11, _⟩ => ⟨S_, .f32⟩
  | .hbm, ⟨12, _⟩ => ⟨S65x128x2x64, .f32⟩
  | .hbm, ⟨13, _⟩ => ⟨S64x128x2x64, .f32⟩
  | .hbm, ⟨14, _⟩ => ⟨S64x256x2x64, .f32⟩
  | .hbm, ⟨15, _⟩ => ⟨S64x128x2x64, .f32⟩
  | .hbm, ⟨16, _⟩ => ⟨S_, .i32⟩
  | .hbm, ⟨17, _⟩ => ⟨S_, .f32⟩
  | .hbm, ⟨18, _⟩ => ⟨S65x128x2x64, .f32⟩
  | .hbm, ⟨19, _⟩ => ⟨S64x128x2x64, .f32⟩
  | .hbm, ⟨20, _⟩ => ⟨S64x256x2x64, .f32⟩
  | .hbm, ⟨21, _⟩ => ⟨S64x2x256x128x4, .f32⟩
  | .hbm, ⟨22, _⟩ => ⟨S64x2x4x128x256, .f32⟩
  | .hbm, ⟨23, _⟩ => ⟨S_, .f32⟩
  | .hbm, ⟨24, _⟩ => ⟨S64x2x4x128x256, .f32⟩
  | .hbm, ⟨25, _⟩ => ⟨S64x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S64, .i32⟩
  | .hbm, ⟨44, _⟩ => ⟨S64x1x1, .i32⟩
  | .hbm, ⟨45, _⟩ => ⟨S_, .i32⟩
  | .hbm, ⟨46, _⟩ => ⟨S64x1x1, .i32⟩
  | .hbm, ⟨47, _⟩ => ⟨S64x1x1, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S64x1x256, .i1⟩
  | .hbm, ⟨53, _⟩ => ⟨S64x1x256, .i1⟩
  | .hbm, ⟨54, _⟩ => ⟨S64x1x256, .i1⟩
  | .hbm, ⟨55, _⟩ => ⟨S1x128x256, .i1⟩
  | .hbm, ⟨56, _⟩ => ⟨S64x128x256, .i1⟩
  | .hbm, ⟨57, _⟩ => ⟨S64x128x256, .i1⟩
  | .hbm, ⟨58, _⟩ => ⟨S64x128x256, .i1⟩
  | .hbm, ⟨59, _⟩ => ⟨S64x1x1x128x256, .i1⟩
  | .hbm, ⟨60, _⟩ => ⟨S_, .f32⟩
  | .hbm, ⟨61, _⟩ => ⟨S_, .f32⟩
  | .hbm, ⟨62, _⟩ => ⟨S64x2x4x128x256, .i1⟩
  | .hbm, ⟨63, _⟩ => ⟨S64x2x4x128x256, .f32⟩
  | .hbm, ⟨64, _⟩ => ⟨S64x2x4x128x256, .f32⟩
  | .hbm, ⟨65, _⟩ => ⟨S_, .f32⟩
  | .hbm, ⟨66, _⟩ => ⟨S64x2x4x128, .f32⟩
  | .hbm, ⟨67, _⟩ => ⟨S64x2x4x128x1, .f32⟩
  | .hbm, ⟨68, _⟩ => ⟨S2x4, .f32⟩
  | .hbm, ⟨69, _⟩ => ⟨S1x2x4x1x1, .f32⟩
  | .hbm, ⟨70, _⟩ => ⟨S64x2x4x128x1, .f32⟩
  | .hbm, ⟨71, _⟩ => ⟨S64x2x4x128x1, .f32⟩
  | .hbm, ⟨72, _⟩ => ⟨S64x2x4x128x256, .f32⟩
  | .hbm, ⟨73, _⟩ => ⟨S64x2x4x128x256, .f32⟩
  | .hbm, ⟨74, _⟩ => ⟨S64x2x4x128x256, .f32⟩
  | .hbm, ⟨75, _⟩ => ⟨S_, .f32⟩
  | .hbm, ⟨76, _⟩ => ⟨S64x2x4x128, .f32⟩
  | .hbm, ⟨77, _⟩ => ⟨S64x2x4x128x1, .f32⟩
  | .hbm, ⟨78, _⟩ => ⟨S64x2x4x128x1, .f32⟩
  | .hbm, ⟨79, _⟩ => ⟨S64x2x4x128x1, .f32⟩
  | .hbm, ⟨80, _⟩ => ⟨S64x2x4x128x1, .f32⟩
  | .hbm, ⟨81, _⟩ => ⟨S64x2x4x128x1, .f32⟩
  | .hbm, ⟨82, _⟩ => ⟨S64x2x4x128x256, .f32⟩
  | .hbm, ⟨83, _⟩ => ⟨S64x2x4x128x256, .f32⟩
  | .hbm, ⟨84, _⟩ => ⟨S64x2x64x4x128, .f32⟩
  | .hbm, ⟨85, _⟩ => ⟨S64x128x2x4x64, .f32⟩
  | .hbm, ⟨86, _⟩ => ⟨S64x2x4x128x1, .f32⟩
  | .hbm, ⟨87, _⟩ => ⟨S64x2x4x128x1, .f32⟩
  | .hbm, ⟨88, _⟩ => ⟨S64x2x4x128, .f32⟩
  | .hbm, ⟨89, _⟩ => ⟨S64x128x2x4, .f32⟩
  | .hbm, ⟨90, _⟩ => ⟨S8192x8, .f32⟩
  | .hbm, ⟨91, _⟩ => ⟨S8192x8x64, .f32⟩
  | .hbm, ⟨92, _⟩ => ⟨S8192x512, .f32⟩
  | .hbm, ⟨93, _⟩ => ⟨S8192x8x1, .f32⟩
  | .hbm, ⟨94, _⟩ => ⟨S8192x8x64, .f32⟩
  | .hbm, ⟨95, _⟩ => ⟨S8192x512, .f32⟩
  | .hbm, ⟨96, _⟩ => ⟨S8192x2x1x64, .f32⟩
  | .hbm, ⟨97, _⟩ => ⟨S8192x2x4x64, .f32⟩
  | .hbm, ⟨98, _⟩ => ⟨S8192x512, .f32⟩
  | .hbm, ⟨99, _⟩ => ⟨S8192x2x1x64, .f32⟩
  | .hbm, ⟨100, _⟩ => ⟨S8192x2x4x64, .f32⟩
  | .hbm, ⟨101, _⟩ => ⟨S8192x512, .f32⟩
  | .hbm, ⟨102, _⟩ => ⟨S8x64, .f32⟩
  | .hbm, ⟨103, _⟩ => ⟨S512, .f32⟩
  | .hbm, ⟨104, _⟩ => ⟨S1x512, .f32⟩
  | .hbm, ⟨105, _⟩ => ⟨S8192x512, .f32⟩
  | .hbm, ⟨106, _⟩ => ⟨S8x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S1x512, .f32⟩
  | .local _ .vmem, ⟨17, _⟩ => ⟨S128x512, .f32⟩
  | .local _ .vmem, ⟨18, _⟩ => ⟨S128x512, .f32⟩
  | .local _ .vmem, ⟨19, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84_0 : Ref sig .tc := ⟨.hbm, 105, rfl⟩
abbrev main_v84_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x512 : Shape := ⟨2, ![8192, 512]⟩
abbrev S8192x128 : Shape := ⟨2, ![8192, 128]⟩
abbrev S8 : Shape := ⟨1, ![8]⟩
abbrev S8192x8x64 : Shape := ⟨3, ![8192, 8, 64]⟩
abbrev S8192x2x64 : Shape := ⟨3, ![8192, 2, 64]⟩
abbrev S64x128x2x4x64 : Shape := ⟨5, ![64, 128, 2, 4, 64]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S64x2x4x128 : Shape := ⟨4, ![64, 2, 4, 128]⟩
abbrev S64x2x4x128x1 : Shape := ⟨5, ![64, 2, 4, 128, 1]⟩
abbrev S2x4 : Shape := ⟨2, ![2, 4]⟩
abbrev S1x2x4x1x1 : Shape := ⟨5, ![1, 2, 4, 1, 1]⟩
abbrev S64x2x64x4x128 : Shape := ⟨5, ![64, 2, 64, 4, 128]⟩
abbrev S64x128x2x4 : Shape := ⟨4, ![64, 128, 2, 4]⟩
abbrev S8192x8 : Shape := ⟨2, ![8192, 8]⟩
abbrev S2x4x1 : Shape := ⟨3, ![2, 4, 1]⟩
abbrev S64x2x128x4x64 : Shape := ⟨5, ![64, 2, 128, 4, 64]⟩
abbrev S8x1 : Shape := ⟨2, ![8, 1]⟩
abbrev S8x64 : Shape := ⟨2, ![8, 64]⟩
abbrev S1x512 : Shape := ⟨2, ![1, 512]⟩
abbrev S8x512 : Shape := ⟨2, ![8, 512]⟩

abbrev nBuf : Space → Nat
  | .hbm => 188
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8, .f32⟩
  | 4 => ⟨S8192x512, .f32⟩
  | 5 => ⟨S8192x8x64, .f32⟩
  | 6 => ⟨S8192x2x64, .f32⟩
  | 7 => ⟨S8192x2x64, .f32⟩
  | 8 => ⟨S64x128x2x4x64, .f32⟩
  | 9 => ⟨S64x128x2x64, .f32⟩
  | 10 => ⟨S_, .i32⟩
  | 11 => ⟨S_, .f32⟩
  | 12 => ⟨S65x128x2x64, .f32⟩
  | 13 => ⟨S64x128x2x64, .f32⟩
  | 14 => ⟨S64x256x2x64, .f32⟩
  | 15 => ⟨S64x128x2x64, .f32⟩
  | 16 => ⟨S_, .i32⟩
  | 17 => ⟨S_, .f32⟩
  | 18 => ⟨S65x128x2x64, .f32⟩
  | 19 => ⟨S64x128x2x64, .f32⟩
  | 20 => ⟨S64x256x2x64, .f32⟩
  | 21 => ⟨S64x2x256x128x4, .f32⟩
  | 22 => ⟨S64x2x4x128x256, .f32⟩
  | 23 => ⟨S_, .f32⟩
  | 24 => ⟨S64x2x4x128x256, .f32⟩
  | 25 => ⟨S64x2x4x128x256, .f32⟩
  | 26 => ⟨S128, .i32⟩
  | 27 => ⟨S128x1, .i32⟩
  | 28 => ⟨S256, .i32⟩
  | 29 => ⟨S1x256, .i32⟩
  | 30 => ⟨S_, .i32⟩
  | 31 => ⟨S128x1, .i32⟩
  | 32 => ⟨S128x1, .i32⟩
  | 33 => ⟨S128x256, .i32⟩
  | 34 => ⟨S128x256, .i32⟩
  | 35 => ⟨S128x256, .i32⟩
  | 36 => ⟨S_, .i32⟩
  | 37 => ⟨S128x256, .i32⟩
  | 38 => ⟨S128x256, .i1⟩
  | 39 => ⟨S_, .i32⟩
  | 40 => ⟨S128x256, .i32⟩
  | 41 => ⟨S128x256, .i1⟩
  | 42 => ⟨S128x256, .i1⟩
  | 43 => ⟨S64, .i32⟩
  | 44 => ⟨S64x1x1, .i32⟩
  | 45 => ⟨S_, .i32⟩
  | 46 => ⟨S64x1x1, .i32⟩
  | 47 => ⟨S64x1x1, .i1⟩
  | 48 => ⟨S_, .i32⟩
  | 49 => ⟨S1x256, .i32⟩
  | 50 => ⟨S1x256, .i1⟩
  | 51 => ⟨S1x1x256, .i1⟩
  | 52 => ⟨S64x1x256, .i1⟩
  | 53 => ⟨S64x1x256, .i1⟩
  | 54 => ⟨S64x1x256, .i1⟩
  | 55 => ⟨S1x128x256, .i1⟩
  | 56 => ⟨S64x128x256, .i1⟩
  | 57 => ⟨S64x128x256, .i1⟩
  | 58 => ⟨S64x128x256, .i1⟩
  | 59 => ⟨S64x1x1x128x256, .i1⟩
  | 60 => ⟨S_, .f32⟩
  | 61 => ⟨S_, .f32⟩
  | 62 => ⟨S64x2x4x128x256, .i1⟩
  | 63 => ⟨S64x2x4x128x256, .f32⟩
  | 64 => ⟨S64x2x4x128x256, .f32⟩
  | 65 => ⟨S_, .f32⟩
  | 66 => ⟨S64x2x4x128x256, .f32⟩
  | 67 => ⟨S_, .f32⟩
  | 68 => ⟨S64x2x4x128, .f32⟩
  | 69 => ⟨S64x2x4x128x1, .f32⟩
  | 70 => ⟨S64x2x4x128x256, .f32⟩
  | 71 => ⟨S64x2x4x128x256, .i1⟩
  | 72 => ⟨S64x2x4x128x256, .f32⟩
  | 73 => ⟨S_, .f32⟩
  | 74 => ⟨S64x2x4x128, .f32⟩
  | 75 => ⟨S64x2x4x128x1, .f32⟩
  | 76 => ⟨S2x4, .f32⟩
  | 77 => ⟨S1x2x4x1x1, .f32⟩
  | 78 => ⟨S64x2x4x128x1, .f32⟩
  | 79 => ⟨S64x2x4x128x1, .f32⟩
  | 80 => ⟨S64x2x4x128x1, .f32⟩
  | 81 => ⟨S64x2x4x128x1, .i1⟩
  | 82 => ⟨S64x2x4x128x1, .f32⟩
  | 83 => ⟨S64x2x4x128x1, .i1⟩
  | 84 => ⟨S_, .f32⟩
  | 85 => ⟨S64x2x4x128x1, .f32⟩
  | 86 => ⟨S_, .f32⟩
  | 87 => ⟨S64x2x4x128x1, .f32⟩
  | 88 => ⟨S_, .f32⟩
  | 89 => ⟨S64x2x4x128x1, .f32⟩
  | 90 => ⟨S64x2x4x128x1, .f32⟩
  | 91 => ⟨S64x2x4x128x1, .f32⟩
  | 92 => ⟨S64x2x4x128x1, .f32⟩
  | 93 => ⟨S64x2x4x128x1, .i1⟩
  | 94 => ⟨S64x2x4x128x1, .f32⟩
  | 95 => ⟨S64x2x4x128x1, .i1⟩
  | 96 => ⟨S_, .f32⟩
  | 97 => ⟨S64x2x4x128x1, .f32⟩
  | 98 => ⟨S_, .f32⟩
  | 99 => ⟨S64x2x4x128x1, .f32⟩
  | 100 => ⟨S_, .f32⟩
  | 101 => ⟨S64x2x4x128x1, .f32⟩
  | 102 => ⟨S64x2x4x128x1, .f32⟩
  | 103 => ⟨S64x2x4x128x1, .f32⟩
  | 104 => ⟨S64x2x4x128x256, .f32⟩
  | 105 => ⟨S64x2x4x128x256, .f32⟩
  | 106 => ⟨S64x2x4x128x256, .f32⟩
  | 107 => ⟨S_, .f32⟩
  | 108 => ⟨S64x2x4x128, .f32⟩
  | 109 => ⟨S64x2x4x128x1, .f32⟩
  | 110 => ⟨S64x2x4x128x1, .f32⟩
  | 111 => ⟨S64x2x4x128x1, .f32⟩
  | 112 => ⟨S64x2x4x128x1, .f32⟩
  | 113 => ⟨S64x2x4x128x1, .f32⟩
  | 114 => ⟨S64x2x4x128x256, .f32⟩
  | 115 => ⟨S64x2x4x128x256, .f32⟩
  | 116 => ⟨S64x2x4x128x1, .f32⟩
  | 117 => ⟨S_, .f32⟩
  | 118 => ⟨S64x2x4x128x1, .f32⟩
  | 119 => ⟨S64x2x4x128x1, .f32⟩
  | 120 => ⟨S64x2x64x4x128, .f32⟩
  | 121 => ⟨S64x128x2x4x64, .f32⟩
  | 122 => ⟨S64x2x4x128x1, .f32⟩
  | 123 => ⟨S64x2x4x128x1, .f32⟩
  | 124 => ⟨S64x2x4x128, .f32⟩
  | 125 => ⟨S64x128x2x4, .f32⟩
  | 126 => ⟨S8192x8, .f32⟩
  | 127 => ⟨S8192x8x64, .f32⟩
  | _ => ⟨S8192x512, .f32⟩

abbrev hbmTy0_1 (i : Nat) : BufTy := match i % 128 with
  | 0 => ⟨S8192x8x64, .f32⟩
  | 1 => ⟨S64x128x2x4x64, .f32⟩
  | 2 => ⟨S64x2x64x4x128, .f32⟩
  | 3 => ⟨S64x2x4x128x256, .f32⟩
  | 4 => ⟨S64x2x4x128x256, .f32⟩
  | 5 => ⟨S64x2x4x128x256, .f32⟩
  | 6 => ⟨S64x2x4x128x256, .f32⟩
  | 7 => ⟨S_, .f32⟩
  | 8 => ⟨S64x2x4x128, .f32⟩
  | 9 => ⟨S64x2x4x128x1, .f32⟩
  | 10 => ⟨S64x2x4x128x1, .f32⟩
  | 11 => ⟨S64x2x4x128x256, .f32⟩
  | 12 => ⟨S64x2x4x128x256, .f32⟩
  | 13 => ⟨S64x2x4x128x1, .f32⟩
  | 14 => ⟨S_, .f32⟩
  | 15 => ⟨S2x4x1, .f32⟩
  | 16 => ⟨S1x2x4x1x1, .f32⟩
  | 17 => ⟨S64x2x4x128x1, .f32⟩
  | 18 => ⟨S_, .f32⟩
  | 19 => ⟨S64x2x4x128, .f32⟩
  | 20 => ⟨S64x2x4x128x256, .f32⟩
  | 21 => ⟨S64x2x4x128x256, .f32⟩
  | 22 => ⟨S64x2x4x128x256, .f32⟩
  | 23 => ⟨S64x2x4x128x256, .f32⟩
  | 24 => ⟨S_, .f32⟩
  | 25 => ⟨S64x2x4x128, .f32⟩
  | 26 => ⟨S64x2x4x128x1, .f32⟩
  | 27 => ⟨S64x2x4x128x1, .f32⟩
  | 28 => ⟨S64x2x4x128x1, .f32⟩
  | 29 => ⟨S_, .f32⟩
  | 30 => ⟨S2x4x1, .f32⟩
  | 31 => ⟨S1x2x4x1x1, .f32⟩
  | 32 => ⟨S1x2x4x1x1, .f32⟩
  | 33 => ⟨S64x2x4x128x1, .f32⟩
  | 34 => ⟨S_, .f32⟩
  | 35 => ⟨S2x4, .f32⟩
  | 36 => ⟨S8, .f32⟩
  | 37 => ⟨S_, .f32⟩
  | 38 => ⟨S64x2x4x128, .f32⟩
  | 39 => ⟨S64x2x4x128, .f32⟩
  | 40 => ⟨S64x2x4x128x256, .f32⟩
  | 41 => ⟨S64x2x4x128x256, .f32⟩
  | 42 => ⟨S64x2x4x128x256, .f32⟩
  | 43 => ⟨S_, .f32⟩
  | 44 => ⟨S64x2x4x128x256, .f32⟩
  | 45 => ⟨S64x2x4x128x256, .f32⟩
  | 46 => ⟨S_, .f32⟩
  | 47 => ⟨S64x2x4x128x256, .f32⟩
  | 48 => ⟨S64x2x4x128x256, .f32⟩
  | 49 => ⟨S64x2x256x128x4, .f32⟩
  | 50 => ⟨S64x2x128x4x64, .f32⟩
  | 51 => ⟨S64x128x2x4x64, .f32⟩
  | 52 => ⟨S8192x8x64, .f32⟩
  | 53 => ⟨S8192x512, .f32⟩
  | 54 => ⟨S8x1, .f32⟩
  | 55 => ⟨S8x64, .f32⟩
  | 56 => ⟨S1x512, .f32⟩
  | 57 => ⟨S_, .i32⟩
  | 58 => ⟨S_, .f32⟩
  | 59 => ⟨S8x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_call2_v0 : Ref sig .tc := ⟨.hbm, 61, rfl⟩
abbrev main_v45_1 : Ref sig .tc := ⟨.hbm, 62, rfl⟩
abbrev main_call2_v2 : Ref sig .tc := ⟨.hbm, 63, rfl⟩
abbrev main_v45_0 : Ref sig .tc := ⟨.hbm, 64, rfl⟩
abbrev main_call2_cst : Ref sig .tc := ⟨.hbm, 65, rfl⟩
abbrev main_v45_2 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_17 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_18 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_19 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_20 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_21 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_22 : Ref sig .tc := ⟨.hbm, 162, rfl⟩
abbrev main_v126 : Ref sig .tc := ⟨.hbm, 163, rfl⟩
abbrev main_v127 : Ref sig .tc := ⟨.hbm, 164, rfl⟩
abbrev main_cst_23 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_call3_cst : Ref sig .tc := ⟨.hbm, 171, rfl⟩
abbrev main_call3_v0 : Ref sig .tc := ⟨.hbm, 172, rfl⟩
abbrev main_v133 : Ref sig .tc := ⟨.hbm, 173, rfl⟩
abbrev main_cst_24 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_c_25 : Ref sig .tc := ⟨.hbm, 185, rfl⟩
abbrev main_call4_v0 : Ref sig .tc := ⟨.hbm, 186, rfl⟩
abbrev main_v144 : Ref sig .tc := ⟨.hbm, 187, rfl⟩

abbrev nD : Nat := 1
abbrev τ : Topo := Topo.v7x

variable {F : FTy → Type} [FloatOps F]
-- ==== GateUp.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x2816, .f32⟩
  | .hbm, ⟨9, _⟩ => ⟨S8192x2816, .f32⟩
  | .hbm, ⟨10, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Act.lean ====
abbrev S8192x2816 : Shape := ⟨2, ![8192, 2816]⟩
abbrev S2816x1024 : Shape := ⟨2, ![2816, 1024]⟩
abbrev S8192x1024 : Shape := ⟨2, ![8192, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S2816x1024, .bf16⟩
  | .hbm, ⟨5, _⟩ => ⟨S8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== DownW.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateW.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateX.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .bf16⟩
  | .hbm, ⟨4, _⟩ => ⟨S2816x1024, .f32⟩
  | .hbm, ⟨5, _⟩ => ⟨S2816x1024, .bf16⟩
  | .hbm, ⟨6, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateXRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UpX.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S8192x2816, .bf16⟩
  | .hbm, ⟨5, _⟩ => ⟨S2816x1024, .f32⟩
  | .hbm, ⟨6, _⟩ => ⟨S2816x1024, .bf16⟩
  | .hbm, ⟨7, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpXRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S8192x2816, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutX.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWIdeal.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutA.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S512x1024, .bf16⟩
  | .hbm, ⟨4, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutARefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutAX.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S512x1024, .bf16⟩
  | .hbm, ⟨4, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAXRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutAW.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutAWRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Xq.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== XqX.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S1024x512, .bf16⟩
  | .hbm, ⟨4, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqXRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== XqW.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqWRefIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | .hbm, ⟨6, _⟩ => ⟨S1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Xo.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1024x512, .f32⟩
  | .hbm, ⟨4, _⟩ => ⟨S1024x512, .bf16⟩
  | .hbm, ⟨5, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== XoX.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1024x512, .f32⟩
  | .hbm, ⟨4, _⟩ => ⟨S1024x512, .bf16⟩
  | .hbm, ⟨5, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoXRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== XoW.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1024x512, .bf16⟩
  | .local _ .vmem, ⟨0, _⟩ => ⟨S2048x1024, .f32⟩
  | .local _ .vmem, ⟨1, _⟩ => ⟨S2048x1024, .f32⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XoWRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S1024x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvX.lean ====
abbrev S8192x1024 : Shape := ⟨2, ![8192, 1024]⟩
abbrev S1024x3072 : Shape := ⟨2, ![1024, 3072]⟩
abbrev S3072x1024 : Shape := ⟨2, ![3072, 1024]⟩
abbrev S1024x1024 : Shape := ⟨2, ![1024, 1024]⟩
abbrev S512x1024 : Shape := ⟨2, ![512, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S3072x1024, .f32⟩
  | .hbm, ⟨6, _⟩ => ⟨S3072x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvXRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3072, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== QkvW.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QkvWRefIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InX.lean ====
abbrev S8192x1024 : Shape := ⟨2, ![8192, 1024]⟩
abbrev S1024x1440 : Shape := ⟨2, ![1024, 1440]⟩
abbrev S8192x512 : Shape := ⟨2, ![8192, 512]⟩
abbrev S8192x256 : Shape := ⟨2, ![8192, 256]⟩
abbrev S8192x384 : Shape := ⟨2, ![8192, 384]⟩
abbrev S8192x128 : Shape := ⟨2, ![8192, 128]⟩
abbrev S1440x1024 : Shape := ⟨2, ![1440, 1024]⟩
abbrev S512x1024 : Shape := ⟨2, ![512, 1024]⟩
abbrev S256x1024 : Shape := ⟨2, ![256, 1024]⟩
abbrev S384x1024 : Shape := ⟨2, ![384, 1024]⟩
abbrev S32x1024 : Shape := ⟨2, ![32, 1024]⟩
abbrev S_ : Shape := ⟨0, ![]⟩
abbrev S128x1024 : Shape := ⟨2, ![128, 1024]⟩
abbrev S512x512 : Shape := ⟨2, ![512, 512]⟩
abbrev S512x256 : Shape := ⟨2, ![512, 256]⟩
abbrev S512x384 : Shape := ⟨2, ![512, 384]⟩
abbrev S512x128 : Shape := ⟨2, ![512, 128]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1440, .f32⟩
  | .hbm, ⟨2, _⟩ => ⟨S8192x512, .f32⟩
  | .hbm, ⟨3, _⟩ => ⟨S8192x256, .f32⟩
  | .hbm, ⟨4, _⟩ => ⟨S8192x384, .f32⟩
  | .hbm, ⟨5, _⟩ => ⟨S8192x256, .f32⟩
  | .hbm, ⟨6, _⟩ => ⟨S8192x128, .f32⟩
  | .hbm, ⟨7, _⟩ => ⟨S1440x1024, .f32⟩
  | .hbm, ⟨8, _⟩ => ⟨S1440x1024, .bf16⟩
  | .hbm, ⟨9, _⟩ => ⟨S512x1024, .bf16⟩
  | .hbm, ⟨10, _⟩ => ⟨S256x1024, .bf16⟩
  | .hbm, ⟨11, _⟩ => ⟨S384x1024, .bf16⟩
  | .hbm, ⟨12, _⟩ => ⟨S256x1024, .bf16⟩
  | .hbm, ⟨13, _⟩ => ⟨S32x1024, .bf16⟩
  | .hbm, ⟨14, _⟩ => ⟨S_, .i32⟩
  | .hbm, ⟨15, _⟩ => ⟨S_, .bf16⟩
  | .hbm, ⟨16, _⟩ => ⟨S128x1024, .bf16⟩
  | .hbm, ⟨17, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S256x1024, .bf16⟩
  | .local _ .vmem, ⟨12, _⟩ => ⟨S384x1024, .bf16⟩
  | .local _ .vmem, ⟨13, _⟩ => ⟨S256x1024, .bf16⟩
  | .local _ .vmem, ⟨14, _⟩ => ⟨S128x1024, .bf16⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InXRefIdeal.lean ====
abbrev S8192x1024 : Shape := ⟨2, ![8192, 1024]⟩
abbrev S1024x1440 : Shape := ⟨2, ![1024, 1440]⟩
abbrev S8192x512 : Shape := ⟨2, ![8192, 512]⟩
abbrev S8192x256 : Shape := ⟨2, ![8192, 256]⟩
abbrev S8192x384 : Shape := ⟨2, ![8192, 384]⟩
abbrev S8192x128 : Shape := ⟨2, ![8192, 128]⟩
abbrev S8192x1440 : Shape := ⟨2, ![8192, 1440]⟩
abbrev S8192x32 : Shape := ⟨2, ![8192, 32]⟩
abbrev S_ : Shape := ⟨0, ![]⟩
abbrev S8192x64 : Shape := ⟨2, ![8192, 64]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1440, .f32⟩
  | .hbm, ⟨2, _⟩ => ⟨S8192x512, .f32⟩
  | .hbm, ⟨3, _⟩ => ⟨S8192x256, .f32⟩
  | .hbm, ⟨4, _⟩ => ⟨S8192x384, .f32⟩
  | .hbm, ⟨5, _⟩ => ⟨S8192x256, .f32⟩
  | .hbm, ⟨6, _⟩ => ⟨S8192x128, .f32⟩
  | .hbm, ⟨7, _⟩ => ⟨S8192x1440, .f32⟩
  | .hbm, ⟨8, _⟩ => ⟨S8192x512, .f32⟩
  | .hbm, ⟨9, _⟩ => ⟨S8192x128, .f32⟩
  | .hbm, ⟨10, _⟩ => ⟨S8192x128, .f32⟩
  | .hbm, ⟨11, _⟩ => ⟨S8192x384, .f32⟩
  | .hbm, ⟨12, _⟩ => ⟨S8192x256, .f32⟩
  | .hbm, ⟨13, _⟩ => ⟨S8192x32, .f32⟩
  | .hbm, ⟨14, _⟩ => ⟨S8192x256, .f32⟩
  | .hbm, ⟨15, _⟩ => ⟨S_, .f32⟩
  | .hbm, ⟨16, _⟩ => ⟨S8192x64, .f32⟩
  | .hbm, ⟨17, _⟩ => ⟨S_, .f32⟩
  | .hbm, ⟨18, _⟩ => ⟨S8192x32, .f32⟩
  | .hbm, ⟨19, _⟩ => ⟨S8192x128, .f32⟩
  | .hbm, ⟨20, _⟩ => ⟨S_, .f32⟩
  | .hbm, ⟨21, _⟩ => ⟨S8192x64, .f32⟩
  | .hbm, ⟨22, _⟩ => ⟨S_, .f32⟩
  | .hbm, ⟨23, _⟩ => ⟨S8192x32, .f32⟩
  | .hbm, ⟨24, _⟩ => ⟨S8192x64, .f32⟩
  | .hbm, ⟨25, _⟩ => ⟨S8192x32, .f32⟩
  | .hbm, ⟨26, _⟩ => ⟨S8192x32, .f32⟩
  | .hbm, ⟨27, _⟩ => ⟨S8192x128, .f32⟩
  | .hbm, ⟨28, _⟩ => ⟨S8192x128, .f32⟩
  | .hbm, ⟨29, _⟩ => ⟨S8192x1440, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== InQW.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InQWIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InQWRefIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InKvW.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .bf16⟩
  | .hbm, ⟨4, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InKvWIdeal.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .bf16⟩
  | .hbm, ⟨4, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InKvWRefIdeal.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x256, .f32⟩
  | .hbm, ⟨4, _⟩ => ⟨S256x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InCqW.lean ====
abbrev S8192x1024 : Shape := ⟨2, ![8192, 1024]⟩
abbrev S1024x384 : Shape := ⟨2, ![1024, 384]⟩
abbrev S8192x384 : Shape := ⟨2, ![8192, 384]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x384, .f32⟩
  | .hbm, ⟨2, _⟩ => ⟨S8192x384, .f32⟩
  | .hbm, ⟨3, _⟩ => ⟨S8192x1024, .bf16⟩
  | .hbm, ⟨4, _⟩ => ⟨S384x1024, .bf16⟩
  | .local _ .vmem, ⟨0, _⟩ => ⟨S2048x384, .f32⟩
  | .local _ .vmem, ⟨1, _⟩ => ⟨S2048x384, .f32⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InCqWIdeal.lean ====
abbrev S8192x1024 : Shape := ⟨2, ![8192, 1024]⟩
abbrev S1024x384 : Shape := ⟨2, ![1024, 384]⟩
abbrev S8192x384 : Shape := ⟨2, ![8192, 384]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x384, .f32⟩
  | .hbm, ⟨2, _⟩ => ⟨S8192x384, .f32⟩
  | .hbm, ⟨3, _⟩ => ⟨S8192x1024, .bf16⟩
  | .hbm, ⟨4, _⟩ => ⟨S384x1024, .bf16⟩
  | .local _ .vmem, ⟨0, _⟩ => ⟨S2048x384, .f32⟩
  | .local _ .vmem, ⟨1, _⟩ => ⟨S2048x384, .f32⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InCqWRefIdeal.lean ====
abbrev S8192x1024 : Shape := ⟨2, ![8192, 1024]⟩
abbrev S1024x384 : Shape := ⟨2, ![1024, 384]⟩
abbrev S8192x384 : Shape := ⟨2, ![8192, 384]⟩
abbrev S384x1024 : Shape := ⟨2, ![384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x384, .f32⟩
  | .hbm, ⟨2, _⟩ => ⟨S8192x384, .f32⟩
  | .hbm, ⟨3, _⟩ => ⟨S8192x384, .f32⟩
  | .hbm, ⟨4, _⟩ => ⟨S384x1024, .f32⟩
  | .hbm, ⟨5, _⟩ => ⟨S1024x384, .f32⟩
  | .hbm, ⟨6, _⟩ => ⟨S384x1024, .f32⟩
  | .hbm, ⟨7, _⟩ => ⟨S384x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InKrW.lean ====
abbrev S8192x1024 : Shape := ⟨2, ![8192, 1024]⟩
abbrev S1024x128 : Shape := ⟨2, ![1024, 128]⟩
abbrev S8192x128 : Shape := ⟨2, ![8192, 128]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x1024, .bf16⟩
  | .hbm, ⟨4, _⟩ => ⟨S128x1024, .bf16⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InKrWIdeal.lean ====
abbrev S8192x1024 : Shape := ⟨2, ![8192, 1024]⟩
abbrev S1024x128 : Shape := ⟨2, ![1024, 128]⟩
abbrev S8192x128 : Shape := ⟨2, ![8192, 128]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x1024, .bf16⟩
  | .hbm, ⟨4, _⟩ => ⟨S128x1024, .bf16⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InKrWRefIdeal.lean ====
abbrev S8192x1024 : Shape := ⟨2, ![8192, 1024]⟩
abbrev S1024x128 : Shape := ⟨2, ![1024, 128]⟩
abbrev S8192x128 : Shape := ⟨2, ![8192, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x128, .f32⟩
  | .hbm, ⟨4, _⟩ => ⟨S128x1024, .f32⟩
  | .hbm, ⟨5, _⟩ => ⟨S1024x128, .f32⟩
  | .hbm, ⟨6, _⟩ => ⟨S128x1024, .f32⟩
  | .hbm, ⟨7, _⟩ => ⟨S128x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UqX.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 6
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S1024x384, .f32⟩
  | .hbm, ⟨4, _⟩ => ⟨S1024x384, .bf16⟩
  | .hbm, ⟨5, _⟩ => ⟨S8192x384, .f32⟩
  | .local _ .vmem, ⟨0, _⟩ => ⟨S2048x1024, .f32⟩
  | .local _ .vmem, ⟨1, _⟩ => ⟨S2048x1024, .f32⟩
  | .local _ .vmem, ⟨2, _⟩ => ⟨S1024x384, .bf16⟩
  | .local _ .vmem, ⟨3, _⟩ => ⟨S2048x384, .f32⟩
  | .local _ .vmem, ⟨4, _⟩ => ⟨S2048x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqXRefIdeal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .f32⟩
  | .hbm, ⟨4, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UqW.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x384, .bf16⟩
  | .hbm, ⟨4, _⟩ => ⟨S1024x384, .bf16⟩
  | .local _ .vmem, ⟨0, _⟩ => ⟨S2048x1024, .f32⟩
  | .local _ .vmem, ⟨1, _⟩ => ⟨S2048x1024, .f32⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqWIdeal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x384, .bf16⟩
  | .hbm, ⟨4, _⟩ => ⟨S1024x384, .bf16⟩
  | .local _ .vmem, ⟨0, _⟩ => ⟨S2048x1024, .f32⟩
  | .local _ .vmem, ⟨1, _⟩ => ⟨S2048x1024, .f32⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqWRefIdeal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .f32⟩
  | .hbm, ⟨4, _⟩ => ⟨S1024x384, .f32⟩
  | .hbm, ⟨5, _⟩ => ⟨S384x1024, .f32⟩
  | .hbm, ⟨6, _⟩ => ⟨S1024x384, .f32⟩
  | .hbm, ⟨7, _⟩ => ⟨S1024x384, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UkvX.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 10
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S256x1024, .f32⟩
  | .hbm, ⟨3, _⟩ => ⟨S8192x1024, .f32⟩
  | .hbm, ⟨4, _⟩ => ⟨S8192x1024, .f32⟩
  | .hbm, ⟨5, _⟩ => ⟨S1024x256, .f32⟩
  | .hbm, ⟨6, _⟩ => ⟨S1024x256, .bf16⟩
  | .hbm, ⟨7, _⟩ => ⟨S1024x256, .f32⟩
  | .hbm, ⟨8, _⟩ => ⟨S1024x256, .bf16⟩
  | .hbm, ⟨9, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x256, .bf16⟩
  | .local _ .vmem, ⟨5, _⟩ => ⟨S1024x256, .bf16⟩
  | .local _ .vmem, ⟨6, _⟩ => ⟨S512x256, .f32⟩
  | .local _ .vmem, ⟨7, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UkvXRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S256x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x256, .f32⟩
  | .hbm, ⟨8, _⟩ => ⟨S8192x256, .f32⟩
  | .hbm, ⟨9, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== UkvW.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x256, .bf16⟩
  | .hbm, ⟨4, _⟩ => ⟨S1024x256, .bf16⟩
  | .local _ .vmem, ⟨0, _⟩ => ⟨S2048x1024, .f32⟩
  | .local _ .vmem, ⟨1, _⟩ => ⟨S2048x1024, .f32⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvWRefIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | .hbm, ⟨6, _⟩ => ⟨S1024x256, .f32⟩
  | .hbm, ⟨7, _⟩ => ⟨S1024x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ukv.lean ====
abbrev S8192x256 : Shape := ⟨2, ![8192, 256]⟩
abbrev S256x1024 : Shape := ⟨2, ![256, 1024]⟩
abbrev S1024 : Shape := ⟨1, ![1024]⟩
abbrev S1024x1 : Shape := ⟨2, ![1024, 1]⟩
abbrev S1024x256 : Shape := ⟨2, ![1024, 256]⟩
abbrev S_ : Shape := ⟨0, ![]⟩
abbrev S8192x1024 : Shape := ⟨2, ![8192, 1024]⟩
abbrev S512x256 : Shape := ⟨2, ![512, 256]⟩
abbrev S512x1024 : Shape := ⟨2, ![512, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S1024, .i1⟩
  | .hbm, ⟨3, _⟩ => ⟨S1024x1, .i1⟩
  | .hbm, ⟨4, _⟩ => ⟨S1024x256, .f32⟩
  | .hbm, ⟨5, _⟩ => ⟨S1024x256, .bf16⟩
  | .hbm, ⟨6, _⟩ => ⟨S8192x256, .bf16⟩
  | .hbm, ⟨7, _⟩ => ⟨S_, .bf16⟩
  | .hbm, ⟨8, _⟩ => ⟨S1024x256, .bf16⟩
  | .hbm, ⟨9, _⟩ => ⟨S1024x256, .i1⟩
  | .hbm, ⟨10, _⟩ => ⟨S1024x256, .bf16⟩
  | .hbm, ⟨11, _⟩ => ⟨S8192x1024, .f32⟩
  | .hbm, ⟨12, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S1024x256, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_v0 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UkvRefIdeal.lean ====
abbrev S8192x256 : Shape := ⟨2, ![8192, 256]⟩
abbrev S256x1024 : Shape := ⟨2, ![256, 1024]⟩
abbrev S8192x1024 : Shape := ⟨2, ![8192, 1024]⟩
abbrev S8192x8x128 : Shape := ⟨3, ![8192, 8, 128]⟩
abbrev S8192x8x64 : Shape := ⟨3, ![8192, 8, 64]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x8x128, .f32⟩
  | .hbm, ⟨4, _⟩ => ⟨S8192x8x64, .f32⟩
  | .hbm, ⟨5, _⟩ => ⟨S8192x8x64, .f32⟩
  | .hbm, ⟨6, _⟩ => ⟨S_, .i32⟩
  | .hbm, ⟨7, _⟩ => ⟨S_, .f32⟩
  | .hbm, ⟨8, _⟩ => ⟨S8192x8x128, .f32⟩
  | .hbm, ⟨9, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Qkv.lean ====
abbrev S8192x1024 : Shape := ⟨2, ![8192, 1024]⟩
abbrev S1024x3072 : Shape := ⟨2, ![1024, 3072]⟩
abbrev S8192 : Shape := ⟨1, ![8192]⟩
abbrev S1x128 : Shape := ⟨2, ![1, 128]⟩
abbrev S3072x1024 : Shape := ⟨2, ![3072, 1024]⟩
abbrev S32 : Shape := ⟨1, ![32]⟩
abbrev S_ : Shape := ⟨0, ![]⟩
abbrev S0 : Shape := ⟨1, ![0]⟩
abbrev S64 : Shape := ⟨1, ![64]⟩
abbrev S8192x1 : Shape := ⟨2, ![8192, 1]⟩
abbrev S1x64 : Shape := ⟨2, ![1, 64]⟩
abbrev S2x64 : Shape := ⟨2, ![2, 64]⟩
abbrev S128 : Shape := ⟨1, ![128]⟩
abbrev S8192x128 : Shape := ⟨2, ![8192, 128]⟩
abbrev S1024x1024 : Shape := ⟨2, ![1024, 1024]⟩
abbrev S512x1024 : Shape := ⟨2, ![512, 1024]⟩
abbrev S512x128 : Shape := ⟨2, ![512, 128]⟩

abbrev nBuf : Space → Nat
  | .hbm => 61
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192, .i32⟩
  | .hbm, ⟨3, _⟩ => ⟨S1x128, .i1⟩
  | .hbm, ⟨4, _⟩ => ⟨S1x128, .i1⟩
  | .hbm, ⟨5, _⟩ => ⟨S1x128, .i1⟩
  | .hbm, ⟨6, _⟩ => ⟨S3072x1024, .f32⟩
  | .hbm, ⟨7, _⟩ => ⟨S3072x1024, .bf16⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S0, .f32⟩
  | .hbm, ⟨24, _⟩ => ⟨S_, .f32⟩
  | .hbm, ⟨25, _⟩ => ⟨S0, .f32⟩
  | .hbm, ⟨26, _⟩ => ⟨S64, .f32⟩
  | .hbm, ⟨27, _⟩ => ⟨S8192, .f32⟩
  | .hbm, ⟨28, _⟩ => ⟨S8192x1, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S_, .f32⟩
  | .hbm, ⟨40, _⟩ => ⟨S8192x128, .i1⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S_, .f32⟩
  | .hbm, ⟨45, _⟩ => ⟨S8192x128, .i1⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S_, .f32⟩
  | .hbm, ⟨51, _⟩ => ⟨S8192x128, .i1⟩
  | .hbm, ⟨52, _⟩ => ⟨S8192x128, .f32⟩
  | .hbm, ⟨53, _⟩ => ⟨S8192x128, .f32⟩
  | .hbm, ⟨54, _⟩ => ⟨S8192x1024, .bf16⟩
  | .hbm, ⟨55, _⟩ => ⟨S1024x1024, .bf16⟩
  | .hbm, ⟨56, _⟩ => ⟨S1024x1024, .bf16⟩
  | .hbm, ⟨57, _⟩ => ⟨S1024x1024, .bf16⟩
  | .hbm, ⟨58, _⟩ => ⟨S8192x1024, .f32⟩
  | .hbm, ⟨59, _⟩ => ⟨S8192x1024, .f32⟩
  | .hbm, ⟨60, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_8 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S8192x1024 : Shape := ⟨2, ![8192, 1024]⟩
abbrev S1024x3072 : Shape := ⟨2, ![1024, 3072]⟩
abbrev S8192 : Shape := ⟨1, ![8192]⟩
abbrev S8192x3072 : Shape := ⟨2, ![8192, 3072]⟩
abbrev S8192x48x64 : Shape := ⟨3, ![8192, 48, 64]⟩
abbrev S8192x16x64 : Shape := ⟨3, ![8192, 16, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192, .i32⟩
  | .hbm, ⟨3, _⟩ => ⟨S8192x3072, .f32⟩
  | .hbm, ⟨4, _⟩ => ⟨S8192x48x64, .f32⟩
  | .hbm, ⟨5, _⟩ => ⟨S8192x16x64, .f32⟩
  | .hbm, ⟨6, _⟩ => ⟨S8192x16x64, .f32⟩
  | .hbm, ⟨7, _⟩ => ⟨S8192x16x64, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x1x32, .f32⟩
  | .hbm, ⟨30, _⟩ => ⟨S8192x32, .f32⟩
  | .hbm, ⟨31, _⟩ => ⟨S8192x1x32, .f32⟩
  | .hbm, ⟨32, _⟩ => ⟨S8192x16x32, .f32⟩
  | .hbm, ⟨33, _⟩ => ⟨S8192x16x32, .f32⟩
  | .hbm, ⟨34, _⟩ => ⟨S8192x16x32, .f32⟩
  | .hbm, ⟨35, _⟩ => ⟨S8192x16x32, .f32⟩
  | .hbm, ⟨36, _⟩ => ⟨S8192x16x32, .f32⟩
  | .hbm, ⟨37, _⟩ => ⟨S8192x16x32, .f32⟩
  | .hbm, ⟨38, _⟩ => ⟨S8192x16x32, .f32⟩
  | .hbm, ⟨39, _⟩ => ⟨S8192x16x32, .f32⟩
  | .hbm, ⟨40, _⟩ => ⟨S8192x16x32, .f32⟩
  | .hbm, ⟨41, _⟩ => ⟨S8192x16x32, .f32⟩
  | .hbm, ⟨42, _⟩ => ⟨S8192x16x32, .f32⟩
  | .hbm, ⟨43, _⟩ => ⟨S8192x16x32, .f32⟩
  | .hbm, ⟨44, _⟩ => ⟨S8192x16x64, .f32⟩
  | .hbm, ⟨45, _⟩ => ⟨S8192x1024, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192, .f32⟩
  | .hbm, ⟨61, _⟩ => ⟨S8192x1, .f32⟩
  | .hbm, ⟨62, _⟩ => ⟨S1x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x1x32, .f32⟩
  | .hbm, ⟨68, _⟩ => ⟨S8192x32, .f32⟩
  | .hbm, ⟨69, _⟩ => ⟨S8192x1x32, .f32⟩
  | .hbm, ⟨70, _⟩ => ⟨S8192x16x32, .f32⟩
  | .hbm, ⟨71, _⟩ => ⟨S8192x16x32, .f32⟩
  | .hbm, ⟨72, _⟩ => ⟨S8192x16x32, .f32⟩
  | .hbm, ⟨73, _⟩ => ⟨S8192x16x32, .f32⟩
  | .hbm, ⟨74, _⟩ => ⟨S8192x16x32, .f32⟩
  | .hbm, ⟨75, _⟩ => ⟨S8192x16x32, .f32⟩
  | .hbm, ⟨76, _⟩ => ⟨S8192x16x32, .f32⟩
  | .hbm, ⟨77, _⟩ => ⟨S8192x16x32, .f32⟩
  | .hbm, ⟨78, _⟩ => ⟨S8192x16x32, .f32⟩
  | .hbm, ⟨79, _⟩ => ⟨S8192x16x32, .f32⟩
  | .hbm, ⟨80, _⟩ => ⟨S8192x16x32, .f32⟩
  | .hbm, ⟨81, _⟩ => ⟨S8192x16x32, .f32⟩
  | .hbm, ⟨82, _⟩ => ⟨S8192x16x64, .f32⟩
  | .hbm, ⟨83, _⟩ => ⟨S8192x1024, .f32⟩
  | .hbm, ⟨84, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩

abbrev nD : Nat := 1
abbrev τ : Topo := Topo.v7x

variable {F : FTy → Type} [FloatOps F]
-- ==== In.lean ====
abbrev S8192x1024 : Shape := ⟨2, ![8192, 1024]⟩
abbrev S1024x1440 : Shape := ⟨2, ![1024, 1440]⟩
abbrev S8192 : Shape := ⟨1, ![8192]⟩
abbrev S1x128 : Shape := ⟨2, ![1, 128]⟩
abbrev S32 : Shape := ⟨1, ![32]⟩
abbrev S_ : Shape := ⟨0, ![]⟩
abbrev S0 : Shape := ⟨1, ![0]⟩
abbrev S64 : Shape := ⟨1, ![64]⟩
abbrev S8192x1 : Shape := ⟨2, ![8192, 1]⟩
abbrev S1x64 : Shape := ⟨2, ![1, 64]⟩
abbrev S2x64 : Shape := ⟨2, ![2, 64]⟩
abbrev S128 : Shape := ⟨1, ![128]⟩
abbrev S8192x128 : Shape := ⟨2, ![8192, 128]⟩
abbrev S1440x1024 : Shape := ⟨2, ![1440, 1024]⟩
abbrev S512x1024 : Shape := ⟨2, ![512, 1024]⟩
abbrev S256x1024 : Shape := ⟨2, ![256, 1024]⟩
abbrev S384x1024 : Shape := ⟨2, ![384, 1024]⟩
abbrev S32x1024 : Shape := ⟨2, ![32, 1024]⟩
abbrev S128x1024 : Shape := ⟨2, ![128, 1024]⟩
abbrev S8192x512 : Shape := ⟨2, ![8192, 512]⟩
abbrev S8192x256 : Shape := ⟨2, ![8192, 256]⟩
abbrev S8192x384 : Shape := ⟨2, ![8192, 384]⟩
abbrev S512x128 : Shape := ⟨2, ![512, 128]⟩
abbrev S512x512 : Shape := ⟨2, ![512, 512]⟩
abbrev S512x256 : Shape := ⟨2, ![512, 256]⟩
abbrev S512x384 : Shape := ⟨2, ![512, 384]⟩

abbrev nBuf : Space → Nat
  | .hbm => 68
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x1440, .f32⟩
  | .hbm, ⟨2, _⟩ => ⟨S8192, .i32⟩
  | .hbm, ⟨3, _⟩ => ⟨S1x128, .i1⟩
  | .hbm, ⟨4, _⟩ => ⟨S1x128, .i1⟩
  | .hbm, ⟨5, _⟩ => ⟨S1x128, .i1⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S0, .f32⟩
  | .hbm, ⟨22, _⟩ => ⟨S_, .f32⟩
  | .hbm, ⟨23, _⟩ => ⟨S0, .f32⟩
  | .hbm, ⟨24, _⟩ => ⟨S64, .f32⟩
  | .hbm, ⟨25, _⟩ => ⟨S8192, .f32⟩
  | .hbm, ⟨26, _⟩ => ⟨S8192x1, .f32⟩
  | .hbm, ⟨27, _⟩ => ⟨S1x64, .f32⟩
  | .hbm, ⟨28, _⟩ => ⟨S2x64, .f32⟩
  | .hbm, ⟨29, _⟩ => ⟨S128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S_, .f32⟩
  | .hbm, ⟨38, _⟩ => ⟨S8192x128, .i1⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S_, .f32⟩
  | .hbm, ⟨43, _⟩ => ⟨S8192x128, .i1⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S_, .f32⟩
  | .hbm, ⟨48, _⟩ => ⟨S_, .f32⟩
  | .hbm, ⟨49, _⟩ => ⟨S8192x128, .i1⟩
  | .hbm, ⟨50, _⟩ => ⟨S8192x128, .f32⟩
  | .hbm, ⟨51, _⟩ => ⟨S8192x128, .f32⟩
  | .hbm, ⟨52, _⟩ => ⟨S8192x1024, .bf16⟩
  | .hbm, ⟨53, _⟩ => ⟨S1440x1024, .f32⟩
  | .hbm, ⟨54, _⟩ => ⟨S1440x1024, .bf16⟩
  | .hbm, ⟨55, _⟩ => ⟨S512x1024, .bf16⟩
  | .hbm, ⟨56, _⟩ => ⟨S256x1024, .bf16⟩
  | .hbm, ⟨57, _⟩ => ⟨S384x1024, .bf16⟩
  | .hbm, ⟨58, _⟩ => ⟨S256x1024, .bf16⟩
  | .hbm, ⟨59, _⟩ => ⟨S32x1024, .bf16⟩
  | .hbm, ⟨60, _⟩ => ⟨S_, .i32⟩
  | .hbm, ⟨61, _⟩ => ⟨S_, .bf16⟩
  | .hbm, ⟨62, _⟩ => ⟨S128x1024, .bf16⟩
  | .hbm, ⟨63, _⟩ => ⟨S8192x512, .f32⟩
  | .hbm, ⟨64, _⟩ => ⟨S8192x256, .f32⟩
  | .hbm, ⟨65, _⟩ => ⟨S8192x384, .f32⟩
  | .hbm, ⟨66, _⟩ => ⟨S8192x256, .f32⟩
  | .hbm, ⟨67, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S256x1024, .bf16⟩
  | .local _ .vmem, ⟨4, _⟩ => ⟨S384x1024, .bf16⟩
  | .local _ .vmem, ⟨5, _⟩ => ⟨S256x1024, .bf16⟩
  | .local _ .vmem, ⟨6, _⟩ => ⟨S128x1024, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x256, .f32⟩
  | .local _ .vmem, ⟨16, _⟩ => ⟨S512x256, .f32⟩
  | .local _ .vmem, ⟨17, _⟩ => ⟨S512x384, .f32⟩
  | .local _ .vmem, ⟨18, _⟩ => ⟨S512x384, .f32⟩
  | .local _ .vmem, ⟨19, _⟩ => ⟨S512x256, .f32⟩
  | .local _ .vmem, ⟨20, _⟩ => ⟨S512x256, .f32⟩
  | .local _ .vmem, ⟨21, _⟩ => ⟨S512x128, .f32⟩
  | .local _ .vmem, ⟨22, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_call3_v0 : Ref sig .tc := ⟨.hbm, 61, rfl⟩
abbrev main_v36 : Ref sig .tc := ⟨.hbm, 62, rfl⟩
abbrev main_v37_0 : Ref sig .tc := ⟨.hbm, 63, rfl⟩
abbrev main_v37_1 : Ref sig .tc := ⟨.hbm, 64, rfl⟩
abbrev main_v37_2 : Ref sig .tc := ⟨.hbm, 65, rfl⟩
abbrev main_v37_3 : Ref sig .tc := ⟨.hbm, 66, rfl⟩
abbrev main_v37_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InRefIdeal.lean ====
abbrev S8192x1024 : Shape := ⟨2, ![8192, 1024]⟩
abbrev S1024x1440 : Shape := ⟨2, ![1024, 1440]⟩
abbrev S8192 : Shape := ⟨1, ![8192]⟩
abbrev S8192x1440 : Shape := ⟨2, ![8192, 1440]⟩
abbrev S8192x512 : Shape := ⟨2, ![8192, 512]⟩
abbrev S8192x128 : Shape := ⟨2, ![8192, 128]⟩
abbrev S8192x384 : Shape := ⟨2, ![8192, 384]⟩
abbrev S8192x256 : Shape := ⟨2, ![8192, 256]⟩
abbrev S8192x32 : Shape := ⟨2, ![8192, 32]⟩
abbrev S8192x8x64 : Shape := ⟨3, ![8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x1x32 : Shape := ⟨3, ![8192, 1, 32]⟩
abbrev S8192x8x32 : Shape := ⟨3, ![8192, 8, 32]⟩
abbrev S8192x64 : Shape := ⟨2, ![8192, 64]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1440, .f32⟩
  | .hbm, ⟨2, _⟩ => ⟨S8192, .i32⟩
  | .hbm, ⟨3, _⟩ => ⟨S8192x1440, .f32⟩
  | .hbm, ⟨4, _⟩ => ⟨S8192x512, .f32⟩
  | .hbm, ⟨5, _⟩ => ⟨S8192x128, .f32⟩
  | .hbm, ⟨6, _⟩ => ⟨S8192x128, .f32⟩
  | .hbm, ⟨7, _⟩ => ⟨S8192x384, .f32⟩
  | .hbm, ⟨8, _⟩ => ⟨S8192x256, .f32⟩
  | .hbm, ⟨9, _⟩ => ⟨S8192x32, .f32⟩
  | .hbm, ⟨10, _⟩ => ⟨S8192x8x64, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x1x32, .f32⟩
  | .hbm, ⟨33, _⟩ => ⟨S8192x32, .f32⟩
  | .hbm, ⟨34, _⟩ => ⟨S8192x1x32, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x32, .f32⟩
  | .hbm, ⟨42, _⟩ => ⟨S8192x8x32, .f32⟩
  | .hbm, ⟨43, _⟩ => ⟨S8192x8x32, .f32⟩
  | .hbm, ⟨44, _⟩ => ⟨S8192x8x32, .f32⟩
  | .hbm, ⟨45, _⟩ => ⟨S8192x8x32, .f32⟩
  | .hbm, ⟨46, _⟩ => ⟨S8192x8x32, .f32⟩
  | .hbm, ⟨47, _⟩ => ⟨S8192x8x64, .f32⟩
  | .hbm, ⟨48, _⟩ => ⟨S8192x512, .f32⟩
  | .hbm, ⟨49, _⟩ => ⟨S8192x256, .f32⟩
  | .hbm, ⟨50, _⟩ => ⟨S_, .f32⟩
  | .hbm, ⟨51, _⟩ => ⟨S8192x64, .f32⟩
  | .hbm, ⟨52, _⟩ => ⟨S_, .f32⟩
  | .hbm, ⟨53, _⟩ => ⟨S8192x32, .f32⟩
  | .hbm, ⟨54, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Uq.lean ====
abbrev S8192x384 : Shape := ⟨2, ![8192, 384]⟩
abbrev S384x768 : Shape := ⟨2, ![384, 768]⟩
abbrev S8192 : Shape := ⟨1, ![8192]⟩
abbrev S1x128 : Shape := ⟨2, ![1, 128]⟩
abbrev S768x384 : Shape := ⟨2, ![768, 384]⟩
abbrev S8x96x384 : Shape := ⟨3, ![8, 96, 384]⟩
abbrev S_ : Shape := ⟨0, ![]⟩
abbrev S8x128x384 : Shape := ⟨3, ![8, 128, 384]⟩
abbrev S1024x384 : Shape := ⟨2, ![1024, 384]⟩
abbrev S16 : Shape := ⟨1, ![16]⟩
abbrev S64 : Shape := ⟨1, ![64]⟩
abbrev S32 : Shape := ⟨1, ![32]⟩
abbrev S128 : Shape := ⟨1, ![128]⟩
abbrev S8192x1 : Shape := ⟨2, ![8192, 1]⟩
abbrev S8192x128 : Shape := ⟨2, ![8192, 128]⟩
abbrev S8192x1024 : Shape := ⟨2, ![8192, 1024]⟩
abbrev S2048x384 : Shape := ⟨2, ![2048, 384]⟩
abbrev S2048x128 : Shape := ⟨2, ![2048, 128]⟩
abbrev S2048x1024 : Shape := ⟨2, ![2048, 1024]⟩

abbrev nBuf : Space → Nat
  | .hbm => 61
  | .vmem => 11
  | .smem => 0
  | _ => 0

abbrev bufTy : (tb : Table) → Fin (tcTables nBuf tb) → BufTy
  | .hbm, ⟨0, _⟩ => ⟨S8192x384, .f32⟩
  | .hbm, ⟨1, _⟩ => ⟨S384x768, .f32⟩
  | .hbm, ⟨2, _⟩ => ⟨S8192, .i32⟩
  | .hbm, ⟨3, _⟩ => ⟨S1x128, .i1⟩
  | .hbm, ⟨4, _⟩ => ⟨S1x128, .i1⟩
  | .hbm, ⟨5, _⟩ => ⟨S1x128, .i1⟩
  | .hbm, ⟨6, _⟩ => ⟨S768x384, .f32⟩
  | .hbm, ⟨7, _⟩ => ⟨S768x384, .bf16⟩
  | .hbm, ⟨8, _⟩ => ⟨S8x96x384, .bf16⟩
  | .hbm, ⟨9, _⟩ => ⟨S_, .i32⟩
  | .hbm, ⟨10, _⟩ => ⟨S_, .bf16⟩
  | .hbm, ⟨11, _⟩ => ⟨S8x128x384, .bf16⟩
  | .hbm, ⟨12, _⟩ => ⟨S1024x384, .bf16⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S32, .f32⟩
  | .hbm, ⟨31, _⟩ => ⟨S128, .f32⟩
  | .hbm, ⟨32, _⟩ => ⟨S8192, .f32⟩
  | .hbm, ⟨33, _⟩ => ⟨S8192x1, .f32⟩
  | .hbm, ⟨34, _⟩ => ⟨S1x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S_, .f32⟩
  | .hbm, ⟨45, _⟩ => ⟨S8192x128, .i1⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S_, .f32⟩
  | .hbm, ⟨50, _⟩ => ⟨S8192x128, .i1⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S_, .f32⟩
  | .hbm, ⟨56, _⟩ => ⟨S8192x128, .i1⟩
  | .hbm, ⟨57, _⟩ => ⟨S8192x128, .f32⟩
  | .hbm, ⟨58, _⟩ => ⟨S8192x128, .f32⟩
  | .hbm, ⟨59, _⟩ => ⟨S8192x384, .bf16⟩
  | .hbm, ⟨60, _⟩ => ⟨S8192x1024, .f32⟩
  | .local _ .vmem, ⟨0, _⟩ => ⟨S2048x384, .bf16⟩
  | .local _ .vmem, ⟨1, _⟩ => ⟨S2048x384, .bf16⟩
  | .local _ .vmem, ⟨2, _⟩ => ⟨S1024x384, .bf16⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x1024, .f32⟩
  | .local _ .vmem, ⟨10, _⟩ => ⟨S2048x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_cst_9 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== UqRefIdeal.lean ====
abbrev S8192x384 : Shape := ⟨2, ![8192, 384]⟩
abbrev S384x768 : Shape := ⟨2, ![384, 768]⟩
abbrev S8192 : Shape := ⟨1, ![8192]⟩
abbrev S8192x768 : Shape := ⟨2, ![8192, 768]⟩
abbrev S8192x8x96 : Shape := ⟨3, ![8192, 8, 96]⟩
abbrev S8192x8x64 : Shape := ⟨3, ![8192, 8, 64]⟩
abbrev S8192x8x32 : Shape := ⟨3, ![8192, 8, 32]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x8x128 : Shape := ⟨3, ![8192, 8, 128]⟩
abbrev S8192x1024 : Shape := ⟨2, ![8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x768, .f32⟩
  | .hbm, ⟨2, _⟩ => ⟨S8192, .i32⟩
  | .hbm, ⟨3, _⟩ => ⟨S8192x768, .f32⟩
  | .hbm, ⟨4, _⟩ => ⟨S8192x8x96, .f32⟩
  | .hbm, ⟨5, _⟩ => ⟨S8192x8x64, .f32⟩
  | .hbm, ⟨6, _⟩ => ⟨S8192x8x32, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S8192, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x1x16, .f32⟩
  | .hbm, ⟨29, _⟩ => ⟨S8192x16, .f32⟩
  | .hbm, ⟨30, _⟩ => ⟨S8192x1x16, .f32⟩
  | .hbm, ⟨31, _⟩ => ⟨S8192x8x16, .f32⟩
  | .hbm, ⟨32, _⟩ => ⟨S8192x8x16, .f32⟩
  | .hbm, ⟨33, _⟩ => ⟨S8192x8x16, .f32⟩
  | .hbm, ⟨34, _⟩ => ⟨S8192x8x16, .f32⟩
  | .hbm, ⟨35, _⟩ => ⟨S8192x8x16, .f32⟩
  | .hbm, ⟨36, _⟩ => ⟨S8192x8x16, .f32⟩
  | .hbm, ⟨37, _⟩ => ⟨S8192x8x16, .f32⟩
  | .hbm, ⟨38, _⟩ => ⟨S8192x8x16, .f32⟩
  | .hbm, ⟨39, _⟩ => ⟨S8192x8x16, .f32⟩
  | .hbm, ⟨40, _⟩ => ⟨S8192x8x16, .f32⟩
  | .hbm, ⟨41, _⟩ => ⟨S8192x8x16, .f32⟩
  | .hbm, ⟨42, _⟩ => ⟨S8192x8x16, .f32⟩
  | .hbm, ⟨43, _⟩ => ⟨S8192x8x32, .f32⟩
  | .hbm, ⟨44, _⟩ => ⟨S_, .f32⟩
  | .hbm, ⟨45, _⟩ => ⟨S8192x8x32, .f32⟩
  | .hbm, ⟨46, _⟩ => ⟨S8192x8x128, .f32⟩
  | .hbm, ⟨47, _⟩ => ⟨S8192x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Xkv.lean ====
abbrev S256x1024 : Shape := ⟨2, ![256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .bf16⟩
  | .hbm, ⟨3, _⟩ => ⟨S1024x1024, .bf16⟩
  | .hbm, ⟨4, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvRefIdeal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== XkvX.lean ====
abbrev S256x1024 : Shape := ⟨2, ![256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S1024x1024, .bf16⟩
  | .hbm, ⟨4, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvXRefIdeal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== XkvW.lean ====
abbrev S256x1024 : Shape := ⟨2, ![256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .bf16⟩
  | .hbm, ⟨4, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvWRefIdeal.lean ====
abbrev S256x1024 : Shape := ⟨2, ![256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.SwaMath.lean ====
/- The real arithmetic of the gradient of a softmax with a sink: the weights, the weighted mean of the cotangents, and
   the two ways (forward and backward pass, shifted by any number or by the logarithm of the sum) in which they are made. -/
module

public import Idealize.ShloMosaic.Lib.Pointwise

@[expose] public section

noncomputable section

namespace Cert.Soft

open Idealize.ShloMosaic

/-! ## Real numbers among the extended reals -/

/-- A finite sum of real numbers, taken among the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers by one that is not zero, taken among the extended reals, is the real quotient. -/
theorem coe_div (x y : ℝ) (hy : y ≠ 0) : Ideal.div (x : EReal) (y : EReal) = ((x / y : ℝ) : EReal) := by
  rw [Ideal.div_coe hy, ← EReal.coe_mul, mul_one_div]

/-- The exponential of a real number. -/
theorem coe_exp (x : ℝ) : Ideal.exp (x : EReal) = ((Real.exp x : ℝ) : EReal) := rfl

/-- The logarithm of a positive real number. -/
theorem coe_log (x : ℝ) (hx : 0 < x) : Ideal.log (x : EReal) = ((Real.log x : ℝ) : EReal) := by
  show (if x ≤ 0 then (⊥ : EReal) else ((Real.log x : ℝ) : EReal)) = _
  rw [if_neg (not_le.mpr hx)]

/-- The exponential of a masked score less a real number: zero where the mask hides the score. -/
theorem exp_masked {M : Prop} [Decidable M] (x μ : ℝ) :
    Ideal.exp ((if M then (x : EReal) else ⊥) - (μ : EReal)) = ((if M then Real.exp (x - μ) else 0 : ℝ) : EReal) := by
  by_cases h : M
  · rw [if_pos h, if_pos h, ← EReal.coe_sub]; rfl
  · rw [if_neg h, if_neg h, EReal.bot_sub]; rfl

/-! ## The weights -/

variable {ι : Type*} [Fintype ι]
variable (M : ι → Prop) [DecidablePred M] (s : ι → ℝ) (sk : ℝ)

/-- The sum of the exponentials of the scores that the mask shows, and of the sink. -/
def Z : ℝ := (∑ j, if M j then Real.exp (s j) else 0) + Real.exp sk

/-- The weight of entry `j`. -/
def P (j : ι) : ℝ := (if M j then Real.exp (s j) else 0) / Z M s sk

/-- The weighted mean of `dp`. -/
def T (dp : ι → ℝ) : ℝ := ∑ j, P M s sk j * dp j

theorem Z_pos : 0 < Z M s sk := by
  unfold Z
  have h : 0 ≤ ∑ j, (if M j then Real.exp (s j) else 0) :=
    Finset.sum_nonneg fun j _ => by split <;> positivity
  have := Real.exp_pos sk
  linarith

/-- The shifted exponentials' sum. -/
def L (μ : ℝ) : ℝ := (∑ j, if M j then Real.exp (s j - μ) else 0) + Real.exp (sk - μ)

theorem L_eq (μ : ℝ) : L M s sk μ = Z M s sk * Real.exp (-μ) := by
  unfold L Z
  rw [add_mul, Finset.sum_mul, ← Real.exp_add, ← sub_eq_add_neg]
  congr 1
  refine Finset.sum_congr rfl fun j _ => ?_
  split
  · rw [← Real.exp_add, ← sub_eq_add_neg]
  · rw [zero_mul]

theorem L_pos (μ : ℝ) : 0 < L M s sk μ := by
  rw [L_eq]; exact mul_pos (Z_pos M s sk) (Real.exp_pos _)

/-- The forward pass's weight, at any shift, is the weight. -/
theorem weight_shift (μ : ℝ) (j : ι) : (if M j then Real.exp (s j - μ) else 0) / L M s sk μ = P M s sk j := by
  rw [L_eq]
  unfold P
  have hz := (Z_pos M s sk).ne'
  have he := (Real.exp_pos (-μ)).ne'
  split
  · rw [sub_eq_add_neg, Real.exp_add]; field_simp
  · rw [zero_div, zero_div]

/-- The sink's share, at any shift. -/
theorem sink_shift (μ : ℝ) : Real.exp (sk - μ) / L M s sk μ = Real.exp sk / Z M s sk := by
  rw [L_eq]
  have hz := (Z_pos M s sk).ne'
  have he := (Real.exp_pos (-μ)).ne'
  rw [sub_eq_add_neg, Real.exp_add]; field_simp

/-- The forward pass's saved logarithm, at any shift, is the logarithm of the sum. -/
theorem log_shift (μ : ℝ) : μ + Real.log (L M s sk μ) = Real.log (Z M s sk) := by
  rw [L_eq, Real.log_mul (Z_pos M s sk).ne' (Real.exp_pos _).ne', Real.log_exp]; ring

/-- The backward pass's weight: the exponential of the score less the saved logarithm. -/
theorem weight_log (j : ι) : (if M j then Real.exp (s j - Real.log (Z M s sk)) else 0) = P M s sk j := by
  unfold P
  split
  · rw [Real.exp_sub, Real.exp_log (Z_pos M s sk)]
  · rw [zero_div]

theorem sink_log : Real.exp (sk - Real.log (Z M s sk)) = Real.exp sk / Z M s sk := by
  rw [Real.exp_sub, Real.exp_log (Z_pos M s sk)]

theorem P_of_not {j : ι} (h : ¬ M j) : P M s sk j = 0 := by
  unfold P; rw [if_neg h, zero_div]

/-! ## The gradient as differentiation makes it -/

/-- The sum that differentiation takes first: the cotangents over the square of the sum, each times its exponential. -/
theorem mean_shift (μ : ℝ) (dp : ι → ℝ) :
    ∑ j, dp j * (1 / (L M s sk μ * L M s sk μ)) * (if M j then Real.exp (s j - μ) else 0) = T M s sk dp / L M s sk μ := by
  unfold T
  rw [Finset.sum_div]
  refine Finset.sum_congr rfl fun j _ => ?_
  rw [← weight_shift M s sk μ j]
  have hl := (L_pos M s sk μ).ne'
  field_simp

/-- The score's cotangent as differentiation makes it is the weight times the cotangent less the mean. -/
theorem score_shift (μ : ℝ) (dp : ι → ℝ) (j : ι) :
    (dp j / L M s sk μ + -(T M s sk dp / L M s sk μ)) * (if M j then Real.exp (s j - μ) else 0)
      = P M s sk j * (dp j - T M s sk dp) := by
  rw [← weight_shift M s sk μ j]
  have hl := (L_pos M s sk μ).ne'
  field_simp
  ring

/-- The weights and the sink's share sum to one. -/
theorem sum_P : ∑ j, P M s sk j = 1 - Real.exp sk / Z M s sk := by
  have hz := (Z_pos M s sk).ne'
  have h : ∑ j, P M s sk j = (∑ j, if M j then Real.exp (s j) else 0) / Z M s sk := by
    unfold P; rw [Finset.sum_div]
  rw [h, eq_sub_iff_add_eq, ← add_div, div_eq_one_iff_eq hz]; rfl

/-- What flows back into the shift is nothing. -/
theorem shift_zero (μ : ℝ) (dp : ι → ℝ) :
    -(-(T M s sk dp / L M s sk μ) * Real.exp (sk - μ)) + ∑ j, -(P M s sk j * (dp j - T M s sk dp)) = 0 := by
  have h1 : T M s sk dp / L M s sk μ * Real.exp (sk - μ) = T M s sk dp * (Real.exp sk / Z M s sk) := by
    rw [← sink_shift M s sk μ]; ring
  have h2 : ∑ j, -(P M s sk j * (dp j - T M s sk dp)) = -(T M s sk dp - (∑ j, P M s sk j) * T M s sk dp) := by
    rw [Finset.sum_neg_distrib, Finset.sum_mul, T, ← Finset.sum_sub_distrib]
    congr 1
    exact Finset.sum_congr rfl fun j _ => by ring
  rw [h2, sum_P, neg_mul, neg_neg, h1]; ring

/-- The sink's cotangent of one row as differentiation makes it. -/
theorem sink_grad (μ : ℝ) (dp : ι → ℝ) :
    -(T M s sk dp / L M s sk μ) * Real.exp (sk - μ) = -(Real.exp sk / Z M s sk) * T M s sk dp := by
  rw [← sink_shift M s sk μ]; ring

/-- The mean is the cotangent of the output times the output, lane by lane. -/
theorem mean_out {κ : Type*} [Fintype κ] (o : κ → ℝ) (v : ι → κ → ℝ) :
    ∑ d, o d * (∑ j, P M s sk j * v j d) = T M s sk (fun j => ∑ d, o d * v j d) := by
  unfold T
  simp only [Finset.mul_sum]
  rw [Finset.sum_comm]
  refine Finset.sum_congr rfl fun j _ => Finset.sum_congr rfl fun d _ => by ring

/-- The largest of entries none of which is infinite above, from the least value on: it is one of them, and not infinite above. -/
theorem max_real {n : ℕ} (f : Fin (n + 1) → EReal) (h : ∀ j, f j ≠ ⊤) :
    Finset.fold max ⊥ f Finset.univ ≠ ⊤ ∧ ∃ j, f j = Finset.fold max ⊥ f Finset.univ := by
  refine ⟨(lt_top_iff_ne_top).mp ((Finset.fold_max_lt ⊤).mpr ⟨bot_lt_top, fun j _ => lt_top_iff_ne_top.mpr (h j)⟩), ?_⟩
  have up : ∀ j, f j ≤ Finset.fold max ⊥ f Finset.univ := fun j =>
    (Finset.le_fold_max _).mpr (.inr ⟨j, Finset.mem_univ j, le_rfl⟩)
  rcases (Finset.le_fold_max (b := (⊥ : EReal)) (f := f) (s := Finset.univ) _).mp le_rfl with h0 | ⟨j, _, hj⟩
  · exact ⟨0, le_antisymm (up 0) (h0.trans bot_le)⟩
  · exact ⟨j, le_antisymm (up j) hj⟩

end Cert.Soft

end
-- ==== Proof.SwaWords.lean ====
/- The comparisons of index words that make the window's mask, as comparisons of natural numbers; and the three
   constants of the call as real numbers. -/
module

public import Idealize.ShloMosaic.Lib.Pointwise

@[expose] public section

namespace Cert.Swa

open Idealize.ShloMosaic

theorem bit_eq {p q : Prop} [Decidable p] [Decidable q] (h : p ↔ q) : BitVec.ofBool (decide p) = if q then 1#1 else 0#1 := by
  by_cases hq : q
  · rw [if_pos hq, decide_eq_true (h.mpr hq)]; rfl
  · rw [if_neg hq, decide_eq_false (fun hp => hq (h.mp hp))]; rfl

theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem or_bits (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

theorem sel_bit (p : Prop) [Decidable p] (x y : EReal) : Scalar.select (if p then 1#1 else 0#1) x y = if p then x else y := by
  by_cases hp : p <;> simp [hp, Scalar.select]

theorem small_int (r c : ℕ) (hr : r < 256) (hc : c < 256) :
    (IntOp.subi (BitVec.ofNat 32 r) (BitVec.ofNat 32 c)).toInt = (r : ℤ) - c := by
  unfold IntOp.subi
  rw [BitVec.toInt_sub, BitVec.toInt_ofNat', BitVec.toInt_ofNat']
  simp only [Int.bmod]
  split <;> split <;> split <;> omega

theorem word_add (r : ℕ) : IntOp.addi (128#32) (BitVec.ofNat 32 r) = BitVec.ofNat 32 (128 + r) := by
  unfold IntOp.addi; rw [← BitVec.ofNat_add]

theorem word_sle (r c : ℕ) (hr : r < 128) (hc : c < 256) :
    IntOp.cmpi .sle (IntOp.subi (IntOp.addi (128#32) (BitVec.ofNat 32 r)) (BitVec.ofNat 32 c)) 127#32
      = if r + 1 ≤ c then 1#1 else 0#1 := by
  rw [word_add]
  unfold IntOp.cmpi
  simp only [BitVec.sle, small_int (128 + r) c (by omega) hc]
  exact bit_eq (by rw [show (127#32).toInt = 127 from rfl]; omega)

theorem word_sge_sub (r c : ℕ) (hr : r < 128) (hc : c < 256) :
    IntOp.cmpi .sge (IntOp.subi (IntOp.addi (128#32) (BitVec.ofNat 32 r)) (BitVec.ofNat 32 c)) 0#32
      = if c ≤ 128 + r then 1#1 else 0#1 := by
  rw [word_add]
  unfold IntOp.cmpi
  simp only [BitVec.sle, small_int (128 + r) c (by omega) hc]
  exact bit_eq (by rw [show (0#32).toInt = 0 from rfl]; omega)

theorem small_nat (r : ℕ) (hr : r < 256) : (BitVec.ofNat 32 r).toInt = (r : ℤ) := by
  rw [BitVec.toInt_ofNat']
  simp only [Int.bmod]
  split <;> omega

theorem word_sge (r c : ℕ) (hr : r < 256) (hc : c < 256) :
    IntOp.cmpi .sge (BitVec.ofNat 32 r) (BitVec.ofNat 32 c) = if c ≤ r then 1#1 else 0#1 := by
  unfold IntOp.cmpi
  simp only [BitVec.sle, small_nat r hr, small_nat c hc]
  exact bit_eq (by omega)

theorem word_pos (n : ℕ) (hn : n < 256) : IntOp.cmpi .sgt (BitVec.ofNat 32 n) 0#32 = if 0 < n then 1#1 else 0#1 := by
  unfold IntOp.cmpi
  simp only [BitVec.slt, small_nat n hn]
  exact bit_eq (by rw [show (0#32).toInt = 0 from rfl]; omega)

theorem inf_bits : Ideal.ofBits .f32 4286578688#32 = ⊥ := by simp [Ideal.ofBits, Ideal.ieee]

theorem one_bits : Ideal.ofBits .f32 1065353216#32 = ((1 : ℝ) : EReal) := by
  simp [Ideal.ofBits, Ideal.ieee, -EReal.coe_mul]; norm_num

theorem eighth_bits : Ideal.ofBits .f32 1040187392#32 = ((0.125 : ℝ) : EReal) := by
  simp [Ideal.ofBits, Ideal.ieee, -EReal.coe_mul]; norm_num

end Cert.Swa
-- ==== Proof.SwaUnit.lean ====
/- One block of queries of the sliding-window call: what its body makes of the blocks it is given, entry by entry. The
   call's 512 lanes are four units of 128 lanes, and a unit is two heads of 64 lanes; the rows of the two heads are
   stacked, 256 rows against 256 keys (the block before and the block itself). -/
module

public import proofs.«01_k».proof.Proof.SwaMath
public import proofs.«01_k».proof.Proof.SwaWords
public import proofs.«01_k».proof.Proof.Gen.KernelIdeal.Value
public import Idealize.ShloMosaic.Lib.Pointwise

@[expose] public section

set_option maxRecDepth 16384

noncomputable section

namespace Cert.Swa

open Idealize.ShloMosaic Idealize.ShloMosaic.TcCoe Idealize.SL.Sem
open Cert.KernelIdeal Cert.KernelIdeal.Gen

/-- A table of real numbers as an array of extended reals. -/
abbrev arr2 {a b : ℕ} (x : ℕ → ℕ → ℝ) : (⟨2, ![a, b]⟩ : Shape).Idx → EReal := fun i => ((x (i 0).val (i 1).val : ℝ) : EReal)

/-- A list of real numbers as an array of extended reals. -/
abbrev arr1 {a : ℕ} (x : ℕ → ℝ) : (⟨1, ![a]⟩ : Shape).Idx → EReal := fun i => ((x (i 0).val : ℝ) : EReal)

/-! ## The parts of a unit -/

/-- The means of the cotangents, of both heads. -/
def uT (D O : FVec Ideal S128x128 .f32) : FVec Ideal S256x1 .f32 := k0_pay16 k0_pay6 (k0_pay10 D O) (k0_pay13 D O)
/-- The saved logarithms, of both heads. -/
def uL (L : FVec Ideal S128x128 .f32) : FVec Ideal S256x1 .f32 :=
  k0_pay17 k0_pay6 (k0_pay12 L) (FloatOps.ofBits FTy.f32 4286578688#32) k0_pay14
/-- The scaled queries, each head's rows with the other head's lanes zero. -/
def uQ (Q : FVec Ideal S128x128 .f32) : FVec Ideal S256x128 .bf16 := k0_pay18 k0_pay5 k0_pay6 (k0_pay9 Q)
/-- The cotangents, each head's rows with the other head's lanes zero. -/
def uD (D : FVec Ideal S128x128 .f32) : FVec Ideal S256x128 .bf16 := k0_pay19 k0_pay5 k0_pay6 (k0_pay11 D)
/-- The block before and the block itself. -/
def uK (A B : FVec Ideal S128x128 .f32) : FVec Ideal S256x128 .bf16 := k0_pay20 A B
/-- The sink's row with a block's cotangents added. -/
def uS (L D O : FVec Ideal S128x128 .f32) (s old : FVec Ideal S1x128 .f32) : FVec Ideal S1x128 .f32 :=
  k0_pay22 k0_pay5 (k0_pay12 L) (k0_pay13 D O) (k0_pay15 k0_pay6 (k0_pay10 D O)) s old

theorem lo_sel (l : Fin 128) (a b : EReal) : Scalar.select (k0_pay5 (ix2 0 l)) a b = if l.val / 64 = 0 then a else b := by
  have : k0_pay5 (ix2 0 l) = IntOp.cmpi .slt (BitVec.ofNat 32 l.val) 64#32 := by unfold k0_pay5; pointwise
  rw [this]
  revert l a b
  have : ∀ l : Fin 128, IntOp.cmpi .slt (BitVec.ofNat 32 l.val) 64#32 = if l.val / 64 = 0 then 1#1 else 0#1 := by decide
  intro l a b _
  rw [this l]
  split <;> rfl

theorem lo_sel0 (l : Fin 128) (a b : EReal) : Scalar.select (k0_pay5 (ix2 0 l)) a b = if l.val / 64 = ((0 : Fin 2) : ℕ) then a else b :=
  lo_sel l a b

theorem hi_bit (l : Fin 128) : k0_pay6 (ix2 0 l) = IntOp.xori (k0_pay5 (ix2 0 l)) 1#1 := by unfold k0_pay6; pointwise

theorem hi_sel (l : Fin 128) (a b : EReal) : Scalar.select (k0_pay6 (ix2 0 l)) a b = if l.val / 64 = 1 then a else b := by
  have h5 : k0_pay5 (ix2 0 l) = IntOp.cmpi .slt (BitVec.ofNat 32 l.val) 64#32 := by unfold k0_pay5; pointwise
  rw [hi_bit, h5]
  have : ∀ l : Fin 128, IntOp.xori (IntOp.cmpi .slt (BitVec.ofNat 32 l.val) 64#32) 1#1 = if l.val / 64 = 1 then 1#1 else 0#1 := by
    decide
  rw [this l]
  split <;> rfl

/-- A sum over a unit's lanes that keeps one head's. -/
theorem half_sum (b : Fin 2) (f : ℕ → EReal) :
    ∑ x : Fin 128, (if x.val / 64 = b.val then f x.val else 0) = ∑ d : Fin 64, f (64 * b.val + d.val) := by
  rw [show (∑ x : Fin 128, (if x.val / 64 = b.val then f x.val else 0))
    = ∑ x : Fin (64 + 64), (if x.val / 64 = b.val then f x.val else 0) from rfl, Fin.sum_univ_add]
  have h0 : ∀ i : Fin 64, i.val / 64 = 0 := fun i => by omega
  have h1 : ∀ i : Fin 64, (64 + i.val) / 64 = 1 := fun i => by omega
  fin_cases b <;> simp [h0, h1, Nat.add_comm]

/-- The row of a head among the stacked rows. -/
def srow (b : Fin 2) (r : Fin 128) : Fin 256 := ⟨128 * b.val + r.val, by omega⟩

/-- The greatest over a unit's lanes where one head's hold a number and the other's hold minus infinity. -/
theorem half_max (b : Fin 2) (f : Fin 128 → EReal) (lam : EReal) (h : ∀ x : Fin 128, f x = if x.val / 64 = b.val then lam else ⊥) :
    Finset.fold max ⊥ f Finset.univ = lam := by
  refine le_antisymm (Finset.fold_max_le _ |>.mpr ⟨bot_le, fun x _ => ?_⟩)
    (Finset.le_fold_max _ |>.mpr (.inr ⟨⟨64 * b.val, by omega⟩, Finset.mem_univ _, ?_⟩))
  · rw [h x]; split
    · exact le_rfl
    · exact bot_le
  · rw [h, if_pos (by show 64 * b.val / 64 = b.val; omega)]

theorem arr2_at {a b : ℕ} (x : ℕ → ℕ → ℝ) (i : Fin a) (j : Fin b) : arr2 x (ix2 i j) = ((x i.val j.val : ℝ) : EReal) := rfl

theorem prod_at (D O : ℕ → ℕ → ℝ) (r x : Fin 128) : k0_pay10 (F := Ideal) (arr2 D) (arr2 O) (ix2 r x)
    = (D r.val x.val : EReal) * (O r.val x.val : EReal) := by
  unfold k0_pay10; pointwise; rfl

/-- The mean of the cotangents of a head's row. -/
def mean (D O : ℕ → ℕ → ℝ) (b r : ℕ) : ℝ := ∑ d : Fin 64, D r (64 * b + d.val) * O r (64 * b + d.val)

theorem mean_eq (D O : ℕ → ℕ → ℝ) (b : Fin 2) (r : Fin 128) :
    (∑ x : Fin 128, if x.val / 64 = b.val then (D r.val x.val : EReal) * (O r.val x.val : EReal) else 0)
      = ((mean D O b.val r.val : ℝ) : EReal) := by
  rw [mean, ← Soft.coe_sum]
  simp only [EReal.coe_mul]
  exact half_sum b (fun x => (D r.val x : EReal) * (O r.val x : EReal))

theorem srow0 (r : Fin 128) : srow 0 r = ⟨r.val, by omega⟩ := Fin.ext (Nat.zero_add _)
theorem srow1 (r : Fin 128) : srow 1 r = ⟨128 + r.val, by omega⟩ := rfl

theorem uT_at (D O : ℕ → ℕ → ℝ) (b : Fin 2) (r : Fin 128) : uT (arr2 D) (arr2 O) (ix2 (srow b r) 0)
    = ((mean D O b.val r.val : ℝ) : EReal) := by
  rw [← mean_eq]
  unfold uT k0_pay16 k0_pay13 k0_pay15
  fin_cases b
  · pointwise
    simp [srow, lo_sel, prod_at]
  · pointwise
    simp [srow, hi_sel, prod_at]

theorem uL_at (L : ℕ → ℕ → ℝ) (b : Fin 2) (r : Fin 128) (lam : ℝ) (h : ∀ d : Fin 64, L r.val (64 * b.val + d.val) = lam) :
    uL (arr2 L) (ix2 (srow b r) 0) = (lam : EReal) := by
  have hx : ∀ x : Fin 128, x.val / 64 = b.val → arr2 (a := 128) (b := 128) L (ix2 r x) = (lam : EReal) := fun x hx => by
    rw [arr2_at, ← h ⟨x.val - 64 * b.val, by omega⟩]
    congr 2; show x.val = 64 * b.val + (x.val - 64 * b.val); omega
  have h14 : k0_pay14 = k0_pay5 := by
    funext i; rw [eq_ix2 i]; unfold k0_pay14 k0_pay5; pointwise
  unfold uL k0_pay17 k0_pay12
  rw [h14]
  fin_cases b
  · pointwise
    simp [srow, lo_sel0, inf_bits]
    refine half_max 0 _ _ fun x => ?_
    by_cases hb : x.val / 64 = 0
    · simp [hb, hx x hb]; omega
    · simp [hb]; omega
  · pointwise
    simp [srow, ← hi_bit, hi_sel, inf_bits]
    refine half_max 1 _ _ fun x => ?_
    by_cases hb : x.val / 64 = 1
    · simp [hb, hx x hb]
    · simp [hb]

theorem uQ_at (Q : ℕ → ℕ → ℝ) (b : Fin 2) (r : Fin 128) (l : Fin 128) : uQ (arr2 Q) (ix2 (srow b r) l)
    = if l.val / 64 = b.val then ((Q r.val l.val * 0.125 : ℝ) : EReal) else 0 := by
  unfold uQ k0_pay18 k0_pay9
  fin_cases b
  · pointwise
    simp [srow, lo_sel, eighth_bits, arr2_at]
  · pointwise
    simp [srow, hi_sel, eighth_bits, arr2_at]

theorem uD_at (Q : ℕ → ℕ → ℝ) (b : Fin 2) (r : Fin 128) (l : Fin 128) : uD (arr2 Q) (ix2 (srow b r) l)
    = if l.val / 64 = b.val then (Q r.val l.val : EReal) else 0 := by
  unfold uD k0_pay19 k0_pay11
  fin_cases b
  · pointwise
    simp [srow, lo_sel, arr2_at]
  · pointwise
    simp [srow, hi_sel, arr2_at]

/-- The key rows of two blocks, one after the other. -/
def cat2 (A B : ℕ → ℕ → ℝ) (x l : ℕ) : ℝ := if x < 128 then A x l else B (x - 128) l

theorem uK_at (A B : ℕ → ℕ → ℝ) (x : Fin 256) (l : Fin 128) : uK (arr2 A) (arr2 B) (ix2 x l) = ((cat2 A B x.val l.val : ℝ) : EReal) := by
  unfold uK k0_pay20 cat2
  pointwise
  split <;> rfl

/-- The sink's row: what it held, and the block's rows' cotangents. -/
theorem uS_at (L D O : ℕ → ℕ → ℝ) (s : ℕ → ℝ) (old : FVec Ideal S1x128 .f32) (l : Fin 128) (b : Fin 2) (hb : l.val / 64 = b.val) :
   uS (arr2 L) (arr2 D) (arr2 O) (arr2 fun _ => s) old (ix2 0 l) = old (ix2 0 l)
     + ((∑ r : Fin 128, -Real.exp (s l.val - L r.val l.val) * mean D O b.val r.val : ℝ) : EReal) := by
  unfold uS k0_pay22 k0_pay12 k0_pay13 k0_pay15
  pointwise
  rw [← Soft.coe_sum]
  congr 1
  refine Finset.sum_congr rfl fun r _ => ?_
  simp only [lo_sel, hi_sel, prod_at, arr2_at]
  rw [show (∑ x : Fin 128, if x.val / 64 = 0 then (D r.val x.val : EReal) * (O r.val x.val : EReal) else 0) = _ from mean_eq D O 0 r,
    show (∑ x : Fin 128, if x.val / 64 = 1 then (D r.val x.val : EReal) * (O r.val x.val : EReal) else 0) = _ from mean_eq D O 1 r,
    hb, ← EReal.coe_sub, Soft.coe_exp, EReal.coe_mul, EReal.coe_neg, zero_sub]
  fin_cases b <;> rfl

/-- A lane of the sink's row depends on what the row held in that lane alone. -/
theorem uS_congr (L D O : FVec Ideal S128x128 .f32) (s old old' : FVec Ideal S1x128 .f32) (l : Fin 128)
    (h : old (ix2 0 l) = old' (ix2 0 l)) : uS L D O s old (ix2 0 l) = uS L D O s old' (ix2 0 l) := by
  unfold uS k0_pay22
  pointwise
  rw [h]

/-! ## The scores' block -/

/-- What a query of block `i` sees of the 256 keys before it: those of the window, and of the block before only where
    there is one. -/
abbrev Vis (n r j : ℕ) : Prop := j ≤ 128 + r ∧ r + 1 ≤ j ∧ (0 < n ∨ 128 ≤ j)

theorem mask_at (i : grid0.Coords) (b : Fin 2) (r : Fin 128) (c : Fin 256) (x y : EReal) :
    Scalar.select (k0_pay7 i (ix2 (srow b r) c)) x y = if Vis (i 1).val r.val c.val then x else y := by
  have : k0_pay7 i (ix2 (srow b r) c) = if Vis (i 1).val r.val c.val then 1#1 else 0#1 := by
    unfold k0_pay7
    have hi : (i 1).val < 64 := (i 1).isLt
    have hr := r.isLt
    have hc := c.isLt
    fin_cases b
    all_goals
      pointwise
      simp only [srow, Scalar.cmpi]
      simp
      rw [word_sle _ _ hr hc, word_pos _ (by omega), and_bits]
      by_cases h : c.val < 128
      · rw [if_pos h]
        exact if_congr (by unfold Vis; omega) rfl rfl
      · rw [if_neg h, word_sge _ _ (by omega) (by omega)]
        exact if_congr (by unfold Vis; omega) rfl rfl
  rw [this]; split <;> rfl

/-- A unit's block of gradients before its two heads are put side by side. -/
def unitOut (M : IVec S256x256 1) (t l : FVec Ideal S256x1 .f32) (q d k v : FVec Ideal S256x128 .bf16) (r : Fin 256) (c : Fin 128) : EReal :=
  (∑ x, Ideal.exp (Scalar.select (M (ix2 r x)) (∑ y, q (ix2 r y) * k (ix2 x y)) ⊥ - l (ix2 r 0))
    * (∑ y, d (ix2 r y) * v (ix2 x y) - t (ix2 r 0)) * k (ix2 x c)) * Ideal.ofBits .f32 1040187392#32

/-- A unit's 128 lanes of a block's row. -/
def pick (M : IVec S256x256 1) (t l : FVec Ideal S256x1 .f32) (q d k v : FVec Ideal S256x128 .bf16) (r : Fin 128) (c : Fin 128) : EReal :=
  if c.val / 64 = 0 then unitOut M t l q d k v (srow 0 r) c else unitOut M t l q d k v (srow 1 r) c

section Stack

variable (M : IVec S256x256 1)
  (t0 l0 : FVec Ideal S256x1 .f32) (q0 d0 k0 v0 : FVec Ideal S256x128 .bf16)
  (t1 l1 : FVec Ideal S256x1 .f32) (q1 d1 k1 v1 : FVec Ideal S256x128 .bf16)
  (t2 l2 : FVec Ideal S256x1 .f32) (q2 d2 k2 v2 : FVec Ideal S256x128 .bf16)
  (t3 l3 : FVec Ideal S256x1 .f32) (q3 d3 k3 v3 : FVec Ideal S256x128 .bf16) (r c : Fin 128)

theorem mask_bot : (Named.named κ "mask" 4048155338#32 : Ideal .f32) = ⊥ := IdealRules.named_const.ideal_named_scalar _ _ _ _ rfl

theorem stack0 : k0_pay1 (k0_pay69 M t0 l0 q0 d0 k0 v0 t1 l1 q1 d1 k1 v1 t2 l2 q2 d2 k2 v2 t3 l3 q3 d3 k3 v3)
    (k0_pay70 M t0 l0 q0 d0 k0 v0 t1 l1 q1 d1 k1 v1 t2 l2 q2 d2 k2 v2 t3 l3 q3 d3 k3 v3) (k0_pay71 k0_pay5) (ix2 r c)
      = pick M t0 l0 q0 d0 k0 v0 r c := by
  unfold k0_pay1 k0_pay69 k0_pay70 k0_pay71 k0_pay68
  pointwise
  simp only [lo_sel, mask_bot, pick, unitOut, srow0, srow1]

theorem stack1 : k0_pay2 k0_pay5 (k0_pay68 M t0 l0 q0 d0 k0 v0 t1 l1 q1 d1 k1 v1 t2 l2 q2 d2 k2 v2 t3 l3 q3 d3 k3 v3) (ix2 r c)
      = pick M t1 l1 q1 d1 k1 v1 r c := by
  unfold k0_pay2 k0_pay68
  pointwise
  simp only [lo_sel, mask_bot, pick, unitOut, srow0, srow1]

theorem stack2 : k0_pay3 k0_pay5 (k0_pay68 M t0 l0 q0 d0 k0 v0 t1 l1 q1 d1 k1 v1 t2 l2 q2 d2 k2 v2 t3 l3 q3 d3 k3 v3) (ix2 r c)
      = pick M t2 l2 q2 d2 k2 v2 r c := by
  unfold k0_pay3 k0_pay68
  pointwise
  simp only [lo_sel, mask_bot, pick, unitOut, srow0, srow1]

theorem stack3 : k0_pay4 k0_pay5 (k0_pay68 M t0 l0 q0 d0 k0 v0 t1 l1 q1 d1 k1 v1 t2 l2 q2 d2 k2 v2 t3 l3 q3 d3 k3 v3) (ix2 r c)
      = pick M t3 l3 q3 d3 k3 v3 r c := by
  unfold k0_pay4 k0_pay68
  pointwise
  simp only [lo_sel, mask_bot, pick, unitOut, srow0, srow1]

end Stack

/-- A head's score of a key. -/
def sc1 (Q K0 K1 : ℕ → ℕ → ℝ) (b r x : ℕ) : ℝ := (∑ d : Fin 64, cat2 K0 K1 x (64 * b + d.val) * Q r (64 * b + d.val)) * 0.125

/-- A head's cotangent of a key's weight. -/
def dp1 (D V0 V1 : ℕ → ℕ → ℝ) (b r x : ℕ) : ℝ := ∑ d : Fin 64, D r (64 * b + d.val) * cat2 V0 V1 x (64 * b + d.val)

/-- A unit's entry, in real numbers: the backward pass of one head's row, from the saved logarithm `lam`. -/
theorem unitOut_at (i : grid0.Coords) (Q K0 K1 V0 V1 O L D : ℕ → ℕ → ℝ) (b : Fin 2) (r c : Fin 128) (lam : ℝ)
    (h : ∀ d : Fin 64, L r.val (64 * b.val + d.val) = lam) :
    unitOut (k0_pay7 i) (uT (arr2 D) (arr2 O)) (uL (arr2 L)) (uQ (arr2 Q)) (uD (arr2 D)) (uK (arr2 K0) (arr2 K1))
      (uK (arr2 V0) (arr2 V1)) (srow b r) c
      = (((∑ x : Fin 256, (if Vis (i 1).val r.val x.val then Real.exp (sc1 Q K0 K1 b.val r.val x.val - lam) else 0)
            * (dp1 D V0 V1 b.val r.val x.val - mean D O b.val r.val) * cat2 K0 K1 x.val c.val) * 0.125 : ℝ) : EReal) := by
  unfold unitOut
  rw [EReal.coe_mul, ← Soft.coe_sum, eighth_bits]
  congr 1
  refine Finset.sum_congr rfl fun x _ => ?_
  rw [uL_at L b r lam h, uT_at, uK_at, mask_at]
  have hs : ∑ y : Fin 128, uQ (arr2 Q) (ix2 (srow b r) y) * uK (arr2 K0) (arr2 K1) (ix2 x y)
      = ((sc1 Q K0 K1 b.val r.val x.val : ℝ) : EReal) := by
    have := half_sum b (fun y => ((Q r.val y * 0.125 : ℝ) : EReal) * ((cat2 K0 K1 x.val y : ℝ) : EReal))
    rw [sc1, Finset.sum_mul, ← Soft.coe_sum]
    refine Eq.trans (Finset.sum_congr rfl fun y _ => ?_) (this.trans (Finset.sum_congr rfl fun d _ => ?_))
    · rw [uQ_at, uK_at]; split
      · rfl
      · exact zero_mul _
    · rw [← EReal.coe_mul]; congr 1; ring
  have hd : ∑ y : Fin 128, uD (arr2 D) (ix2 (srow b r) y) * uK (arr2 V0) (arr2 V1) (ix2 x y)
      = ((dp1 D V0 V1 b.val r.val x.val : ℝ) : EReal) := by
    have := half_sum b (fun y => ((D r.val y : ℝ) : EReal) * ((cat2 V0 V1 x.val y : ℝ) : EReal))
    rw [dp1, ← Soft.coe_sum]
    refine Eq.trans (Finset.sum_congr rfl fun y _ => ?_) (this.trans (Finset.sum_congr rfl fun d _ => ?_))
    · rw [uD_at, uK_at]; split
      · rfl
      · exact zero_mul _
    · rw [← EReal.coe_mul]
  rw [hs, hd, Soft.exp_masked, ← EReal.coe_sub, ← EReal.coe_mul, ← EReal.coe_mul]

end Cert.Swa
end
-- ==== Proof.SwaPoint.lean ====
/- What one grid point of the sliding-window call leaves in its two windows: the block of query gradients, and the row of
   the sinks' gradients that the points add to one after another. -/
module

public import proofs.«01_k».proof.Proof.SwaUnit
public import Idealize.ShloMosaic.Lib.WritesUnit

@[expose] public section

set_option maxRecDepth 16384

noncomputable section

namespace Cert.Swa

open Idealize.ShloMosaic Idealize.ShloMosaic.TcCoe Idealize.SL.Sem
open Cert.KernelIdeal Cert.KernelIdeal.Gen

variable (m : (ℓ : Loc nD τ sig) → Buf (Elt Ideal) ℓ)

/-! ## The four units' lanes of a block -/

abbrev un0 (X : S128x512.Idx → EReal) : S128x128.Idx → EReal := View.ld (e' := .f32) (Val := Elt Ideal) X (Rect.unit ![0, 0] ![128, 128] inb_S128x512_S128x128_0_0)
abbrev un1 (X : S128x512.Idx → EReal) : S128x128.Idx → EReal := View.ld (e' := .f32) (Val := Elt Ideal) X (Rect.unit ![0, 128] ![128, 128] inb_S128x512_S128x128_0_128)
abbrev un2 (X : S128x512.Idx → EReal) : S128x128.Idx → EReal := View.ld (e' := .f32) (Val := Elt Ideal) X (Rect.unit ![0, 256] ![128, 128] inb_S128x512_S128x128_0_256)
abbrev un3 (X : S128x512.Idx → EReal) : S128x128.Idx → EReal := View.ld (e' := .f32) (Val := Elt Ideal) X (Rect.unit ![0, 384] ![128, 128] inb_S128x512_S128x128_0_384)

/-- A unit of a table of real numbers is the table from the unit's first lane on. -/
theorem ld_arr {a b c d o : ℕ} (inb : ∀ i, (![0, o] : Fin 2 → ℕ) i + (![c, d] : Fin 2 → ℕ) i ≤ (⟨2, ![a, b]⟩ : Shape).size i) (x : ℕ → ℕ → ℝ) :
    View.ld (e' := .f32) (Val := Elt Ideal) (S := ⟨2, ![a, b]⟩) (arr2 (a := a) (b := b) x) (Rect.unit ![0, o] ![c, d] inb)
      = (arr2 (fun r l => x r (o + l)) : (⟨2, ![c, d]⟩ : Shape).Idx → EReal) := by
  funext i
  show ((x (0 + 1 * (i 0).val) (o + 1 * (i 1).val) : ℝ) : EReal) = ((x (i 0).val (o + (i 1).val) : ℝ) : EReal)
  rw [Nat.zero_add, Nat.one_mul, Nat.one_mul]

/-! ## The block of query gradients -/

/-- The units' gradients before their heads are put side by side, from the blocks of queries, keys, values, outputs,
    logarithms and cotangents. -/
def block (i : grid0.Coords) (Q K0 K1 V0 V1 O L D : S128x512.Idx → EReal) (u : Fin 4) (r c : Fin 128) : EReal :=
  match u with
  | 0 => pick (k0_pay7 i) (uT (un0 D) (un0 O)) (uL (un0 L)) (uQ (un0 Q)) (uD (un0 D)) (uK (un0 K0) (un0 K1)) (uK (un0 V0) (un0 V1)) r c
  | 1 => pick (k0_pay7 i) (uT (un1 D) (un1 O)) (uL (un1 L)) (uQ (un1 Q)) (uD (un1 D)) (uK (un1 K0) (un1 K1)) (uK (un1 V0) (un1 V1)) r c
  | 2 => pick (k0_pay7 i) (uT (un2 D) (un2 O)) (uL (un2 L)) (uQ (un2 Q)) (uD (un2 D)) (uK (un2 K0) (un2 K1)) (uK (un2 V0) (un2 V1)) r c
  | 3 => pick (k0_pay7 i) (uT (un3 D) (un3 O)) (uL (un3 L)) (uQ (un3 Q)) (uD (un3 D)) (uK (un3 K0) (un3 K1)) (uK (un3 V0) (un3 V1)) r c

section Hits

variable {sig' : RefSig} {κ' : Kind} {sp : Space} {a b c' : ℕ} (v : View sig' κ' sp (⟨2, ![a, b]⟩ : Shape) (.f32))
  (f : v.ty.Contents (Elt Ideal)) {o : ℕ}
  (inb : ∀ i, (![0, o] : Fin 2 → ℕ) i + (![c', 128] : Fin 2 → ℕ) i ≤ (⟨2, ![a, b]⟩ : Shape).size i)
  (w : (Rect.unit (s := ⟨2, ![a, b]⟩) ![0, o] ![c', 128] inb).shape.Idx → Elt Ideal (.f32))
  (Ls : List (View.Piece (Elt Ideal) (⟨2, ![a, b]⟩ : Shape) (.f32)))

/-- The newest piece holds the index. -/
theorem hit (r : Fin a) (r' : Fin c') (hr : r.val = r'.val) (l : Fin b) (l' : Fin 128) (hl : l.val = o + l'.val) :
    v.read (Elt Ideal) (v.writes (Elt Ideal) f (⟨Rect.unit ![0, o] ![c', 128] inb, w⟩ :: Ls)) (ix2 r l) = w (ix2 r' l') :=
  View.read_writes_cons_unit_of_mem v f inb w Ls (ix2 r l) (ix2 r' l') rfl
    (Fin.forall_fin_two.mpr ⟨by show r.val = 0 + r'.val; omega, hl⟩)

/-- The newest piece holds other lanes. -/
theorem missLane (r : Fin a) (l : Fin b) (hl : l.val < o ∨ o + 128 ≤ l.val) :
    v.read (Elt Ideal) (v.writes (Elt Ideal) f (⟨Rect.unit ![0, o] ![c', 128] inb, w⟩ :: Ls)) (ix2 r l)
      = v.read (Elt Ideal) (v.writes (Elt Ideal) f Ls) (ix2 r l) :=
  View.read_writes_cons_unit_of_not_mem v f inb w Ls (ix2 r l) rfl 1 hl

/-- The newest piece holds rows before the index's. -/
theorem missRow (r : Fin a) (l : Fin b) (hr : c' ≤ r.val) :
    v.read (Elt Ideal) (v.writes (Elt Ideal) f (⟨Rect.unit ![0, o] ![c', 128] inb, w⟩ :: Ls)) (ix2 r l)
      = v.read (Elt Ideal) (v.writes (Elt Ideal) f Ls) (ix2 r l) :=
  View.read_writes_cons_unit_of_not_mem v f inb w Ls (ix2 r l) rfl 0 (.inr (by show 0 + c' ≤ r.val; omega))

/-- A store over the whole buffer holds every index. -/
theorem hitAll (inb : ∀ i, (![0, 0] : Fin 2 → ℕ) i + (![a, b] : Fin 2 → ℕ) i ≤ (⟨2, ![a, b]⟩ : Shape).size i)
    (w : (Rect.unit (s := ⟨2, ![a, b]⟩) ![0, 0] ![a, b] inb).shape.Idx → Elt Ideal (.f32)) (r : Fin a) (l : Fin b) :
    v.read (Elt Ideal) (v.writes (Elt Ideal) f (⟨Rect.unit ![0, 0] ![a, b] inb, w⟩ :: Ls)) (ix2 r l) = w (ix2 r l) :=
  View.read_writes_cons_unit_of_mem v f inb w Ls (ix2 r l) (ix2 r l) rfl
    (Fin.forall_fin_two.mpr ⟨(Nat.zero_add _).symm, (Nat.zero_add _).symm⟩)

end Hits

/-- A load of one row's lanes. -/
theorem ld_row {a b o : ℕ} (inb : ∀ i, (![0, o] : Fin 2 → ℕ) i + (![1, 128] : Fin 2 → ℕ) i ≤ (⟨2, ![a, b]⟩ : Shape).size i)
    (X : (⟨2, ![a, b]⟩ : Shape).Idx → EReal) (l : Fin 128) (r' : Fin a) (hr : r'.val = 0) (l' : Fin b) (h : l'.val = o + l.val) :
    View.ld (e' := .f32) (Val := Elt Ideal) (S := ⟨2, ![a, b]⟩) X (Rect.unit ![0, o] ![1, 128] inb) (ix2 0 l) = X (ix2 r' l') := by
  refine congrArg X (funext (Fin.forall_fin_two.mpr ⟨Fin.ext ?_, Fin.ext ?_⟩))
  · show 0 + 1 * 0 = r'.val
    omega
  · show o + 1 * l.val = l'.val
    omega

theorem out9 (c : Dev nD) (t : Fin cfg0.N) (u : Fin 4) (r l : Fin 128) :
    (outsAt0 m c t.val t.isLt).1 (ix2 r ⟨128 * u.val + l.val, by omega⟩)
      = block (grid0.coords t) (iblk m c 0 t) (iblk m c 1 t) (iblk m c 2 t) (iblk m c 3 t) (iblk m c 4 t) (iblk m c 5 t)
          (iblk m c 6 t) (iblk m c 7 t) u r l := by
  by_cases h0 : t.val % 64 = 0
  · rw [outsAt0_A m c t h0]
    unfold out0_A_9
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
    fin_cases u
    · rw [missLane (o := 384) _ _ _ _ _ _ _ (.inl (by show 128 * 0 + l.val < 384; omega)), missLane (o := 256) _ _ _ _ _ _ _ (.inl (by show 128 * 0 + l.val < 256; omega)), missLane (o := 128) _ _ _ _ _ _ _ (.inl (by show 128 * 0 + l.val < 128; omega)),
        hit (o := 0) _ _ _ _ _ r r rfl _ l (by rfl)]
      exact stack0 _ _ _ _ _ _ _ _ _ _ _ _ _ _ _ _ _ _ _ _ _ _ _ _ _ r l
    · rw [missLane (o := 384) _ _ _ _ _ _ _ (.inl (by show 128 * 1 + l.val < 384; omega)), missLane (o := 256) _ _ _ _ _ _ _ (.inl (by show 128 * 1 + l.val < 256; omega)), hit (o := 128) _ _ _ _ _ r r rfl _ l (by rfl)]
      exact stack1 _ _ _ _ _ _ _ _ _ _ _ _ _ _ _ _ _ _ _ _ _ _ _ _ _ r l
    · rw [missLane (o := 384) _ _ _ _ _ _ _ (.inl (by show 128 * 2 + l.val < 384; omega)), hit (o := 256) _ _ _ _ _ r r rfl _ l (by rfl)]
      exact stack2 _ _ _ _ _ _ _ _ _ _ _ _ _ _ _ _ _ _ _ _ _ _ _ _ _ r l
    · rw [hit (o := 384) _ _ _ _ _ r r rfl _ l (by rfl)]
      exact stack3 _ _ _ _ _ _ _ _ _ _ _ _ _ _ _ _ _ _ _ _ _ _ _ _ _ r l
  · rw [outsAt0_B m c t h0]
    unfold out0_B_9
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
    fin_cases u
    · rw [missLane (o := 384) _ _ _ _ _ _ _ (.inl (by show 128 * 0 + l.val < 384; omega)), missLane (o := 256) _ _ _ _ _ _ _ (.inl (by show 128 * 0 + l.val < 256; omega)), missLane (o := 128) _ _ _ _ _ _ _ (.inl (by show 128 * 0 + l.val < 128; omega)),
        hit (o := 0) _ _ _ _ _ r r rfl _ l (by rfl)]
      exact stack0 _ _ _ _ _ _ _ _ _ _ _ _ _ _ _ _ _ _ _ _ _ _ _ _ _ r l
    · rw [missLane (o := 384) _ _ _ _ _ _ _ (.inl (by show 128 * 1 + l.val < 384; omega)), missLane (o := 256) _ _ _ _ _ _ _ (.inl (by show 128 * 1 + l.val < 256; omega)), hit (o := 128) _ _ _ _ _ r r rfl _ l (by rfl)]
      exact stack1 _ _ _ _ _ _ _ _ _ _ _ _ _ _ _ _ _ _ _ _ _ _ _ _ _ r l
    · rw [missLane (o := 384) _ _ _ _ _ _ _ (.inl (by show 128 * 2 + l.val < 384; omega)), hit (o := 256) _ _ _ _ _ r r rfl _ l (by rfl)]
      exact stack2 _ _ _ _ _ _ _ _ _ _ _ _ _ _ _ _ _ _ _ _ _ _ _ _ _ r l
    · rw [hit (o := 384) _ _ _ _ _ r r rfl _ l (by rfl)]
      exact stack3 _ _ _ _ _ _ _ _ _ _ _ _ _ _ _ _ _ _ _ _ _ _ _ _ _ r l

/-! ## The row of the sinks' gradients -/

abbrev rn0 (X : S1x512.Idx → EReal) : S1x128.Idx → EReal := View.ld (e' := .f32) (Val := Elt Ideal) X (Rect.unit ![0, 0] ![1, 128] inb_S1x512_S1x128_0_0)
abbrev rn1 (X : S1x512.Idx → EReal) : S1x128.Idx → EReal := View.ld (e' := .f32) (Val := Elt Ideal) X (Rect.unit ![0, 128] ![1, 128] inb_S1x512_S1x128_0_128)
abbrev rn2 (X : S1x512.Idx → EReal) : S1x128.Idx → EReal := View.ld (e' := .f32) (Val := Elt Ideal) X (Rect.unit ![0, 256] ![1, 128] inb_S1x512_S1x128_0_256)
abbrev rn3 (X : S1x512.Idx → EReal) : S1x128.Idx → EReal := View.ld (e' := .f32) (Val := Elt Ideal) X (Rect.unit ![0, 384] ![1, 128] inb_S1x512_S1x128_0_384)

/-- A unit's lanes of the row, where the lane held `old`. -/
def row (s : S1x512.Idx → EReal) (O L D : S128x512.Idx → EReal) (u : Fin 4) (l : Fin 128) (old : EReal) : EReal :=
  match u with
  | 0 => uS (un0 L) (un0 D) (un0 O) (rn0 s) (fun _ => old) (ix2 0 l)
  | 1 => uS (un1 L) (un1 D) (un1 O) (rn1 s) (fun _ => old) (ix2 0 l)
  | 2 => uS (un2 L) (un2 D) (un2 O) (rn2 s) (fun _ => old) (ix2 0 l)
  | 3 => uS (un3 L) (un3 D) (un3 O) (rn3 s) (fun _ => old) (ix2 0 l)

theorem out10_later (c : Dev nD) (t : Fin cfg0.N) (h0 : ¬ t.val % 64 = 0) (u : Fin 4) (l : Fin 128) :
    (outsAt0 m c t.val t.isLt).2 (ix2 0 ⟨128 * u.val + l.val, by omega⟩)
      = row (iblk m c 8 t) (iblk m c 5 t) (iblk m c 6 t) (iblk m c 7 t) u l
          ((outsAt0 m c (t.val - 1) (Nat.lt_of_le_of_lt (Nat.sub_le _ _) t.isLt)).2 (ix2 0 ⟨128 * u.val + l.val, by omega⟩)) := by
  rw [outsAt0_B m c t h0]
  unfold out0_B_10
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread]
  fin_cases u
  · rw [missLane (o := 384) _ _ _ _ _ _ _ (.inl (by show 128 * 0 + l.val < 384; omega)), missLane (o := 256) _ _ _ _ _ _ _ (.inl (by show 128 * 0 + l.val < 256; omega)), missLane (o := 128) _ _ _ _ _ _ _ (.inl (by show 128 * 0 + l.val < 128; omega)),
      hit (o := 0) (a := 8) (b := 512) (c' := 1) _ _ _ _ _ 0 0 rfl _ l (by rfl)]
    exact uS_congr _ _ _ _ _ _ l (ld_row _ _ l 0 rfl _ rfl)
  · rw [missLane (o := 384) _ _ _ _ _ _ _ (.inl (by show 128 * 1 + l.val < 384; omega)), missLane (o := 256) _ _ _ _ _ _ _ (.inl (by show 128 * 1 + l.val < 256; omega)), hit (o := 128) (a := 8) (b := 512) (c' := 1) _ _ _ _ _ 0 0 rfl _ l (by rfl)]
    exact uS_congr _ _ _ _ _ _ l (ld_row _ _ l 0 rfl _ rfl)
  · rw [missLane (o := 384) _ _ _ _ _ _ _ (.inl (by show 128 * 2 + l.val < 384; omega)), hit (o := 256) (a := 8) (b := 512) (c' := 1) _ _ _ _ _ 0 0 rfl _ l (by rfl)]
    exact uS_congr _ _ _ _ _ _ l (ld_row _ _ l 0 rfl _ rfl)
  · rw [hit (o := 384) (a := 8) (b := 512) (c' := 1) _ _ _ _ _ 0 0 rfl _ l (by rfl)]
    exact uS_congr _ _ _ _ _ _ l (ld_row _ _ l 0 rfl _ rfl)

/-- The first point clears the row. -/
theorem zero_at (i : S8x512.Idx) : (k0_pay8 (F := Ideal)) i = 0 := by
  unfold k0_pay8
  pointwise

theorem out10_first (c : Dev nD) (t : Fin cfg0.N) (h0 : t.val % 64 = 0) (u : Fin 4) (l : Fin 128) :
    (outsAt0 m c t.val t.isLt).2 (ix2 0 ⟨128 * u.val + l.val, by omega⟩)
      = row (iblk m c 8 t) (iblk m c 5 t) (iblk m c 6 t) (iblk m c 7 t) u l 0 := by
  rw [outsAt0_A m c t h0]
  unfold out0_A_10
  unfold kernelRun0_A
  dsimp only
  sl_unfold_words
  simp only [View.readCov, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  fin_cases u
  · rw [missLane (o := 384) _ _ _ _ _ _ _ (.inl (by show 128 * 0 + l.val < 384; omega)), missLane (o := 256) _ _ _ _ _ _ _ (.inl (by show 128 * 0 + l.val < 256; omega)), missLane (o := 128) _ _ _ _ _ _ _ (.inl (by show 128 * 0 + l.val < 128; omega)),
      hit (o := 0) (a := 8) (b := 512) (c' := 1) _ _ _ _ _ 0 0 rfl _ l (by rfl)]
    refine uS_congr _ _ _ _ _ _ l ((ld_row _ _ l 0 rfl ⟨128 * 0 + l.val, by omega⟩ rfl).trans ?_)
    rw [hitAll (a := 8) (b := 512)]
    exact zero_at _
  · rw [missLane (o := 384) _ _ _ _ _ _ _ (.inl (by show 128 * 1 + l.val < 384; omega)), missLane (o := 256) _ _ _ _ _ _ _ (.inl (by show 128 * 1 + l.val < 256; omega)), hit (o := 128) (a := 8) (b := 512) (c' := 1) _ _ _ _ _ 0 0 rfl _ l (by rfl)]
    refine uS_congr _ _ _ _ _ _ l ((ld_row _ _ l 0 rfl ⟨128 * 1 + l.val, by omega⟩ rfl).trans ?_)
    rw [missLane (o := 0) _ _ _ _ _ _ _ (.inr (by show 0 + 128 ≤ 128 * 1 + l.val; omega)), hitAll (a := 8) (b := 512)]
    exact zero_at _
  · rw [missLane (o := 384) _ _ _ _ _ _ _ (.inl (by show 128 * 2 + l.val < 384; omega)), hit (o := 256) (a := 8) (b := 512) (c' := 1) _ _ _ _ _ 0 0 rfl _ l (by rfl)]
    refine uS_congr _ _ _ _ _ _ l ((ld_row _ _ l 0 rfl ⟨128 * 2 + l.val, by omega⟩ rfl).trans ?_)
    rw [missLane (o := 128) _ _ _ _ _ _ _ (.inr (by show 128 + 128 ≤ 128 * 2 + l.val; omega)), missLane (o := 0) _ _ _ _ _ _ _ (.inr (by show 0 + 128 ≤ 128 * 2 + l.val; omega)), hitAll (a := 8) (b := 512)]
    exact zero_at _
  · rw [hit (o := 384) (a := 8) (b := 512) (c' := 1) _ _ _ _ _ 0 0 rfl _ l (by rfl)]
    refine uS_congr _ _ _ _ _ _ l ((ld_row _ _ l 0 rfl ⟨128 * 3 + l.val, by omega⟩ rfl).trans ?_)
    rw [missLane (o := 256) _ _ _ _ _ _ _ (.inr (by show 256 + 128 ≤ 128 * 3 + l.val; omega)), missLane (o := 128) _ _ _ _ _ _ _ (.inr (by show 128 + 128 ≤ 128 * 3 + l.val; omega)), missLane (o := 0) _ _ _ _ _ _ _ (.inr (by show 0 + 128 ≤ 128 * 3 + l.val; omega)), hitAll (a := 8) (b := 512)]
    exact zero_at _

/-! The rows below the first: no point but the first stores there. -/

theorem out10_below_later (c : Dev nD) (t : Fin cfg0.N) (h0 : ¬ t.val % 64 = 0) (r : Fin 8) (hr : 1 ≤ r.val) (l : Fin 512) :
    (outsAt0 m c t.val t.isLt).2 (ix2 r l)
      = (outsAt0 m c (t.val - 1) (Nat.lt_of_le_of_lt (Nat.sub_le _ _) t.isLt)).2 (ix2 r l) := by
  rw [outsAt0_B m c t h0]
  unfold out0_B_10
  unfold kernelRun0_B
  dsimp only
  sl_unfold_words
  rw [missRow (o := 384) (c' := 1) _ _ _ _ _ _ _ hr, missRow (o := 256) (c' := 1) _ _ _ _ _ _ _ hr,
    missRow (o := 128) (c' := 1) _ _ _ _ _ _ _ hr, missRow (o := 0) (c' := 1) _ _ _ _ _ _ _ hr]
  exact congrFun ((hs0_10 t).read_unread _) _

theorem out10_below_first (c : Dev nD) (t : Fin cfg0.N) (h0 : t.val % 64 = 0) (r : Fin 8) (hr : 1 ≤ r.val) (l : Fin 512) :
    (outsAt0 m c t.val t.isLt).2 (ix2 r l) = 0 := by
  rw [outsAt0_A m c t h0]
  unfold out0_A_10
  unfold kernelRun0_A
  dsimp only
  sl_unfold_words
  rw [missRow (o := 384) (c' := 1) _ _ _ _ _ _ _ hr, missRow (o := 256) (c' := 1) _ _ _ _ _ _ _ hr,
    missRow (o := 128) (c' := 1) _ _ _ _ _ _ _ hr, missRow (o := 0) (c' := 1) _ _ _ _ _ _ _ hr, hitAll (a := 8) (b := 512)]
  exact zero_at _

end Cert.Swa
end
-- ==== Proof.SwaBlocks.lean ====
/- The blocks of the sliding-window call: where a grid point's blocks sit in their arrays, and what the point computes from
   arrays of real numbers. -/
module

public import proofs.«01_k».proof.Proof.SwaPoint
public import proofs.«01_k».proof.Proof.Gen.KernelIdeal.Value

@[expose] public section

set_option maxRecDepth 16384

noncomputable section

namespace Cert.Swa

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem point_row : ∀ t : Fin cfg0.N, (grid0.coords t 1).val = t.val :=
  (by decide +kernel : ∀ t : Fin grid0.N, (grid0.coords t 1).val = t.val)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val - 1 ∧ win0_1.index t 1 = 0 :=
  (by decide +kernel : ∀ t : Fin grid0.N, win0_1.index t 0 = t.val - 1 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val - 1 ∧ win0_3.index t 1 = 0 :=
  (by decide +kernel : ∀ t : Fin grid0.N, win0_3.index t 0 = t.val - 1 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)

/-- The rows of a table from row `128 n` on. -/
def from_ (x : ℕ → ℕ → ℝ) (n : ℕ) : ℕ → ℕ → ℝ := fun r l => x (128 * n + r) l

theorem read0 (t : Fin cfg0.N) (A : S8192x512.Idx → EReal) (x : ℕ → ℕ → ℝ) (h : A = arr2 x) :
    ((cfg0.win 0).blk t).view.read (Elt Ideal) A = arr2 (a := 128) (b := 512) (from_ x t.val) := by
  funext y
  show A ((win0_0.rect t).emb y) = _
  rw [h]
  show ((x ((win0_0.rect t).emb y 0).val ((win0_0.rect t).emb y 1).val : ℝ) : EReal) = _
  rw [win0_0.rect_emb_val t y 0, win0_0.rect_emb_val t y 1, (index0 t).1, (index0 t).2]
  show ((x (t.val * 128 + (y 0).val) (0 * 512 + (y 1).val) : ℝ) : EReal) = ((x (128 * t.val + (y 0).val) (y 1).val : ℝ) : EReal)
  rw [Nat.mul_comm, Nat.zero_mul, Nat.zero_add]

theorem iblk0 (c : Dev nD) (t : Fin cfg0.N) (x : ℕ → ℕ → ℝ) (h : V m c main_arg0 = arr2 (a := 8192) (b := 512) x) :
    iblk m c 0 t = arr2 (a := 128) (b := 512) (from_ x t.val) := by
  unfold iblk
  exact read0 t _ x h

theorem read1 (t : Fin cfg0.N) (A : S8192x512.Idx → EReal) (x : ℕ → ℕ → ℝ) (h : A = arr2 x) :
    ((cfg0.win 1).blk t).view.read (Elt Ideal) A = arr2 (a := 128) (b := 512) (from_ x (t.val - 1)) := by
  funext y
  show A ((win0_1.rect t).emb y) = _
  rw [h]
  show ((x ((win0_1.rect t).emb y 0).val ((win0_1.rect t).emb y 1).val : ℝ) : EReal) = _
  rw [win0_1.rect_emb_val t y 0, win0_1.rect_emb_val t y 1, (index1 t).1, (index1 t).2]
  show ((x ((t.val - 1) * 128 + (y 0).val) (0 * 512 + (y 1).val) : ℝ) : EReal) = ((x (128 * (t.val - 1) + (y 0).val) (y 1).val : ℝ) : EReal)
  rw [Nat.mul_comm, Nat.zero_mul, Nat.zero_add]

theorem iblk1 (c : Dev nD) (t : Fin cfg0.N) (x : ℕ → ℕ → ℝ) (h : V m c main_v77 = arr2 (a := 8192) (b := 512) x) :
    iblk m c 1 t = arr2 (a := 128) (b := 512) (from_ x (t.val - 1)) := by
  unfold iblk
  exact read1 t _ x h

theorem read2 (t : Fin cfg0.N) (A : S8192x512.Idx → EReal) (x : ℕ → ℕ → ℝ) (h : A = arr2 x) :
    ((cfg0.win 2).blk t).view.read (Elt Ideal) A = arr2 (a := 128) (b := 512) (from_ x t.val) := by
  funext y
  show A ((win0_2.rect t).emb y) = _
  rw [h]
  show ((x ((win0_2.rect t).emb y 0).val ((win0_2.rect t).emb y 1).val : ℝ) : EReal) = _
  rw [win0_2.rect_emb_val t y 0, win0_2.rect_emb_val t y 1, (index2 t).1, (index2 t).2]
  show ((x (t.val * 128 + (y 0).val) (0 * 512 + (y 1).val) : ℝ) : EReal) = ((x (128 * t.val + (y 0).val) (y 1).val : ℝ) : EReal)
  rw [Nat.mul_comm, Nat.zero_mul, Nat.zero_add]

theorem iblk2 (c : Dev nD) (t : Fin cfg0.N) (x : ℕ → ℕ → ℝ) (h : V m c main_v77 = arr2 (a := 8192) (b := 512) x) :
    iblk m c 2 t = arr2 (a := 128) (b := 512) (from_ x t.val) := by
  unfold iblk
  exact read2 t _ x h

theorem read3 (t : Fin cfg0.N) (A : S8192x512.Idx → EReal) (x : ℕ → ℕ → ℝ) (h : A = arr2 x) :
    ((cfg0.win 3).blk t).view.read (Elt Ideal) A = arr2 (a := 128) (b := 512) (from_ x (t.val - 1)) := by
  funext y
  show A ((win0_3.rect t).emb y) = _
  rw [h]
  show ((x ((win0_3.rect t).emb y 0).val ((win0_3.rect t).emb y 1).val : ℝ) : EReal) = _
  rw [win0_3.rect_emb_val t y 0, win0_3.rect_emb_val t y 1, (index3 t).1, (index3 t).2]
  show ((x ((t.val - 1) * 128 + (y 0).val) (0 * 512 + (y 1).val) : ℝ) : EReal) = ((x (128 * (t.val - 1) + (y 0).val) (y 1).val : ℝ) : EReal)
  rw [Nat.mul_comm, Nat.zero_mul, Nat.zero_add]

theorem iblk3 (c : Dev nD) (t : Fin cfg0.N) (x : ℕ → ℕ → ℝ) (h : V m c main_v80 = arr2 (a := 8192) (b := 512) x) :
    iblk m c 3 t = arr2 (a := 128) (b := 512) (from_ x (t.val - 1)) := by
  unfold iblk
  exact read3 t _ x h

theorem read4 (t : Fin cfg0.N) (A : S8192x512.Idx → EReal) (x : ℕ → ℕ → ℝ) (h : A = arr2 x) :
    ((cfg0.win 4).blk t).view.read (Elt Ideal) A = arr2 (a := 128) (b := 512) (from_ x t.val) := by
  funext y
  show A ((win0_4.rect t).emb y) = _
  rw [h]
  show ((x ((win0_4.rect t).emb y 0).val ((win0_4.rect t).emb y 1).val : ℝ) : EReal) = _
  rw [win0_4.rect_emb_val t y 0, win0_4.rect_emb_val t y 1, (index4 t).1, (index4 t).2]
  show ((x (t.val * 128 + (y 0).val) (0 * 512 + (y 1).val) : ℝ) : EReal) = ((x (128 * t.val + (y 0).val) (y 1).val : ℝ) : EReal)
  rw [Nat.mul_comm, Nat.zero_mul, Nat.zero_add]

theorem iblk4 (c : Dev nD) (t : Fin cfg0.N) (x : ℕ → ℕ → ℝ) (h : V m c main_v80 = arr2 (a := 8192) (b := 512) x) :
    iblk m c 4 t = arr2 (a := 128) (b := 512) (from_ x t.val) := by
  unfold iblk
  exact read4 t _ x h

theorem read5 (t : Fin cfg0.N) (A : S8192x512.Idx → EReal) (x : ℕ → ℕ → ℝ) (h : A = arr2 x) :
    ((cfg0.win 5).blk t).view.read (Elt Ideal) A = arr2 (a := 128) (b := 512) (from_ x t.val) := by
  funext y
  show A ((win0_5.rect t).emb y) = _
  rw [h]
  show ((x ((win0_5.rect t).emb y 0).val ((win0_5.rect t).emb y 1).val : ℝ) : EReal) = _
  rw [win0_5.rect_emb_val t y 0, win0_5.rect_emb_val t y 1, (index5 t).1, (index5 t).2]
  show ((x (t.val * 128 + (y 0).val) (0 * 512 + (y 1).val) : ℝ) : EReal) = ((x (128 * t.val + (y 0).val) (y 1).val : ℝ) : EReal)
  rw [Nat.mul_comm, Nat.zero_mul, Nat.zero_add]

theorem iblk5 (c : Dev nD) (t : Fin cfg0.N) (x : ℕ → ℕ → ℝ) (h : V m c main_v71 = arr2 (a := 8192) (b := 512) x) :
    iblk m c 5 t = arr2 (a := 128) (b := 512) (from_ x t.val) := by
  unfold iblk
  exact read5 t _ x h

theorem read6 (t : Fin cfg0.N) (A : S8192x512.Idx → EReal) (x : ℕ → ℕ → ℝ) (h : A = arr2 x) :
    ((cfg0.win 6).blk t).view.read (Elt Ideal) A = arr2 (a := 128) (b := 512) (from_ x t.val) := by
  funext y
  show A ((win0_6.rect t).emb y) = _
  rw [h]
  show ((x ((win0_6.rect t).emb y 0).val ((win0_6.rect t).emb y 1).val : ℝ) : EReal) = _
  rw [win0_6.rect_emb_val t y 0, win0_6.rect_emb_val t y 1, (index6 t).1, (index6 t).2]
  show ((x (t.val * 128 + (y 0).val) (0 * 512 + (y 1).val) : ℝ) : EReal) = ((x (128 * t.val + (y 0).val) (y 1).val : ℝ) : EReal)
  rw [Nat.mul_comm, Nat.zero_mul, Nat.zero_add]

theorem iblk6 (c : Dev nD) (t : Fin cfg0.N) (x : ℕ → ℕ → ℝ) (h : V m c main_v74 = arr2 (a := 8192) (b := 512) x) :
    iblk m c 6 t = arr2 (a := 128) (b := 512) (from_ x t.val) := by
  unfold iblk
  exact read6 t _ x h

theorem read7 (t : Fin cfg0.N) (A : S8192x512.Idx → EReal) (x : ℕ → ℕ → ℝ) (h : A = arr2 x) :
    ((cfg0.win 7).blk t).view.read (Elt Ideal) A = arr2 (a := 128) (b := 512) (from_ x t.val) := by
  funext y
  show A ((win0_7.rect t).emb y) = _
  rw [h]
  show ((x ((win0_7.rect t).emb y 0).val ((win0_7.rect t).emb y 1).val : ℝ) : EReal) = _
  rw [win0_7.rect_emb_val t y 0, win0_7.rect_emb_val t y 1, (index7 t).1, (index7 t).2]
  show ((x (t.val * 128 + (y 0).val) (0 * 512 + (y 1).val) : ℝ) : EReal) = ((x (128 * t.val + (y 0).val) (y 1).val : ℝ) : EReal)
  rw [Nat.mul_comm, Nat.zero_mul, Nat.zero_add]

theorem iblk7 (c : Dev nD) (t : Fin cfg0.N) (x : ℕ → ℕ → ℝ) (h : V m c main_arg4 = arr2 (a := 8192) (b := 512) x) :
    iblk m c 7 t = arr2 (a := 128) (b := 512) (from_ x t.val) := by
  unfold iblk
  exact read7 t _ x h

theorem read8 (t : Fin cfg0.N) (A : S1x512.Idx → EReal) (x : ℕ → ℝ) (h : A = arr2 fun _ => x) :
    ((cfg0.win 8).blk t).view.read (Elt Ideal) A = arr2 (a := 1) (b := 512) (fun _ => x) := by
  funext y
  show A ((win0_8.rect t).emb y) = _
  rw [h]
  show ((x ((win0_8.rect t).emb y 1).val : ℝ) : EReal) = _
  rw [win0_8.rect_emb_val t y 1, (index8 t).2]
  show ((x (0 * 512 + (y 1).val) : ℝ) : EReal) = ((x (y 1).val : ℝ) : EReal)
  rw [Nat.zero_mul, Nat.zero_add]

theorem iblk8 (c : Dev nD) (t : Fin cfg0.N) (x : ℕ → ℝ) (h : V m c main_v83 = arr2 (a := 1) (b := 512) fun _ => x) :
    iblk m c 8 t = arr2 (a := 1) (b := 512) (fun _ => x) := by
  unfold iblk
  exact read8 t _ x h

end Cert.Swa
end
-- ==== Proof.SwaGrad.lean ====
/- What the sliding-window call computes from arrays of real numbers: each query's gradient, and the row of the sinks'
   gradients after each point. -/
module

public import proofs.«01_k».proof.Proof.SwaBlocks

@[expose] public section

set_option maxRecDepth 16384

noncomputable section

namespace Cert.Swa

open Idealize.ShloMosaic Idealize.ShloMosaic.TcCoe Idealize.SL.Sem
open Cert.KernelIdeal Cert.KernelIdeal.Gen

variable (m : (ℓ : Loc nD τ sig) → Buf (Elt Ideal) ℓ)

/-! ## The formulas, in lanes of the whole arrays -/

/-- The 256 rows that a block of queries sees: those of the block before (of block 0 itself at block 0) and its own. -/
def kcat (K : ℕ → ℕ → ℝ) (n x l : ℕ) : ℝ := cat2 (from_ K (n - 1)) (from_ K n) x l

/-- A query's score of a key. -/
def score (Q K : ℕ → ℕ → ℝ) (n r hd x : ℕ) : ℝ :=
  (∑ d : Fin 64, kcat K n x (64 * hd + d.val) * Q (128 * n + r) (64 * hd + d.val)) * 0.125

/-- The cotangent of a key's weight. -/
def dweight (D W : ℕ → ℕ → ℝ) (n r hd x : ℕ) : ℝ :=
  ∑ d : Fin 64, D (128 * n + r) (64 * hd + d.val) * kcat W n x (64 * hd + d.val)

/-- The product of a row's output and its cotangent. -/
def dmean (D O : ℕ → ℕ → ℝ) (n r hd : ℕ) : ℝ :=
  ∑ d : Fin 64, D (128 * n + r) (64 * hd + d.val) * O (128 * n + r) (64 * hd + d.val)

/-- A query's gradient, from the saved logarithms `L` (row, head). -/
def qgrad (Q K W O D L : ℕ → ℕ → ℝ) (n r lane : ℕ) : ℝ :=
  (∑ x : Fin 256, (if Vis n r x.val then Real.exp (score Q K n r (lane / 64) x.val - L (128 * n + r) (lane / 64)) else 0)
    * (dweight D W n r (lane / 64) x.val - dmean D O n r (lane / 64)) * kcat K n x.val lane) * 0.125

/-- What a block of queries adds to a sink's gradient. -/
def sgrad (O D L : ℕ → ℕ → ℝ) (s : ℕ → ℝ) (n lane : ℕ) : ℝ :=
  ∑ r : Fin 128, -Real.exp (s lane - L (128 * n + r.val) (lane / 64)) * dmean D O n r.val (lane / 64)

/-! ## A point's outputs -/

/-- The arrays the call is given, as tables of real numbers. -/
structure Given (c : Dev nD) (Q K W O D L : ℕ → ℕ → ℝ) (s : ℕ → ℝ) : Prop where
  q : V m c main_arg0 = arr2 (a := 8192) (b := 512) Q
  k : V m c main_v77 = arr2 (a := 8192) (b := 512) K
  v : V m c main_v80 = arr2 (a := 8192) (b := 512) W
  o : V m c main_v71 = arr2 (a := 8192) (b := 512) O
  l : V m c main_v74 = arr2 (a := 8192) (b := 512) fun r l => L r (l / 64)
  d : V m c main_arg4 = arr2 (a := 8192) (b := 512) D
  s : V m c main_v83 = arr2 (a := 1) (b := 512) fun _ => s

/-- A unit's lanes of a block of a table. -/
abbrev lanes (x : ℕ → ℕ → ℝ) (n u : ℕ) : ℕ → ℕ → ℝ := fun r l => from_ x n r (128 * u + l)

theorem cat_lanes (K : ℕ → ℕ → ℝ) (n u x l : ℕ) : cat2 (lanes K (n - 1) u) (lanes K n u) x l = kcat K n x (128 * u + l) := rfl

theorem lane_head (u b d : ℕ) : 128 * u + (64 * b + d) = 64 * (2 * u + b) + d := by omega

theorem sc_lanes (Q K : ℕ → ℕ → ℝ) (n u b r x : ℕ) :
    sc1 (lanes Q n u) (lanes K (n - 1) u) (lanes K n u) b r x = score Q K n r (2 * u + b) x := by
  unfold sc1 score
  simp only [cat_lanes, lane_head, lanes, from_]

theorem dp_lanes (D W : ℕ → ℕ → ℝ) (n u b r x : ℕ) :
    dp1 (lanes D n u) (lanes W (n - 1) u) (lanes W n u) b r x = dweight D W n r (2 * u + b) x := by
  unfold dp1 dweight
  simp only [cat_lanes, lane_head, lanes, from_]

theorem mean_lanes (D O : ℕ → ℕ → ℝ) (n u b r : ℕ) : mean (lanes D n u) (lanes O n u) b r = dmean D O n r (2 * u + b) := by
  unfold mean dmean
  simp only [lane_head, lanes, from_]

theorem pick_lanes (t : Fin cfg0.N) (Q K W O D L : ℕ → ℕ → ℝ) (u : ℕ) (r l : Fin 128) :
    pick (k0_pay7 (grid0.coords t)) (uT (arr2 (lanes D t.val u)) (arr2 (lanes O t.val u)))
      (uL (arr2 (lanes (fun r l => L r (l / 64)) t.val u))) (uQ (arr2 (lanes Q t.val u))) (uD (arr2 (lanes D t.val u)))
      (uK (arr2 (lanes K (t.val - 1) u)) (arr2 (lanes K t.val u))) (uK (arr2 (lanes W (t.val - 1) u)) (arr2 (lanes W t.val u))) r l
      = ((qgrad Q K W O D L t.val r.val (128 * u + l.val) : ℝ) : EReal) := by
  have key : ∀ b : Fin 2, l.val / 64 = b.val → unitOut (k0_pay7 (grid0.coords t)) (uT (arr2 (lanes D t.val u)) (arr2 (lanes O t.val u)))
      (uL (arr2 (lanes (fun r l => L r (l / 64)) t.val u))) (uQ (arr2 (lanes Q t.val u))) (uD (arr2 (lanes D t.val u)))
      (uK (arr2 (lanes K (t.val - 1) u)) (arr2 (lanes K t.val u))) (uK (arr2 (lanes W (t.val - 1) u)) (arr2 (lanes W t.val u))) (srow b r) l
      = ((qgrad Q K W O D L t.val r.val (128 * u + l.val) : ℝ) : EReal) := by
    intro b hb
    rw [unitOut_at (grid0.coords t) (lanes Q t.val u) (lanes K (t.val - 1) u) (lanes K t.val u) (lanes W (t.val - 1) u) (lanes W t.val u) (lanes O t.val u)
      (lanes (fun r l => L r (l / 64)) t.val u) (lanes D t.val u) b r l (L (128 * t.val + r.val) (2 * u + b.val))
      (fun d => by show L _ ((128 * u + (64 * b.val + d.val)) / 64) = _; congr 1; omega)]
    have hh : (128 * u + l.val) / 64 = 2 * u + b.val := by omega
    unfold qgrad
    simp only [sc_lanes, dp_lanes, mean_lanes, cat_lanes, point_row, hh]
  unfold pick
  split
  · next h => exact key 0 h
  · next h => exact key 1 (by show l.val / 64 = 1; omega)

theorem point9 (c : Dev nD) (Q K W O D L : ℕ → ℕ → ℝ) (s : ℕ → ℝ) (g : Given m c Q K W O D L s) (t : Fin cfg0.N) (r : Fin 128) (lane : Fin 512) :
    (outsAt0 m c t.val t.isLt).1 (ix2 r lane) = ((qgrad Q K W O D L t.val r.val lane.val : ℝ) : EReal) := by
  obtain ⟨u, l, rfl⟩ : ∃ (u : Fin 4) (l : Fin 128), lane = ⟨128 * u.val + l.val, by omega⟩ :=
    ⟨⟨lane.val / 128, by omega⟩, ⟨lane.val % 128, by omega⟩, Fin.ext (by show lane.val = 128 * (lane.val / 128) + lane.val % 128; omega)⟩
  rw [out9, iblk0 m c t _ g.q, iblk1 m c t _ g.k, iblk2 m c t _ g.k, iblk3 m c t _ g.v, iblk4 m c t _ g.v, iblk5 m c t _ g.o,
    iblk6 m c t _ g.l, iblk7 m c t _ g.d]
  fin_cases u
  · simp only [block, un0, ld_arr]
    exact pick_lanes t Q K W O D L 0 r l
  · simp only [block, un1, ld_arr]
    exact pick_lanes t Q K W O D L 1 r l
  · simp only [block, un2, ld_arr]
    exact pick_lanes t Q K W O D L 2 r l
  · simp only [block, un3, ld_arr]
    exact pick_lanes t Q K W O D L 3 r l

theorem row_lanes (t : Fin cfg0.N) (O D L : ℕ → ℕ → ℝ) (s : ℕ → ℝ) (u : ℕ) (l : Fin 128) (old : EReal) :
    uS (arr2 (lanes (fun r l => L r (l / 64)) t.val u)) (arr2 (lanes D t.val u)) (arr2 (lanes O t.val u)) (arr2 fun _ l => s (128 * u + l))
      (fun _ => old) (ix2 0 l) = old + ((sgrad O D L s t.val (128 * u + l.val) : ℝ) : EReal) := by
  have hb : l.val / 64 < 2 := by omega
  rw [uS_at _ _ _ _ _ l ⟨l.val / 64, hb⟩ rfl]
  have hh : (128 * u + l.val) / 64 = 2 * u + l.val / 64 := by omega
  unfold sgrad
  simp only [mean_lanes, hh, from_, lanes]

theorem row_at (c : Dev nD) (Q K W O D L : ℕ → ℕ → ℝ) (s : ℕ → ℝ) (g : Given m c Q K W O D L s) (t : Fin cfg0.N) (u : Fin 4) (l : Fin 128)
    (old : EReal) : row (iblk m c 8 t) (iblk m c 5 t) (iblk m c 6 t) (iblk m c 7 t) u l old
      = old + ((sgrad O D L s t.val (128 * u.val + l.val) : ℝ) : EReal) := by
  rw [iblk5 m c t _ g.o, iblk6 m c t _ g.l, iblk7 m c t _ g.d, iblk8 m c t _ g.s]
  fin_cases u
  · simp only [row, un0, rn0, ld_arr]
    exact row_lanes t O D L s 0 l old
  · simp only [row, un1, rn1, ld_arr]
    exact row_lanes t O D L s 1 l old
  · simp only [row, un2, rn2, ld_arr]
    exact row_lanes t O D L s 2 l old
  · simp only [row, un3, rn3, ld_arr]
    exact row_lanes t O D L s 3 l old

theorem point10 (c : Dev nD) (Q K W O D L : ℕ → ℕ → ℝ) (s : ℕ → ℝ) (g : Given m c Q K W O D L s) (n : ℕ) (hn : n < cfg0.N) (lane : Fin 512) :
    (outsAt0 m c n hn).2 (ix2 0 lane) = ((∑ i ∈ Finset.range (n + 1), sgrad O D L s i lane.val : ℝ) : EReal) := by
  obtain ⟨u, l, rfl⟩ : ∃ (u : Fin 4) (l : Fin 128), lane = ⟨128 * u.val + l.val, by omega⟩ :=
    ⟨⟨lane.val / 128, by omega⟩, ⟨lane.val % 128, by omega⟩, Fin.ext (by show lane.val = 128 * (lane.val / 128) + lane.val % 128; omega)⟩
  have hN : cfg0.N = 64 := by decide +kernel
  induction n with
  | zero =>
    rw [out10_first m c ⟨0, hn⟩ rfl u l, row_at m c Q K W O D L s g, Finset.sum_range_one, zero_add]
  | succ n ih =>
    have h : ¬ (⟨n + 1, hn⟩ : Fin cfg0.N).val % 64 = 0 := by show ¬ (n + 1) % 64 = 0; omega
    rw [out10_later m c ⟨n + 1, hn⟩ h u l, row_at m c Q K W O D L s g, Finset.sum_range_succ, EReal.coe_add]
    congr 1
    exact ih (Nat.lt_of_succ_lt hn)

theorem point10_below (c : Dev nD) (n : ℕ) (hn : n < cfg0.N) (r : Fin 8) (hr : 1 ≤ r.val) (lane : Fin 512) :
    (outsAt0 m c n hn).2 (ix2 r lane) = 0 := by
  have hN : cfg0.N = 64 := by decide +kernel
  induction n with
  | zero => exact out10_below_first m c ⟨0, hn⟩ rfl r hr lane
  | succ n ih =>
    have h : ¬ (⟨n + 1, hn⟩ : Fin cfg0.N).val % 64 = 0 := by show ¬ (n + 1) % 64 = 0; omega
    rw [out10_below_later m c ⟨n + 1, hn⟩ h r hr lane]
    exact ih (Nat.lt_of_succ_lt hn)

end Cert.Swa
end
-- ==== Proof.SwaRef.lean ====
/- The reference's stages, from arrays of real numbers: each array read at an index as a real number. -/
module

public import proofs.«01_k».proof.Proof.SwaGrad
public import proofs.«01_k».proof.Proof.SwaMath
public import proofs.«01_k».proof.Proof.SwaWords
public import proofs.«01_k».proof.Proof.Gen.ReferenceIdeal.Read

@[expose] public section

set_option maxRecDepth 16384

noncomputable section

namespace Cert.Swa

open Idealize.ShloMosaic Cert.ReferenceIdeal Cert.ReferenceIdeal.Read

/-- The keys (or values) a block of queries sees: those of the block before, zeros before block 0, and its own. -/
def kk (k : ℕ → ℕ → ℝ) (n j c : ℕ) : ℝ := if j < 128 then (if 1 ≤ n then k ((n - 1) * 128 + j) c else 0) else k (n * 128 + (j - 128)) c

/-- A query's score of a key. -/
def sc (q k : ℕ → ℕ → ℝ) (n g h r j : ℕ) : ℝ := (∑ x : Fin 64, kk k n j (g * 64 + x.val) * q (n * 128 + r) (g * 256 + h * 64 + x.val)) * 0.125

variable (q k v : ℕ → ℕ → ℝ) (sk : ℕ → ℝ) (w : ℕ → ℕ → ℝ)

theorem int_zero : (FloatOps.sitofp .f32 0#32 : Ideal .f32) = ((0 : ℝ) : EReal) := by
  show ((((0#32 : BitVec 32).toInt : ℤ) : ℝ) : EReal) = _
  simp

theorem ref_kk (n : Fin 64) (j : Fin 256) (g : Fin 2) (d : Fin 64) :
    val_main_v7 (F := Ideal) (arr2 k) (ix4 n j g d) = ((kk k n j (g.val * 64 + d.val) : ℝ) : EReal) := by
  unfold val_main_v7 val_main_v6 val_main_v5 val_main_v4 val_main_v1 val_main_call0_v0 val_main_c kk
  pointwise
  have hn : n.val - 1 < 64 := by omega
  by_cases hj : j.val < 128
  · simp only [hj, hn, dite_true, if_true, and_true]
    by_cases h1 : 1 ≤ n.val
    · simp only [h1, dite_true, if_true]
      rfl
    · simp only [h1, dite_false, if_false]
      exact int_zero
  · simp only [hj, dite_false, if_false]
    rfl

theorem ref_vv (n : Fin 64) (j : Fin 256) (g : Fin 2) (d : Fin 64) :
    val_main_v11 (F := Ideal) (arr2 v) (ix4 n j g d) = ((kk v n j (g.val * 64 + d.val) : ℝ) : EReal) := ref_kk v n j g d

theorem ref_mask (n : Fin 64) (g : Fin 2) (h : Fin 4) (r : Fin 128) (j : Fin 256) (x y : EReal) :
    Scalar.select (val_main_v45_1 (F := Ideal) (ix5 n g h r j)) x y = if Vis n.val r.val j.val then x else y := by
  have : val_main_v45_1 (F := Ideal) (ix5 n g h r j) = if Vis n.val r.val j.val then 1#1 else 0#1 := by
    unfold val_main_v45_1 val_main_v44 val_main_v43 val_main_v42 val_main_v41 val_main_v40 val_main_v39 val_main_v38 val_main_v37 val_main_v36 val_main_v35 val_main_v34 val_main_c_5 val_main_v33 val_main_v32 val_main_c_4 val_main_v31 val_main_v30 val_main_v29 val_main_v28 val_main_v27 val_main_v26 val_main_v25 val_main_v24 val_main_v23 val_main_v22 val_main_v21 val_main_v20 val_main_v19 val_main_v18 val_main_v17 val_main_v16 val_main_c_1 val_main_c_2 val_main_c_3
    pointwise
    rw [word_sge_sub _ _ r.isLt j.isLt, word_sle _ _ r.isLt j.isLt, word_pos _ (by omega), word_sge _ _ (by omega) (by omega), and_bits, or_bits, and_bits]
    exact if_congr (by unfold Vis; omega) rfl rfl
  rw [this]
  split <;> rfl

theorem ref_s (n : Fin 64) (g : Fin 2) (h : Fin 4) (r : Fin 128) (j : Fin 256) :
    val_main_v15 (F := Ideal) (arr2 q) (arr2 k) (ix5 n g h r j) = ((sc q k n g h r j : ℝ) : EReal) := by
  unfold val_main_v15 val_main_v13 val_main_v12 val_main_v14 val_main_v3 val_main_v0 val_main_cst
  pointwise
  simp only [ref_kk, eighth_bits, arr2_at]
  unfold sc
  rw [EReal.coe_mul, ← Soft.coe_sum]
  simp only [EReal.coe_mul]

theorem ref_ms (n : Fin 64) (g : Fin 2) (h : Fin 4) (r : Fin 128) (j : Fin 256) :
    val_main_v45_0 (F := Ideal) (arr2 q) (arr2 k) (ix5 n g h r j) = if Vis n.val r.val j.val then ((sc q k n g h r j : ℝ) : EReal) else ⊥ := by
  rw [val_main_v45_0_apply, ref_mask, ref_s]
  unfold val_main_call2_v2 val_main_call2_v0 val_main_cst_6
  rw [show id (constant S_ FTy.f32 4286578688#32) = constant (F := Ideal) S_ FTy.f32 4286578688#32 from rfl]
  pointwise
  rw [inf_bits]

theorem ref_max (n : Fin 64) (g : Fin 2) (h : Fin 4) (r : Fin 128) :
    val_main_v46 (F := Ideal) (arr2 q) (arr2 k) (ix4 n g h r) ≠ ⊤
      ∧ ∃ j, val_main_v45_0 (F := Ideal) (arr2 q) (arr2 k) (ix5 n g h r j) = val_main_v46 (F := Ideal) (arr2 q) (arr2 k) (ix4 n g h r) := by
  have e : val_main_v46 (F := Ideal) (arr2 q) (arr2 k) (ix4 n g h r)
      = Finset.fold max ⊥ (fun x : Fin 256 => val_main_v45_0 (F := Ideal) (arr2 q) (arr2 k) (ix5 n g h r x)) Finset.univ := by
    unfold val_main_v46
    pointwise
    unfold val_main_cst_7
    refine congrArg (fun b => Finset.fold max b _ _) ?_
    exact inf_bits
  rw [e]
  refine Soft.max_real _ fun j => ?_
  rw [ref_ms]
  split
  · exact EReal.coe_ne_top _
  · exact bot_ne_top

theorem ref_one (n : Fin 64) (g : Fin 2) (h : Fin 4) (r : Fin 128) (j : Fin 256) :
    val_main_v50 (F := Ideal) (arr2 q) (arr2 k) (ix5 n g h r j)
      = ((if val_main_v45_0 (F := Ideal) (arr2 q) (arr2 k) (ix5 n g h r j) = val_main_v46 (F := Ideal) (arr2 q) (arr2 k) (ix4 n g h r) then 1 else 0 : ℝ) : EReal) := by
  unfold val_main_v50 val_main_v49 val_main_v48 val_main_v47
  pointwise
  generalize val_main_v45_0 (F := Ideal) (arr2 q) (arr2 k) (ix5 n g h r j) = a
  generalize val_main_v46 (F := Ideal) (arr2 q) (arr2 k) (ix4 n g h r) = b
  show ((((BitVec.ofBool (decide (a = b))).toNat : ℕ) : ℝ) : EReal) = _
  by_cases e : a = b <;> simp [e]

/-- How many keys have the largest score: at least one. -/
theorem ref_count (n : Fin 64) (g : Fin 2) (h : Fin 4) (r : Fin 128) :
    ∃ x : ℝ, x ≠ 0 ∧ val_main_v51 (F := Ideal) (arr2 q) (arr2 k) (ix4 n g h r) = (x : EReal) := by
  have e : val_main_v51 (F := Ideal) (arr2 q) (arr2 k) (ix4 n g h r)
      = ∑ x : Fin 256, val_main_v50 (F := Ideal) (arr2 q) (arr2 k) (ix5 n g h r x) := by
    unfold val_main_v51
    pointwise
    unfold val_main_cst_8
    pointwise
  rw [e]
  simp only [ref_one]
  rw [Soft.coe_sum]
  refine ⟨_, ?_, rfl⟩
  obtain ⟨-, j, hj⟩ := ref_max q k n g h r
  refine ne_of_gt (lt_of_lt_of_le one_pos ?_)
  refine le_trans ?_ (Finset.single_le_sum (fun i _ => ?_) (Finset.mem_univ j))
  · rw [if_pos hj]
  · split <;> norm_num

theorem ref_sink (n : Fin 64) (g : Fin 2) (h : Fin 4) (r : Fin 128) :
    val_main_v55 (F := Ideal) (arr1 sk) (ix5 n g h r 0) = ((sk (g.val * 4 + h.val) : ℝ) : EReal) := by
  unfold val_main_v55 val_main_v54 val_main_v53
  pointwise
  rfl

/-- The shift of a row's exponentials. -/
def mu (n : Fin 64) (g : Fin 2) (h : Fin 4) (r : Fin 128) : ℝ :=
  EReal.toReal (max (val_main_v46 (F := Ideal) (arr2 q) (arr2 k) (ix4 n g h r)) ((sk (g.val * 4 + h.val) : ℝ) : EReal))

theorem ref_mu (n : Fin 64) (g : Fin 2) (h : Fin 4) (r : Fin 128) :
    val_main_v56 (F := Ideal) (arr2 q) (arr2 k) (arr1 sk) (ix5 n g h r 0) = ((mu q k sk n g h r : ℝ) : EReal) := by
  have e : val_main_v52 (F := Ideal) (arr2 q) (arr2 k) (ix5 n g h r 0) = val_main_v46 (F := Ideal) (arr2 q) (arr2 k) (ix4 n g h r) := by
    unfold val_main_v52
    generalize val_main_v46 (F := Ideal) (arr2 q) (arr2 k) = A
    pointwise
  rw [val_main_v56_apply, e, ref_sink]
  show max _ _ = _
  unfold mu
  refine (EReal.coe_toReal (ne_of_lt (max_lt (lt_top_iff_ne_top.mpr (ref_max q k n g h r).1) (EReal.coe_lt_top _))) ?_).symm
  exact ne_of_gt (lt_of_lt_of_le (EReal.bot_lt_coe _) (le_max_right _ _))

end Cert.Swa

end
-- ==== Proof.SwaFwd.lean ====
/- The reference's forward stages, from arrays of real numbers: the weights, the outputs and the logarithms that the backward
   pass takes. -/
module

public import proofs.«01_k».proof.Proof.SwaRef

@[expose] public section

set_option maxRecDepth 16384

noncomputable section

namespace Cert.Swa

open Idealize.ShloMosaic Cert.ReferenceIdeal Cert.ReferenceIdeal.Read

variable (q k v : ℕ → ℕ → ℝ) (sk : ℕ → ℝ) (w : ℕ → ℕ → ℝ)

/-! ## The rows' real numbers -/

/-- The sum of a row's exponentials, the sink's with them. -/
def Zr (n g h r : ℕ) : ℝ := Soft.Z (fun j : Fin 256 => Vis n r j.val) (fun j => sc q k n g h r j.val) (sk (g * 4 + h))

/-- The same sum with the exponentials shifted. -/
def Lr (n : Fin 64) (g : Fin 2) (h : Fin 4) (r : Fin 128) : ℝ :=
  Soft.L (fun j : Fin 256 => Vis n.val r.val j.val) (fun j => sc q k n g h r j.val) (sk (g.val * 4 + h.val)) (mu q k sk n g h r)

/-- A key's weight. -/
def Pr (n g h r : ℕ) (j : Fin 256) : ℝ :=
  Soft.P (fun j : Fin 256 => Vis n r j.val) (fun j => sc q k n g h r j.val) (sk (g * 4 + h)) j

theorem Lr_pos (n : Fin 64) (g : Fin 2) (h : Fin 4) (r : Fin 128) : 0 < Lr q k sk n g h r :=
  Soft.L_pos (fun j : Fin 256 => Vis n.val r.val j.val) (fun j => sc q k n g h r j.val) (sk (g.val * 4 + h.val)) (mu q k sk n g h r)

theorem Pr_shift (n : Fin 64) (g : Fin 2) (h : Fin 4) (r : Fin 128) (j : Fin 256) :
    (if Vis n.val r.val j.val then Real.exp (sc q k n g h r j - mu q k sk n g h r) else 0) / Lr q k sk n g h r = Pr q k sk n g h r j :=
  Soft.weight_shift (fun j : Fin 256 => Vis n.val r.val j.val) (fun j => sc q k n g h r j.val) (sk (g.val * 4 + h.val)) (mu q k sk n g h r) j

theorem log_Lr (n : Fin 64) (g : Fin 2) (h : Fin 4) (r : Fin 128) :
    mu q k sk n g h r + Real.log (Lr q k sk n g h r) = Real.log (Zr q k sk n g h r) :=
  Soft.log_shift (fun j : Fin 256 => Vis n.val r.val j.val) (fun j => sc q k n g h r j.val) (sk (g.val * 4 + h.val)) (mu q k sk n g h r)

theorem Lr_ne (n : Fin 64) (g : Fin 2) (h : Fin 4) (r : Fin 128) : Lr q k sk n g h r ≠ 0 := (Lr_pos q k sk n g h r).ne'

/-! ## The stages -/

theorem bc75 (n : Fin 64) (g : Fin 2) (h : Fin 4) (r : Fin 128) (j : Fin 256) :
    val_main_v75 (F := Ideal) (arr2 q) (arr2 k) (arr1 sk) (ix5 n g h r j) = val_main_v56 (F := Ideal) (arr2 q) (arr2 k) (arr1 sk) (ix5 n g h r 0) := by
  unfold val_main_v75
  generalize val_main_v56 (F := Ideal) (arr2 q) (arr2 k) (arr1 sk) = A
  pointwise

theorem ref77 (n : Fin 64) (g : Fin 2) (h : Fin 4) (r : Fin 128) (j : Fin 256) : val_main_v77 (F := Ideal) (arr2 q) (arr2 k) (arr1 sk) (ix5 n g h r j)
    = ((if Vis n.val r.val j.val then Real.exp (sc q k n g h r j - mu q k sk n g h r) else 0 : ℝ) : EReal) := by
  rw [val_main_v77_apply, val_main_v76_apply, ref_ms, bc75, ref_mu]
  exact Soft.exp_masked _ _

theorem ref_sink80 (n : Fin 64) (g : Fin 2) (h : Fin 4) (r : Fin 128) : val_main_v80 (F := Ideal) (arr1 sk) (ix5 n g h r 0) = ((sk (g.val * 4 + h.val) : ℝ) : EReal) := ref_sink sk n g h r

theorem ref82 (n : Fin 64) (g : Fin 2) (h : Fin 4) (r : Fin 128) : val_main_v82 (F := Ideal) (arr2 q) (arr2 k) (arr1 sk) (ix5 n g h r 0) = ((Real.exp (sk (g.val * 4 + h.val) - mu q k sk n g h r) : ℝ) : EReal) := by
  rw [val_main_v82_apply, val_main_v81_apply, ref_sink80, ref_mu]
  show Ideal.exp (((sk (g.val * 4 + h.val) : ℝ) : EReal) - ((mu q k sk n g h r : ℝ) : EReal)) = _
  rw [← EReal.coe_sub, Soft.coe_exp]

theorem sum78 (n : Fin 64) (g : Fin 2) (h : Fin 4) (r : Fin 128) : val_main_v78 (F := Ideal) (arr2 q) (arr2 k) (arr1 sk) (ix4 n g h r) = ∑ x : Fin 256, val_main_v77 (F := Ideal) (arr2 q) (arr2 k) (arr1 sk) (ix5 n g h r x) := by
  unfold val_main_v78
  generalize val_main_v77 (F := Ideal) (arr2 q) (arr2 k) (arr1 sk) = A
  pointwise
  unfold val_main_cst_15
  pointwise

theorem bc79 (n : Fin 64) (g : Fin 2) (h : Fin 4) (r : Fin 128) :
    val_main_v79 (F := Ideal) (arr2 q) (arr2 k) (arr1 sk) (ix5 n g h r 0) = val_main_v78 (F := Ideal) (arr2 q) (arr2 k) (arr1 sk) (ix4 n g h r) := by
  unfold val_main_v79
  generalize val_main_v78 (F := Ideal) (arr2 q) (arr2 k) (arr1 sk) = A
  pointwise

theorem ref83 (n : Fin 64) (g : Fin 2) (h : Fin 4) (r : Fin 128) : val_main_v83 (F := Ideal) (arr2 q) (arr2 k) (arr1 sk) (ix5 n g h r 0) = ((Lr q k sk n g h r : ℝ) : EReal) := by
  rw [val_main_v83_apply, bc79, sum78, ref82]
  simp only [ref77]
  rw [Soft.coe_sum]
  exact (EReal.coe_add _ _).symm

theorem bc84 (n : Fin 64) (g : Fin 2) (h : Fin 4) (r : Fin 128) (j : Fin 256) :
    val_main_v84 (F := Ideal) (arr2 q) (arr2 k) (arr1 sk) (ix5 n g h r j) = val_main_v83 (F := Ideal) (arr2 q) (arr2 k) (arr1 sk) (ix5 n g h r 0) := by
  unfold val_main_v84
  generalize val_main_v83 (F := Ideal) (arr2 q) (arr2 k) (arr1 sk) = A
  pointwise

theorem ref85 (n : Fin 64) (g : Fin 2) (h : Fin 4) (r : Fin 128) (j : Fin 256) : val_main_v85 (F := Ideal) (arr2 q) (arr2 k) (arr1 sk) (ix5 n g h r j) = ((Pr q k sk n g h r j : ℝ) : EReal) := by
  rw [val_main_v85_apply, ref77, bc84, ref83]
  refine (Soft.coe_div _ _ (Lr_ne q k sk n g h r)).trans (congrArg _ (Pr_shift q k sk n g h r j))

/-- A row's output, lane by lane. -/
def Or (n g h r d : ℕ) : ℝ := ∑ x : Fin 256, Pr q k sk n g h r x * kk v n x (g * 64 + d)

theorem ref89 (n : Fin 64) (g : Fin 2) (h : Fin 4) (r : Fin 128) (d : Fin 64) : val_main_v89 (F := Ideal) (arr2 q) (arr2 k) (arr2 v) (arr1 sk) (ix5 n g d h r) = ((Or q k v sk n g h r d : ℝ) : EReal) := by
  have e : val_main_v89 (F := Ideal) (arr2 q) (arr2 k) (arr2 v) (arr1 sk) (ix5 n g d h r) = ∑ x : Fin 256, val_main_v11 (F := Ideal) (arr2 v) (ix4 n x g d) * val_main_v85 (F := Ideal) (arr2 q) (arr2 k) (arr1 sk) (ix5 n g h r x) := by
    unfold val_main_v89
    generalize val_main_v85 (F := Ideal) (arr2 q) (arr2 k) (arr1 sk) = A
    generalize val_main_v11 (F := Ideal) (arr2 v) = B
    pointwise
  rw [e]
  simp only [ref_vv, ref85, ← EReal.coe_mul]
  rw [Soft.coe_sum]
  exact congrArg _ (Finset.sum_congr rfl fun x _ => mul_comm _ _)

theorem ref96 (row : Fin 8192) (hd : Fin 8) (d : Fin 64) : val_main_v96 (F := Ideal) (arr2 q) (arr2 k) (arr2 v) (arr1 sk) (ix3 row hd d)
    = ((Or q k v sk (row.val / 128) (hd.val / 4) (hd.val % 4) (row.val % 128) d : ℝ) : EReal) := by
  have e : val_main_v96 (F := Ideal) (arr2 q) (arr2 k) (arr2 v) (arr1 sk) (ix3 row hd d) = val_main_v89 (F := Ideal) (arr2 q) (arr2 k) (arr2 v) (arr1 sk) (ix5 ⟨row.val / 128, by omega⟩ ⟨hd.val / 4, by omega⟩ d ⟨hd.val % 4, by omega⟩ ⟨row.val % 128, by omega⟩) := by
    unfold val_main_v96 val_main_v90
    generalize val_main_v89 (F := Ideal) (arr2 q) (arr2 k) (arr2 v) (arr1 sk) = A
    pointwise
  rw [e, ref89]

theorem ref92 (n : Fin 64) (g : Fin 2) (h : Fin 4) (r : Fin 128) : val_main_v92 (F := Ideal) (arr2 q) (arr2 k) (arr1 sk) (ix5 n g h r 0) = ((Real.log (Zr q k sk n g h r) : ℝ) : EReal) := by
  rw [val_main_v92_apply, val_main_v91_apply, ref83, ref_mu]
  show ((mu q k sk n g h r : ℝ) : EReal) + Ideal.log ((Lr q k sk n g h r : ℝ) : EReal) = _
  rw [Soft.coe_log _ (Lr_pos q k sk n g h r), ← EReal.coe_add, log_Lr]

theorem ref95 (row : Fin 8192) (hd : Fin 8) : val_main_v95 (F := Ideal) (arr2 q) (arr2 k) (arr1 sk) (ix2 row hd)
    = ((Real.log (Zr q k sk (row.val / 128) (hd.val / 4) (hd.val % 4) (row.val % 128)) : ℝ) : EReal) := by
  have e : val_main_v95 (F := Ideal) (arr2 q) (arr2 k) (arr1 sk) (ix2 row hd) = val_main_v92 (F := Ideal) (arr2 q) (arr2 k) (arr1 sk) (ix5 ⟨row.val / 128, by omega⟩ ⟨hd.val / 4, by omega⟩ ⟨hd.val % 4, by omega⟩ ⟨row.val % 128, by omega⟩ 0) := by
    unfold val_main_v95 val_main_v94 val_main_v93
    generalize val_main_v92 (F := Ideal) (arr2 q) (arr2 k) (arr1 sk) = A
    pointwise
  rw [e, ref92]

end Cert.Swa

end
-- ==== Proof.SwaBwd.lean ====
/- The reference's backward stages, from arrays of real numbers: the queries' gradients and the sinks'. -/
module

public import proofs.«01_k».proof.Proof.SwaFwd

@[expose] public section

set_option maxRecDepth 16384

noncomputable section

namespace Cert.Swa

open Idealize.ShloMosaic Cert.ReferenceIdeal Cert.ReferenceIdeal.Read

variable (q k v : ℕ → ℕ → ℝ) (sk : ℕ → ℝ) (w : ℕ → ℕ → ℝ)

/-! ## The rows' real numbers -/

/-- The cotangent of a key's weight. -/
def dpr (n g h r j : ℕ) : ℝ := ∑ d : Fin 64, w (n * 128 + r) (g * 256 + h * 64 + d.val) * kk v n j (g * 64 + d.val)

/-- The weighted mean of a row's cotangents. -/
def Tr (n g h r : ℕ) : ℝ :=
  Soft.T (fun j : Fin 256 => Vis n r j.val) (fun j => sc q k n g h r j.val) (sk (g * 4 + h)) (fun j => dpr v w n g h r j.val)

theorem mean_Lr (n : Fin 64) (g : Fin 2) (h : Fin 4) (r : Fin 128) :
    ∑ j : Fin 256, dpr v w n g h r j * (1 / (Lr q k sk n g h r * Lr q k sk n g h r))
        * (if Vis n.val r.val j.val then Real.exp (sc q k n g h r j - mu q k sk n g h r) else 0)
      = Tr q k v sk w n g h r / Lr q k sk n g h r :=
  Soft.mean_shift (fun j : Fin 256 => Vis n.val r.val j.val) (fun j => sc q k n g h r j.val) (sk (g.val * 4 + h.val)) (mu q k sk n g h r)
    (fun j => dpr v w n g h r j.val)

theorem score_Lr (n : Fin 64) (g : Fin 2) (h : Fin 4) (r : Fin 128) (j : Fin 256) :
    (dpr v w n g h r j / Lr q k sk n g h r + -(Tr q k v sk w n g h r / Lr q k sk n g h r))
        * (if Vis n.val r.val j.val then Real.exp (sc q k n g h r j - mu q k sk n g h r) else 0)
      = Pr q k sk n g h r j * (dpr v w n g h r j - Tr q k v sk w n g h r) :=
  Soft.score_shift (fun j : Fin 256 => Vis n.val r.val j.val) (fun j => sc q k n g h r j.val) (sk (g.val * 4 + h.val)) (mu q k sk n g h r)
    (fun j => dpr v w n g h r j.val) j

theorem zero_Lr (n : Fin 64) (g : Fin 2) (h : Fin 4) (r : Fin 128) :
    -(-(Tr q k v sk w n g h r / Lr q k sk n g h r) * Real.exp (sk (g.val * 4 + h.val) - mu q k sk n g h r))
      + ∑ j : Fin 256, -(Pr q k sk n g h r j * (dpr v w n g h r j - Tr q k v sk w n g h r)) = 0 :=
  Soft.shift_zero (fun j : Fin 256 => Vis n.val r.val j.val) (fun j => sc q k n g h r j.val) (sk (g.val * 4 + h.val)) (mu q k sk n g h r)
    (fun j => dpr v w n g h r j.val)

theorem sink_Lr (n : Fin 64) (g : Fin 2) (h : Fin 4) (r : Fin 128) :
    -(Tr q k v sk w n g h r / Lr q k sk n g h r) * Real.exp (sk (g.val * 4 + h.val) - mu q k sk n g h r)
      = -(Real.exp (sk (g.val * 4 + h.val)) / Zr q k sk n g h r) * Tr q k v sk w n g h r :=
  Soft.sink_grad (fun j : Fin 256 => Vis n.val r.val j.val) (fun j => sc q k n g h r j.val) (sk (g.val * 4 + h.val)) (mu q k sk n g h r)
    (fun j => dpr v w n g h r j.val)

theorem Pr_hidden (n g h r : ℕ) (j : Fin 256) (hv : ¬ Vis n r j.val) : Pr q k sk n g h r j = 0 :=
  Soft.P_of_not (fun j : Fin 256 => Vis n r j.val) (fun j => sc q k n g h r j.val) (sk (g * 4 + h)) hv

/-! ## The stages -/

theorem ref100 (n : Fin 64) (g : Fin 2) (h : Fin 4) (r : Fin 128) (j : Fin 256) : val_main_v100 (F := Ideal) (arr2 v) (arr2 w) (ix5 n g h r j) = ((dpr v w n g h r j : ℝ) : EReal) := by
  have e : val_main_v100 (F := Ideal) (arr2 v) (arr2 w) (ix5 n g h r j) = ∑ d : Fin 64, val_main_v99 (F := Ideal) (arr2 w) (ix5 n g d h r) * val_main_v11 (F := Ideal) (arr2 v) (ix4 n j g d) := by
    unfold val_main_v100
    generalize val_main_v99 (F := Ideal) (arr2 w) = A
    generalize val_main_v11 (F := Ideal) (arr2 v) = B
    pointwise
  have e' : ∀ d : Fin 64, val_main_v99 (F := Ideal) (arr2 w) (ix5 n g d h r) = ((w (n.val * 128 + r.val) (g.val * 256 + h.val * 64 + d.val) : ℝ) : EReal) := fun d => by
    unfold val_main_v99 val_main_v98 val_main_v97
    pointwise
    rfl
  rw [e]
  simp only [e', ref_vv, ← EReal.coe_mul]
  rw [Soft.coe_sum]
  rfl

theorem ref88 (n : Fin 64) (g : Fin 2) (h : Fin 4) (r : Fin 128) : val_main_v88 (F := Ideal) (arr2 q) (arr2 k) (arr1 sk) (ix5 n g h r 0) = ((1 / (Lr q k sk n g h r * Lr q k sk n g h r) : ℝ) : EReal) := by
  have e : val_main_v87 (F := Ideal) (ix5 n g h r 0) = ((1 : ℝ) : EReal) := by
    unfold val_main_v87 val_main_cst_16
    pointwise
    exact EReal.coe_one.symm
  rw [val_main_v88_apply, val_main_v86_apply, ref83, e]
  show Ideal.div _ (((Lr q k sk n g h r : ℝ) : EReal) * ((Lr q k sk n g h r : ℝ) : EReal)) = _
  rw [← EReal.coe_mul]
  exact Soft.coe_div _ _ (mul_ne_zero (Lr_ne q k sk n g h r) (Lr_ne q k sk n g h r))

theorem bc101 (n : Fin 64) (g : Fin 2) (h : Fin 4) (r : Fin 128) (j : Fin 256) :
    val_main_v101 (F := Ideal) (arr2 q) (arr2 k) (arr1 sk) (ix5 n g h r j) = val_main_v88 (F := Ideal) (arr2 q) (arr2 k) (arr1 sk) (ix5 n g h r 0) := by
  unfold val_main_v101
  generalize val_main_v88 (F := Ideal) (arr2 q) (arr2 k) (arr1 sk) = A
  pointwise

theorem ref103 (n : Fin 64) (g : Fin 2) (h : Fin 4) (r : Fin 128) (j : Fin 256) : val_main_v103 (F := Ideal) (arr2 q) (arr2 k) (arr2 v) (arr1 sk) (arr2 w) (ix5 n g h r j)
    = ((dpr v w n g h r j * (1 / (Lr q k sk n g h r * Lr q k sk n g h r)) * (if Vis n.val r.val j.val then Real.exp (sc q k n g h r j - mu q k sk n g h r) else 0) : ℝ) : EReal) := by
  rw [val_main_v103_apply, val_main_v102_apply, ref100, bc101, ref88, ref77, EReal.coe_mul, EReal.coe_mul]
  rfl

theorem sum104 (n : Fin 64) (g : Fin 2) (h : Fin 4) (r : Fin 128) : val_main_v104 (F := Ideal) (arr2 q) (arr2 k) (arr2 v) (arr1 sk) (arr2 w) (ix4 n g h r) = ∑ x : Fin 256, val_main_v103 (F := Ideal) (arr2 q) (arr2 k) (arr2 v) (arr1 sk) (arr2 w) (ix5 n g h r x) := by
  unfold val_main_v104
  generalize val_main_v103 (F := Ideal) (arr2 q) (arr2 k) (arr2 v) (arr1 sk) (arr2 w) = A
  pointwise
  unfold val_main_cst_17
  pointwise

theorem bc105 (n : Fin 64) (g : Fin 2) (h : Fin 4) (r : Fin 128) :
    val_main_v105 (F := Ideal) (arr2 q) (arr2 k) (arr2 v) (arr1 sk) (arr2 w) (ix5 n g h r 0) = val_main_v104 (F := Ideal) (arr2 q) (arr2 k) (arr2 v) (arr1 sk) (arr2 w) (ix4 n g h r) := by
  unfold val_main_v105
  generalize val_main_v104 (F := Ideal) (arr2 q) (arr2 k) (arr2 v) (arr1 sk) (arr2 w) = A
  pointwise

theorem ref106 (n : Fin 64) (g : Fin 2) (h : Fin 4) (r : Fin 128) : val_main_v106 (F := Ideal) (arr2 q) (arr2 k) (arr2 v) (arr1 sk) (arr2 w) (ix5 n g h r 0) = ((-(Tr q k v sk w n g h r / Lr q k sk n g h r) : ℝ) : EReal) := by
  rw [val_main_v106_apply, bc105, sum104]
  simp only [ref103]
  rw [Soft.coe_sum, mean_Lr]
  exact (EReal.coe_neg _).symm

theorem ref109 (n : Fin 64) (g : Fin 2) (h : Fin 4) (r : Fin 128) : val_main_v109 (F := Ideal) (arr2 q) (arr2 k) (arr2 v) (arr1 sk) (arr2 w) (ix5 n g h r 0)
    = ((-(Tr q k v sk w n g h r / Lr q k sk n g h r) * Real.exp (sk (g.val * 4 + h.val) - mu q k sk n g h r) : ℝ) : EReal) := by
  rw [val_main_v109_apply, ref106, ref82]
  exact (EReal.coe_mul _ _).symm

theorem sum113 (n : Fin 64) (g : Fin 2) (h : Fin 4) (r : Fin 128) : val_main_v113 (F := Ideal) (arr2 q) (arr2 k) (arr2 v) (arr1 sk) (arr2 w) (ix4 n g h r) = val_main_v106 (F := Ideal) (arr2 q) (arr2 k) (arr2 v) (arr1 sk) (arr2 w) (ix5 n g h r 0) := by
  unfold val_main_v113
  generalize val_main_v106 (F := Ideal) (arr2 q) (arr2 k) (arr2 v) (arr1 sk) (arr2 w) = A
  pointwise
  unfold val_main_cst_19
  pointwise
  exact Fin.sum_univ_one _

theorem bc114 (n : Fin 64) (g : Fin 2) (h : Fin 4) (r : Fin 128) (j : Fin 256) :
    val_main_v114 (F := Ideal) (arr2 q) (arr2 k) (arr2 v) (arr1 sk) (arr2 w) (ix5 n g h r j) = val_main_v113 (F := Ideal) (arr2 q) (arr2 k) (arr2 v) (arr1 sk) (arr2 w) (ix4 n g h r) := by
  unfold val_main_v114
  generalize val_main_v113 (F := Ideal) (arr2 q) (arr2 k) (arr2 v) (arr1 sk) (arr2 w) = A
  pointwise

theorem bc107 (n : Fin 64) (g : Fin 2) (h : Fin 4) (r : Fin 128) (j : Fin 256) :
    val_main_v107 (F := Ideal) (arr2 q) (arr2 k) (arr1 sk) (ix5 n g h r j) = val_main_v83 (F := Ideal) (arr2 q) (arr2 k) (arr1 sk) (ix5 n g h r 0) := by
  unfold val_main_v107
  generalize val_main_v83 (F := Ideal) (arr2 q) (arr2 k) (arr1 sk) = A
  pointwise

theorem ref116 (n : Fin 64) (g : Fin 2) (h : Fin 4) (r : Fin 128) (j : Fin 256) : val_main_v116 (F := Ideal) (arr2 q) (arr2 k) (arr2 v) (arr1 sk) (arr2 w) (ix5 n g h r j) = ((Pr q k sk n g h r j * (dpr v w n g h r j - Tr q k v sk w n g h r) : ℝ) : EReal) := by
  rw [val_main_v116_apply, val_main_v115_apply, val_main_v108_apply, ref100, bc107, ref83, bc114, sum113, ref106, ref77, ← score_Lr,
    EReal.coe_mul, EReal.coe_add, ← Soft.coe_div _ _ (Lr_ne q k sk n g h r)]
  rfl

theorem sum118 (n : Fin 64) (g : Fin 2) (h : Fin 4) (r : Fin 128) : val_main_v118 (F := Ideal) (arr2 q) (arr2 k) (arr2 v) (arr1 sk) (arr2 w) (ix4 n g h r) = ∑ x : Fin 256, val_main_v117 (F := Ideal) (arr2 q) (arr2 k) (arr2 v) (arr1 sk) (arr2 w) (ix5 n g h r x) := by
  unfold val_main_v118
  generalize val_main_v117 (F := Ideal) (arr2 q) (arr2 k) (arr2 v) (arr1 sk) (arr2 w) = A
  pointwise
  unfold val_main_cst_20
  pointwise

theorem bc119 (n : Fin 64) (g : Fin 2) (h : Fin 4) (r : Fin 128) :
    val_main_v119 (F := Ideal) (arr2 q) (arr2 k) (arr2 v) (arr1 sk) (arr2 w) (ix5 n g h r 0) = val_main_v118 (F := Ideal) (arr2 q) (arr2 k) (arr2 v) (arr1 sk) (arr2 w) (ix4 n g h r) := by
  unfold val_main_v119
  generalize val_main_v118 (F := Ideal) (arr2 q) (arr2 k) (arr2 v) (arr1 sk) (arr2 w) = A
  pointwise

theorem ref117 (n : Fin 64) (g : Fin 2) (h : Fin 4) (r : Fin 128) (j : Fin 256) : val_main_v117 (F := Ideal) (arr2 q) (arr2 k) (arr2 v) (arr1 sk) (arr2 w) (ix5 n g h r j) = ((-(Pr q k sk n g h r j * (dpr v w n g h r j - Tr q k v sk w n g h r)) : ℝ) : EReal) := by
  rw [val_main_v117_apply, ref116]
  exact (EReal.coe_neg _).symm

/-- What reaches the shift is zero. -/
theorem ref120 (n : Fin 64) (g : Fin 2) (h : Fin 4) (r : Fin 128) : val_main_v120 (F := Ideal) (arr2 q) (arr2 k) (arr2 v) (arr1 sk) (arr2 w) (ix5 n g h r 0) = 0 := by
  rw [val_main_v120_apply, val_main_v112_apply, ref109, bc119, sum118]
  simp only [ref117]
  rw [Soft.coe_sum]
  refine Eq.trans ?_ (congrArg ((↑) : ℝ → EReal) (zero_Lr q k v sk w n g h r))
  rw [EReal.coe_add, EReal.coe_neg]
  rfl

theorem ref121 (n : Fin 64) (g : Fin 2) (h : Fin 4) (r : Fin 128) : val_main_v121 (F := Ideal) (arr2 q) (arr2 k) (arr2 v) (arr1 sk) (arr2 w) (ix5 n g h r 0) = 0 := by
  rw [val_main_v121_apply, ref120]
  exact zero_mul _

theorem ref125 (n : Fin 64) (g : Fin 2) (h : Fin 4) (r : Fin 128) : val_main_v125 (F := Ideal) (arr2 q) (arr2 k) (arr2 v) (arr1 sk) (arr2 w) (ix5 n g h r 0) = 0 := by
  rw [val_main_v125_apply, ref120]
  exact zero_mul _

theorem sum128 (n : Fin 64) (g : Fin 2) (h : Fin 4) (r : Fin 128) : val_main_v128 (F := Ideal) (arr2 q) (arr2 k) (arr2 v) (arr1 sk) (arr2 w) (ix4 n g h r) = val_main_v125 (F := Ideal) (arr2 q) (arr2 k) (arr2 v) (arr1 sk) (arr2 w) (ix5 n g h r 0) := by
  unfold val_main_v128
  generalize val_main_v125 (F := Ideal) (arr2 q) (arr2 k) (arr2 v) (arr1 sk) (arr2 w) = A
  pointwise
  unfold val_main_cst_23
  pointwise
  exact Fin.sum_univ_one _

theorem bc130 (n : Fin 64) (g : Fin 2) (h : Fin 4) (r : Fin 128) (j : Fin 256) :
    val_main_v130 (F := Ideal) (arr2 q) (arr2 k) (arr2 v) (arr1 sk) (arr2 w) (ix5 n g h r j) = val_main_v129 (F := Ideal) (arr2 q) (arr2 k) (arr2 v) (arr1 sk) (arr2 w) (ix4 n g h r) := by
  unfold val_main_v130
  generalize val_main_v129 (F := Ideal) (arr2 q) (arr2 k) (arr2 v) (arr1 sk) (arr2 w) = A
  pointwise

theorem ref131 (n : Fin 64) (g : Fin 2) (h : Fin 4) (r : Fin 128) (j : Fin 256) : val_main_v131 (F := Ideal) (arr2 q) (arr2 k) (arr2 v) (arr1 sk) (arr2 w) (ix5 n g h r j) = 0 := by
  obtain ⟨x, hx, e⟩ := ref_count q k n g h r
  rw [val_main_v131_apply, bc130, val_main_v129_apply, sum128, ref125, e]
  have : Ideal.div 0 (x : EReal) = 0 := by
    rw [← EReal.coe_zero, Soft.coe_div _ _ hx, zero_div]
  show Ideal.div 0 (x : EReal) * _ = 0
  rw [this, zero_mul]

theorem ref135 (n : Fin 64) (g : Fin 2) (h : Fin 4) (r : Fin 128) (j : Fin 256) : val_main_v135 (F := Ideal) (arr2 q) (arr2 k) (arr2 v) (arr1 sk) (arr2 w) (ix5 n g h r j) = ((Pr q k sk n g h r j * (dpr v w n g h r j - Tr q k v sk w n g h r) * 0.125 : ℝ) : EReal) := by
  have e : val_main_v134 (F := Ideal) (ix5 n g h r j) = ((0.125 : ℝ) : EReal) := by
    unfold val_main_v134 val_main_cst_24
    pointwise
    exact eighth_bits
  have e0 : val_main_call3_v0 (F := Ideal) (ix5 n g h r j) = 0 := by
    unfold val_main_call3_v0 val_main_call3_cst
    pointwise
  rw [val_main_v135_apply, val_main_v133_apply, ref_mask, val_main_v132_apply, ref116, ref131, e, e0,
    EReal.coe_mul (Pr q k sk n g h r j * (dpr v w n g h r j - Tr q k v sk w n g h r)) 0.125]
  refine congrArg (· * ((0.125 : ℝ) : EReal)) ?_
  by_cases hv : Vis n.val r.val j.val
  · rw [if_pos hv]; exact add_zero _
  · rw [if_neg hv, Pr_hidden q k sk n g h r j hv, zero_mul, EReal.coe_zero]

/-- A query's gradient. -/
def dqr (n g h r d : ℕ) : ℝ := (∑ x : Fin 256, Pr q k sk n g h r x * (dpr v w n g h r x - Tr q k v sk w n g h r) * kk k n x (g * 64 + d)) * 0.125

theorem ref137 (n : Fin 64) (g : Fin 2) (h : Fin 4) (r : Fin 128) (d : Fin 64) : val_main_v137 (F := Ideal) (arr2 q) (arr2 k) (arr2 v) (arr1 sk) (arr2 w) (ix5 n g r h d) = ((dqr q k v sk w n g h r d : ℝ) : EReal) := by
  have e : val_main_v137 (F := Ideal) (arr2 q) (arr2 k) (arr2 v) (arr1 sk) (arr2 w) (ix5 n g r h d) = ∑ x : Fin 256, val_main_v135 (F := Ideal) (arr2 q) (arr2 k) (arr2 v) (arr1 sk) (arr2 w) (ix5 n g h r x) * val_main_v7 (F := Ideal) (arr2 k) (ix4 n x g d) := by
    unfold val_main_v137 val_main_v136
    generalize val_main_v135 (F := Ideal) (arr2 q) (arr2 k) (arr2 v) (arr1 sk) (arr2 w) = A
    generalize val_main_v7 (F := Ideal) (arr2 k) = B
    pointwise
  rw [e]
  simp only [ref135, ref_kk, ← EReal.coe_mul]
  rw [Soft.coe_sum]
  refine congrArg _ ?_
  unfold dqr
  rw [Finset.sum_mul]
  exact Finset.sum_congr rfl fun x _ => by ring

theorem ref140 (row : Fin 8192) (l : Fin 512) : val_main_v140 (F := Ideal) (arr2 q) (arr2 k) (arr2 v) (arr1 sk) (arr2 w) (ix2 row l)
    = ((dqr q k v sk w (row.val / 128) (l.val / 64 / 4) (l.val / 64 % 4) (row.val % 128) (l.val % 64) : ℝ) : EReal) := by
  have e : val_main_v140 (F := Ideal) (arr2 q) (arr2 k) (arr2 v) (arr1 sk) (arr2 w) (ix2 row l) = val_main_v137 (F := Ideal) (arr2 q) (arr2 k) (arr2 v) (arr1 sk) (arr2 w) (ix5 ⟨row.val / 128, by omega⟩ ⟨l.val / 256, by omega⟩ ⟨row.val % 128, by omega⟩ ⟨l.val / 64 % 4, by omega⟩ ⟨l.val % 64, by omega⟩) := by
    unfold val_main_v140 val_main_v139 val_main_v138
    generalize val_main_v137 (F := Ideal) (arr2 q) (arr2 k) (arr2 v) (arr1 sk) (arr2 w) = A
    pointwise
  rw [e, ref137, Nat.div_div_eq_div_mul]

/-! ## The sinks -/

/-- The entries of an array summed over its first and fourth axes. -/
theorem fiber03 (hd : S64x2x4x128x1.ReducesTo [0, 3] S2x4x1) (g : Fin 2) (h : Fin 4) (i : S64x2x4x128x1.Idx) :
    hd.drop i = ix3 g h 0 ↔ ∃ k : Fin 64 × Fin 128, ix5 k.1 g h k.2 0 = i := by
  constructor
  · intro e
    refine ⟨(i 0, i 3), ?_⟩
    funext a; apply Fin.ext
    match a with
    | ⟨0, _⟩ => rfl
    | ⟨1, _⟩ => exact (congrArg Fin.val (congrFun e ⟨0, by decide⟩)).symm
    | ⟨2, _⟩ => exact (congrArg Fin.val (congrFun e ⟨1, by decide⟩)).symm
    | ⟨3, _⟩ => rfl
    | ⟨4, _⟩ => exact (congrArg Fin.val (congrFun e ⟨2, by decide⟩)).symm
  · rintro ⟨k, rfl⟩
    funext b
    apply Fin.ext
    match b with
    | ⟨0, _⟩ => rfl
    | ⟨1, _⟩ => rfl
    | ⟨2, _⟩ => rfl

theorem reduce03 (hd : S64x2x4x128x1.ReducesTo [0, 3] S2x4x1) (A : S64x2x4x128x1.Idx → EReal) (g : Fin 2) (h : Fin 4) :
    Ideal.hostReduceAdd hd A 0 (ix3 g h 0) = ∑ n : Fin 64, ∑ r : Fin 128, A (ix5 n g h r 0) := by
  refine (zero_add _).trans ((Finset.sum_filter_eq_sum_of_fiber _ (fun k : Fin 64 × Fin 128 => (ix5 k.1 g h k.2 (0 : Fin 1) : S64x2x4x128x1.Idx))
    (fun _ _ e => Prod.ext (congrFun e 0) (congrFun e 3)) (fiber03 hd g h) A).trans ?_)
  simp only [Fintype.sum_prod_type]

theorem fiber034 (hd : S1x2x4x1x1.ReducesTo [0, 3, 4] S2x4) (g : Fin 2) (h : Fin 4) (i : S1x2x4x1x1.Idx) :
    hd.drop i = ix2 g h ↔ ∃ _ : Fin 1, ix5 0 g h 0 0 = i := by
  constructor
  · intro e
    refine ⟨0, ?_⟩
    funext a; apply Fin.ext
    match a with
    | ⟨0, _⟩ => exact (Nat.lt_one_iff.mp (i 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (Nat.lt_one_iff.mp (i 3).isLt).symm
    | ⟨4, _⟩ => exact (Nat.lt_one_iff.mp (i 4).isLt).symm
  · rintro ⟨_, rfl⟩
    funext b
    apply Fin.ext
    match b with
    | ⟨0, _⟩ => rfl
    | ⟨1, _⟩ => rfl

theorem reduce034 (hd : S1x2x4x1x1.ReducesTo [0, 3, 4] S2x4) (A : S1x2x4x1x1.Idx → EReal) (g : Fin 2) (h : Fin 4) :
    Ideal.hostReduceAdd hd A 0 (ix2 g h) = A (ix5 0 g h 0 0) :=
  (zero_add _).trans ((Finset.sum_filter_eq_sum_of_fiber _ (fun _ : Fin 1 => ix5 0 g h 0 0)
    (fun _ _ _ => Subsingleton.elim _ _) (fiber034 hd g h) A).trans (Fin.sum_univ_one _))

theorem sum110 (g : Fin 2) (h : Fin 4) : val_main_v110 (F := Ideal) (arr2 q) (arr2 k) (arr2 v) (arr1 sk) (arr2 w) (ix3 g h 0) = ∑ n : Fin 64, ∑ r : Fin 128, val_main_v109 (F := Ideal) (arr2 q) (arr2 k) (arr2 v) (arr1 sk) (arr2 w) (ix5 n g h r 0) := by
  unfold val_main_v110
  generalize val_main_v109 (F := Ideal) (arr2 q) (arr2 k) (arr2 v) (arr1 sk) (arr2 w) = A
  pointwise
  unfold val_main_cst_18
  pointwise
  exact reduce03 _ A g h

theorem sum122 (g : Fin 2) (h : Fin 4) : val_main_v122 (F := Ideal) (arr2 q) (arr2 k) (arr2 v) (arr1 sk) (arr2 w) (ix3 g h 0) = ∑ n : Fin 64, ∑ r : Fin 128, val_main_v121 (F := Ideal) (arr2 q) (arr2 k) (arr2 v) (arr1 sk) (arr2 w) (ix5 n g h r 0) := by
  unfold val_main_v122
  generalize val_main_v121 (F := Ideal) (arr2 q) (arr2 k) (arr2 v) (arr1 sk) (arr2 w) = A
  pointwise
  unfold val_main_cst_21
  pointwise
  exact reduce03 _ A g h

theorem bc111 (g : Fin 2) (h : Fin 4) : val_main_v111 (F := Ideal) (arr2 q) (arr2 k) (arr2 v) (arr1 sk) (arr2 w) (ix5 0 g h 0 0) = val_main_v110 (F := Ideal) (arr2 q) (arr2 k) (arr2 v) (arr1 sk) (arr2 w) (ix3 g h 0) := by
  unfold val_main_v111
  generalize val_main_v110 (F := Ideal) (arr2 q) (arr2 k) (arr2 v) (arr1 sk) (arr2 w) = A
  pointwise

theorem bc123 (g : Fin 2) (h : Fin 4) : val_main_v123 (F := Ideal) (arr2 q) (arr2 k) (arr2 v) (arr1 sk) (arr2 w) (ix5 0 g h 0 0) = val_main_v122 (F := Ideal) (arr2 q) (arr2 k) (arr2 v) (arr1 sk) (arr2 w) (ix3 g h 0) := by
  unfold val_main_v123
  generalize val_main_v122 (F := Ideal) (arr2 q) (arr2 k) (arr2 v) (arr1 sk) (arr2 w) = A
  pointwise

theorem sum126 (g : Fin 2) (h : Fin 4) : val_main_v126 (F := Ideal) (arr2 q) (arr2 k) (arr2 v) (arr1 sk) (arr2 w) (ix2 g h) = val_main_v124 (F := Ideal) (arr2 q) (arr2 k) (arr2 v) (arr1 sk) (arr2 w) (ix5 0 g h 0 0) := by
  unfold val_main_v126
  generalize val_main_v124 (F := Ideal) (arr2 q) (arr2 k) (arr2 v) (arr1 sk) (arr2 w) = A
  pointwise
  unfold val_main_cst_22
  pointwise
  exact reduce034 _ A g h

theorem bc127 (hd : Fin 8) : val_main_v127 (F := Ideal) (arr2 q) (arr2 k) (arr2 v) (arr1 sk) (arr2 w) (ix1 hd) = val_main_v126 (F := Ideal) (arr2 q) (arr2 k) (arr2 v) (arr1 sk) (arr2 w) (ix2 ⟨hd.val / 4, by omega⟩ ⟨hd.val % 4, by omega⟩) := by
  unfold val_main_v127
  generalize val_main_v126 (F := Ideal) (arr2 q) (arr2 k) (arr2 v) (arr1 sk) (arr2 w) = A
  pointwise

/-- A sink's gradient. -/
def skr (g h : ℕ) : ℝ :=
  ∑ n : Fin 64, ∑ r : Fin 128, -(Real.exp (sk (g * 4 + h)) / Zr q k sk n g h r) * Tr q k v sk w n g h r

theorem ref127 (hd : Fin 8) : val_main_v127 (F := Ideal) (arr2 q) (arr2 k) (arr2 v) (arr1 sk) (arr2 w) (ix1 hd) = ((skr q k v sk w (hd.val / 4) (hd.val % 4) : ℝ) : EReal) := by
  rw [bc127, sum126, val_main_v124_apply, bc111, bc123, sum110, sum122]
  have e : ∀ (g : Fin 2) (h : Fin 4) (n : Fin 64) (r : Fin 128), val_main_v109 (F := Ideal) (arr2 q) (arr2 k) (arr2 v) (arr1 sk) (arr2 w) (ix5 n g h r 0)
      = ((-(Real.exp (sk (g.val * 4 + h.val)) / Zr q k sk n g h r) * Tr q k v sk w n g h r : ℝ) : EReal) := fun g h n r => by
    rw [ref109, sink_Lr]
  simp only [e, ref121]
  simp only [Soft.coe_sum, Finset.sum_const_zero]
  show (_ : EReal) + (0 : EReal) = _
  exact add_zero _

theorem ref144 (row : Fin 8) (l : Fin 512) : val_main_v144 (F := Ideal) (arr2 q) (arr2 k) (arr2 v) (arr1 sk) (arr2 w) (ix2 row l)
    = if row.val = 0 then ((skr q k v sk w (l.val / 64 / 4) (l.val / 64 % 4) : ℝ) : EReal) else 0 := by
  have e : val_main_v144 (F := Ideal) (arr2 q) (arr2 k) (arr2 v) (arr1 sk) (arr2 w) (ix2 row l) = if row.val = 0 then val_main_v127 (F := Ideal) (arr2 q) (arr2 k) (arr2 v) (arr1 sk) (arr2 w) (ix1 ⟨l.val / 64, by omega⟩) else 0 := by
    unfold val_main_v144 val_main_v143 val_main_v142 val_main_v141 val_main_call4_v0 val_main_c_25
    generalize val_main_v127 (F := Ideal) (arr2 q) (arr2 k) (arr2 v) (arr1 sk) (arr2 w) = A
    pointwise
    by_cases hr : row.val = 0
    · rw [if_pos hr, dif_pos (by omega)]
    · rw [if_neg hr, dif_neg (by omega)]
      exact int_zero.trans EReal.coe_zero
  rw [e, ref127]

end Cert.Swa

end
-- ==== Proof.SwaFinal.lean ====
/- The two arrays the sliding-window call leaves: the queries' gradients, and the row of the sinks' gradients. -/
module

public import proofs.«01_k».proof.Proof.SwaGrad

@[expose] public section

set_option maxRecDepth 16384

noncomputable section

namespace Cert.Swa

open Idealize.ShloMosaic Idealize.ShloMosaic.TcCoe Idealize.SL.Sem
open Cert.KernelIdeal Cert.KernelIdeal.Gen

variable (m : (ℓ : Loc nD τ sig) → Buf (Elt Ideal) ℓ)

/-- The array of the queries' gradients. -/
def dqArr (Q K W O D L : ℕ → ℕ → ℝ) : S8192x512.Idx → EReal :=
  fun i => ((qgrad Q K W O D L ((i 0).val / 128) ((i 0).val % 128) (i 1).val : ℝ) : EReal)

/-- The array with the sinks' gradients in its first row. -/
def dsArr (O D L : ℕ → ℕ → ℝ) (s : ℕ → ℝ) : S8x512.Idx → EReal :=
  fun i => if (i 0).val = 0 then ((∑ n ∈ Finset.range 64, sgrad O D L s n (i 1).val : ℝ) : EReal) else 0

theorem read9 (t : Fin cfg0.N) (A : S8192x512.Idx → EReal) (y : S128x512.Idx) (i : S8192x512.Idx)
    (h0 : (i 0).val = 128 * t.val + (y 0).val) (h1 : (i 1).val = (y 1).val) :
    ((cfg0.win 9).blk t).view.read (Elt Ideal) A y = A i := by
  show A ((win0_9.rect t).emb y) = A i
  refine congrArg A (funext (Fin.forall_fin_two.mpr ⟨Fin.ext ?_, Fin.ext ?_⟩))
  · rw [win0_9.rect_emb_val t y 0, (index9 t).1, h0]
    show t.val * 128 + (y 0).val = _
    rw [Nat.mul_comm]
  · rw [win0_9.rect_emb_val t y 1, (index9 t).2, h1]
    show 0 * 512 + (y 1).val = _
    rw [Nat.zero_mul, Nat.zero_add]

theorem read10 (t : Fin cfg0.N) (A : S8x512.Idx → EReal) (y : S8x512.Idx) :
    ((cfg0.win 10).blk t).view.read (Elt Ideal) A y = A y := by
  show A ((win0_10.rect t).emb y) = A y
  refine congrArg A (funext (Fin.forall_fin_two.mpr ⟨Fin.ext ?_, Fin.ext ?_⟩))
  · exact win0_10.rect_emb_val_of_index_zero t 0 (index10 t).1 y
  · exact win0_10.rect_emb_val_of_index_zero t 1 (index10 t).2 y

theorem final9 (c : Dev nD) (Q K W O D L : ℕ → ℕ → ℝ) (s : ℕ → ℝ) (g : Given m c Q K W O D L s) :
    (dats m 0 c).arrAt 9 cfg0.N = dqArr Q K W O D L := by
  have hN : cfg0.N = 64 := by decide +kernel
  refine (dats m 0 c).arrAt_eq_of_cover 9 (dqArr Q K W O D L) (fun t _ => ?_) (fun i => ?_)
  · rw [Value.flushed9]
    funext y
    have hy0 : (y 0).val < 128 := (y 0).isLt
    have hy1 : (y 1).val < 512 := (y 1).isLt
    have ht : t.val < 64 := hN ▸ t.isLt
    refine Eq.trans ?_ (read9 t (dqArr Q K W O D L) y (ix2 ⟨128 * t.val + (y 0).val, by omega⟩ ⟨(y 1).val, hy1⟩) rfl rfl).symm
    show (outsAt0 m c t.val t.isLt).1 y = ((qgrad Q K W O D L ((128 * t.val + (y 0).val) / 128) ((128 * t.val + (y 0).val) % 128) (y 1).val : ℝ) : EReal)
    rw [show (128 * t.val + (y 0).val) / 128 = t.val by omega, show (128 * t.val + (y 0).val) % 128 = (y 0).val by omega, eq_ix2 y]
    exact point9 m c Q K W O D L s g t (y 0) (y 1)
  · have h0 : (i 0 : Nat) < 8192 := (i 0).isLt
    have h1 : (i 1 : Nat) < 512 := (i 1).isLt
    have ht : (i 0 : Nat) / 128 < cfg0.N := by omega
    refine ⟨⟨(i 0 : Nat) / 128, ht⟩, flush0_9 _, ?_⟩
    show (show S8192x512.Idx from i) ∈ ((View.whole main_v84_0).slice (win0_9.rect ⟨(i 0 : Nat) / 128, ht⟩)).set
    rw [View.set_slice_whole, Rect.mem_set_unit]
    intro a
    match a with
    | ⟨0, _⟩ =>
      show win0_9.index _ 0 * 128 ≤ (i 0 : Nat) ∧ (i 0 : Nat) < win0_9.index _ 0 * 128 + 128
      rw [(index9 _).1]
      show (i 0 : Nat) / 128 * 128 ≤ (i 0 : Nat) ∧ (i 0 : Nat) < (i 0 : Nat) / 128 * 128 + 128
      omega
    | ⟨1, _⟩ =>
      show win0_9.index _ 1 * 512 ≤ (i 1 : Nat) ∧ (i 1 : Nat) < win0_9.index _ 1 * 512 + 512
      rw [(index9 _).2]
      omega

theorem final10 (c : Dev nD) (Q K W O D L : ℕ → ℕ → ℝ) (s : ℕ → ℝ) (g : Given m c Q K W O D L s) :
    (dats m 0 c).arrAt 10 cfg0.N = dsArr O D L s := by
  have hN : cfg0.N = 64 := by decide +kernel
  refine (dats m 0 c).arrAt_eq_of_cover 10 (dsArr O D L s) (fun t ht => ?_) (fun i => ?_)
  · rw [Value.flushed10]
    have h63 : t.val = 63 := by
      have := (flush0_10 t).mp ht
      have := t.isLt
      omega
    refine funext fun (y : S8x512.Idx) => ?_
    refine Eq.trans ?_ (read10 t (dsArr O D L s) y).symm
    have key : ∀ (r : Fin 8) (l : Fin 512), (outsAt0 m c t.val t.isLt).2 (ix2 r l) = dsArr O D L s (ix2 r l) := fun r l => by
      by_cases h0 : r = 0
      · subst h0
        refine (point10 m c Q K W O D L s g t.val t.isLt l).trans ?_
        rw [h63]
        exact (if_pos rfl).symm
      · have h1 : ¬ r.val = 0 := fun h => h0 (Fin.ext h)
        exact (point10_below m c t.val t.isLt r (by omega) l).trans (if_neg h1).symm
    rw [eq_ix2 y]
    exact key (y 0) (y 1)
  · have ht : 63 < cfg0.N := by omega
    refine ⟨⟨63, ht⟩, (flush0_10 _).mpr rfl, ?_⟩
    show (show S8x512.Idx from i) ∈ ((View.whole main_v84_1).slice (win0_10.rect ⟨63, ht⟩)).set
    rw [View.set_slice_whole, Rect.mem_set_unit]
    have h0 : (i 0 : Nat) < 8 := (i 0).isLt
    have h1 : (i 1 : Nat) < 512 := (i 1).isLt
    intro a
    match a with
    | ⟨0, _⟩ =>
      show win0_10.index _ 0 * 8 ≤ (i 0 : Nat) ∧ (i 0 : Nat) < win0_10.index _ 0 * 8 + 8
      rw [(index10 _).1]
      omega
    | ⟨1, _⟩ =>
      show win0_10.index _ 1 * 512 ≤ (i 1 : Nat) ∧ (i 1 : Nat) < win0_10.index _ 1 * 512 + 512
      rw [(index10 _).2]
      omega

end Cert.Swa
end
-- ==== Proof.SwaHost.lean ====
/- The arrays the sliding-window call is given, in terms of the launch memory's arguments. -/
module

public import proofs.«01_k».proof.Proof.Gen.KernelIdeal.Frame
public import proofs.«01_k».proof.Proof.Gen.ReferenceIdeal.Read
public import Idealize.ShloMosaic.Lib.StableHlo.RunRead

@[expose] public section

noncomputable section

namespace Cert.Swa

open Idealize.ShloMosaic Idealize.ShloMosaic.TcCoe Idealize.SL.Sem
open Cert.KernelIdeal (nD τ sig)
open Cert.KernelIdeal.Gen (V)

variable (m : (ℓ : Loc nD τ sig) → Buf (Elt Ideal) ℓ)

/-- The query array the launch memory holds. -/
abbrev aq (c : Dev nD) : Cert.KernelIdeal.S8192x512.Idx → EReal := m ((c : Thread nD τ).loc Cert.KernelIdeal.main_arg0)
/-- The key array. -/
abbrev ak (c : Dev nD) : Cert.KernelIdeal.S8192x128.Idx → EReal := m ((c : Thread nD τ).loc Cert.KernelIdeal.main_arg1)
/-- The value array. -/
abbrev av (c : Dev nD) : Cert.KernelIdeal.S8192x128.Idx → EReal := m ((c : Thread nD τ).loc Cert.KernelIdeal.main_arg2)
/-- The sinks. -/
abbrev ask (c : Dev nD) : Cert.KernelIdeal.S8.Idx → EReal := m ((c : Thread nD τ).loc Cert.KernelIdeal.main_arg3)
/-- The output's cotangent. -/
abbrev aw (c : Dev nD) : Cert.KernelIdeal.S8192x512.Idx → EReal := m ((c : Thread nD τ).loc Cert.KernelIdeal.main_arg4)

theorem V_v71 (c : Dev nD) : V m c Cert.KernelIdeal.main_v71
    = shapeCast Cert.KernelIdeal.S8192x512 (Cert.ReferenceIdeal.Read.val_main_v96 (F := Ideal) (aq m c) (ak m c) (av m c) (ask m c))
        Cert.KernelIdeal.Gen.shapeCasts_S8192x8x64_S8192x512 := by
  unfold V
  after_reads_simp
  rfl

theorem V_v74 (c : Dev nD) : V m c Cert.KernelIdeal.main_v74
    = shapeCast Cert.KernelIdeal.S8192x512 (broadcastInDim Cert.KernelIdeal.S8192x8x64 ![0, 1, 2] Cert.KernelIdeal.Gen.bcast_S8192x8x1_S8192x8x64_0_1_2
        (shapeCast Cert.KernelIdeal.S8192x8x1 (Cert.ReferenceIdeal.Read.val_main_v95 (F := Ideal) (aq m c) (ak m c) (ask m c))
          Cert.KernelIdeal.Gen.shapeCasts_S8192x8_S8192x8x1))
        Cert.KernelIdeal.Gen.shapeCasts_S8192x8x64_S8192x512 := by
  unfold V
  after_reads_simp
  rfl

/-- A key or value array with each head of 64 lanes repeated for its four query heads. -/
def expand (x : Cert.KernelIdeal.S8192x128.Idx → EReal) : Cert.KernelIdeal.S8192x512.Idx → EReal :=
  shapeCast Cert.KernelIdeal.S8192x512 (broadcastInDim Cert.KernelIdeal.S8192x2x4x64 ![0, 1, 2, 3] Cert.KernelIdeal.Gen.bcast_S8192x2x1x64_S8192x2x4x64_0_1_2_3
        (shapeCast Cert.KernelIdeal.S8192x2x1x64 x Cert.KernelIdeal.Gen.shapeCasts_S8192x128_S8192x2x1x64))
        Cert.KernelIdeal.Gen.shapeCasts_S8192x2x4x64_S8192x512

theorem V_v77 (c : Dev nD) : V m c Cert.KernelIdeal.main_v77 = expand (ak m c) := by
  unfold V
  after_reads_simp
  rfl

theorem V_v80 (c : Dev nD) : V m c Cert.KernelIdeal.main_v80 = expand (av m c) := by
  unfold V
  after_reads_simp
  rfl

theorem V_v83 (c : Dev nD) : V m c Cert.KernelIdeal.main_v83
    = shapeCast Cert.KernelIdeal.S1x512 (shapeCast Cert.KernelIdeal.S512
        (broadcastInDim Cert.KernelIdeal.S8x64 ![0] Cert.KernelIdeal.Gen.bcast_S8_S8x64_0 (ask m c))
        Cert.KernelIdeal.Gen.shapeCasts_S8x64_S512) Cert.KernelIdeal.Gen.shapeCasts_S512_S1x512 := by
  unfold V
  after_reads_simp
  rfl

theorem V_arg0 (c : Dev nD) : V m c Cert.KernelIdeal.main_arg0 = aq m c := by
  unfold V
  after_reads_simp

theorem V_arg4 (c : Dev nD) : V m c Cert.KernelIdeal.main_arg4 = aw m c := by
  unfold V
  after_reads_simp

end Cert.Swa

end
-- ==== Proof.SwaJoin.lean ====
/- The call's formulas at the arrays it is given are the reference's: both are the softmax's gradient. -/
module

public import proofs.«01_k».proof.Proof.SwaBwd
public import proofs.«01_k».proof.Proof.SwaFinal
public import proofs.«01_k».proof.Proof.SwaHost

@[expose] public section

set_option maxRecDepth 16384

noncomputable section

namespace Cert.Swa

open Idealize.ShloMosaic Idealize.ShloMosaic.TcCoe Idealize.SL.Sem

variable (q k v : ℕ → ℕ → ℝ) (sk : ℕ → ℝ) (w : ℕ → ℕ → ℝ)

/-! ## The tables the call is given -/

/-- Each key (or value) head's 64 lanes, repeated for its four query heads. -/
def rep4 (x : ℕ → ℕ → ℝ) : ℕ → ℕ → ℝ := fun row l => x row (l / 256 * 64 + l % 64)

/-- The saved outputs. -/
def outT : ℕ → ℕ → ℝ := fun row l => Or q k v sk (row / 128) (l / 64 / 4) (l / 64 % 4) (row % 128) (l % 64)

/-- The saved logarithms. -/
def logT : ℕ → ℕ → ℝ := fun row hd => Real.log (Zr q k sk (row / 128) (hd / 4) (hd % 4) (row % 128))

/-! ## The formulas -/

theorem kcat_rep (x : ℕ → ℕ → ℝ) (n r j l : ℕ) (hv : Vis n r j) : kcat (rep4 x) n j l = kk x n j (l / 256 * 64 + l % 64) := by
  unfold kcat cat2 from_ rep4 kk
  by_cases hj : j < 128
  · have h1 : 1 ≤ n := by unfold Vis at hv; omega
    rw [if_pos hj, if_pos hj, if_pos h1, Nat.mul_comm]
  · rw [if_neg hj, if_neg hj, Nat.mul_comm 128]

theorem lane_split (hd d : ℕ) : 64 * hd + d = hd / 4 * 256 + hd % 4 * 64 + d := by omega

theorem kcat_head (x : ℕ → ℕ → ℝ) (n r j hd : ℕ) (d : Fin 64) (hv : Vis n r j) :
    kcat (rep4 x) n j (64 * hd + d.val) = kk x n j (hd / 4 * 64 + d.val) := by
  rw [kcat_rep x n r j _ hv]
  congr 1
  omega

theorem score_rep (n r hd j : ℕ) (hv : Vis n r j) : score q (rep4 k) n r hd j = sc q k n (hd / 4) (hd % 4) r j := by
  unfold score sc
  refine congrArg (· * (0.125 : ℝ)) (Finset.sum_congr rfl fun d _ => ?_)
  rw [kcat_head k n r j hd d hv, lane_split, Nat.mul_comm 128]

theorem dweight_rep (n r hd j : ℕ) (hv : Vis n r j) : dweight w (rep4 v) n r hd j = dpr v w n (hd / 4) (hd % 4) r j := by
  unfold dweight dpr
  refine Finset.sum_congr rfl fun d _ => ?_
  rw [kcat_head v n r j hd d hv, lane_split, Nat.mul_comm 128]

theorem dmean_rep (n r hd : ℕ) (hr : r < 128) : dmean w (outT q k v sk) n r hd = Tr q k v sk w n (hd / 4) (hd % 4) r := by
  refine Eq.trans ?_ (Soft.mean_out (fun j : Fin 256 => Vis n r j.val) (fun j => sc q k n (hd / 4) (hd % 4) r j.val) (sk (hd / 4 * 4 + hd % 4))
    (fun d : Fin 64 => w (n * 128 + r) (hd / 4 * 256 + hd % 4 * 64 + d.val)) (fun j d => kk v n j.val (hd / 4 * 64 + d.val)))
  unfold dmean outT
  refine Finset.sum_congr rfl fun d _ => ?_
  have h1 : (128 * n + r) / 128 = n := by omega
  have h2 : (128 * n + r) % 128 = r := by omega
  have h3 : (64 * hd + d.val) / 64 = hd := by omega
  have h4 : (64 * hd + d.val) % 64 = d.val := by omega
  rw [h1, h2, h3, h4, lane_split, Nat.mul_comm 128]
  rfl

theorem weight_Pr (n g h r : ℕ) (j : Fin 256) :
    (if Vis n r j.val then Real.exp (sc q k n g h r j.val - Real.log (Zr q k sk n g h r)) else 0) = Pr q k sk n g h r j :=
  Soft.weight_log (fun j : Fin 256 => Vis n r j.val) (fun j => sc q k n g h r j.val) (sk (g * 4 + h)) j

theorem qgrad_eq (n r lane : ℕ) (hr : r < 128) :
    qgrad q (rep4 k) (rep4 v) (outT q k v sk) w (logT q k sk) n r lane
      = dqr q k v sk w n (lane / 64 / 4) (lane / 64 % 4) r (lane % 64) := by
  unfold qgrad dqr logT
  have h1 : (128 * n + r) / 128 = n := by omega
  have h2 : (128 * n + r) % 128 = r := by omega
  rw [h1, h2]
  refine congrArg (· * (0.125 : ℝ)) (Finset.sum_congr rfl fun x _ => ?_)
  rw [← weight_Pr]
  by_cases hv : Vis n r x.val
  · rw [if_pos hv, if_pos hv, score_rep q k n r _ _ hv, dweight_rep v w n r _ _ hv, dmean_rep q k v sk w n r _ hr, kcat_rep k n r _ _ hv]
    congr 2
    omega
  · rw [if_neg hv, if_neg hv, zero_mul, zero_mul, zero_mul, zero_mul]

theorem sgrad_eq (lane : ℕ) :
    ∑ n ∈ Finset.range 64, sgrad (outT q k v sk) w (logT q k sk) (fun l => sk (l / 64)) n lane
      = skr q k v sk w (lane / 64 / 4) (lane / 64 % 4) := by
  rw [Finset.sum_range]
  unfold sgrad skr logT
  refine Finset.sum_congr rfl fun n _ => Finset.sum_congr rfl fun r _ => ?_
  have h1 : (128 * n.val + r.val) / 128 = n.val := by omega
  have h2 : (128 * n.val + r.val) % 128 = r.val := by omega
  have h3 : lane / 64 / 4 * 4 + lane / 64 % 4 = lane / 64 := by omega
  rw [h1, h2, dmean_rep q k v sk w n.val r.val _ r.isLt]
  refine congrArg (fun x => -x * Tr q k v sk w n.val (lane / 64 / 4) (lane / 64 % 4) r.val) ?_
  have hs : sk (lane / 64) = sk (lane / 64 / 4 * 4 + lane / 64 % 4) := by rw [h3]
  show Real.exp (sk (lane / 64) - _) = _
  rw [hs]
  exact Soft.sink_log (fun j : Fin 256 => Vis n.val r.val j.val) (fun j => sc q k n.val (lane / 64 / 4) (lane / 64 % 4) r.val j.val)
    (sk (lane / 64 / 4 * 4 + lane / 64 % 4))

/-! ## The arrays -/

theorem tab71 (row : Fin 8192) (l : Fin 512) : shapeCast Cert.KernelIdeal.S8192x512 (Cert.ReferenceIdeal.Read.val_main_v96 (F := Ideal) (arr2 q) (arr2 k) (arr2 v) (arr1 sk))
      Cert.KernelIdeal.Gen.shapeCasts_S8192x8x64_S8192x512 (ix2 row l) = ((outT q k v sk row.val l.val : ℝ) : EReal) := by
  have e : shapeCast Cert.KernelIdeal.S8192x512 (Cert.ReferenceIdeal.Read.val_main_v96 (F := Ideal) (arr2 q) (arr2 k) (arr2 v) (arr1 sk))
      Cert.KernelIdeal.Gen.shapeCasts_S8192x8x64_S8192x512 (ix2 row l)
      = Cert.ReferenceIdeal.Read.val_main_v96 (F := Ideal) (arr2 q) (arr2 k) (arr2 v) (arr1 sk) (ix3 row ⟨l.val / 64, by omega⟩ ⟨l.val % 64, by omega⟩) := by
    generalize Cert.ReferenceIdeal.Read.val_main_v96 (F := Ideal) (arr2 q) (arr2 k) (arr2 v) (arr1 sk) = A
    pointwise
  rw [e, ref96]
  rfl

theorem tab74 (row : Fin 8192) (l : Fin 512) :
    shapeCast Cert.KernelIdeal.S8192x512 (broadcastInDim Cert.KernelIdeal.S8192x8x64 ![0, 1, 2] Cert.KernelIdeal.Gen.bcast_S8192x8x1_S8192x8x64_0_1_2
        (shapeCast Cert.KernelIdeal.S8192x8x1 (Cert.ReferenceIdeal.Read.val_main_v95 (F := Ideal) (arr2 q) (arr2 k) (arr1 sk))
          Cert.KernelIdeal.Gen.shapeCasts_S8192x8_S8192x8x1))
        Cert.KernelIdeal.Gen.shapeCasts_S8192x8x64_S8192x512 (ix2 row l) = ((logT q k sk row.val (l.val / 64) : ℝ) : EReal) := by
  have e : shapeCast Cert.KernelIdeal.S8192x512 (broadcastInDim Cert.KernelIdeal.S8192x8x64 ![0, 1, 2] Cert.KernelIdeal.Gen.bcast_S8192x8x1_S8192x8x64_0_1_2
        (shapeCast Cert.KernelIdeal.S8192x8x1 (Cert.ReferenceIdeal.Read.val_main_v95 (F := Ideal) (arr2 q) (arr2 k) (arr1 sk))
          Cert.KernelIdeal.Gen.shapeCasts_S8192x8_S8192x8x1))
        Cert.KernelIdeal.Gen.shapeCasts_S8192x8x64_S8192x512 (ix2 row l)
      = Cert.ReferenceIdeal.Read.val_main_v95 (F := Ideal) (arr2 q) (arr2 k) (arr1 sk) (ix2 row ⟨l.val / 64, by omega⟩) := by
    generalize Cert.ReferenceIdeal.Read.val_main_v95 (F := Ideal) (arr2 q) (arr2 k) (arr1 sk) = A
    pointwise
  rw [e, ref95]
  rfl

theorem tab77 (x : ℕ → ℕ → ℝ) (row : Fin 8192) (l : Fin 512) : expand (arr2 x) (ix2 row l) = ((rep4 x row.val l.val : ℝ) : EReal) := by
  unfold expand
  pointwise
  unfold rep4
  rfl

theorem tab83 (l : Fin 512) : shapeCast Cert.KernelIdeal.S1x512 (shapeCast Cert.KernelIdeal.S512
        (broadcastInDim Cert.KernelIdeal.S8x64 ![0] Cert.KernelIdeal.Gen.bcast_S8_S8x64_0 (arr1 sk : Cert.KernelIdeal.S8.Idx → EReal))
        Cert.KernelIdeal.Gen.shapeCasts_S8x64_S512) Cert.KernelIdeal.Gen.shapeCasts_S512_S1x512 (ix2 0 l) = ((sk (l.val / 64) : ℝ) : EReal) := by
  pointwise
  rfl

end Cert.Swa

end
-- ==== Proof.SwaFinite.lean ====
/- What the precondition says: every entry of every argument is a real number. -/
module

public import proofs.«01_k».proof.Pre_finite
public import proofs.«01_k».proof.Proof.SwaUnit
public import Idealize.ShloMosaic.Lib.ReduceAll

@[expose] public section

set_option maxRecDepth 16384

noncomputable section

namespace Cert.Swa

open Idealize.ShloMosaic Cert.Pre_finite

theorem finite_facts : Cert.Pre_finite.Facts where
  bcast_S_S8192x512 := by decide
  reducesTo_S8192x512_S_d0_1 := by decide
  h_S_ := by decide
  bcast_S_S8192x128 := by decide
  reducesTo_S8192x128_S_d0_1 := by decide
  bcast_S_S8 := by decide
  reducesTo_S8_S_d0 := by decide

instance : Subsingleton S_.Idx := ⟨fun _ _ => funext fun a => a.elim0⟩

/-- A number whose absolute value is below infinity is real. -/
theorem real_of_abs_lt (x : EReal) (h : max x (-x) < ⊤) : ((x.toReal : ℝ) : EReal) = x := by
  refine EReal.coe_toReal (fun e => ?_) (fun e => ?_)
  · rw [e, max_eq_left le_top] at h
    exact lt_irrefl _ h
  · rw [e, EReal.neg_bot, max_eq_right le_top] at h
    exact lt_irrefl _ h

theorem and_one (a b : BitVec 1) (h : IntOp.andi a b = 1#1) : a = 1#1 ∧ b = 1#1 := by
  revert a b
  decide

theorem all_real {s : Shape} {axes : List (Fin s.rank)} (x : s.Idx → EReal) (hb : S_.BroadcastsInDim s (![] : Fin 0 → Fin s.rank)) (hr : s.ReducesTo axes S_) (h0 : 0 < S_.numel)
    (j : S_.Idx) (h : Host.reduce IntOp.andi (cmpf (F := Ideal) (φ := .f32) .olt (Host.absf (F := Ideal) (φ := .f32) x) (broadcastInDim s ![] hb (constant (F := Ideal) S_ .f32 0x7F800000#32)))
      (constantI S_ 1 1#1) hr h0 j = 1#1) (i : s.Idx) : (((x i).toReal : ℝ) : EReal) = x i := by
  refine real_of_abs_lt _ ?_
  have e := Host.reduce_andi_all _ _ hr h0 j h i
  have hi : (FloatOps.ofBits .f32 0x7F800000#32 : Ideal .f32) = (⊤ : EReal) := by
    show Ideal.ofBits .f32 2139095040#32 = ⊤
    simp [Ideal.ofBits, Ideal.ieee]
  have e' : Ideal.cmp .olt (max (x i) (-(x i))) (FloatOps.ofBits .f32 0x7F800000#32 : Ideal .f32) = 1 := e
  rw [hi] at e'
  by_contra hn
  have : Ideal.cmp .olt (max (x i) (-(x i))) ⊤ = 0 := by
    unfold Ideal.cmp
    simp [hn]
  rw [this] at e'
  exact absurd e' (by decide)

/-- A two-axis array of real numbers, as a table. -/
theorem to_arr2 {a b : ℕ} (x : (⟨2, ![a, b]⟩ : Shape).Idx → EReal) (h : ∀ i, (((x i).toReal : ℝ) : EReal) = x i) : ∃ X : ℕ → ℕ → ℝ, x = arr2 X := by
  refine ⟨fun i j => if h : i < a ∧ j < b then (x (ix2 ⟨i, h.1⟩ ⟨j, h.2⟩)).toReal else 0, funext fun i => ?_⟩
  show x i = (((if h : (i 0).val < a ∧ (i 1).val < b then (x (ix2 ⟨(i 0).val, h.1⟩ ⟨(i 1).val, h.2⟩)).toReal else 0) : ℝ) : EReal)
  rw [dif_pos ⟨(i 0).isLt, (i 1).isLt⟩]
  refine (h i).symm.trans ?_
  congr 3
  exact eq_ix2 i

theorem to_arr1 {a : ℕ} (x : (⟨1, ![a]⟩ : Shape).Idx → EReal) (h : ∀ i, (((x i).toReal : ℝ) : EReal) = x i) : ∃ X : ℕ → ℝ, x = arr1 X := by
  refine ⟨fun i => if h : i < a then (x (ix1 ⟨i, h⟩)).toReal else 0, funext fun i => ?_⟩
  show x i = (((if h : (i 0).val < a then (x (ix1 ⟨(i 0).val, h⟩)).toReal else 0) : ℝ) : EReal)
  have hi : (i 0).val < a := (i 0).isLt
  rw [dif_pos hi]
  refine (h i).symm.trans ?_
  congr 3
  exact eq_ix1 i

theorem finite_args [Cert.Pre_finite.Facts] (q : S8192x512.Idx → EReal) (k v : S8192x128.Idx → EReal) (sk : S8.Idx → EReal) (w : S8192x512.Idx → EReal)
    (h : Cert.Pre_finite.fn (F := Ideal) q k v sk w = fun _ => 1#1) :
    ∃ (Q K V : ℕ → ℕ → ℝ) (s : ℕ → ℝ) (W : ℕ → ℕ → ℝ), q = arr2 Q ∧ k = arr2 K ∧ v = arr2 V ∧ sk = arr1 s ∧ w = arr2 W := by
  have h := congrFun h ix0
  unfold Cert.Pre_finite.fn Cert.Pre_finite.fn_part1 at h
  obtain ⟨h, hw⟩ := and_one _ _ h
  obtain ⟨h, hs⟩ := and_one _ _ h
  obtain ⟨h, hv⟩ := and_one _ _ h
  obtain ⟨hq, hk⟩ := and_one _ _ h
  obtain ⟨Q, eq⟩ := to_arr2 q (all_real q _ _ _ _ hq)
  obtain ⟨K, ek⟩ := to_arr2 k (all_real k _ _ _ _ hk)
  obtain ⟨V, ev⟩ := to_arr2 v (all_real v _ _ _ _ hv)
  obtain ⟨s, es⟩ := to_arr1 sk (all_real sk _ _ _ _ hs)
  obtain ⟨W, ew⟩ := to_arr2 w (all_real w _ _ _ _ hw)
  exact ⟨Q, K, V, s, W, eq, ek, ev, es, ew⟩

end Cert.Swa

end
-- ==== Proof.SwaClaim.lean ====
/- The sliding-window call's two arrays are the reference's, at arguments of real numbers. -/
module

public import proofs.«01_k».proof.Proof.SwaJoin
public import proofs.«01_k».proof.Proof.SwaFinite

@[expose] public section

set_option maxRecDepth 16384

noncomputable section

namespace Cert.Swa

open Idealize.ShloMosaic Idealize.ShloMosaic.TcCoe Idealize.SL.Sem
open Cert.KernelIdeal Cert.KernelIdeal.Gen

variable (m : (ℓ : Loc nD τ sig) → Buf (Elt Ideal) ℓ)

theorem ext2 {a b : ℕ} (x y : (⟨2, ![a, b]⟩ : Shape).Idx → EReal) (h : ∀ (i : Fin a) (j : Fin b), x (ix2 i j) = y (ix2 i j)) : x = y :=
  funext fun i => by rw [eq_ix2 i]; exact h _ _

theorem given (c : Dev nD) (q k v : ℕ → ℕ → ℝ) (sk : ℕ → ℝ) (w : ℕ → ℕ → ℝ) (hq : aq m c = arr2 q) (hk : ak m c = arr2 k)
    (hv : av m c = arr2 v) (hs : ask m c = arr1 sk) (hw : aw m c = arr2 w) :
    Given m c q (rep4 k) (rep4 v) (outT q k v sk) w (logT q k sk) (fun l => sk (l / 64)) where
  q := (V_arg0 m c).trans hq
  k := by rw [V_v77, hk]; exact ext2 _ _ fun i j => tab77 k i j
  v := by rw [V_v80, hv]; exact ext2 _ _ fun i j => tab77 v i j
  o := by rw [V_v71, hq, hk, hv, hs]; exact ext2 _ _ fun i j => tab71 q k v sk i j
  l := by rw [V_v74, hq, hk, hs]; exact ext2 _ _ fun i j => tab74 q k sk i j
  d := (V_arg4 m c).trans hw
  s := by
    rw [V_v83, hs]
    refine ext2 _ _ fun i j => ?_
    obtain rfl : i = 0 := Subsingleton.elim _ _
    exact tab83 sk j

theorem out9_ref (c : Dev nD) (q k v : ℕ → ℕ → ℝ) (sk : ℕ → ℝ) (w : ℕ → ℕ → ℝ) (hq : aq m c = arr2 q) (hk : ak m c = arr2 k)
    (hv : av m c = arr2 v) (hs : ask m c = arr1 sk) (hw : aw m c = arr2 w) :
    (dats m 0 c).arrAt 9 cfg0.N = Cert.ReferenceIdeal.Read.val_main_v140 (F := Ideal) (aq m c) (ak m c) (av m c) (ask m c) (aw m c) := by
  refine (final9 m c _ _ _ _ _ _ _ (given m c q k v sk w hq hk hv hs hw)).trans ?_
  rw [hq, hk, hv, hs, hw]
  refine ext2 _ _ fun i j => ?_
  rw [ref140]
  exact congrArg _ (qgrad_eq q k v sk w (i.val / 128) (i.val % 128) j.val (Nat.mod_lt _ (by decide)))

theorem out10_ref (c : Dev nD) (q k v : ℕ → ℕ → ℝ) (sk : ℕ → ℝ) (w : ℕ → ℕ → ℝ) (hq : aq m c = arr2 q) (hk : ak m c = arr2 k)
    (hv : av m c = arr2 v) (hs : ask m c = arr1 sk) (hw : aw m c = arr2 w) :
    (dats m 0 c).arrAt 10 cfg0.N = Cert.ReferenceIdeal.Read.val_main_v144 (F := Ideal) (aq m c) (ak m c) (av m c) (ask m c) (aw m c) := by
  refine (final10 m c _ _ _ _ _ _ _ (given m c q k v sk w hq hk hv hs hw)).trans ?_
  rw [hq, hk, hv, hs, hw]
  refine ext2 _ _ fun i j => ?_
  rw [ref144]
  show (if i.val = 0 then ((∑ n ∈ Finset.range 64, sgrad (outT q k v sk) w (logT q k sk) (fun l => sk (l / 64)) n j.val : ℝ) : EReal) else 0) = _
  rw [sgrad_eq]

/-- The reference runs, and leaves its two stages. -/
theorem reference_run (m' : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m', fun _ => 0, g⟩ fun r => ∀ c : Dev Cert.ReferenceIdeal.nD,
      r.2.mem ((c.tc : Thread Cert.ReferenceIdeal.nD Cert.ReferenceIdeal.τ).loc Cert.ReferenceIdeal.main_v140) = Cert.ReferenceIdeal.Read.val_main_v140 (F := Ideal)
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v144) = Cert.ReferenceIdeal.Read.val_main_v144 (F := Ideal)
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) :=
  (θ_run Cert.ReferenceIdeal.defs _ _).mono (fun _ h c => ⟨(h c).1.trans (Cert.ReferenceIdeal.Read.val_main_v140_eq _),
      (h c).2.1.trans (Cert.ReferenceIdeal.Read.val_main_v144_eq _), (h c).2.2⟩)
    (Cert.ReferenceIdeal.Value.run m' g)

end Cert.Swa

end
-- ==== Proof.FfnLib.lean ====
/- Small facts the feed-forward calls share. -/
module

public import Idealize.ShloMosaic.Lib.Pipeline.Value
public import Idealize.ShloMosaic.Lib.Pointwise
public import Idealize.ShloMosaic.PureOps.Ideal.Laws

@[expose] public section

noncomputable section

namespace Cert.Ffn

open Idealize.ShloMosaic

/-- Two arrays of two axes are one when their entries are. -/
theorem ext2 {a b : ℕ} (x y : (⟨2, ![a, b]⟩ : Shape).Idx → EReal) (h : ∀ (i : Fin a) (j : Fin b), x (ix2 i j) = y (ix2 i j)) : x = y :=
  funext fun i => by rw [eq_ix2 i]; exact h _ _

theorem off_zero : (![0, 0] : Fin 2 → ℕ) = fun _ => 0 := funext (Fin.forall_fin_two.mpr ⟨rfl, rfl⟩)

/-- Equality of indices of two axes, coordinate by coordinate. -/
theorem idx2 {a b : ℕ} (x y : (⟨2, ![a, b]⟩ : Shape).Idx) (h0 : (x 0).val = (y 0).val) (h1 : (x 1).val = (y 1).val) : x = y :=
  funext (Fin.forall_fin_two.mpr ⟨Fin.ext h0, Fin.ext h1⟩)

/-- Where an element of a point's block sits in the array, on one axis. -/
theorem emb_at {sig : RefSig} {G : Pipeline.Grid} (w : Pipeline.Window sig G) (t : Fin G.N) (y : (w.xblock (G.coords t)).Idx) (a : Fin w.shape.rank) {p n : ℕ}
    (hi : w.index t a = p) (h : n = p * w.size a + (y a).val) (hk : w.kind = .blocked := by first | rfl | decide) : ((w.rect t).emb y a : Nat) = n := by
  rw [w.rect_emb_val t y a hk, hi, h]

/-- The point before. -/
theorem pred_lt {n N : ℕ} (h : n < N) : n - 1 < N := Nat.lt_of_le_of_lt (Nat.sub_le _ _) h

/-- A coordinate lies in a block when it does in the block at the known position. -/
theorem within {q p b i : ℕ} (h : q = p) (hi : p * b ≤ i ∧ i < p * b + b) : q * b ≤ i ∧ i < q * b + b := h ▸ hi

/-- A block of terms prolongs a running sum. -/
theorem extend (P : ℕ → EReal) (a b : ℕ) (f : Fin b → EReal) (h : ∀ k : Fin b, f k = P (a + k.val)) :
    (∑ n ∈ Finset.range a, P n) + ∑ k, f k = ∑ n ∈ Finset.range (a + b), P n := by
  rw [Finset.sum_range_add, Finset.sum_range (fun x => P (a + x))]
  exact congrArg _ (Finset.sum_congr rfl fun k _ => h k)

/-- The terms of one entry of the product of a transposed array with another, by row. -/
def term {n a b : ℕ} (A : (⟨2, ![n, a]⟩ : Shape).Idx → EReal) (X : (⟨2, ![n, b]⟩ : Shape).Idx → EReal) (i : Fin a) (j : Fin b) (k : ℕ) : EReal :=
  if h : k < n then A (ix2 ⟨k, h⟩ i) * X (ix2 ⟨k, h⟩ j) else 0

theorem term_lt {n a b : ℕ} (A : (⟨2, ![n, a]⟩ : Shape).Idx → EReal) (X : (⟨2, ![n, b]⟩ : Shape).Idx → EReal) (i : Fin a) (j : Fin b) (k : ℕ) (h : k < n) :
    term A X i j k = A (ix2 ⟨k, h⟩ i) * X (ix2 ⟨k, h⟩ j) := dif_pos h

theorem term_sum {n a b : ℕ} (A : (⟨2, ![n, a]⟩ : Shape).Idx → EReal) (X : (⟨2, ![n, b]⟩ : Shape).Idx → EReal) (i : Fin a) (j : Fin b) :
    ∑ k ∈ Finset.range n, term A X i j k = ∑ k : Fin n, A (ix2 k i) * X (ix2 k j) := by
  rw [Finset.sum_range]
  exact Finset.sum_congr rfl fun k _ => term_lt A X i j k.val k.isLt

/-- A run of `w` points that each add their `b` terms, the first kept alone, the last written out: what is written out is the sum of all `b * w` terms. -/
theorem run_sum {N w b : ℕ} (T : ℕ → EReal) (q : ℕ) (kept out : ∀ n, n < N → EReal) (f : ∀ n, n < N → Fin b → EReal) (hw : 2 ≤ w)
    (hf : ∀ n hn, n / w = q → ∀ k : Fin b, f n hn k = T (b * (n % w) + k.val))
    (h1 : ∀ n hn, n % w = 0 → kept n hn = ∑ k, f n hn k)
    (h2 : ∀ n hn, 1 ≤ n % w ∧ n % w ≤ w - 2 → kept n hn = kept (n - 1) (pred_lt hn) + ∑ k, f n hn k)
    (h3 : ∀ n hn, n % w = w - 1 → out n hn = kept (n - 1) (pred_lt hn) + ∑ k, f n hn k)
    (n : ℕ) (hn : n < N) (hq : n / w = q) (hl : n % w = w - 1) : out n hn = ∑ k ∈ Finset.range (b * w), T k := by
  have hm : ∀ p, p < w → (w * q + p) % w = p := fun p hp => by rw [Nat.mul_add_mod, Nat.mod_eq_of_lt hp]
  have hd : ∀ p, p < w → (w * q + p) / w = q := fun p hp => by rw [Nat.mul_add_div (by omega), Nat.div_eq_of_lt hp, Nat.add_zero]
  have e := fun p (hp : p < w) (h : w * q + p < N) =>
    extend T (b * p) b (f (w * q + p) h) (fun k => (hf _ h (hd p hp) k).trans (by rw [hm p hp]))
  have sofar : ∀ p, p ≤ w - 2 → ∀ h : w * q + p < N, kept (w * q + p) h = ∑ k ∈ Finset.range (b * p + b), T k := by
    intro p
    induction p with
    | zero =>
      intro _ h
      rw [h1 _ h (hm 0 (by omega)), ← e 0 (by omega) h, Nat.mul_zero, Finset.sum_range_zero, zero_add]
    | succ p ih =>
      intro hp h
      rw [h2 _ h (by rw [hm _ (by omega)]; omega), ← e (p + 1) (by omega) h]
      exact congrArg (· + _) (ih (by omega) (by omega))
  obtain ⟨p, rfl⟩ : ∃ p, w = p + 2 := ⟨w - 2, by omega⟩
  obtain rfl : n = (p + 2) * q + (p + 1) := by
    have h := Nat.div_add_mod n (p + 2)
    rw [hq, hl] at h
    exact h.symm
  rw [h3 _ hn hl, Nat.mul_succ b (p + 1), ← e (p + 1) (by omega) hn]
  exact congrArg (· + _) (sofar p (by omega) (by omega))

end Cert.Ffn

end
-- ==== Proof.FfnSilu.lean ====
/- The gated activation and its derivative, on extended reals. -/
module

public import proofs.«01_k».proof.Proof.FfnLib
public import Idealize.ShloMosaic.Lib.IdealHost

@[expose] public section

noncomputable section

namespace Cert.Ffn

open Idealize.ShloMosaic

theorem one_bits : Ideal.ofBits .f32 0x3F800000#32 = 1 := Ideal.ofBits_one_f32

theorem zero_bits : Ideal.ofBits .f32 0x00000000#32 = 0 := by
  simp [Ideal.ofBits, Ideal.ieee]

theorem exp_nonneg (x : EReal) : 0 ≤ Ideal.exp x := by
  induction x with
  | bot => exact le_refl (0 : EReal)
  | coe r => exact EReal.coe_nonneg.mpr (Real.exp_pos r).le
  | top => exact le_top

theorem den_ne (x : EReal) : (1 : EReal) + Ideal.exp x ≠ 0 := by
  refine ne_of_gt (lt_of_lt_of_le zero_lt_one ?_)
  exact le_add_of_nonneg_right (exp_nonneg x)

/-- The gated activation as the kernel computes it: one quotient, times the other branch. -/
def swiglu (g u : EReal) : EReal := Ideal.div g (1 + Ideal.exp (0 - g)) * u

/-- The reference multiplies by the logistic function instead. -/
theorem swiglu_eq (g u : EReal) : g * Ideal.div 1 (1 + Ideal.exp (-g)) * u = swiglu g u := by
  unfold swiglu Ideal.div
  rw [zero_sub, if_neg (den_ne _), if_neg (den_ne _), one_mul]

/-- The gate's cotangent as the kernel computes it. `d` is the cotangent of the activation's product. -/
def gateBack (d g u : EReal) : EReal :=
  d * u * (Ideal.div 1 (1 + Ideal.exp (0 - g)) * (1 + g * (1 - Ideal.div 1 (1 + Ideal.exp (0 - g)))))

/-- The up branch's cotangent as the kernel computes it. -/
def upBack (d g : EReal) : EReal := d * (g * Ideal.div 1 (1 + Ideal.exp (0 - g)))

theorem upBack_eq (d g : EReal) : g * Ideal.div 1 (1 + Ideal.exp (-g)) * d = upBack d g := by
  unfold upBack
  rw [zero_sub, mul_comm]

/-- The reference's derivative, the product rule's two terms, is the kernel's, where the incoming cotangent is a real number. -/
theorem gateBack_eq (d u : ℝ) (g : EReal) :
    (d : EReal) * u * Ideal.div 1 (1 + Ideal.exp (-g)) + g * ((d : EReal) * u) * (Ideal.div 1 (1 + Ideal.exp (-g)) * (1 - Ideal.div 1 (1 + Ideal.exp (-g))))
      = gateBack d g u := by
  unfold gateBack
  rw [zero_sub, ← EReal.coe_mul]
  change (_ : EReal) * Ideal.logistic g + _ * (Ideal.logistic g * (1 - Ideal.logistic g)) = _ * (Ideal.logistic g * (1 + g * (1 - Ideal.logistic g)))
  induction g with
  | bot => rw [Ideal.logistic_bot]; simp
  | top =>
    have h : (1 : EReal) - 1 = 0 := by
      rw [← EReal.coe_one, ← EReal.coe_sub, sub_self, EReal.coe_zero]
    rw [Ideal.logistic_top, h]; simp
  | coe r =>
    rw [Ideal.logistic_coe]
    generalize (1 + Real.exp (-r))⁻¹ = s
    rw [← EReal.coe_one, ← EReal.coe_sub, ← EReal.coe_mul, ← EReal.coe_mul, ← EReal.coe_mul, ← EReal.coe_mul, ← EReal.coe_add,
      ← EReal.coe_mul, ← EReal.coe_add, ← EReal.coe_mul, ← EReal.coe_mul]
    congr 1
    ring

/-- A finite sum of products of real numbers is a real number. -/
theorem sum_real {n : ℕ} (a b : Fin n → EReal) (ha : ∀ k, (((a k).toReal : ℝ) : EReal) = a k) (hb : ∀ k, (((b k).toReal : ℝ) : EReal) = b k) :
    ∃ r : ℝ, ∑ k, a k * b k = (r : EReal) := by
  have h : ∀ s : Finset (Fin n), ∃ r : ℝ, ∑ k ∈ s, a k * b k = (r : EReal) := fun s => by
    induction s using Finset.induction_on with
    | empty => exact ⟨0, by simp⟩
    | insert k s hk ih =>
      obtain ⟨r, hr⟩ := ih
      refine ⟨(a k).toReal * (b k).toReal + r, ?_⟩
      rw [Finset.sum_insert hk, hr, EReal.coe_add, EReal.coe_mul, ha, hb]
  exact h _

end Cert.Ffn

end
-- ==== Proof.FfnGateUp.lean ====
/- The gate and up call: the two products and the gated activation. -/
module

public import proofs.«01_k».proof.Defs
public import proofs.«01_k».proof.Proof.FfnSilu
public import proofs.«01_k».proof.Proof.Gen.GateUp.Frame
public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.StableHlo.RunRead

@[expose] public section

set_option maxRecDepth 16384

noncomputable section

namespace Cert.Ffn.GateUp

open Idealize.ShloMosaic Idealize.ShloMosaic.TcCoe Idealize.SL.Sem
open Cert.GateUpIdeal Cert.GateUpIdeal.Gen Cert.GateUpRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

theorem V_v2 (c : Dev nD) : V m c main_v2
    = transpose S2816x1024 [1, 0] (m ((c : Thread nD τ).loc main_arg1) : S1024x2816.Idx → EReal) transposes_S1024x2816_S2816x1024_1_0 := by
  unfold V
  after_reads_simp
  rfl

theorem V_v2_apply (c : Dev nD) (i : Fin 2816) (j : Fin 1024) :
    V m c main_v2 (ix2 i j) = (m ((c : Thread nD τ).loc main_arg1) : S1024x2816.Idx → EReal) (ix2 j i) := by
  rw [V_v2]
  generalize (m ((c : Thread nD τ).loc main_arg1) : S1024x2816.Idx → EReal) = A
  pointwise

theorem V_v4 (c : Dev nD) : V m c main_v4
    = transpose S2816x1024 [1, 0] (m ((c : Thread nD τ).loc main_arg2) : S1024x2816.Idx → EReal) transposes_S1024x2816_S2816x1024_1_0 := by
  unfold V
  after_reads_simp
  rfl

theorem V_v4_apply (c : Dev nD) (i : Fin 2816) (j : Fin 1024) :
    V m c main_v4 (ix2 i j) = (m ((c : Thread nD τ).loc main_arg2) : S1024x2816.Idx → EReal) (ix2 j i) := by
  rw [V_v4]
  generalize (m ((c : Thread nD τ).loc main_arg2) : S1024x2816.Idx → EReal) = A
  pointwise

/-! ## Where a point's blocks sit -/

theorem index0 : ∀ t : Fin cfg0.N, win0_0.index t 0 = (t.val / 2) ∧ win0_0.index t 1 = 0 := by decide +kernel

theorem read0 (t : Fin cfg0.N) (A : S8192x1024.Idx → EReal) (y : S512x1024.Idx) (i : S8192x1024.Idx)
    (h0 : (i 0).val = (t.val / 2) * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 2) ∧ win0_1.index t 1 = 0 := by decide +kernel

theorem read1 (t : Fin cfg0.N) (A : S2816x1024.Idx → EReal) (y : S1408x1024.Idx) (i : S2816x1024.Idx)
    (h0 : (i 0).val = (t.val % 2) * 1408 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val % 2) ∧ win0_2.index t 1 = 0 := by decide +kernel

theorem read2 (t : Fin cfg0.N) (A : S2816x1024.Idx → EReal) (y : S1408x1024.Idx) (i : S2816x1024.Idx)
    (h0 : (i 0).val = (t.val % 2) * 1408 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = (t.val / 2) ∧ win0_3.index t 1 = (t.val % 2) := by decide +kernel

theorem read3 (t : Fin cfg0.N) (A : S8192x2816.Idx → EReal) (y : S512x1408.Idx) (i : S8192x2816.Idx)
    (h0 : (i 0).val = (t.val / 2) * 512 + (y 0).val) (h1 : (i 1).val = (t.val % 2) * 1408 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = (t.val / 2) ∧ win0_4.index t 1 = (t.val % 2) := by decide +kernel

theorem read4 (t : Fin cfg0.N) (A : S8192x2816.Idx → EReal) (y : S512x1408.Idx) (i : S8192x2816.Idx)
    (h0 : (i 0).val = (t.val / 2) * 512 + (y 0).val) (h1 : (i 1).val = (t.val % 2) * 1408 + (y 1).val) :
    ((cfg0.win 4).blk t).view.read (Elt Ideal) A y = A i :=
  congrArg A (idx2 _ _ (emb_at win0_4 t y 0 (index4 t).1 h0) (emb_at win0_4 t y 1 (index4 t).2 h1))

theorem index5 : ∀ t : Fin cfg0.N, win0_5.index t 0 = (t.val / 2) ∧ win0_5.index t 1 = (t.val % 2) := by decide +kernel

theorem read5 (t : Fin cfg0.N) (A : S8192x2816.Idx → EReal) (y : S512x1408.Idx) (i : S8192x2816.Idx)
    (h0 : (i 0).val = (t.val / 2) * 512 + (y 0).val) (h1 : (i 1).val = (t.val % 2) * 1408 + (y 1).val) :
    ((cfg0.win 5).blk t).view.read (Elt Ideal) A y = A i :=
  congrArg A (idx2 _ _ (emb_at win0_5 t y 0 (index5 t).1 h0) (emb_at win0_5 t y 1 (index5 t).2 h1))

/-! ## One point -/

theorem gate (X : S512x1024.Idx → EReal) (W : S1408x1024.Idx → EReal) (r : Fin 512) (l : Fin 1408) :
    k0_pay2 (F := Ideal) X W (ix2 r l) = ∑ k : Fin 1024, X (ix2 r k) * W (ix2 l k) := by
  unfold k0_pay2 k0_pay1
  pointwise

theorem up (X : S512x1024.Idx → EReal) (W : S1408x1024.Idx → EReal) (r : Fin 512) (l : Fin 1408) :
    k0_pay3 (F := Ideal) X W (ix2 r l) = ∑ k : Fin 1024, X (ix2 r k) * W (ix2 l k) := by
  unfold k0_pay3 k0_pay1
  pointwise

theorem point3 (X : S512x1024.Idx → EReal) (W U : S1408x1024.Idx → EReal) (r : Fin 512) (l : Fin 1408) :
    out0_3 (F := Ideal) X W U (ix2 r l) = ∑ k : Fin 1024, X (ix2 r k) * W (ix2 l k) := by
  unfold out0_3
  refine (congrFun (View.canon_unit_zero off_zero _ _) _).trans ?_
  repeat rw [View.ld_unit_zero off_zero]
  exact gate X W r l

theorem point4 (X : S512x1024.Idx → EReal) (W U : S1408x1024.Idx → EReal) (r : Fin 512) (l : Fin 1408) :
    out0_4 (F := Ideal) X W U (ix2 r l) = ∑ k : Fin 1024, X (ix2 r k) * U (ix2 l k) := by
  unfold out0_4
  refine (congrFun (View.canon_unit_zero off_zero _ _) _).trans ?_
  repeat rw [View.ld_unit_zero off_zero]
  exact up X U r l

theorem point5 (X : S512x1024.Idx → EReal) (W U : S1408x1024.Idx → EReal) (r : Fin 512) (l : Fin 1408) :
    out0_5 (F := Ideal) X W U (ix2 r l)
      = swiglu (∑ k : Fin 1024, X (ix2 r k) * W (ix2 l k)) (∑ k : Fin 1024, X (ix2 r k) * U (ix2 l k)) := by
  unfold out0_5
  refine (congrFun (View.canon_unit_zero off_zero _ _) _).trans ?_
  repeat rw [View.ld_unit_zero off_zero]
  rw [← gate X W r l, ← up X U r l]
  unfold k0_pay4
  generalize k0_pay2 (F := Ideal) X W = g
  generalize k0_pay3 (F := Ideal) X U = u
  show Ideal.div (g (ix2 r l)) (Ideal.ofBits .f32 0x3F800000#32 + Ideal.exp (Ideal.ofBits .f32 0x00000000#32 - g (ix2 r l))) * u (ix2 r l) = _
  rw [one_bits, zero_bits]
  rfl

/-! ## The reference's results at an index -/

theorem ref3 (x : S8192x1024.Idx → EReal) (w : S1024x2816.Idx → EReal) (i : Fin 8192) (j : Fin 2816) :
    val_main_v0 (F := Ideal) x w (ix2 i j) = ∑ k : Fin 1024, x (ix2 i k) * w (ix2 k j) := by
  rw [val_main_v0_apply]
  refine Finset.sum_congr rfl fun k _ => ?_
  exact congrArg₂ (· * ·) (congrArg x (idx2 _ _ rfl rfl)) (congrArg w (idx2 _ _ rfl rfl))

theorem ref4 (x : S8192x1024.Idx → EReal) (w : S1024x2816.Idx → EReal) (i : Fin 8192) (j : Fin 2816) :
    val_main_v1 (F := Ideal) x w (ix2 i j) = ∑ k : Fin 1024, x (ix2 i k) * w (ix2 k j) := by
  rw [val_main_v1_apply]
  refine Finset.sum_congr rfl fun k _ => ?_
  exact congrArg₂ (· * ·) (congrArg x (idx2 _ _ rfl rfl)) (congrArg w (idx2 _ _ rfl rfl))

theorem ref5 (x : S8192x1024.Idx → EReal) (w u : S1024x2816.Idx → EReal) (i : Fin 8192) (j : Fin 2816) :
    val_main_v4 (F := Ideal) x w u (ix2 i j)
      = swiglu (∑ k : Fin 1024, x (ix2 i k) * w (ix2 k j)) (∑ k : Fin 1024, x (ix2 i k) * u (ix2 k j)) := by
  rw [← ref3 x w, ← ref4 x u, ← swiglu_eq]
  rw [val_main_v4_apply, val_main_v3_apply, val_main_v2_apply,
    val_main_call0_v5_apply, val_main_call0_v4_apply, val_main_call0_cst_0_apply,
    val_main_call0_v3_apply, val_main_call0_v2_apply, val_main_call0_cst_apply,
    val_main_call0_v1_apply, val_main_call0_v0_apply]
  generalize val_main_v0 (F := Ideal) x w (ix2 i j) = a
  generalize val_main_v1 (F := Ideal) x u (ix2 i j) = b
  show a * Ideal.div (Ideal.ofBits .f32 0x3F800000#32) (Ideal.ofBits .f32 0x3F800000#32 + Ideal.exp (-a)) * b = _
  rw [one_bits]

/-! ## The arrays the call leaves -/

theorem final3 (c : Dev nD) : (dats m 0 c).arrAt 3 cfg0.N
    = val_main_v0 (F := Ideal) (m ((c : Thread nD τ).loc main_arg0)) (m ((c : Thread nD τ).loc main_arg1)) := by
  have hN : cfg0.N = 32 := by decide +kernel
  refine (dats m 0 c).arrAt_eq_of_cover 3 _ (fun t _ => ?_) (fun i => ?_)
  · rw [Value.flushed3]
    refine funext fun (y : S512x1408.Idx) => ?_
    have hy0 : (y 0).val < 512 := (y 0).isLt
    have hy1 : (y 1).val < 1408 := (y 1).isLt
    have ht : t.val < 32 := hN ▸ t.isLt
    refine Eq.trans ?_ (read3 t _ y (ix2 ⟨(t.val / 2) * 512 + (y 0).val, by omega⟩ ⟨(t.val % 2) * 1408 + (y 1).val, by omega⟩) rfl rfl).symm
    rw [ref3]
    refine Eq.trans (congrArg (out0_3 (F := Ideal) (iblk m c 0 t) (iblk m c 1 t) (iblk m c 2 t)) (eq_ix2 y)) ?_
    refine (point3 _ _ _ (y 0) (y 1)).trans ?_
    refine Finset.sum_congr rfl fun k _ => congrArg₂ (· * ·) ?_ ?_
    · refine (read0 t _ (ix2 (y 0) k) (ix2 ⟨(t.val / 2) * 512 + (y 0).val, by omega⟩ k) rfl (by simp)).trans ?_
      exact congrFun (V_v0 m c) _
    · refine (read1 t _ (ix2 (y 1) k) (ix2 ⟨(t.val % 2) * 1408 + (y 1).val, by omega⟩ k) rfl (by simp)).trans ?_
      exact V_v2_apply m c _ _
  · have h0 : (i 0 : Nat) < 8192 := (i 0).isLt
    have h1 : (i 1 : Nat) < 2816 := (i 1).isLt
    have ht : 2 * ((i 0 : Nat) / 512) + (i 1 : Nat) / 1408 < cfg0.N := by omega
    refine ⟨⟨2 * ((i 0 : Nat) / 512) + (i 1 : Nat) / 1408, ht⟩, flush0_3 _, ?_⟩
    show (show S8192x2816.Idx from i) ∈ ((View.whole main_v5_0).slice (win0_3.rect ⟨2 * ((i 0 : Nat) / 512) + (i 1 : Nat) / 1408, ht⟩)).set
    rw [View.set_slice_whole, Rect.mem_set_unit]
    exact fun a => match a with
      | ⟨0, _⟩ => within (index3 _).1 (by show ((2 * ((i 0 : Nat) / 512) + (i 1 : Nat) / 1408) / 2) * 512 ≤ (i 0 : Nat) ∧ (i 0 : Nat) < ((2 * ((i 0 : Nat) / 512) + (i 1 : Nat) / 1408) / 2) * 512 + 512; omega)
      | ⟨1, _⟩ => within (index3 _).2 (by show ((2 * ((i 0 : Nat) / 512) + (i 1 : Nat) / 1408) % 2) * 1408 ≤ (i 1 : Nat) ∧ (i 1 : Nat) < ((2 * ((i 0 : Nat) / 512) + (i 1 : Nat) / 1408) % 2) * 1408 + 1408; omega)

theorem final4 (c : Dev nD) : (dats m 0 c).arrAt 4 cfg0.N
    = val_main_v1 (F := Ideal) (m ((c : Thread nD τ).loc main_arg0)) (m ((c : Thread nD τ).loc main_arg2)) := by
  have hN : cfg0.N = 32 := by decide +kernel
  refine (dats m 0 c).arrAt_eq_of_cover 4 _ (fun t _ => ?_) (fun i => ?_)
  · rw [Value.flushed4]
    refine funext fun (y : S512x1408.Idx) => ?_
    have hy0 : (y 0).val < 512 := (y 0).isLt
    have hy1 : (y 1).val < 1408 := (y 1).isLt
    have ht : t.val < 32 := hN ▸ t.isLt
    refine Eq.trans ?_ (read4 t _ y (ix2 ⟨(t.val / 2) * 512 + (y 0).val, by omega⟩ ⟨(t.val % 2) * 1408 + (y 1).val, by omega⟩) rfl rfl).symm
    rw [ref4]
    refine Eq.trans (congrArg (out0_4 (F := Ideal) (iblk m c 0 t) (iblk m c 1 t) (iblk m c 2 t)) (eq_ix2 y)) ?_
    refine (point4 _ _ _ (y 0) (y 1)).trans ?_
    refine Finset.sum_congr rfl fun k _ => congrArg₂ (· * ·) ?_ ?_
    · refine (read0 t _ (ix2 (y 0) k) (ix2 ⟨(t.val / 2) * 512 + (y 0).val, by omega⟩ k) rfl (by simp)).trans ?_
      exact congrFun (V_v0 m c) _
    · refine (read2 t _ (ix2 (y 1) k) (ix2 ⟨(t.val % 2) * 1408 + (y 1).val, by omega⟩ k) rfl (by simp)).trans ?_
      exact V_v4_apply m c _ _
  · have h0 : (i 0 : Nat) < 8192 := (i 0).isLt
    have h1 : (i 1 : Nat) < 2816 := (i 1).isLt
    have ht : 2 * ((i 0 : Nat) / 512) + (i 1 : Nat) / 1408 < cfg0.N := by omega
    refine ⟨⟨2 * ((i 0 : Nat) / 512) + (i 1 : Nat) / 1408, ht⟩, flush0_4 _, ?_⟩
    show (show S8192x2816.Idx from i) ∈ ((View.whole main_v5_1).slice (win0_4.rect ⟨2 * ((i 0 : Nat) / 512) + (i 1 : Nat) / 1408, ht⟩)).set
    rw [View.set_slice_whole, Rect.mem_set_unit]
    exact fun a => match a with
      | ⟨0, _⟩ => within (index4 _).1 (by show ((2 * ((i 0 : Nat) / 512) + (i 1 : Nat) / 1408) / 2) * 512 ≤ (i 0 : Nat) ∧ (i 0 : Nat) < ((2 * ((i 0 : Nat) / 512) + (i 1 : Nat) / 1408) / 2) * 512 + 512; omega)
      | ⟨1, _⟩ => within (index4 _).2 (by show ((2 * ((i 0 : Nat) / 512) + (i 1 : Nat) / 1408) % 2) * 1408 ≤ (i 1 : Nat) ∧ (i 1 : Nat) < ((2 * ((i 0 : Nat) / 512) + (i 1 : Nat) / 1408) % 2) * 1408 + 1408; omega)

theorem final5 (c : Dev nD) : (dats m 0 c).arrAt 5 cfg0.N
    = val_main_v4 (F := Ideal) (m ((c : Thread nD τ).loc main_arg0)) (m ((c : Thread nD τ).loc main_arg1)) (m ((c : Thread nD τ).loc main_arg2)) := by
  have hN : cfg0.N = 32 := by decide +kernel
  refine (dats m 0 c).arrAt_eq_of_cover 5 _ (fun t _ => ?_) (fun i => ?_)
  · rw [Value.flushed5]
    refine funext fun (y : S512x1408.Idx) => ?_
    have hy0 : (y 0).val < 512 := (y 0).isLt
    have hy1 : (y 1).val < 1408 := (y 1).isLt
    have ht : t.val < 32 := hN ▸ t.isLt
    refine Eq.trans ?_ (read5 t _ y (ix2 ⟨(t.val / 2) * 512 + (y 0).val, by omega⟩ ⟨(t.val % 2) * 1408 + (y 1).val, by omega⟩) rfl rfl).symm
    rw [ref5]
    refine Eq.trans (congrArg (out0_5 (F := Ideal) (iblk m c 0 t) (iblk m c 1 t) (iblk m c 2 t)) (eq_ix2 y)) ?_
    refine (point5 _ _ _ (y 0) (y 1)).trans ?_
    refine congrArg₂ swiglu ?_ ?_
    · refine Finset.sum_congr rfl fun k _ => congrArg₂ (· * ·) ?_ ?_
      · refine (read0 t _ (ix2 (y 0) k) (ix2 ⟨(t.val / 2) * 512 + (y 0).val, by omega⟩ k) rfl (by simp)).trans ?_
        exact congrFun (V_v0 m c) _
      · refine (read1 t _ (ix2 (y 1) k) (ix2 ⟨(t.val % 2) * 1408 + (y 1).val, by omega⟩ k) rfl (by simp)).trans ?_
        exact V_v2_apply m c _ _
    · refine Finset.sum_congr rfl fun k _ => congrArg₂ (· * ·) ?_ ?_
      · refine (read0 t _ (ix2 (y 0) k) (ix2 ⟨(t.val / 2) * 512 + (y 0).val, by omega⟩ k) rfl (by simp)).trans ?_
        exact congrFun (V_v0 m c) _
      · refine (read2 t _ (ix2 (y 1) k) (ix2 ⟨(t.val % 2) * 1408 + (y 1).val, by omega⟩ k) rfl (by simp)).trans ?_
        exact V_v4_apply m c _ _
  · have h0 : (i 0 : Nat) < 8192 := (i 0).isLt
    have h1 : (i 1 : Nat) < 2816 := (i 1).isLt
    have ht : 2 * ((i 0 : Nat) / 512) + (i 1 : Nat) / 1408 < cfg0.N := by omega
    refine ⟨⟨2 * ((i 0 : Nat) / 512) + (i 1 : Nat) / 1408, ht⟩, flush0_5 _, ?_⟩
    show (show S8192x2816.Idx from i) ∈ ((View.whole main_v5_2).slice (win0_5.rect ⟨2 * ((i 0 : Nat) / 512) + (i 1 : Nat) / 1408, ht⟩)).set
    rw [View.set_slice_whole, Rect.mem_set_unit]
    exact fun a => match a with
      | ⟨0, _⟩ => within (index5 _).1 (by show ((2 * ((i 0 : Nat) / 512) + (i 1 : Nat) / 1408) / 2) * 512 ≤ (i 0 : Nat) ∧ (i 0 : Nat) < ((2 * ((i 0 : Nat) / 512) + (i 1 : Nat) / 1408) / 2) * 512 + 512; omega)
      | ⟨1, _⟩ => within (index5 _).2 (by show ((2 * ((i 0 : Nat) / 512) + (i 1 : Nat) / 1408) % 2) * 1408 ≤ (i 1 : Nat) ∧ (i 1 : Nat) < ((2 * ((i 0 : Nat) / 512) + (i 1 : Nat) / 1408) % 2) * 1408 + 1408; omega)

/-! ## The claims -/

/-- The reference runs, keeps its arguments, and has no semaphore. -/
theorem ref_frame : Cert.quiescent_GateUpRefIdeal (hGateUpRefIdeal := Cert.GateUpRefIdeal.Gen.facts) := fun m g _ =>
  (θ_run Cert.GateUpRefIdeal.defs _ _).mono (fun r h => ⟨fun c => (h c).2.2.2, sem_eq_zero_of_no_sems (by decide) r.2⟩)
    (Cert.GateUpRefIdeal.Value.run m g)

/-- The call's results are the reference's. -/
theorem value : Cert.algebraic_GateUpIdeal_GateUpRefIdeal (hGateUpIdeal := Cert.GateUpIdeal.Gen.facts) (hGateUpRefIdeal := Cert.GateUpRefIdeal.Gen.facts) := by
  intro m g m' g' _ agree
  refine ⟨fun c => val_main_v0 (F := Ideal) (m ((c : Thread nD τ).loc main_arg0)) (m ((c : Thread nD τ).loc main_arg1)), fun c => val_main_v1 (F := Ideal) (m ((c : Thread nD τ).loc main_arg0)) (m ((c : Thread nD τ).loc main_arg2)), fun c => val_main_v4 (F := Ideal) (m ((c : Thread nD τ).loc main_arg0)) (m ((c : Thread nD τ).loc main_arg1)) (m ((c : Thread nD τ).loc main_arg2)), ?_, ?_⟩
  · refine (θ_run Cert.GateUpIdeal.defs _ _).mono (fun r h c => ?_) (Value.run_blocks m g)
    exact ⟨(h c).1.trans (final3 m c), (h c).2.1.trans (final4 m c), (h c).2.2.1.trans (final5 m c), (h c).2.2.2⟩
  · refine (θ_run Cert.GateUpRefIdeal.defs _ _).mono (fun r h c => ?_) (Cert.GateUpRefIdeal.Value.run m' g')
    obtain ⟨e0, e1, e2⟩ := agree c
    refine ⟨(h c).1.trans ?_, (h c).2.1.trans ?_, (h c).2.2.1.trans ?_, (h c).2.2.2⟩
    · rw [e0, e1]
      exact val_main_v0_eq _ _
    · rw [e0, e2]
      exact val_main_v1_eq _ _
    · rw [e0, e1, e2]
      exact val_main_v4_eq _ _ _

end Cert.Ffn.GateUp

end
-- ==== Proof.FfnDown.lean ====
/- The down projection's call: the residual plus the activation times the weight. -/
module

public import proofs.«01_k».proof.Defs
public import proofs.«01_k».proof.Proof.FfnLib
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import Idealize.ShloMosaic.Lib.StableHlo.RunRead

@[expose] public section

set_option maxRecDepth 16384

noncomputable section

namespace Cert.Ffn.Down

open Idealize.ShloMosaic Idealize.ShloMosaic.TcCoe Idealize.SL.Sem
open Cert.DownIdeal Cert.DownIdeal.Gen Cert.DownRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

theorem V_v1 (c : Dev nD) : V m c main_v1 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S8192x2816.Idx → EReal) (y : S512x2816.Idx) (i : S8192x2816.Idx)
    (h0 : (i 0).val = t.val * 512 + (y 0).val) (h1 : (i 1).val = 0 * 2816 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S2816x1024.Idx → EReal) (y : S2816x1024.Idx) (i : S2816x1024.Idx)
    (h0 : (i 0).val = 0 * 2816 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

/-! ## One point -/

theorem point (X : S512x2816.Idx → EReal) (W : S2816x1024.Idx → EReal) (R : S512x1024.Idx → EReal) (r : Fin 512) (l : Fin 1024) :
    out0_3 (F := Ideal) X W R (ix2 r l) = (∑ k : Fin 2816, X (ix2 r k) * W (ix2 k l)) + R (ix2 r l) := by
  unfold out0_3
  refine (congrFun (View.canon_unit_zero off_zero _ _) _).trans ?_
  repeat rw [View.ld_unit_zero off_zero]
  unfold k0_pay1
  pointwise

/-! ## The reference's result at an index -/

theorem ref_apply (a : S8192x2816.Idx → EReal) (w : S2816x1024.Idx → EReal) (x : S8192x1024.Idx → EReal) (i : Fin 8192) (j : Fin 1024) :
    val_main_v1 (F := Ideal) a w x (ix2 i j) = (∑ k : Fin 2816, a (ix2 i k) * w (ix2 k j)) + x (ix2 i j) := by
  rw [val_main_v1_apply, val_main_v0_apply]
  refine (add_comm _ _).trans (congrArg (· + x (ix2 i j)) (Finset.sum_congr rfl fun k _ => ?_))
  exact congrArg₂ (· * ·) (congrArg a (idx2 _ _ rfl rfl)) (congrArg w (idx2 _ _ rfl rfl))

/-! ## The array the call leaves -/

theorem final3 (c : Dev nD) : (dats m 0 c).arrAt 3 cfg0.N
    = val_main_v1 (F := Ideal) (m ((c : Thread nD τ).loc main_arg0)) (m ((c : Thread nD τ).loc main_arg1)) (m ((c : Thread nD τ).loc main_arg2)) := by
  have hN : cfg0.N = 16 := by decide +kernel
  refine (dats m 0 c).arrAt_eq_of_cover 3 _ (fun t _ => ?_) (fun i => ?_)
  · rw [Value.flushed3]
    refine funext fun (y : S512x1024.Idx) => ?_
    have hy0 : (y 0).val < 512 := (y 0).isLt
    have hy1 : (y 1).val < 1024 := (y 1).isLt
    have ht : t.val < 16 := hN ▸ t.isLt
    refine Eq.trans ?_ (read3 t _ y (ix2 ⟨t.val * 512 + (y 0).val, by omega⟩ ⟨0 * 1024 + (y 1).val, by omega⟩) rfl rfl).symm
    rw [ref_apply]
    refine Eq.trans (congrArg (out0_3 (F := Ideal) (iblk m c 0 t) (iblk m c 1 t) (iblk m c 2 t)) (eq_ix2 y)) ?_
    refine (point _ _ _ (y 0) (y 1)).trans ?_
    refine congrArg₂ (· + ·) (Finset.sum_congr rfl fun k _ => congrArg₂ (· * ·) ?_ ?_) ?_
    · refine (read0 t _ (ix2 (y 0) k) (ix2 ⟨t.val * 512 + (y 0).val, by omega⟩ k) rfl (by simp)).trans ?_
      exact congrFun (V_v0 m c) _
    · refine (read1 t _ (ix2 k (y 1)) (ix2 k ⟨0 * 1024 + (y 1).val, by omega⟩) (by simp) rfl).trans ?_
      exact congrFun (V_v1 m c) _
    · refine (read2 t _ (ix2 (y 0) (y 1)) (ix2 ⟨t.val * 512 + (y 0).val, by omega⟩ ⟨0 * 1024 + (y 1).val, by omega⟩) rfl rfl).trans ?_
      exact congrFun (V_main_arg2 m c) _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_3 _, ?_⟩
    show (show S8192x1024.Idx from i) ∈ ((View.whole main_v2).slice (win0_3.rect ⟨(i 0 : Nat) / 512, ht⟩)).set
    rw [View.set_slice_whole, Rect.mem_set_unit]
    exact fun a => match a with
      | ⟨0, _⟩ => within (index3 _).1 (by show (i 0 : Nat) / 512 * 512 ≤ (i 0 : Nat) ∧ (i 0 : Nat) < (i 0 : Nat) / 512 * 512 + 512; omega)
      | ⟨1, _⟩ => within (index3 _).2 (by show 0 * 1024 ≤ (i 1 : Nat) ∧ (i 1 : Nat) < 0 * 1024 + 1024; omega)

/-! ## The claims -/

/-- The reference runs, keeps its arguments, and has no semaphore. -/
theorem ref_frame : Cert.quiescent_DownRefIdeal (hDownRefIdeal := Cert.DownRefIdeal.Gen.facts) := fun m g _ =>
  (θ_run Cert.DownRefIdeal.defs _ _).mono (fun r h => ⟨fun c => (h c).2, sem_eq_zero_of_no_sems (by decide) r.2⟩)
    (Cert.DownRefIdeal.Value.run m g)

/-- The call's results are the reference's. -/
theorem value : Cert.algebraic_DownIdeal_DownRefIdeal (hDownIdeal := Cert.DownIdeal.Gen.facts) (hDownRefIdeal := Cert.DownRefIdeal.Gen.facts) := by
  intro m g m' g' _ agree
  refine ⟨fun c => val_main_v1 (F := Ideal) (m ((c : Thread nD τ).loc main_arg0)) (m ((c : Thread nD τ).loc main_arg1)) (m ((c : Thread nD τ).loc main_arg2)), ?_, ?_⟩
  · refine (θ_run Cert.DownIdeal.defs _ _).mono (fun r h c => ?_) (Value.run_blocks m g)
    exact ⟨(h c).1.trans (final3 m c), (h c).2⟩
  · refine (θ_run Cert.DownRefIdeal.defs _ _).mono (fun r h c => ?_) (Cert.DownRefIdeal.Value.run m' g')
    obtain ⟨e0, e1, e2⟩ := agree c
    refine ⟨(h c).1.trans ?_, (h c).2⟩
    · rw [e0, e1, e2]
      exact val_main_v1_eq _ _ _

end Cert.Ffn.Down

end
-- ==== Proof.FfnAct.lean ====
/- The activation's backward call: the cotangents of the gate and up branches. -/
module

public import proofs.«01_k».proof.Defs
public import proofs.«01_k».proof.Proof.FfnSilu
public import proofs.«01_k».proof.Proof.SwaFinite
public import proofs.«01_k».proof.Proof.Gen.Act.Frame
public import proofs.«01_k».proof.Proof.Gen.ActIdeal.Value
public import proofs.«01_k».proof.Proof.Gen.ActRefIdeal.Run
public import proofs.«01_k».proof.Proof.Gen.ActRefIdeal.Read
public import Idealize.ShloMosaic.Lib.StableHlo.RunRead

@[expose] public section

set_option maxRecDepth 16384

noncomputable section

namespace Cert.Ffn.Act

open Idealize.ShloMosaic Idealize.ShloMosaic.TcCoe Idealize.SL.Sem
open Cert.ActIdeal Cert.ActIdeal.Gen Cert.ActRefIdeal.Read

variable (m : (ℓ : Loc nD τ sig) → Buf (Elt Ideal) ℓ)

/-! ## The arrays the call is given -/

theorem V_v0 (c : Dev nD) : V m c main_v0 = m ((c : Thread nD τ).loc main_arg2) := by
  unfold V
  after_reads_simp
  rfl

/-! ## Where a point's blocks sit -/

theorem index0 : ∀ t : Fin cfg0.N, win0_0.index t 0 = (t.val / 2) ∧ win0_0.index t 1 = 0 := by decide +kernel

theorem read0 (t : Fin cfg0.N) (A : S8192x1024.Idx → EReal) (y : S512x1024.Idx) (i : S8192x1024.Idx)
    (h0 : (i 0).val = (t.val / 2) * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 2) ∧ win0_1.index t 1 = 0 := by decide +kernel

theorem read1 (t : Fin cfg0.N) (A : S2816x1024.Idx → EReal) (y : S1408x1024.Idx) (i : S2816x1024.Idx)
    (h0 : (i 0).val = (t.val % 2) * 1408 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 2) ∧ win0_2.index t 1 = (t.val % 2) := by decide +kernel

theorem read2 (t : Fin cfg0.N) (A : S8192x2816.Idx → EReal) (y : S512x1408.Idx) (i : S8192x2816.Idx)
    (h0 : (i 0).val = (t.val / 2) * 512 + (y 0).val) (h1 : (i 1).val = (t.val % 2) * 1408 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = (t.val / 2) ∧ win0_3.index t 1 = (t.val % 2) := by decide +kernel

theorem read3 (t : Fin cfg0.N) (A : S8192x2816.Idx → EReal) (y : S512x1408.Idx) (i : S8192x2816.Idx)
    (h0 : (i 0).val = (t.val / 2) * 512 + (y 0).val) (h1 : (i 1).val = (t.val % 2) * 1408 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = (t.val / 2) ∧ win0_4.index t 1 = (t.val % 2) := by decide +kernel

theorem read4 (t : Fin cfg0.N) (A : S8192x2816.Idx → EReal) (y : S512x1408.Idx) (i : S8192x2816.Idx)
    (h0 : (i 0).val = (t.val / 2) * 512 + (y 0).val) (h1 : (i 1).val = (t.val % 2) * 1408 + (y 1).val) :
    ((cfg0.win 4).blk t).view.read (Elt Ideal) A y = A i :=
  congrArg A (idx2 _ _ (emb_at win0_4 t y 0 (index4 t).1 h0) (emb_at win0_4 t y 1 (index4 t).2 h1))

theorem index5 : ∀ t : Fin cfg0.N, win0_5.index t 0 = (t.val / 2) ∧ win0_5.index t 1 = (t.val % 2) := by decide +kernel

theorem read5 (t : Fin cfg0.N) (A : S8192x2816.Idx → EReal) (y : S512x1408.Idx) (i : S8192x2816.Idx)
    (h0 : (i 0).val = (t.val / 2) * 512 + (y 0).val) (h1 : (i 1).val = (t.val % 2) * 1408 + (y 1).val) :
    ((cfg0.win 5).blk t).view.read (Elt Ideal) A y = A i :=
  congrArg A (idx2 _ _ (emb_at win0_5 t y 0 (index5 t).1 h0) (emb_at win0_5 t y 1 (index5 t).2 h1))

/-! ## One point -/

theorem back (D : S512x1024.Idx → EReal) (W : S1408x1024.Idx → EReal) (r : Fin 512) (l : Fin 1408) :
    k0_pay1 (F := Ideal) D W (ix2 r l) = ∑ k : Fin 1024, D (ix2 r k) * W (ix2 l k) := by
  unfold k0_pay1
  pointwise

theorem logi (G : S512x1408.Idx → EReal) (r : Fin 512) (l : Fin 1408) :
    k0_pay2 (F := Ideal) G (ix2 r l) = Ideal.div 1 (1 + Ideal.exp (0 - G (ix2 r l))) := by
  unfold k0_pay2
  show Ideal.div (Ideal.ofBits .f32 0x3F800000#32) (Ideal.ofBits .f32 0x3F800000#32 + Ideal.exp (Ideal.ofBits .f32 0x00000000#32 - G (ix2 r l))) = _
  rw [one_bits, zero_bits]

theorem point4 (D : S512x1024.Idx → EReal) (W : S1408x1024.Idx → EReal) (G U : S512x1408.Idx → EReal) (r : Fin 512) (l : Fin 1408) :
    out0_4 (F := Ideal) D W G U (ix2 r l) = gateBack (∑ k : Fin 1024, D (ix2 r k) * W (ix2 l k)) (G (ix2 r l)) (U (ix2 r l)) := by
  unfold out0_4
  refine (congrFun (View.canon_unit_zero off_zero _ _) _).trans ?_
  repeat rw [View.ld_unit_zero off_zero]
  rw [← back D W r l]
  unfold gateBack
  rw [← logi G r l]
  unfold k0_pay3
  generalize k0_pay1 (F := Ideal) D W = d
  generalize k0_pay2 (F := Ideal) G = s
  rw [← one_bits]
  rfl

theorem point5 (D : S512x1024.Idx → EReal) (W : S1408x1024.Idx → EReal) (G U : S512x1408.Idx → EReal) (r : Fin 512) (l : Fin 1408) :
    out0_5 (F := Ideal) D W G U (ix2 r l) = upBack (∑ k : Fin 1024, D (ix2 r k) * W (ix2 l k)) (G (ix2 r l)) := by
  unfold out0_5
  refine (congrFun (View.canon_unit_zero off_zero _ _) _).trans ?_
  repeat rw [View.ld_unit_zero off_zero]
  rw [← back D W r l]
  unfold upBack
  rw [← logi G r l]
  unfold k0_pay4
  rfl

/-! ## The reference's results at an index -/

theorem refBack (w : S2816x1024.Idx → EReal) (d : S8192x1024.Idx → EReal) (i : Fin 8192) (j : Fin 2816) :
    val_main_v3 (F := Ideal) w d (ix2 i j) = ∑ k : Fin 1024, d (ix2 i k) * w (ix2 j k) := by
  rw [val_main_v3_apply]
  refine Finset.sum_congr rfl fun k _ => ?_
  exact congrArg₂ (· * ·) (congrArg d (idx2 _ _ rfl rfl)) (congrArg w (idx2 _ _ rfl rfl))

theorem refLogi (g : S8192x2816.Idx → EReal) (i : S8192x2816.Idx) :
    val_main_v0_2 (F := Ideal) g i = Ideal.div 1 (1 + Ideal.exp (-(g i))) := by
  rw [val_main_v0_2_apply, val_main_call0_v4_apply, val_main_call0_cst_0_apply,
    val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (-(g i))) = _
  rw [one_bits]

/-- Every entry is a real number. -/
def AllReal {s : Shape} (x : s.Idx → EReal) : Prop := ∀ i, (((x i).toReal : ℝ) : EReal) = x i

theorem ref4 (g u : S8192x2816.Idx → EReal) (w : S2816x1024.Idx → EReal) (d : S8192x1024.Idx → EReal)
    (hu : AllReal u) (hw : AllReal w) (hd : AllReal d) (i : Fin 8192) (j : Fin 2816) :
    val_main_v7 (F := Ideal) g u w d (ix2 i j)
      = gateBack (∑ k : Fin 1024, d (ix2 i k) * w (ix2 j k)) (g (ix2 i j)) (u (ix2 i j)) := by
  obtain ⟨r, hr⟩ := sum_real (fun k => d (ix2 i k)) (fun k => w (ix2 j k)) (fun k => hd _) (fun k => hw _)
  refine Eq.trans ?_ (congrArg (fun a => gateBack a (g (ix2 i j)) (u (ix2 i j))) hr.symm)
  refine Eq.trans ?_ (congrArg (gateBack (r : EReal) (g (ix2 i j))) (hu (ix2 i j)))
  refine Eq.trans ?_ (gateBack_eq r (u (ix2 i j)).toReal (g (ix2 i j)))
  rw [hu (ix2 i j), ← hr, ← refBack w d i j, ← refLogi g (ix2 i j)]
  rw [val_main_v7_apply, val_main_v6_apply, val_main_call1_v2_apply,
    val_main_call1_v1_apply, val_main_call1_v0_apply, val_main_v5_apply,
    val_main_v0_1_apply, val_main_call0_v7_apply, val_main_call0_v6_apply,
    val_main_call0_cst_1_apply]
  generalize val_main_v3 (F := Ideal) w d (ix2 i j) = a
  generalize val_main_v0_2 (F := Ideal) g (ix2 i j) = s
  rw [← one_bits]
  rfl

theorem ref5 (g : S8192x2816.Idx → EReal) (w : S2816x1024.Idx → EReal) (d : S8192x1024.Idx → EReal) (i : Fin 8192) (j : Fin 2816) :
    val_main_v8 (F := Ideal) g w d (ix2 i j)
      = upBack (∑ k : Fin 1024, d (ix2 i k) * w (ix2 j k)) (g (ix2 i j)) := by
  rw [← upBack_eq, ← refBack w d i j, ← refLogi g (ix2 i j)]
  rw [val_main_v8_apply, val_main_v4_apply, val_main_v0_0_apply]
  rfl

/-! ## The precondition -/

theorem facts : Cert.Pre_finite_act.Facts where
  bcast_S_S8192x2816 := by decide
  reducesTo_S8192x2816_S_d0_1 := by decide
  h_S_ := by decide
  bcast_S_S2816x1024 := by decide
  reducesTo_S2816x1024_S_d0_1 := by decide
  bcast_S_S8192x1024 := by decide
  reducesTo_S8192x1024_S_d0_1 := by decide

theorem real_args [Cert.Pre_finite_act.Facts] (g u : S8192x2816.Idx → EReal) (w : S2816x1024.Idx → EReal) (d : S8192x1024.Idx → EReal)
    (h : Cert.Pre_finite_act.fn (F := Ideal) g u w d = fun _ => 1#1) : AllReal u ∧ AllReal w ∧ AllReal d := by
  have h := congrFun h ix0
  unfold Cert.Pre_finite_act.fn at h
  obtain ⟨h, hd⟩ := Cert.Swa.and_one _ _ h
  obtain ⟨hu, hw⟩ := Cert.Swa.and_one _ _ h
  exact ⟨Cert.Swa.all_real u _ _ _ _ hu, Cert.Swa.all_real w _ _ _ _ hw, Cert.Swa.all_real d _ _ _ _ hd⟩

/-! ## The arrays the call leaves -/

theorem final4 (c : Dev nD) (hu : AllReal (s := S8192x2816) (m ((c : Thread nD τ).loc main_arg1))) (hw : AllReal (s := S2816x1024) (m ((c : Thread nD τ).loc main_arg2)))
    (hd : AllReal (s := S8192x1024) (m ((c : Thread nD τ).loc main_arg3))) : (dats m 0 c).arrAt 4 cfg0.N
    = val_main_v7 (F := Ideal) (m ((c : Thread nD τ).loc main_arg0)) (m ((c : Thread nD τ).loc main_arg1)) (m ((c : Thread nD τ).loc main_arg2)) (m ((c : Thread nD τ).loc main_arg3)) := by
  have hN : cfg0.N = 32 := by decide +kernel
  refine (dats m 0 c).arrAt_eq_of_cover 4 _ (fun t _ => ?_) (fun i => ?_)
  · rw [Value.flushed4]
    refine funext fun (y : S512x1408.Idx) => ?_
    have hy0 : (y 0).val < 512 := (y 0).isLt
    have hy1 : (y 1).val < 1408 := (y 1).isLt
    have ht : t.val < 32 := hN ▸ t.isLt
    refine Eq.trans ?_ (read4 t _ y (ix2 ⟨(t.val / 2) * 512 + (y 0).val, by omega⟩ ⟨(t.val % 2) * 1408 + (y 1).val, by omega⟩) rfl rfl).symm
    rw [ref4 _ _ _ _ hu hw hd]
    refine Eq.trans (congrArg (out0_4 (F := Ideal) (iblk m c 0 t) (iblk m c 1 t) (iblk m c 2 t) (iblk m c 3 t)) (eq_ix2 y)) ?_
    refine (point4 _ _ _ _ (y 0) (y 1)).trans ?_
    refine congr (congrArg₂ gateBack ?_ ?_) ?_
    · refine Finset.sum_congr rfl fun k _ => congrArg₂ (· * ·) ?_ ?_
      · refine (read0 t _ (ix2 (y 0) k) (ix2 ⟨(t.val / 2) * 512 + (y 0).val, by omega⟩ k) rfl (by simp)).trans ?_
        exact congrFun (V_main_arg3 m c) _
      · refine (read1 t _ (ix2 (y 1) k) (ix2 ⟨(t.val % 2) * 1408 + (y 1).val, by omega⟩ k) rfl (by simp)).trans ?_
        exact congrFun (V_v0 m c) _
    · exact (read2 t _ (ix2 (y 0) (y 1)) (ix2 ⟨(t.val / 2) * 512 + (y 0).val, by omega⟩ ⟨(t.val % 2) * 1408 + (y 1).val, by omega⟩) rfl rfl).trans (congrFun (V_main_arg0 m c) _)
    · exact (read3 t _ (ix2 (y 0) (y 1)) (ix2 ⟨(t.val / 2) * 512 + (y 0).val, by omega⟩ ⟨(t.val % 2) * 1408 + (y 1).val, by omega⟩) rfl rfl).trans (congrFun (V_main_arg1 m c) _)
  · have h0 : (i 0 : Nat) < 8192 := (i 0).isLt
    have h1 : (i 1 : Nat) < 2816 := (i 1).isLt
    have ht : 2 * ((i 0 : Nat) / 512) + (i 1 : Nat) / 1408 < cfg0.N := by omega
    refine ⟨⟨2 * ((i 0 : Nat) / 512) + (i 1 : Nat) / 1408, ht⟩, flush0_4 _, ?_⟩
    show (show S8192x2816.Idx from i) ∈ ((View.whole main_v1_0).slice (win0_4.rect ⟨2 * ((i 0 : Nat) / 512) + (i 1 : Nat) / 1408, ht⟩)).set
    rw [View.set_slice_whole, Rect.mem_set_unit]
    exact fun a => match a with
      | ⟨0, _⟩ => within (index4 _).1 (by show ((2 * ((i 0 : Nat) / 512) + (i 1 : Nat) / 1408) / 2) * 512 ≤ (i 0 : Nat) ∧ (i 0 : Nat) < ((2 * ((i 0 : Nat) / 512) + (i 1 : Nat) / 1408) / 2) * 512 + 512; omega)
      | ⟨1, _⟩ => within (index4 _).2 (by show ((2 * ((i 0 : Nat) / 512) + (i 1 : Nat) / 1408) % 2) * 1408 ≤ (i 1 : Nat) ∧ (i 1 : Nat) < ((2 * ((i 0 : Nat) / 512) + (i 1 : Nat) / 1408) % 2) * 1408 + 1408; omega)

theorem final5 (c : Dev nD) : (dats m 0 c).arrAt 5 cfg0.N
    = val_main_v8 (F := Ideal) (m ((c : Thread nD τ).loc main_arg0)) (m ((c : Thread nD τ).loc main_arg2)) (m ((c : Thread nD τ).loc main_arg3)) := by
  have hN : cfg0.N = 32 := by decide +kernel
  refine (dats m 0 c).arrAt_eq_of_cover 5 _ (fun t _ => ?_) (fun i => ?_)
  · rw [Value.flushed5]
    refine funext fun (y : S512x1408.Idx) => ?_
    have hy0 : (y 0).val < 512 := (y 0).isLt
    have hy1 : (y 1).val < 1408 := (y 1).isLt
    have ht : t.val < 32 := hN ▸ t.isLt
    refine Eq.trans ?_ (read5 t _ y (ix2 ⟨(t.val / 2) * 512 + (y 0).val, by omega⟩ ⟨(t.val % 2) * 1408 + (y 1).val, by omega⟩) rfl rfl).symm
    rw [ref5]
    refine Eq.trans (congrArg (out0_5 (F := Ideal) (iblk m c 0 t) (iblk m c 1 t) (iblk m c 2 t) (iblk m c 3 t)) (eq_ix2 y)) ?_
    refine (point5 _ _ _ _ (y 0) (y 1)).trans ?_
    refine congrArg₂ upBack ?_ ?_
    · refine Finset.sum_congr rfl fun k _ => congrArg₂ (· * ·) ?_ ?_
      · refine (read0 t _ (ix2 (y 0) k) (ix2 ⟨(t.val / 2) * 512 + (y 0).val, by omega⟩ k) rfl (by simp)).trans ?_
        exact congrFun (V_main_arg3 m c) _
      · refine (read1 t _ (ix2 (y 1) k) (ix2 ⟨(t.val % 2) * 1408 + (y 1).val, by omega⟩ k) rfl (by simp)).trans ?_
        exact congrFun (V_v0 m c) _
    · exact (read2 t _ (ix2 (y 0) (y 1)) (ix2 ⟨(t.val / 2) * 512 + (y 0).val, by omega⟩ ⟨(t.val % 2) * 1408 + (y 1).val, by omega⟩) rfl rfl).trans (congrFun (V_main_arg0 m c) _)
  · have h0 : (i 0 : Nat) < 8192 := (i 0).isLt
    have h1 : (i 1 : Nat) < 2816 := (i 1).isLt
    have ht : 2 * ((i 0 : Nat) / 512) + (i 1 : Nat) / 1408 < cfg0.N := by omega
    refine ⟨⟨2 * ((i 0 : Nat) / 512) + (i 1 : Nat) / 1408, ht⟩, flush0_5 _, ?_⟩
    show (show S8192x2816.Idx from i) ∈ ((View.whole main_v1_1).slice (win0_5.rect ⟨2 * ((i 0 : Nat) / 512) + (i 1 : Nat) / 1408, ht⟩)).set
    rw [View.set_slice_whole, Rect.mem_set_unit]
    exact fun a => match a with
      | ⟨0, _⟩ => within (index5 _).1 (by show ((2 * ((i 0 : Nat) / 512) + (i 1 : Nat) / 1408) / 2) * 512 ≤ (i 0 : Nat) ∧ (i 0 : Nat) < ((2 * ((i 0 : Nat) / 512) + (i 1 : Nat) / 1408) / 2) * 512 + 512; omega)
      | ⟨1, _⟩ => within (index5 _).2 (by show ((2 * ((i 0 : Nat) / 512) + (i 1 : Nat) / 1408) % 2) * 1408 ≤ (i 1 : Nat) ∧ (i 1 : Nat) < ((2 * ((i 0 : Nat) / 512) + (i 1 : Nat) / 1408) % 2) * 1408 + 1408; omega)

/-! ## The claims -/

/-- The reference runs, keeps its arguments, and has no semaphore. -/
theorem ref_frame : Cert.quiescent_ActRefIdeal (hActRefIdeal := Cert.ActRefIdeal.Gen.facts) := fun m g _ =>
  (θ_run Cert.ActRefIdeal.defs _ _).mono (fun r h => ⟨fun c => (h c).2.2, sem_eq_zero_of_no_sems (by decide) r.2⟩)
    (Cert.ActRefIdeal.Value.run m g)

/-- The call's results are the reference's. -/
theorem value : Cert.algebraic_ActIdeal_ActRefIdeal_pre_finite_act (hActIdeal := Cert.ActIdeal.Gen.facts) (hActRefIdeal := Cert.ActRefIdeal.Gen.facts) (hPre_finite_act := facts) := by
  intro m g m' g' pre agree
  refine ⟨fun c => val_main_v7 (F := Ideal) (m ((c : Thread nD τ).loc main_arg0)) (m ((c : Thread nD τ).loc main_arg1)) (m ((c : Thread nD τ).loc main_arg2)) (m ((c : Thread nD τ).loc main_arg3)), fun c => val_main_v8 (F := Ideal) (m ((c : Thread nD τ).loc main_arg0)) (m ((c : Thread nD τ).loc main_arg2)) (m ((c : Thread nD τ).loc main_arg3)), ?_, ?_⟩
  · refine (θ_run Cert.ActIdeal.defs _ _).mono (fun r h c => ?_) (Value.run_blocks m g)
    have _ := facts
    obtain ⟨hu, hw, hd⟩ := real_args _ _ _ _ (pre c)
    exact ⟨(h c).1.trans (final4 m c hu hw hd), (h c).2.1.trans (final5 m c), (h c).2.2⟩
  · refine (θ_run Cert.ActRefIdeal.defs _ _).mono (fun r h c => ?_) (Cert.ActRefIdeal.Value.run m' g')
    obtain ⟨e0, e1, e2, e3⟩ := agree c
    refine ⟨(h c).1.trans ?_, (h c).2.1.trans ?_, (h c).2.2⟩
    · rw [e0, e1, e2, e3]
      exact val_main_v7_eq _ _ _ _
    · rw [e0, e2, e3]
      exact val_main_v8_eq _ _ _

end Cert.Ffn.Act

end
-- ==== Proof.FfnDownW.lean ====
/- The down weight's gradient: the transposed activation times the output's cotangent. -/
module

public import proofs.«01_k».proof.Defs
public import proofs.«01_k».proof.Proof.FfnLib
public import proofs.«01_k».proof.Proof.Gen.DownW.Frame
public import proofs.«01_k».proof.Proof.Gen.DownWIdeal.Value
public import proofs.«01_k».proof.Proof.Gen.DownWRefIdeal.Run
public import proofs.«01_k».proof.Proof.Gen.DownWRefIdeal.Read
public import Idealize.ShloMosaic.Lib.StableHlo.RunRead

@[expose] public section

set_option maxRecDepth 16384

noncomputable section

namespace Cert.Ffn.DownW

open Idealize.ShloMosaic Idealize.ShloMosaic.TcCoe Idealize.SL.Sem
open Cert.DownWIdeal Cert.DownWIdeal.Gen Cert.DownWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 8) ∧ win0_0.index t 1 = (t.val / 8) := by decide +kernel

theorem read0 (t : Fin cfg0.N) (A : S8192x2816.Idx → EReal) (y : S1024x1408.Idx) (i : S8192x2816.Idx)
    (h0 : (i 0).val = (t.val % 8) * 1024 + (y 0).val) (h1 : (i 1).val = (t.val / 8) * 1408 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 8) ∧ win0_1.index t 1 = 0 := by decide +kernel

theorem read1 (t : Fin cfg0.N) (A : S8192x1024.Idx → EReal) (y : S1024x1024.Idx) (i : S8192x1024.Idx)
    (h0 : (i 0).val = (t.val % 8) * 1024 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 8) ∧ win0_2.index t 1 = 0 := by decide +kernel

theorem read2 (t : Fin cfg0.N) (A : S2816x1024.Idx → EReal) (y : S1408x1024.Idx) (i : S2816x1024.Idx)
    (h0 : (i 0).val = (t.val / 8) * 1408 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S1024x1408.Idx → EReal) (x : S1024x1024.Idx → EReal) (r : Fin 1408) (l : Fin 1024) :
    k0_pay1 (F := Ideal) a x (ix2 r l) = ∑ k : Fin 1024, a (ix2 k r) * x (ix2 k l) := by
  unfold k0_pay1
  pointwise

theorem keep (a : S1024x1408.Idx → EReal) (x : S1024x1024.Idx → EReal) (r : Fin 1408) (l : Fin 1024) :
    k0_pay2 (F := Ideal) a x (ix2 r l) = ∑ k : Fin 1024, a (ix2 k r) * x (ix2 k l) := by
  rw [← blockProd a x r l]
  unfold k0_pay2
  generalize k0_pay1 (F := Ideal) a x = p
  pointwise

theorem add (a : S1024x1408.Idx → EReal) (x : S1024x1024.Idx → EReal) (q : S1408x1024.Idx → EReal) (r : Fin 1408) (l : Fin 1024) :
    k0_pay3 (F := Ideal) a x q (ix2 r l) = q (ix2 r l) + ∑ k : Fin 1024, a (ix2 k r) * x (ix2 k l) := by
  rw [← blockProd a x r l]
  unfold k0_pay3
  generalize k0_pay1 (F := Ideal) a x = p
  pointwise

theorem emit (a : S1024x1408.Idx → EReal) (x : S1024x1024.Idx → EReal) (q : S1408x1024.Idx → EReal) (r : Fin 1408) (l : Fin 1024) :
    k0_pay4 (F := Ideal) a x q (ix2 r l) = q (ix2 r l) + ∑ k : Fin 1024, a (ix2 k r) * x (ix2 k l) := by
  rw [← blockProd a x r l]
  unfold k0_pay4
  generalize k0_pay1 (F := Ideal) a x = p
  pointwise

theorem first (c : Dev nD) (t : Fin cfg0.N) (h0 : t.val % 8 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 8 ∧ t.val % 8 ≤ 6) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 8 = 7) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 16 := by decide +kernel

/-- The terms of the entry that place `(r, l)` of run `q` of points adds up. -/
abbrev tm (c : Dev nD) (q : Fin 2) (r : Fin 1408) (l : Fin 1024) : ℕ → EReal :=
  term (n := 8192) (a := 2816) (b := 1024) (m ((c : Thread nD τ).loc main_arg0)) (m ((c : Thread nD τ).loc main_arg2)) ⟨1408 * q.val + r.val, by omega⟩ l

/-- The two blocks a point is given. -/
abbrev ab (c : Dev nD) (t : Fin cfg0.N) : S1024x1408.Idx → EReal := iblk m c 0 t

abbrev xb (c : Dev nD) (t : Fin cfg0.N) : S1024x1024.Idx → EReal := iblk m c 1 t

theorem terms (c : Dev nD) (t : Fin cfg0.N) (q : Fin 2) (hq : t.val / 8 = q.val) (r : Fin 1408) (l : Fin 1024) (k : Fin 1024) :
    ab m c t (ix2 k r) * xb m c t (ix2 k l) = tm m c q r l (1024 * (t.val % 8) + k.val) := by
  have ht : t.val < 16 := card ▸ t.isLt
  refine Eq.trans ?_ (term_lt _ _ _ _ _ (by omega)).symm
  refine congrArg₂ (· * ·) ?_ ?_
  · refine (read0 t _ (ix2 k r) (ix2 ⟨1024 * (t.val % 8) + k.val, by omega⟩ ⟨1408 * q.val + r.val, by omega⟩) ?_ ?_).trans ?_
    · exact congrArg (· + k.val) (Nat.mul_comm _ _)
    · show 1408 * q.val + r.val = t.val / 8 * 1408 + r.val
      omega
    · exact congrFun (V_v0 m c) _
  · refine (read1 t _ (ix2 k l) (ix2 ⟨1024 * (t.val % 8) + k.val, by omega⟩ l) ?_ ?_).trans ?_
    · exact congrArg (· + k.val) (Nat.mul_comm _ _)
    · show l.val = 0 * 1024 + l.val
      omega
    · exact congrFun (V_main_arg2 m c) _

theorem whole (c : Dev nD) (t : Fin cfg0.N) (h2 : t.val % 8 = 7) (q : Fin 2) (hq : t.val / 8 = q.val) (r : Fin 1408) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (a : S8192x2816.Idx → EReal) (x : S8192x1024.Idx → EReal) (i : Fin 2816) (j : Fin 1024) :
    val_main_v3 (F := Ideal) a x (ix2 i j) = ∑ k : Fin 8192, a (ix2 k i) * x (ix2 k j) := by
  rw [val_main_v3_apply, val_main_v2_apply, val_main_v1_apply]
  show ∑ k : Fin 8192, _ = _
  refine Finset.sum_congr rfl fun k _ => (mul_comm _ _).trans ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v3 (F := Ideal) (m ((c : Thread nD τ).loc main_arg0)) (m ((c : Thread nD τ).loc main_arg2)) := by
  have hN : cfg0.N = 16 := card
  refine (dats m 0 c).arrAt_eq_of_cover 2 _ (fun t hf => ?_) (fun i => ?_)
  · have h2 : t.val % 8 = 7 := (flush0_2 t).mp hf
    rw [Value.flushed2]
    refine funext fun (y : S1408x1024.Idx) => ?_
    have hy0 : (y 0).val < 1408 := (y 0).isLt
    have hy1 : (y 1).val < 1024 := (y 1).isLt
    have ht : t.val < 16 := hN ▸ t.isLt
    refine Eq.trans ?_ (read2 t _ y (ix2 ⟨1408 * (t.val / 8) + (y 0).val, by omega⟩ ⟨(y 1).val, hy1⟩) (by show 1408 * (t.val / 8) + (y 0).val = _; omega) (by show (y 1).val = _; omega)).symm
    rw [ref_apply]
    refine Eq.trans (congrArg ((outsAt0 m c t.val t.isLt).1) (eq_ix2 y)) ?_
    refine (whole m c t h2 ⟨t.val / 8, by omega⟩ rfl (y 0) (y 1)).trans ?_
    exact term_sum _ _ _ _
  · have h0 : (i 0 : Nat) < 2816 := (i 0).isLt
    have h1 : (i 1 : Nat) < 1024 := (i 1).isLt
    have ht : 8 * ((i 0 : Nat) / 1408) + 7 < cfg0.N := by omega
    refine ⟨⟨8 * ((i 0 : Nat) / 1408) + 7, ht⟩, (flush0_2 _).mpr (by show (8 * ((i 0 : Nat) / 1408) + 7) % 8 = 7; omega), ?_⟩
    show (show S2816x1024.Idx from i) ∈ ((View.whole main_v1).slice (win0_2.rect ⟨8 * ((i 0 : Nat) / 1408) + 7, ht⟩)).set
    rw [View.set_slice_whole, Rect.mem_set_unit]
    exact fun a => match a with
      | ⟨0, _⟩ => within (index2 _).1 (by show ((8 * ((i 0 : Nat) / 1408) + 7) / 8) * 1408 ≤ (i 0 : Nat) ∧ (i 0 : Nat) < ((8 * ((i 0 : Nat) / 1408) + 7) / 8) * 1408 + 1408; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_DownWRefIdeal (hDownWRefIdeal := Cert.DownWRefIdeal.Gen.facts) := fun m g _ =>
  (θ_run Cert.DownWRefIdeal.defs _ _).mono (fun r h => ⟨fun c => (h c).2, sem_eq_zero_of_no_sems (by decide) r.2⟩)
    (Cert.DownWRefIdeal.Value.run m g)

/-- The call's results are the reference's. -/
theorem value : Cert.algebraic_DownWIdeal_DownWRefIdeal (hDownWIdeal := Cert.DownWIdeal.Gen.facts) (hDownWRefIdeal := Cert.DownWRefIdeal.Gen.facts) := by
  intro m g m' g' _ agree
  refine ⟨fun c => val_main_v3 (F := Ideal) (m ((c : Thread nD τ).loc main_arg0)) (m ((c : Thread nD τ).loc main_arg2)), ?_, ?_⟩
  · refine (θ_run Cert.DownWIdeal.defs _ _).mono (fun r h c => ?_) (Value.run_blocks m g)
    exact ⟨(h c).1.trans (final2 m c), (h c).2⟩
  · refine (θ_run Cert.DownWRefIdeal.defs _ _).mono (fun r h c => ?_) (Cert.DownWRefIdeal.Value.run m' g')
    obtain ⟨e0, e1, e2⟩ := agree c
    refine ⟨(h c).1.trans ?_, (h c).2⟩
    · rw [e0, e2]
      exact val_main_v3_eq _ _

end Cert.Ffn.DownW

end
-- ==== Proof.FfnGateW.lean ====
/- A gate or up weight's gradient, transposed: the transposed branch cotangent times the input. -/
module

public import proofs.«01_k».proof.Defs
public import proofs.«01_k».proof.Proof.FfnLib
public import proofs.«01_k».proof.Proof.Gen.GateW.Frame
public import proofs.«01_k».proof.Proof.Gen.GateWIdeal.Value
public import proofs.«01_k».proof.Proof.Gen.GateWRefIdeal.Run
public import proofs.«01_k».proof.Proof.Gen.GateWRefIdeal.Read
public import Idealize.ShloMosaic.Lib.StableHlo.RunRead

@[expose] public section

set_option maxRecDepth 16384

noncomputable section

namespace Cert.Ffn.GateW

open Idealize.ShloMosaic Idealize.ShloMosaic.TcCoe Idealize.SL.Sem
open Cert.GateWIdeal Cert.GateWIdeal.Gen Cert.GateWRefIdeal.Read

variable (m : (ℓ : Loc nD τ sig) → Buf (Elt Ideal) ℓ)

/-! ## The arrays the call is given -/

theorem V_v1 (c : Dev nD) : V m c main_v1 = m ((c : Thread nD τ).loc main_arg2) := by
  unfold V
  after_reads_simp
  rfl

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x2816.Idx → EReal) (y : S2048x1408.Idx) (i : S8192x2816.Idx)
    (h0 : (i 0).val = (t.val % 4) * 2048 + (y 0).val) (h1 : (i 1).val = (t.val / 4) * 1408 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x1024.Idx → EReal) (y : S2048x1024.Idx) (i : S8192x1024.Idx)
    (h0 : (i 0).val = (t.val % 4) * 2048 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S2816x1024.Idx → EReal) (y : S1408x1024.Idx) (i : S2816x1024.Idx)
    (h0 : (i 0).val = (t.val / 4) * 1408 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x1408.Idx → EReal) (x : S2048x1024.Idx → EReal) (r : Fin 1408) (l : Fin 1024) :
    k0_pay1 (F := Ideal) a x (ix2 r l) = ∑ k : Fin 2048, a (ix2 k r) * x (ix2 k l) := by
  unfold k0_pay1
  pointwise

theorem keep (a : S2048x1408.Idx → EReal) (x : S2048x1024.Idx → EReal) (r : Fin 1408) (l : Fin 1024) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x1408.Idx → EReal) (x : S2048x1024.Idx → EReal) (q : S1408x1024.Idx → EReal) (r : Fin 1408) (l : Fin 1024) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x1408.Idx → EReal) (x : S2048x1024.Idx → EReal) (q : S1408x1024.Idx → EReal) (r : Fin 1408) (l : Fin 1024) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 8 := by decide +kernel

/-- The terms of the entry that place `(r, l)` of run `q` of points adds up. -/
abbrev tm (c : Dev nD) (q : Fin 2) (r : Fin 1408) (l : Fin 1024) : ℕ → EReal :=
  term (n := 8192) (a := 2816) (b := 1024) (m ((c : Thread nD τ).loc main_arg2)) (m ((c : Thread nD τ).loc main_arg0)) ⟨1408 * q.val + r.val, by omega⟩ l

/-- The two blocks a point is given. -/
abbrev ab (c : Dev nD) (t : Fin cfg0.N) : S2048x1408.Idx → EReal := iblk m c 0 t

abbrev xb (c : Dev nD) (t : Fin cfg0.N) : S2048x1024.Idx → EReal := iblk m c 1 t

theorem terms (c : Dev nD) (t : Fin cfg0.N) (q : Fin 2) (hq : t.val / 4 = q.val) (r : Fin 1408) (l : Fin 1024) (k : Fin 2048) :
    ab m c t (ix2 k r) * xb m c t (ix2 k l) = tm m c q r l (2048 * (t.val % 4) + k.val) := by
  have ht : t.val < 8 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨1408 * q.val + r.val, by omega⟩) ?_ ?_).trans ?_
    · exact congrArg (· + k.val) (Nat.mul_comm _ _)
    · show 1408 * q.val + r.val = t.val / 4 * 1408 + r.val
      omega
    · exact congrFun (V_v1 m c) _
  · refine (read1 t _ (ix2 k l) (ix2 ⟨2048 * (t.val % 4) + k.val, by omega⟩ l) ?_ ?_).trans ?_
    · exact congrArg (· + k.val) (Nat.mul_comm _ _)
    · show l.val = 0 * 1024 + l.val
      omega
    · exact congrFun (V_v0 m c) _

theorem whole (c : Dev nD) (t : Fin cfg0.N) (h2 : t.val % 4 = 3) (q : Fin 2) (hq : t.val / 4 = q.val) (r : Fin 1408) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x1024.Idx → EReal) (a : S8192x2816.Idx → EReal) (i : Fin 2816) (j : Fin 1024) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 8 := card
  refine (dats m 0 c).arrAt_eq_of_cover 2 _ (fun t hf => ?_) (fun i => ?_)
  · have h2 : t.val % 4 = 3 := (flush0_2 t).mp hf
    rw [Value.flushed2]
    refine funext fun (y : S1408x1024.Idx) => ?_
    have hy0 : (y 0).val < 1408 := (y 0).isLt
    have hy1 : (y 1).val < 1024 := (y 1).isLt
    have ht : t.val < 8 := hN ▸ t.isLt
    refine Eq.trans ?_ (read2 t _ y (ix2 ⟨1408 * (t.val / 4) + (y 0).val, by omega⟩ ⟨(y 1).val, hy1⟩) (by show 1408 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 2816 := (i 0).isLt
    have h1 : (i 1 : Nat) < 1024 := (i 1).isLt
    have ht : 4 * ((i 0 : Nat) / 1408) + 3 < cfg0.N := by omega
    refine ⟨⟨4 * ((i 0 : Nat) / 1408) + 3, ht⟩, (flush0_2 _).mpr (by show (4 * ((i 0 : Nat) / 1408) + 3) % 4 = 3; omega), ?_⟩
    show (show S2816x1024.Idx from i) ∈ ((View.whole main_v2).slice (win0_2.rect ⟨4 * ((i 0 : Nat) / 1408) + 3, ht⟩)).set
    rw [View.set_slice_whole, Rect.mem_set_unit]
    exact fun a => match a with
      | ⟨0, _⟩ => within (index2 _).1 (by show ((4 * ((i 0 : Nat) / 1408) + 3) / 4) * 1408 ≤ (i 0 : Nat) ∧ (i 0 : Nat) < ((4 * ((i 0 : Nat) / 1408) + 3) / 4) * 1408 + 1408; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_GateWRefIdeal (hGateWRefIdeal := Cert.GateWRefIdeal.Gen.facts) := fun m g _ =>
  (θ_run Cert.GateWRefIdeal.defs _ _).mono (fun r h => ⟨fun c => (h c).2, sem_eq_zero_of_no_sems (by decide) r.2⟩)
    (Cert.GateWRefIdeal.Value.run m g)

/-- The call's results are the reference's. -/
theorem value : Cert.algebraic_GateWIdeal_GateWRefIdeal (hGateWIdeal := Cert.GateWIdeal.Gen.facts) (hGateWRefIdeal := Cert.GateWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.GateWIdeal.defs _ _).mono (fun r h c => ?_) (Value.run_blocks m g)
    exact ⟨(h c).1.trans (final2 m c), (h c).2⟩
  · refine (θ_run Cert.GateWRefIdeal.defs _ _).mono (fun r h c => ?_) (Cert.GateWRefIdeal.Value.run m' g')
    obtain ⟨e0, e1, e2⟩ := agree c
    refine ⟨(h c).1.trans ?_, (h c).2⟩
    · rw [e0, e2]
      exact val_main_v4_eq _ _

end Cert.Ffn.GateW

end
-- ==== Proof.FfnGateX.lean ====
/- The gate branch's part of the input gradient: the gate cotangent times the transposed gate weight. -/
module

public import proofs.«01_k».proof.Defs
public import proofs.«01_k».proof.Proof.FfnLib
public import proofs.«01_k».proof.Proof.Gen.GateX.Frame
public import proofs.«01_k».proof.Proof.Gen.GateXIdeal.Value
public import proofs.«01_k».proof.Proof.Gen.GateXRefIdeal.Run
public import proofs.«01_k».proof.Proof.Gen.GateXRefIdeal.Read
public import Idealize.ShloMosaic.Lib.StableHlo.RunRead

@[expose] public section

set_option maxRecDepth 16384

noncomputable section

namespace Cert.Ffn.GateX

open Idealize.ShloMosaic Idealize.ShloMosaic.TcCoe Idealize.SL.Sem
open Cert.GateXIdeal Cert.GateXIdeal.Gen Cert.GateXRefIdeal.Read

variable (m : (ℓ : Loc nD τ sig) → Buf (Elt Ideal) ℓ)

/-! ## The arrays the call is given -/

theorem V_v0 (c : Dev nD) : V m c main_v0 = m ((c : Thread nD τ).loc main_arg2) := by
  unfold V
  after_reads_simp
  rfl

theorem V_v2 (c : Dev nD) : V m c main_v2
    = transpose S2816x1024 [1, 0] (m ((c : Thread nD τ).loc main_arg1) : S1024x2816.Idx → EReal) transposes_S1024x2816_S2816x1024_1_0 := by
  unfold V
  after_reads_simp
  rfl

theorem V_v2_apply (c : Dev nD) (i : Fin 2816) (j : Fin 1024) :
    V m c main_v2 (ix2 i j) = (m ((c : Thread nD τ).loc main_arg1) : S1024x2816.Idx → EReal) (ix2 j i) := by
  rw [V_v2]
  generalize (m ((c : Thread nD τ).loc main_arg1) : S1024x2816.Idx → EReal) = A
  pointwise

/-! ## Where a point's blocks sit -/

theorem index0 : ∀ t : Fin cfg0.N, win0_0.index t 0 = t.val ∧ win0_0.index t 1 = 0 := by decide +kernel

theorem read0 (t : Fin cfg0.N) (A : S8192x2816.Idx → EReal) (y : S512x2816.Idx) (i : S8192x2816.Idx)
    (h0 : (i 0).val = t.val * 512 + (y 0).val) (h1 : (i 1).val = 0 * 2816 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S2816x1024.Idx → EReal) (y : S2816x1024.Idx) (i : S2816x1024.Idx)
    (h0 : (i 0).val = 0 * 2816 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S512x2816.Idx → EReal) (W : S2816x1024.Idx → EReal) (r : Fin 512) (l : Fin 1024) :
    out0_2 (F := Ideal) X W (ix2 r l) = ∑ k : Fin 2816, X (ix2 r k) * W (ix2 k l) := by
  unfold out0_2
  refine (congrFun (View.canon_unit_zero off_zero _ _) _).trans ?_
  repeat rw [View.ld_unit_zero off_zero]
  unfold k0_pay1
  pointwise

/-! ## The reference's result at an index -/

theorem ref_apply (w : S1024x2816.Idx → EReal) (d : S8192x2816.Idx → EReal) (i : Fin 8192) (j : Fin 1024) :
    val_main_v1 (F := Ideal) w d (ix2 i j) = ∑ k : Fin 2816, d (ix2 i k) * w (ix2 j k) := by
  rw [val_main_v1_apply]
  refine Finset.sum_congr rfl fun k _ => ?_
  exact congrArg₂ (· * ·) (congrArg d (idx2 _ _ rfl rfl)) (congrArg w (idx2 _ _ rfl rfl))

/-! ## The array the call leaves -/

theorem final2 (c : Dev nD) : (dats m 0 c).arrAt 2 cfg0.N
    = val_main_v1 (F := Ideal) (m ((c : Thread nD τ).loc main_arg1)) (m ((c : Thread nD τ).loc main_arg2)) := by
  have hN : cfg0.N = 16 := by decide +kernel
  refine (dats m 0 c).arrAt_eq_of_cover 2 _ (fun t _ => ?_) (fun i => ?_)
  · rw [Value.flushed2]
    refine funext fun (y : S512x1024.Idx) => ?_
    have hy0 : (y 0).val < 512 := (y 0).isLt
    have hy1 : (y 1).val < 1024 := (y 1).isLt
    have ht : t.val < 16 := hN ▸ t.isLt
    refine Eq.trans ?_ (read2 t _ y (ix2 ⟨t.val * 512 + (y 0).val, by omega⟩ ⟨0 * 1024 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 512 + (y 0).val, by omega⟩ k) rfl (by simp)).trans ?_
      exact congrFun (V_v0 m c) _
    · refine (read1 t _ (ix2 k (y 1)) (ix2 k ⟨0 * 1024 + (y 1).val, by omega⟩) (by simp) rfl).trans ?_
      exact V_v2_apply m c _ _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_2 _, ?_⟩
    show (show S8192x1024.Idx from i) ∈ ((View.whole main_v3).slice (win0_2.rect ⟨(i 0 : Nat) / 512, ht⟩)).set
    rw [View.set_slice_whole, Rect.mem_set_unit]
    exact fun a => match a with
      | ⟨0, _⟩ => within (index2 _).1 (by show (i 0 : Nat) / 512 * 512 ≤ (i 0 : Nat) ∧ (i 0 : Nat) < (i 0 : Nat) / 512 * 512 + 512; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_GateXRefIdeal (hGateXRefIdeal := Cert.GateXRefIdeal.Gen.facts) := fun m g _ =>
  (θ_run Cert.GateXRefIdeal.defs _ _).mono (fun r h => ⟨fun c => (h c).2, sem_eq_zero_of_no_sems (by decide) r.2⟩)
    (Cert.GateXRefIdeal.Value.run m g)

/-- The call's results are the reference's. -/
theorem value : Cert.algebraic_GateXIdeal_GateXRefIdeal (hGateXIdeal := Cert.GateXIdeal.Gen.facts) (hGateXRefIdeal := Cert.GateXRefIdeal.Gen.facts) := by
  intro m g m' g' _ agree
  refine ⟨fun c => val_main_v1 (F := Ideal) (m ((c : Thread nD τ).loc main_arg1)) (m ((c : Thread nD τ).loc main_arg2)), ?_, ?_⟩
  · refine (θ_run Cert.GateXIdeal.defs _ _).mono (fun r h c => ?_) (Value.run_blocks m g)
    exact ⟨(h c).1.trans (final2 m c), (h c).2⟩
  · refine (θ_run Cert.GateXRefIdeal.defs _ _).mono (fun r h c => ?_) (Cert.GateXRefIdeal.Value.run m' g')
    obtain ⟨e0, e1, e2⟩ := agree c
    refine ⟨(h c).1.trans ?_, (h c).2⟩
    · rw [e1, e2]
      exact val_main_v1_eq _ _

end Cert.Ffn.GateX

end
-- ==== Proof.FfnUpX.lean ====
/- The up branch's part of the input gradient, added to the part already there. -/
module

public import proofs.«01_k».proof.Defs
public import proofs.«01_k».proof.Proof.FfnLib
public import proofs.«01_k».proof.Proof.Gen.UpX.Frame
public import proofs.«01_k».proof.Proof.Gen.UpXIdeal.Value
public import proofs.«01_k».proof.Proof.Gen.UpXRefIdeal.Run
public import proofs.«01_k».proof.Proof.Gen.UpXRefIdeal.Read
public import Idealize.ShloMosaic.Lib.StableHlo.RunRead

@[expose] public section

set_option maxRecDepth 16384

noncomputable section

namespace Cert.Ffn.UpX

open Idealize.ShloMosaic Idealize.ShloMosaic.TcCoe Idealize.SL.Sem
open Cert.UpXIdeal Cert.UpXIdeal.Gen Cert.UpXRefIdeal.Read

variable (m : (ℓ : Loc nD τ sig) → Buf (Elt Ideal) ℓ)

/-! ## The arrays the call is given -/

theorem V_v0 (c : Dev nD) : V m c main_v0 = m ((c : Thread nD τ).loc main_arg2) := by
  unfold V
  after_reads_simp
  rfl

theorem V_v2 (c : Dev nD) : V m c main_v2
    = transpose S2816x1024 [1, 0] (m ((c : Thread nD τ).loc main_arg1) : S1024x2816.Idx → EReal) transposes_S1024x2816_S2816x1024_1_0 := by
  unfold V
  after_reads_simp
  rfl

theorem V_v2_apply (c : Dev nD) (i : Fin 2816) (j : Fin 1024) :
    V m c main_v2 (ix2 i j) = (m ((c : Thread nD τ).loc main_arg1) : S1024x2816.Idx → EReal) (ix2 j i) := by
  rw [V_v2]
  generalize (m ((c : Thread nD τ).loc main_arg1) : S1024x2816.Idx → EReal) = A
  pointwise

/-! ## Where a point's blocks sit -/

theorem index0 : ∀ t : Fin cfg0.N, win0_0.index t 0 = t.val ∧ win0_0.index t 1 = 0 := by decide +kernel

theorem read0 (t : Fin cfg0.N) (A : S8192x2816.Idx → EReal) (y : S512x2816.Idx) (i : S8192x2816.Idx)
    (h0 : (i 0).val = t.val * 512 + (y 0).val) (h1 : (i 1).val = 0 * 2816 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S2816x1024.Idx → EReal) (y : S2816x1024.Idx) (i : S2816x1024.Idx)
    (h0 : (i 0).val = 0 * 2816 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

/-! ## One point -/

theorem point (X : S512x2816.Idx → EReal) (W : S2816x1024.Idx → EReal) (R : S512x1024.Idx → EReal) (r : Fin 512) (l : Fin 1024) :
    out0_3 (F := Ideal) X W R (ix2 r l) = (∑ k : Fin 2816, X (ix2 r k) * W (ix2 k l)) + R (ix2 r l) := by
  unfold out0_3
  refine (congrFun (View.canon_unit_zero off_zero _ _) _).trans ?_
  repeat rw [View.ld_unit_zero off_zero]
  unfold k0_pay1
  pointwise

/-! ## The reference's result at an index -/

theorem ref_apply (w : S1024x2816.Idx → EReal) (d : S8192x2816.Idx → EReal) (x : S8192x1024.Idx → EReal) (i : Fin 8192) (j : Fin 1024) :
    val_main_v2 (F := Ideal) w d x (ix2 i j) = (∑ k : Fin 2816, d (ix2 i k) * w (ix2 j k)) + x (ix2 i j) := by
  rw [val_main_v2_apply, val_main_v1_apply]
  refine congrArg (· + x (ix2 i j)) (Finset.sum_congr rfl fun k _ => ?_)
  exact congrArg₂ (· * ·) (congrArg d (idx2 _ _ rfl rfl)) (congrArg w (idx2 _ _ rfl rfl))

/-! ## The array the call leaves -/

theorem final3 (c : Dev nD) : (dats m 0 c).arrAt 3 cfg0.N
    = val_main_v2 (F := Ideal) (m ((c : Thread nD τ).loc main_arg1)) (m ((c : Thread nD τ).loc main_arg2)) (m ((c : Thread nD τ).loc main_arg3)) := by
  have hN : cfg0.N = 16 := by decide +kernel
  refine (dats m 0 c).arrAt_eq_of_cover 3 _ (fun t _ => ?_) (fun i => ?_)
  · rw [Value.flushed3]
    refine funext fun (y : S512x1024.Idx) => ?_
    have hy0 : (y 0).val < 512 := (y 0).isLt
    have hy1 : (y 1).val < 1024 := (y 1).isLt
    have ht : t.val < 16 := hN ▸ t.isLt
    refine Eq.trans ?_ (read3 t _ y (ix2 ⟨t.val * 512 + (y 0).val, by omega⟩ ⟨0 * 1024 + (y 1).val, by omega⟩) rfl rfl).symm
    rw [ref_apply]
    refine Eq.trans (congrArg (out0_3 (F := Ideal) (iblk m c 0 t) (iblk m c 1 t) (iblk m c 2 t)) (eq_ix2 y)) ?_
    refine (point _ _ _ (y 0) (y 1)).trans ?_
    refine congrArg₂ (· + ·) (Finset.sum_congr rfl fun k _ => congrArg₂ (· * ·) ?_ ?_) ?_
    · refine (read0 t _ (ix2 (y 0) k) (ix2 ⟨t.val * 512 + (y 0).val, by omega⟩ k) rfl (by simp)).trans ?_
      exact congrFun (V_v0 m c) _
    · refine (read1 t _ (ix2 k (y 1)) (ix2 k ⟨0 * 1024 + (y 1).val, by omega⟩) (by simp) rfl).trans ?_
      exact V_v2_apply m c _ _
    · refine (read2 t _ (ix2 (y 0) (y 1)) (ix2 ⟨t.val * 512 + (y 0).val, by omega⟩ ⟨0 * 1024 + (y 1).val, by omega⟩) rfl rfl).trans ?_
      exact congrFun (V_main_arg3 m c) _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_3 _, ?_⟩
    show (show S8192x1024.Idx from i) ∈ ((View.whole main_v3).slice (win0_3.rect ⟨(i 0 : Nat) / 512, ht⟩)).set
    rw [View.set_slice_whole, Rect.mem_set_unit]
    exact fun a => match a with
      | ⟨0, _⟩ => within (index3 _).1 (by show (i 0 : Nat) / 512 * 512 ≤ (i 0 : Nat) ∧ (i 0 : Nat) < (i 0 : Nat) / 512 * 512 + 512; omega)
      | ⟨1, _⟩ => within (index3 _).2 (by show 0 * 1024 ≤ (i 1 : Nat) ∧ (i 1 : Nat) < 0 * 1024 + 1024; omega)

/-! ## The claims -/

/-- The reference runs, keeps its arguments, and has no semaphore. -/
theorem ref_frame : Cert.quiescent_UpXRefIdeal (hUpXRefIdeal := Cert.UpXRefIdeal.Gen.facts) := fun m g _ =>
  (θ_run Cert.UpXRefIdeal.defs _ _).mono (fun r h => ⟨fun c => (h c).2, sem_eq_zero_of_no_sems (by decide) r.2⟩)
    (Cert.UpXRefIdeal.Value.run m g)

/-- The call's results are the reference's. -/
theorem value : Cert.algebraic_UpXIdeal_UpXRefIdeal (hUpXIdeal := Cert.UpXIdeal.Gen.facts) (hUpXRefIdeal := Cert.UpXRefIdeal.Gen.facts) := by
  intro m g m' g' _ agree
  refine ⟨fun c => val_main_v2 (F := Ideal) (m ((c : Thread nD τ).loc main_arg1)) (m ((c : Thread nD τ).loc main_arg2)) (m ((c : Thread nD τ).loc main_arg3)), ?_, ?_⟩
  · refine (θ_run Cert.UpXIdeal.defs _ _).mono (fun r h c => ?_) (Value.run_blocks m g)
    exact ⟨(h c).1.trans (final3 m c), (h c).2⟩
  · refine (θ_run Cert.UpXRefIdeal.defs _ _).mono (fun r h c => ?_) (Cert.UpXRefIdeal.Value.run m' g')
    obtain ⟨e0, e1, e2, e3⟩ := agree c
    refine ⟨(h c).1.trans ?_, (h c).2⟩
    · rw [e1, e2, e3]
      exact val_main_v2_eq _ _ _

end Cert.Ffn.UpX

end
-- ==== Proof.FfnOut.lean ====
/- The output projection's call: the residual plus the attention's output times the weight. -/
module

public import proofs.«01_k».proof.Defs
public import proofs.«01_k».proof.Proof.FfnLib
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.StableHlo.RunRead

@[expose] public section

set_option maxRecDepth 16384

noncomputable section

namespace Cert.Ffn.Out

open Idealize.ShloMosaic Idealize.ShloMosaic.TcCoe Idealize.SL.Sem
open Cert.OutIdeal Cert.OutIdeal.Gen Cert.OutRefIdeal.Read

variable (m : (ℓ : Loc nD τ sig) → Buf (Elt Ideal) ℓ)

/-! ## The arrays the call is given -/

theorem V_v0 (c : Dev nD) : V m c main_v0 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

/-! ## One point -/

theorem point (X : S512x1024.Idx → EReal) (W : S1024x1024.Idx → EReal) (R : S512x1024.Idx → EReal) (r : Fin 512) (l : Fin 1024) :
    out0_3 (F := Ideal) X W R (ix2 r l) = (∑ k : Fin 1024, X (ix2 r k) * W (ix2 k l)) + R (ix2 r l) := by
  unfold out0_3
  refine (congrFun (View.canon_unit_zero off_zero _ _) _).trans ?_
  repeat rw [View.ld_unit_zero off_zero]
  unfold k0_pay1
  pointwise

/-! ## The reference's result at an index -/

theorem ref_apply (a : S8192x1024.Idx → EReal) (w : S1024x1024.Idx → EReal) (x : S8192x1024.Idx → EReal) (i : Fin 8192) (j : Fin 1024) :
    val_main_v1 (F := Ideal) a w x (ix2 i j) = (∑ k : Fin 1024, a (ix2 i k) * w (ix2 k j)) + x (ix2 i j) := by
  rw [val_main_v1_apply, val_main_v0_apply]
  refine (add_comm _ _).trans (congrArg (· + x (ix2 i j)) (Finset.sum_congr rfl fun k _ => ?_))
  exact congrArg₂ (· * ·) (congrArg a (idx2 _ _ rfl rfl)) (congrArg w (idx2 _ _ rfl rfl))

/-! ## The array the call leaves -/

theorem final3 (c : Dev nD) : (dats m 0 c).arrAt 3 cfg0.N
    = val_main_v1 (F := Ideal) (m ((c : Thread nD τ).loc main_arg0)) (m ((c : Thread nD τ).loc main_arg1)) (m ((c : Thread nD τ).loc main_arg2)) := by
  have hN : cfg0.N = 16 := by decide +kernel
  refine (dats m 0 c).arrAt_eq_of_cover 3 _ (fun t _ => ?_) (fun i => ?_)
  · rw [Value.flushed3]
    refine funext fun (y : S512x1024.Idx) => ?_
    have hy0 : (y 0).val < 512 := (y 0).isLt
    have hy1 : (y 1).val < 1024 := (y 1).isLt
    have ht : t.val < 16 := hN ▸ t.isLt
    refine Eq.trans ?_ (read3 t _ y (ix2 ⟨t.val * 512 + (y 0).val, by omega⟩ ⟨0 * 1024 + (y 1).val, by omega⟩) rfl rfl).symm
    rw [ref_apply]
    refine Eq.trans (congrArg (out0_3 (F := Ideal) (iblk m c 0 t) (iblk m c 1 t) (iblk m c 2 t)) (eq_ix2 y)) ?_
    refine (point _ _ _ (y 0) (y 1)).trans ?_
    refine congrArg₂ (· + ·) (Finset.sum_congr rfl fun k _ => congrArg₂ (· * ·) ?_ ?_) ?_
    · refine (read0 t _ (ix2 (y 0) k) (ix2 ⟨t.val * 512 + (y 0).val, by omega⟩ k) rfl (by simp)).trans ?_
      exact congrFun (V_main_arg0 m c) _
    · refine (read1 t _ (ix2 k (y 1)) (ix2 k ⟨0 * 1024 + (y 1).val, by omega⟩) (by simp) rfl).trans ?_
      exact congrFun (V_v0 m c) _
    · refine (read2 t _ (ix2 (y 0) (y 1)) (ix2 ⟨t.val * 512 + (y 0).val, by omega⟩ ⟨0 * 1024 + (y 1).val, by omega⟩) rfl rfl).trans ?_
      exact congrFun (V_main_arg2 m c) _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_3 _, ?_⟩
    show (show S8192x1024.Idx from i) ∈ ((View.whole main_v1).slice (win0_3.rect ⟨(i 0 : Nat) / 512, ht⟩)).set
    rw [View.set_slice_whole, Rect.mem_set_unit]
    exact fun a => match a with
      | ⟨0, _⟩ => within (index3 _).1 (by show (i 0 : Nat) / 512 * 512 ≤ (i 0 : Nat) ∧ (i 0 : Nat) < (i 0 : Nat) / 512 * 512 + 512; omega)
      | ⟨1, _⟩ => within (index3 _).2 (by show 0 * 1024 ≤ (i 1 : Nat) ∧ (i 1 : Nat) < 0 * 1024 + 1024; omega)

/-! ## The claims -/

/-- The reference runs, keeps its arguments, and has no semaphore. -/
theorem ref_frame : Cert.quiescent_OutRefIdeal (hOutRefIdeal := Cert.OutRefIdeal.Gen.facts) := fun m g _ =>
  (θ_run Cert.OutRefIdeal.defs _ _).mono (fun r h => ⟨fun c => (h c).2, sem_eq_zero_of_no_sems (by decide) r.2⟩)
    (Cert.OutRefIdeal.Value.run m g)

/-- The call's results are the reference's. -/
theorem value : Cert.algebraic_OutIdeal_OutRefIdeal (hOutIdeal := Cert.OutIdeal.Gen.facts) (hOutRefIdeal := Cert.OutRefIdeal.Gen.facts) := by
  intro m g m' g' _ agree
  refine ⟨fun c => val_main_v1 (F := Ideal) (m ((c : Thread nD τ).loc main_arg0)) (m ((c : Thread nD τ).loc main_arg1)) (m ((c : Thread nD τ).loc main_arg2)), ?_, ?_⟩
  · refine (θ_run Cert.OutIdeal.defs _ _).mono (fun r h c => ?_) (Value.run_blocks m g)
    exact ⟨(h c).1.trans (final3 m c), (h c).2⟩
  · refine (θ_run Cert.OutRefIdeal.defs _ _).mono (fun r h c => ?_) (Cert.OutRefIdeal.Value.run m' g')
    obtain ⟨e0, e1, e2⟩ := agree c
    refine ⟨(h c).1.trans ?_, (h c).2⟩
    · rw [e0, e1, e2]
      exact val_main_v1_eq _ _ _

end Cert.Ffn.Out

end
-- ==== Proof.FfnOutX.lean ====
/- The output projection's input gradient: the cotangent times the transposed weight. -/
module

public import proofs.«01_k».proof.Defs
public import proofs.«01_k».proof.Proof.FfnLib
public import proofs.«01_k».proof.Proof.Gen.OutX.Frame
public import proofs.«01_k».proof.Proof.Gen.OutXIdeal.Value
public import proofs.«01_k».proof.Proof.Gen.OutXRefIdeal.Run
public import proofs.«01_k».proof.Proof.Gen.OutXRefIdeal.Read
public import Idealize.ShloMosaic.Lib.StableHlo.RunRead

@[expose] public section

set_option maxRecDepth 16384

noncomputable section

namespace Cert.Ffn.OutX

open Idealize.ShloMosaic Idealize.ShloMosaic.TcCoe Idealize.SL.Sem
open Cert.OutXIdeal Cert.OutXIdeal.Gen Cert.OutXRefIdeal.Read

variable (m : (ℓ : Loc nD τ sig) → Buf (Elt Ideal) ℓ)

/-! ## The arrays the call is given -/

theorem V_v0 (c : Dev nD) : V m c main_v0 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S512x1024.Idx → EReal) (W : S1024x1024.Idx → EReal) (r : Fin 512) (l : Fin 1024) :
    out0_2 (F := Ideal) X W (ix2 r l) = ∑ k : Fin 1024, X (ix2 r k) * W (ix2 l k) := by
  unfold out0_2
  refine (congrFun (View.canon_unit_zero off_zero _ _) _).trans ?_
  repeat rw [View.ld_unit_zero off_zero]
  unfold k0_pay1
  pointwise

/-! ## The reference's result at an index -/

theorem ref_apply (w : S1024x1024.Idx → EReal) (a : S8192x1024.Idx → EReal) (i : Fin 8192) (j : Fin 1024) :
    val_main_v1 (F := Ideal) w a (ix2 i j) = ∑ k : Fin 1024, a (ix2 i k) * w (ix2 j k) := by
  rw [val_main_v1_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v1 (F := Ideal) (m ((c : Thread nD τ).loc main_arg1)) (m ((c : Thread nD τ).loc main_arg2)) := by
  have hN : cfg0.N = 16 := by decide +kernel
  refine (dats m 0 c).arrAt_eq_of_cover 2 _ (fun t _ => ?_) (fun i => ?_)
  · rw [Value.flushed2]
    refine funext fun (y : S512x1024.Idx) => ?_
    have hy0 : (y 0).val < 512 := (y 0).isLt
    have hy1 : (y 1).val < 1024 := (y 1).isLt
    have ht : t.val < 16 := hN ▸ t.isLt
    refine Eq.trans ?_ (read2 t _ y (ix2 ⟨t.val * 512 + (y 0).val, by omega⟩ ⟨0 * 1024 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 512 + (y 0).val, by omega⟩ k) rfl (by simp)).trans ?_
      exact congrFun (V_main_arg2 m c) _
    · refine (read1 t _ (ix2 (y 1) k) (ix2 ⟨0 * 1024 + (y 1).val, by omega⟩ k) rfl (by simp)).trans ?_
      exact congrFun (V_v0 m c) _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_2 _, ?_⟩
    show (show S8192x1024.Idx from i) ∈ ((View.whole main_v1).slice (win0_2.rect ⟨(i 0 : Nat) / 512, ht⟩)).set
    rw [View.set_slice_whole, Rect.mem_set_unit]
    exact fun a => match a with
      | ⟨0, _⟩ => within (index2 _).1 (by show (i 0 : Nat) / 512 * 512 ≤ (i 0 : Nat) ∧ (i 0 : Nat) < (i 0 : Nat) / 512 * 512 + 512; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_OutXRefIdeal (hOutXRefIdeal := Cert.OutXRefIdeal.Gen.facts) := fun m g _ =>
  (θ_run Cert.OutXRefIdeal.defs _ _).mono (fun r h => ⟨fun c => (h c).2, sem_eq_zero_of_no_sems (by decide) r.2⟩)
    (Cert.OutXRefIdeal.Value.run m g)

/-- The call's results are the reference's. -/
theorem value : Cert.algebraic_OutXIdeal_OutXRefIdeal (hOutXIdeal := Cert.OutXIdeal.Gen.facts) (hOutXRefIdeal := Cert.OutXRefIdeal.Gen.facts) := by
  intro m g m' g' _ agree
  refine ⟨fun c => val_main_v1 (F := Ideal) (m ((c : Thread nD τ).loc main_arg1)) (m ((c : Thread nD τ).loc main_arg2)), ?_, ?_⟩
  · refine (θ_run Cert.OutXIdeal.defs _ _).mono (fun r h c => ?_) (Value.run_blocks m g)
    exact ⟨(h c).1.trans (final2 m c), (h c).2⟩
  · refine (θ_run Cert.OutXRefIdeal.defs _ _).mono (fun r h c => ?_) (Cert.OutXRefIdeal.Value.run m' g')
    obtain ⟨e0, e1, e2⟩ := agree c
    refine ⟨(h c).1.trans ?_, (h c).2⟩
    · rw [e1, e2]
      exact val_main_v1_eq _ _

end Cert.Ffn.OutX

end
-- ==== Proof.FfnOutW.lean ====
/- The output projection's weight gradient: the transposed input times the cotangent. -/
module

public import proofs.«01_k».proof.Defs
public import proofs.«01_k».proof.Proof.FfnLib
public import proofs.«01_k».proof.Proof.Gen.OutW.Frame
public import proofs.«01_k».proof.Proof.Gen.OutWIdeal.Value
public import proofs.«01_k».proof.Proof.Gen.OutWRefIdeal.Run
public import proofs.«01_k».proof.Proof.Gen.OutWRefIdeal.Read
public import Idealize.ShloMosaic.Lib.StableHlo.RunRead

@[expose] public section

set_option maxRecDepth 16384

noncomputable section

namespace Cert.Ffn.OutW

open Idealize.ShloMosaic Idealize.ShloMosaic.TcCoe Idealize.SL.Sem
open Cert.OutWIdeal Cert.OutWIdeal.Gen Cert.OutWRefIdeal.Read

variable (m : (ℓ : Loc nD τ sig) → Buf (Elt Ideal) ℓ)

/-! ## The arrays the call is given -/

/-! ## Where a point's blocks sit -/

theorem index0 : ∀ t : Fin cfg0.N, win0_0.index t 0 = (t.val % 8) ∧ win0_0.index t 1 = (t.val / 8) := by decide +kernel

theorem read0 (t : Fin cfg0.N) (A : S8192x1024.Idx → EReal) (y : S1024x1024.Idx) (i : S8192x1024.Idx)
    (h0 : (i 0).val = (t.val % 8) * 1024 + (y 0).val) (h1 : (i 1).val = (t.val / 8) * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 8) ∧ win0_1.index t 1 = 0 := by decide +kernel

theorem read1 (t : Fin cfg0.N) (A : S8192x1024.Idx → EReal) (y : S1024x1024.Idx) (i : S8192x1024.Idx)
    (h0 : (i 0).val = (t.val % 8) * 1024 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 8) ∧ win0_2.index t 1 = 0 := by decide +kernel

theorem read2 (t : Fin cfg0.N) (A : S1024x1024.Idx → EReal) (y : S1024x1024.Idx) (i : S1024x1024.Idx)
    (h0 : (i 0).val = (t.val / 8) * 1024 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S1024x1024.Idx → EReal) (x : S1024x1024.Idx → EReal) (r : Fin 1024) (l : Fin 1024) :
    k0_pay1 (F := Ideal) a x (ix2 r l) = ∑ k : Fin 1024, a (ix2 k r) * x (ix2 k l) := by
  unfold k0_pay1
  pointwise

theorem keep (a : S1024x1024.Idx → EReal) (x : S1024x1024.Idx → EReal) (r : Fin 1024) (l : Fin 1024) :
    k0_pay2 (F := Ideal) a x (ix2 r l) = ∑ k : Fin 1024, a (ix2 k r) * x (ix2 k l) := by
  rw [← blockProd a x r l]
  unfold k0_pay2
  generalize k0_pay1 (F := Ideal) a x = p
  pointwise

theorem add (a : S1024x1024.Idx → EReal) (x : S1024x1024.Idx → EReal) (q : S1024x1024.Idx → EReal) (r : Fin 1024) (l : Fin 1024) :
    k0_pay3 (F := Ideal) a x q (ix2 r l) = q (ix2 r l) + ∑ k : Fin 1024, a (ix2 k r) * x (ix2 k l) := by
  rw [← blockProd a x r l]
  unfold k0_pay3
  generalize k0_pay1 (F := Ideal) a x = p
  pointwise

theorem emit (a : S1024x1024.Idx → EReal) (x : S1024x1024.Idx → EReal) (q : S1024x1024.Idx → EReal) (r : Fin 1024) (l : Fin 1024) :
    k0_pay4 (F := Ideal) a x q (ix2 r l) = q (ix2 r l) + ∑ k : Fin 1024, a (ix2 k r) * x (ix2 k l) := by
  rw [← blockProd a x r l]
  unfold k0_pay4
  generalize k0_pay1 (F := Ideal) a x = p
  pointwise

theorem first (c : Dev nD) (t : Fin cfg0.N) (h0 : t.val % 8 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 8 ∧ t.val % 8 ≤ 6) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 8 = 7) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 8 := by decide +kernel

/-- The terms of the entry that place `(r, l)` of run `q` of points adds up. -/
abbrev tm (c : Dev nD) (q : Fin 1) (r : Fin 1024) (l : Fin 1024) : ℕ → EReal :=
  term (n := 8192) (a := 1024) (b := 1024) (m ((c : Thread nD τ).loc main_arg0)) (m ((c : Thread nD τ).loc main_arg2)) ⟨1024 * q.val + r.val, by omega⟩ l

/-- The two blocks a point is given. -/
abbrev ab (c : Dev nD) (t : Fin cfg0.N) : S1024x1024.Idx → EReal := iblk m c 0 t

abbrev xb (c : Dev nD) (t : Fin cfg0.N) : S1024x1024.Idx → EReal := iblk m c 1 t

theorem terms (c : Dev nD) (t : Fin cfg0.N) (q : Fin 1) (hq : t.val / 8 = q.val) (r : Fin 1024) (l : Fin 1024) (k : Fin 1024) :
    ab m c t (ix2 k r) * xb m c t (ix2 k l) = tm m c q r l (1024 * (t.val % 8) + k.val) := by
  have ht : t.val < 8 := card ▸ t.isLt
  refine Eq.trans ?_ (term_lt _ _ _ _ _ (by omega)).symm
  refine congrArg₂ (· * ·) ?_ ?_
  · refine (read0 t _ (ix2 k r) (ix2 ⟨1024 * (t.val % 8) + k.val, by omega⟩ ⟨1024 * q.val + r.val, by omega⟩) ?_ ?_).trans ?_
    · exact congrArg (· + k.val) (Nat.mul_comm _ _)
    · show 1024 * q.val + r.val = t.val / 8 * 1024 + r.val
      omega
    · exact congrFun (V_main_arg0 m c) _
  · refine (read1 t _ (ix2 k l) (ix2 ⟨1024 * (t.val % 8) + k.val, by omega⟩ l) ?_ ?_).trans ?_
    · exact congrArg (· + k.val) (Nat.mul_comm _ _)
    · show l.val = 0 * 1024 + l.val
      omega
    · exact congrFun (V_main_arg2 m c) _

theorem whole (c : Dev nD) (t : Fin cfg0.N) (h2 : t.val % 8 = 7) (q : Fin 1) (hq : t.val / 8 = q.val) (r : Fin 1024) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (a : S8192x1024.Idx → EReal) (x : S8192x1024.Idx → EReal) (i : Fin 1024) (j : Fin 1024) :
    val_main_v3 (F := Ideal) a x (ix2 i j) = ∑ k : Fin 8192, a (ix2 k i) * x (ix2 k j) := by
  rw [val_main_v3_apply, val_main_v2_apply, val_main_v1_apply]
  show ∑ k : Fin 8192, _ = _
  refine Finset.sum_congr rfl fun k _ => (mul_comm _ _).trans ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v3 (F := Ideal) (m ((c : Thread nD τ).loc main_arg0)) (m ((c : Thread nD τ).loc main_arg2)) := by
  have hN : cfg0.N = 8 := card
  refine (dats m 0 c).arrAt_eq_of_cover 2 _ (fun t hf => ?_) (fun i => ?_)
  · have h2 : t.val % 8 = 7 := (flush0_2 t).mp hf
    rw [Value.flushed2]
    refine funext fun (y : S1024x1024.Idx) => ?_
    have hy0 : (y 0).val < 1024 := (y 0).isLt
    have hy1 : (y 1).val < 1024 := (y 1).isLt
    have ht : t.val < 8 := hN ▸ t.isLt
    refine Eq.trans ?_ (read2 t _ y (ix2 ⟨1024 * (t.val / 8) + (y 0).val, by omega⟩ ⟨(y 1).val, hy1⟩) (by show 1024 * (t.val / 8) + (y 0).val = _; omega) (by show (y 1).val = _; omega)).symm
    rw [ref_apply]
    refine Eq.trans (congrArg ((outsAt0 m c t.val t.isLt).1) (eq_ix2 y)) ?_
    refine (whole m c t h2 ⟨t.val / 8, by omega⟩ rfl (y 0) (y 1)).trans ?_
    exact term_sum _ _ _ _
  · have h0 : (i 0 : Nat) < 1024 := (i 0).isLt
    have h1 : (i 1 : Nat) < 1024 := (i 1).isLt
    have ht : 8 * ((i 0 : Nat) / 1024) + 7 < cfg0.N := by omega
    refine ⟨⟨8 * ((i 0 : Nat) / 1024) + 7, ht⟩, (flush0_2 _).mpr (by show (8 * ((i 0 : Nat) / 1024) + 7) % 8 = 7; omega), ?_⟩
    show (show S1024x1024.Idx from i) ∈ ((View.whole main_v0).slice (win0_2.rect ⟨8 * ((i 0 : Nat) / 1024) + 7, ht⟩)).set
    rw [View.set_slice_whole, Rect.mem_set_unit]
    exact fun a => match a with
      | ⟨0, _⟩ => within (index2 _).1 (by show ((8 * ((i 0 : Nat) / 1024) + 7) / 8) * 1024 ≤ (i 0 : Nat) ∧ (i 0 : Nat) < ((8 * ((i 0 : Nat) / 1024) + 7) / 8) * 1024 + 1024; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_OutWRefIdeal (hOutWRefIdeal := Cert.OutWRefIdeal.Gen.facts) := fun m g _ =>
  (θ_run Cert.OutWRefIdeal.defs _ _).mono (fun r h => ⟨fun c => (h c).2, sem_eq_zero_of_no_sems (by decide) r.2⟩)
    (Cert.OutWRefIdeal.Value.run m g)

/-- The call's results are the reference's. -/
theorem value : Cert.algebraic_OutWIdeal_OutWRefIdeal (hOutWIdeal := Cert.OutWIdeal.Gen.facts) (hOutWRefIdeal := Cert.OutWRefIdeal.Gen.facts) := by
  intro m g m' g' _ agree
  refine ⟨fun c => val_main_v3 (F := Ideal) (m ((c : Thread nD τ).loc main_arg0)) (m ((c : Thread nD τ).loc main_arg2)), ?_, ?_⟩
  · refine (θ_run Cert.OutWIdeal.defs _ _).mono (fun r h c => ?_) (Value.run_blocks m g)
    exact ⟨(h c).1.trans (final2 m c), (h c).2⟩
  · refine (θ_run Cert.OutWRefIdeal.defs _ _).mono (fun r h c => ?_) (Cert.OutWRefIdeal.Value.run m' g')
    obtain ⟨e0, e1, e2⟩ := agree c
    refine ⟨(h c).1.trans ?_, (h c).2⟩
    · rw [e0, e2]
      exact val_main_v3_eq _ _

end Cert.Ffn.OutW

end
-- ==== Proof.FfnOutA.lean ====
/- The output projection's call of the first head group: the residual plus the heads' output times their rows of the weight. -/
module

public import proofs.«01_k».proof.Defs
public import proofs.«01_k».proof.Proof.FfnLib
public import proofs.«01_k».proof.Proof.Gen.OutA.Frame
public import proofs.«01_k».proof.Proof.Gen.OutAIdeal.Value
public import proofs.«01_k».proof.Proof.Gen.OutARefIdeal.Run
public import proofs.«01_k».proof.Proof.Gen.OutARefIdeal.Read
public import Idealize.ShloMosaic.Lib.StableHlo.RunRead

@[expose] public section

set_option maxRecDepth 16384

noncomputable section

namespace Cert.Ffn.OutA

open Idealize.ShloMosaic Idealize.ShloMosaic.TcCoe Idealize.SL.Sem
open Cert.OutAIdeal Cert.OutAIdeal.Gen Cert.OutARefIdeal.Read

variable (m : (ℓ : Loc nD τ sig) → Buf (Elt Ideal) ℓ)

/-! ## The arrays the call is given -/

theorem V_v0 (c : Dev nD) : V m c main_v0 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S8192x512.Idx → EReal) (y : S1024x512.Idx) (i : S8192x512.Idx)
    (h0 : (i 0).val = t.val * 1024 + (y 0).val) (h1 : (i 1).val = 0 * 512 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S512x1024.Idx → EReal) (y : S512x1024.Idx) (i : S512x1024.Idx)
    (h0 : (i 0).val = 0 * 512 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

/-! ## One point -/

theorem point (X : S1024x512.Idx → EReal) (W : S512x1024.Idx → EReal) (R : S1024x1024.Idx → EReal) (r : Fin 1024) (l : Fin 1024) :
    out0_3 (F := Ideal) X W R (ix2 r l) = (∑ k : Fin 512, X (ix2 r k) * W (ix2 k l)) + R (ix2 r l) := by
  unfold out0_3
  refine (congrFun (View.canon_unit_zero off_zero _ _) _).trans ?_
  repeat rw [View.ld_unit_zero off_zero]
  unfold k0_pay1
  pointwise

/-! ## The reference's result at an index -/

theorem ref_apply (a : S8192x512.Idx → EReal) (w : S512x1024.Idx → EReal) (x : S8192x1024.Idx → EReal) (i : Fin 8192) (j : Fin 1024) :
    val_main_v1 (F := Ideal) a w x (ix2 i j) = (∑ k : Fin 512, a (ix2 i k) * w (ix2 k j)) + x (ix2 i j) := by
  rw [val_main_v1_apply, val_main_v0_apply]
  refine (add_comm _ _).trans (congrArg (· + x (ix2 i j)) (Finset.sum_congr rfl fun k _ => ?_))
  exact congrArg₂ (· * ·) (congrArg a (idx2 _ _ rfl rfl)) (congrArg w (idx2 _ _ rfl rfl))

/-! ## The array the call leaves -/

theorem final3 (c : Dev nD) : (dats m 0 c).arrAt 3 cfg0.N
    = val_main_v1 (F := Ideal) (m ((c : Thread nD τ).loc main_arg0)) (m ((c : Thread nD τ).loc main_arg1)) (m ((c : Thread nD τ).loc main_arg2)) := by
  have hN : cfg0.N = 8 := by decide +kernel
  refine (dats m 0 c).arrAt_eq_of_cover 3 _ (fun t _ => ?_) (fun i => ?_)
  · rw [Value.flushed3]
    refine funext fun (y : S1024x1024.Idx) => ?_
    have hy0 : (y 0).val < 1024 := (y 0).isLt
    have hy1 : (y 1).val < 1024 := (y 1).isLt
    have ht : t.val < 8 := hN ▸ t.isLt
    refine Eq.trans ?_ (read3 t _ y (ix2 ⟨t.val * 1024 + (y 0).val, by omega⟩ ⟨0 * 1024 + (y 1).val, by omega⟩) rfl rfl).symm
    rw [ref_apply]
    refine Eq.trans (congrArg (out0_3 (F := Ideal) (iblk m c 0 t) (iblk m c 1 t) (iblk m c 2 t)) (eq_ix2 y)) ?_
    refine (point _ _ _ (y 0) (y 1)).trans ?_
    refine congrArg₂ (· + ·) (Finset.sum_congr rfl fun k _ => congrArg₂ (· * ·) ?_ ?_) ?_
    · refine (read0 t _ (ix2 (y 0) k) (ix2 ⟨t.val * 1024 + (y 0).val, by omega⟩ k) rfl (by simp)).trans ?_
      exact congrFun (V_main_arg0 m c) _
    · refine (read1 t _ (ix2 k (y 1)) (ix2 k ⟨0 * 1024 + (y 1).val, by omega⟩) (by simp) rfl).trans ?_
      exact congrFun (V_v0 m c) _
    · refine (read2 t _ (ix2 (y 0) (y 1)) (ix2 ⟨t.val * 1024 + (y 0).val, by omega⟩ ⟨0 * 1024 + (y 1).val, by omega⟩) rfl rfl).trans ?_
      exact congrFun (V_main_arg2 m c) _
  · have h0 : (i 0 : Nat) < 8192 := (i 0).isLt
    have h1 : (i 1 : Nat) < 1024 := (i 1).isLt
    have ht : (i 0 : Nat) / 1024 < cfg0.N := by omega
    refine ⟨⟨(i 0 : Nat) / 1024, ht⟩, flush0_3 _, ?_⟩
    show (show S8192x1024.Idx from i) ∈ ((View.whole main_v1).slice (win0_3.rect ⟨(i 0 : Nat) / 1024, ht⟩)).set
    rw [View.set_slice_whole, Rect.mem_set_unit]
    exact fun a => match a with
      | ⟨0, _⟩ => within (index3 _).1 (by show (i 0 : Nat) / 1024 * 1024 ≤ (i 0 : Nat) ∧ (i 0 : Nat) < (i 0 : Nat) / 1024 * 1024 + 1024; omega)
      | ⟨1, _⟩ => within (index3 _).2 (by show 0 * 1024 ≤ (i 1 : Nat) ∧ (i 1 : Nat) < 0 * 1024 + 1024; omega)

/-! ## The claims -/

/-- The reference runs, keeps its arguments, and has no semaphore. -/
theorem ref_frame : Cert.quiescent_OutARefIdeal (hOutARefIdeal := Cert.OutARefIdeal.Gen.facts) := fun m g _ =>
  (θ_run Cert.OutARefIdeal.defs _ _).mono (fun r h => ⟨fun c => (h c).2, sem_eq_zero_of_no_sems (by decide) r.2⟩)
    (Cert.OutARefIdeal.Value.run m g)

/-- The call's results are the reference's. -/
theorem value : Cert.algebraic_OutAIdeal_OutARefIdeal (hOutAIdeal := Cert.OutAIdeal.Gen.facts) (hOutARefIdeal := Cert.OutARefIdeal.Gen.facts) := by
  intro m g m' g' _ agree
  refine ⟨fun c => val_main_v1 (F := Ideal) (m ((c : Thread nD τ).loc main_arg0)) (m ((c : Thread nD τ).loc main_arg1)) (m ((c : Thread nD τ).loc main_arg2)), ?_, ?_⟩
  · refine (θ_run Cert.OutAIdeal.defs _ _).mono (fun r h c => ?_) (Value.run_blocks m g)
    exact ⟨(h c).1.trans (final3 m c), (h c).2⟩
  · refine (θ_run Cert.OutARefIdeal.defs _ _).mono (fun r h c => ?_) (Cert.OutARefIdeal.Value.run m' g')
    obtain ⟨e0, e1, e2⟩ := agree c
    refine ⟨(h c).1.trans ?_, (h c).2⟩
    · rw [e0, e1, e2]
      exact val_main_v1_eq _ _ _

end Cert.Ffn.OutA

end
-- ==== Proof.FfnOutAX.lean ====
/- The input gradient of the first head group's output projection: the cotangent times the transposed weight. -/
module

public import proofs.«01_k».proof.Defs
public import proofs.«01_k».proof.Proof.FfnLib
public import proofs.«01_k».proof.Proof.Gen.OutAX.Frame
public import proofs.«01_k».proof.Proof.Gen.OutAXIdeal.Value
public import proofs.«01_k».proof.Proof.Gen.OutAXRefIdeal.Run
public import proofs.«01_k».proof.Proof.Gen.OutAXRefIdeal.Read
public import Idealize.ShloMosaic.Lib.StableHlo.RunRead

@[expose] public section

set_option maxRecDepth 16384

noncomputable section

namespace Cert.Ffn.OutAX

open Idealize.ShloMosaic Idealize.ShloMosaic.TcCoe Idealize.SL.Sem
open Cert.OutAXIdeal Cert.OutAXIdeal.Gen Cert.OutAXRefIdeal.Read

variable (m : (ℓ : Loc nD τ sig) → Buf (Elt Ideal) ℓ)

/-! ## The arrays the call is given -/

theorem V_v0 (c : Dev nD) : V m c main_v0 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S512x1024.Idx → EReal) (y : S512x1024.Idx) (i : S512x1024.Idx)
    (h0 : (i 0).val = 0 * 512 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x512.Idx → EReal) (y : S1024x512.Idx) (i : S8192x512.Idx)
    (h0 : (i 0).val = t.val * 1024 + (y 0).val) (h1 : (i 1).val = 0 * 512 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S1024x1024.Idx → EReal) (W : S512x1024.Idx → EReal) (r : Fin 1024) (l : Fin 512) :
    out0_2 (F := Ideal) X W (ix2 r l) = ∑ k : Fin 1024, X (ix2 r k) * W (ix2 l k) := by
  unfold out0_2
  refine (congrFun (View.canon_unit_zero off_zero _ _) _).trans ?_
  repeat rw [View.ld_unit_zero off_zero]
  unfold k0_pay1
  pointwise

/-! ## The reference's result at an index -/

theorem ref_apply (w : S512x1024.Idx → EReal) (a : S8192x1024.Idx → EReal) (i : Fin 8192) (j : Fin 512) :
    val_main_v1 (F := Ideal) w a (ix2 i j) = ∑ k : Fin 1024, a (ix2 i k) * w (ix2 j k) := by
  rw [val_main_v1_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v1 (F := Ideal) (m ((c : Thread nD τ).loc main_arg1)) (m ((c : Thread nD τ).loc main_arg2)) := by
  have hN : cfg0.N = 8 := by decide +kernel
  refine (dats m 0 c).arrAt_eq_of_cover 2 _ (fun t _ => ?_) (fun i => ?_)
  · rw [Value.flushed2]
    refine funext fun (y : S1024x512.Idx) => ?_
    have hy0 : (y 0).val < 1024 := (y 0).isLt
    have hy1 : (y 1).val < 512 := (y 1).isLt
    have ht : t.val < 8 := hN ▸ t.isLt
    refine Eq.trans ?_ (read2 t _ y (ix2 ⟨t.val * 1024 + (y 0).val, by omega⟩ ⟨0 * 512 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 1024 + (y 0).val, by omega⟩ k) rfl (by simp)).trans ?_
      exact congrFun (V_main_arg2 m c) _
    · refine (read1 t _ (ix2 (y 1) k) (ix2 ⟨0 * 512 + (y 1).val, by omega⟩ k) rfl (by simp)).trans ?_
      exact congrFun (V_v0 m c) _
  · have h0 : (i 0 : Nat) < 8192 := (i 0).isLt
    have h1 : (i 1 : Nat) < 512 := (i 1).isLt
    have ht : (i 0 : Nat) / 1024 < cfg0.N := by omega
    refine ⟨⟨(i 0 : Nat) / 1024, ht⟩, flush0_2 _, ?_⟩
    show (show S8192x512.Idx from i) ∈ ((View.whole main_v1).slice (win0_2.rect ⟨(i 0 : Nat) / 1024, ht⟩)).set
    rw [View.set_slice_whole, Rect.mem_set_unit]
    exact fun a => match a with
      | ⟨0, _⟩ => within (index2 _).1 (by show (i 0 : Nat) / 1024 * 1024 ≤ (i 0 : Nat) ∧ (i 0 : Nat) < (i 0 : Nat) / 1024 * 1024 + 1024; omega)
      | ⟨1, _⟩ => within (index2 _).2 (by show 0 * 512 ≤ (i 1 : Nat) ∧ (i 1 : Nat) < 0 * 512 + 512; omega)

/-! ## The claims -/

/-- The reference runs, keeps its arguments, and has no semaphore. -/
theorem ref_frame : Cert.quiescent_OutAXRefIdeal (hOutAXRefIdeal := Cert.OutAXRefIdeal.Gen.facts) := fun m g _ =>
  (θ_run Cert.OutAXRefIdeal.defs _ _).mono (fun r h => ⟨fun c => (h c).2, sem_eq_zero_of_no_sems (by decide) r.2⟩)
    (Cert.OutAXRefIdeal.Value.run m g)

/-- The call's results are the reference's. -/
theorem value : Cert.algebraic_OutAXIdeal_OutAXRefIdeal (hOutAXIdeal := Cert.OutAXIdeal.Gen.facts) (hOutAXRefIdeal := Cert.OutAXRefIdeal.Gen.facts) := by
  intro m g m' g' _ agree
  refine ⟨fun c => val_main_v1 (F := Ideal) (m ((c : Thread nD τ).loc main_arg1)) (m ((c : Thread nD τ).loc main_arg2)), ?_, ?_⟩
  · refine (θ_run Cert.OutAXIdeal.defs _ _).mono (fun r h c => ?_) (Value.run_blocks m g)
    exact ⟨(h c).1.trans (final2 m c), (h c).2⟩
  · refine (θ_run Cert.OutAXRefIdeal.defs _ _).mono (fun r h c => ?_) (Cert.OutAXRefIdeal.Value.run m' g')
    obtain ⟨e0, e1, e2⟩ := agree c
    refine ⟨(h c).1.trans ?_, (h c).2⟩
    · rw [e1, e2]
      exact val_main_v1_eq _ _

end Cert.Ffn.OutAX

end
-- ==== Proof.FfnOutAW.lean ====
/- The weight gradient of the first head group's output projection. -/
module

public import proofs.«01_k».proof.Defs
public import proofs.«01_k».proof.Proof.FfnLib
public import proofs.«01_k».proof.Proof.Gen.OutAW.Frame
public import proofs.«01_k».proof.Proof.Gen.OutAWIdeal.Value
public import proofs.«01_k».proof.Proof.Gen.OutAWRefIdeal.Run
public import proofs.«01_k».proof.Proof.Gen.OutAWRefIdeal.Read
public import Idealize.ShloMosaic.Lib.StableHlo.RunRead

@[expose] public section

set_option maxRecDepth 16384

noncomputable section

namespace Cert.Ffn.OutAW

open Idealize.ShloMosaic Idealize.ShloMosaic.TcCoe Idealize.SL.Sem
open Cert.OutAWIdeal Cert.OutAWIdeal.Gen Cert.OutAWRefIdeal.Read

variable (m : (ℓ : Loc nD τ sig) → Buf (Elt Ideal) ℓ)

/-! ## The arrays the call is given -/

/-! ## Where a point's blocks sit -/

theorem index0 : ∀ t : Fin cfg0.N, win0_0.index t 0 = (t.val % 4) ∧ win0_0.index t 1 = (t.val / 4) := by decide +kernel

theorem read0 (t : Fin cfg0.N) (A : S8192x512.Idx → EReal) (y : S2048x512.Idx) (i : S8192x512.Idx)
    (h0 : (i 0).val = (t.val % 4) * 2048 + (y 0).val) (h1 : (i 1).val = (t.val / 4) * 512 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x1024.Idx → EReal) (y : S2048x1024.Idx) (i : S8192x1024.Idx)
    (h0 : (i 0).val = (t.val % 4) * 2048 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S512x1024.Idx → EReal) (y : S512x1024.Idx) (i : S512x1024.Idx)
    (h0 : (i 0).val = (t.val / 4) * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x512.Idx → EReal) (x : S2048x1024.Idx → EReal) (r : Fin 512) (l : Fin 1024) :
    k0_pay1 (F := Ideal) a x (ix2 r l) = ∑ k : Fin 2048, a (ix2 k r) * x (ix2 k l) := by
  unfold k0_pay1
  pointwise

theorem keep (a : S2048x512.Idx → EReal) (x : S2048x1024.Idx → EReal) (r : Fin 512) (l : Fin 1024) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x512.Idx → EReal) (x : S2048x1024.Idx → EReal) (q : S512x1024.Idx → EReal) (r : Fin 512) (l : Fin 1024) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x512.Idx → EReal) (x : S2048x1024.Idx → EReal) (q : S512x1024.Idx → EReal) (r : Fin 512) (l : Fin 1024) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 512) (l : Fin 1024) : ℕ → EReal :=
  term (n := 8192) (a := 512) (b := 1024) (m ((c : Thread nD τ).loc main_arg0)) (m ((c : Thread nD τ).loc main_arg2)) ⟨512 * q.val + r.val, by omega⟩ l

/-- The two blocks a point is given. -/
abbrev ab (c : Dev nD) (t : Fin cfg0.N) : S2048x512.Idx → EReal := iblk m c 0 t

abbrev xb (c : Dev nD) (t : Fin cfg0.N) : S2048x1024.Idx → EReal := iblk m c 1 t

theorem terms (c : Dev nD) (t : Fin cfg0.N) (q : Fin 1) (hq : t.val / 4 = q.val) (r : Fin 512) (l : Fin 1024) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨512 * q.val + r.val, by omega⟩) ?_ ?_).trans ?_
    · exact congrArg (· + k.val) (Nat.mul_comm _ _)
    · show 512 * q.val + r.val = t.val / 4 * 512 + r.val
      omega
    · exact congrFun (V_main_arg0 m c) _
  · refine (read1 t _ (ix2 k l) (ix2 ⟨2048 * (t.val % 4) + k.val, by omega⟩ l) ?_ ?_).trans ?_
    · exact congrArg (· + k.val) (Nat.mul_comm _ _)
    · show l.val = 0 * 1024 + l.val
      omega
    · exact congrFun (V_main_arg2 m c) _

theorem whole (c : Dev nD) (t : Fin cfg0.N) (h2 : t.val % 4 = 3) (q : Fin 1) (hq : t.val / 4 = q.val) (r : Fin 512) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (a : S8192x512.Idx → EReal) (x : S8192x1024.Idx → EReal) (i : Fin 512) (j : Fin 1024) :
    val_main_v3 (F := Ideal) a x (ix2 i j) = ∑ k : Fin 8192, a (ix2 k i) * x (ix2 k j) := by
  rw [val_main_v3_apply, val_main_v2_apply, val_main_v1_apply]
  show ∑ k : Fin 8192, _ = _
  refine Finset.sum_congr rfl fun k _ => (mul_comm _ _).trans ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v3 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S512x1024.Idx) => ?_
    have hy0 : (y 0).val < 512 := (y 0).isLt
    have hy1 : (y 1).val < 1024 := (y 1).isLt
    have ht : t.val < 4 := hN ▸ t.isLt
    refine Eq.trans ?_ (read2 t _ y (ix2 ⟨512 * (t.val / 4) + (y 0).val, by omega⟩ ⟨(y 1).val, hy1⟩) (by show 512 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 512 := (i 0).isLt
    have h1 : (i 1 : Nat) < 1024 := (i 1).isLt
    have ht : 4 * ((i 0 : Nat) / 512) + 3 < cfg0.N := by omega
    refine ⟨⟨4 * ((i 0 : Nat) / 512) + 3, ht⟩, (flush0_2 _).mpr (by show (4 * ((i 0 : Nat) / 512) + 3) % 4 = 3; omega), ?_⟩
    show (show S512x1024.Idx from i) ∈ ((View.whole main_v0).slice (win0_2.rect ⟨4 * ((i 0 : Nat) / 512) + 3, ht⟩)).set
    rw [View.set_slice_whole, Rect.mem_set_unit]
    exact fun a => match a with
      | ⟨0, _⟩ => within (index2 _).1 (by show ((4 * ((i 0 : Nat) / 512) + 3) / 4) * 512 ≤ (i 0 : Nat) ∧ (i 0 : Nat) < ((4 * ((i 0 : Nat) / 512) + 3) / 4) * 512 + 512; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_OutAWRefIdeal (hOutAWRefIdeal := Cert.OutAWRefIdeal.Gen.facts) := fun m g _ =>
  (θ_run Cert.OutAWRefIdeal.defs _ _).mono (fun r h => ⟨fun c => (h c).2, sem_eq_zero_of_no_sems (by decide) r.2⟩)
    (Cert.OutAWRefIdeal.Value.run m g)

/-- The call's results are the reference's. -/
theorem value : Cert.algebraic_OutAWIdeal_OutAWRefIdeal (hOutAWIdeal := Cert.OutAWIdeal.Gen.facts) (hOutAWRefIdeal := Cert.OutAWRefIdeal.Gen.facts) := by
  intro m g m' g' _ agree
  refine ⟨fun c => val_main_v3 (F := Ideal) (m ((c : Thread nD τ).loc main_arg0)) (m ((c : Thread nD τ).loc main_arg2)), ?_, ?_⟩
  · refine (θ_run Cert.OutAWIdeal.defs _ _).mono (fun r h c => ?_) (Value.run_blocks m g)
    exact ⟨(h c).1.trans (final2 m c), (h c).2⟩
  · refine (θ_run Cert.OutAWRefIdeal.defs _ _).mono (fun r h c => ?_) (Cert.OutAWRefIdeal.Value.run m' g')
    obtain ⟨e0, e1, e2⟩ := agree c
    refine ⟨(h c).1.trans ?_, (h c).2⟩
    · rw [e0, e2]
      exact val_main_v3_eq _ _

end Cert.Ffn.OutAW

end
-- ==== Proof.FfnXq.lean ====
/- The memory attention's query projection. -/
module

public import proofs.«01_k».proof.Defs
public import proofs.«01_k».proof.Proof.FfnLib
public import proofs.«01_k».proof.Proof.Gen.Xq.Frame
public import proofs.«01_k».proof.Proof.Gen.XqIdeal.Value
public import proofs.«01_k».proof.Proof.Gen.XqRefIdeal.Run
public import proofs.«01_k».proof.Proof.Gen.XqRefIdeal.Read
public import Idealize.ShloMosaic.Lib.StableHlo.RunRead

@[expose] public section

set_option maxRecDepth 16384

noncomputable section

namespace Cert.Ffn.Xq

open Idealize.ShloMosaic Idealize.ShloMosaic.TcCoe Idealize.SL.Sem
open Cert.XqIdeal Cert.XqIdeal.Gen Cert.XqRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

theorem V_v1 (c : Dev nD) : V m c main_v1 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x512.Idx → EReal) (y : S1024x512.Idx) (i : S1024x512.Idx)
    (h0 : (i 0).val = 0 * 1024 + (y 0).val) (h1 : (i 1).val = 0 * 512 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x512.Idx → EReal) (y : S1024x512.Idx) (i : S8192x512.Idx)
    (h0 : (i 0).val = t.val * 1024 + (y 0).val) (h1 : (i 1).val = 0 * 512 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S1024x1024.Idx → EReal) (W : S1024x512.Idx → EReal) (r : Fin 1024) (l : Fin 512) :
    out0_2 (F := Ideal) X W (ix2 r l) = ∑ k : Fin 1024, X (ix2 r k) * W (ix2 k l) := by
  unfold out0_2
  refine (congrFun (View.canon_unit_zero off_zero _ _) _).trans ?_
  repeat rw [View.ld_unit_zero off_zero]
  unfold k0_pay1
  pointwise

/-! ## The reference's result at an index -/

theorem ref_apply (a : S8192x1024.Idx → EReal) (w : S1024x512.Idx → EReal) (i : Fin 8192) (j : Fin 512) :
    val_main_v0 (F := Ideal) a w (ix2 i j) = ∑ k : Fin 1024, a (ix2 i k) * w (ix2 k j) := by
  rw [val_main_v0_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v0 (F := Ideal) (m ((c : Thread nD τ).loc main_arg0)) (m ((c : Thread nD τ).loc main_arg1)) := by
  have hN : cfg0.N = 8 := by decide +kernel
  refine (dats m 0 c).arrAt_eq_of_cover 2 _ (fun t _ => ?_) (fun i => ?_)
  · rw [Value.flushed2]
    refine funext fun (y : S1024x512.Idx) => ?_
    have hy0 : (y 0).val < 1024 := (y 0).isLt
    have hy1 : (y 1).val < 512 := (y 1).isLt
    have ht : t.val < 8 := hN ▸ t.isLt
    refine Eq.trans ?_ (read2 t _ y (ix2 ⟨t.val * 1024 + (y 0).val, by omega⟩ ⟨0 * 512 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 1024 + (y 0).val, by omega⟩ k) rfl (by simp)).trans ?_
      exact congrFun (V_v0 m c) _
    · refine (read1 t _ (ix2 k (y 1)) (ix2 k ⟨0 * 512 + (y 1).val, by omega⟩) (by simp) rfl).trans ?_
      exact congrFun (V_v1 m c) _
  · have h0 : (i 0 : Nat) < 8192 := (i 0).isLt
    have h1 : (i 1 : Nat) < 512 := (i 1).isLt
    have ht : (i 0 : Nat) / 1024 < cfg0.N := by omega
    refine ⟨⟨(i 0 : Nat) / 1024, ht⟩, flush0_2 _, ?_⟩
    show (show S8192x512.Idx from i) ∈ ((View.whole main_v2).slice (win0_2.rect ⟨(i 0 : Nat) / 1024, ht⟩)).set
    rw [View.set_slice_whole, Rect.mem_set_unit]
    exact fun a => match a with
      | ⟨0, _⟩ => within (index2 _).1 (by show (i 0 : Nat) / 1024 * 1024 ≤ (i 0 : Nat) ∧ (i 0 : Nat) < (i 0 : Nat) / 1024 * 1024 + 1024; omega)
      | ⟨1, _⟩ => within (index2 _).2 (by show 0 * 512 ≤ (i 1 : Nat) ∧ (i 1 : Nat) < 0 * 512 + 512; omega)

/-! ## The claims -/

/-- The reference runs, keeps its arguments, and has no semaphore. -/
theorem ref_frame : Cert.quiescent_XqRefIdeal (hXqRefIdeal := Cert.XqRefIdeal.Gen.facts) := fun m g _ =>
  (θ_run Cert.XqRefIdeal.defs _ _).mono (fun r h => ⟨fun c => (h c).2, sem_eq_zero_of_no_sems (by decide) r.2⟩)
    (Cert.XqRefIdeal.Value.run m g)

/-- The call's results are the reference's. -/
theorem value : Cert.algebraic_XqIdeal_XqRefIdeal (hXqIdeal := Cert.XqIdeal.Gen.facts) (hXqRefIdeal := Cert.XqRefIdeal.Gen.facts) := by
  intro m g m' g' _ agree
  refine ⟨fun c => val_main_v0 (F := Ideal) (m ((c : Thread nD τ).loc main_arg0)) (m ((c : Thread nD τ).loc main_arg1)), ?_, ?_⟩
  · refine (θ_run Cert.XqIdeal.defs _ _).mono (fun r h c => ?_) (Value.run_blocks m g)
    exact ⟨(h c).1.trans (final2 m c), (h c).2⟩
  · refine (θ_run Cert.XqRefIdeal.defs _ _).mono (fun r h c => ?_) (Cert.XqRefIdeal.Value.run m' g')
    obtain ⟨e0, e1⟩ := agree c
    refine ⟨(h c).1.trans ?_, (h c).2⟩
    · rw [e0, e1]
      exact val_main_v0_eq _ _

end Cert.Ffn.Xq

end
-- ==== Proof.FfnXqX.lean ====
/- The input gradient of the memory attention's query projection. -/
module

public import proofs.«01_k».proof.Defs
public import proofs.«01_k».proof.Proof.FfnLib
public import proofs.«01_k».proof.Proof.Gen.XqX.Frame
public import proofs.«01_k».proof.Proof.Gen.XqXIdeal.Value
public import proofs.«01_k».proof.Proof.Gen.XqXRefIdeal.Run
public import proofs.«01_k».proof.Proof.Gen.XqXRefIdeal.Read
public import Idealize.ShloMosaic.Lib.StableHlo.RunRead

@[expose] public section

set_option maxRecDepth 16384

noncomputable section

namespace Cert.Ffn.XqX

open Idealize.ShloMosaic Idealize.ShloMosaic.TcCoe Idealize.SL.Sem
open Cert.XqXIdeal Cert.XqXIdeal.Gen Cert.XqXRefIdeal.Read

variable (m : (ℓ : Loc nD τ sig) → Buf (Elt Ideal) ℓ)

/-! ## The arrays the call is given -/

theorem V_v0 (c : Dev nD) : V m c main_v0 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S8192x512.Idx → EReal) (y : S1024x512.Idx) (i : S8192x512.Idx)
    (h0 : (i 0).val = t.val * 1024 + (y 0).val) (h1 : (i 1).val = 0 * 512 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x512.Idx → EReal) (y : S1024x512.Idx) (i : S1024x512.Idx)
    (h0 : (i 0).val = 0 * 1024 + (y 0).val) (h1 : (i 1).val = 0 * 512 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S1024x512.Idx → EReal) (W : S1024x512.Idx → EReal) (r : Fin 1024) (l : Fin 1024) :
    out0_2 (F := Ideal) X W (ix2 r l) = ∑ k : Fin 512, X (ix2 r k) * W (ix2 l k) := by
  unfold out0_2
  refine (congrFun (View.canon_unit_zero off_zero _ _) _).trans ?_
  repeat rw [View.ld_unit_zero off_zero]
  unfold k0_pay1
  pointwise

/-! ## The reference's result at an index -/

theorem ref_apply (w : S1024x512.Idx → EReal) (a : S8192x512.Idx → EReal) (i : Fin 8192) (j : Fin 1024) :
    val_main_v1 (F := Ideal) w a (ix2 i j) = ∑ k : Fin 512, a (ix2 i k) * w (ix2 j k) := by
  rw [val_main_v1_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v1 (F := Ideal) (m ((c : Thread nD τ).loc main_arg1)) (m ((c : Thread nD τ).loc main_arg2)) := by
  have hN : cfg0.N = 8 := by decide +kernel
  refine (dats m 0 c).arrAt_eq_of_cover 2 _ (fun t _ => ?_) (fun i => ?_)
  · rw [Value.flushed2]
    refine funext fun (y : S1024x1024.Idx) => ?_
    have hy0 : (y 0).val < 1024 := (y 0).isLt
    have hy1 : (y 1).val < 1024 := (y 1).isLt
    have ht : t.val < 8 := hN ▸ t.isLt
    refine Eq.trans ?_ (read2 t _ y (ix2 ⟨t.val * 1024 + (y 0).val, by omega⟩ ⟨0 * 1024 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 1024 + (y 0).val, by omega⟩ k) rfl (by simp)).trans ?_
      exact congrFun (V_main_arg2 m c) _
    · refine (read1 t _ (ix2 (y 1) k) (ix2 ⟨0 * 1024 + (y 1).val, by omega⟩ k) rfl (by simp)).trans ?_
      exact congrFun (V_v0 m c) _
  · have h0 : (i 0 : Nat) < 8192 := (i 0).isLt
    have h1 : (i 1 : Nat) < 1024 := (i 1).isLt
    have ht : (i 0 : Nat) / 1024 < cfg0.N := by omega
    refine ⟨⟨(i 0 : Nat) / 1024, ht⟩, flush0_2 _, ?_⟩
    show (show S8192x1024.Idx from i) ∈ ((View.whole main_v1).slice (win0_2.rect ⟨(i 0 : Nat) / 1024, ht⟩)).set
    rw [View.set_slice_whole, Rect.mem_set_unit]
    exact fun a => match a with
      | ⟨0, _⟩ => within (index2 _).1 (by show (i 0 : Nat) / 1024 * 1024 ≤ (i 0 : Nat) ∧ (i 0 : Nat) < (i 0 : Nat) / 1024 * 1024 + 1024; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_XqXRefIdeal (hXqXRefIdeal := Cert.XqXRefIdeal.Gen.facts) := fun m g _ =>
  (θ_run Cert.XqXRefIdeal.defs _ _).mono (fun r h => ⟨fun c => (h c).2, sem_eq_zero_of_no_sems (by decide) r.2⟩)
    (Cert.XqXRefIdeal.Value.run m g)

/-- The call's results are the reference's. -/
theorem value : Cert.algebraic_XqXIdeal_XqXRefIdeal (hXqXIdeal := Cert.XqXIdeal.Gen.facts) (hXqXRefIdeal := Cert.XqXRefIdeal.Gen.facts) := by
  intro m g m' g' _ agree
  refine ⟨fun c => val_main_v1 (F := Ideal) (m ((c : Thread nD τ).loc main_arg1)) (m ((c : Thread nD τ).loc main_arg2)), ?_, ?_⟩
  · refine (θ_run Cert.XqXIdeal.defs _ _).mono (fun r h c => ?_) (Value.run_blocks m g)
    exact ⟨(h c).1.trans (final2 m c), (h c).2⟩
  · refine (θ_run Cert.XqXRefIdeal.defs _ _).mono (fun r h c => ?_) (Cert.XqXRefIdeal.Value.run m' g')
    obtain ⟨e0, e1, e2⟩ := agree c
    refine ⟨(h c).1.trans ?_, (h c).2⟩
    · rw [e1, e2]
      exact val_main_v1_eq _ _

end Cert.Ffn.XqX

end
-- ==== Proof.FfnXqW.lean ====
/- The weight gradient of the memory attention's query projection. -/
module

public import proofs.«01_k».proof.Defs
public import proofs.«01_k».proof.Proof.FfnLib
public import proofs.«01_k».proof.Proof.Gen.XqW.Frame
public import proofs.«01_k».proof.Proof.Gen.XqWIdeal.Value
public import proofs.«01_k».proof.Proof.Gen.XqWRefIdeal.Run
public import proofs.«01_k».proof.Proof.Gen.XqWRefIdeal.Read
public import Idealize.ShloMosaic.Lib.StableHlo.RunRead

@[expose] public section

set_option maxRecDepth 16384

noncomputable section

namespace Cert.Ffn.XqW

open Idealize.ShloMosaic Idealize.ShloMosaic.TcCoe Idealize.SL.Sem
open Cert.XqWIdeal Cert.XqWIdeal.Gen Cert.XqWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x1024.Idx → EReal) (y : S2048x1024.Idx) (i : S8192x1024.Idx)
    (h0 : (i 0).val = (t.val % 4) * 2048 + (y 0).val) (h1 : (i 1).val = (t.val / 4) * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x512.Idx → EReal) (y : S2048x512.Idx) (i : S8192x512.Idx)
    (h0 : (i 0).val = (t.val % 4) * 2048 + (y 0).val) (h1 : (i 1).val = 0 * 512 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S1024x512.Idx → EReal) (y : S1024x512.Idx) (i : S1024x512.Idx)
    (h0 : (i 0).val = (t.val / 4) * 1024 + (y 0).val) (h1 : (i 1).val = 0 * 512 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x1024.Idx → EReal) (x : S2048x512.Idx → EReal) (r : Fin 1024) (l : Fin 512) :
    k0_pay1 (F := Ideal) a x (ix2 r l) = ∑ k : Fin 2048, a (ix2 k r) * x (ix2 k l) := by
  unfold k0_pay1
  pointwise

theorem keep (a : S2048x1024.Idx → EReal) (x : S2048x512.Idx → EReal) (r : Fin 1024) (l : Fin 512) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x1024.Idx → EReal) (x : S2048x512.Idx → EReal) (q : S1024x512.Idx → EReal) (r : Fin 1024) (l : Fin 512) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x1024.Idx → EReal) (x : S2048x512.Idx → EReal) (q : S1024x512.Idx → EReal) (r : Fin 1024) (l : Fin 512) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 1024) (l : Fin 512) : ℕ → EReal :=
  term (n := 8192) (a := 1024) (b := 512) (m ((c : Thread nD τ).loc main_arg0)) (m ((c : Thread nD τ).loc main_arg2)) ⟨1024 * q.val + r.val, by omega⟩ l

/-- The two blocks a point is given. -/
abbrev ab (c : Dev nD) (t : Fin cfg0.N) : S2048x1024.Idx → EReal := iblk m c 0 t

abbrev xb (c : Dev nD) (t : Fin cfg0.N) : S2048x512.Idx → EReal := iblk m c 1 t

theorem terms (c : Dev nD) (t : Fin cfg0.N) (q : Fin 1) (hq : t.val / 4 = q.val) (r : Fin 1024) (l : Fin 512) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨1024 * q.val + r.val, by omega⟩) ?_ ?_).trans ?_
    · exact congrArg (· + k.val) (Nat.mul_comm _ _)
    · show 1024 * q.val + r.val = t.val / 4 * 1024 + r.val
      omega
    · exact congrFun (V_v0 m c) _
  · refine (read1 t _ (ix2 k l) (ix2 ⟨2048 * (t.val % 4) + k.val, by omega⟩ l) ?_ ?_).trans ?_
    · exact congrArg (· + k.val) (Nat.mul_comm _ _)
    · show l.val = 0 * 512 + l.val
      omega
    · exact congrFun (V_main_arg2 m c) _

theorem whole (c : Dev nD) (t : Fin cfg0.N) (h2 : t.val % 4 = 3) (q : Fin 1) (hq : t.val / 4 = q.val) (r : Fin 1024) (l : Fin 512) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (a : S8192x1024.Idx → EReal) (x : S8192x512.Idx → EReal) (i : Fin 1024) (j : Fin 512) :
    val_main_v3 (F := Ideal) a x (ix2 i j) = ∑ k : Fin 8192, a (ix2 k i) * x (ix2 k j) := by
  rw [val_main_v3_apply, val_main_v2_apply, val_main_v1_apply]
  show ∑ k : Fin 8192, _ = _
  refine Finset.sum_congr rfl fun k _ => (mul_comm _ _).trans ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v3 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S1024x512.Idx) => ?_
    have hy0 : (y 0).val < 1024 := (y 0).isLt
    have hy1 : (y 1).val < 512 := (y 1).isLt
    have ht : t.val < 4 := hN ▸ t.isLt
    refine Eq.trans ?_ (read2 t _ y (ix2 ⟨1024 * (t.val / 4) + (y 0).val, by omega⟩ ⟨(y 1).val, hy1⟩) (by show 1024 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 1024 := (i 0).isLt
    have h1 : (i 1 : Nat) < 512 := (i 1).isLt
    have ht : 4 * ((i 0 : Nat) / 1024) + 3 < cfg0.N := by omega
    refine ⟨⟨4 * ((i 0 : Nat) / 1024) + 3, ht⟩, (flush0_2 _).mpr (by show (4 * ((i 0 : Nat) / 1024) + 3) % 4 = 3; omega), ?_⟩
    show (show S1024x512.Idx from i) ∈ ((View.whole main_v1).slice (win0_2.rect ⟨4 * ((i 0 : Nat) / 1024) + 3, ht⟩)).set
    rw [View.set_slice_whole, Rect.mem_set_unit]
    exact fun a => match a with
      | ⟨0, _⟩ => within (index2 _).1 (by show ((4 * ((i 0 : Nat) / 1024) + 3) / 4) * 1024 ≤ (i 0 : Nat) ∧ (i 0 : Nat) < ((4 * ((i 0 : Nat) / 1024) + 3) / 4) * 1024 + 1024; omega)
      | ⟨1, _⟩ => within (index2 _).2 (by show 0 * 512 ≤ (i 1 : Nat) ∧ (i 1 : Nat) < 0 * 512 + 512; omega)

/-! ## The claims -/

/-- The reference runs, keeps its arguments, and has no semaphore. -/
theorem ref_frame : Cert.quiescent_XqWRefIdeal (hXqWRefIdeal := Cert.XqWRefIdeal.Gen.facts) := fun m g _ =>
  (θ_run Cert.XqWRefIdeal.defs _ _).mono (fun r h => ⟨fun c => (h c).2, sem_eq_zero_of_no_sems (by decide) r.2⟩)
    (Cert.XqWRefIdeal.Value.run m g)

/-- The call's results are the reference's. -/
theorem value : Cert.algebraic_XqWIdeal_XqWRefIdeal (hXqWIdeal := Cert.XqWIdeal.Gen.facts) (hXqWRefIdeal := Cert.XqWRefIdeal.Gen.facts) := by
  intro m g m' g' _ agree
  refine ⟨fun c => val_main_v3 (F := Ideal) (m ((c : Thread nD τ).loc main_arg0)) (m ((c : Thread nD τ).loc main_arg2)), ?_, ?_⟩
  · refine (θ_run Cert.XqWIdeal.defs _ _).mono (fun r h c => ?_) (Value.run_blocks m g)
    exact ⟨(h c).1.trans (final2 m c), (h c).2⟩
  · refine (θ_run Cert.XqWRefIdeal.defs _ _).mono (fun r h c => ?_) (Cert.XqWRefIdeal.Value.run m' g')
    obtain ⟨e0, e1, e2⟩ := agree c
    refine ⟨(h c).1.trans ?_, (h c).2⟩
    · rw [e0, e2]
      exact val_main_v3_eq _ _

end Cert.Ffn.XqW

end
-- ==== Proof.FfnXo.lean ====
/- The memory attention's output projection: the residual plus the attention's output times the weight, which the call takes transposed. -/
module

public import proofs.«01_k».proof.Defs
public import proofs.«01_k».proof.Proof.FfnLib
public import proofs.«01_k».proof.Proof.Gen.Xo.Frame
public import proofs.«01_k».proof.Proof.Gen.XoIdeal.Value
public import proofs.«01_k».proof.Proof.Gen.XoRefIdeal.Run
public import proofs.«01_k».proof.Proof.Gen.XoRefIdeal.Read
public import Idealize.ShloMosaic.Lib.StableHlo.RunRead

@[expose] public section

set_option maxRecDepth 16384

noncomputable section

namespace Cert.Ffn.Xo

open Idealize.ShloMosaic Idealize.ShloMosaic.TcCoe Idealize.SL.Sem
open Cert.XoIdeal Cert.XoIdeal.Gen Cert.XoRefIdeal.Read

variable (m : (ℓ : Loc nD τ sig) → Buf (Elt Ideal) ℓ)

/-! ## The arrays the call is given -/

theorem V_v1 (c : Dev nD) : V m c main_v1
    = transpose S1024x512 [1, 0] (m ((c : Thread nD τ).loc main_arg1) : S512x1024.Idx → EReal) transposes_S512x1024_S1024x512_1_0 := by
  unfold V
  after_reads_simp
  rfl

theorem V_v1_apply (c : Dev nD) (i : Fin 1024) (j : Fin 512) :
    V m c main_v1 (ix2 i j) = (m ((c : Thread nD τ).loc main_arg1) : S512x1024.Idx → EReal) (ix2 j i) := by
  rw [V_v1]
  generalize (m ((c : Thread nD τ).loc main_arg1) : S512x1024.Idx → EReal) = A
  pointwise

/-! ## Where a point's blocks sit -/

theorem index0 : ∀ t : Fin cfg0.N, win0_0.index t 0 = t.val ∧ win0_0.index t 1 = 0 := by decide +kernel

theorem read0 (t : Fin cfg0.N) (A : S8192x512.Idx → EReal) (y : S1024x512.Idx) (i : S8192x512.Idx)
    (h0 : (i 0).val = t.val * 1024 + (y 0).val) (h1 : (i 1).val = 0 * 512 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x512.Idx → EReal) (y : S1024x512.Idx) (i : S1024x512.Idx)
    (h0 : (i 0).val = 0 * 1024 + (y 0).val) (h1 : (i 1).val = 0 * 512 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

/-! ## One point -/

theorem point (X : S1024x512.Idx → EReal) (W : S1024x512.Idx → EReal) (R : S1024x1024.Idx → EReal) (r : Fin 1024) (l : Fin 1024) :
    out0_3 (F := Ideal) X W R (ix2 r l) = (∑ k : Fin 512, X (ix2 r k) * W (ix2 l k)) + R (ix2 r l) := by
  unfold out0_3
  refine (congrFun (View.canon_unit_zero off_zero _ _) _).trans ?_
  repeat rw [View.ld_unit_zero off_zero]
  unfold k0_pay1
  pointwise

/-! ## The reference's result at an index -/

theorem ref_apply (a : S8192x512.Idx → EReal) (w : S512x1024.Idx → EReal) (x : S8192x1024.Idx → EReal) (i : Fin 8192) (j : Fin 1024) :
    val_main_v1 (F := Ideal) a w x (ix2 i j) = (∑ k : Fin 512, a (ix2 i k) * w (ix2 k j)) + x (ix2 i j) := by
  rw [val_main_v1_apply, val_main_v0_apply]
  refine (add_comm _ _).trans (congrArg (· + x (ix2 i j)) (Finset.sum_congr rfl fun k _ => ?_))
  exact congrArg₂ (· * ·) (congrArg a (idx2 _ _ rfl rfl)) (congrArg w (idx2 _ _ rfl rfl))

/-! ## The array the call leaves -/

theorem final3 (c : Dev nD) : (dats m 0 c).arrAt 3 cfg0.N
    = val_main_v1 (F := Ideal) (m ((c : Thread nD τ).loc main_arg0)) (m ((c : Thread nD τ).loc main_arg1)) (m ((c : Thread nD τ).loc main_arg2)) := by
  have hN : cfg0.N = 8 := by decide +kernel
  refine (dats m 0 c).arrAt_eq_of_cover 3 _ (fun t _ => ?_) (fun i => ?_)
  · rw [Value.flushed3]
    refine funext fun (y : S1024x1024.Idx) => ?_
    have hy0 : (y 0).val < 1024 := (y 0).isLt
    have hy1 : (y 1).val < 1024 := (y 1).isLt
    have ht : t.val < 8 := hN ▸ t.isLt
    refine Eq.trans ?_ (read3 t _ y (ix2 ⟨t.val * 1024 + (y 0).val, by omega⟩ ⟨0 * 1024 + (y 1).val, by omega⟩) rfl rfl).symm
    rw [ref_apply]
    refine Eq.trans (congrArg (out0_3 (F := Ideal) (iblk m c 0 t) (iblk m c 1 t) (iblk m c 2 t)) (eq_ix2 y)) ?_
    refine (point _ _ _ (y 0) (y 1)).trans ?_
    refine congrArg₂ (· + ·) (Finset.sum_congr rfl fun k _ => congrArg₂ (· * ·) ?_ ?_) ?_
    · refine (read0 t _ (ix2 (y 0) k) (ix2 ⟨t.val * 1024 + (y 0).val, by omega⟩ k) rfl (by simp)).trans ?_
      exact congrFun (V_main_arg0 m c) _
    · refine (read1 t _ (ix2 (y 1) k) (ix2 ⟨0 * 1024 + (y 1).val, by omega⟩ k) rfl (by simp)).trans ?_
      exact V_v1_apply m c _ _
    · refine (read2 t _ (ix2 (y 0) (y 1)) (ix2 ⟨t.val * 1024 + (y 0).val, by omega⟩ ⟨0 * 1024 + (y 1).val, by omega⟩) rfl rfl).trans ?_
      exact congrFun (V_main_arg2 m c) _
  · have h0 : (i 0 : Nat) < 8192 := (i 0).isLt
    have h1 : (i 1 : Nat) < 1024 := (i 1).isLt
    have ht : (i 0 : Nat) / 1024 < cfg0.N := by omega
    refine ⟨⟨(i 0 : Nat) / 1024, ht⟩, flush0_3 _, ?_⟩
    show (show S8192x1024.Idx from i) ∈ ((View.whole main_v2).slice (win0_3.rect ⟨(i 0 : Nat) / 1024, ht⟩)).set
    rw [View.set_slice_whole, Rect.mem_set_unit]
    exact fun a => match a with
      | ⟨0, _⟩ => within (index3 _).1 (by show (i 0 : Nat) / 1024 * 1024 ≤ (i 0 : Nat) ∧ (i 0 : Nat) < (i 0 : Nat) / 1024 * 1024 + 1024; omega)
      | ⟨1, _⟩ => within (index3 _).2 (by show 0 * 1024 ≤ (i 1 : Nat) ∧ (i 1 : Nat) < 0 * 1024 + 1024; omega)

/-! ## The claims -/

/-- The reference runs, keeps its arguments, and has no semaphore. -/
theorem ref_frame : Cert.quiescent_XoRefIdeal (hXoRefIdeal := Cert.XoRefIdeal.Gen.facts) := fun m g _ =>
  (θ_run Cert.XoRefIdeal.defs _ _).mono (fun r h => ⟨fun c => (h c).2, sem_eq_zero_of_no_sems (by decide) r.2⟩)
    (Cert.XoRefIdeal.Value.run m g)

/-- The call's results are the reference's. -/
theorem value : Cert.algebraic_XoIdeal_XoRefIdeal (hXoIdeal := Cert.XoIdeal.Gen.facts) (hXoRefIdeal := Cert.XoRefIdeal.Gen.facts) := by
  intro m g m' g' _ agree
  refine ⟨fun c => val_main_v1 (F := Ideal) (m ((c : Thread nD τ).loc main_arg0)) (m ((c : Thread nD τ).loc main_arg1)) (m ((c : Thread nD τ).loc main_arg2)), ?_, ?_⟩
  · refine (θ_run Cert.XoIdeal.defs _ _).mono (fun r h c => ?_) (Value.run_blocks m g)
    exact ⟨(h c).1.trans (final3 m c), (h c).2⟩
  · refine (θ_run Cert.XoRefIdeal.defs _ _).mono (fun r h c => ?_) (Cert.XoRefIdeal.Value.run m' g')
    obtain ⟨e0, e1, e2⟩ := agree c
    refine ⟨(h c).1.trans ?_, (h c).2⟩
    · rw [e0, e1, e2]
      exact val_main_v1_eq _ _ _

end Cert.Ffn.Xo

end
-- ==== Proof.FfnXoX.lean ====
/- The input gradient of the memory attention's output projection. -/
module

public import proofs.«01_k».proof.Defs
public import proofs.«01_k».proof.Proof.FfnLib
public import proofs.«01_k».proof.Proof.Gen.XoX.Frame
public import proofs.«01_k».proof.Proof.Gen.XoXIdeal.Value
public import proofs.«01_k».proof.Proof.Gen.XoXRefIdeal.Run
public import proofs.«01_k».proof.Proof.Gen.XoXRefIdeal.Read
public import Idealize.ShloMosaic.Lib.StableHlo.RunRead

@[expose] public section

set_option maxRecDepth 16384

noncomputable section

namespace Cert.Ffn.XoX

open Idealize.ShloMosaic Idealize.ShloMosaic.TcCoe Idealize.SL.Sem
open Cert.XoXIdeal Cert.XoXIdeal.Gen Cert.XoXRefIdeal.Read

variable (m : (ℓ : Loc nD τ sig) → Buf (Elt Ideal) ℓ)

/-! ## The arrays the call is given -/

theorem V_v1 (c : Dev nD) : V m c main_v1
    = transpose S1024x512 [1, 0] (m ((c : Thread nD τ).loc main_arg1) : S512x1024.Idx → EReal) transposes_S512x1024_S1024x512_1_0 := by
  unfold V
  after_reads_simp
  rfl

theorem V_v1_apply (c : Dev nD) (i : Fin 1024) (j : Fin 512) :
    V m c main_v1 (ix2 i j) = (m ((c : Thread nD τ).loc main_arg1) : S512x1024.Idx → EReal) (ix2 j i) := by
  rw [V_v1]
  generalize (m ((c : Thread nD τ).loc main_arg1) : S512x1024.Idx → EReal) = A
  pointwise

/-! ## Where a point's blocks sit -/

theorem index0 : ∀ t : Fin cfg0.N, win0_0.index t 0 = t.val ∧ win0_0.index t 1 = 0 := by decide +kernel

theorem read0 (t : Fin cfg0.N) (A : S8192x1024.Idx → EReal) (y : S1024x1024.Idx) (i : S8192x1024.Idx)
    (h0 : (i 0).val = t.val * 1024 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x512.Idx → EReal) (y : S1024x512.Idx) (i : S1024x512.Idx)
    (h0 : (i 0).val = 0 * 1024 + (y 0).val) (h1 : (i 1).val = 0 * 512 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x512.Idx → EReal) (y : S1024x512.Idx) (i : S8192x512.Idx)
    (h0 : (i 0).val = t.val * 1024 + (y 0).val) (h1 : (i 1).val = 0 * 512 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S1024x1024.Idx → EReal) (W : S1024x512.Idx → EReal) (r : Fin 1024) (l : Fin 512) :
    out0_2 (F := Ideal) X W (ix2 r l) = ∑ k : Fin 1024, X (ix2 r k) * W (ix2 k l) := by
  unfold out0_2
  refine (congrFun (View.canon_unit_zero off_zero _ _) _).trans ?_
  repeat rw [View.ld_unit_zero off_zero]
  unfold k0_pay1
  pointwise

/-! ## The reference's result at an index -/

theorem ref_apply (w : S512x1024.Idx → EReal) (a : S8192x1024.Idx → EReal) (i : Fin 8192) (j : Fin 512) :
    val_main_v1 (F := Ideal) w a (ix2 i j) = ∑ k : Fin 1024, a (ix2 i k) * w (ix2 j k) := by
  rw [val_main_v1_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v1 (F := Ideal) (m ((c : Thread nD τ).loc main_arg1)) (m ((c : Thread nD τ).loc main_arg2)) := by
  have hN : cfg0.N = 8 := by decide +kernel
  refine (dats m 0 c).arrAt_eq_of_cover 2 _ (fun t _ => ?_) (fun i => ?_)
  · rw [Value.flushed2]
    refine funext fun (y : S1024x512.Idx) => ?_
    have hy0 : (y 0).val < 1024 := (y 0).isLt
    have hy1 : (y 1).val < 512 := (y 1).isLt
    have ht : t.val < 8 := hN ▸ t.isLt
    refine Eq.trans ?_ (read2 t _ y (ix2 ⟨t.val * 1024 + (y 0).val, by omega⟩ ⟨0 * 512 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 1024 + (y 0).val, by omega⟩ k) rfl (by simp)).trans ?_
      exact congrFun (V_main_arg2 m c) _
    · refine (read1 t _ (ix2 k (y 1)) (ix2 k ⟨0 * 512 + (y 1).val, by omega⟩) (by simp) rfl).trans ?_
      exact V_v1_apply m c _ _
  · have h0 : (i 0 : Nat) < 8192 := (i 0).isLt
    have h1 : (i 1 : Nat) < 512 := (i 1).isLt
    have ht : (i 0 : Nat) / 1024 < cfg0.N := by omega
    refine ⟨⟨(i 0 : Nat) / 1024, ht⟩, flush0_2 _, ?_⟩
    show (show S8192x512.Idx from i) ∈ ((View.whole main_v2).slice (win0_2.rect ⟨(i 0 : Nat) / 1024, ht⟩)).set
    rw [View.set_slice_whole, Rect.mem_set_unit]
    exact fun a => match a with
      | ⟨0, _⟩ => within (index2 _).1 (by show (i 0 : Nat) / 1024 * 1024 ≤ (i 0 : Nat) ∧ (i 0 : Nat) < (i 0 : Nat) / 1024 * 1024 + 1024; omega)
      | ⟨1, _⟩ => within (index2 _).2 (by show 0 * 512 ≤ (i 1 : Nat) ∧ (i 1 : Nat) < 0 * 512 + 512; omega)

/-! ## The claims -/

/-- The reference runs, keeps its arguments, and has no semaphore. -/
theorem ref_frame : Cert.quiescent_XoXRefIdeal (hXoXRefIdeal := Cert.XoXRefIdeal.Gen.facts) := fun m g _ =>
  (θ_run Cert.XoXRefIdeal.defs _ _).mono (fun r h => ⟨fun c => (h c).2, sem_eq_zero_of_no_sems (by decide) r.2⟩)
    (Cert.XoXRefIdeal.Value.run m g)

/-- The call's results are the reference's. -/
theorem value : Cert.algebraic_XoXIdeal_XoXRefIdeal (hXoXIdeal := Cert.XoXIdeal.Gen.facts) (hXoXRefIdeal := Cert.XoXRefIdeal.Gen.facts) := by
  intro m g m' g' _ agree
  refine ⟨fun c => val_main_v1 (F := Ideal) (m ((c : Thread nD τ).loc main_arg1)) (m ((c : Thread nD τ).loc main_arg2)), ?_, ?_⟩
  · refine (θ_run Cert.XoXIdeal.defs _ _).mono (fun r h c => ?_) (Value.run_blocks m g)
    exact ⟨(h c).1.trans (final2 m c), (h c).2⟩
  · refine (θ_run Cert.XoXRefIdeal.defs _ _).mono (fun r h c => ?_) (Cert.XoXRefIdeal.Value.run m' g')
    obtain ⟨e0, e1, e2⟩ := agree c
    refine ⟨(h c).1.trans ?_, (h c).2⟩
    · rw [e1, e2]
      exact val_main_v1_eq _ _

end Cert.Ffn.XoX

end
-- ==== Proof.FfnXoW.lean ====
/- The weight gradient of the memory attention's output projection, transposed. -/
module

public import proofs.«01_k».proof.Defs
public import proofs.«01_k».proof.Proof.FfnLib
public import proofs.«01_k».proof.Proof.Gen.XoW.Frame
public import proofs.«01_k».proof.Proof.Gen.XoWIdeal.Value
public import proofs.«01_k».proof.Proof.Gen.XoWRefIdeal.Run
public import proofs.«01_k».proof.Proof.Gen.XoWRefIdeal.Read
public import Idealize.ShloMosaic.Lib.StableHlo.RunRead

@[expose] public section

set_option maxRecDepth 16384

noncomputable section

namespace Cert.Ffn.XoW

open Idealize.ShloMosaic Idealize.ShloMosaic.TcCoe Idealize.SL.Sem
open Cert.XoWIdeal Cert.XoWIdeal.Gen Cert.XoWRefIdeal.Read

variable (m : (ℓ : Loc nD τ sig) → Buf (Elt Ideal) ℓ)

/-! ## The arrays the call is given -/

/-! ## Where a point's blocks sit -/

theorem index0 : ∀ t : Fin cfg0.N, win0_0.index t 0 = (t.val % 4) ∧ win0_0.index t 1 = (t.val / 4) := by decide +kernel

theorem read0 (t : Fin cfg0.N) (A : S8192x1024.Idx → EReal) (y : S2048x1024.Idx) (i : S8192x1024.Idx)
    (h0 : (i 0).val = (t.val % 4) * 2048 + (y 0).val) (h1 : (i 1).val = (t.val / 4) * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x512.Idx → EReal) (y : S2048x512.Idx) (i : S8192x512.Idx)
    (h0 : (i 0).val = (t.val % 4) * 2048 + (y 0).val) (h1 : (i 1).val = 0 * 512 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S1024x512.Idx → EReal) (y : S1024x512.Idx) (i : S1024x512.Idx)
    (h0 : (i 0).val = (t.val / 4) * 1024 + (y 0).val) (h1 : (i 1).val = 0 * 512 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x1024.Idx → EReal) (x : S2048x512.Idx → EReal) (r : Fin 1024) (l : Fin 512) :
    k0_pay1 (F := Ideal) a x (ix2 r l) = ∑ k : Fin 2048, a (ix2 k r) * x (ix2 k l) := by
  unfold k0_pay1
  pointwise

theorem keep (a : S2048x1024.Idx → EReal) (x : S2048x512.Idx → EReal) (r : Fin 1024) (l : Fin 512) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x1024.Idx → EReal) (x : S2048x512.Idx → EReal) (q : S1024x512.Idx → EReal) (r : Fin 1024) (l : Fin 512) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x1024.Idx → EReal) (x : S2048x512.Idx → EReal) (q : S1024x512.Idx → EReal) (r : Fin 1024) (l : Fin 512) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 1024) (l : Fin 512) : ℕ → EReal :=
  term (n := 8192) (a := 1024) (b := 512) (m ((c : Thread nD τ).loc main_arg2)) (m ((c : Thread nD τ).loc main_arg0)) ⟨1024 * q.val + r.val, by omega⟩ l

/-- The two blocks a point is given. -/
abbrev ab (c : Dev nD) (t : Fin cfg0.N) : S2048x1024.Idx → EReal := iblk m c 0 t

abbrev xb (c : Dev nD) (t : Fin cfg0.N) : S2048x512.Idx → EReal := iblk m c 1 t

theorem terms (c : Dev nD) (t : Fin cfg0.N) (q : Fin 1) (hq : t.val / 4 = q.val) (r : Fin 1024) (l : Fin 512) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨1024 * q.val + r.val, by omega⟩) ?_ ?_).trans ?_
    · exact congrArg (· + k.val) (Nat.mul_comm _ _)
    · show 1024 * q.val + r.val = t.val / 4 * 1024 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 512 + l.val
      omega
    · exact congrFun (V_main_arg0 m c) _

theorem whole (c : Dev nD) (t : Fin cfg0.N) (h2 : t.val % 4 = 3) (q : Fin 1) (hq : t.val / 4 = q.val) (r : Fin 1024) (l : Fin 512) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x512.Idx → EReal) (a : S8192x1024.Idx → EReal) (i : Fin 1024) (j : Fin 512) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S1024x512.Idx) => ?_
    have hy0 : (y 0).val < 1024 := (y 0).isLt
    have hy1 : (y 1).val < 512 := (y 1).isLt
    have ht : t.val < 4 := hN ▸ t.isLt
    refine Eq.trans ?_ (read2 t _ y (ix2 ⟨1024 * (t.val / 4) + (y 0).val, by omega⟩ ⟨(y 1).val, hy1⟩) (by show 1024 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 1024 := (i 0).isLt
    have h1 : (i 1 : Nat) < 512 := (i 1).isLt
    have ht : 4 * ((i 0 : Nat) / 1024) + 3 < cfg0.N := by omega
    refine ⟨⟨4 * ((i 0 : Nat) / 1024) + 3, ht⟩, (flush0_2 _).mpr (by show (4 * ((i 0 : Nat) / 1024) + 3) % 4 = 3; omega), ?_⟩
    show (show S1024x512.Idx from i) ∈ ((View.whole main_v0).slice (win0_2.rect ⟨4 * ((i 0 : Nat) / 1024) + 3, ht⟩)).set
    rw [View.set_slice_whole, Rect.mem_set_unit]
    exact fun a => match a with
      | ⟨0, _⟩ => within (index2 _).1 (by show ((4 * ((i 0 : Nat) / 1024) + 3) / 4) * 1024 ≤ (i 0 : Nat) ∧ (i 0 : Nat) < ((4 * ((i 0 : Nat) / 1024) + 3) / 4) * 1024 + 1024; omega)
      | ⟨1, _⟩ => within (index2 _).2 (by show 0 * 512 ≤ (i 1 : Nat) ∧ (i 1 : Nat) < 0 * 512 + 512; omega)

/-! ## The claims -/

/-- The reference runs, keeps its arguments, and has no semaphore. -/
theorem ref_frame : Cert.quiescent_XoWRefIdeal (hXoWRefIdeal := Cert.XoWRefIdeal.Gen.facts) := fun m g _ =>
  (θ_run Cert.XoWRefIdeal.defs _ _).mono (fun r h => ⟨fun c => (h c).2, sem_eq_zero_of_no_sems (by decide) r.2⟩)
    (Cert.XoWRefIdeal.Value.run m g)

/-- The call's results are the reference's. -/
theorem value : Cert.algebraic_XoWIdeal_XoWRefIdeal (hXoWIdeal := Cert.XoWIdeal.Gen.facts) (hXoWRefIdeal := Cert.XoWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.XoWIdeal.defs _ _).mono (fun r h c => ?_) (Value.run_blocks m g)
    exact ⟨(h c).1.trans (final2 m c), (h c).2⟩
  · refine (θ_run Cert.XoWRefIdeal.defs _ _).mono (fun r h c => ?_) (Cert.XoWRefIdeal.Value.run m' g')
    obtain ⟨e0, e1, e2⟩ := agree c
    refine ⟨(h c).1.trans ?_, (h c).2⟩
    · rw [e0, e2]
      exact val_main_v4_eq _ _

end Cert.Ffn.XoW

end
-- ==== Proof.FfnQkvW.lean ====
/- The gradient of the query, key or value part of a weight, transposed. -/
module

public import proofs.«01_k».proof.Defs
public import proofs.«01_k».proof.Proof.FfnLib
public import proofs.«01_k».proof.Proof.Gen.QkvW.Frame
public import proofs.«01_k».proof.Proof.Gen.QkvWIdeal.Value
public import proofs.«01_k».proof.Proof.Gen.QkvWRefIdeal.Run
public import proofs.«01_k».proof.Proof.Gen.QkvWRefIdeal.Read
public import Idealize.ShloMosaic.Lib.StableHlo.RunRead

@[expose] public section

set_option maxRecDepth 16384

noncomputable section

namespace Cert.Ffn.QkvW

open Idealize.ShloMosaic Idealize.ShloMosaic.TcCoe Idealize.SL.Sem
open Cert.QkvWIdeal Cert.QkvWIdeal.Gen Cert.QkvWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x1024.Idx → EReal) (y : S2048x1024.Idx) (i : S8192x1024.Idx)
    (h0 : (i 0).val = (t.val % 4) * 2048 + (y 0).val) (h1 : (i 1).val = (t.val / 4) * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x1024.Idx → EReal) (y : S2048x1024.Idx) (i : S8192x1024.Idx)
    (h0 : (i 0).val = (t.val % 4) * 2048 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S1024x1024.Idx → EReal) (y : S1024x1024.Idx) (i : S1024x1024.Idx)
    (h0 : (i 0).val = (t.val / 4) * 1024 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x1024.Idx → EReal) (x : S2048x1024.Idx → EReal) (r : Fin 1024) (l : Fin 1024) :
    k0_pay1 (F := Ideal) a x (ix2 r l) = ∑ k : Fin 2048, a (ix2 k r) * x (ix2 k l) := by
  unfold k0_pay1
  pointwise

theorem keep (a : S2048x1024.Idx → EReal) (x : S2048x1024.Idx → EReal) (r : Fin 1024) (l : Fin 1024) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x1024.Idx → EReal) (x : S2048x1024.Idx → EReal) (q : S1024x1024.Idx → EReal) (r : Fin 1024) (l : Fin 1024) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x1024.Idx → EReal) (x : S2048x1024.Idx → EReal) (q : S1024x1024.Idx → EReal) (r : Fin 1024) (l : Fin 1024) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 1024) (l : Fin 1024) : ℕ → EReal :=
  term (n := 8192) (a := 1024) (b := 1024) (m ((c : Thread nD τ).loc main_arg2)) (m ((c : Thread nD τ).loc main_arg0)) ⟨1024 * q.val + r.val, by omega⟩ l

/-- The two blocks a point is given. -/
abbrev ab (c : Dev nD) (t : Fin cfg0.N) : S2048x1024.Idx → EReal := iblk m c 0 t

abbrev xb (c : Dev nD) (t : Fin cfg0.N) : S2048x1024.Idx → EReal := iblk m c 1 t

theorem terms (c : Dev nD) (t : Fin cfg0.N) (q : Fin 1) (hq : t.val / 4 = q.val) (r : Fin 1024) (l : Fin 1024) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨1024 * q.val + r.val, by omega⟩) ?_ ?_).trans ?_
    · exact congrArg (· + k.val) (Nat.mul_comm _ _)
    · show 1024 * q.val + r.val = t.val / 4 * 1024 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 1024 + l.val
      omega
    · exact congrFun (V_v0 m c) _

theorem whole (c : Dev nD) (t : Fin cfg0.N) (h2 : t.val % 4 = 3) (q : Fin 1) (hq : t.val / 4 = q.val) (r : Fin 1024) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x1024.Idx → EReal) (a : S8192x1024.Idx → EReal) (i : Fin 1024) (j : Fin 1024) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S1024x1024.Idx) => ?_
    have hy0 : (y 0).val < 1024 := (y 0).isLt
    have hy1 : (y 1).val < 1024 := (y 1).isLt
    have ht : t.val < 4 := hN ▸ t.isLt
    refine Eq.trans ?_ (read2 t _ y (ix2 ⟨1024 * (t.val / 4) + (y 0).val, by omega⟩ ⟨(y 1).val, hy1⟩) (by show 1024 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 1024 := (i 0).isLt
    have h1 : (i 1 : Nat) < 1024 := (i 1).isLt
    have ht : 4 * ((i 0 : Nat) / 1024) + 3 < cfg0.N := by omega
    refine ⟨⟨4 * ((i 0 : Nat) / 1024) + 3, ht⟩, (flush0_2 _).mpr (by show (4 * ((i 0 : Nat) / 1024) + 3) % 4 = 3; omega), ?_⟩
    show (show S1024x1024.Idx from i) ∈ ((View.whole main_v1).slice (win0_2.rect ⟨4 * ((i 0 : Nat) / 1024) + 3, ht⟩)).set
    rw [View.set_slice_whole, Rect.mem_set_unit]
    exact fun a => match a with
      | ⟨0, _⟩ => within (index2 _).1 (by show ((4 * ((i 0 : Nat) / 1024) + 3) / 4) * 1024 ≤ (i 0 : Nat) ∧ (i 0 : Nat) < ((4 * ((i 0 : Nat) / 1024) + 3) / 4) * 1024 + 1024; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_QkvWRefIdeal (hQkvWRefIdeal := Cert.QkvWRefIdeal.Gen.facts) := fun m g _ =>
  (θ_run Cert.QkvWRefIdeal.defs _ _).mono (fun r h => ⟨fun c => (h c).2, sem_eq_zero_of_no_sems (by decide) r.2⟩)
    (Cert.QkvWRefIdeal.Value.run m g)

/-- The call's results are the reference's. -/
theorem value : Cert.algebraic_QkvWIdeal_QkvWRefIdeal (hQkvWIdeal := Cert.QkvWIdeal.Gen.facts) (hQkvWRefIdeal := Cert.QkvWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.QkvWIdeal.defs _ _).mono (fun r h c => ?_) (Value.run_blocks m g)
    exact ⟨(h c).1.trans (final2 m c), (h c).2⟩
  · refine (θ_run Cert.QkvWRefIdeal.defs _ _).mono (fun r h c => ?_) (Cert.QkvWRefIdeal.Value.run m' g')
    obtain ⟨e0, e1, e2⟩ := agree c
    refine ⟨(h c).1.trans ?_, (h c).2⟩
    · rw [e0, e2]
      exact val_main_v4_eq _ _

end Cert.Ffn.QkvW

end
-- ==== Proof.FfnInX.lean ====
/- The input gradient of layer 0's input projection: five products, summed. -/
module

public import proofs.«01_k».proof.Defs
public import proofs.«01_k».proof.Proof.FfnLib
public import proofs.«01_k».proof.Proof.Gen.InX.Frame
public import proofs.«01_k».proof.Proof.Gen.InXIdeal.Value
public import proofs.«01_k».proof.Proof.Gen.InXRefIdeal.Run
public import proofs.«01_k».proof.Proof.Gen.InXRefIdeal.Read
public import Idealize.ShloMosaic.Lib.StableHlo.RunRead
public import Idealize.ShloMosaic.Lib.KernelVsHost

@[expose] public section

set_option maxRecDepth 16384

noncomputable section

namespace Cert.Ffn.InX

open Idealize.ShloMosaic Idealize.ShloMosaic.TcCoe Idealize.SL.Sem
open Cert.InXIdeal Cert.InXIdeal.Gen Cert.InXRefIdeal.Read

variable (m : (ℓ : Loc nD τ sig) → Buf (Elt Ideal) ℓ)

/-! ## The arrays the call is given -/

theorem V_v2 (c : Dev nD) : V m c main_v2
    = extractStridedSlice S512x1024 ![0, 0] (transpose S1440x1024 [1, 0] (m ((c : Thread nD τ).loc main_arg1) : S1024x1440.Idx → EReal) transposes_S1024x1440_S1440x1024_1_0) slices_S1440x1024_S512x1024_0_0 := by
  unfold V
  after_reads_simp
  rfl

theorem V_v2_apply (c : Dev nD) (i : Fin 512) (j : Fin 1024) :
    V m c main_v2 (ix2 i j) = (m ((c : Thread nD τ).loc main_arg1) : S1024x1440.Idx → EReal) (ix2 j ⟨0 + i.val, by omega⟩) := by
  rw [V_v2]
  generalize (m ((c : Thread nD τ).loc main_arg1) : S1024x1440.Idx → EReal) = A
  pointwise

theorem V_v3 (c : Dev nD) : V m c main_v3
    = extractStridedSlice S256x1024 ![512, 0] (transpose S1440x1024 [1, 0] (m ((c : Thread nD τ).loc main_arg1) : S1024x1440.Idx → EReal) transposes_S1024x1440_S1440x1024_1_0) slices_S1440x1024_S256x1024_512_0 := by
  unfold V
  after_reads_simp
  rfl

theorem V_v3_apply (c : Dev nD) (i : Fin 256) (j : Fin 1024) :
    V m c main_v3 (ix2 i j) = (m ((c : Thread nD τ).loc main_arg1) : S1024x1440.Idx → EReal) (ix2 j ⟨512 + i.val, by omega⟩) := by
  rw [V_v3]
  generalize (m ((c : Thread nD τ).loc main_arg1) : S1024x1440.Idx → EReal) = A
  pointwise

theorem V_v4 (c : Dev nD) : V m c main_v4
    = extractStridedSlice S384x1024 ![768, 0] (transpose S1440x1024 [1, 0] (m ((c : Thread nD τ).loc main_arg1) : S1024x1440.Idx → EReal) transposes_S1024x1440_S1440x1024_1_0) slices_S1440x1024_S384x1024_768_0 := by
  unfold V
  after_reads_simp
  rfl

theorem V_v4_apply (c : Dev nD) (i : Fin 384) (j : Fin 1024) :
    V m c main_v4 (ix2 i j) = (m ((c : Thread nD τ).loc main_arg1) : S1024x1440.Idx → EReal) (ix2 j ⟨768 + i.val, by omega⟩) := by
  rw [V_v4]
  generalize (m ((c : Thread nD τ).loc main_arg1) : S1024x1440.Idx → EReal) = A
  pointwise

theorem V_v5 (c : Dev nD) : V m c main_v5
    = extractStridedSlice S256x1024 ![1152, 0] (transpose S1440x1024 [1, 0] (m ((c : Thread nD τ).loc main_arg1) : S1024x1440.Idx → EReal) transposes_S1024x1440_S1440x1024_1_0) slices_S1440x1024_S256x1024_1152_0 := by
  unfold V
  after_reads_simp
  rfl

theorem V_v5_apply (c : Dev nD) (i : Fin 256) (j : Fin 1024) :
    V m c main_v5 (ix2 i j) = (m ((c : Thread nD τ).loc main_arg1) : S1024x1440.Idx → EReal) (ix2 j ⟨1152 + i.val, by omega⟩) := by
  rw [V_v5]
  generalize (m ((c : Thread nD τ).loc main_arg1) : S1024x1440.Idx → EReal) = A
  pointwise

/-- The shared key's rows of the weight, put at rows 64 to 95 of 128. -/
theorem V_v7 (c : Dev nD) : V m c main_v7
    = pad S128x1024 ![64, 0] ![32, 0] ![0, 0] (extractStridedSlice S32x1024 ![1408, 0] (transpose S1440x1024 [1, 0] (m ((c : Thread nD τ).loc main_arg1) : S1024x1440.Idx → EReal) transposes_S1024x1440_S1440x1024_1_0) slices_S1440x1024_S32x1024_1408_0)
        (sitofp (F := Ideal) .bf16 (constantI S_ 32 0#32)) pads_S32x1024_S128x1024_64320_000 h_S_ := by
  unfold V
  after_reads_simp
  rfl

theorem V_v7_in (c : Dev nD) (i : Fin 32) (j : Fin 1024) :
    V m c main_v7 (ix2 ⟨64 + i.val, by omega⟩ j) = (m ((c : Thread nD τ).loc main_arg1) : S1024x1440.Idx → EReal) (ix2 j ⟨1408 + i.val, by omega⟩) := by
  rw [V_v7]
  generalize (m ((c : Thread nD τ).loc main_arg1) : S1024x1440.Idx → EReal) = A
  refine (pad_apply_of_inside _ _ _ _ _ _ _ _ (ix2 i j) fun a => ?_).trans ?_
  · match a with
    | ⟨0, _⟩ => show 64 + i.val = 64 + i.val * (0 + 1); omega
    | ⟨1, _⟩ => show j.val = 0 + j.val * (0 + 1); omega
  · pointwise

theorem V_v7_out (c : Dev nD) (i : Fin 128) (hi : i.val < 64 ∨ 96 ≤ i.val) (j : Fin 1024) : V m c main_v7 (ix2 i j) = (0 : EReal) := by
  rw [V_v7]
  generalize (m ((c : Thread nD τ).loc main_arg1) : S1024x1440.Idx → EReal) = A
  refine (pad_apply_of_not_inside _ _ _ _ _ _ _ _ (0 : Fin 2) fun h => ?_).trans ?_
  · have h1 : 64 ≤ i.val := h.1
    have h2 : (i.val - 64) / (0 + 1) < 32 := h.2.2
    omega
  · show (((0#32 : BitVec 32).toInt : ℝ) : EReal) = 0
    simp

/-! ## Where a point's blocks sit -/

theorem index0 : ∀ t : Fin cfg0.N, win0_0.index t 0 = t.val ∧ win0_0.index t 1 = 0 := by decide +kernel

theorem read0 (t : Fin cfg0.N) (A : S8192x512.Idx → EReal) (y : S512x512.Idx) (i : S8192x512.Idx)
    (h0 : (i 0).val = t.val * 512 + (y 0).val) (h1 : (i 1).val = 0 * 512 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = t.val ∧ win0_1.index t 1 = 0 := by decide +kernel

theorem read1 (t : Fin cfg0.N) (A : S8192x256.Idx → EReal) (y : S512x256.Idx) (i : S8192x256.Idx)
    (h0 : (i 0).val = t.val * 512 + (y 0).val) (h1 : (i 1).val = 0 * 256 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x384.Idx → EReal) (y : S512x384.Idx) (i : S8192x384.Idx)
    (h0 : (i 0).val = t.val * 512 + (y 0).val) (h1 : (i 1).val = 0 * 384 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x256.Idx → EReal) (y : S512x256.Idx) (i : S8192x256.Idx)
    (h0 : (i 0).val = t.val * 512 + (y 0).val) (h1 : (i 1).val = 0 * 256 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = t.val ∧ win0_4.index t 1 = 0 := by decide +kernel

theorem read4 (t : Fin cfg0.N) (A : S8192x128.Idx → EReal) (y : S512x128.Idx) (i : S8192x128.Idx)
    (h0 : (i 0).val = t.val * 512 + (y 0).val) (h1 : (i 1).val = 0 * 128 + (y 1).val) :
    ((cfg0.win 4).blk t).view.read (Elt Ideal) A y = A i :=
  congrArg A (idx2 _ _ (emb_at win0_4 t y 0 (index4 t).1 h0) (emb_at win0_4 t y 1 (index4 t).2 h1))

theorem index5 : ∀ t : Fin cfg0.N, win0_5.index t 0 = 0 ∧ win0_5.index t 1 = 0 := by decide +kernel

theorem read5 (t : Fin cfg0.N) (A : S512x1024.Idx → EReal) (y : S512x1024.Idx) (i : S512x1024.Idx)
    (h0 : (i 0).val = 0 * 512 + (y 0).val) (h1 : (i 1).val = 0 * 1024 + (y 1).val) :
    ((cfg0.win 5).blk t).view.read (Elt Ideal) A y = A i :=
  congrArg A (idx2 _ _ (emb_at win0_5 t y 0 (index5 t).1 h0) (emb_at win0_5 t y 1 (index5 t).2 h1))

theorem index6 : ∀ t : Fin cfg0.N, win0_6.index t 0 = 0 ∧ win0_6.index t 1 = 0 := by decide +kernel

theorem read6 (t : Fin cfg0.N) (A : S256x1024.Idx → EReal) (y : S256x1024.Idx) (i : S256x1024.Idx)
    (h0 : (i 0).val = 0 * 256 + (y 0).val) (h1 : (i 1).val = 0 * 1024 + (y 1).val) :
    ((cfg0.win 6).blk t).view.read (Elt Ideal) A y = A i :=
  congrArg A (idx2 _ _ (emb_at win0_6 t y 0 (index6 t).1 h0) (emb_at win0_6 t y 1 (index6 t).2 h1))

theorem index7 : ∀ t : Fin cfg0.N, win0_7.index t 0 = 0 ∧ win0_7.index t 1 = 0 := by decide +kernel

theorem read7 (t : Fin cfg0.N) (A : S384x1024.Idx → EReal) (y : S384x1024.Idx) (i : S384x1024.Idx)
    (h0 : (i 0).val = 0 * 384 + (y 0).val) (h1 : (i 1).val = 0 * 1024 + (y 1).val) :
    ((cfg0.win 7).blk t).view.read (Elt Ideal) A y = A i :=
  congrArg A (idx2 _ _ (emb_at win0_7 t y 0 (index7 t).1 h0) (emb_at win0_7 t y 1 (index7 t).2 h1))

theorem index8 : ∀ t : Fin cfg0.N, win0_8.index t 0 = 0 ∧ win0_8.index t 1 = 0 := by decide +kernel

theorem read8 (t : Fin cfg0.N) (A : S256x1024.Idx → EReal) (y : S256x1024.Idx) (i : S256x1024.Idx)
    (h0 : (i 0).val = 0 * 256 + (y 0).val) (h1 : (i 1).val = 0 * 1024 + (y 1).val) :
    ((cfg0.win 8).blk t).view.read (Elt Ideal) A y = A i :=
  congrArg A (idx2 _ _ (emb_at win0_8 t y 0 (index8 t).1 h0) (emb_at win0_8 t y 1 (index8 t).2 h1))

theorem index9 : ∀ t : Fin cfg0.N, win0_9.index t 0 = 0 ∧ win0_9.index t 1 = 0 := by decide +kernel

theorem read9 (t : Fin cfg0.N) (A : S128x1024.Idx → EReal) (y : S128x1024.Idx) (i : S128x1024.Idx)
    (h0 : (i 0).val = 0 * 128 + (y 0).val) (h1 : (i 1).val = 0 * 1024 + (y 1).val) :
    ((cfg0.win 9).blk t).view.read (Elt Ideal) A y = A i :=
  congrArg A (idx2 _ _ (emb_at win0_9 t y 0 (index9 t).1 h0) (emb_at win0_9 t y 1 (index9 t).2 h1))

theorem index10 : ∀ t : Fin cfg0.N, win0_10.index t 0 = t.val ∧ win0_10.index t 1 = 0 := by decide +kernel

theorem read10 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 10).blk t).view.read (Elt Ideal) A y = A i :=
  congrArg A (idx2 _ _ (emb_at win0_10 t y 0 (index10 t).1 h0) (emb_at win0_10 t y 1 (index10 t).2 h1))

/-! ## One point -/

theorem point (P : S512x512.Idx → EReal) (Q : S512x256.Idx → EReal) (R : S512x384.Idx → EReal) (T : S512x256.Idx → EReal) (U : S512x128.Idx → EReal) (A : S512x1024.Idx → EReal) (B : S256x1024.Idx → EReal) (C : S384x1024.Idx → EReal) (D : S256x1024.Idx → EReal) (E : S128x1024.Idx → EReal) (r : Fin 512) (l : Fin 1024) :
    out0_10 (F := Ideal) P Q R T U A B C D E (ix2 r l) = (∑ k : Fin 512, P (ix2 r k) * A (ix2 k l)) + (∑ k : Fin 256, Q (ix2 r k) * B (ix2 k l)) + (∑ k : Fin 384, R (ix2 r k) * C (ix2 k l)) + (∑ k : Fin 256, T (ix2 r k) * D (ix2 k l)) + (∑ k : Fin 128, U (ix2 r k) * E (ix2 k l)) := by
  unfold out0_10
  refine (congrFun (View.canon_unit_zero off_zero _ _) _).trans ?_
  repeat rw [View.ld_unit_zero off_zero]
  unfold k0_pay1
  pointwise

/-! ## The reference's result at an index -/

/-- A sum over the joined columns is the five parts' sums. -/
theorem split5 (f : Fin 1440 → EReal) :
    ∑ k, f k = (∑ k : Fin 512, f ⟨0 + k.val, by omega⟩) + (∑ k : Fin 256, f ⟨512 + k.val, by omega⟩) + (∑ k : Fin 384, f ⟨768 + k.val, by omega⟩)
      + (∑ k : Fin 256, f ⟨1152 + k.val, by omega⟩) + ∑ k : Fin 32, f ⟨1408 + k.val, by omega⟩ := by
  refine (Fin.sum_univ_add (a := 1408) (b := 32) f).trans (congrArg₂ (· + ·) ?_ rfl)
  refine (Fin.sum_univ_add (a := 1152) (b := 256) (fun k : Fin 1408 => f (Fin.castAdd 32 k))).trans (congrArg₂ (· + ·) ?_ rfl)
  refine (Fin.sum_univ_add (a := 768) (b := 384) (fun k : Fin 1152 => f (Fin.castAdd 32 (Fin.castAdd 256 k)))).trans (congrArg₂ (· + ·) ?_ rfl)
  refine (Fin.sum_univ_add (a := 512) (b := 256) (fun k : Fin 768 => f (Fin.castAdd 32 (Fin.castAdd 256 (Fin.castAdd 384 k))))).trans (congrArg₂ (· + ·) ?_ rfl)
  refine Finset.sum_congr rfl fun k _ => congrArg f (Fin.ext ?_)
  show k.val = 0 + k.val
  omega

/-- A sum over 128 columns with nothing outside columns 64 to 95. -/
theorem inner (f : Fin 128 → EReal) (h : ∀ k : Fin 128, k.val < 64 ∨ 96 ≤ k.val → f k = 0) :
    ∑ k, f k = ∑ k : Fin 32, f ⟨64 + k.val, by omega⟩ := by
  refine (Fin.sum_univ_add (a := 96) (b := 32) f).trans ?_
  rw [Finset.sum_eq_zero (s := Finset.univ) (f := fun k : Fin 32 => f (Fin.natAdd 96 k)) fun k _ => h _ (.inr (by show 96 ≤ 96 + k.val; omega)), add_zero]
  refine (Fin.sum_univ_add (a := 64) (b := 32) (fun k : Fin 96 => f (Fin.castAdd 32 k))).trans ?_
  rw [Finset.sum_eq_zero (s := Finset.univ) (f := fun k : Fin 64 => f (Fin.castAdd 32 (Fin.castAdd 32 k))) fun k _ => h _ (.inl k.isLt), zero_add]
  exact Finset.sum_congr rfl fun k _ => congrArg f (Fin.ext rfl)

section Joined

variable (p : S8192x512.Idx → EReal) (q : S8192x256.Idx → EReal) (r : S8192x384.Idx → EReal) (t : S8192x256.Idx → EReal) (u : S8192x128.Idx → EReal)

abbrev join : Cert.InXRefIdeal.S8192x1440.Idx → EReal := val_main_v18 (F := Ideal) p q r t u

theorem join0 (i : Fin 8192) (k : Fin 512) : join p q r t u (ix2 i ⟨0 + k.val, by omega⟩) = p (ix2 i k) := by
  refine (concatenate_apply_piece (t := Cert.InXRefIdeal.S8192x1440) 1 _ _ _ 0 (by show 0 < 6; decide) Cert.InXRefIdeal.S8192x512 (p) rfl rfl 0 (by rfl) (ix2 i k) (fun b hb => ?_) rfl).trans ?_
  · match b with
    | ⟨0, _⟩ => rfl
    | ⟨1, _⟩ => exact absurd rfl hb
  · exact rfl

theorem join1 (i : Fin 8192) (k : Fin 128) : join p q r t u (ix2 i ⟨512 + k.val, by omega⟩) = q (ix2 i ⟨k.val, by omega⟩) := by
  refine (concatenate_apply_piece (t := Cert.InXRefIdeal.S8192x1440) 1 _ _ _ 1 (by show 1 < 6; decide) Cert.InXRefIdeal.S8192x128 (val_main_v16 (F := Ideal) q) rfl rfl 512 (by rfl) (ix2 i k) (fun b hb => ?_) rfl).trans ?_
  · match b with
    | ⟨0, _⟩ => rfl
    | ⟨1, _⟩ => exact absurd rfl hb
  · exact by rw [val_main_v16_apply]; exact congrArg q (idx2 _ _ rfl rfl)

theorem join2 (i : Fin 8192) (k : Fin 128) : join p q r t u (ix2 i ⟨640 + k.val, by omega⟩) = q (ix2 i ⟨128 + k.val, by omega⟩) := by
  refine (concatenate_apply_piece (t := Cert.InXRefIdeal.S8192x1440) 1 _ _ _ 2 (by show 2 < 6; decide) Cert.InXRefIdeal.S8192x128 (val_main_v17 (F := Ideal) q) rfl rfl 640 (by rfl) (ix2 i k) (fun b hb => ?_) rfl).trans ?_
  · match b with
    | ⟨0, _⟩ => rfl
    | ⟨1, _⟩ => exact absurd rfl hb
  · exact by rw [val_main_v17_apply]; exact congrArg q (idx2 _ _ rfl rfl)

theorem join3 (i : Fin 8192) (k : Fin 384) : join p q r t u (ix2 i ⟨768 + k.val, by omega⟩) = r (ix2 i k) := by
  refine (concatenate_apply_piece (t := Cert.InXRefIdeal.S8192x1440) 1 _ _ _ 3 (by show 3 < 6; decide) Cert.InXRefIdeal.S8192x384 (r) rfl rfl 768 (by rfl) (ix2 i k) (fun b hb => ?_) rfl).trans ?_
  · match b with
    | ⟨0, _⟩ => rfl
    | ⟨1, _⟩ => exact absurd rfl hb
  · exact rfl

theorem join4 (i : Fin 8192) (k : Fin 256) : join p q r t u (ix2 i ⟨1152 + k.val, by omega⟩) = t (ix2 i k) := by
  refine (concatenate_apply_piece (t := Cert.InXRefIdeal.S8192x1440) 1 _ _ _ 4 (by show 4 < 6; decide) Cert.InXRefIdeal.S8192x256 (t) rfl rfl 1152 (by rfl) (ix2 i k) (fun b hb => ?_) rfl).trans ?_
  · match b with
    | ⟨0, _⟩ => rfl
    | ⟨1, _⟩ => exact absurd rfl hb
  · exact rfl

theorem join5 (i : Fin 8192) (k : Fin 32) : join p q r t u (ix2 i ⟨1408 + k.val, by omega⟩) = u (ix2 i ⟨64 + k.val, by omega⟩) := by
  refine (concatenate_apply_piece (t := Cert.InXRefIdeal.S8192x1440) 1 _ _ _ 5 (by show 5 < 6; decide) Cert.InXRefIdeal.S8192x32 (val_main_v14 (F := Ideal) u) rfl rfl 1408 (by rfl) (ix2 i k) (fun b hb => ?_) rfl).trans ?_
  · match b with
    | ⟨0, _⟩ => rfl
    | ⟨1, _⟩ => exact absurd rfl hb
  · exact by rw [val_main_v14_apply]; exact congrArg u (idx2 _ _ rfl rfl)

theorem join12 (i : Fin 8192) (k : Fin 256) : join p q r t u (ix2 i ⟨512 + k.val, by omega⟩) = q (ix2 i k) := by
  by_cases h : k.val < 128
  · exact join1 p q r t u i ⟨k.val, h⟩
  · refine Eq.trans ?_ ((join2 p q r t u i ⟨k.val - 128, by omega⟩).trans (congrArg q (idx2 _ _ rfl ?_)))
    · exact congrArg _ (idx2 _ _ rfl (by show 512 + k.val = 640 + (k.val - 128); omega))
    · show 128 + (k.val - 128) = k.val
      omega

end Joined

theorem ref_apply (w : S1024x1440.Idx → EReal) (p : S8192x512.Idx → EReal) (q : S8192x256.Idx → EReal) (r : S8192x384.Idx → EReal) (t : S8192x256.Idx → EReal) (u : S8192x128.Idx → EReal)
    (i : Fin 8192) (j : Fin 1024) : val_main_v19 (F := Ideal) w p q r t u (ix2 i j)
      = (∑ k : Fin 512, p (ix2 i k) * w (ix2 j ⟨0 + k.val, by omega⟩)) + (∑ k : Fin 256, q (ix2 i k) * w (ix2 j ⟨512 + k.val, by omega⟩)) + (∑ k : Fin 384, r (ix2 i k) * w (ix2 j ⟨768 + k.val, by omega⟩)) + (∑ k : Fin 256, t (ix2 i k) * w (ix2 j ⟨1152 + k.val, by omega⟩)) + ∑ k : Fin 32, u (ix2 i ⟨64 + k.val, by omega⟩) * w (ix2 j ⟨1408 + k.val, by omega⟩) := by
  rw [val_main_v19_apply]
  refine (split5 _).trans (congrArg₂ (· + ·) (congrArg₂ (· + ·) (congrArg₂ (· + ·) (congrArg₂ (· + ·) ?_ ?_) ?_) ?_) ?_)
  · refine Finset.sum_congr rfl fun k _ => congrArg₂ (· * ·) ?_ (congrArg w (idx2 _ _ rfl rfl))
    refine Eq.trans (b := join p q r t u (ix2 i ⟨0 + k.val, by omega⟩)) (congrArg (join p q r t u) ?_) (join0 p q r t u i k)
    exact idx2 _ _ rfl rfl
  · refine Finset.sum_congr rfl fun k _ => congrArg₂ (· * ·) ?_ (congrArg w (idx2 _ _ rfl rfl))
    refine Eq.trans (b := join p q r t u (ix2 i ⟨512 + k.val, by omega⟩)) (congrArg (join p q r t u) ?_) (join12 p q r t u i k)
    exact idx2 _ _ rfl rfl
  · refine Finset.sum_congr rfl fun k _ => congrArg₂ (· * ·) ?_ (congrArg w (idx2 _ _ rfl rfl))
    refine Eq.trans (b := join p q r t u (ix2 i ⟨768 + k.val, by omega⟩)) (congrArg (join p q r t u) ?_) (join3 p q r t u i k)
    exact idx2 _ _ rfl rfl
  · refine Finset.sum_congr rfl fun k _ => congrArg₂ (· * ·) ?_ (congrArg w (idx2 _ _ rfl rfl))
    refine Eq.trans (b := join p q r t u (ix2 i ⟨1152 + k.val, by omega⟩)) (congrArg (join p q r t u) ?_) (join4 p q r t u i k)
    exact idx2 _ _ rfl rfl
  · refine Finset.sum_congr rfl fun k _ => congrArg₂ (· * ·) ?_ (congrArg w (idx2 _ _ rfl rfl))
    refine Eq.trans (b := join p q r t u (ix2 i ⟨1408 + k.val, by omega⟩)) (congrArg (join p q r t u) ?_) (join5 p q r t u i k)
    exact idx2 _ _ rfl rfl

/-! ## The array the call leaves -/

theorem final10 (c : Dev nD) : (dats m 0 c).arrAt 10 cfg0.N
    = val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hN : cfg0.N = 16 := by decide +kernel
  refine (dats m 0 c).arrAt_eq_of_cover 10 _ (fun t _ => ?_) (fun i => ?_)
  · rw [Value.flushed10]
    refine funext fun (y : S512x1024.Idx) => ?_
    have hy0 : (y 0).val < 512 := (y 0).isLt
    have hy1 : (y 1).val < 1024 := (y 1).isLt
    have ht : t.val < 16 := hN ▸ t.isLt
    refine Eq.trans ?_ (read10 t _ y (ix2 ⟨t.val * 512 + (y 0).val, by omega⟩ ⟨0 * 1024 + (y 1).val, by omega⟩) rfl rfl).symm
    rw [ref_apply]
    refine Eq.trans (congrArg (out0_10 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)) ?_
    refine (point _ _ _ _ _ _ _ _ _ _ (y 0) (y 1)).trans ?_
    refine congrArg₂ (· + ·) (congrArg₂ (· + ·) (congrArg₂ (· + ·) (congrArg₂ (· + ·) ?_ ?_) ?_) ?_) ?_
    · refine Finset.sum_congr rfl fun k _ => congrArg₂ (· * ·) ?_ ?_
      · refine (read0 t _ (ix2 (y 0) k) (ix2 ⟨t.val * 512 + (y 0).val, by omega⟩ k) rfl (by simp)).trans ?_
        exact congrFun (V_main_arg2 m c) _
      · refine (read5 t _ (ix2 k (y 1)) (ix2 k ⟨0 * 1024 + (y 1).val, by omega⟩) (by simp) rfl).trans ?_
        exact V_v2_apply m c _ _
    · refine Finset.sum_congr rfl fun k _ => congrArg₂ (· * ·) ?_ ?_
      · refine (read1 t _ (ix2 (y 0) k) (ix2 ⟨t.val * 512 + (y 0).val, by omega⟩ k) rfl (by simp)).trans ?_
        exact congrFun (V_main_arg3 m c) _
      · refine (read6 t _ (ix2 k (y 1)) (ix2 k ⟨0 * 1024 + (y 1).val, by omega⟩) (by simp) rfl).trans ?_
        exact V_v3_apply m c _ _
    · refine Finset.sum_congr rfl fun k _ => congrArg₂ (· * ·) ?_ ?_
      · refine (read2 t _ (ix2 (y 0) k) (ix2 ⟨t.val * 512 + (y 0).val, by omega⟩ k) rfl (by simp)).trans ?_
        exact congrFun (V_main_arg4 m c) _
      · refine (read7 t _ (ix2 k (y 1)) (ix2 k ⟨0 * 1024 + (y 1).val, by omega⟩) (by simp) rfl).trans ?_
        exact V_v4_apply m c _ _
    · refine Finset.sum_congr rfl fun k _ => congrArg₂ (· * ·) ?_ ?_
      · refine (read3 t _ (ix2 (y 0) k) (ix2 ⟨t.val * 512 + (y 0).val, by omega⟩ k) rfl (by simp)).trans ?_
        exact congrFun (V_main_arg5 m c) _
      · refine (read8 t _ (ix2 k (y 1)) (ix2 k ⟨0 * 1024 + (y 1).val, by omega⟩) (by simp) rfl).trans ?_
        exact V_v5_apply m c _ _
    · refine (inner _ fun k hk => ?_).trans (Finset.sum_congr rfl fun k _ => congrArg₂ (· * ·) ?_ ?_)
      · refine (congrArg (fun z : EReal => (fun a b : EReal => a * b) (iblk m c 4 t (ix2 (y 0) k)) z) ?_).trans (mul_zero _)
        refine (read9 t _ (ix2 k (y 1)) (ix2 k ⟨0 * 1024 + (y 1).val, by omega⟩) (by simp) rfl).trans ?_
        exact V_v7_out m c k hk _
      · refine (read4 t _ (ix2 (y 0) ⟨64 + k.val, by omega⟩) (ix2 ⟨t.val * 512 + (y 0).val, by omega⟩ ⟨64 + k.val, by omega⟩) rfl (by simp)).trans ?_
        exact congrFun (V_main_arg6 m c) _
      · refine (read9 t _ (ix2 ⟨64 + k.val, by omega⟩ (y 1)) (ix2 ⟨64 + k.val, by omega⟩ ⟨0 * 1024 + (y 1).val, by omega⟩) (by simp) rfl).trans ?_
        exact V_v7_in m c k _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_10 _, ?_⟩
    show (show S8192x1024.Idx from i) ∈ ((View.whole main_v8).slice (win0_10.rect ⟨(i 0 : Nat) / 512, ht⟩)).set
    rw [View.set_slice_whole, Rect.mem_set_unit]
    exact fun a => match a with
      | ⟨0, _⟩ => within (index10 _).1 (by show (i 0 : Nat) / 512 * 512 ≤ (i 0 : Nat) ∧ (i 0 : Nat) < (i 0 : Nat) / 512 * 512 + 512; omega)
      | ⟨1, _⟩ => within (index10 _).2 (by show 0 * 1024 ≤ (i 1 : Nat) ∧ (i 1 : Nat) < 0 * 1024 + 1024; omega)

/-! ## The claims -/

/-- The reference runs, keeps its arguments, and has no semaphore. -/
theorem ref_frame : Cert.quiescent_InXRefIdeal (hInXRefIdeal := Cert.InXRefIdeal.Gen.facts) := fun m g _ =>
  (θ_run Cert.InXRefIdeal.defs _ _).mono (fun r h => ⟨fun c => (h c).2, sem_eq_zero_of_no_sems (by decide) r.2⟩)
    (Cert.InXRefIdeal.Value.run m g)

/-- The call's results are the reference's. -/
theorem value : Cert.algebraic_InXIdeal_InXRefIdeal (hInXIdeal := Cert.InXIdeal.Gen.facts) (hInXRefIdeal := Cert.InXRefIdeal.Gen.facts) := by
  intro m g m' g' _ agree
  refine ⟨fun c => val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · refine (θ_run Cert.InXIdeal.defs _ _).mono (fun r h c => ?_) (Value.run_blocks m g)
    exact ⟨(h c).1.trans (final10 m c), (h c).2⟩
  · refine (θ_run Cert.InXRefIdeal.defs _ _).mono (fun r h c => ?_) (Cert.InXRefIdeal.Value.run m' g')
    obtain ⟨e0, e1, e2, e3, e4, e5, e6⟩ := agree c
    refine ⟨(h c).1.trans ?_, (h c).2⟩
    · rw [e1, e2, e3, e4, e5, e6]
      exact val_main_v19_eq _ _ _ _ _ _

end Cert.Ffn.InX

end
-- ==== Proof.FfnInQW.lean ====
/- The gradient of the sliding-window queries' part of layer 0's input weight, transposed. -/
module

public import proofs.«01_k».proof.Defs
public import proofs.«01_k».proof.Proof.FfnLib
public import proofs.«01_k».proof.Proof.Gen.InQW.Frame
public import proofs.«01_k».proof.Proof.Gen.InQWIdeal.Value
public import proofs.«01_k».proof.Proof.Gen.InQWRefIdeal.Run
public import proofs.«01_k».proof.Proof.Gen.InQWRefIdeal.Read
public import Idealize.ShloMosaic.Lib.StableHlo.RunRead

@[expose] public section

set_option maxRecDepth 16384

noncomputable section

namespace Cert.Ffn.InQW

open Idealize.ShloMosaic Idealize.ShloMosaic.TcCoe Idealize.SL.Sem
open Cert.InQWIdeal Cert.InQWIdeal.Gen Cert.InQWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x512.Idx → EReal) (y : S2048x512.Idx) (i : S8192x512.Idx)
    (h0 : (i 0).val = (t.val % 4) * 2048 + (y 0).val) (h1 : (i 1).val = (t.val / 4) * 512 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x1024.Idx → EReal) (y : S2048x1024.Idx) (i : S8192x1024.Idx)
    (h0 : (i 0).val = (t.val % 4) * 2048 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S512x1024.Idx → EReal) (y : S512x1024.Idx) (i : S512x1024.Idx)
    (h0 : (i 0).val = (t.val / 4) * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x512.Idx → EReal) (x : S2048x1024.Idx → EReal) (r : Fin 512) (l : Fin 1024) :
    k0_pay1 (F := Ideal) a x (ix2 r l) = ∑ k : Fin 2048, a (ix2 k r) * x (ix2 k l) := by
  unfold k0_pay1
  pointwise

theorem keep (a : S2048x512.Idx → EReal) (x : S2048x1024.Idx → EReal) (r : Fin 512) (l : Fin 1024) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x512.Idx → EReal) (x : S2048x1024.Idx → EReal) (q : S512x1024.Idx → EReal) (r : Fin 512) (l : Fin 1024) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x512.Idx → EReal) (x : S2048x1024.Idx → EReal) (q : S512x1024.Idx → EReal) (r : Fin 512) (l : Fin 1024) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 512) (l : Fin 1024) : ℕ → EReal :=
  term (n := 8192) (a := 512) (b := 1024) (m ((c : Thread nD τ).loc main_arg2)) (m ((c : Thread nD τ).loc main_arg0)) ⟨512 * q.val + r.val, by omega⟩ l

/-- The two blocks a point is given. -/
abbrev ab (c : Dev nD) (t : Fin cfg0.N) : S2048x512.Idx → EReal := iblk m c 0 t

abbrev xb (c : Dev nD) (t : Fin cfg0.N) : S2048x1024.Idx → EReal := iblk m c 1 t

theorem terms (c : Dev nD) (t : Fin cfg0.N) (q : Fin 1) (hq : t.val / 4 = q.val) (r : Fin 512) (l : Fin 1024) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨512 * q.val + r.val, by omega⟩) ?_ ?_).trans ?_
    · exact congrArg (· + k.val) (Nat.mul_comm _ _)
    · show 512 * q.val + r.val = t.val / 4 * 512 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 1024 + l.val
      omega
    · exact congrFun (V_v0 m c) _

theorem whole (c : Dev nD) (t : Fin cfg0.N) (h2 : t.val % 4 = 3) (q : Fin 1) (hq : t.val / 4 = q.val) (r : Fin 512) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x1024.Idx → EReal) (a : S8192x512.Idx → EReal) (i : Fin 512) (j : Fin 1024) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S512x1024.Idx) => ?_
    have hy0 : (y 0).val < 512 := (y 0).isLt
    have hy1 : (y 1).val < 1024 := (y 1).isLt
    have ht : t.val < 4 := hN ▸ t.isLt
    refine Eq.trans ?_ (read2 t _ y (ix2 ⟨512 * (t.val / 4) + (y 0).val, by omega⟩ ⟨(y 1).val, hy1⟩) (by show 512 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 512 := (i 0).isLt
    have h1 : (i 1 : Nat) < 1024 := (i 1).isLt
    have ht : 4 * ((i 0 : Nat) / 512) + 3 < cfg0.N := by omega
    refine ⟨⟨4 * ((i 0 : Nat) / 512) + 3, ht⟩, (flush0_2 _).mpr (by show (4 * ((i 0 : Nat) / 512) + 3) % 4 = 3; omega), ?_⟩
    show (show S512x1024.Idx from i) ∈ ((View.whole main_v1).slice (win0_2.rect ⟨4 * ((i 0 : Nat) / 512) + 3, ht⟩)).set
    rw [View.set_slice_whole, Rect.mem_set_unit]
    exact fun a => match a with
      | ⟨0, _⟩ => within (index2 _).1 (by show ((4 * ((i 0 : Nat) / 512) + 3) / 4) * 512 ≤ (i 0 : Nat) ∧ (i 0 : Nat) < ((4 * ((i 0 : Nat) / 512) + 3) / 4) * 512 + 512; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_InQWRefIdeal (hInQWRefIdeal := Cert.InQWRefIdeal.Gen.facts) := fun m g _ =>
  (θ_run Cert.InQWRefIdeal.defs _ _).mono (fun r h => ⟨fun c => (h c).2, sem_eq_zero_of_no_sems (by decide) r.2⟩)
    (Cert.InQWRefIdeal.Value.run m g)

/-- The call's results are the reference's. -/
theorem value : Cert.algebraic_InQWIdeal_InQWRefIdeal (hInQWIdeal := Cert.InQWIdeal.Gen.facts) (hInQWRefIdeal := Cert.InQWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.InQWIdeal.defs _ _).mono (fun r h c => ?_) (Value.run_blocks m g)
    exact ⟨(h c).1.trans (final2 m c), (h c).2⟩
  · refine (θ_run Cert.InQWRefIdeal.defs _ _).mono (fun r h c => ?_) (Cert.InQWRefIdeal.Value.run m' g')
    obtain ⟨e0, e1, e2⟩ := agree c
    refine ⟨(h c).1.trans ?_, (h c).2⟩
    · rw [e0, e2]
      exact val_main_v4_eq _ _

end Cert.Ffn.InQW

end
-- ==== Proof.FfnInKvW.lean ====
/- The gradient of the keys' and values' or of the latent keys' part of layer 0's input weight, transposed. -/
module

public import proofs.«01_k».proof.Defs
public import proofs.«01_k».proof.Proof.FfnLib
public import proofs.«01_k».proof.Proof.Gen.InKvW.Frame
public import proofs.«01_k».proof.Proof.Gen.InKvWIdeal.Value
public import proofs.«01_k».proof.Proof.Gen.InKvWRefIdeal.Run
public import proofs.«01_k».proof.Proof.Gen.InKvWRefIdeal.Read
public import Idealize.ShloMosaic.Lib.StableHlo.RunRead

@[expose] public section

set_option maxRecDepth 16384

noncomputable section

namespace Cert.Ffn.InKvW

open Idealize.ShloMosaic Idealize.ShloMosaic.TcCoe Idealize.SL.Sem
open Cert.InKvWIdeal Cert.InKvWIdeal.Gen Cert.InKvWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x256.Idx → EReal) (y : S2048x256.Idx) (i : S8192x256.Idx)
    (h0 : (i 0).val = (t.val % 4) * 2048 + (y 0).val) (h1 : (i 1).val = (t.val / 4) * 256 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x1024.Idx → EReal) (y : S2048x1024.Idx) (i : S8192x1024.Idx)
    (h0 : (i 0).val = (t.val % 4) * 2048 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S256x1024.Idx → EReal) (y : S256x1024.Idx) (i : S256x1024.Idx)
    (h0 : (i 0).val = (t.val / 4) * 256 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x256.Idx → EReal) (x : S2048x1024.Idx → EReal) (r : Fin 256) (l : Fin 1024) :
    k0_pay1 (F := Ideal) a x (ix2 r l) = ∑ k : Fin 2048, a (ix2 k r) * x (ix2 k l) := by
  unfold k0_pay1
  pointwise

theorem keep (a : S2048x256.Idx → EReal) (x : S2048x1024.Idx → EReal) (r : Fin 256) (l : Fin 1024) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x256.Idx → EReal) (x : S2048x1024.Idx → EReal) (q : S256x1024.Idx → EReal) (r : Fin 256) (l : Fin 1024) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x256.Idx → EReal) (x : S2048x1024.Idx → EReal) (q : S256x1024.Idx → EReal) (r : Fin 256) (l : Fin 1024) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 256) (l : Fin 1024) : ℕ → EReal :=
  term (n := 8192) (a := 256) (b := 1024) (m ((c : Thread nD τ).loc main_arg2)) (m ((c : Thread nD τ).loc main_arg0)) ⟨256 * q.val + r.val, by omega⟩ l

/-- The two blocks a point is given. -/
abbrev ab (c : Dev nD) (t : Fin cfg0.N) : S2048x256.Idx → EReal := iblk m c 0 t

abbrev xb (c : Dev nD) (t : Fin cfg0.N) : S2048x1024.Idx → EReal := iblk m c 1 t

theorem terms (c : Dev nD) (t : Fin cfg0.N) (q : Fin 1) (hq : t.val / 4 = q.val) (r : Fin 256) (l : Fin 1024) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨256 * q.val + r.val, by omega⟩) ?_ ?_).trans ?_
    · exact congrArg (· + k.val) (Nat.mul_comm _ _)
    · show 256 * q.val + r.val = t.val / 4 * 256 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 1024 + l.val
      omega
    · exact congrFun (V_v0 m c) _

theorem whole (c : Dev nD) (t : Fin cfg0.N) (h2 : t.val % 4 = 3) (q : Fin 1) (hq : t.val / 4 = q.val) (r : Fin 256) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x1024.Idx → EReal) (a : S8192x256.Idx → EReal) (i : Fin 256) (j : Fin 1024) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S256x1024.Idx) => ?_
    have hy0 : (y 0).val < 256 := (y 0).isLt
    have hy1 : (y 1).val < 1024 := (y 1).isLt
    have ht : t.val < 4 := hN ▸ t.isLt
    refine Eq.trans ?_ (read2 t _ y (ix2 ⟨256 * (t.val / 4) + (y 0).val, by omega⟩ ⟨(y 1).val, hy1⟩) (by show 256 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 256 := (i 0).isLt
    have h1 : (i 1 : Nat) < 1024 := (i 1).isLt
    have ht : 4 * ((i 0 : Nat) / 256) + 3 < cfg0.N := by omega
    refine ⟨⟨4 * ((i 0 : Nat) / 256) + 3, ht⟩, (flush0_2 _).mpr (by show (4 * ((i 0 : Nat) / 256) + 3) % 4 = 3; omega), ?_⟩
    show (show S256x1024.Idx from i) ∈ ((View.whole main_v1).slice (win0_2.rect ⟨4 * ((i 0 : Nat) / 256) + 3, ht⟩)).set
    rw [View.set_slice_whole, Rect.mem_set_unit]
    exact fun a => match a with
      | ⟨0, _⟩ => within (index2 _).1 (by show ((4 * ((i 0 : Nat) / 256) + 3) / 4) * 256 ≤ (i 0 : Nat) ∧ (i 0 : Nat) < ((4 * ((i 0 : Nat) / 256) + 3) / 4) * 256 + 256; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_InKvWRefIdeal (hInKvWRefIdeal := Cert.InKvWRefIdeal.Gen.facts) := fun m g _ =>
  (θ_run Cert.InKvWRefIdeal.defs _ _).mono (fun r h => ⟨fun c => (h c).2, sem_eq_zero_of_no_sems (by decide) r.2⟩)
    (Cert.InKvWRefIdeal.Value.run m g)

/-- The call's results are the reference's. -/
theorem value : Cert.algebraic_InKvWIdeal_InKvWRefIdeal (hInKvWIdeal := Cert.InKvWIdeal.Gen.facts) (hInKvWRefIdeal := Cert.InKvWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.InKvWIdeal.defs _ _).mono (fun r h c => ?_) (Value.run_blocks m g)
    exact ⟨(h c).1.trans (final2 m c), (h c).2⟩
  · refine (θ_run Cert.InKvWRefIdeal.defs _ _).mono (fun r h c => ?_) (Cert.InKvWRefIdeal.Value.run m' g')
    obtain ⟨e0, e1, e2⟩ := agree c
    refine ⟨(h c).1.trans ?_, (h c).2⟩
    · rw [e0, e2]
      exact val_main_v4_eq _ _

end Cert.Ffn.InKvW

end
-- ==== Proof.FfnInCqW.lean ====
/- The gradient of the latent queries' part of layer 0's input weight, transposed. -/
module

public import proofs.«01_k».proof.Defs
public import proofs.«01_k».proof.Proof.FfnLib
public import proofs.«01_k».proof.Proof.Gen.InCqW.Frame
public import proofs.«01_k».proof.Proof.Gen.InCqWIdeal.Value
public import proofs.«01_k».proof.Proof.Gen.InCqWRefIdeal.Run
public import proofs.«01_k».proof.Proof.Gen.InCqWRefIdeal.Read
public import Idealize.ShloMosaic.Lib.StableHlo.RunRead

@[expose] public section

set_option maxRecDepth 16384

noncomputable section

namespace Cert.Ffn.InCqW

open Idealize.ShloMosaic Idealize.ShloMosaic.TcCoe Idealize.SL.Sem
open Cert.InCqWIdeal Cert.InCqWIdeal.Gen Cert.InCqWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x384.Idx → EReal) (y : S2048x384.Idx) (i : S8192x384.Idx)
    (h0 : (i 0).val = (t.val % 4) * 2048 + (y 0).val) (h1 : (i 1).val = (t.val / 4) * 384 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x1024.Idx → EReal) (y : S2048x1024.Idx) (i : S8192x1024.Idx)
    (h0 : (i 0).val = (t.val % 4) * 2048 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S384x1024.Idx → EReal) (y : S384x1024.Idx) (i : S384x1024.Idx)
    (h0 : (i 0).val = (t.val / 4) * 384 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x384.Idx → EReal) (x : S2048x1024.Idx → EReal) (r : Fin 384) (l : Fin 1024) :
    k0_pay1 (F := Ideal) a x (ix2 r l) = ∑ k : Fin 2048, a (ix2 k r) * x (ix2 k l) := by
  unfold k0_pay1
  pointwise

theorem keep (a : S2048x384.Idx → EReal) (x : S2048x1024.Idx → EReal) (r : Fin 384) (l : Fin 1024) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x384.Idx → EReal) (x : S2048x1024.Idx → EReal) (q : S384x1024.Idx → EReal) (r : Fin 384) (l : Fin 1024) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x384.Idx → EReal) (x : S2048x1024.Idx → EReal) (q : S384x1024.Idx → EReal) (r : Fin 384) (l : Fin 1024) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 384) (l : Fin 1024) : ℕ → EReal :=
  term (n := 8192) (a := 384) (b := 1024) (m ((c : Thread nD τ).loc main_arg2)) (m ((c : Thread nD τ).loc main_arg0)) ⟨384 * q.val + r.val, by omega⟩ l

/-- The two blocks a point is given. -/
abbrev ab (c : Dev nD) (t : Fin cfg0.N) : S2048x384.Idx → EReal := iblk m c 0 t

abbrev xb (c : Dev nD) (t : Fin cfg0.N) : S2048x1024.Idx → EReal := iblk m c 1 t

theorem terms (c : Dev nD) (t : Fin cfg0.N) (q : Fin 1) (hq : t.val / 4 = q.val) (r : Fin 384) (l : Fin 1024) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨384 * q.val + r.val, by omega⟩) ?_ ?_).trans ?_
    · exact congrArg (· + k.val) (Nat.mul_comm _ _)
    · show 384 * q.val + r.val = t.val / 4 * 384 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 1024 + l.val
      omega
    · exact congrFun (V_v0 m c) _

theorem whole (c : Dev nD) (t : Fin cfg0.N) (h2 : t.val % 4 = 3) (q : Fin 1) (hq : t.val / 4 = q.val) (r : Fin 384) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x1024.Idx → EReal) (a : S8192x384.Idx → EReal) (i : Fin 384) (j : Fin 1024) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S384x1024.Idx) => ?_
    have hy0 : (y 0).val < 384 := (y 0).isLt
    have hy1 : (y 1).val < 1024 := (y 1).isLt
    have ht : t.val < 4 := hN ▸ t.isLt
    refine Eq.trans ?_ (read2 t _ y (ix2 ⟨384 * (t.val / 4) + (y 0).val, by omega⟩ ⟨(y 1).val, hy1⟩) (by show 384 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 384 := (i 0).isLt
    have h1 : (i 1 : Nat) < 1024 := (i 1).isLt
    have ht : 4 * ((i 0 : Nat) / 384) + 3 < cfg0.N := by omega
    refine ⟨⟨4 * ((i 0 : Nat) / 384) + 3, ht⟩, (flush0_2 _).mpr (by show (4 * ((i 0 : Nat) / 384) + 3) % 4 = 3; omega), ?_⟩
    show (show S384x1024.Idx from i) ∈ ((View.whole main_v1).slice (win0_2.rect ⟨4 * ((i 0 : Nat) / 384) + 3, ht⟩)).set
    rw [View.set_slice_whole, Rect.mem_set_unit]
    exact fun a => match a with
      | ⟨0, _⟩ => within (index2 _).1 (by show ((4 * ((i 0 : Nat) / 384) + 3) / 4) * 384 ≤ (i 0 : Nat) ∧ (i 0 : Nat) < ((4 * ((i 0 : Nat) / 384) + 3) / 4) * 384 + 384; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_InCqWRefIdeal (hInCqWRefIdeal := Cert.InCqWRefIdeal.Gen.facts) := fun m g _ =>
  (θ_run Cert.InCqWRefIdeal.defs _ _).mono (fun r h => ⟨fun c => (h c).2, sem_eq_zero_of_no_sems (by decide) r.2⟩)
    (Cert.InCqWRefIdeal.Value.run m g)

/-- The call's results are the reference's. -/
theorem value : Cert.algebraic_InCqWIdeal_InCqWRefIdeal (hInCqWIdeal := Cert.InCqWIdeal.Gen.facts) (hInCqWRefIdeal := Cert.InCqWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.InCqWIdeal.defs _ _).mono (fun r h c => ?_) (Value.run_blocks m g)
    exact ⟨(h c).1.trans (final2 m c), (h c).2⟩
  · refine (θ_run Cert.InCqWRefIdeal.defs _ _).mono (fun r h c => ?_) (Cert.InCqWRefIdeal.Value.run m' g')
    obtain ⟨e0, e1, e2⟩ := agree c
    refine ⟨(h c).1.trans ?_, (h c).2⟩
    · rw [e0, e2]
      exact val_main_v4_eq _ _

end Cert.Ffn.InCqW

end
-- ==== Proof.FfnInKrW.lean ====
/- The gradient of the shared rope key's part of layer 0's input weight, padded to 128 columns, transposed. -/
module

public import proofs.«01_k».proof.Defs
public import proofs.«01_k».proof.Proof.FfnLib
public import proofs.«01_k».proof.Proof.Gen.InKrW.Frame
public import proofs.«01_k».proof.Proof.Gen.InKrWIdeal.Value
public import proofs.«01_k».proof.Proof.Gen.InKrWRefIdeal.Run
public import proofs.«01_k».proof.Proof.Gen.InKrWRefIdeal.Read
public import Idealize.ShloMosaic.Lib.StableHlo.RunRead

@[expose] public section

set_option maxRecDepth 16384

noncomputable section

namespace Cert.Ffn.InKrW

open Idealize.ShloMosaic Idealize.ShloMosaic.TcCoe Idealize.SL.Sem
open Cert.InKrWIdeal Cert.InKrWIdeal.Gen Cert.InKrWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x128.Idx → EReal) (y : S2048x128.Idx) (i : S8192x128.Idx)
    (h0 : (i 0).val = (t.val % 4) * 2048 + (y 0).val) (h1 : (i 1).val = (t.val / 4) * 128 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x1024.Idx → EReal) (y : S2048x1024.Idx) (i : S8192x1024.Idx)
    (h0 : (i 0).val = (t.val % 4) * 2048 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S128x1024.Idx → EReal) (y : S128x1024.Idx) (i : S128x1024.Idx)
    (h0 : (i 0).val = (t.val / 4) * 128 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x128.Idx → EReal) (x : S2048x1024.Idx → EReal) (r : Fin 128) (l : Fin 1024) :
    k0_pay1 (F := Ideal) a x (ix2 r l) = ∑ k : Fin 2048, a (ix2 k r) * x (ix2 k l) := by
  unfold k0_pay1
  pointwise

theorem keep (a : S2048x128.Idx → EReal) (x : S2048x1024.Idx → EReal) (r : Fin 128) (l : Fin 1024) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x128.Idx → EReal) (x : S2048x1024.Idx → EReal) (q : S128x1024.Idx → EReal) (r : Fin 128) (l : Fin 1024) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x128.Idx → EReal) (x : S2048x1024.Idx → EReal) (q : S128x1024.Idx → EReal) (r : Fin 128) (l : Fin 1024) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 128) (l : Fin 1024) : ℕ → EReal :=
  term (n := 8192) (a := 128) (b := 1024) (m ((c : Thread nD τ).loc main_arg2)) (m ((c : Thread nD τ).loc main_arg0)) ⟨128 * q.val + r.val, by omega⟩ l

/-- The two blocks a point is given. -/
abbrev ab (c : Dev nD) (t : Fin cfg0.N) : S2048x128.Idx → EReal := iblk m c 0 t

abbrev xb (c : Dev nD) (t : Fin cfg0.N) : S2048x1024.Idx → EReal := iblk m c 1 t

theorem terms (c : Dev nD) (t : Fin cfg0.N) (q : Fin 1) (hq : t.val / 4 = q.val) (r : Fin 128) (l : Fin 1024) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨128 * q.val + r.val, by omega⟩) ?_ ?_).trans ?_
    · exact congrArg (· + k.val) (Nat.mul_comm _ _)
    · show 128 * q.val + r.val = t.val / 4 * 128 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 1024 + l.val
      omega
    · exact congrFun (V_v0 m c) _

theorem whole (c : Dev nD) (t : Fin cfg0.N) (h2 : t.val % 4 = 3) (q : Fin 1) (hq : t.val / 4 = q.val) (r : Fin 128) (l : Fin 1024) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x1024.Idx → EReal) (a : S8192x128.Idx → EReal) (i : Fin 128) (j : Fin 1024) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S128x1024.Idx) => ?_
    have hy0 : (y 0).val < 128 := (y 0).isLt
    have hy1 : (y 1).val < 1024 := (y 1).isLt
    have ht : t.val < 4 := hN ▸ t.isLt
    refine Eq.trans ?_ (read2 t _ y (ix2 ⟨128 * (t.val / 4) + (y 0).val, by omega⟩ ⟨(y 1).val, hy1⟩) (by show 128 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 128 := (i 0).isLt
    have h1 : (i 1 : Nat) < 1024 := (i 1).isLt
    have ht : 4 * ((i 0 : Nat) / 128) + 3 < cfg0.N := by omega
    refine ⟨⟨4 * ((i 0 : Nat) / 128) + 3, ht⟩, (flush0_2 _).mpr (by show (4 * ((i 0 : Nat) / 128) + 3) % 4 = 3; omega), ?_⟩
    show (show S128x1024.Idx from i) ∈ ((View.whole main_v1).slice (win0_2.rect ⟨4 * ((i 0 : Nat) / 128) + 3, ht⟩)).set
    rw [View.set_slice_whole, Rect.mem_set_unit]
    exact fun a => match a with
      | ⟨0, _⟩ => within (index2 _).1 (by show ((4 * ((i 0 : Nat) / 128) + 3) / 4) * 128 ≤ (i 0 : Nat) ∧ (i 0 : Nat) < ((4 * ((i 0 : Nat) / 128) + 3) / 4) * 128 + 128; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_InKrWRefIdeal (hInKrWRefIdeal := Cert.InKrWRefIdeal.Gen.facts) := fun m g _ =>
  (θ_run Cert.InKrWRefIdeal.defs _ _).mono (fun r h => ⟨fun c => (h c).2, sem_eq_zero_of_no_sems (by decide) r.2⟩)
    (Cert.InKrWRefIdeal.Value.run m g)

/-- The call's results are the reference's. -/
theorem value : Cert.algebraic_InKrWIdeal_InKrWRefIdeal (hInKrWIdeal := Cert.InKrWIdeal.Gen.facts) (hInKrWRefIdeal := Cert.InKrWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.InKrWIdeal.defs _ _).mono (fun r h c => ?_) (Value.run_blocks m g)
    exact ⟨(h c).1.trans (final2 m c), (h c).2⟩
  · refine (θ_run Cert.InKrWRefIdeal.defs _ _).mono (fun r h c => ?_) (Cert.InKrWRefIdeal.Value.run m' g')
    obtain ⟨e0, e1, e2⟩ := agree c
    refine ⟨(h c).1.trans ?_, (h c).2⟩
    · rw [e0, e2]
      exact val_main_v4_eq _ _

end Cert.Ffn.InKrW

end
-- ==== Proof.FfnUqX.lean ====
/- The input gradient of the latent queries' projection. -/
module

public import proofs.«01_k».proof.Defs
public import proofs.«01_k».proof.Proof.FfnLib
public import proofs.«01_k».proof.Proof.Gen.UqX.Frame
public import proofs.«01_k».proof.Proof.Gen.UqXIdeal.Value
public import proofs.«01_k».proof.Proof.Gen.UqXRefIdeal.Run
public import proofs.«01_k».proof.Proof.Gen.UqXRefIdeal.Read
public import Idealize.ShloMosaic.Lib.StableHlo.RunRead

@[expose] public section

set_option maxRecDepth 16384

noncomputable section

namespace Cert.Ffn.UqX

open Idealize.ShloMosaic Idealize.ShloMosaic.TcCoe Idealize.SL.Sem
open Cert.UqXIdeal Cert.UqXIdeal.Gen Cert.UqXRefIdeal.Read

variable (m : (ℓ : Loc nD τ sig) → Buf (Elt Ideal) ℓ)

/-! ## The arrays the call is given -/

theorem V_v1 (c : Dev nD) : V m c main_v1
    = transpose S1024x384 [1, 0] (m ((c : Thread nD τ).loc main_arg1) : S384x1024.Idx → EReal) transposes_S384x1024_S1024x384_1_0 := by
  unfold V
  after_reads_simp
  rfl

theorem V_v1_apply (c : Dev nD) (i : Fin 1024) (j : Fin 384) :
    V m c main_v1 (ix2 i j) = (m ((c : Thread nD τ).loc main_arg1) : S384x1024.Idx → EReal) (ix2 j i) := by
  rw [V_v1]
  generalize (m ((c : Thread nD τ).loc main_arg1) : S384x1024.Idx → EReal) = A
  pointwise

/-! ## Where a point's blocks sit -/

theorem index0 : ∀ t : Fin cfg0.N, win0_0.index t 0 = t.val ∧ win0_0.index t 1 = 0 := by decide +kernel

theorem read0 (t : Fin cfg0.N) (A : S8192x1024.Idx → EReal) (y : S2048x1024.Idx) (i : S8192x1024.Idx)
    (h0 : (i 0).val = t.val * 2048 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x384.Idx → EReal) (y : S1024x384.Idx) (i : S1024x384.Idx)
    (h0 : (i 0).val = 0 * 1024 + (y 0).val) (h1 : (i 1).val = 0 * 384 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x384.Idx → EReal) (y : S2048x384.Idx) (i : S8192x384.Idx)
    (h0 : (i 0).val = t.val * 2048 + (y 0).val) (h1 : (i 1).val = 0 * 384 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S2048x1024.Idx → EReal) (W : S1024x384.Idx → EReal) (r : Fin 2048) (l : Fin 384) :
    out0_2 (F := Ideal) X W (ix2 r l) = ∑ k : Fin 1024, X (ix2 r k) * W (ix2 k l) := by
  unfold out0_2
  refine (congrFun (View.canon_unit_zero off_zero _ _) _).trans ?_
  repeat rw [View.ld_unit_zero off_zero]
  unfold k0_pay1
  pointwise

/-! ## The reference's result at an index -/

theorem ref_apply (w : S384x1024.Idx → EReal) (a : S8192x1024.Idx → EReal) (i : Fin 8192) (j : Fin 384) :
    val_main_v1 (F := Ideal) w a (ix2 i j) = ∑ k : Fin 1024, a (ix2 i k) * w (ix2 j k) := by
  rw [val_main_v1_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v1 (F := Ideal) (m ((c : Thread nD τ).loc main_arg1)) (m ((c : Thread nD τ).loc main_arg2)) := by
  have hN : cfg0.N = 4 := by decide +kernel
  refine (dats m 0 c).arrAt_eq_of_cover 2 _ (fun t _ => ?_) (fun i => ?_)
  · rw [Value.flushed2]
    refine funext fun (y : S2048x384.Idx) => ?_
    have hy0 : (y 0).val < 2048 := (y 0).isLt
    have hy1 : (y 1).val < 384 := (y 1).isLt
    have ht : t.val < 4 := hN ▸ t.isLt
    refine Eq.trans ?_ (read2 t _ y (ix2 ⟨t.val * 2048 + (y 0).val, by omega⟩ ⟨0 * 384 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 2048 + (y 0).val, by omega⟩ k) rfl (by simp)).trans ?_
      exact congrFun (V_main_arg2 m c) _
    · refine (read1 t _ (ix2 k (y 1)) (ix2 k ⟨0 * 384 + (y 1).val, by omega⟩) (by simp) rfl).trans ?_
      exact V_v1_apply m c _ _
  · have h0 : (i 0 : Nat) < 8192 := (i 0).isLt
    have h1 : (i 1 : Nat) < 384 := (i 1).isLt
    have ht : (i 0 : Nat) / 2048 < cfg0.N := by omega
    refine ⟨⟨(i 0 : Nat) / 2048, ht⟩, flush0_2 _, ?_⟩
    show (show S8192x384.Idx from i) ∈ ((View.whole main_v2).slice (win0_2.rect ⟨(i 0 : Nat) / 2048, ht⟩)).set
    rw [View.set_slice_whole, Rect.mem_set_unit]
    exact fun a => match a with
      | ⟨0, _⟩ => within (index2 _).1 (by show (i 0 : Nat) / 2048 * 2048 ≤ (i 0 : Nat) ∧ (i 0 : Nat) < (i 0 : Nat) / 2048 * 2048 + 2048; omega)
      | ⟨1, _⟩ => within (index2 _).2 (by show 0 * 384 ≤ (i 1 : Nat) ∧ (i 1 : Nat) < 0 * 384 + 384; omega)

/-! ## The claims -/

/-- The reference runs, keeps its arguments, and has no semaphore. -/
theorem ref_frame : Cert.quiescent_UqXRefIdeal (hUqXRefIdeal := Cert.UqXRefIdeal.Gen.facts) := fun m g _ =>
  (θ_run Cert.UqXRefIdeal.defs _ _).mono (fun r h => ⟨fun c => (h c).2, sem_eq_zero_of_no_sems (by decide) r.2⟩)
    (Cert.UqXRefIdeal.Value.run m g)

/-- The call's results are the reference's. -/
theorem value : Cert.algebraic_UqXIdeal_UqXRefIdeal (hUqXIdeal := Cert.UqXIdeal.Gen.facts) (hUqXRefIdeal := Cert.UqXRefIdeal.Gen.facts) := by
  intro m g m' g' _ agree
  refine ⟨fun c => val_main_v1 (F := Ideal) (m ((c : Thread nD τ).loc main_arg1)) (m ((c : Thread nD τ).loc main_arg2)), ?_, ?_⟩
  · refine (θ_run Cert.UqXIdeal.defs _ _).mono (fun r h c => ?_) (Value.run_blocks m g)
    exact ⟨(h c).1.trans (final2 m c), (h c).2⟩
  · refine (θ_run Cert.UqXRefIdeal.defs _ _).mono (fun r h c => ?_) (Cert.UqXRefIdeal.Value.run m' g')
    obtain ⟨e0, e1, e2⟩ := agree c
    refine ⟨(h c).1.trans ?_, (h c).2⟩
    · rw [e1, e2]
      exact val_main_v1_eq _ _

end Cert.Ffn.UqX

end
-- ==== Proof.FfnUqW.lean ====
/- The gradient of the latent queries' weight, its heads padded to 128 columns, transposed. -/
module

public import proofs.«01_k».proof.Defs
public import proofs.«01_k».proof.Proof.FfnLib
public import proofs.«01_k».proof.Proof.Gen.UqW.Frame
public import proofs.«01_k».proof.Proof.Gen.UqWIdeal.Value
public import proofs.«01_k».proof.Proof.Gen.UqWRefIdeal.Run
public import proofs.«01_k».proof.Proof.Gen.UqWRefIdeal.Read
public import Idealize.ShloMosaic.Lib.StableHlo.RunRead

@[expose] public section

set_option maxRecDepth 16384

noncomputable section

namespace Cert.Ffn.UqW

open Idealize.ShloMosaic Idealize.ShloMosaic.TcCoe Idealize.SL.Sem
open Cert.UqWIdeal Cert.UqWIdeal.Gen Cert.UqWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x1024.Idx → EReal) (y : S2048x1024.Idx) (i : S8192x1024.Idx)
    (h0 : (i 0).val = (t.val % 4) * 2048 + (y 0).val) (h1 : (i 1).val = (t.val / 4) * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x384.Idx → EReal) (y : S2048x384.Idx) (i : S8192x384.Idx)
    (h0 : (i 0).val = (t.val % 4) * 2048 + (y 0).val) (h1 : (i 1).val = 0 * 384 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S1024x384.Idx → EReal) (y : S1024x384.Idx) (i : S1024x384.Idx)
    (h0 : (i 0).val = (t.val / 4) * 1024 + (y 0).val) (h1 : (i 1).val = 0 * 384 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x1024.Idx → EReal) (x : S2048x384.Idx → EReal) (r : Fin 1024) (l : Fin 384) :
    k0_pay1 (F := Ideal) a x (ix2 r l) = ∑ k : Fin 2048, a (ix2 k r) * x (ix2 k l) := by
  unfold k0_pay1
  pointwise

theorem keep (a : S2048x1024.Idx → EReal) (x : S2048x384.Idx → EReal) (r : Fin 1024) (l : Fin 384) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x1024.Idx → EReal) (x : S2048x384.Idx → EReal) (q : S1024x384.Idx → EReal) (r : Fin 1024) (l : Fin 384) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x1024.Idx → EReal) (x : S2048x384.Idx → EReal) (q : S1024x384.Idx → EReal) (r : Fin 1024) (l : Fin 384) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 1024) (l : Fin 384) : ℕ → EReal :=
  term (n := 8192) (a := 1024) (b := 384) (m ((c : Thread nD τ).loc main_arg2)) (m ((c : Thread nD τ).loc main_arg0)) ⟨1024 * q.val + r.val, by omega⟩ l

/-- The two blocks a point is given. -/
abbrev ab (c : Dev nD) (t : Fin cfg0.N) : S2048x1024.Idx → EReal := iblk m c 0 t

abbrev xb (c : Dev nD) (t : Fin cfg0.N) : S2048x384.Idx → EReal := iblk m c 1 t

theorem terms (c : Dev nD) (t : Fin cfg0.N) (q : Fin 1) (hq : t.val / 4 = q.val) (r : Fin 1024) (l : Fin 384) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨1024 * q.val + r.val, by omega⟩) ?_ ?_).trans ?_
    · exact congrArg (· + k.val) (Nat.mul_comm _ _)
    · show 1024 * q.val + r.val = t.val / 4 * 1024 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 384 + l.val
      omega
    · exact congrFun (V_v0 m c) _

theorem whole (c : Dev nD) (t : Fin cfg0.N) (h2 : t.val % 4 = 3) (q : Fin 1) (hq : t.val / 4 = q.val) (r : Fin 1024) (l : Fin 384) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x384.Idx → EReal) (a : S8192x1024.Idx → EReal) (i : Fin 1024) (j : Fin 384) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S1024x384.Idx) => ?_
    have hy0 : (y 0).val < 1024 := (y 0).isLt
    have hy1 : (y 1).val < 384 := (y 1).isLt
    have ht : t.val < 4 := hN ▸ t.isLt
    refine Eq.trans ?_ (read2 t _ y (ix2 ⟨1024 * (t.val / 4) + (y 0).val, by omega⟩ ⟨(y 1).val, hy1⟩) (by show 1024 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 1024 := (i 0).isLt
    have h1 : (i 1 : Nat) < 384 := (i 1).isLt
    have ht : 4 * ((i 0 : Nat) / 1024) + 3 < cfg0.N := by omega
    refine ⟨⟨4 * ((i 0 : Nat) / 1024) + 3, ht⟩, (flush0_2 _).mpr (by show (4 * ((i 0 : Nat) / 1024) + 3) % 4 = 3; omega), ?_⟩
    show (show S1024x384.Idx from i) ∈ ((View.whole main_v1).slice (win0_2.rect ⟨4 * ((i 0 : Nat) / 1024) + 3, ht⟩)).set
    rw [View.set_slice_whole, Rect.mem_set_unit]
    exact fun a => match a with
      | ⟨0, _⟩ => within (index2 _).1 (by show ((4 * ((i 0 : Nat) / 1024) + 3) / 4) * 1024 ≤ (i 0 : Nat) ∧ (i 0 : Nat) < ((4 * ((i 0 : Nat) / 1024) + 3) / 4) * 1024 + 1024; omega)
      | ⟨1, _⟩ => within (index2 _).2 (by show 0 * 384 ≤ (i 1 : Nat) ∧ (i 1 : Nat) < 0 * 384 + 384; omega)

/-! ## The claims -/

/-- The reference runs, keeps its arguments, and has no semaphore. -/
theorem ref_frame : Cert.quiescent_UqWRefIdeal (hUqWRefIdeal := Cert.UqWRefIdeal.Gen.facts) := fun m g _ =>
  (θ_run Cert.UqWRefIdeal.defs _ _).mono (fun r h => ⟨fun c => (h c).2, sem_eq_zero_of_no_sems (by decide) r.2⟩)
    (Cert.UqWRefIdeal.Value.run m g)

/-- The call's results are the reference's. -/
theorem value : Cert.algebraic_UqWIdeal_UqWRefIdeal (hUqWIdeal := Cert.UqWIdeal.Gen.facts) (hUqWRefIdeal := Cert.UqWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.UqWIdeal.defs _ _).mono (fun r h c => ?_) (Value.run_blocks m g)
    exact ⟨(h c).1.trans (final2 m c), (h c).2⟩
  · refine (θ_run Cert.UqWRefIdeal.defs _ _).mono (fun r h c => ?_) (Cert.UqWRefIdeal.Value.run m' g')
    obtain ⟨e0, e1, e2⟩ := agree c
    refine ⟨(h c).1.trans ?_, (h c).2⟩
    · rw [e0, e2]
      exact val_main_v4_eq _ _

end Cert.Ffn.UqW

end
-- ==== Proof.FfnUkvX.lean ====
/- The input gradient of the keys' and values' up-projections: two products, summed. -/
module

public import proofs.«01_k».proof.Defs
public import proofs.«01_k».proof.Proof.FfnLib
public import proofs.«01_k».proof.Proof.Gen.UkvX.Frame
public import proofs.«01_k».proof.Proof.Gen.UkvXIdeal.Value
public import proofs.«01_k».proof.Proof.Gen.UkvXRefIdeal.Run
public import proofs.«01_k».proof.Proof.Gen.UkvXRefIdeal.Read
public import Idealize.ShloMosaic.Lib.StableHlo.RunRead

@[expose] public section

set_option maxRecDepth 16384

noncomputable section

namespace Cert.Ffn.UkvX

open Idealize.ShloMosaic Idealize.ShloMosaic.TcCoe Idealize.SL.Sem
open Cert.UkvXIdeal Cert.UkvXIdeal.Gen Cert.UkvXRefIdeal.Read

variable (m : (ℓ : Loc nD τ sig) → Buf (Elt Ideal) ℓ)

/-! ## The arrays the call is given -/

theorem V_v1 (c : Dev nD) : V m c main_v1
    = transpose S1024x256 [1, 0] (m ((c : Thread nD τ).loc main_arg1) : S256x1024.Idx → EReal) transposes_S256x1024_S1024x256_1_0 := by
  unfold V
  after_reads_simp
  rfl

theorem V_v1_apply (c : Dev nD) (i : Fin 1024) (j : Fin 256) :
    V m c main_v1 (ix2 i j) = (m ((c : Thread nD τ).loc main_arg1) : S256x1024.Idx → EReal) (ix2 j i) := by
  rw [V_v1]
  generalize (m ((c : Thread nD τ).loc main_arg1) : S256x1024.Idx → EReal) = A
  pointwise

theorem V_v3 (c : Dev nD) : V m c main_v3
    = transpose S1024x256 [1, 0] (m ((c : Thread nD τ).loc main_arg2) : S256x1024.Idx → EReal) transposes_S256x1024_S1024x256_1_0 := by
  unfold V
  after_reads_simp
  rfl

theorem V_v3_apply (c : Dev nD) (i : Fin 1024) (j : Fin 256) :
    V m c main_v3 (ix2 i j) = (m ((c : Thread nD τ).loc main_arg2) : S256x1024.Idx → EReal) (ix2 j i) := by
  rw [V_v3]
  generalize (m ((c : Thread nD τ).loc main_arg2) : S256x1024.Idx → EReal) = A
  pointwise

/-! ## Where a point's blocks sit -/

theorem index0 : ∀ t : Fin cfg0.N, win0_0.index t 0 = t.val ∧ win0_0.index t 1 = 0 := by decide +kernel

theorem read0 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = t.val ∧ win0_1.index t 1 = 0 := by decide +kernel

theorem read1 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = 0 ∧ win0_2.index t 1 = 0 := by decide +kernel

theorem read2 (t : Fin cfg0.N) (A : S1024x256.Idx → EReal) (y : S1024x256.Idx) (i : S1024x256.Idx)
    (h0 : (i 0).val = 0 * 1024 + (y 0).val) (h1 : (i 1).val = 0 * 256 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = 0 ∧ win0_3.index t 1 = 0 := by decide +kernel

theorem read3 (t : Fin cfg0.N) (A : S1024x256.Idx → EReal) (y : S1024x256.Idx) (i : S1024x256.Idx)
    (h0 : (i 0).val = 0 * 1024 + (y 0).val) (h1 : (i 1).val = 0 * 256 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = t.val ∧ win0_4.index t 1 = 0 := by decide +kernel

theorem read4 (t : Fin cfg0.N) (A : S8192x256.Idx → EReal) (y : S512x256.Idx) (i : S8192x256.Idx)
    (h0 : (i 0).val = t.val * 512 + (y 0).val) (h1 : (i 1).val = 0 * 256 + (y 1).val) :
    ((cfg0.win 4).blk t).view.read (Elt Ideal) A y = A i :=
  congrArg A (idx2 _ _ (emb_at win0_4 t y 0 (index4 t).1 h0) (emb_at win0_4 t y 1 (index4 t).2 h1))

/-! ## One point -/

theorem point (P Q : S512x1024.Idx → EReal) (A B : S1024x256.Idx → EReal) (r : Fin 512) (l : Fin 256) :
    out0_4 (F := Ideal) P Q A B (ix2 r l) = (∑ k : Fin 1024, P (ix2 r k) * A (ix2 k l)) + ∑ k : Fin 1024, Q (ix2 r k) * B (ix2 k l) := by
  unfold out0_4
  refine (congrFun (View.canon_unit_zero off_zero _ _) _).trans ?_
  repeat rw [View.ld_unit_zero off_zero]
  unfold k0_pay1
  pointwise

/-! ## The reference's result at an index -/

theorem ref_apply (w1 w2 : S256x1024.Idx → EReal) (p q : S8192x1024.Idx → EReal) (i : Fin 8192) (j : Fin 256) :
    val_main_v4 (F := Ideal) w1 w2 p q (ix2 i j)
      = (∑ k : Fin 1024, p (ix2 i k) * w1 (ix2 j k)) + ∑ k : Fin 1024, q (ix2 i k) * w2 (ix2 j k) := by
  rw [val_main_v4_apply, val_main_v2_apply, val_main_v3_apply]
  refine (add_comm _ _).trans (congrArg₂ (· + ·) ?_ ?_)
  · exact Finset.sum_congr rfl fun k _ => congrArg₂ (· * ·) (congrArg p (idx2 _ _ rfl rfl)) (congrArg w1 (idx2 _ _ rfl rfl))
  · exact Finset.sum_congr rfl fun k _ => congrArg₂ (· * ·) (congrArg q (idx2 _ _ rfl rfl)) (congrArg w2 (idx2 _ _ rfl rfl))

/-! ## The array the call leaves -/

theorem final4 (c : Dev nD) : (dats m 0 c).arrAt 4 cfg0.N
    = val_main_v4 (F := Ideal) (m ((c : Thread nD τ).loc main_arg1)) (m ((c : Thread nD τ).loc main_arg2)) (m ((c : Thread nD τ).loc main_arg3)) (m ((c : Thread nD τ).loc main_arg4)) := by
  have hN : cfg0.N = 16 := by decide +kernel
  refine (dats m 0 c).arrAt_eq_of_cover 4 _ (fun t _ => ?_) (fun i => ?_)
  · rw [Value.flushed4]
    refine funext fun (y : S512x256.Idx) => ?_
    have hy0 : (y 0).val < 512 := (y 0).isLt
    have hy1 : (y 1).val < 256 := (y 1).isLt
    have ht : t.val < 16 := hN ▸ t.isLt
    refine Eq.trans ?_ (read4 t _ y (ix2 ⟨t.val * 512 + (y 0).val, by omega⟩ ⟨0 * 256 + (y 1).val, by omega⟩) rfl rfl).symm
    rw [ref_apply]
    refine Eq.trans (congrArg (out0_4 (F := Ideal) (iblk m c 0 t) (iblk m c 1 t) (iblk m c 2 t) (iblk m c 3 t)) (eq_ix2 y)) ?_
    refine (point _ _ _ _ (y 0) (y 1)).trans ?_
    refine congrArg₂ (· + ·) ?_ ?_
    · refine Finset.sum_congr rfl fun k _ => congrArg₂ (· * ·) ?_ ?_
      · refine (read0 t _ (ix2 (y 0) k) (ix2 ⟨t.val * 512 + (y 0).val, by omega⟩ k) rfl (by simp)).trans ?_
        exact congrFun (V_main_arg3 m c) _
      · refine (read2 t _ (ix2 k (y 1)) (ix2 k ⟨0 * 256 + (y 1).val, by omega⟩) (by simp) rfl).trans ?_
        exact V_v1_apply m c _ _
    · refine Finset.sum_congr rfl fun k _ => congrArg₂ (· * ·) ?_ ?_
      · refine (read1 t _ (ix2 (y 0) k) (ix2 ⟨t.val * 512 + (y 0).val, by omega⟩ k) rfl (by simp)).trans ?_
        exact congrFun (V_main_arg4 m c) _
      · refine (read3 t _ (ix2 k (y 1)) (ix2 k ⟨0 * 256 + (y 1).val, by omega⟩) (by simp) rfl).trans ?_
        exact V_v3_apply m c _ _
  · have h0 : (i 0 : Nat) < 8192 := (i 0).isLt
    have h1 : (i 1 : Nat) < 256 := (i 1).isLt
    have ht : (i 0 : Nat) / 512 < cfg0.N := by omega
    refine ⟨⟨(i 0 : Nat) / 512, ht⟩, flush0_4 _, ?_⟩
    show (show S8192x256.Idx from i) ∈ ((View.whole main_v4).slice (win0_4.rect ⟨(i 0 : Nat) / 512, ht⟩)).set
    rw [View.set_slice_whole, Rect.mem_set_unit]
    exact fun a => match a with
      | ⟨0, _⟩ => within (index4 _).1 (by show (i 0 : Nat) / 512 * 512 ≤ (i 0 : Nat) ∧ (i 0 : Nat) < (i 0 : Nat) / 512 * 512 + 512; omega)
      | ⟨1, _⟩ => within (index4 _).2 (by show 0 * 256 ≤ (i 1 : Nat) ∧ (i 1 : Nat) < 0 * 256 + 256; omega)

/-! ## The claims -/

/-- The reference runs, keeps its arguments, and has no semaphore. -/
theorem ref_frame : Cert.quiescent_UkvXRefIdeal (hUkvXRefIdeal := Cert.UkvXRefIdeal.Gen.facts) := fun m g _ =>
  (θ_run Cert.UkvXRefIdeal.defs _ _).mono (fun r h => ⟨fun c => (h c).2, sem_eq_zero_of_no_sems (by decide) r.2⟩)
    (Cert.UkvXRefIdeal.Value.run m g)

/-- The call's results are the reference's. -/
theorem value : Cert.algebraic_UkvXIdeal_UkvXRefIdeal (hUkvXIdeal := Cert.UkvXIdeal.Gen.facts) (hUkvXRefIdeal := Cert.UkvXRefIdeal.Gen.facts) := by
  intro m g m' g' _ agree
  refine ⟨fun c => val_main_v4 (F := Ideal) (m ((c : Thread nD τ).loc main_arg1)) (m ((c : Thread nD τ).loc main_arg2)) (m ((c : Thread nD τ).loc main_arg3)) (m ((c : Thread nD τ).loc main_arg4)), ?_, ?_⟩
  · refine (θ_run Cert.UkvXIdeal.defs _ _).mono (fun r h c => ?_) (Value.run_blocks m g)
    exact ⟨(h c).1.trans (final4 m c), (h c).2⟩
  · refine (θ_run Cert.UkvXRefIdeal.defs _ _).mono (fun r h c => ?_) (Cert.UkvXRefIdeal.Value.run m' g')
    obtain ⟨e0, e1, e2, e3, e4⟩ := agree c
    refine ⟨(h c).1.trans ?_, (h c).2⟩
    · rw [e1, e2, e3, e4]
      exact val_main_v4_eq _ _ _ _

end Cert.Ffn.UkvX

end
-- ==== Proof.FfnUkvW.lean ====
/- The gradient of the latent keys' and values' weight, transposed. -/
module

public import proofs.«01_k».proof.Defs
public import proofs.«01_k».proof.Proof.FfnLib
public import proofs.«01_k».proof.Proof.Gen.UkvW.Frame
public import proofs.«01_k».proof.Proof.Gen.UkvWIdeal.Value
public import proofs.«01_k».proof.Proof.Gen.UkvWRefIdeal.Run
public import proofs.«01_k».proof.Proof.Gen.UkvWRefIdeal.Read
public import Idealize.ShloMosaic.Lib.StableHlo.RunRead

@[expose] public section

set_option maxRecDepth 16384

noncomputable section

namespace Cert.Ffn.UkvW

open Idealize.ShloMosaic Idealize.ShloMosaic.TcCoe Idealize.SL.Sem
open Cert.UkvWIdeal Cert.UkvWIdeal.Gen Cert.UkvWRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

/-! ## Where a point's blocks sit -/

theorem index0 : ∀ t : Fin cfg0.N, win0_0.index t 0 = (t.val % 4) ∧ win0_0.index t 1 = (t.val / 4) := by decide +kernel

theorem read0 (t : Fin cfg0.N) (A : S8192x1024.Idx → EReal) (y : S2048x1024.Idx) (i : S8192x1024.Idx)
    (h0 : (i 0).val = (t.val % 4) * 2048 + (y 0).val) (h1 : (i 1).val = (t.val / 4) * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = (t.val % 4) ∧ win0_1.index t 1 = 0 := by decide +kernel

theorem read1 (t : Fin cfg0.N) (A : S8192x256.Idx → EReal) (y : S2048x256.Idx) (i : S8192x256.Idx)
    (h0 : (i 0).val = (t.val % 4) * 2048 + (y 0).val) (h1 : (i 1).val = 0 * 256 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = (t.val / 4) ∧ win0_2.index t 1 = 0 := by decide +kernel

theorem read2 (t : Fin cfg0.N) (A : S1024x256.Idx → EReal) (y : S1024x256.Idx) (i : S1024x256.Idx)
    (h0 : (i 0).val = (t.val / 4) * 1024 + (y 0).val) (h1 : (i 1).val = 0 * 256 + (y 1).val) :
    ((cfg0.win 2).blk t).view.read (Elt Ideal) A y = A i :=
  congrArg A (idx2 _ _ (emb_at win0_2 t y 0 (index2 t).1 h0) (emb_at win0_2 t y 1 (index2 t).2 h1))

/-! ## One point: the product of its two blocks, kept, added to the kept sum, or added and written out -/

theorem blockProd (a : S2048x1024.Idx → EReal) (x : S2048x256.Idx → EReal) (r : Fin 1024) (l : Fin 256) :
    k0_pay1 (F := Ideal) a x (ix2 r l) = ∑ k : Fin 2048, a (ix2 k r) * x (ix2 k l) := by
  unfold k0_pay1
  pointwise

theorem keep (a : S2048x1024.Idx → EReal) (x : S2048x256.Idx → EReal) (r : Fin 1024) (l : Fin 256) :
    k0_pay2 (F := Ideal) a x (ix2 r l) = ∑ k : Fin 2048, a (ix2 k r) * x (ix2 k l) := by
  rw [← blockProd a x r l]
  unfold k0_pay2
  generalize k0_pay1 (F := Ideal) a x = p
  pointwise

theorem add (a : S2048x1024.Idx → EReal) (x : S2048x256.Idx → EReal) (q : S1024x256.Idx → EReal) (r : Fin 1024) (l : Fin 256) :
    k0_pay3 (F := Ideal) a x q (ix2 r l) = q (ix2 r l) + ∑ k : Fin 2048, a (ix2 k r) * x (ix2 k l) := by
  rw [← blockProd a x r l]
  unfold k0_pay3
  generalize k0_pay1 (F := Ideal) a x = p
  pointwise

theorem emit (a : S2048x1024.Idx → EReal) (x : S2048x256.Idx → EReal) (q : S1024x256.Idx → EReal) (r : Fin 1024) (l : Fin 256) :
    k0_pay4 (F := Ideal) a x q (ix2 r l) = q (ix2 r l) + ∑ k : Fin 2048, a (ix2 k r) * x (ix2 k l) := by
  rw [← blockProd a x r l]
  unfold k0_pay4
  generalize k0_pay1 (F := Ideal) a x = p
  pointwise

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  unfold kernelRun0_A
  dsimp only
  sl_unfold_words
  rw [View.read_writes_junk_eq_canon]
  refine (View.canon_unit_zero off_zero _ _).trans ?_
  simp only [View.readAt_eq_ld, (hs0_0 t).read_unread, (hs0_1 t).read_unread]
  repeat rw [View.ld_unit_zero off_zero]

theorem next (c : Dev nD) (t : Fin cfg0.N) (h1 : 1 ≤ t.val % 4 ∧ t.val % 4 ≤ 2) :
    (outsAt0 m c t.val t.isLt).2 = k0_pay3 (F := Ideal) (iblk m c 0 t) (iblk m c 1 t) (outsAt0 m c (t.val - 1) (pred_lt t.isLt)).2 := by
  rw [outsAt0_B m c t (by omega) h1 (by omega)]
  dsimp only
  unfold sout0_B_0
  unfold kernelRun0_B
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

theorem last (c : Dev nD) (t : Fin cfg0.N) (h2 : t.val % 4 = 3) :
    (outsAt0 m c t.val t.isLt).1 = k0_pay4 (F := Ideal) (iblk m c 0 t) (iblk m c 1 t) (outsAt0 m c (t.val - 1) (pred_lt t.isLt)).2 := by
  rw [outsAt0_C m c t (by omega) (by omega) h2]
  dsimp only
  unfold out0_C_2
  unfold kernelRun0_C
  dsimp only
  sl_unfold_words
  rw [View.read_writes_junk_eq_canon]
  refine (View.canon_unit_zero off_zero _ _).trans ?_
  simp only [View.readAt_eq_ld, (hs0_0 t).read_unread, (hs0_1 t).read_unread, (Memref.isWhole_whole _).read_unread]
  repeat rw [View.ld_unit_zero off_zero]

/-! ## A run of points: the sum so far -/

theorem card : cfg0.N = 4 := by decide +kernel

/-- The terms of the entry that place `(r, l)` of run `q` of points adds up. -/
abbrev tm (c : Dev nD) (q : Fin 1) (r : Fin 1024) (l : Fin 256) : ℕ → EReal :=
  term (n := 8192) (a := 1024) (b := 256) (m ((c : Thread nD τ).loc main_arg2)) (m ((c : Thread nD τ).loc main_arg0)) ⟨1024 * q.val + r.val, by omega⟩ l

/-- The two blocks a point is given. -/
abbrev ab (c : Dev nD) (t : Fin cfg0.N) : S2048x1024.Idx → EReal := iblk m c 0 t

abbrev xb (c : Dev nD) (t : Fin cfg0.N) : S2048x256.Idx → EReal := iblk m c 1 t

theorem terms (c : Dev nD) (t : Fin cfg0.N) (q : Fin 1) (hq : t.val / 4 = q.val) (r : Fin 1024) (l : Fin 256) (k : Fin 2048) :
    ab m c t (ix2 k r) * xb m c t (ix2 k l) = tm m c q r l (2048 * (t.val % 4) + k.val) := by
  have ht : t.val < 4 := card ▸ t.isLt
  refine Eq.trans ?_ (term_lt _ _ _ _ _ (by omega)).symm
  refine congrArg₂ (· * ·) ?_ ?_
  · refine (read0 t _ (ix2 k r) (ix2 ⟨2048 * (t.val % 4) + k.val, by omega⟩ ⟨1024 * q.val + r.val, by omega⟩) ?_ ?_).trans ?_
    · exact congrArg (· + k.val) (Nat.mul_comm _ _)
    · show 1024 * q.val + r.val = t.val / 4 * 1024 + r.val
      omega
    · exact congrFun (V_main_arg2 m c) _
  · refine (read1 t _ (ix2 k l) (ix2 ⟨2048 * (t.val % 4) + k.val, by omega⟩ l) ?_ ?_).trans ?_
    · exact congrArg (· + k.val) (Nat.mul_comm _ _)
    · show l.val = 0 * 256 + l.val
      omega
    · exact congrFun (V_v0 m c) _

theorem whole (c : Dev nD) (t : Fin cfg0.N) (h2 : t.val % 4 = 3) (q : Fin 1) (hq : t.val / 4 = q.val) (r : Fin 1024) (l : Fin 256) :
    (outsAt0 m c t.val t.isLt).1 (ix2 r l) = ∑ k ∈ Finset.range 8192, tm m c q r l k :=
  run_sum (tm m c q r l) q.val (fun n hn => (outsAt0 m c n hn).2 (ix2 r l)) (fun n hn => (outsAt0 m c n hn).1 (ix2 r l))
    (fun n hn k => ab m c ⟨n, hn⟩ (ix2 k r) * xb m c ⟨n, hn⟩ (ix2 k l)) (by decide)
    (fun n hn hq k => terms m c ⟨n, hn⟩ q hq r l k) (fun n hn h => (congrFun (first m c ⟨n, hn⟩ h) _).trans (keep _ _ r l))
    (fun n hn h => (congrFun (next m c ⟨n, hn⟩ h) _).trans (add _ _ _ r l)) (fun n hn h => (congrFun (last m c ⟨n, hn⟩ h) _).trans (emit _ _ _ r l))
    t.val t.isLt hq h2

/-! ## The reference's result at an index -/

theorem ref_apply (x : S8192x256.Idx → EReal) (a : S8192x1024.Idx → EReal) (i : Fin 1024) (j : Fin 256) :
    val_main_v4 (F := Ideal) x a (ix2 i j) = ∑ k : Fin 8192, a (ix2 k i) * x (ix2 k j) := by
  rw [val_main_v4_apply, val_main_v3_apply, val_main_v2_apply, val_main_v1_apply]
  show ∑ k : Fin 8192, _ = _
  refine Finset.sum_congr rfl fun k _ => ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v4 (F := Ideal) (m ((c : Thread nD τ).loc main_arg0)) (m ((c : Thread nD τ).loc main_arg2)) := by
  have hN : cfg0.N = 4 := card
  refine (dats m 0 c).arrAt_eq_of_cover 2 _ (fun t hf => ?_) (fun i => ?_)
  · have h2 : t.val % 4 = 3 := (flush0_2 t).mp hf
    rw [Value.flushed2]
    refine funext fun (y : S1024x256.Idx) => ?_
    have hy0 : (y 0).val < 1024 := (y 0).isLt
    have hy1 : (y 1).val < 256 := (y 1).isLt
    have ht : t.val < 4 := hN ▸ t.isLt
    refine Eq.trans ?_ (read2 t _ y (ix2 ⟨1024 * (t.val / 4) + (y 0).val, by omega⟩ ⟨(y 1).val, hy1⟩) (by show 1024 * (t.val / 4) + (y 0).val = _; omega) (by show (y 1).val = _; omega)).symm
    rw [ref_apply]
    refine Eq.trans (congrArg ((outsAt0 m c t.val t.isLt).1) (eq_ix2 y)) ?_
    refine (whole m c t h2 ⟨t.val / 4, by omega⟩ rfl (y 0) (y 1)).trans ?_
    exact term_sum _ _ _ _
  · have h0 : (i 0 : Nat) < 1024 := (i 0).isLt
    have h1 : (i 1 : Nat) < 256 := (i 1).isLt
    have ht : 4 * ((i 0 : Nat) / 1024) + 3 < cfg0.N := by omega
    refine ⟨⟨4 * ((i 0 : Nat) / 1024) + 3, ht⟩, (flush0_2 _).mpr (by show (4 * ((i 0 : Nat) / 1024) + 3) % 4 = 3; omega), ?_⟩
    show (show S1024x256.Idx from i) ∈ ((View.whole main_v1).slice (win0_2.rect ⟨4 * ((i 0 : Nat) / 1024) + 3, ht⟩)).set
    rw [View.set_slice_whole, Rect.mem_set_unit]
    exact fun a => match a with
      | ⟨0, _⟩ => within (index2 _).1 (by show ((4 * ((i 0 : Nat) / 1024) + 3) / 4) * 1024 ≤ (i 0 : Nat) ∧ (i 0 : Nat) < ((4 * ((i 0 : Nat) / 1024) + 3) / 4) * 1024 + 1024; omega)
      | ⟨1, _⟩ => within (index2 _).2 (by show 0 * 256 ≤ (i 1 : Nat) ∧ (i 1 : Nat) < 0 * 256 + 256; omega)

/-! ## The claims -/

/-- The reference runs, keeps its arguments, and has no semaphore. -/
theorem ref_frame : Cert.quiescent_UkvWRefIdeal (hUkvWRefIdeal := Cert.UkvWRefIdeal.Gen.facts) := fun m g _ =>
  (θ_run Cert.UkvWRefIdeal.defs _ _).mono (fun r h => ⟨fun c => (h c).2, sem_eq_zero_of_no_sems (by decide) r.2⟩)
    (Cert.UkvWRefIdeal.Value.run m g)

/-- The call's results are the reference's. -/
theorem value : Cert.algebraic_UkvWIdeal_UkvWRefIdeal (hUkvWIdeal := Cert.UkvWIdeal.Gen.facts) (hUkvWRefIdeal := Cert.UkvWRefIdeal.Gen.facts) := by
  intro m g m' g' _ agree
  refine ⟨fun c => val_main_v4 (F := Ideal) (m ((c : Thread nD τ).loc main_arg0)) (m ((c : Thread nD τ).loc main_arg2)), ?_, ?_⟩
  · refine (θ_run Cert.UkvWIdeal.defs _ _).mono (fun r h c => ?_) (Value.run_blocks m g)
    exact ⟨(h c).1.trans (final2 m c), (h c).2⟩
  · refine (θ_run Cert.UkvWRefIdeal.defs _ _).mono (fun r h c => ?_) (Cert.UkvWRefIdeal.Value.run m' g')
    obtain ⟨e0, e1, e2⟩ := agree c
    refine ⟨(h c).1.trans ?_, (h c).2⟩
    · rw [e0, e2]
      exact val_main_v4_eq _ _

end Cert.Ffn.UkvW

end
-- ==== Proof.FfnUkv.lean ====
/- The keys' and values' up-projection, and its keys' lanes alone. -/
module

public import proofs.«01_k».proof.Defs
public import proofs.«01_k».proof.Proof.FfnLib
public import proofs.«01_k».proof.Proof.Gen.Ukv.Frame
public import proofs.«01_k».proof.Proof.Gen.UkvIdeal.Value
public import proofs.«01_k».proof.Proof.Gen.UkvRefIdeal.Run
public import proofs.«01_k».proof.Proof.Gen.UkvRefIdeal.Read
public import Idealize.ShloMosaic.Lib.StableHlo.RunRead
public import Idealize.ShloMosaic.Lib.KernelVsHost

@[expose] public section

set_option maxRecDepth 16384

noncomputable section

namespace Cert.Ffn.Ukv

open Idealize.ShloMosaic Idealize.ShloMosaic.TcCoe Idealize.SL.Sem
open Cert.UkvIdeal Cert.UkvIdeal.Gen Cert.UkvRefIdeal.Read

variable (m : (ℓ : Loc nD τ sig) → Buf (Elt Ideal) ℓ)

/-! ## The arrays the call is given -/

theorem V_v3 (c : Dev nD) : V m c main_v3 = m ((c : Thread nD τ).loc main_arg0) := by
  unfold V
  after_reads_simp
  rfl

theorem V_v2 (c : Dev nD) : V m c main_v2
    = transpose S1024x256 [1, 0] (m ((c : Thread nD τ).loc main_arg1) : S256x1024.Idx → EReal) transposes_S256x1024_S1024x256_1_0 := by
  unfold V
  after_reads_simp
  rfl

theorem V_v2_apply (c : Dev nD) (i : Fin 1024) (j : Fin 256) :
    V m c main_v2 (ix2 i j) = (m ((c : Thread nD τ).loc main_arg1) : S256x1024.Idx → EReal) (ix2 j i) := by
  rw [V_v2]
  generalize (m ((c : Thread nD τ).loc main_arg1) : S256x1024.Idx → EReal) = A
  pointwise

/-- The table marks the first 64 rows of each 128. -/
theorem lit_eq : ∀ n : Fin 1024, lit0 n = if n.val % 128 < 64 then 1#1 else 0#1 := by decide +kernel

theorem V_v5 (c : Dev nD) : V m c main_v5
    = select (broadcastInDim S1024x256 ![0, 1] bcast_S1024x1_S1024x256_0_1 (broadcastInDim S1024x1 ![0] bcast_S1024_S1024x1_0 (fun i => lit0 (S1024.rowMajor i))))
        (transpose S1024x256 [1, 0] (m ((c : Thread nD τ).loc main_arg1) : S256x1024.Idx → EReal) transposes_S256x1024_S1024x256_1_0)
        (broadcastInDim S1024x256 ![] bcast_S_S1024x256 (constant (F := Ideal) S_ .bf16 0x0000#16)) := by
  unfold V
  after_reads_simp
  rfl

/-- The place of a number in a list of 1024. -/
abbrev at1 (i : Fin 1024) : S1024.Idx := fun a => match a with
  | ⟨0, _⟩ => i

theorem mark (i : Fin 1024) (j : Fin 256) :
    broadcastInDim S1024x256 ![0, 1] bcast_S1024x1_S1024x256_0_1 (broadcastInDim S1024x1 ![0] bcast_S1024_S1024x1_0 (fun i => lit0 (S1024.rowMajor i))) (ix2 i j)
      = if i.val % 128 < 64 then 1#1 else 0#1 := by
  refine (broadcastInDim_apply _ _ _ (ix2 i j) (ix2 i (0 : Fin 1)) fun a => match a with
    | ⟨0, _⟩ => (if_neg (by show ¬ (1024 : ℕ) = 1; decide)).symm
    | ⟨1, _⟩ => (if_pos rfl).symm).trans ?_
  refine (broadcastInDim_apply _ _ _ (ix2 i (0 : Fin 1)) (at1 i) fun a => match a with
    | ⟨0, _⟩ => (if_neg (by show ¬ (1024 : ℕ) = 1; decide)).symm).trans ?_
  refine (congrArg lit0 (Fin.ext ?_)).trans (lit_eq i)
  rw [Shape.rowMajor_val_one]

theorem V_v5_apply (c : Dev nD) (i : Fin 1024) (j : Fin 256) :
    V m c main_v5 (ix2 i j) = if i.val % 128 < 64 then (m ((c : Thread nD τ).loc main_arg1) : S256x1024.Idx → EReal) (ix2 j i) else (0 : EReal) := by
  rw [V_v5]
  generalize (m ((c : Thread nD τ).loc main_arg1) : S256x1024.Idx → EReal) = A
  refine (congrArg (Scalar.select · _ _) (mark i j)).trans ?_
  split_ifs with h
  · show transpose S1024x256 [1, 0] A transposes_S256x1024_S1024x256_1_0 (ix2 i j) = A (ix2 j i)
    pointwise
  · exact (broadcastInDim_apply _ bcast_S_S1024x256 (constant (F := Ideal) S_ .bf16 0x0000#16) (ix2 i j) (fun a => a.elim0) fun a => a.elim0).trans Ideal.ofBits_zero_bf16

/-! ## Where a point's blocks sit -/

theorem index0 : ∀ t : Fin cfg0.N, win0_0.index t 0 = t.val ∧ win0_0.index t 1 = 0 := by decide +kernel

theorem read0 (t : Fin cfg0.N) (A : S8192x256.Idx → EReal) (y : S512x256.Idx) (i : S8192x256.Idx)
    (h0 : (i 0).val = t.val * 512 + (y 0).val) (h1 : (i 1).val = 0 * 256 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x256.Idx → EReal) (y : S1024x256.Idx) (i : S1024x256.Idx)
    (h0 : (i 0).val = 0 * 1024 + (y 0).val) (h1 : (i 1).val = 0 * 256 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = 0 ∧ win0_2.index t 1 = 0 := by decide +kernel

theorem read2 (t : Fin cfg0.N) (A : S1024x256.Idx → EReal) (y : S1024x256.Idx) (i : S1024x256.Idx)
    (h0 : (i 0).val = 0 * 1024 + (y 0).val) (h1 : (i 1).val = 0 * 256 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = t.val ∧ win0_4.index t 1 = 0 := by decide +kernel

theorem read4 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 4).blk t).view.read (Elt Ideal) A y = A i :=
  congrArg A (idx2 _ _ (emb_at win0_4 t y 0 (index4 t).1 h0) (emb_at win0_4 t y 1 (index4 t).2 h1))

/-! ## One point -/

theorem point3 (P : S512x256.Idx → EReal) (A B : S1024x256.Idx → EReal) (r : Fin 512) (l : Fin 1024) :
    out0_3 (F := Ideal) P A B (ix2 r l) = ∑ k : Fin 256, P (ix2 r k) * A (ix2 l k) := by
  unfold out0_3
  refine (congrFun (View.canon_unit_zero off_zero _ _) _).trans ?_
  repeat rw [View.ld_unit_zero off_zero]
  unfold k0_pay2 k0_pay1
  pointwise

theorem point4 (P : S512x256.Idx → EReal) (A B : S1024x256.Idx → EReal) (r : Fin 512) (l : Fin 1024) :
    out0_4 (F := Ideal) P A B (ix2 r l) = ∑ k : Fin 256, P (ix2 r k) * B (ix2 l k) := by
  unfold out0_4
  refine (congrFun (View.canon_unit_zero off_zero _ _) _).trans ?_
  repeat rw [View.ld_unit_zero off_zero]
  unfold k0_pay3 k0_pay1
  pointwise

/-! ## The reference's results at an index -/

theorem ref3_apply (h : S8192x256.Idx → EReal) (w : S256x1024.Idx → EReal) (i : Fin 8192) (j : Fin 1024) :
    val_main_v0 (F := Ideal) h w (ix2 i j) = ∑ k : Fin 256, h (ix2 i k) * w (ix2 k j) := by
  rw [val_main_v0_apply]
  exact Finset.sum_congr rfl fun k _ => congrArg₂ (· * ·) (congrArg h (idx2 _ _ rfl rfl)) (congrArg w (idx2 _ _ rfl rfl))

theorem ref4_apply (h : S8192x256.Idx → EReal) (w : S256x1024.Idx → EReal) (i : Fin 8192) (j : Fin 1024) :
    val_main_v5 (F := Ideal) h w (ix2 i j) = if j.val % 128 < 64 then ∑ k : Fin 256, h (ix2 i k) * w (ix2 k j) else 0 := by
  rw [val_main_v5_apply]
  unfold val_main_v4
  have hj : (i.val * 1024 + j.val) % 128 = j.val % 128 := by omega
  split_ifs with h0
  · refine (pad_apply_of_inside _ _ _ _ _ _ _ _ (fun a => match a with
      | ⟨0, _⟩ => ⟨i.val, i.isLt⟩
      | ⟨1, _⟩ => ⟨j.val / 128, by have := j.isLt; show j.val / 128 < 8; omega⟩
      | ⟨2, _⟩ => ⟨j.val % 128, h0⟩ : Cert.UkvRefIdeal.S8192x8x64.Idx) fun a => ?_).trans ?_
    · match a with
      | ⟨0, _⟩ => show (i.val * 1024 + j.val) / 1024 = 0 + i.val * (0 + 1); omega
      | ⟨1, _⟩ => show (i.val * 1024 + j.val) / 128 % 8 = 0 + j.val / 128 * (0 + 1); omega
      | ⟨2, _⟩ => show (i.val * 1024 + j.val) % 128 = 0 + j.val % 128 * (0 + 1); omega
    · rw [val_main_v2_apply, val_main_v1_apply]
      refine Eq.trans (congrArg _ (idx2 _ (ix2 i j) ?_ ?_)) (ref3_apply h w i j)
      · show ((i.val * 8 + j.val / 128) * 128 + j.val % 128) / 1024 = i.val
        omega
      · show ((i.val * 8 + j.val / 128) * 128 + j.val % 128) % 1024 = j.val
        omega
  · refine (pad_apply_of_not_inside _ _ _ _ _ _ _ _ (2 : Fin 3) fun hh => ?_).trans ?_
    · have h2 : ((i.val * 1024 + j.val) % 128 - 0) / (0 + 1) < 64 := hh.2.2
      omega
    · show (((0#32 : BitVec 32).toInt : ℝ) : EReal) = 0
      simp

/-! ## The arrays the call leaves -/

theorem final3 (c : Dev nD) : (dats m 0 c).arrAt 3 cfg0.N
    = val_main_v0 (F := Ideal) (m ((c : Thread nD τ).loc main_arg0)) (m ((c : Thread nD τ).loc main_arg1)) := by
  have hN : cfg0.N = 16 := by decide +kernel
  refine (dats m 0 c).arrAt_eq_of_cover 3 _ (fun t _ => ?_) (fun i => ?_)
  · rw [Value.flushed3]
    refine funext fun (y : S512x1024.Idx) => ?_
    have hy0 : (y 0).val < 512 := (y 0).isLt
    have hy1 : (y 1).val < 1024 := (y 1).isLt
    have ht : t.val < 16 := hN ▸ t.isLt
    refine Eq.trans ?_ (read3 t _ y (ix2 ⟨t.val * 512 + (y 0).val, by omega⟩ ⟨0 * 1024 + (y 1).val, by omega⟩) rfl rfl).symm
    rw [ref3_apply]
    refine Eq.trans (congrArg (out0_3 (F := Ideal) (iblk m c 0 t) (iblk m c 1 t) (iblk m c 2 t)) (eq_ix2 y)) ?_
    refine (point3 _ _ _ (y 0) (y 1)).trans ?_
    refine Finset.sum_congr rfl fun k _ => congrArg₂ (· * ·) ?_ ?_
    · refine (read0 t _ (ix2 (y 0) k) (ix2 ⟨t.val * 512 + (y 0).val, by omega⟩ k) rfl (by simp)).trans ?_
      exact congrFun (V_v3 m c) _
    · refine (read1 t _ (ix2 (y 1) k) (ix2 ⟨0 * 1024 + (y 1).val, by omega⟩ k) rfl (by simp)).trans ?_
      exact V_v2_apply m c _ _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_3 _, ?_⟩
    show (show S8192x1024.Idx from i) ∈ ((View.whole main_v6_0).slice (win0_3.rect ⟨(i 0 : Nat) / 512, ht⟩)).set
    rw [View.set_slice_whole, Rect.mem_set_unit]
    exact fun a => match a with
      | ⟨0, _⟩ => within (index3 _).1 (by show (i 0 : Nat) / 512 * 512 ≤ (i 0 : Nat) ∧ (i 0 : Nat) < (i 0 : Nat) / 512 * 512 + 512; omega)
      | ⟨1, _⟩ => within (index3 _).2 (by show 0 * 1024 ≤ (i 1 : Nat) ∧ (i 1 : Nat) < 0 * 1024 + 1024; omega)

theorem final4 (c : Dev nD) : (dats m 0 c).arrAt 4 cfg0.N
    = val_main_v5 (F := Ideal) (m ((c : Thread nD τ).loc main_arg0)) (m ((c : Thread nD τ).loc main_arg1)) := by
  have hN : cfg0.N = 16 := by decide +kernel
  refine (dats m 0 c).arrAt_eq_of_cover 4 _ (fun t _ => ?_) (fun i => ?_)
  · rw [Value.flushed4]
    refine funext fun (y : S512x1024.Idx) => ?_
    have hy0 : (y 0).val < 512 := (y 0).isLt
    have hy1 : (y 1).val < 1024 := (y 1).isLt
    have ht : t.val < 16 := hN ▸ t.isLt
    refine Eq.trans ?_ (read4 t _ y (ix2 ⟨t.val * 512 + (y 0).val, by omega⟩ ⟨0 * 1024 + (y 1).val, by omega⟩) rfl rfl).symm
    rw [ref4_apply]
    refine Eq.trans (congrArg (out0_4 (F := Ideal) (iblk m c 0 t) (iblk m c 1 t) (iblk m c 2 t)) (eq_ix2 y)) ?_
    refine (point4 _ _ _ (y 0) (y 1)).trans ?_
    have e2 : ∀ k, iblk m c 2 t (ix2 (y 1) k) = if (y 1).val % 128 < 64 then m ((c : Thread nD τ).loc main_arg1) (ix2 k ⟨0 * 1024 + (y 1).val, by omega⟩) else (0 : EReal) := fun k => by
      refine (read2 t _ (ix2 (y 1) k) (ix2 ⟨0 * 1024 + (y 1).val, by omega⟩ k) rfl (by simp)).trans ?_
      refine (V_v5_apply m c _ _).trans ?_
      exact if_congr (by show (0 * 1024 + (y 1).val) % 128 < 64 ↔ _; rw [Nat.zero_mul, Nat.zero_add]) rfl rfl
    have e0 : ∀ k, iblk m c 0 t (ix2 (y 0) k) = m ((c : Thread nD τ).loc main_arg0) (ix2 ⟨t.val * 512 + (y 0).val, by omega⟩ k) := fun k =>
      (read0 t _ (ix2 (y 0) k) (ix2 ⟨t.val * 512 + (y 0).val, by omega⟩ k) rfl (by simp)).trans (congrFun (V_v3 m c) _)
    have hc : (0 * 1024 + (y 1).val) % 128 = (y 1).val % 128 := by rw [Nat.zero_mul, Nat.zero_add]
    split_ifs with hl
    · refine Finset.sum_congr rfl fun k _ => congrArg₂ (· * ·) (e0 k) ((e2 k).trans (if_pos (hc ▸ hl)))
    · refine Finset.sum_eq_zero fun k _ => ?_
      refine (congrArg (fun z : EReal => (fun a b : EReal => a * b) (iblk m c 0 t (ix2 (y 0) k)) z) ((e2 k).trans (if_neg (hc ▸ hl)))).trans (mul_zero _)
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_4 _, ?_⟩
    show (show S8192x1024.Idx from i) ∈ ((View.whole main_v6_1).slice (win0_4.rect ⟨(i 0 : Nat) / 512, ht⟩)).set
    rw [View.set_slice_whole, Rect.mem_set_unit]
    exact fun a => match a with
      | ⟨0, _⟩ => within (index4 _).1 (by show (i 0 : Nat) / 512 * 512 ≤ (i 0 : Nat) ∧ (i 0 : Nat) < (i 0 : Nat) / 512 * 512 + 512; omega)
      | ⟨1, _⟩ => within (index4 _).2 (by show 0 * 1024 ≤ (i 1 : Nat) ∧ (i 1 : Nat) < 0 * 1024 + 1024; omega)

/-! ## The claims -/

/-- The reference runs, keeps its arguments, and has no semaphore. -/
theorem ref_frame : Cert.quiescent_UkvRefIdeal (hUkvRefIdeal := Cert.UkvRefIdeal.Gen.facts) := fun m g _ =>
  (θ_run Cert.UkvRefIdeal.defs _ _).mono (fun r h => ⟨fun c => (h c).2.2, sem_eq_zero_of_no_sems (by decide) r.2⟩)
    (Cert.UkvRefIdeal.Value.run m g)

/-- The call's results are the reference's. -/
theorem value : Cert.algebraic_UkvIdeal_UkvRefIdeal (hUkvIdeal := Cert.UkvIdeal.Gen.facts) (hUkvRefIdeal := Cert.UkvRefIdeal.Gen.facts) := by
  intro m g m' g' _ agree
  refine ⟨fun c => val_main_v0 (F := Ideal) (m ((c : Thread nD τ).loc main_arg0)) (m ((c : Thread nD τ).loc main_arg1)), fun c => val_main_v5 (F := Ideal) (m ((c : Thread nD τ).loc main_arg0)) (m ((c : Thread nD τ).loc main_arg1)), ?_, ?_⟩
  · refine (θ_run Cert.UkvIdeal.defs _ _).mono (fun r h c => ?_) (Value.run_blocks m g)
    exact ⟨(h c).1.trans (final3 m c), (h c).2.1.trans (final4 m c), (h c).2.2⟩
  · refine (θ_run Cert.UkvRefIdeal.defs _ _).mono (fun r h c => ?_) (Cert.UkvRefIdeal.Value.run m' g')
    obtain ⟨e0, e1⟩ := agree c
    refine ⟨(h c).1.trans ?_, (h c).2.1.trans ?_, (h c).2.2⟩
    · rw [e0, e1]
      exact val_main_v0_eq _ _
    · rw [e0, e1]
      exact val_main_v5_eq _ _

end Cert.Ffn.Ukv

end
-- ==== Proof.FfnRope.lean ====
/- The rotation of two projections' head lanes: its tables, and one tile of 128 lanes of it. -/
module

public import proofs.«01_k».proof.Proof.FfnLib
public import Idealize.ShloMosaic.Lib.KernelVsHost

@[expose] public section

noncomputable section

namespace Cert.Ffn.Rope

open Idealize.ShloMosaic

abbrev Sh (a b : ℕ) : Shape := ⟨2, ![a, b]⟩
abbrev Sh1 (a : ℕ) : Shape := ⟨1, ![a]⟩

theorem idx1 {a : ℕ} (x y : (Sh1 a).Idx) (h : (x 0).val = (y 0).val) : x = y :=
  funext fun b => match b with
    | ⟨0, _⟩ => Fin.ext h

/-! ## One tile -/

/-- 128 lanes of a block from lane `o` on, turned: the lanes by one table, the lanes `s` before by another, the lanes `s`
    after, which are the lanes `s'` before, by a third. -/
def turn {R w : ℕ} (s s' o : ℕ) (hs : (Sh R w).Slices ![0, o] (Sh R 128)) (hr : (Sh R 128).Rotates 1 none)
    (x : (Sh R w).Idx → EReal) (a b p : (Sh R 128).Idx → EReal) : (Sh R 128).Idx → EReal :=
  addf (F := Ideal) (φ := .f32)
    (addf (F := Ideal) (φ := .f32) (mulf (F := Ideal) (φ := .f32) (extractStridedSlice (Sh R 128) ![0, o] x hs) a)
      (mulf (F := Ideal) (φ := .f32) (dynamicRotate 1 (BitVec.ofNat 32 s) none (extractStridedSlice (Sh R 128) ![0, o] x hs) hr) b))
    (mulf (F := Ideal) (φ := .f32) (dynamicRotate 1 (BitVec.ofNat 32 s') none (extractStridedSlice (Sh R 128) ![0, o] x hs) hr) p)

theorem slice_apply {R w : ℕ} (o : ℕ) (hs : (Sh R w).Slices ![0, o] (Sh R 128)) (x : (Sh R w).Idx → EReal) (r : Fin R) (e : Fin 128)
    (n : Fin w) (hn : n.val = o + e.val) : extractStridedSlice (Sh R 128) ![0, o] x hs (ix2 r e) = x (ix2 r n) :=
  extractStridedSlice_apply _ x hs (ix2 r e) (ix2 r n) fun a => match a with
    | ⟨0, _⟩ => (Nat.zero_add _).symm
    | ⟨1, _⟩ => hn

/-- The tile moved by `s` lanes holds, at each lane, the block's lane `s` before it in the tile. -/
theorem rotate_apply {R w : ℕ} (s s' o : ℕ) (h : s + s' = 128) (h0 : s < 128) (hs : (Sh R w).Slices ![0, o] (Sh R 128)) (hr : (Sh R 128).Rotates 1 none)
    (x : (Sh R w).Idx → EReal) (r : Fin R) (e : Fin 128) (n : Fin w) (hn : n.val = o + (e.val + s') % 128) :
    dynamicRotate 1 (BitVec.ofNat 32 s) none (extractStridedSlice (Sh R 128) ![0, o] x hs) hr (ix2 r e) = x (ix2 r n) :=
  (dynamicRotate_apply 1 (BitVec.ofNat 32 s) _ hr (ix2 r e) (ix2 r (⟨(e.val + s') % 128, Nat.mod_lt _ (by decide)⟩ : Fin 128)) fun b => match b with
    | ⟨0, _⟩ => rfl
    | ⟨1, _⟩ => by
      show (e.val + s') % 128 = (e.val + 128 - (BitVec.ofNat 32 s).toNat % 128) % 128
      rw [BitVec.toNat_ofNat]
      omega).trans (slice_apply o hs x r _ n hn)

theorem turn_apply {R w : ℕ} (s s' o : ℕ) (h : s + s' = 128) (h0 : s < 128) (h0' : s' < 128) (hs : (Sh R w).Slices ![0, o] (Sh R 128)) (hr : (Sh R 128).Rotates 1 none)
    (x : (Sh R w).Idx → EReal) (a b p : (Sh R 128).Idx → EReal) (r : Fin R) (e : Fin 128) (n0 n1 n2 : Fin w)
    (hn0 : n0.val = o + e.val) (hn1 : n1.val = o + (e.val + s') % 128) (hn2 : n2.val = o + (e.val + s) % 128) :
    turn s s' o hs hr x a b p (ix2 r e) = x (ix2 r n0) * a (ix2 r e) + x (ix2 r n1) * b (ix2 r e) + x (ix2 r n2) * p (ix2 r e) :=
  congrArg₂ (· + ·) (congrArg₂ (· + ·) (congrArg (· * a (ix2 r e)) (slice_apply o hs x r e n0 hn0))
    (congrArg (· * b (ix2 r e)) (rotate_apply s s' o h h0 hs hr x r e n1 hn1))) (congrArg (· * p (ix2 r e)) (rotate_apply s' s o ((Nat.add_comm _ _).trans h) h0' hs hr x r e n2 hn2))

/-- The tiles of a block, joined: every lane with the lanes `s` before and `s` after it in its tile. -/
theorem tiles {R w P : ℕ} (s s' : ℕ) (h : s + s' = 128) (h0 : s < 128) (h0' : s' < 128) (hw : w = 128 * P) (hs : ∀ b : Fin P, (Sh R w).Slices ![0, 128 * b.val] (Sh R 128))
    (hr : (Sh R 128).Rotates 1 none) (x : (Sh R w).Idx → EReal) (a b p : (Sh R 128).Idx → EReal)
    (hc : Shape.Concatenates ((List.ofFn fun k : Fin P => (⟨Sh R 128, turn s s' (128 * k.val) (hs k) hr x a b p⟩ : (s : Shape) × (s.Idx → EReal))).map Sigma.fst) (Sh R w) 1)
    (r : Fin R) (l : Fin w) :
    concatenate (Sh R w) 1 (List.ofFn fun k : Fin P => (⟨Sh R 128, turn s s' (128 * k.val) (hs k) hr x a b p⟩ : (s : Shape) × (s.Idx → EReal))) hc (ix2 r l)
      = x (ix2 r l) * a (ix2 r ⟨l.val % 128, Nat.mod_lt _ (by decide)⟩)
        + x (ix2 r ⟨128 * (l.val / 128) + (l.val % 128 + s') % 128, by omega⟩) * b (ix2 r ⟨l.val % 128, Nat.mod_lt _ (by decide)⟩)
        + x (ix2 r ⟨128 * (l.val / 128) + (l.val % 128 + s) % 128, by omega⟩) * p (ix2 r ⟨l.val % 128, Nat.mod_lt _ (by decide)⟩) := by
  refine (concatenate_ofFn_apply (s₁ := Sh R 128) (t := Sh R w) 1 (fun k : Fin P => turn s s' (128 * k.val) (hs k) hr x a b p) hc rfl 128 rfl
    (ix2 r l) (⟨l.val / 128, by omega⟩ : Fin P) rfl (ix2 r ⟨l.val % 128, Nat.mod_lt _ (by decide)⟩) rfl fun b hb => ?_).trans ?_
  · match b with
    | ⟨0, _⟩ => rfl
    | ⟨1, _⟩ => exact absurd rfl hb
  exact turn_apply s s' _ h h0 h0' _ _ _ _ _ _ r ⟨l.val % 128, Nat.mod_lt _ (by decide)⟩ l _ _ (by show l.val = 128 * (l.val / 128) + l.val % 128; omega) rfl rfl

theorem sliced {R w : ℕ} (P : ℕ) (hw : w = 128 * P) (b : Fin P) : (Sh R w).Slices ![0, 128 * b.val] (Sh R 128) := ⟨rfl, fun a => match a with
  | ⟨0, _⟩ => le_of_eq (Nat.zero_add _)
  | ⟨1, _⟩ => by have := b.isLt; show 128 * b.val + 128 ≤ w; omega⟩

/-- A coordinate lies in the block its quotient names. -/
theorem inside {q p b i : ℕ} (h : q = p) (h1 : p * b ≤ i) (h2 : i < p * b + b) : q * b ≤ i ∧ i < q * b + b := h ▸ ⟨h1, h2⟩

/-- A lane's place in a row of one row. -/
theorem place (e : Fin 128) : ((⟨2, ![1, 128]⟩ : Shape).rowMajor (ix2 0 e) : Fin 128) = e := by
  refine Fin.ext ?_
  rw [Shape.rowMajor_val_two]
  show 0 * 128 + e.val = e.val
  omega

/-- A lane of a pair's earlier half: the lane before does not enter. -/
theorem early (x0 x1 x2 a b p y0 y2 c s : EReal) (h0 : x0 = y0) (h2 : x2 = y2) (ha : a = c) (hb : b = 0) (hp : p = -s) :
    x0 * a + x1 * b + x2 * p = y0 * c - y2 * s := by
  subst h0 h2 ha hb hp
  rw [mul_zero, add_zero, mul_neg, sub_eq_add_neg]

/-- A lane of a pair's later half: the lane after does not enter. -/
theorem late (x0 x1 x2 a b p y0 y1 c s : EReal) (h0 : x0 = y0) (h1 : x1 = y1) (ha : a = c) (hb : b = s) (hp : p = 0) :
    x0 * a + x1 * b + x2 * p = y0 * c + y1 * s := by
  subst h0 h1 ha hb hp
  rw [mul_zero, add_zero]

/-- A lane outside the turned ones: the table of its own lane is one there. -/
theorem plain (x0 x1 x2 a b p y0 : EReal) (h0 : x0 = y0) (ha : a = 1) (hb : b = 0) (hp : p = 0) : x0 * a + x1 * b + x2 * p = y0 := by
  subst h0 ha hb hp
  rw [mul_zero, mul_zero, mul_one, add_zero, add_zero]

/-! ## The tables -/

/-- A row of marks, on every row. -/
theorem row_apply (c : (Sh 1 128).Idx → BitVec 1) (h : (Sh 1 128).BroadcastsInDim (Sh 8192 128) ![0, 1]) (i : Fin 8192) (e : Fin 128) :
    broadcastInDim (Sh 8192 128) ![0, 1] h c (ix2 i e) = c (ix2 0 e) :=
  broadcastInDim_apply _ h c (ix2 i e) (ix2 0 e) fun a => match a with
    | ⟨0, _⟩ => (if_pos rfl).symm
    | ⟨1, _⟩ => (if_neg (by show ¬ (128 : ℕ) = 1; decide)).symm

/-- One number, everywhere. -/
theorem const_apply (x : (⟨0, ![]⟩ : Shape).Idx → EReal) (h : (⟨0, ![]⟩ : Shape).BroadcastsInDim (Sh 8192 128) ![]) (v : EReal) (hv : ∀ k, x k = v)
    (j : (Sh 8192 128).Idx) : broadcastInDim (Sh 8192 128) ![] h x j = v :=
  (broadcastInDim_apply _ h x j (fun a => a.elim0) fun a => a.elim0).trans (hv _)

/-- Two copies of 32 numbers, twice over, along a row of 128. -/
theorem tile_apply (inv : (Sh1 32).Idx → EReal) (z0 z1 : (Sh1 0).Idx → EReal)
    (hc : Shape.Concatenates [Sh1 0, Sh1 32, Sh1 32, Sh1 0] (Sh1 64) 0) (h1 : (Sh1 64).ShapeCasts (Sh 1 64))
    (h2 : (Sh 1 64).BroadcastsInDim (Sh 2 64) ![0, 1]) (h3 : (Sh 2 64).ShapeCasts (Sh1 128)) (e : Fin 128) :
    shapeCast (Sh1 128) (broadcastInDim (Sh 2 64) ![0, 1] h2 (shapeCast (Sh 1 64)
      (concatenate (Sh1 64) 0 [⟨Sh1 0, z0⟩, ⟨Sh1 32, inv⟩, ⟨Sh1 32, inv⟩, ⟨Sh1 0, z1⟩] hc) h1)) h3 (ix1 e)
      = inv (ix1 ⟨e.val % 32, Nat.mod_lt _ (by decide)⟩) := by
  refine (shapeCast_apply _ h3 (ix1 e) (ix2 (⟨e.val / 64, by omega⟩ : Fin 2) (⟨e.val % 64, Nat.mod_lt _ (by decide)⟩ : Fin 64)) ?_).trans ?_
  · rw [Shape.rowMajor_val_two, Shape.rowMajor_val_one]
    show e.val / 64 * 64 + e.val % 64 = e.val
    omega
  refine (broadcastInDim_apply _ h2 _ _ (ix2 (0 : Fin 1) (⟨e.val % 64, Nat.mod_lt _ (by decide)⟩ : Fin 64)) fun a => match a with
    | ⟨0, _⟩ => (if_pos rfl).symm
    | ⟨1, _⟩ => (if_neg (by show ¬ (64 : ℕ) = 1; decide)).symm).trans ?_
  refine (shapeCast_apply _ h1 _ (ix1 (⟨e.val % 64, Nat.mod_lt _ (by decide)⟩ : Fin 64)) ?_).trans ?_
  · rw [Shape.rowMajor_val_two, Shape.rowMajor_val_one]
    show e.val % 64 = 0 * 64 + e.val % 64
    omega
  by_cases h : e.val % 64 < 32
  · refine concatenate_apply_piece (t := Sh1 64) 0 _ _ _ 1 (by show 1 < 4; decide) (Sh1 32) inv rfl rfl 0 (by rfl) (ix1 ⟨e.val % 32, Nat.mod_lt _ (by decide)⟩)
      (fun b hb => match b with
        | ⟨0, _⟩ => absurd rfl hb) ?_
    show 0 + e.val % 32 = e.val % 64
    omega
  · refine concatenate_apply_piece (t := Sh1 64) 0 _ _ _ 2 (by show 2 < 4; decide) (Sh1 32) inv rfl rfl 32 (by rfl) (ix1 ⟨e.val % 32, Nat.mod_lt _ (by decide)⟩)
      (fun b hb => match b with
        | ⟨0, _⟩ => absurd rfl hb) ?_
    show 32 + e.val % 32 = e.val % 64
    omega

/-- A lane's angle: its row's position times its pair's rate. -/
theorem angle_apply (pos : (Sh1 8192).Idx → EReal) (v : (Sh1 128).Idx → EReal) (h0 : (Sh1 8192).BroadcastsInDim (Sh 8192 1) ![0])
    (h1 : (Sh 8192 1).BroadcastsInDim (Sh 8192 128) ![0, 1]) (h2 : (Sh1 128).BroadcastsInDim (Sh 1 128) ![1])
    (h3 : (Sh 1 128).BroadcastsInDim (Sh 8192 128) ![0, 1]) (i : Fin 8192) (e : Fin 128) :
    mulf (F := Ideal) (φ := .f32) (broadcastInDim (Sh 8192 128) ![0, 1] h1 (broadcastInDim (Sh 8192 1) ![0] h0 pos))
      (broadcastInDim (Sh 8192 128) ![0, 1] h3 (broadcastInDim (Sh 1 128) ![1] h2 v)) (ix2 i e) = pos (ix1 i) * v (ix1 e) := by
  refine congrArg₂ (· * ·) ?_ ?_
  · refine (broadcastInDim_apply _ h1 _ _ (ix2 i (0 : Fin 1)) fun a => match a with
      | ⟨0, _⟩ => (if_neg (by show ¬ (8192 : ℕ) = 1; decide)).symm
      | ⟨1, _⟩ => (if_pos rfl).symm).trans ?_
    exact broadcastInDim_apply _ h0 pos _ (ix1 i) fun a => match a with
      | ⟨0, _⟩ => (if_neg (by show ¬ (8192 : ℕ) = 1; decide)).symm
  · refine (broadcastInDim_apply _ h3 _ _ (ix2 (0 : Fin 1) e) fun a => match a with
      | ⟨0, _⟩ => (if_pos rfl).symm
      | ⟨1, _⟩ => (if_neg (by show ¬ (128 : ℕ) = 1; decide)).symm).trans ?_
    exact broadcastInDim_apply _ h2 v _ (ix1 e) fun a => match a with
      | ⟨0, _⟩ => (if_neg (by show ¬ (128 : ℕ) = 1; decide)).symm

end Cert.Ffn.Rope

end
-- ==== Proof.FfnQkv.lean ====
/- The query, key and value projections: three products, two of them turned by the rows' positions. -/
module

public import proofs.«01_k».proof.Defs
public import proofs.«01_k».proof.Proof.FfnLib
public import proofs.«01_k».proof.Proof.FfnRope
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import Idealize.ShloMosaic.Lib.StableHlo.RunRead

@[expose] public section

set_option maxRecDepth 16384

noncomputable section

namespace Cert.Ffn.Qkv

open Idealize.ShloMosaic Idealize.ShloMosaic.TcCoe Idealize.SL.Sem
open Cert.QkvIdeal Cert.QkvIdeal.Gen Cert.QkvRefIdeal.Read

variable (m : (ℓ : Loc nD τ sig) → Buf (Elt Ideal) ℓ)

/-! ## The arrays the call is given -/

theorem V_h (c : Dev nD) : V m c main_v30 = m ((c : Thread nD τ).loc main_arg0) := by
  unfold V
  after_reads_simp
  rfl

theorem V_v31 (c : Dev nD) : V m c main_v31
    = extractStridedSlice S1024x1024 ![0, 0] (transpose S3072x1024 [1, 0] (m ((c : Thread nD τ).loc main_arg1) : S1024x3072.Idx → EReal) transposes_S1024x3072_S3072x1024_1_0) slices_S3072x1024_S1024x1024_0_0 := by
  unfold V
  after_reads_simp
  rfl

theorem V_v31_apply (c : Dev nD) (i : Fin 1024) (j : Fin 1024) :
    V m c main_v31 (ix2 i j) = (m ((c : Thread nD τ).loc main_arg1) : S1024x3072.Idx → EReal) (ix2 j ⟨0 + i.val, by omega⟩) := by
  rw [V_v31]
  generalize (m ((c : Thread nD τ).loc main_arg1) : S1024x3072.Idx → EReal) = A
  pointwise

theorem V_v32 (c : Dev nD) : V m c main_v32
    = extractStridedSlice S1024x1024 ![1024, 0] (transpose S3072x1024 [1, 0] (m ((c : Thread nD τ).loc main_arg1) : S1024x3072.Idx → EReal) transposes_S1024x3072_S3072x1024_1_0) slices_S3072x1024_S1024x1024_1024_0 := by
  unfold V
  after_reads_simp
  rfl

theorem V_v32_apply (c : Dev nD) (i : Fin 1024) (j : Fin 1024) :
    V m c main_v32 (ix2 i j) = (m ((c : Thread nD τ).loc main_arg1) : S1024x3072.Idx → EReal) (ix2 j ⟨1024 + i.val, by omega⟩) := by
  rw [V_v32]
  generalize (m ((c : Thread nD τ).loc main_arg1) : S1024x3072.Idx → EReal) = A
  pointwise

theorem V_v33 (c : Dev nD) : V m c main_v33
    = extractStridedSlice S1024x1024 ![2048, 0] (transpose S3072x1024 [1, 0] (m ((c : Thread nD τ).loc main_arg1) : S1024x3072.Idx → EReal) transposes_S1024x3072_S3072x1024_1_0) slices_S3072x1024_S1024x1024_2048_0 := by
  unfold V
  after_reads_simp
  rfl

theorem V_v33_apply (c : Dev nD) (i : Fin 1024) (j : Fin 1024) :
    V m c main_v33 (ix2 i j) = (m ((c : Thread nD τ).loc main_arg1) : S1024x3072.Idx → EReal) (ix2 j ⟨2048 + i.val, by omega⟩) := by
  rw [V_v33]
  generalize (m ((c : Thread nD τ).loc main_arg1) : S1024x3072.Idx → EReal) = A
  pointwise

/-! ## The rotation's tables -/

/-- The rates of the pairs of lanes. -/
abbrev rate : S32.Idx → EReal := val_main_v14 (F := Ideal)

/-- The angle of a row's pair of lanes. -/
abbrev theta (pos : S8192.Idx → BitVec 32) (i : Fin 8192) (f : Fin 32) : EReal := val_main_v20 (F := Ideal) pos (ix2 i f)

/-- Its cosine. -/
abbrev cosine (pos : S8192.Idx → BitVec 32) (i : Fin 8192) (f : Fin 32) : EReal := FloatOps.hostUnary (F := Ideal) (φ := .f32) .cos (theta pos i f)

/-- Its sine. -/
abbrev sine (pos : S8192.Idx → BitVec 32) (i : Fin 8192) (f : Fin 32) : EReal := FloatOps.hostUnary (F := Ideal) (φ := .f32) .sin (theta pos i f)

/-- The angles the tables are made of, one for each of 128 lanes. -/
def angles (pos : S8192.Idx → BitVec 32) : S8192x128.Idx → EReal :=
  mulf (F := Ideal) (φ := .f32) (broadcastInDim S8192x128 ![0, 1] bcast_S8192x1_S8192x128_0_1 (broadcastInDim S8192x1 ![0] bcast_S8192_S8192x1_0 (sitofp (F := Ideal) .f32 pos)))
    (broadcastInDim S8192x128 ![0, 1] bcast_S1x128_S8192x128_0_1 (broadcastInDim S1x128 ![1] bcast_S128_S1x128_1
      (shapeCast S128 (broadcastInDim S2x64 ![0, 1] bcast_S1x64_S2x64_0_1 (shapeCast S1x64
        (concatenate S64 0 [⟨S0, broadcastInDim S0 ![] bcast_S_S0 (constant (F := Ideal) S_ .f32 0x00000000#32)⟩, ⟨S32, rate⟩, ⟨S32, rate⟩,
          ⟨S0, broadcastInDim S0 ![] bcast_S_S0 (constant (F := Ideal) S_ .f32 0x00000000#32)⟩] concatenates_S0_S32_S32_S0_S64_d0) shapeCasts_S64_S1x64)) shapeCasts_S2x64_S128)))

theorem angles_apply (pos : S8192.Idx → BitVec 32) (i : Fin 8192) (e : Fin 128) :
    angles pos (ix2 i e) = theta pos i ⟨e.val % 32, Nat.mod_lt _ (by decide)⟩ := by
  refine (Rope.angle_apply (sitofp (F := Ideal) .f32 pos) _ _ _ _ _ i e).trans ?_
  refine (congrArg ((sitofp (F := Ideal) .f32 pos) (ix1 i) * ·) (Rope.tile_apply rate _ _ _ _ _ _ e)).trans ?_
  show _ = val_main_v20 (F := Ideal) pos _
  rw [val_main_v20_apply, val_main_v18_apply, val_main_v16_apply, val_main_v19_apply, val_main_v17_apply]
  exact congrArg₂ (· * ·) (congrArg (sitofp (F := Ideal) .f32 pos) (Rope.idx1 _ _ rfl)) (congrArg rate (Rope.idx1 _ _ rfl))

theorem V_v26 (c : Dev nD) : V m c main_v26
    = select (broadcastInDim S8192x128 ![0, 1] bcast_S1x128_S8192x128_0_1 (constantI S1x128 1 0#1)) (broadcastInDim S8192x128 ![] bcast_S_S8192x128 (constant (F := Ideal) S_ .f32 0x3F800000#32)) (Host.cos (F := Ideal) (φ := .f32) (angles (m ((c : Thread nD τ).loc main_arg2) : S8192.Idx → BitVec 32))) := by
  unfold V
  after_reads_simp
  rfl

theorem V_v27 (c : Dev nD) : V m c main_v27
    = select (broadcastInDim S8192x128 ![0, 1] bcast_S1x128_S8192x128_0_1 (fun i => lit0 (S1x128.rowMajor i))) (Host.sin (F := Ideal) (φ := .f32) (angles (m ((c : Thread nD τ).loc main_arg2) : S8192.Idx → BitVec 32))) (broadcastInDim S8192x128 ![] bcast_S_S8192x128 (constant (F := Ideal) S_ .f32 0x00000000#32)) := by
  unfold V
  after_reads_simp
  rfl

theorem V_v29 (c : Dev nD) : V m c main_v29
    = select (broadcastInDim S8192x128 ![0, 1] bcast_S1x128_S8192x128_0_1 (fun i => lit1 (S1x128.rowMajor i))) (Host.negf (F := Ideal) (φ := .f32) (Host.sin (F := Ideal) (φ := .f32) (angles (m ((c : Thread nD τ).loc main_arg2) : S8192.Idx → BitVec 32)))) (broadcastInDim S8192x128 ![] bcast_S_S8192x128 (constant (F := Ideal) S_ .f32 0x00000000#32)) := by
  unfold V
  after_reads_simp
  rfl

/-- The first table of marks: the later half of each 64 lanes. -/
theorem lit0_eq : ∀ e : Fin 128, lit0 e = if e.val % 64 < 32 then 0#1 else 1#1 := by decide +kernel

/-- The second table of marks: the earlier half. -/
theorem lit1_eq : ∀ e : Fin 128, lit1 e = if e.val % 64 < 32 then 1#1 else 0#1 := by decide +kernel

theorem table_a (c : Dev nD) (i : Fin 8192) (e : Fin 128) : V m c main_v26 (ix2 i e) = cosine (m ((c : Thread nD τ).loc main_arg2) : S8192.Idx → BitVec 32) i ⟨e.val % 32, Nat.mod_lt _ (by decide)⟩ := by
  rw [V_v26]
  refine (congrArg (Scalar.select · _ _) (Rope.row_apply _ _ i e)).trans ?_
  exact congrArg (FloatOps.hostUnary (F := Ideal) (φ := .f32) .cos) (angles_apply _ i e)

theorem table_b (c : Dev nD) (i : Fin 8192) (e : Fin 128) : V m c main_v27 (ix2 i e)
    = if e.val % 64 < 32 then 0 else sine (m ((c : Thread nD τ).loc main_arg2) : S8192.Idx → BitVec 32) i ⟨e.val % 32, Nat.mod_lt _ (by decide)⟩ := by
  rw [V_v27]
  refine (congrArg (Scalar.select · _ _) ((Rope.row_apply _ _ i e).trans ((congrArg lit0 (Rope.place e)).trans (lit0_eq e)))).trans ?_
  split_ifs with h
  · exact Rope.const_apply (constant (F := Ideal) S_ .f32 0x00000000#32) bcast_S_S8192x128 0 (fun _ => Ideal.ofBits_zero_f32) (ix2 i e)
  · exact congrArg (FloatOps.hostUnary (F := Ideal) (φ := .f32) .sin) (angles_apply _ i e)

theorem table_p (c : Dev nD) (i : Fin 8192) (e : Fin 128) : V m c main_v29 (ix2 i e)
    = if e.val % 64 < 32 then -sine (m ((c : Thread nD τ).loc main_arg2) : S8192.Idx → BitVec 32) i ⟨e.val % 32, Nat.mod_lt _ (by decide)⟩ else 0 := by
  rw [V_v29]
  refine (congrArg (Scalar.select · _ _) ((Rope.row_apply _ _ i e).trans ((congrArg lit1 (Rope.place e)).trans (lit1_eq e)))).trans ?_
  split_ifs with h
  · exact congrArg (fun z : EReal => -FloatOps.hostUnary (F := Ideal) (φ := .f32) .sin z) (angles_apply _ i e)
  · exact Rope.const_apply (constant (F := Ideal) S_ .f32 0x00000000#32) bcast_S_S8192x128 0 (fun _ => Ideal.ofBits_zero_f32) (ix2 i e)

/-! ## Where a point's blocks sit -/

theorem index0 : ∀ t : Fin cfg0.N, win0_0.index t 0 = t.val ∧ win0_0.index t 1 = 0 := by decide +kernel

theorem read0 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = 0 ∧ win0_2.index t 1 = 0 := by decide +kernel

theorem read2 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = 0 ∧ win0_3.index t 1 = 0 := by decide +kernel

theorem read3 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = t.val ∧ win0_4.index t 1 = 0 := by decide +kernel

theorem read4 (t : Fin cfg0.N) (A : S8192x128.Idx → EReal) (y : S512x128.Idx) (i : S8192x128.Idx)
    (h0 : (i 0).val = t.val * 512 + (y 0).val) (h1 : (i 1).val = 0 * 128 + (y 1).val) :
    ((cfg0.win 4).blk t).view.read (Elt Ideal) A y = A i :=
  congrArg A (idx2 _ _ (emb_at win0_4 t y 0 (index4 t).1 h0) (emb_at win0_4 t y 1 (index4 t).2 h1))

theorem index5 : ∀ t : Fin cfg0.N, win0_5.index t 0 = t.val ∧ win0_5.index t 1 = 0 := by decide +kernel

theorem read5 (t : Fin cfg0.N) (A : S8192x128.Idx → EReal) (y : S512x128.Idx) (i : S8192x128.Idx)
    (h0 : (i 0).val = t.val * 512 + (y 0).val) (h1 : (i 1).val = 0 * 128 + (y 1).val) :
    ((cfg0.win 5).blk t).view.read (Elt Ideal) A y = A i :=
  congrArg A (idx2 _ _ (emb_at win0_5 t y 0 (index5 t).1 h0) (emb_at win0_5 t y 1 (index5 t).2 h1))

theorem index6 : ∀ t : Fin cfg0.N, win0_6.index t 0 = t.val ∧ win0_6.index t 1 = 0 := by decide +kernel

theorem read6 (t : Fin cfg0.N) (A : S8192x128.Idx → EReal) (y : S512x128.Idx) (i : S8192x128.Idx)
    (h0 : (i 0).val = t.val * 512 + (y 0).val) (h1 : (i 1).val = 0 * 128 + (y 1).val) :
    ((cfg0.win 6).blk t).view.read (Elt Ideal) A y = A i :=
  congrArg A (idx2 _ _ (emb_at win0_6 t y 0 (index6 t).1 h0) (emb_at win0_6 t y 1 (index6 t).2 h1))

theorem index7 : ∀ t : Fin cfg0.N, win0_7.index t 0 = t.val ∧ win0_7.index t 1 = 0 := by decide +kernel

theorem read7 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 7).blk t).view.read (Elt Ideal) A y = A i :=
  congrArg A (idx2 _ _ (emb_at win0_7 t y 0 (index7 t).1 h0) (emb_at win0_7 t y 1 (index7 t).2 h1))

theorem index8 : ∀ t : Fin cfg0.N, win0_8.index t 0 = t.val ∧ win0_8.index t 1 = 0 := by decide +kernel

theorem read8 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 8).blk t).view.read (Elt Ideal) A y = A i :=
  congrArg A (idx2 _ _ (emb_at win0_8 t y 0 (index8 t).1 h0) (emb_at win0_8 t y 1 (index8 t).2 h1))

theorem index9 : ∀ t : Fin cfg0.N, win0_9.index t 0 = t.val ∧ win0_9.index t 1 = 0 := by decide +kernel

theorem read9 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 9).blk t).view.read (Elt Ideal) A y = A i :=
  congrArg A (idx2 _ _ (emb_at win0_9 t y 0 (index9 t).1 h0) (emb_at win0_9 t y 1 (index9 t).2 h1))

/-! ## One point -/

/-- A tile's product at an index. -/
theorem k0_pay4_at (P : S512x1024.Idx → EReal) (A : S1024x1024.Idx → EReal) (r : Fin 512) (n : Fin 1024) :
    k0_pay4 (F := Ideal) P A (ix2 r n) = ∑ k : Fin 1024, P (ix2 r k) * A (ix2 n k) := by
  unfold k0_pay4 k0_pay3
  pointwise

theorem k0_pay5_self (a : S512x128.Idx → EReal) : k0_pay5 (F := Ideal) a = a := shapeCast_self _ _

theorem k0_pay6_self (a : S512x128.Idx → EReal) : k0_pay6 (F := Ideal) a = a := shapeCast_self _ _

theorem k0_pay7_self (a : S512x128.Idx → EReal) : k0_pay7 (F := Ideal) a = a := shapeCast_self _ _

theorem k0_pay15_self (a : S512x128.Idx → EReal) : k0_pay15 (F := Ideal) a = a := shapeCast_self _ _

theorem k0_pay16_self (a : S512x128.Idx → EReal) : k0_pay16 (F := Ideal) a = a := shapeCast_self _ _

theorem k0_pay17_self (a : S512x128.Idx → EReal) : k0_pay17 (F := Ideal) a = a := shapeCast_self _ _

theorem point7 (P : S512x1024.Idx → EReal) (A B C : S1024x1024.Idx → EReal) (ta tb tp : S512x128.Idx → EReal) (r : Fin 512) (l : Fin 1024) :
    out0_7 (F := Ideal) P A B C ta tb tp (ix2 r l)
      = (∑ k : Fin 1024, P (ix2 r k) * A (ix2 l k)) * ta (ix2 r ⟨l.val % 128, Nat.mod_lt _ (by decide)⟩)
        + (∑ k : Fin 1024, P (ix2 r k) * A (ix2 (⟨128 * (l.val / 128) + (l.val % 128 + 96) % 128, by omega⟩ : Fin 1024) k)) * tb (ix2 r ⟨l.val % 128, Nat.mod_lt _ (by decide)⟩)
        + (∑ k : Fin 1024, P (ix2 r k) * A (ix2 (⟨128 * (l.val / 128) + (l.val % 128 + 32) % 128, by omega⟩ : Fin 1024) k)) * tp (ix2 r ⟨l.val % 128, Nat.mod_lt _ (by decide)⟩) := by
  unfold_out out0_7
  refine (congrFun (View.canon_unit_zero off_zero _ _) _).trans ?_
  repeat rw [View.ld_unit_zero off_zero]
  refine Eq.trans (b := concatenate S512x1024 1 (List.ofFn fun b : Fin 8 => (⟨S512x128, Rope.turn 32 96 (128 * b.val) (Rope.sliced 8 rfl b) rotates_S512x128_d1 (k0_pay4 (F := Ideal) P A) ta tb tp⟩ : (s : Shape) × (s.Idx → EReal))) concatenates_S512x128_S512x128_S512x128_S512x128_S512x128_S512x128_S512x128_S512x128_S512x1024_d1 (ix2 r l)) ?_ ?_
  · unfold k0_pay13 k0_pay12 k0_pay11 k0_pay10 k0_pay9 k0_pay8
    simp only [k0_pay5_self, k0_pay6_self, k0_pay7_self]
    rfl
  refine (Rope.tiles (w := 1024) (P := 8) 32 96 rfl (by decide) (by decide) rfl (Rope.sliced 8 rfl) rotates_S512x128_d1 (k0_pay4 (F := Ideal) P A) ta tb tp concatenates_S512x128_S512x128_S512x128_S512x128_S512x128_S512x128_S512x128_S512x128_S512x1024_d1 r l).trans ?_
  rw [k0_pay4_at, k0_pay4_at, k0_pay4_at]

theorem pay14 (P : S512x1024.Idx → EReal) (B : S1024x1024.Idx → EReal) : k0_pay14 (F := Ideal) (k0_pay3 (F := Ideal) P) B = k0_pay4 (F := Ideal) P B := rfl

theorem point8 (P : S512x1024.Idx → EReal) (A B C : S1024x1024.Idx → EReal) (ta tb tp : S512x128.Idx → EReal) (r : Fin 512) (l : Fin 1024) :
    out0_8 (F := Ideal) P A B C ta tb tp (ix2 r l)
      = (∑ k : Fin 1024, P (ix2 r k) * B (ix2 l k)) * ta (ix2 r ⟨l.val % 128, Nat.mod_lt _ (by decide)⟩)
        + (∑ k : Fin 1024, P (ix2 r k) * B (ix2 (⟨128 * (l.val / 128) + (l.val % 128 + 96) % 128, by omega⟩ : Fin 1024) k)) * tb (ix2 r ⟨l.val % 128, Nat.mod_lt _ (by decide)⟩)
        + (∑ k : Fin 1024, P (ix2 r k) * B (ix2 (⟨128 * (l.val / 128) + (l.val % 128 + 32) % 128, by omega⟩ : Fin 1024) k)) * tp (ix2 r ⟨l.val % 128, Nat.mod_lt _ (by decide)⟩) := by
  unfold_out out0_8
  refine (congrFun (View.canon_unit_zero off_zero _ _) _).trans ?_
  repeat rw [View.ld_unit_zero off_zero]
  refine Eq.trans (b := concatenate S512x1024 1 (List.ofFn fun b : Fin 8 => (⟨S512x128, Rope.turn 32 96 (128 * b.val) (Rope.sliced 8 rfl b) rotates_S512x128_d1 (k0_pay4 (F := Ideal) P B) ta tb tp⟩ : (s : Shape) × (s.Idx → EReal))) concatenates_S512x128_S512x128_S512x128_S512x128_S512x128_S512x128_S512x128_S512x128_S512x1024_d1 (ix2 r l)) ?_ ?_
  · unfold k0_pay1 k0_pay25 k0_pay24 k0_pay23 k0_pay22 k0_pay21 k0_pay20 k0_pay19 k0_pay18
    simp only [pay14, k0_pay15_self, k0_pay16_self, k0_pay17_self]
    rfl
  refine (Rope.tiles (w := 1024) (P := 8) 32 96 rfl (by decide) (by decide) rfl (Rope.sliced 8 rfl) rotates_S512x128_d1 (k0_pay4 (F := Ideal) P B) ta tb tp concatenates_S512x128_S512x128_S512x128_S512x128_S512x128_S512x128_S512x128_S512x128_S512x1024_d1 r l).trans ?_
  rw [k0_pay4_at, k0_pay4_at, k0_pay4_at]

theorem point9 (P : S512x1024.Idx → EReal) (A B C : S1024x1024.Idx → EReal) (ta tb tp : S512x128.Idx → EReal) (r : Fin 512) (l : Fin 1024) :
    out0_9 (F := Ideal) P A B C ta tb tp (ix2 r l) = ∑ k : Fin 1024, P (ix2 r k) * C (ix2 l k) := by
  unfold_out out0_9
  refine (congrFun (View.canon_unit_zero off_zero _ _) _).trans ?_
  repeat rw [View.ld_unit_zero off_zero]
  exact k0_pay4_at P C r l

/-! ## The reference's results at an index -/

/-- Where a lane of the result sits in its half of a head. -/
abbrev pair (i : Fin 8192) (j : Fin 1024) : Cert.QkvRefIdeal.S8192x16x32.Idx := ix3 i (⟨j.val / 64, by omega⟩ : Fin 16) (⟨j.val % 32, Nat.mod_lt _ (by decide)⟩ : Fin 32)

theorem dot_apply (h : S8192x1024.Idx → EReal) (w : S1024x3072.Idx → EReal) (i : Fin 8192) (j : Fin 3072) :
    val_main_v0 (F := Ideal) h w (ix2 i j) = ∑ k : Fin 1024, h (ix2 i k) * w (ix2 k j) := by
  rw [val_main_v0_apply]
  exact Finset.sum_congr rfl fun k _ => congrArg₂ (· * ·) (congrArg h (idx2 _ _ rfl rfl)) (congrArg w (idx2 _ _ rfl rfl))

/-- The queries: a head's two halves of lanes, turned by the row's angle. -/
theorem ref7_apply (h : S8192x1024.Idx → EReal) (w : S1024x3072.Idx → EReal) (pos : S8192.Idx → BitVec 32) (i : Fin 8192) (j : Fin 1024) :
    val_main_v38 (F := Ideal) h w pos (ix2 i j) = if hj : j.val % 64 < 32
      then (∑ k : Fin 1024, h (ix2 i k) * w (ix2 k (⟨0 + j.val, by omega⟩ : Fin 3072))) * cosine pos i ⟨j.val % 32, Nat.mod_lt _ (by decide)⟩ - (∑ k : Fin 1024, h (ix2 i k) * w (ix2 k (⟨0 + (j.val + 32), by omega⟩ : Fin 3072))) * sine pos i ⟨j.val % 32, Nat.mod_lt _ (by decide)⟩
      else (∑ k : Fin 1024, h (ix2 i k) * w (ix2 k (⟨0 + j.val, by omega⟩ : Fin 3072))) * cosine pos i ⟨j.val % 32, Nat.mod_lt _ (by decide)⟩ + (∑ k : Fin 1024, h (ix2 i k) * w (ix2 k (⟨0 + (j.val - 32), by omega⟩ : Fin 3072))) * sine pos i ⟨j.val % 32, Nat.mod_lt _ (by decide)⟩ := by
  have hi : i.val < 8192 := i.isLt
  have hj0 : j.val < 1024 := j.isLt
  rw [val_main_v38_apply]
  unfold val_main_v37
  split_ifs with hj
  · refine (concatenate_apply_piece (t := Cert.QkvRefIdeal.S8192x16x64) 2 _ _ _ 0 (by show 0 < 2; decide) Cert.QkvRefIdeal.S8192x16x32 (val_main_v31 (F := Ideal) h w pos) rfl rfl 0 (by rfl)
      (pair i j) (fun b hb => ?_) ?_).trans ?_
    · match b with
      | ⟨0, _⟩ => show i.val = (i.val * 1024 + j.val) / 1024; omega
      | ⟨1, _⟩ => show j.val / 64 = (i.val * 1024 + j.val) / 64 % 16; omega
      | ⟨2, _⟩ => exact absurd rfl hb
    · show 0 + j.val % 32 = (i.val * 1024 + j.val) % 64
      omega
    rw [val_main_v31_apply, val_main_v28_apply, val_main_v30_apply]
    show (val_main_v25 (F := Ideal) h w (pair i j) : EReal) * val_main_v27 (F := Ideal) pos (pair i j) - (val_main_v26 (F := Ideal) h w (pair i j) : EReal) * val_main_v29 (F := Ideal) pos (pair i j) = _
    refine congrArg₂ (fun a b : EReal => a - b) (congrArg₂ (· * ·) ?_ ?_) (congrArg₂ (· * ·) ?_ ?_)
    · rw [val_main_v25_apply, val_main_v2_apply, val_main_v1_apply]
      refine (congrArg (val_main_v0 (F := Ideal) h w) (idx2 _ (ix2 i (⟨0 + j.val, by omega⟩ : Fin 3072)) ?_ ?_)).trans (dot_apply h w i _)
      · show ((i.val * 48 + (j.val / 64)) * 64 + (j.val % 32)) / 3072 = i.val; omega
      · show ((i.val * 48 + (j.val / 64)) * 64 + (j.val % 32)) % 3072 = 0 + j.val; omega
    · rw [val_main_v27_apply, val_main_v22_apply, val_main_v21_apply]
      exact congrArg (FloatOps.hostUnary (F := Ideal) (φ := .f32) .cos) (congrArg (val_main_v20 (F := Ideal) pos) (idx2 _ _ rfl rfl))
    · rw [val_main_v26_apply, val_main_v2_apply, val_main_v1_apply]
      refine (congrArg (val_main_v0 (F := Ideal) h w) (idx2 _ (ix2 i (⟨0 + (j.val + 32), by omega⟩ : Fin 3072)) ?_ ?_)).trans (dot_apply h w i _)
      · show ((i.val * 48 + (j.val / 64)) * 64 + (32 + j.val % 32)) / 3072 = i.val; omega
      · show ((i.val * 48 + (j.val / 64)) * 64 + (32 + j.val % 32)) % 3072 = 0 + (j.val + 32); omega
    · rw [val_main_v29_apply, val_main_v24_apply, val_main_v23_apply]
      exact congrArg (FloatOps.hostUnary (F := Ideal) (φ := .f32) .sin) (congrArg (val_main_v20 (F := Ideal) pos) (idx2 _ _ rfl rfl))
  · refine (concatenate_apply_piece (t := Cert.QkvRefIdeal.S8192x16x64) 2 _ _ _ 1 (by show 1 < 2; decide) Cert.QkvRefIdeal.S8192x16x32 (val_main_v36 (F := Ideal) h w pos) rfl rfl 32 (by rfl)
      (pair i j) (fun b hb => ?_) ?_).trans ?_
    · match b with
      | ⟨0, _⟩ => show i.val = (i.val * 1024 + j.val) / 1024; omega
      | ⟨1, _⟩ => show j.val / 64 = (i.val * 1024 + j.val) / 64 % 16; omega
      | ⟨2, _⟩ => exact absurd rfl hb
    · show 32 + j.val % 32 = (i.val * 1024 + j.val) % 64
      omega
    rw [val_main_v36_apply, val_main_v33_apply, val_main_v35_apply]
    show (val_main_v26 (F := Ideal) h w (pair i j) : EReal) * val_main_v32 (F := Ideal) pos (pair i j) + (val_main_v25 (F := Ideal) h w (pair i j) : EReal) * val_main_v34 (F := Ideal) pos (pair i j) = _
    refine congrArg₂ (· + ·) (congrArg₂ (· * ·) ?_ ?_) (congrArg₂ (· * ·) ?_ ?_)
    · rw [val_main_v26_apply, val_main_v2_apply, val_main_v1_apply]
      refine (congrArg (val_main_v0 (F := Ideal) h w) (idx2 _ (ix2 i (⟨0 + j.val, by omega⟩ : Fin 3072)) ?_ ?_)).trans (dot_apply h w i _)
      · show ((i.val * 48 + (j.val / 64)) * 64 + (32 + j.val % 32)) / 3072 = i.val; omega
      · show ((i.val * 48 + (j.val / 64)) * 64 + (32 + j.val % 32)) % 3072 = 0 + j.val; omega
    · rw [val_main_v32_apply, val_main_v22_apply, val_main_v21_apply]
      exact congrArg (FloatOps.hostUnary (F := Ideal) (φ := .f32) .cos) (congrArg (val_main_v20 (F := Ideal) pos) (idx2 _ _ rfl rfl))
    · rw [val_main_v25_apply, val_main_v2_apply, val_main_v1_apply]
      refine (congrArg (val_main_v0 (F := Ideal) h w) (idx2 _ (ix2 i (⟨0 + (j.val - 32), by omega⟩ : Fin 3072)) ?_ ?_)).trans (dot_apply h w i _)
      · show ((i.val * 48 + (j.val / 64)) * 64 + (j.val % 32)) / 3072 = i.val; omega
      · show ((i.val * 48 + (j.val / 64)) * 64 + (j.val % 32)) % 3072 = 0 + (j.val - 32); omega
    · rw [val_main_v34_apply, val_main_v24_apply, val_main_v23_apply]
      exact congrArg (FloatOps.hostUnary (F := Ideal) (φ := .f32) .sin) (congrArg (val_main_v20 (F := Ideal) pos) (idx2 _ _ rfl rfl))

/-- The keys: a head's two halves of lanes, turned by the row's angle. -/
theorem ref8_apply (h : S8192x1024.Idx → EReal) (w : S1024x3072.Idx → EReal) (pos : S8192.Idx → BitVec 32) (i : Fin 8192) (j : Fin 1024) :
    val_main_v72 (F := Ideal) h w pos (ix2 i j) = if hj : j.val % 64 < 32
      then (∑ k : Fin 1024, h (ix2 i k) * w (ix2 k (⟨1024 + j.val, by omega⟩ : Fin 3072))) * cosine pos i ⟨j.val % 32, Nat.mod_lt _ (by decide)⟩ - (∑ k : Fin 1024, h (ix2 i k) * w (ix2 k (⟨1024 + (j.val + 32), by omega⟩ : Fin 3072))) * sine pos i ⟨j.val % 32, Nat.mod_lt _ (by decide)⟩
      else (∑ k : Fin 1024, h (ix2 i k) * w (ix2 k (⟨1024 + j.val, by omega⟩ : Fin 3072))) * cosine pos i ⟨j.val % 32, Nat.mod_lt _ (by decide)⟩ + (∑ k : Fin 1024, h (ix2 i k) * w (ix2 k (⟨1024 + (j.val - 32), by omega⟩ : Fin 3072))) * sine pos i ⟨j.val % 32, Nat.mod_lt _ (by decide)⟩ := by
  have hi : i.val < 8192 := i.isLt
  have hj0 : j.val < 1024 := j.isLt
  rw [val_main_v72_apply]
  unfold val_main_v71
  split_ifs with hj
  · refine (concatenate_apply_piece (t := Cert.QkvRefIdeal.S8192x16x64) 2 _ _ _ 0 (by show 0 < 2; decide) Cert.QkvRefIdeal.S8192x16x32 (val_main_v65 (F := Ideal) h w pos) rfl rfl 0 (by rfl)
      (pair i j) (fun b hb => ?_) ?_).trans ?_
    · match b with
      | ⟨0, _⟩ => show i.val = (i.val * 1024 + j.val) / 1024; omega
      | ⟨1, _⟩ => show j.val / 64 = (i.val * 1024 + j.val) / 64 % 16; omega
      | ⟨2, _⟩ => exact absurd rfl hb
    · show 0 + j.val % 32 = (i.val * 1024 + j.val) % 64
      omega
    rw [val_main_v65_apply, val_main_v62_apply, val_main_v64_apply]
    show (val_main_v59 (F := Ideal) h w (pair i j) : EReal) * val_main_v61 (F := Ideal) pos (pair i j) - (val_main_v60 (F := Ideal) h w (pair i j) : EReal) * val_main_v63 (F := Ideal) pos (pair i j) = _
    refine congrArg₂ (fun a b : EReal => a - b) (congrArg₂ (· * ·) ?_ ?_) (congrArg₂ (· * ·) ?_ ?_)
    · rw [val_main_v59_apply, val_main_v3_apply, val_main_v1_apply]
      refine (congrArg (val_main_v0 (F := Ideal) h w) (idx2 _ (ix2 i (⟨1024 + j.val, by omega⟩ : Fin 3072)) ?_ ?_)).trans (dot_apply h w i _)
      · show ((i.val * 48 + (16 + j.val / 64)) * 64 + (j.val % 32)) / 3072 = i.val; omega
      · show ((i.val * 48 + (16 + j.val / 64)) * 64 + (j.val % 32)) % 3072 = 1024 + j.val; omega
    · rw [val_main_v61_apply, val_main_v56_apply, val_main_v55_apply]
      exact congrArg (FloatOps.hostUnary (F := Ideal) (φ := .f32) .cos) (congrArg (val_main_v54 (F := Ideal) pos) (idx2 _ _ rfl rfl))
    · rw [val_main_v60_apply, val_main_v3_apply, val_main_v1_apply]
      refine (congrArg (val_main_v0 (F := Ideal) h w) (idx2 _ (ix2 i (⟨1024 + (j.val + 32), by omega⟩ : Fin 3072)) ?_ ?_)).trans (dot_apply h w i _)
      · show ((i.val * 48 + (16 + j.val / 64)) * 64 + (32 + j.val % 32)) / 3072 = i.val; omega
      · show ((i.val * 48 + (16 + j.val / 64)) * 64 + (32 + j.val % 32)) % 3072 = 1024 + (j.val + 32); omega
    · rw [val_main_v63_apply, val_main_v58_apply, val_main_v57_apply]
      exact congrArg (FloatOps.hostUnary (F := Ideal) (φ := .f32) .sin) (congrArg (val_main_v54 (F := Ideal) pos) (idx2 _ _ rfl rfl))
  · refine (concatenate_apply_piece (t := Cert.QkvRefIdeal.S8192x16x64) 2 _ _ _ 1 (by show 1 < 2; decide) Cert.QkvRefIdeal.S8192x16x32 (val_main_v70 (F := Ideal) h w pos) rfl rfl 32 (by rfl)
      (pair i j) (fun b hb => ?_) ?_).trans ?_
    · match b with
      | ⟨0, _⟩ => show i.val = (i.val * 1024 + j.val) / 1024; omega
      | ⟨1, _⟩ => show j.val / 64 = (i.val * 1024 + j.val) / 64 % 16; omega
      | ⟨2, _⟩ => exact absurd rfl hb
    · show 32 + j.val % 32 = (i.val * 1024 + j.val) % 64
      omega
    rw [val_main_v70_apply, val_main_v67_apply, val_main_v69_apply]
    show (val_main_v60 (F := Ideal) h w (pair i j) : EReal) * val_main_v66 (F := Ideal) pos (pair i j) + (val_main_v59 (F := Ideal) h w (pair i j) : EReal) * val_main_v68 (F := Ideal) pos (pair i j) = _
    refine congrArg₂ (· + ·) (congrArg₂ (· * ·) ?_ ?_) (congrArg₂ (· * ·) ?_ ?_)
    · rw [val_main_v60_apply, val_main_v3_apply, val_main_v1_apply]
      refine (congrArg (val_main_v0 (F := Ideal) h w) (idx2 _ (ix2 i (⟨1024 + j.val, by omega⟩ : Fin 3072)) ?_ ?_)).trans (dot_apply h w i _)
      · show ((i.val * 48 + (16 + j.val / 64)) * 64 + (32 + j.val % 32)) / 3072 = i.val; omega
      · show ((i.val * 48 + (16 + j.val / 64)) * 64 + (32 + j.val % 32)) % 3072 = 1024 + j.val; omega
    · rw [val_main_v66_apply, val_main_v56_apply, val_main_v55_apply]
      exact congrArg (FloatOps.hostUnary (F := Ideal) (φ := .f32) .cos) (congrArg (val_main_v54 (F := Ideal) pos) (idx2 _ _ rfl rfl))
    · rw [val_main_v59_apply, val_main_v3_apply, val_main_v1_apply]
      refine (congrArg (val_main_v0 (F := Ideal) h w) (idx2 _ (ix2 i (⟨1024 + (j.val - 32), by omega⟩ : Fin 3072)) ?_ ?_)).trans (dot_apply h w i _)
      · show ((i.val * 48 + (16 + j.val / 64)) * 64 + (j.val % 32)) / 3072 = i.val; omega
      · show ((i.val * 48 + (16 + j.val / 64)) * 64 + (j.val % 32)) % 3072 = 1024 + (j.val - 32); omega
    · rw [val_main_v68_apply, val_main_v58_apply, val_main_v57_apply]
      exact congrArg (FloatOps.hostUnary (F := Ideal) (φ := .f32) .sin) (congrArg (val_main_v54 (F := Ideal) pos) (idx2 _ _ rfl rfl))

theorem ref9_apply (h : S8192x1024.Idx → EReal) (w : S1024x3072.Idx → EReal) (i : Fin 8192) (j : Fin 1024) :
    val_main_v73 (F := Ideal) h w (ix2 i j) = ∑ k : Fin 1024, h (ix2 i k) * w (ix2 k ⟨2048 + j.val, by omega⟩) := by
  have hj : j.val < 1024 := j.isLt
  have hi : i.val < 8192 := i.isLt
  rw [val_main_v73_apply, val_main_v4_apply, val_main_v1_apply]
  refine (congrArg (val_main_v0 (F := Ideal) h w) (idx2 _ (ix2 i ⟨2048 + j.val, by omega⟩) ?_ ?_)).trans (dot_apply h w i _)
  · show (((i.val * 1024 + j.val) / 1024 * 48 + (32 + (i.val * 1024 + j.val) / 64 % 16)) * 64 + (i.val * 1024 + j.val) % 64) / 3072 = i.val
    omega
  · show (((i.val * 1024 + j.val) / 1024 * 48 + (32 + (i.val * 1024 + j.val) / 64 % 16)) * 64 + (i.val * 1024 + j.val) % 64) % 3072 = 2048 + j.val
    omega

/-! ## The arrays the call leaves -/

theorem final7 (c : Dev nD) : (dats m 0 c).arrAt 7 cfg0.N
    = val_main_v38 (F := Ideal) (m ((c : Thread nD τ).loc main_arg0)) (m ((c : Thread nD τ).loc main_arg1)) (m ((c : Thread nD τ).loc main_arg2)) := by
  have hN : cfg0.N = 16 := by decide +kernel
  refine (dats m 0 c).arrAt_eq_of_cover 7 _ (fun t _ => ?_) (fun i => ?_)
  · rw [Value.flushed7]
    refine funext fun (y : S512x1024.Idx) => ?_
    have hy0 : (y 0).val < 512 := (y 0).isLt
    have hy1 : (y 1).val < 1024 := (y 1).isLt
    have ht : t.val < 16 := hN ▸ t.isLt
    refine Eq.trans ?_ (read7 t _ y (ix2 ⟨t.val * 512 + (y 0).val, by omega⟩ ⟨0 * 1024 + (y 1).val, by omega⟩) rfl rfl).symm
    rw [ref7_apply]
    refine Eq.trans (congrArg (out0_7 (F := Ideal) (iblk m c 0 t) (iblk m c 1 t) (iblk m c 2 t) (iblk m c 3 t) (iblk m c 4 t) (iblk m c 5 t) (iblk m c 6 t)) (eq_ix2 y)) ?_
    refine (point7 _ _ _ _ _ _ _ (y 0) (y 1)).trans ?_
    have eS : ∀ (n : Fin 1024) (n' : Fin 3072), n'.val = 0 + n.val → (∑ k : Fin 1024, (fun a b : EReal => a * b) (iblk m c 0 t (ix2 (y 0) k)) (iblk m c 1 t (ix2 n k)))
        = ∑ k : Fin 1024, (fun a b : EReal => a * b) ((m ((c : Thread nD τ).loc main_arg0)) (ix2 ⟨t.val * 512 + (y 0).val, by omega⟩ k)) ((m ((c : Thread nD τ).loc main_arg1)) (ix2 k n')) := fun n n' hn => by
      refine Finset.sum_congr rfl fun k _ => congrArg₂ (fun a b : EReal => a * b) ?_ ?_
      · exact (read0 t _ (ix2 (y 0) k) (ix2 ⟨t.val * 512 + (y 0).val, by omega⟩ k) rfl (by simp)).trans (congrFun (V_h m c) _)
      · refine (read1 t _ (ix2 n k) (ix2 n k) (by simp) (by simp)).trans ((V_v31_apply m c n k).trans ?_)
        exact congrArg (m ((c : Thread nD τ).loc main_arg1)) (idx2 _ _ rfl hn.symm)
    have hf : (⟨(y 1).val % 128 % 32, Nat.mod_lt _ (by decide)⟩ : Fin 32) = (⟨(0 * 1024 + (y 1).val) % 32, Nat.mod_lt _ (by decide)⟩ : Fin 32) := Fin.ext (by show (y 1).val % 128 % 32 = (0 * 1024 + (y 1).val) % 32; omega)
    have ea := (read4 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_a m c _ _)
    have eb := (read5 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_b m c _ _)
    have ep := (read6 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_p m c _ _)
    rw [hf] at ea eb ep
    have hz : (0 * 1024 + (y 1).val) % 64 = (y 1).val % 128 % 64 := by omega
    split_ifs with hl
    · have hm : (y 1).val % 128 % 64 < 32 := hz ▸ hl
      refine Rope.early _ _ _ _ _ _ _ _ _ _ (eS _ _ ?_) (eS _ _ ?_) ea (eb.trans (if_pos hm)) (ep.trans (if_pos hm))
      · show 0 + (0 * 1024 + (y 1).val) = 0 + (y 1).val
        omega
      · show 0 + ((0 * 1024 + (y 1).val) + 32) = 0 + (128 * ((y 1).val / 128) + ((y 1).val % 128 + 32) % 128)
        omega
    · have hm : ¬ (y 1).val % 128 % 64 < 32 := hz ▸ hl
      refine Rope.late _ _ _ _ _ _ _ _ _ _ (eS _ _ ?_) (eS _ _ ?_) ea (eb.trans (if_neg hm)) (ep.trans (if_neg hm))
      · show 0 + (0 * 1024 + (y 1).val) = 0 + (y 1).val
        omega
      · show 0 + ((0 * 1024 + (y 1).val) - 32) = 0 + (128 * ((y 1).val / 128) + ((y 1).val % 128 + 96) % 128)
        omega
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_7 _, ?_⟩
    show (show S8192x1024.Idx from i) ∈ ((View.whole main_v34_0).slice (win0_7.rect ⟨(i 0 : Nat) / 512, ht⟩)).set
    rw [View.set_slice_whole, Rect.mem_set_unit]
    exact fun a => match a with
      | ⟨0, _⟩ => Rope.inside (b := 512) (i := (i 0 : Nat)) (index7 _).1 (by show (i 0 : Nat) / 512 * 512 ≤ _; omega) (by show _ < (i 0 : Nat) / 512 * 512 + 512; omega)
      | ⟨1, _⟩ => Rope.inside (b := 1024) (i := (i 1 : Nat)) (index7 _).2 (by omega) (by omega)

theorem final8 (c : Dev nD) : (dats m 0 c).arrAt 8 cfg0.N
    = val_main_v72 (F := Ideal) (m ((c : Thread nD τ).loc main_arg0)) (m ((c : Thread nD τ).loc main_arg1)) (m ((c : Thread nD τ).loc main_arg2)) := by
  have hN : cfg0.N = 16 := by decide +kernel
  refine (dats m 0 c).arrAt_eq_of_cover 8 _ (fun t _ => ?_) (fun i => ?_)
  · rw [Value.flushed8]
    refine funext fun (y : S512x1024.Idx) => ?_
    have hy0 : (y 0).val < 512 := (y 0).isLt
    have hy1 : (y 1).val < 1024 := (y 1).isLt
    have ht : t.val < 16 := hN ▸ t.isLt
    refine Eq.trans ?_ (read8 t _ y (ix2 ⟨t.val * 512 + (y 0).val, by omega⟩ ⟨0 * 1024 + (y 1).val, by omega⟩) rfl rfl).symm
    rw [ref8_apply]
    refine Eq.trans (congrArg (out0_8 (F := Ideal) (iblk m c 0 t) (iblk m c 1 t) (iblk m c 2 t) (iblk m c 3 t) (iblk m c 4 t) (iblk m c 5 t) (iblk m c 6 t)) (eq_ix2 y)) ?_
    refine (point8 _ _ _ _ _ _ _ (y 0) (y 1)).trans ?_
    have eS : ∀ (n : Fin 1024) (n' : Fin 3072), n'.val = 1024 + n.val → (∑ k : Fin 1024, (fun a b : EReal => a * b) (iblk m c 0 t (ix2 (y 0) k)) (iblk m c 2 t (ix2 n k)))
        = ∑ k : Fin 1024, (fun a b : EReal => a * b) ((m ((c : Thread nD τ).loc main_arg0)) (ix2 ⟨t.val * 512 + (y 0).val, by omega⟩ k)) ((m ((c : Thread nD τ).loc main_arg1)) (ix2 k n')) := fun n n' hn => by
      refine Finset.sum_congr rfl fun k _ => congrArg₂ (fun a b : EReal => a * b) ?_ ?_
      · exact (read0 t _ (ix2 (y 0) k) (ix2 ⟨t.val * 512 + (y 0).val, by omega⟩ k) rfl (by simp)).trans (congrFun (V_h m c) _)
      · refine (read2 t _ (ix2 n k) (ix2 n k) (by simp) (by simp)).trans ((V_v32_apply m c n k).trans ?_)
        exact congrArg (m ((c : Thread nD τ).loc main_arg1)) (idx2 _ _ rfl hn.symm)
    have hf : (⟨(y 1).val % 128 % 32, Nat.mod_lt _ (by decide)⟩ : Fin 32) = (⟨(0 * 1024 + (y 1).val) % 32, Nat.mod_lt _ (by decide)⟩ : Fin 32) := Fin.ext (by show (y 1).val % 128 % 32 = (0 * 1024 + (y 1).val) % 32; omega)
    have ea := (read4 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_a m c _ _)
    have eb := (read5 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_b m c _ _)
    have ep := (read6 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_p m c _ _)
    rw [hf] at ea eb ep
    have hz : (0 * 1024 + (y 1).val) % 64 = (y 1).val % 128 % 64 := by omega
    split_ifs with hl
    · have hm : (y 1).val % 128 % 64 < 32 := hz ▸ hl
      refine Rope.early _ _ _ _ _ _ _ _ _ _ (eS _ _ ?_) (eS _ _ ?_) ea (eb.trans (if_pos hm)) (ep.trans (if_pos hm))
      · show 1024 + (0 * 1024 + (y 1).val) = 1024 + (y 1).val
        omega
      · show 1024 + ((0 * 1024 + (y 1).val) + 32) = 1024 + (128 * ((y 1).val / 128) + ((y 1).val % 128 + 32) % 128)
        omega
    · have hm : ¬ (y 1).val % 128 % 64 < 32 := hz ▸ hl
      refine Rope.late _ _ _ _ _ _ _ _ _ _ (eS _ _ ?_) (eS _ _ ?_) ea (eb.trans (if_neg hm)) (ep.trans (if_neg hm))
      · show 1024 + (0 * 1024 + (y 1).val) = 1024 + (y 1).val
        omega
      · show 1024 + ((0 * 1024 + (y 1).val) - 32) = 1024 + (128 * ((y 1).val / 128) + ((y 1).val % 128 + 96) % 128)
        omega
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_8 _, ?_⟩
    show (show S8192x1024.Idx from i) ∈ ((View.whole main_v34_1).slice (win0_8.rect ⟨(i 0 : Nat) / 512, ht⟩)).set
    rw [View.set_slice_whole, Rect.mem_set_unit]
    exact fun a => match a with
      | ⟨0, _⟩ => Rope.inside (b := 512) (i := (i 0 : Nat)) (index8 _).1 (by show (i 0 : Nat) / 512 * 512 ≤ _; omega) (by show _ < (i 0 : Nat) / 512 * 512 + 512; omega)
      | ⟨1, _⟩ => Rope.inside (b := 1024) (i := (i 1 : Nat)) (index8 _).2 (by omega) (by omega)

theorem final9 (c : Dev nD) : (dats m 0 c).arrAt 9 cfg0.N
    = val_main_v73 (F := Ideal) (m ((c : Thread nD τ).loc main_arg0)) (m ((c : Thread nD τ).loc main_arg1)) := by
  have hN : cfg0.N = 16 := by decide +kernel
  refine (dats m 0 c).arrAt_eq_of_cover 9 _ (fun t _ => ?_) (fun i => ?_)
  · rw [Value.flushed9]
    refine funext fun (y : S512x1024.Idx) => ?_
    have hy0 : (y 0).val < 512 := (y 0).isLt
    have hy1 : (y 1).val < 1024 := (y 1).isLt
    have ht : t.val < 16 := hN ▸ t.isLt
    refine Eq.trans ?_ (read9 t _ y (ix2 ⟨t.val * 512 + (y 0).val, by omega⟩ ⟨0 * 1024 + (y 1).val, by omega⟩) rfl rfl).symm
    rw [ref9_apply]
    refine Eq.trans (congrArg (out0_9 (F := Ideal) (iblk m c 0 t) (iblk m c 1 t) (iblk m c 2 t) (iblk m c 3 t) (iblk m c 4 t) (iblk m c 5 t) (iblk m c 6 t)) (eq_ix2 y)) ?_
    refine (point9 _ _ _ _ _ _ _ (y 0) (y 1)).trans ?_
    refine Finset.sum_congr rfl fun k _ => congrArg₂ (· * ·) ?_ ?_
    · refine (read0 t _ (ix2 (y 0) k) (ix2 ⟨t.val * 512 + (y 0).val, by omega⟩ k) rfl (by simp)).trans ?_
      exact congrFun (V_h m c) _
    · refine (read3 t _ (ix2 (y 1) k) (ix2 ⟨0 * 1024 + (y 1).val, by omega⟩ k) rfl (by simp)).trans ?_
      exact V_v33_apply m c _ _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_9 _, ?_⟩
    show (show S8192x1024.Idx from i) ∈ ((View.whole main_v34_2).slice (win0_9.rect ⟨(i 0 : Nat) / 512, ht⟩)).set
    rw [View.set_slice_whole, Rect.mem_set_unit]
    exact fun a => match a with
      | ⟨0, _⟩ => Rope.inside (b := 512) (i := (i 0 : Nat)) (index9 _).1 (by show (i 0 : Nat) / 512 * 512 ≤ _; omega) (by show _ < (i 0 : Nat) / 512 * 512 + 512; omega)
      | ⟨1, _⟩ => Rope.inside (b := 1024) (i := (i 1 : Nat)) (index9 _).2 (by omega) (by omega)

/-! ## The claims -/

/-- The reference runs, keeps its arguments, and has no semaphore. -/
theorem ref_frame : Cert.quiescent_QkvRefIdeal (hQkvRefIdeal := Cert.QkvRefIdeal.Gen.facts) := fun m g _ =>
  (θ_run Cert.QkvRefIdeal.defs _ _).mono (fun r h => ⟨fun c => (h c).2.2.2, sem_eq_zero_of_no_sems (by decide) r.2⟩)
    (Cert.QkvRefIdeal.Value.run m g)

/-- The call's results are the reference's. -/
theorem value : Cert.algebraic_QkvIdeal_QkvRefIdeal (hQkvIdeal := Cert.QkvIdeal.Gen.facts) (hQkvRefIdeal := Cert.QkvRefIdeal.Gen.facts) := by
  intro m g m' g' _ agree
  refine ⟨fun c => val_main_v38 (F := Ideal) (m ((c : Thread nD τ).loc main_arg0)) (m ((c : Thread nD τ).loc main_arg1)) (m ((c : Thread nD τ).loc main_arg2)), fun c => val_main_v72 (F := Ideal) (m ((c : Thread nD τ).loc main_arg0)) (m ((c : Thread nD τ).loc main_arg1)) (m ((c : Thread nD τ).loc main_arg2)), fun c => val_main_v73 (F := Ideal) (m ((c : Thread nD τ).loc main_arg0)) (m ((c : Thread nD τ).loc main_arg1)), ?_, ?_⟩
  · refine (θ_run Cert.QkvIdeal.defs _ _).mono (fun r h c => ?_) (Value.run_blocks m g)
    exact ⟨(h c).1.trans (final7 m c), (h c).2.1.trans (final8 m c), (h c).2.2.1.trans (final9 m c), (h c).2.2.2⟩
  · refine (θ_run Cert.QkvRefIdeal.defs _ _).mono (fun r h c => ?_) (Cert.QkvRefIdeal.Value.run m' g')
    obtain ⟨e0, e1, e2⟩ := agree c
    refine ⟨((h c).1.trans (val_main_v38_eq m' c)).trans ?_, ((h c).2.1.trans (val_main_v72_eq m' c)).trans ?_, (h c).2.2.1.trans ?_, (h c).2.2.2⟩
    · rw [e0, e1, e2]
    · rw [e0, e1, e2]
    · rw [e0, e1]
      exact val_main_v73_eq _ _

end Cert.Ffn.Qkv

end
-- ==== Proof.FfnUq.lean ====
/- The latent queries' up-projection: one product, whose heads' last 32 lanes are turned by the rows' positions. -/
module

public import proofs.«01_k».proof.Defs
public import proofs.«01_k».proof.Proof.FfnLib
public import proofs.«01_k».proof.Proof.FfnRope
public import proofs.«01_k».proof.Proof.Gen.Uq.Frame
public import proofs.«01_k».proof.Proof.Gen.UqIdeal.Value
public import proofs.«01_k».proof.Proof.Gen.UqRefIdeal.Run
public import proofs.«01_k».proof.Proof.Gen.UqRefIdeal.Read
public import Idealize.ShloMosaic.Lib.StableHlo.RunRead

@[expose] public section

set_option maxRecDepth 16384

noncomputable section

namespace Cert.Ffn.Uq

open Idealize.ShloMosaic Idealize.ShloMosaic.TcCoe Idealize.SL.Sem
open Cert.UqIdeal Cert.UqIdeal.Gen Cert.UqRefIdeal.Read

variable (m : (ℓ : Loc nD τ sig) → Buf (Elt Ideal) ℓ)

/-! ## The arrays the call is given -/

theorem V_v33 (c : Dev nD) : V m c main_v33 = m ((c : Thread nD τ).loc main_arg0) := by
  unfold V
  after_reads_simp
  rfl

/-- The weight's rows, head by head: each head's 96 rows and 32 rows of zeros. -/
theorem V_v4 (c : Dev nD) : V m c main_v4
    = shapeCast S1024x384 (pad S8x128x384 ![0, 0, 0] ![0, 32, 0] ![0, 0, 0] (shapeCast S8x96x384 (transpose S768x384 [1, 0] (m ((c : Thread nD τ).loc main_arg1) : S384x768.Idx → EReal) transposes_S384x768_S768x384_1_0) shapeCasts_S768x384_S8x96x384)
        (sitofp (F := Ideal) .bf16 (constantI S_ 32 0#32)) pads_S8x96x384_S8x128x384_000_0320_000 h_S_) shapeCasts_S8x128x384_S1024x384 := by
  unfold V
  after_reads_simp
  rfl

theorem head_row (A : S8x128x384.Idx → EReal) (i : Fin 1024) (k : Fin 384) :
    shapeCast S1024x384 A shapeCasts_S8x128x384_S1024x384 (ix2 i k) = A (ix3 (⟨i.val / 128, by omega⟩ : Fin 8) (⟨i.val % 128, Nat.mod_lt _ (by decide)⟩ : Fin 128) k) := by
  refine shapeCast_apply _ _ _ _ ?_
  rw [Shape.rowMajor_val_three, Shape.rowMajor_val_two]
  show (i.val / 128 * 128 + i.val % 128) * 384 + k.val = i.val * 384 + k.val
  omega

theorem V_v4_in (c : Dev nD) (i : Fin 1024) (k : Fin 384) (j : Fin 768) (hi : i.val % 128 < 96) (hj : j.val = 96 * (i.val / 128) + i.val % 128) :
    V m c main_v4 (ix2 i k) = (m ((c : Thread nD τ).loc main_arg1) : S384x768.Idx → EReal) (ix2 k j) := by
  rw [V_v4]
  generalize (m ((c : Thread nD τ).loc main_arg1) : S384x768.Idx → EReal) = A
  refine (head_row _ i k).trans ?_
  refine (pad_apply_of_inside _ _ _ _ _ _ _ _ (ix3 (⟨i.val / 128, by omega⟩ : Fin 8) (⟨i.val % 128, hi⟩ : Fin 96) k) fun a => ?_).trans ?_
  · match a with
    | ⟨0, _⟩ => show i.val / 128 = 0 + i.val / 128 * (0 + 1); omega
    | ⟨1, _⟩ => show i.val % 128 = 0 + i.val % 128 * (0 + 1); omega
    | ⟨2, _⟩ => show k.val = 0 + k.val * (0 + 1); omega
  · refine (shapeCast_apply _ shapeCasts_S768x384_S8x96x384 _ (ix2 j k) ?_).trans ?_
    · rw [Shape.rowMajor_val_three, Shape.rowMajor_val_two]
      show j.val * 384 + k.val = (i.val / 128 * 96 + i.val % 128) * 384 + k.val
      omega
    · pointwise

theorem V_v4_out (c : Dev nD) (i : Fin 1024) (k : Fin 384) (hi : ¬ i.val % 128 < 96) : V m c main_v4 (ix2 i k) = (0 : EReal) := by
  rw [V_v4]
  generalize (m ((c : Thread nD τ).loc main_arg1) : S384x768.Idx → EReal) = A
  refine (head_row _ i k).trans ?_
  refine (pad_apply_of_not_inside _ _ _ _ _ _ _ _ (1 : Fin 3) fun h => ?_).trans ?_
  · have h2 : (i.val % 128 - 0) / (0 + 1) < 96 := h.2.2
    omega
  · show (((0#32 : BitVec 32).toInt : ℝ) : EReal) = 0
    simp

/-! ## The rotation's tables -/

/-- The rates of the pairs of lanes. -/
abbrev rate : S16.Idx → EReal := val_main_v13 (F := Ideal)

/-- The angle of a row's pair of lanes. -/
abbrev theta (pos : S8192.Idx → BitVec 32) (i : Fin 8192) (f : Fin 16) : EReal := val_main_v19 (F := Ideal) pos (ix2 i f)

/-- Its cosine. -/
abbrev cosine (pos : S8192.Idx → BitVec 32) (i : Fin 8192) (f : Fin 16) : EReal := FloatOps.hostUnary (F := Ideal) (φ := .f32) .cos (theta pos i f)

/-- Its sine. -/
abbrev sine (pos : S8192.Idx → BitVec 32) (i : Fin 8192) (f : Fin 16) : EReal := FloatOps.hostUnary (F := Ideal) (φ := .f32) .sin (theta pos i f)

/-- The rates along a tile: none, each twice, none. -/
def rates : S128.Idx → EReal :=
  shapeCast S128 (broadcastInDim S1x128 ![0, 1] bcast_S1x128_S1x128_0_1 (shapeCast S1x128
    (concatenate S128 0 [⟨S64, broadcastInDim S64 ![] bcast_S_S64 (constant (F := Ideal) S_ .f32 0x00000000#32)⟩, ⟨S16, rate⟩, ⟨S16, rate⟩,
      ⟨S32, broadcastInDim S32 ![] bcast_S_S32 (constant (F := Ideal) S_ .f32 0x00000000#32)⟩] concatenates_S64_S16_S16_S32_S128_d0) shapeCasts_S128_S1x128)) shapeCasts_S1x128_S128

theorem rates_apply (e : Fin 128) (h1 : 64 ≤ e.val) (h2 : e.val < 96) : rates (ix1 e) = rate (ix1 ⟨e.val % 16, Nat.mod_lt _ (by decide)⟩) := by
  unfold rates
  refine (shapeCast_apply _ shapeCasts_S1x128_S128 (ix1 e) (ix2 (0 : Fin 1) e) ?_).trans ?_
  · rw [Shape.rowMajor_val_two, Shape.rowMajor_val_one]
    show 0 * 128 + e.val = e.val
    omega
  refine (broadcastInDim_apply _ _ _ _ (ix2 (0 : Fin 1) e) fun a => match a with
    | ⟨0, _⟩ => (if_pos rfl).symm
    | ⟨1, _⟩ => (if_neg (by show ¬ (128 : ℕ) = 1; decide)).symm).trans ?_
  refine (shapeCast_apply _ shapeCasts_S128_S1x128 _ (ix1 e) ?_).trans ?_
  · rw [Shape.rowMajor_val_two, Shape.rowMajor_val_one]
    show e.val = 0 * 128 + e.val
    omega
  by_cases h : e.val < 80
  · refine concatenate_apply_piece (t := S128) 0 _ _ _ 1 (by show 1 < 4; decide) S16 rate rfl rfl 64 (by rfl) (ix1 ⟨e.val % 16, Nat.mod_lt _ (by decide)⟩)
      (fun b hb => match b with
        | ⟨0, _⟩ => absurd rfl hb) ?_
    show 64 + e.val % 16 = e.val
    omega
  · refine concatenate_apply_piece (t := S128) 0 _ _ _ 2 (by show 2 < 4; decide) S16 rate rfl rfl 80 (by rfl) (ix1 ⟨e.val % 16, Nat.mod_lt _ (by decide)⟩)
      (fun b hb => match b with
        | ⟨0, _⟩ => absurd rfl hb) ?_
    show 80 + e.val % 16 = e.val
    omega

/-- The angles the tables are made of, one for each of 128 lanes. -/
def angles (pos : S8192.Idx → BitVec 32) : S8192x128.Idx → EReal :=
  mulf (F := Ideal) (φ := .f32) (broadcastInDim S8192x128 ![0, 1] bcast_S8192x1_S8192x128_0_1 (broadcastInDim S8192x1 ![0] bcast_S8192_S8192x1_0 (sitofp (F := Ideal) .f32 pos)))
    (broadcastInDim S8192x128 ![0, 1] bcast_S1x128_S8192x128_0_1 (broadcastInDim S1x128 ![1] bcast_S128_S1x128_1 rates))

theorem angles_apply (pos : S8192.Idx → BitVec 32) (i : Fin 8192) (e : Fin 128) (h1 : 64 ≤ e.val) (h2 : e.val < 96) :
    angles pos (ix2 i e) = theta pos i ⟨e.val % 16, Nat.mod_lt _ (by decide)⟩ := by
  refine (Rope.angle_apply (sitofp (F := Ideal) .f32 pos) rates _ _ _ _ i e).trans ?_
  refine (congrArg ((sitofp (F := Ideal) .f32 pos) (ix1 i) * ·) (rates_apply e h1 h2)).trans ?_
  show _ = val_main_v19 (F := Ideal) pos _
  rw [val_main_v19_apply, val_main_v17_apply, val_main_v15_apply, val_main_v18_apply, val_main_v16_apply]
  exact congrArg₂ (· * ·) (congrArg (sitofp (F := Ideal) .f32 pos) (Rope.idx1 _ _ rfl)) (congrArg rate (Rope.idx1 _ _ rfl))

theorem V_v29 (c : Dev nD) : V m c main_v29
    = select (broadcastInDim S8192x128 ![0, 1] bcast_S1x128_S8192x128_0_1 (fun i => lit0 (S1x128.rowMajor i))) (broadcastInDim S8192x128 ![] bcast_S_S8192x128 (constant (F := Ideal) S_ .f32 0x3F800000#32)) (Host.cos (F := Ideal) (φ := .f32) (angles (m ((c : Thread nD τ).loc main_arg2) : S8192.Idx → BitVec 32))) := by
  unfold V
  after_reads_simp
  rfl

theorem V_v30 (c : Dev nD) : V m c main_v30
    = select (broadcastInDim S8192x128 ![0, 1] bcast_S1x128_S8192x128_0_1 (fun i => lit1 (S1x128.rowMajor i))) (Host.sin (F := Ideal) (φ := .f32) (angles (m ((c : Thread nD τ).loc main_arg2) : S8192.Idx → BitVec 32))) (broadcastInDim S8192x128 ![] bcast_S_S8192x128 (constant (F := Ideal) S_ .f32 0x00000000#32)) := by
  unfold V
  after_reads_simp
  rfl

theorem V_v32 (c : Dev nD) : V m c main_v32
    = select (broadcastInDim S8192x128 ![0, 1] bcast_S1x128_S8192x128_0_1 (fun i => lit2 (S1x128.rowMajor i))) (Host.negf (F := Ideal) (φ := .f32) (Host.sin (F := Ideal) (φ := .f32) (angles (m ((c : Thread nD τ).loc main_arg2) : S8192.Idx → BitVec 32)))) (broadcastInDim S8192x128 ![] bcast_S_S8192x128 (constant (F := Ideal) S_ .f32 0x00000000#32)) := by
  unfold V
  after_reads_simp
  rfl

/-- The first table of marks: the lanes that are not turned. -/
theorem lit0_eq : ∀ e : Fin 128, lit0 e = if 64 ≤ e.val ∧ e.val < 96 then 0#1 else 1#1 := by decide +kernel

/-- The second: the later lane of each pair. -/
theorem lit1_eq : ∀ e : Fin 128, lit1 e = if 80 ≤ e.val ∧ e.val < 96 then 1#1 else 0#1 := by decide +kernel

/-- The third: the earlier lane of each pair. -/
theorem lit2_eq : ∀ e : Fin 128, lit2 e = if 64 ≤ e.val ∧ e.val < 80 then 1#1 else 0#1 := by decide +kernel

theorem table_a (c : Dev nD) (i : Fin 8192) (e : Fin 128) : V m c main_v29 (ix2 i e)
    = if 64 ≤ e.val ∧ e.val < 96 then cosine (m ((c : Thread nD τ).loc main_arg2) : S8192.Idx → BitVec 32) i ⟨e.val % 16, Nat.mod_lt _ (by decide)⟩ else 1 := by
  rw [V_v29]
  refine (congrArg (Scalar.select · _ _) ((Rope.row_apply _ _ i e).trans ((congrArg lit0 (Rope.place e)).trans (lit0_eq e)))).trans ?_
  split_ifs with h
  · exact congrArg (FloatOps.hostUnary (F := Ideal) (φ := .f32) .cos) (angles_apply _ i e h.1 h.2)
  · exact Rope.const_apply (constant (F := Ideal) S_ .f32 0x3F800000#32) bcast_S_S8192x128 1 (fun _ => Ideal.ofBits_one_f32) (ix2 i e)

theorem table_b (c : Dev nD) (i : Fin 8192) (e : Fin 128) : V m c main_v30 (ix2 i e)
    = if 80 ≤ e.val ∧ e.val < 96 then sine (m ((c : Thread nD τ).loc main_arg2) : S8192.Idx → BitVec 32) i ⟨e.val % 16, Nat.mod_lt _ (by decide)⟩ else 0 := by
  rw [V_v30]
  refine (congrArg (Scalar.select · _ _) ((Rope.row_apply _ _ i e).trans ((congrArg lit1 (Rope.place e)).trans (lit1_eq e)))).trans ?_
  split_ifs with h
  · exact congrArg (FloatOps.hostUnary (F := Ideal) (φ := .f32) .sin) (angles_apply _ i e (by omega) h.2)
  · exact Rope.const_apply (constant (F := Ideal) S_ .f32 0x00000000#32) bcast_S_S8192x128 0 (fun _ => Ideal.ofBits_zero_f32) (ix2 i e)

theorem table_p (c : Dev nD) (i : Fin 8192) (e : Fin 128) : V m c main_v32 (ix2 i e)
    = if 64 ≤ e.val ∧ e.val < 80 then -sine (m ((c : Thread nD τ).loc main_arg2) : S8192.Idx → BitVec 32) i ⟨e.val % 16, Nat.mod_lt _ (by decide)⟩ else 0 := by
  rw [V_v32]
  refine (congrArg (Scalar.select · _ _) ((Rope.row_apply _ _ i e).trans ((congrArg lit2 (Rope.place e)).trans (lit2_eq e)))).trans ?_
  split_ifs with h
  · exact congrArg (fun z : EReal => -FloatOps.hostUnary (F := Ideal) (φ := .f32) .sin z) (angles_apply _ i e h.1 (by omega))
  · exact Rope.const_apply (constant (F := Ideal) S_ .f32 0x00000000#32) bcast_S_S8192x128 0 (fun _ => Ideal.ofBits_zero_f32) (ix2 i e)

/-! ## Where a point's blocks sit -/

theorem index0 : ∀ t : Fin cfg0.N, win0_0.index t 0 = t.val ∧ win0_0.index t 1 = 0 := by decide +kernel

theorem read0 (t : Fin cfg0.N) (A : S8192x384.Idx → EReal) (y : S2048x384.Idx) (i : S8192x384.Idx)
    (h0 : (i 0).val = t.val * 2048 + (y 0).val) (h1 : (i 1).val = 0 * 384 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x384.Idx → EReal) (y : S1024x384.Idx) (i : S1024x384.Idx)
    (h0 : (i 0).val = 0 * 1024 + (y 0).val) (h1 : (i 1).val = 0 * 384 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x128.Idx → EReal) (y : S2048x128.Idx) (i : S8192x128.Idx)
    (h0 : (i 0).val = t.val * 2048 + (y 0).val) (h1 : (i 1).val = 0 * 128 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = t.val ∧ win0_3.index t 1 = 0 := by decide +kernel

theorem read3 (t : Fin cfg0.N) (A : S8192x128.Idx → EReal) (y : S2048x128.Idx) (i : S8192x128.Idx)
    (h0 : (i 0).val = t.val * 2048 + (y 0).val) (h1 : (i 1).val = 0 * 128 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = t.val ∧ win0_4.index t 1 = 0 := by decide +kernel

theorem read4 (t : Fin cfg0.N) (A : S8192x128.Idx → EReal) (y : S2048x128.Idx) (i : S8192x128.Idx)
    (h0 : (i 0).val = t.val * 2048 + (y 0).val) (h1 : (i 1).val = 0 * 128 + (y 1).val) :
    ((cfg0.win 4).blk t).view.read (Elt Ideal) A y = A i :=
  congrArg A (idx2 _ _ (emb_at win0_4 t y 0 (index4 t).1 h0) (emb_at win0_4 t y 1 (index4 t).2 h1))

theorem index5 : ∀ t : Fin cfg0.N, win0_5.index t 0 = t.val ∧ win0_5.index t 1 = 0 := by decide +kernel

theorem read5 (t : Fin cfg0.N) (A : S8192x1024.Idx → EReal) (y : S2048x1024.Idx) (i : S8192x1024.Idx)
    (h0 : (i 0).val = t.val * 2048 + (y 0).val) (h1 : (i 1).val = 0 * 1024 + (y 1).val) :
    ((cfg0.win 5).blk t).view.read (Elt Ideal) A y = A i :=
  congrArg A (idx2 _ _ (emb_at win0_5 t y 0 (index5 t).1 h0) (emb_at win0_5 t y 1 (index5 t).2 h1))

/-! ## One point -/

/-- The product at an index. -/
theorem k0_pay2_at (P : S2048x384.Idx → EReal) (A : S1024x384.Idx → EReal) (r : Fin 2048) (n : Fin 1024) :
    k0_pay2 (F := Ideal) P A (ix2 r n) = ∑ k : Fin 384, P (ix2 r k) * A (ix2 n k) := by
  unfold k0_pay2
  pointwise

theorem k0_pay3_self (a : S2048x128.Idx → EReal) : k0_pay3 (F := Ideal) a = a := shapeCast_self _ _

theorem k0_pay4_self (a : S2048x128.Idx → EReal) : k0_pay4 (F := Ideal) a = a := shapeCast_self _ _

theorem k0_pay5_self (a : S2048x128.Idx → EReal) : k0_pay5 (F := Ideal) a = a := shapeCast_self _ _

theorem point (P : S2048x384.Idx → EReal) (A : S1024x384.Idx → EReal) (ta tb tp : S2048x128.Idx → EReal) (r : Fin 2048) (l : Fin 1024) :
    out0_5 (F := Ideal) P A ta tb tp (ix2 r l)
      = (∑ k : Fin 384, P (ix2 r k) * A (ix2 l k)) * ta (ix2 r ⟨l.val % 128, Nat.mod_lt _ (by decide)⟩)
        + (∑ k : Fin 384, P (ix2 r k) * A (ix2 (⟨128 * (l.val / 128) + (l.val % 128 + 112) % 128, by omega⟩ : Fin 1024) k)) * tb (ix2 r ⟨l.val % 128, Nat.mod_lt _ (by decide)⟩)
        + (∑ k : Fin 384, P (ix2 r k) * A (ix2 (⟨128 * (l.val / 128) + (l.val % 128 + 16) % 128, by omega⟩ : Fin 1024) k)) * tp (ix2 r ⟨l.val % 128, Nat.mod_lt _ (by decide)⟩) := by
  unfold out0_5
  refine (congrFun (View.canon_unit_zero off_zero _ _) _).trans ?_
  repeat rw [View.ld_unit_zero off_zero]
  refine Eq.trans (b := concatenate S2048x1024 1 (List.ofFn fun b : Fin 8 => (⟨S2048x128, Rope.turn 16 112 (128 * b.val) (Rope.sliced 8 rfl b) rotates_S2048x128_d1 (k0_pay2 (F := Ideal) P A) ta tb tp⟩ : (s : Shape) × (s.Idx → EReal))) concatenates_S2048x128_S2048x128_S2048x128_S2048x128_S2048x128_S2048x128_S2048x128_S2048x128_S2048x1024_d1 (ix2 r l)) ?_ ?_
  · unfold k0_pay1 k0_pay11 k0_pay10 k0_pay9 k0_pay8 k0_pay7 k0_pay6
    simp only [k0_pay3_self, k0_pay4_self, k0_pay5_self]
    rfl
  refine (Rope.tiles (w := 1024) (P := 8) 16 112 rfl (by decide) (by decide) rfl (Rope.sliced 8 rfl) rotates_S2048x128_d1 (k0_pay2 (F := Ideal) P A) ta tb tp concatenates_S2048x128_S2048x128_S2048x128_S2048x128_S2048x128_S2048x128_S2048x128_S2048x128_S2048x1024_d1 r l).trans ?_
  rw [k0_pay2_at, k0_pay2_at, k0_pay2_at]

/-! ## The reference's result at an index -/

/-- One entry of the product the reference turns. -/
abbrev dot (h : S8192x384.Idx → EReal) (w : S384x768.Idx → EReal) (i : Fin 8192) (n : Fin 768) : EReal := ∑ k : Fin 384, h (ix2 i k) * w (ix2 k n)

/-- A head's lane of the product. -/
theorem head_apply (h : S8192x384.Idx → EReal) (w : S384x768.Idx → EReal) (x : Cert.UqRefIdeal.S8192x8x96.Idx) (i : Fin 8192) (n : Fin 768)
    (h0 : (x 0).val = i.val) (hn : n.val = 96 * (x 1).val + (x 2).val) : val_main_v1 (F := Ideal) h w x = dot h w i n := by
  have x1 : (x 1).val < 8 := (x 1).isLt
  have x2 : (x 2).val < 96 := (x 2).isLt
  rw [val_main_v1_apply]
  refine (congrArg (val_main_v0 (F := Ideal) h w) (idx2 _ (ix2 i n) ?_ ?_)).trans ?_
  · show (((x 0).val * 8 + (x 1).val) * 96 + (x 2).val) / 768 = i.val
    omega
  · show (((x 0).val * 8 + (x 1).val) * 96 + (x 2).val) % 768 = n.val
    omega
  rw [val_main_v0_apply]
  exact Finset.sum_congr rfl fun k _ => congrArg₂ (· * ·) (congrArg h (idx2 _ _ rfl rfl)) (congrArg w (idx2 _ _ rfl rfl))

section
variable (h : S8192x384.Idx → EReal) (w : S384x768.Idx → EReal) (pos : S8192.Idx → BitVec 32) (i : Fin 8192) (b : Fin 8) (f : Fin 16) (n : Fin 768)

theorem first_apply (hn : n.val = 96 * b.val + (64 + f.val)) : val_main_v24 (F := Ideal) h w (ix3 i b f) = dot h w i n := by
  rw [val_main_v24_apply, val_main_v3_apply]
  exact head_apply h w _ i n rfl hn

theorem second_apply (hn : n.val = 96 * b.val + (64 + (16 + f.val))) : val_main_v25 (F := Ideal) h w (ix3 i b f) = dot h w i n := by
  rw [val_main_v25_apply, val_main_v3_apply]
  exact head_apply h w _ i n rfl hn

theorem cos_apply : val_main_v26 (F := Ideal) pos (ix3 i b f) = cosine pos i f := by
  rw [val_main_v26_apply, val_main_v21_apply, val_main_v20_apply]
  exact congrArg (FloatOps.hostUnary (F := Ideal) (φ := .f32) .cos) (congrArg (val_main_v19 (F := Ideal) pos) (idx2 _ _ rfl rfl))

theorem sin_apply : val_main_v28 (F := Ideal) pos (ix3 i b f) = sine pos i f := by
  rw [val_main_v28_apply, val_main_v23_apply, val_main_v22_apply]
  exact congrArg (FloatOps.hostUnary (F := Ideal) (φ := .f32) .sin) (congrArg (val_main_v19 (F := Ideal) pos) (idx2 _ _ rfl rfl))

end

/-- The lanes before the turned ones. -/
theorem ref_plain (h : S8192x384.Idx → EReal) (w : S384x768.Idx → EReal) (pos : S8192.Idx → BitVec 32) (i : Fin 8192) (j : Fin 1024) (n : Fin 768)
    (hj : j.val % 128 < 64) (hn : n.val = 96 * (j.val / 128) + j.val % 128) : val_main_v39 (F := Ideal) h w pos (ix2 i j) = dot h w i n := by
  rw [val_main_v39_apply]
  unfold val_main_v38
  refine (concatenate_apply_piece (t := Cert.UqRefIdeal.S8192x8x128) 2 _ _ _ 0 (by show 0 < 3; decide) Cert.UqRefIdeal.S8192x8x64 (val_main_v2 (F := Ideal) h w) rfl rfl 0 (by rfl)
    (ix3 i (⟨j.val / 128, by omega⟩ : Fin 8) (⟨j.val % 128, hj⟩ : Fin 64)) (fun b hb => ?_) ?_).trans ?_
  · match b with
    | ⟨0, _⟩ => show i.val = (i.val * 1024 + j.val) / 1024; omega
    | ⟨1, _⟩ => show j.val / 128 = (i.val * 1024 + j.val) / 128 % 8; omega
    | ⟨2, _⟩ => exact absurd rfl hb
  · show 0 + j.val % 128 = (i.val * 1024 + j.val) % 128
    omega
  · rw [val_main_v2_apply]
    exact head_apply h w _ i n rfl hn

/-- The turned lanes are the ones of the reference's turned part. -/
theorem ref_turned (h : S8192x384.Idx → EReal) (w : S384x768.Idx → EReal) (pos : S8192.Idx → BitVec 32) (i : Fin 8192) (j : Fin 1024)
    (h1 : 64 ≤ j.val % 128) (h2 : j.val % 128 < 96) : val_main_v39 (F := Ideal) h w pos (ix2 i j)
      = val_main_v36 (F := Ideal) h w pos (ix3 i (⟨j.val / 128, by omega⟩ : Fin 8) (⟨j.val % 128 - 64, by omega⟩ : Fin 32)) := by
  rw [val_main_v39_apply]
  unfold val_main_v38
  refine concatenate_apply_piece (t := Cert.UqRefIdeal.S8192x8x128) 2 _ _ _ 1 (by show 1 < 3; decide) Cert.UqRefIdeal.S8192x8x32 (val_main_v36 (F := Ideal) h w pos) rfl rfl 64 (by rfl)
    (ix3 i (⟨j.val / 128, by omega⟩ : Fin 8) (⟨j.val % 128 - 64, by omega⟩ : Fin 32)) (fun b hb => ?_) ?_
  · match b with
    | ⟨0, _⟩ => show i.val = (i.val * 1024 + j.val) / 1024; omega
    | ⟨1, _⟩ => show j.val / 128 = (i.val * 1024 + j.val) / 128 % 8; omega
    | ⟨2, _⟩ => exact absurd rfl hb
  · show 64 + (j.val % 128 - 64) = (i.val * 1024 + j.val) % 128
    omega

/-- A pair's earlier lane. -/
theorem ref_early (h : S8192x384.Idx → EReal) (w : S384x768.Idx → EReal) (pos : S8192.Idx → BitVec 32) (i : Fin 8192) (j : Fin 1024) (n n' : Fin 768) (f : Fin 16)
    (h1 : 64 ≤ j.val % 128) (h2 : j.val % 128 < 80) (hf : f.val = j.val % 128 % 16) (hn : n.val = 96 * (j.val / 128) + j.val % 128) (hn' : n'.val = n.val + 16) :
    val_main_v39 (F := Ideal) h w pos (ix2 i j) = dot h w i n * cosine pos i f - dot h w i n' * sine pos i f := by
  refine (ref_turned h w pos i j h1 (by omega)).trans ?_
  unfold val_main_v36
  refine (concatenate_apply_piece (t := Cert.UqRefIdeal.S8192x8x32) 2 _ _ _ 0 (by show 0 < 2; decide) Cert.UqRefIdeal.S8192x8x16 (val_main_v30 (F := Ideal) h w pos) rfl rfl 0 (by rfl)
    (ix3 i (⟨j.val / 128, by omega⟩ : Fin 8) f) (fun b hb => ?_) ?_).trans ?_
  · match b with
    | ⟨0, _⟩ => rfl
    | ⟨1, _⟩ => rfl
    | ⟨2, _⟩ => exact absurd rfl hb
  · show 0 + f.val = j.val % 128 - 64
    omega
  rw [val_main_v30_apply, val_main_v27_apply, val_main_v29_apply, first_apply h w i _ f n (by show n.val = 96 * (j.val / 128) + (64 + f.val); omega),
    second_apply h w i _ f n' (by show n'.val = 96 * (j.val / 128) + (64 + (16 + f.val)); omega), cos_apply, sin_apply]
  rfl

/-- A pair's later lane. -/
theorem ref_late (h : S8192x384.Idx → EReal) (w : S384x768.Idx → EReal) (pos : S8192.Idx → BitVec 32) (i : Fin 8192) (j : Fin 1024) (n n' : Fin 768) (f : Fin 16)
    (h1 : 80 ≤ j.val % 128) (h2 : j.val % 128 < 96) (hf : f.val = j.val % 128 % 16) (hn : n.val = 96 * (j.val / 128) + j.val % 128) (hn' : n.val = n'.val + 16) :
    val_main_v39 (F := Ideal) h w pos (ix2 i j) = dot h w i n * cosine pos i f + dot h w i n' * sine pos i f := by
  refine (ref_turned h w pos i j (by omega) h2).trans ?_
  unfold val_main_v36
  refine (concatenate_apply_piece (t := Cert.UqRefIdeal.S8192x8x32) 2 _ _ _ 1 (by show 1 < 2; decide) Cert.UqRefIdeal.S8192x8x16 (val_main_v35 (F := Ideal) h w pos) rfl rfl 16 (by rfl)
    (ix3 i (⟨j.val / 128, by omega⟩ : Fin 8) f) (fun b hb => ?_) ?_).trans ?_
  · match b with
    | ⟨0, _⟩ => rfl
    | ⟨1, _⟩ => rfl
    | ⟨2, _⟩ => exact absurd rfl hb
  · show 16 + f.val = j.val % 128 - 64
    omega
  rw [val_main_v35_apply, val_main_v32_apply, val_main_v34_apply, second_apply h w i _ f n (by show n.val = 96 * (j.val / 128) + (64 + (16 + f.val)); omega),
    first_apply h w i _ f n' (by show n'.val = 96 * (j.val / 128) + (64 + f.val); omega)]
  exact congrArg₂ (· + ·) (congrArg (dot h w i n * ·) (cos_apply pos i _ f)) (congrArg (dot h w i n' * ·) (sin_apply pos i _ f))

/-- The lanes past a head's 96. -/
theorem ref_zero (h : S8192x384.Idx → EReal) (w : S384x768.Idx → EReal) (pos : S8192.Idx → BitVec 32) (i : Fin 8192) (j : Fin 1024)
    (hj : 96 ≤ j.val % 128) : val_main_v39 (F := Ideal) h w pos (ix2 i j) = 0 := by
  rw [val_main_v39_apply]
  unfold val_main_v38
  refine (concatenate_apply_piece (t := Cert.UqRefIdeal.S8192x8x128) 2 _ _ _ 2 (by show 2 < 3; decide) Cert.UqRefIdeal.S8192x8x32 (val_main_v37 (F := Ideal)) rfl rfl 96 (by rfl)
    (ix3 i (⟨j.val / 128, by omega⟩ : Fin 8) (⟨j.val % 128 - 96, by omega⟩ : Fin 32)) (fun b hb => ?_) ?_).trans ?_
  · match b with
    | ⟨0, _⟩ => show i.val = (i.val * 1024 + j.val) / 1024; omega
    | ⟨1, _⟩ => show j.val / 128 = (i.val * 1024 + j.val) / 128 % 8; omega
    | ⟨2, _⟩ => exact absurd rfl hb
  · show 96 + (j.val % 128 - 96) = (i.val * 1024 + j.val) % 128
    omega
  · rw [val_main_v37_apply, val_main_cst_3_apply]
    exact Ideal.ofBits_zero_f32

/-! ## The array the call leaves -/

theorem final5 (c : Dev nD) : (dats m 0 c).arrAt 5 cfg0.N
    = val_main_v39 (F := Ideal) (m ((c : Thread nD τ).loc main_arg0)) (m ((c : Thread nD τ).loc main_arg1)) (m ((c : Thread nD τ).loc main_arg2)) := by
  have hN : cfg0.N = 4 := by decide +kernel
  refine (dats m 0 c).arrAt_eq_of_cover 5 _ (fun t _ => ?_) (fun i => ?_)
  · rw [Value.flushed5]
    refine funext fun (y : S2048x1024.Idx) => ?_
    have hy0 : (y 0).val < 2048 := (y 0).isLt
    have hy1 : (y 1).val < 1024 := (y 1).isLt
    have ht : t.val < 4 := hN ▸ t.isLt
    refine Eq.trans ?_ (read5 t _ y (ix2 ⟨t.val * 2048 + (y 0).val, by omega⟩ (⟨(y 1).val, hy1⟩ : Fin 1024)) rfl (by show (y 1).val = _; omega)).symm
    refine Eq.trans (congrArg (out0_5 (F := Ideal) (iblk m c 0 t) (iblk m c 1 t) (iblk m c 2 t) (iblk m c 3 t) (iblk m c 4 t)) (eq_ix2 y)) ?_
    refine (point _ _ _ _ _ (y 0) (y 1)).trans ?_
    have eS : ∀ (n : Fin 1024) (n' : Fin 768), n.val % 128 < 96 → n'.val = 96 * (n.val / 128) + n.val % 128 → (∑ k : Fin 384, (fun a b : EReal => a * b) (iblk m c 0 t (ix2 (y 0) k)) (iblk m c 1 t (ix2 n k)))
        = dot (m ((c : Thread nD τ).loc main_arg0)) (m ((c : Thread nD τ).loc main_arg1)) ⟨t.val * 2048 + (y 0).val, by omega⟩ n' := fun n n' h1 h2 => by
      refine Finset.sum_congr rfl fun k _ => congrArg₂ (fun a b : EReal => a * b) ?_ ?_
      · exact (read0 t _ (ix2 (y 0) k) (ix2 ⟨t.val * 2048 + (y 0).val, by omega⟩ k) rfl (by simp)).trans (congrFun (V_v33 m c) _)
      · exact (read1 t _ (ix2 n k) (ix2 n k) (by simp) (by simp)).trans (V_v4_in m c n k n' h1 h2)
    have eZ : ∀ n : Fin 1024, ¬ n.val % 128 < 96 → (∑ k : Fin 384, (fun a b : EReal => a * b) (iblk m c 0 t (ix2 (y 0) k)) (iblk m c 1 t (ix2 n k))) = 0 := fun n h1 =>
      Finset.sum_eq_zero fun k _ => (congrArg (fun b : EReal => (fun a b : EReal => a * b) (iblk m c 0 t (ix2 (y 0) k)) b)
        ((read1 t _ (ix2 n k) (ix2 n k) (by simp) (by simp)).trans (V_v4_out m c n k h1))).trans (mul_zero _)
    have ea := (read2 t _ (ix2 (y 0) (⟨(y 1).val % 128, Nat.mod_lt _ (by decide)⟩ : Fin 128)) (ix2 ⟨t.val * 2048 + (y 0).val, by omega⟩ (⟨(y 1).val % 128, Nat.mod_lt _ (by decide)⟩ : Fin 128)) rfl (by simp)).trans (table_a m c _ _)
    have eb := (read3 t _ (ix2 (y 0) (⟨(y 1).val % 128, Nat.mod_lt _ (by decide)⟩ : Fin 128)) (ix2 ⟨t.val * 2048 + (y 0).val, by omega⟩ (⟨(y 1).val % 128, Nat.mod_lt _ (by decide)⟩ : Fin 128)) rfl (by simp)).trans (table_b m c _ _)
    have ep := (read4 t _ (ix2 (y 0) (⟨(y 1).val % 128, Nat.mod_lt _ (by decide)⟩ : Fin 128)) (ix2 ⟨t.val * 2048 + (y 0).val, by omega⟩ (⟨(y 1).val % 128, Nat.mod_lt _ (by decide)⟩ : Fin 128)) rfl (by simp)).trans (table_p m c _ _)
    dsimp only at ea eb ep
    by_cases h96 : (y 1).val % 128 < 96
    · have hn : 96 * ((y 1).val / 128) + (y 1).val % 128 < 768 := by omega
      by_cases h64 : (y 1).val % 128 < 64
      · refine (Rope.plain _ _ _ _ _ _ _ (eS _ ⟨_, hn⟩ h96 rfl) (ea.trans (if_neg (by omega))) (eb.trans (if_neg (by omega))) (ep.trans (if_neg (by omega)))).trans ?_
        exact (ref_plain _ _ _ _ ⟨(y 1).val, hy1⟩ _ h64 rfl).symm
      by_cases h80 : (y 1).val % 128 < 80
      · refine (Rope.early _ _ _ _ _ _ _ _ _ _ (eS _ ⟨_, hn⟩ h96 rfl) (eS _ ⟨96 * ((y 1).val / 128) + (y 1).val % 128 + 16, by omega⟩ ?_ ?_)
          (ea.trans (if_pos (by omega))) (eb.trans (if_neg (by omega))) (ep.trans (if_pos (by omega)))).trans ?_
        · show (128 * ((y 1).val / 128) + ((y 1).val % 128 + 16) % 128) % 128 < 96
          omega
        · show 96 * ((y 1).val / 128) + (y 1).val % 128 + 16 = 96 * ((128 * ((y 1).val / 128) + ((y 1).val % 128 + 16) % 128) / 128) + (128 * ((y 1).val / 128) + ((y 1).val % 128 + 16) % 128) % 128
          omega
        · exact (ref_early _ _ _ _ ⟨(y 1).val, hy1⟩ _ _ _ (by show 64 ≤ (y 1).val % 128; omega) h80 rfl rfl rfl).symm
      · refine (Rope.late _ _ _ _ _ _ _ _ _ _ (eS _ ⟨_, hn⟩ h96 rfl) (eS _ ⟨96 * ((y 1).val / 128) + (y 1).val % 128 - 16, by omega⟩ ?_ ?_)
          (ea.trans (if_pos (by omega))) (eb.trans (if_pos (by omega))) (ep.trans (if_neg (by omega)))).trans ?_
        · show (128 * ((y 1).val / 128) + ((y 1).val % 128 + 112) % 128) % 128 < 96
          omega
        · show 96 * ((y 1).val / 128) + (y 1).val % 128 - 16 = 96 * ((128 * ((y 1).val / 128) + ((y 1).val % 128 + 112) % 128) / 128) + (128 * ((y 1).val / 128) + ((y 1).val % 128 + 112) % 128) % 128
          omega
        · exact (ref_late _ _ _ _ ⟨(y 1).val, hy1⟩ _ _ _ (by show 80 ≤ (y 1).val % 128; omega) h96 rfl rfl
            (by show 96 * ((y 1).val / 128) + (y 1).val % 128 = 96 * ((y 1).val / 128) + (y 1).val % 128 - 16 + 16; omega)).symm
    · refine (Rope.plain _ _ _ _ _ _ _ (eZ _ h96) (ea.trans (if_neg (by omega))) (eb.trans (if_neg (by omega))) (ep.trans (if_neg (by omega)))).trans ?_
      exact (ref_zero _ _ _ _ ⟨(y 1).val, hy1⟩ (by show 96 ≤ (y 1).val % 128; omega)).symm
  · have h0 : (i 0 : Nat) < 8192 := (i 0).isLt
    have h1 : (i 1 : Nat) < 1024 := (i 1).isLt
    have ht : (i 0 : Nat) / 2048 < cfg0.N := by omega
    refine ⟨⟨(i 0 : Nat) / 2048, ht⟩, flush0_5 _, ?_⟩
    show (show S8192x1024.Idx from i) ∈ ((View.whole main_v34).slice (win0_5.rect ⟨(i 0 : Nat) / 2048, ht⟩)).set
    rw [View.set_slice_whole, Rect.mem_set_unit]
    exact fun a => match a with
      | ⟨0, _⟩ => Rope.inside (b := 2048) (i := (i 0 : Nat)) (index5 _).1 (by show (i 0 : Nat) / 2048 * 2048 ≤ _; omega) (by show _ < (i 0 : Nat) / 2048 * 2048 + 2048; omega)
      | ⟨1, _⟩ => Rope.inside (b := 1024) (i := (i 1 : Nat)) (index5 _).2 (by omega) (by omega)

/-! ## The claims -/

/-- The reference runs, keeps its arguments, and has no semaphore. -/
theorem ref_frame : Cert.quiescent_UqRefIdeal (hUqRefIdeal := Cert.UqRefIdeal.Gen.facts) := fun m g _ =>
  (θ_run Cert.UqRefIdeal.defs _ _).mono (fun r h => ⟨fun c => (h c).2, sem_eq_zero_of_no_sems (by decide) r.2⟩)
    (Cert.UqRefIdeal.Value.run m g)

/-- The call's results are the reference's. -/
theorem value : Cert.algebraic_UqIdeal_UqRefIdeal (hUqIdeal := Cert.UqIdeal.Gen.facts) (hUqRefIdeal := Cert.UqRefIdeal.Gen.facts) := by
  intro m g m' g' _ agree
  refine ⟨fun c => val_main_v39 (F := Ideal) (m ((c : Thread nD τ).loc main_arg0)) (m ((c : Thread nD τ).loc main_arg1)) (m ((c : Thread nD τ).loc main_arg2)), ?_, ?_⟩
  · refine (θ_run Cert.UqIdeal.defs _ _).mono (fun r h c => ?_) (Value.run_blocks m g)
    exact ⟨(h c).1.trans (final5 m c), (h c).2⟩
  · refine (θ_run Cert.UqRefIdeal.defs _ _).mono (fun r h c => ?_) (Cert.UqRefIdeal.Value.run m' g')
    obtain ⟨e0, e1, e2⟩ := agree c
    refine ⟨((h c).1.trans (val_main_v39_eq m' c)).trans ?_, (h c).2⟩
    · rw [e0, e1, e2]

end Cert.Ffn.Uq

end
-- ==== Proof.FfnXkv.lean ====
/- The memory attention's key and value projection. -/
module

public import proofs.«01_k».proof.Defs
public import proofs.«01_k».proof.Proof.FfnLib
public import proofs.«01_k».proof.Proof.Gen.Xkv.Frame
public import proofs.«01_k».proof.Proof.Gen.XkvIdeal.Value
public import proofs.«01_k».proof.Proof.Gen.XkvRefIdeal.Run
public import proofs.«01_k».proof.Proof.Gen.XkvRefIdeal.Read
public import Idealize.ShloMosaic.Lib.StableHlo.RunRead

@[expose] public section

set_option maxRecDepth 16384

noncomputable section

namespace Cert.Ffn.Xkv

open Idealize.ShloMosaic Idealize.ShloMosaic.TcCoe Idealize.SL.Sem
open Cert.XkvIdeal Cert.XkvIdeal.Gen Cert.XkvRefIdeal.Read

variable (m : (ℓ : Loc nD τ sig) → Buf (Elt Ideal) ℓ)

/-! ## The arrays the call is given -/

theorem V_v0 (c : Dev nD) : V m c main_v0 = m ((c : Thread nD τ).loc main_arg0) := by
  unfold V
  after_reads_simp
  rfl

theorem V_v1 (c : Dev nD) : V m c main_v1 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S256x1024.Idx → EReal) (y : S256x1024.Idx) (i : S256x1024.Idx)
    (h0 : (i 0).val = t.val * 256 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S256x1024.Idx → EReal) (y : S256x1024.Idx) (i : S256x1024.Idx)
    (h0 : (i 0).val = t.val * 256 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S256x1024.Idx → EReal) (W : S1024x1024.Idx → EReal) (r : Fin 256) (l : Fin 1024) :
    out0_2 (F := Ideal) X W (ix2 r l) = ∑ k : Fin 1024, X (ix2 r k) * W (ix2 k l) := by
  unfold out0_2
  refine (congrFun (View.canon_unit_zero off_zero _ _) _).trans ?_
  repeat rw [View.ld_unit_zero off_zero]
  unfold k0_pay1
  pointwise

/-! ## The reference's result at an index -/

theorem ref_apply (a : S256x1024.Idx → EReal) (w : S1024x1024.Idx → EReal) (i : Fin 256) (j : Fin 1024) :
    val_main_v0 (F := Ideal) a w (ix2 i j) = ∑ k : Fin 1024, a (ix2 i k) * w (ix2 k j) := by
  rw [val_main_v0_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v0 (F := Ideal) (m ((c : Thread nD τ).loc main_arg0)) (m ((c : Thread nD τ).loc main_arg1)) := by
  have hN : cfg0.N = 1 := by decide +kernel
  refine (dats m 0 c).arrAt_eq_of_cover 2 _ (fun t _ => ?_) (fun i => ?_)
  · rw [Value.flushed2]
    refine funext fun (y : S256x1024.Idx) => ?_
    have hy0 : (y 0).val < 256 := (y 0).isLt
    have hy1 : (y 1).val < 1024 := (y 1).isLt
    have ht : t.val < 1 := hN ▸ t.isLt
    refine Eq.trans ?_ (read2 t _ y (ix2 ⟨t.val * 256 + (y 0).val, by omega⟩ ⟨0 * 1024 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 256 + (y 0).val, by omega⟩ k) rfl (by simp)).trans ?_
      exact congrFun (V_v0 m c) _
    · refine (read1 t _ (ix2 k (y 1)) (ix2 k ⟨0 * 1024 + (y 1).val, by omega⟩) (by simp) rfl).trans ?_
      exact congrFun (V_v1 m c) _
  · have h0 : (i 0 : Nat) < 256 := (i 0).isLt
    have h1 : (i 1 : Nat) < 1024 := (i 1).isLt
    have ht : (i 0 : Nat) / 256 < cfg0.N := by omega
    refine ⟨⟨(i 0 : Nat) / 256, ht⟩, flush0_2 _, ?_⟩
    show (show S256x1024.Idx from i) ∈ ((View.whole main_v2).slice (win0_2.rect ⟨(i 0 : Nat) / 256, ht⟩)).set
    rw [View.set_slice_whole, Rect.mem_set_unit]
    exact fun a => match a with
      | ⟨0, _⟩ => within (index2 _).1 (by show (i 0 : Nat) / 256 * 256 ≤ (i 0 : Nat) ∧ (i 0 : Nat) < (i 0 : Nat) / 256 * 256 + 256; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_XkvRefIdeal (hXkvRefIdeal := Cert.XkvRefIdeal.Gen.facts) := fun m g _ =>
  (θ_run Cert.XkvRefIdeal.defs _ _).mono (fun r h => ⟨fun c => (h c).2, sem_eq_zero_of_no_sems (by decide) r.2⟩)
    (Cert.XkvRefIdeal.Value.run m g)

/-- The call's results are the reference's. -/
theorem value : Cert.algebraic_XkvIdeal_XkvRefIdeal (hXkvIdeal := Cert.XkvIdeal.Gen.facts) (hXkvRefIdeal := Cert.XkvRefIdeal.Gen.facts) := by
  intro m g m' g' _ agree
  refine ⟨fun c => val_main_v0 (F := Ideal) (m ((c : Thread nD τ).loc main_arg0)) (m ((c : Thread nD τ).loc main_arg1)), ?_, ?_⟩
  · refine (θ_run Cert.XkvIdeal.defs _ _).mono (fun r h c => ?_) (Value.run_blocks m g)
    exact ⟨(h c).1.trans (final2 m c), (h c).2⟩
  · refine (θ_run Cert.XkvRefIdeal.defs _ _).mono (fun r h c => ?_) (Cert.XkvRefIdeal.Value.run m' g')
    obtain ⟨e0, e1⟩ := agree c
    refine ⟨(h c).1.trans ?_, (h c).2⟩
    · rw [e0, e1]
      exact val_main_v0_eq _ _

end Cert.Ffn.Xkv

end
-- ==== Proof.FfnXkvX.lean ====
/- The input gradient of the memory attention's key and value projection. -/
module

public import proofs.«01_k».proof.Defs
public import proofs.«01_k».proof.Proof.FfnLib
public import proofs.«01_k».proof.Proof.Gen.XkvX.Frame
public import proofs.«01_k».proof.Proof.Gen.XkvXIdeal.Value
public import proofs.«01_k».proof.Proof.Gen.XkvXRefIdeal.Run
public import proofs.«01_k».proof.Proof.Gen.XkvXRefIdeal.Read
public import Idealize.ShloMosaic.Lib.StableHlo.RunRead

@[expose] public section

set_option maxRecDepth 16384

noncomputable section

namespace Cert.Ffn.XkvX

open Idealize.ShloMosaic Idealize.ShloMosaic.TcCoe Idealize.SL.Sem
open Cert.XkvXIdeal Cert.XkvXIdeal.Gen Cert.XkvXRefIdeal.Read

variable (m : (ℓ : Loc nD τ sig) → Buf (Elt Ideal) ℓ)

/-! ## The arrays the call is given -/

theorem V_v0 (c : Dev nD) : V m c main_v0 = m ((c : Thread nD τ).loc main_arg1) := by
  unfold V
  after_reads_simp
  rfl

/-! ## Where a point's blocks sit -/

theorem index0 : ∀ t : Fin cfg0.N, win0_0.index t 0 = t.val ∧ win0_0.index t 1 = 0 := by decide +kernel

theorem read0 (t : Fin cfg0.N) (A : S256x1024.Idx → EReal) (y : S256x1024.Idx) (i : S256x1024.Idx)
    (h0 : (i 0).val = t.val * 256 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S256x1024.Idx → EReal) (y : S256x1024.Idx) (i : S256x1024.Idx)
    (h0 : (i 0).val = t.val * 256 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## One point -/

theorem point (X : S256x1024.Idx → EReal) (W : S1024x1024.Idx → EReal) (r : Fin 256) (l : Fin 1024) :
    out0_2 (F := Ideal) X W (ix2 r l) = ∑ k : Fin 1024, X (ix2 r k) * W (ix2 l k) := by
  unfold out0_2
  refine (congrFun (View.canon_unit_zero off_zero _ _) _).trans ?_
  repeat rw [View.ld_unit_zero off_zero]
  unfold k0_pay1
  pointwise

/-! ## The reference's result at an index -/

theorem ref_apply (w : S1024x1024.Idx → EReal) (a : S256x1024.Idx → EReal) (i : Fin 256) (j : Fin 1024) :
    val_main_v1 (F := Ideal) w a (ix2 i j) = ∑ k : Fin 1024, a (ix2 i k) * w (ix2 j k) := by
  rw [val_main_v1_apply]
  refine Finset.sum_congr rfl fun k _ => ?_
  exact congrArg₂ (· * ·) (congrArg a (idx2 _ _ rfl rfl)) (congrArg w (idx2 _ _ rfl rfl))

/-! ## The array the call leaves -/

theorem final2 (c : Dev nD) : (dats m 0 c).arrAt 2 cfg0.N
    = val_main_v1 (F := Ideal) (m ((c : Thread nD τ).loc main_arg1)) (m ((c : Thread nD τ).loc main_arg2)) := by
  have hN : cfg0.N = 1 := by decide +kernel
  refine (dats m 0 c).arrAt_eq_of_cover 2 _ (fun t _ => ?_) (fun i => ?_)
  · rw [Value.flushed2]
    refine funext fun (y : S256x1024.Idx) => ?_
    have hy0 : (y 0).val < 256 := (y 0).isLt
    have hy1 : (y 1).val < 1024 := (y 1).isLt
    have ht : t.val < 1 := hN ▸ t.isLt
    refine Eq.trans ?_ (read2 t _ y (ix2 ⟨t.val * 256 + (y 0).val, by omega⟩ ⟨0 * 1024 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 (y 0) k) (ix2 ⟨t.val * 256 + (y 0).val, by omega⟩ k) rfl (by simp)).trans ?_
      exact congrFun (V_main_arg2 m c) _
    · refine (read1 t _ (ix2 (y 1) k) (ix2 ⟨0 * 1024 + (y 1).val, by omega⟩ k) rfl (by simp)).trans ?_
      exact congrFun (V_v0 m c) _
  · have h0 : (i 0 : Nat) < 256 := (i 0).isLt
    have h1 : (i 1 : Nat) < 1024 := (i 1).isLt
    have ht : (i 0 : Nat) / 256 < cfg0.N := by omega
    refine ⟨⟨(i 0 : Nat) / 256, ht⟩, flush0_2 _, ?_⟩
    show (show S256x1024.Idx from i) ∈ ((View.whole main_v1).slice (win0_2.rect ⟨(i 0 : Nat) / 256, ht⟩)).set
    rw [View.set_slice_whole, Rect.mem_set_unit]
    exact fun a => match a with
      | ⟨0, _⟩ => within (index2 _).1 (by show (i 0 : Nat) / 256 * 256 ≤ (i 0 : Nat) ∧ (i 0 : Nat) < (i 0 : Nat) / 256 * 256 + 256; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_XkvXRefIdeal (hXkvXRefIdeal := Cert.XkvXRefIdeal.Gen.facts) := fun m g _ =>
  (θ_run Cert.XkvXRefIdeal.defs _ _).mono (fun r h => ⟨fun c => (h c).2, sem_eq_zero_of_no_sems (by decide) r.2⟩)
    (Cert.XkvXRefIdeal.Value.run m g)

/-- The call's results are the reference's. -/
theorem value : Cert.algebraic_XkvXIdeal_XkvXRefIdeal (hXkvXIdeal := Cert.XkvXIdeal.Gen.facts) (hXkvXRefIdeal := Cert.XkvXRefIdeal.Gen.facts) := by
  intro m g m' g' _ agree
  refine ⟨fun c => val_main_v1 (F := Ideal) (m ((c : Thread nD τ).loc main_arg1)) (m ((c : Thread nD τ).loc main_arg2)), ?_, ?_⟩
  · refine (θ_run Cert.XkvXIdeal.defs _ _).mono (fun r h c => ?_) (Value.run_blocks m g)
    exact ⟨(h c).1.trans (final2 m c), (h c).2⟩
  · refine (θ_run Cert.XkvXRefIdeal.defs _ _).mono (fun r h c => ?_) (Cert.XkvXRefIdeal.Value.run m' g')
    obtain ⟨e0, e1, e2⟩ := agree c
    refine ⟨(h c).1.trans ?_, (h c).2⟩
    · rw [e1, e2]
      exact val_main_v1_eq _ _

end Cert.Ffn.XkvX

end
-- ==== Proof.FfnXkvW.lean ====
/- The weight gradient of the memory attention's key and value projection: one step, the transposed memory times the cotangent. -/
module

public import proofs.«01_k».proof.Defs
public import proofs.«01_k».proof.Proof.FfnLib
public import proofs.«01_k».proof.Proof.Gen.XkvW.Frame
public import proofs.«01_k».proof.Proof.Gen.XkvWIdeal.Value
public import proofs.«01_k».proof.Proof.Gen.XkvWRefIdeal.Run
public import proofs.«01_k».proof.Proof.Gen.XkvWRefIdeal.Read
public import Idealize.ShloMosaic.Lib.StableHlo.RunRead

@[expose] public section

set_option maxRecDepth 16384

noncomputable section

namespace Cert.Ffn.XkvW

open Idealize.ShloMosaic Idealize.ShloMosaic.TcCoe Idealize.SL.Sem
open Cert.XkvWIdeal Cert.XkvWIdeal.Gen Cert.XkvWRefIdeal.Read

variable (m : (ℓ : Loc nD τ sig) → Buf (Elt Ideal) ℓ)

/-! ## The array the call is given -/

theorem V_v0 (c : Dev nD) : V m c main_v0 = m ((c : Thread nD τ).loc main_arg0) := by
  unfold V
  after_reads_simp
  rfl

/-! ## Where the blocks sit -/

theorem index0 : ∀ t : Fin cfg0.N, win0_0.index t 0 = 0 ∧ win0_0.index t 1 = 0 := by decide +kernel

theorem read0 (t : Fin cfg0.N) (A : S256x1024.Idx → EReal) (y : S256x1024.Idx) (i : S256x1024.Idx)
    (h0 : (i 0).val = 0 * 256 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S256x1024.Idx → EReal) (y : S256x1024.Idx) (i : S256x1024.Idx)
    (h0 : (i 0).val = 0 * 256 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = 0 ∧ win0_2.index t 1 = 0 := by decide +kernel

theorem read2 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

/-! ## The point -/

theorem point (X G : S256x1024.Idx → EReal) (r l : Fin 1024) :
    out0_2 (F := Ideal) X G (ix2 r l) = ∑ k : Fin 256, X (ix2 k r) * G (ix2 k l) := by
  unfold out0_2
  refine (congrFun (View.canon_unit_zero off_zero _ _) _).trans ?_
  repeat rw [View.ld_unit_zero off_zero]
  unfold k0_pay1
  pointwise

/-! ## The reference's result at an index -/

theorem ref_apply (a x : S256x1024.Idx → EReal) (i j : Fin 1024) :
    val_main_v3 (F := Ideal) a x (ix2 i j) = ∑ k : Fin 256, a (ix2 k i) * x (ix2 k j) := by
  rw [val_main_v3_apply, val_main_v2_apply, val_main_v1_apply]
  show ∑ k : Fin 256, _ = _
  refine Finset.sum_congr rfl fun k _ => (mul_comm _ _).trans ?_
  exact congrArg₂ (· * ·) (congrArg a (idx2 _ _ rfl rfl)) (congrArg x (idx2 _ _ rfl rfl))

/-! ## The array the call leaves -/

theorem final2 (c : Dev nD) : (dats m 0 c).arrAt 2 cfg0.N
    = val_main_v3 (F := Ideal) (m ((c : Thread nD τ).loc main_arg0)) (m ((c : Thread nD τ).loc main_arg2)) := by
  have hN : cfg0.N = 1 := by decide +kernel
  refine (dats m 0 c).arrAt_eq_of_cover 2 _ (fun t _ => ?_) (fun i => ?_)
  · rw [Value.flushed2]
    refine funext fun (y : S1024x1024.Idx) => ?_
    have hy0 : (y 0).val < 1024 := (y 0).isLt
    have hy1 : (y 1).val < 1024 := (y 1).isLt
    have ht : t.val < 1 := hN ▸ t.isLt
    refine Eq.trans ?_ (read2 t _ y (ix2 ⟨0 * 1024 + (y 0).val, by omega⟩ ⟨0 * 1024 + (y 1).val, by omega⟩) rfl rfl).symm
    rw [ref_apply]
    refine Eq.trans (congrArg (out0_2 (F := Ideal) (iblk m c 0 t) (iblk m c 1 t)) (eq_ix2 y)) ?_
    refine (point _ _ (y 0) (y 1)).trans ?_
    refine Finset.sum_congr rfl fun k _ => congrArg₂ (· * ·) ?_ ?_
    · refine (read0 t _ (ix2 k (y 0)) (ix2 k ⟨0 * 1024 + (y 0).val, by omega⟩) (by simp) rfl).trans ?_
      exact congrFun (V_v0 m c) _
    · refine (read1 t _ (ix2 k (y 1)) (ix2 k ⟨0 * 1024 + (y 1).val, by omega⟩) (by simp) rfl).trans ?_
      exact congrFun (V_main_arg2 m c) _
  · have h0 : (i 0 : Nat) < 1024 := (i 0).isLt
    have h1 : (i 1 : Nat) < 1024 := (i 1).isLt
    have ht : 0 < cfg0.N := by omega
    refine ⟨⟨0, ht⟩, flush0_2 _, ?_⟩
    show (show S1024x1024.Idx from i) ∈ ((View.whole main_v1).slice (win0_2.rect ⟨0, ht⟩)).set
    rw [View.set_slice_whole, Rect.mem_set_unit]
    exact fun a => match a with
      | ⟨0, _⟩ => within (index2 _).1 (by show 0 * 1024 ≤ (i 0 : Nat) ∧ (i 0 : Nat) < 0 * 1024 + 1024; omega)
      | ⟨1, _⟩ => within (index2 _).2 (by show 0 * 1024 ≤ (i 1 : Nat) ∧ (i 1 : Nat) < 0 * 1024 + 1024; omega)

/-! ## The claims -/

/-- The reference runs, keeps its arguments, and has no semaphore. -/
theorem ref_frame : Cert.quiescent_XkvWRefIdeal (hXkvWRefIdeal := Cert.XkvWRefIdeal.Gen.facts) := fun m g _ =>
  (θ_run Cert.XkvWRefIdeal.defs _ _).mono (fun r h => ⟨fun c => (h c).2, sem_eq_zero_of_no_sems (by decide) r.2⟩)
    (Cert.XkvWRefIdeal.Value.run m g)

/-- The call's results are the reference's. -/
theorem value : Cert.algebraic_XkvWIdeal_XkvWRefIdeal (hXkvWIdeal := Cert.XkvWIdeal.Gen.facts) (hXkvWRefIdeal := Cert.XkvWRefIdeal.Gen.facts) := by
  intro m g m' g' _ agree
  refine ⟨fun c => val_main_v3 (F := Ideal) (m ((c : Thread nD τ).loc main_arg0)) (m ((c : Thread nD τ).loc main_arg2)), ?_, ?_⟩
  · refine (θ_run Cert.XkvWIdeal.defs _ _).mono (fun r h c => ?_) (Value.run_blocks m g)
    exact ⟨(h c).1.trans (final2 m c), (h c).2⟩
  · refine (θ_run Cert.XkvWRefIdeal.defs _ _).mono (fun r h c => ?_) (Cert.XkvWRefIdeal.Value.run m' g')
    obtain ⟨e0, e1, e2⟩ := agree c
    refine ⟨(h c).1.trans ?_, (h c).2⟩
    · rw [e0, e2]
      exact val_main_v3_eq _ _

end Cert.Ffn.XkvW

end
-- ==== Proof.FfnIn.lean ====
/- Layer 0's input projection: five products, one of them turned by the rows' positions. -/
module

public import proofs.«01_k».proof.Defs
public import proofs.«01_k».proof.Proof.FfnLib
public import proofs.«01_k».proof.Proof.FfnRope
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import Idealize.ShloMosaic.Lib.StableHlo.RunRead

@[expose] public section

set_option maxRecDepth 16384

noncomputable section

namespace Cert.Ffn.In

open Idealize.ShloMosaic Idealize.ShloMosaic.TcCoe Idealize.SL.Sem
open Cert.InIdeal Cert.InIdeal.Gen Cert.InRefIdeal.Read

variable (m : (ℓ : Loc nD τ sig) → Buf (Elt Ideal) ℓ)

/-! ## The arrays the call is given -/

theorem V_h (c : Dev nD) : V m c main_v28 = m ((c : Thread nD τ).loc main_arg0) := by
  unfold V
  after_reads_simp
  rfl

theorem V_v31 (c : Dev nD) : V m c main_v31
    = extractStridedSlice S512x1024 ![0, 0] (transpose S1440x1024 [1, 0] (m ((c : Thread nD τ).loc main_arg1) : S1024x1440.Idx → EReal) transposes_S1024x1440_S1440x1024_1_0) slices_S1440x1024_S512x1024_0_0 := by
  unfold V
  after_reads_simp
  rfl

theorem V_v31_apply (c : Dev nD) (i : Fin 512) (j : Fin 1024) :
    V m c main_v31 (ix2 i j) = (m ((c : Thread nD τ).loc main_arg1) : S1024x1440.Idx → EReal) (ix2 j ⟨0 + i.val, by omega⟩) := by
  rw [V_v31]
  generalize (m ((c : Thread nD τ).loc main_arg1) : S1024x1440.Idx → EReal) = A
  pointwise

theorem V_v32 (c : Dev nD) : V m c main_v32
    = extractStridedSlice S256x1024 ![512, 0] (transpose S1440x1024 [1, 0] (m ((c : Thread nD τ).loc main_arg1) : S1024x1440.Idx → EReal) transposes_S1024x1440_S1440x1024_1_0) slices_S1440x1024_S256x1024_512_0 := by
  unfold V
  after_reads_simp
  rfl

theorem V_v32_apply (c : Dev nD) (i : Fin 256) (j : Fin 1024) :
    V m c main_v32 (ix2 i j) = (m ((c : Thread nD τ).loc main_arg1) : S1024x1440.Idx → EReal) (ix2 j ⟨512 + i.val, by omega⟩) := by
  rw [V_v32]
  generalize (m ((c : Thread nD τ).loc main_arg1) : S1024x1440.Idx → EReal) = A
  pointwise

theorem V_v33 (c : Dev nD) : V m c main_v33
    = extractStridedSlice S384x1024 ![768, 0] (transpose S1440x1024 [1, 0] (m ((c : Thread nD τ).loc main_arg1) : S1024x1440.Idx → EReal) transposes_S1024x1440_S1440x1024_1_0) slices_S1440x1024_S384x1024_768_0 := by
  unfold V
  after_reads_simp
  rfl

theorem V_v33_apply (c : Dev nD) (i : Fin 384) (j : Fin 1024) :
    V m c main_v33 (ix2 i j) = (m ((c : Thread nD τ).loc main_arg1) : S1024x1440.Idx → EReal) (ix2 j ⟨768 + i.val, by omega⟩) := by
  rw [V_v33]
  generalize (m ((c : Thread nD τ).loc main_arg1) : S1024x1440.Idx → EReal) = A
  pointwise

theorem V_v34 (c : Dev nD) : V m c main_v34
    = extractStridedSlice S256x1024 ![1152, 0] (transpose S1440x1024 [1, 0] (m ((c : Thread nD τ).loc main_arg1) : S1024x1440.Idx → EReal) transposes_S1024x1440_S1440x1024_1_0) slices_S1440x1024_S256x1024_1152_0 := by
  unfold V
  after_reads_simp
  rfl

theorem V_v34_apply (c : Dev nD) (i : Fin 256) (j : Fin 1024) :
    V m c main_v34 (ix2 i j) = (m ((c : Thread nD τ).loc main_arg1) : S1024x1440.Idx → EReal) (ix2 j ⟨1152 + i.val, by omega⟩) := by
  rw [V_v34]
  generalize (m ((c : Thread nD τ).loc main_arg1) : S1024x1440.Idx → EReal) = A
  pointwise

/-- The shared key's rows of the weight, put at rows 64 to 95 of 128. -/
theorem V_v36 (c : Dev nD) : V m c main_v36
    = pad S128x1024 ![64, 0] ![32, 0] ![0, 0] (extractStridedSlice S32x1024 ![1408, 0] (transpose S1440x1024 [1, 0] (m ((c : Thread nD τ).loc main_arg1) : S1024x1440.Idx → EReal) transposes_S1024x1440_S1440x1024_1_0) slices_S1440x1024_S32x1024_1408_0)
        (sitofp (F := Ideal) .bf16 (constantI S_ 32 0#32)) pads_S32x1024_S128x1024_64320_000 h_S_ := by
  unfold V
  after_reads_simp
  rfl

theorem V_v36_in (c : Dev nD) (i : Fin 128) (h1 : 64 ≤ i.val) (h2 : i.val < 96) (j : Fin 1024) :
    V m c main_v36 (ix2 i j) = (m ((c : Thread nD τ).loc main_arg1) : S1024x1440.Idx → EReal) (ix2 j ⟨1408 + (i.val - 64), by omega⟩) := by
  rw [V_v36]
  generalize (m ((c : Thread nD τ).loc main_arg1) : S1024x1440.Idx → EReal) = A
  refine (pad_apply_of_inside _ _ _ _ _ _ _ _ (ix2 (⟨i.val - 64, by omega⟩ : Fin 32) j) fun a => ?_).trans ?_
  · match a with
    | ⟨0, _⟩ => show i.val = 64 + (i.val - 64) * (0 + 1); omega
    | ⟨1, _⟩ => show j.val = 0 + j.val * (0 + 1); omega
  · pointwise

theorem V_v36_out (c : Dev nD) (i : Fin 128) (hi : ¬ (64 ≤ i.val ∧ i.val < 96)) (j : Fin 1024) : V m c main_v36 (ix2 i j) = (0 : EReal) := by
  rw [V_v36]
  generalize (m ((c : Thread nD τ).loc main_arg1) : S1024x1440.Idx → EReal) = A
  refine (pad_apply_of_not_inside _ _ _ _ _ _ _ _ (0 : Fin 2) fun h => ?_).trans ?_
  · have h1 : 64 ≤ i.val := h.1
    have h2 : (i.val - 64) / (0 + 1) < 32 := h.2.2
    omega
  · show (((0#32 : BitVec 32).toInt : ℝ) : EReal) = 0
    simp

/-! ## The rotation's tables -/

/-- The rates of the pairs of lanes. -/
abbrev rate : S32.Idx → EReal := val_main_v17 (F := Ideal)

/-- The angle of a row's pair of lanes. -/
abbrev theta (pos : S8192.Idx → BitVec 32) (i : Fin 8192) (f : Fin 32) : EReal := val_main_v23 (F := Ideal) pos (ix2 i f)

/-- Its cosine. -/
abbrev cosine (pos : S8192.Idx → BitVec 32) (i : Fin 8192) (f : Fin 32) : EReal := FloatOps.hostUnary (F := Ideal) (φ := .f32) .cos (theta pos i f)

/-- Its sine. -/
abbrev sine (pos : S8192.Idx → BitVec 32) (i : Fin 8192) (f : Fin 32) : EReal := FloatOps.hostUnary (F := Ideal) (φ := .f32) .sin (theta pos i f)

/-- The angles the tables are made of, one for each of 128 lanes. -/
def angles (pos : S8192.Idx → BitVec 32) : S8192x128.Idx → EReal :=
  mulf (F := Ideal) (φ := .f32) (broadcastInDim S8192x128 ![0, 1] bcast_S8192x1_S8192x128_0_1 (broadcastInDim S8192x1 ![0] bcast_S8192_S8192x1_0 (sitofp (F := Ideal) .f32 pos)))
    (broadcastInDim S8192x128 ![0, 1] bcast_S1x128_S8192x128_0_1 (broadcastInDim S1x128 ![1] bcast_S128_S1x128_1
      (shapeCast S128 (broadcastInDim S2x64 ![0, 1] bcast_S1x64_S2x64_0_1 (shapeCast S1x64
        (concatenate S64 0 [⟨S0, broadcastInDim S0 ![] bcast_S_S0 (constant (F := Ideal) S_ .f32 0x00000000#32)⟩, ⟨S32, rate⟩, ⟨S32, rate⟩,
          ⟨S0, broadcastInDim S0 ![] bcast_S_S0 (constant (F := Ideal) S_ .f32 0x00000000#32)⟩] concatenates_S0_S32_S32_S0_S64_d0) shapeCasts_S64_S1x64)) shapeCasts_S2x64_S128)))

theorem angles_apply (pos : S8192.Idx → BitVec 32) (i : Fin 8192) (e : Fin 128) :
    angles pos (ix2 i e) = theta pos i ⟨e.val % 32, Nat.mod_lt _ (by decide)⟩ := by
  refine (Rope.angle_apply (sitofp (F := Ideal) .f32 pos) _ _ _ _ _ i e).trans ?_
  refine (congrArg ((sitofp (F := Ideal) .f32 pos) (ix1 i) * ·) (Rope.tile_apply rate _ _ _ _ _ _ e)).trans ?_
  show _ = val_main_v23 (F := Ideal) pos _
  rw [val_main_v23_apply, val_main_v21_apply, val_main_v19_apply, val_main_v22_apply, val_main_v20_apply]
  exact congrArg₂ (· * ·) (congrArg (sitofp (F := Ideal) .f32 pos) (Rope.idx1 _ _ rfl)) (congrArg rate (Rope.idx1 _ _ rfl))

theorem V_v24 (c : Dev nD) : V m c main_v24
    = select (broadcastInDim S8192x128 ![0, 1] bcast_S1x128_S8192x128_0_1 (constantI S1x128 1 0#1)) (broadcastInDim S8192x128 ![] bcast_S_S8192x128 (constant (F := Ideal) S_ .f32 0x3F800000#32)) (Host.cos (F := Ideal) (φ := .f32) (angles (m ((c : Thread nD τ).loc main_arg2) : S8192.Idx → BitVec 32))) := by
  unfold V
  after_reads_simp
  rfl

theorem V_v25 (c : Dev nD) : V m c main_v25
    = select (broadcastInDim S8192x128 ![0, 1] bcast_S1x128_S8192x128_0_1 (fun i => lit0 (S1x128.rowMajor i))) (Host.sin (F := Ideal) (φ := .f32) (angles (m ((c : Thread nD τ).loc main_arg2) : S8192.Idx → BitVec 32))) (broadcastInDim S8192x128 ![] bcast_S_S8192x128 (constant (F := Ideal) S_ .f32 0x00000000#32)) := by
  unfold V
  after_reads_simp
  rfl

theorem V_v27 (c : Dev nD) : V m c main_v27
    = select (broadcastInDim S8192x128 ![0, 1] bcast_S1x128_S8192x128_0_1 (fun i => lit1 (S1x128.rowMajor i))) (Host.negf (F := Ideal) (φ := .f32) (Host.sin (F := Ideal) (φ := .f32) (angles (m ((c : Thread nD τ).loc main_arg2) : S8192.Idx → BitVec 32)))) (broadcastInDim S8192x128 ![] bcast_S_S8192x128 (constant (F := Ideal) S_ .f32 0x00000000#32)) := by
  unfold V
  after_reads_simp
  rfl

/-- The first table of marks: the later half of each 64 lanes. -/
theorem lit0_eq : ∀ e : Fin 128, lit0 e = if e.val % 64 < 32 then 0#1 else 1#1 := by decide +kernel

/-- The second table of marks: the earlier half. -/
theorem lit1_eq : ∀ e : Fin 128, lit1 e = if e.val % 64 < 32 then 1#1 else 0#1 := by decide +kernel

theorem table_a (c : Dev nD) (i : Fin 8192) (e : Fin 128) : V m c main_v24 (ix2 i e) = cosine (m ((c : Thread nD τ).loc main_arg2) : S8192.Idx → BitVec 32) i ⟨e.val % 32, Nat.mod_lt _ (by decide)⟩ := by
  rw [V_v24]
  refine (congrArg (Scalar.select · _ _) (Rope.row_apply _ _ i e)).trans ?_
  exact congrArg (FloatOps.hostUnary (F := Ideal) (φ := .f32) .cos) (angles_apply _ i e)

theorem table_b (c : Dev nD) (i : Fin 8192) (e : Fin 128) : V m c main_v25 (ix2 i e)
    = if e.val % 64 < 32 then 0 else sine (m ((c : Thread nD τ).loc main_arg2) : S8192.Idx → BitVec 32) i ⟨e.val % 32, Nat.mod_lt _ (by decide)⟩ := by
  rw [V_v25]
  refine (congrArg (Scalar.select · _ _) ((Rope.row_apply _ _ i e).trans ((congrArg lit0 (Rope.place e)).trans (lit0_eq e)))).trans ?_
  split_ifs with h
  · exact Rope.const_apply (constant (F := Ideal) S_ .f32 0x00000000#32) bcast_S_S8192x128 0 (fun _ => Ideal.ofBits_zero_f32) (ix2 i e)
  · exact congrArg (FloatOps.hostUnary (F := Ideal) (φ := .f32) .sin) (angles_apply _ i e)

theorem table_p (c : Dev nD) (i : Fin 8192) (e : Fin 128) : V m c main_v27 (ix2 i e)
    = if e.val % 64 < 32 then -sine (m ((c : Thread nD τ).loc main_arg2) : S8192.Idx → BitVec 32) i ⟨e.val % 32, Nat.mod_lt _ (by decide)⟩ else 0 := by
  rw [V_v27]
  refine (congrArg (Scalar.select · _ _) ((Rope.row_apply _ _ i e).trans ((congrArg lit1 (Rope.place e)).trans (lit1_eq e)))).trans ?_
  split_ifs with h
  · exact congrArg (fun z : EReal => -FloatOps.hostUnary (F := Ideal) (φ := .f32) .sin z) (angles_apply _ i e)
  · exact Rope.const_apply (constant (F := Ideal) S_ .f32 0x00000000#32) bcast_S_S8192x128 0 (fun _ => Ideal.ofBits_zero_f32) (ix2 i e)

/-! ## Where a point's blocks sit -/

theorem index0 : ∀ t : Fin cfg0.N, win0_0.index t 0 = t.val ∧ win0_0.index t 1 = 0 := by decide +kernel

theorem read0 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = 0 ∧ win0_1.index t 1 = 0 := by decide +kernel

theorem read1 (t : Fin cfg0.N) (A : S512x1024.Idx → EReal) (y : S512x1024.Idx) (i : S512x1024.Idx)
    (h0 : (i 0).val = 0 * 512 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = 0 ∧ win0_2.index t 1 = 0 := by decide +kernel

theorem read2 (t : Fin cfg0.N) (A : S256x1024.Idx → EReal) (y : S256x1024.Idx) (i : S256x1024.Idx)
    (h0 : (i 0).val = 0 * 256 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = 0 ∧ win0_3.index t 1 = 0 := by decide +kernel

theorem read3 (t : Fin cfg0.N) (A : S384x1024.Idx → EReal) (y : S384x1024.Idx) (i : S384x1024.Idx)
    (h0 : (i 0).val = 0 * 384 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = 0 ∧ win0_4.index t 1 = 0 := by decide +kernel

theorem read4 (t : Fin cfg0.N) (A : S256x1024.Idx → EReal) (y : S256x1024.Idx) (i : S256x1024.Idx)
    (h0 : (i 0).val = 0 * 256 + (y 0).val) (h1 : (i 1).val = 0 * 1024 + (y 1).val) :
    ((cfg0.win 4).blk t).view.read (Elt Ideal) A y = A i :=
  congrArg A (idx2 _ _ (emb_at win0_4 t y 0 (index4 t).1 h0) (emb_at win0_4 t y 1 (index4 t).2 h1))

theorem index5 : ∀ t : Fin cfg0.N, win0_5.index t 0 = 0 ∧ win0_5.index t 1 = 0 := by decide +kernel

theorem read5 (t : Fin cfg0.N) (A : S128x1024.Idx → EReal) (y : S128x1024.Idx) (i : S128x1024.Idx)
    (h0 : (i 0).val = 0 * 128 + (y 0).val) (h1 : (i 1).val = 0 * 1024 + (y 1).val) :
    ((cfg0.win 5).blk t).view.read (Elt Ideal) A y = A i :=
  congrArg A (idx2 _ _ (emb_at win0_5 t y 0 (index5 t).1 h0) (emb_at win0_5 t y 1 (index5 t).2 h1))

theorem index6 : ∀ t : Fin cfg0.N, win0_6.index t 0 = t.val ∧ win0_6.index t 1 = 0 := by decide +kernel

theorem read6 (t : Fin cfg0.N) (A : S8192x128.Idx → EReal) (y : S512x128.Idx) (i : S8192x128.Idx)
    (h0 : (i 0).val = t.val * 512 + (y 0).val) (h1 : (i 1).val = 0 * 128 + (y 1).val) :
    ((cfg0.win 6).blk t).view.read (Elt Ideal) A y = A i :=
  congrArg A (idx2 _ _ (emb_at win0_6 t y 0 (index6 t).1 h0) (emb_at win0_6 t y 1 (index6 t).2 h1))

theorem index7 : ∀ t : Fin cfg0.N, win0_7.index t 0 = t.val ∧ win0_7.index t 1 = 0 := by decide +kernel

theorem read7 (t : Fin cfg0.N) (A : S8192x128.Idx → EReal) (y : S512x128.Idx) (i : S8192x128.Idx)
    (h0 : (i 0).val = t.val * 512 + (y 0).val) (h1 : (i 1).val = 0 * 128 + (y 1).val) :
    ((cfg0.win 7).blk t).view.read (Elt Ideal) A y = A i :=
  congrArg A (idx2 _ _ (emb_at win0_7 t y 0 (index7 t).1 h0) (emb_at win0_7 t y 1 (index7 t).2 h1))

theorem index8 : ∀ t : Fin cfg0.N, win0_8.index t 0 = t.val ∧ win0_8.index t 1 = 0 := by decide +kernel

theorem read8 (t : Fin cfg0.N) (A : S8192x128.Idx → EReal) (y : S512x128.Idx) (i : S8192x128.Idx)
    (h0 : (i 0).val = t.val * 512 + (y 0).val) (h1 : (i 1).val = 0 * 128 + (y 1).val) :
    ((cfg0.win 8).blk t).view.read (Elt Ideal) A y = A i :=
  congrArg A (idx2 _ _ (emb_at win0_8 t y 0 (index8 t).1 h0) (emb_at win0_8 t y 1 (index8 t).2 h1))

theorem index9 : ∀ t : Fin cfg0.N, win0_9.index t 0 = t.val ∧ win0_9.index t 1 = 0 := by decide +kernel

theorem read9 (t : Fin cfg0.N) (A : S8192x512.Idx → EReal) (y : S512x512.Idx) (i : S8192x512.Idx)
    (h0 : (i 0).val = t.val * 512 + (y 0).val) (h1 : (i 1).val = 0 * 512 + (y 1).val) :
    ((cfg0.win 9).blk t).view.read (Elt Ideal) A y = A i :=
  congrArg A (idx2 _ _ (emb_at win0_9 t y 0 (index9 t).1 h0) (emb_at win0_9 t y 1 (index9 t).2 h1))

theorem index10 : ∀ t : Fin cfg0.N, win0_10.index t 0 = t.val ∧ win0_10.index t 1 = 0 := by decide +kernel

theorem read10 (t : Fin cfg0.N) (A : S8192x256.Idx → EReal) (y : S512x256.Idx) (i : S8192x256.Idx)
    (h0 : (i 0).val = t.val * 512 + (y 0).val) (h1 : (i 1).val = 0 * 256 + (y 1).val) :
    ((cfg0.win 10).blk t).view.read (Elt Ideal) A y = A i :=
  congrArg A (idx2 _ _ (emb_at win0_10 t y 0 (index10 t).1 h0) (emb_at win0_10 t y 1 (index10 t).2 h1))

theorem index11 : ∀ t : Fin cfg0.N, win0_11.index t 0 = t.val ∧ win0_11.index t 1 = 0 := by decide +kernel

theorem read11 (t : Fin cfg0.N) (A : S8192x384.Idx → EReal) (y : S512x384.Idx) (i : S8192x384.Idx)
    (h0 : (i 0).val = t.val * 512 + (y 0).val) (h1 : (i 1).val = 0 * 384 + (y 1).val) :
    ((cfg0.win 11).blk t).view.read (Elt Ideal) A y = A i :=
  congrArg A (idx2 _ _ (emb_at win0_11 t y 0 (index11 t).1 h0) (emb_at win0_11 t y 1 (index11 t).2 h1))

theorem index12 : ∀ t : Fin cfg0.N, win0_12.index t 0 = t.val ∧ win0_12.index t 1 = 0 := by decide +kernel

theorem read12 (t : Fin cfg0.N) (A : S8192x256.Idx → EReal) (y : S512x256.Idx) (i : S8192x256.Idx)
    (h0 : (i 0).val = t.val * 512 + (y 0).val) (h1 : (i 1).val = 0 * 256 + (y 1).val) :
    ((cfg0.win 12).blk t).view.read (Elt Ideal) A y = A i :=
  congrArg A (idx2 _ _ (emb_at win0_12 t y 0 (index12 t).1 h0) (emb_at win0_12 t y 1 (index12 t).2 h1))

theorem index13 : ∀ t : Fin cfg0.N, win0_13.index t 0 = t.val ∧ win0_13.index t 1 = 0 := by decide +kernel

theorem read13 (t : Fin cfg0.N) (A : S8192x128.Idx → EReal) (y : S512x128.Idx) (i : S8192x128.Idx)
    (h0 : (i 0).val = t.val * 512 + (y 0).val) (h1 : (i 1).val = 0 * 128 + (y 1).val) :
    ((cfg0.win 13).blk t).view.read (Elt Ideal) A y = A i :=
  congrArg A (idx2 _ _ (emb_at win0_13 t y 0 (index13 t).1 h0) (emb_at win0_13 t y 1 (index13 t).2 h1))

/-! ## One point -/

/-- A tile's product at an index. -/
theorem k0_pay7_at (P : S512x1024.Idx → EReal) (A : S512x1024.Idx → EReal) (r : Fin 512) (n : Fin 512) :
    k0_pay7 (F := Ideal) P A (ix2 r n) = ∑ k : Fin 1024, P (ix2 r k) * A (ix2 n k) := by
  unfold k0_pay7 k0_pay6
  pointwise

theorem k0_pay8_self (a : S512x128.Idx → EReal) : k0_pay8 (F := Ideal) a = a := shapeCast_self _ _

theorem k0_pay9_self (a : S512x128.Idx → EReal) : k0_pay9 (F := Ideal) a = a := shapeCast_self _ _

theorem k0_pay10_self (a : S512x128.Idx → EReal) : k0_pay10 (F := Ideal) a = a := shapeCast_self _ _

theorem point9 (P A : S512x1024.Idx → EReal) (B : S256x1024.Idx → EReal) (C : S384x1024.Idx → EReal) (D : S256x1024.Idx → EReal) (E : S128x1024.Idx → EReal) (ta tb tp : S512x128.Idx → EReal) (r : Fin 512) (l : Fin 512) :
    out0_9 (F := Ideal) P A B C D E ta tb tp (ix2 r l)
      = (∑ k : Fin 1024, P (ix2 r k) * A (ix2 l k)) * ta (ix2 r ⟨l.val % 128, Nat.mod_lt _ (by decide)⟩)
        + (∑ k : Fin 1024, P (ix2 r k) * A (ix2 (⟨128 * (l.val / 128) + (l.val % 128 + 96) % 128, by omega⟩ : Fin 512) k)) * tb (ix2 r ⟨l.val % 128, Nat.mod_lt _ (by decide)⟩)
        + (∑ k : Fin 1024, P (ix2 r k) * A (ix2 (⟨128 * (l.val / 128) + (l.val % 128 + 32) % 128, by omega⟩ : Fin 512) k)) * tp (ix2 r ⟨l.val % 128, Nat.mod_lt _ (by decide)⟩) := by
  unfold_out out0_9
  refine (congrFun (View.canon_unit_zero off_zero _ _) _).trans ?_
  repeat rw [View.ld_unit_zero off_zero]
  refine Eq.trans (b := concatenate S512x512 1 (List.ofFn fun b : Fin 4 => (⟨S512x128, Rope.turn 32 96 (128 * b.val) (Rope.sliced 4 rfl b) rotates_S512x128_d1 (k0_pay7 (F := Ideal) P A) ta tb tp⟩ : (s : Shape) × (s.Idx → EReal))) concatenates_S512x128_S512x128_S512x128_S512x128_S512x512_d1 (ix2 r l)) ?_ ?_
  · unfold k0_pay1 k0_pay15 k0_pay14 k0_pay13 k0_pay12 k0_pay11
    simp only [k0_pay8_self, k0_pay9_self, k0_pay10_self]
    rfl
  refine (Rope.tiles (w := 512) (P := 4) 32 96 rfl (by decide) (by decide) rfl (Rope.sliced 4 rfl) rotates_S512x128_d1 (k0_pay7 (F := Ideal) P A) ta tb tp concatenates_S512x128_S512x128_S512x128_S512x128_S512x512_d1 r l).trans ?_
  rw [k0_pay7_at, k0_pay7_at, k0_pay7_at]

theorem point10 (P A : S512x1024.Idx → EReal) (B : S256x1024.Idx → EReal) (C : S384x1024.Idx → EReal) (D : S256x1024.Idx → EReal) (E : S128x1024.Idx → EReal) (ta tb tp : S512x128.Idx → EReal) (r : Fin 512) (l : Fin 256) :
    out0_10 (F := Ideal) P A B C D E ta tb tp (ix2 r l) = ∑ k : Fin 1024, P (ix2 r k) * B (ix2 l k) := by
  unfold_out out0_10
  refine (congrFun (View.canon_unit_zero off_zero _ _) _).trans ?_
  repeat rw [View.ld_unit_zero off_zero]
  unfold k0_pay2 k0_pay6
  pointwise

theorem point11 (P A : S512x1024.Idx → EReal) (B : S256x1024.Idx → EReal) (C : S384x1024.Idx → EReal) (D : S256x1024.Idx → EReal) (E : S128x1024.Idx → EReal) (ta tb tp : S512x128.Idx → EReal) (r : Fin 512) (l : Fin 384) :
    out0_11 (F := Ideal) P A B C D E ta tb tp (ix2 r l) = ∑ k : Fin 1024, P (ix2 r k) * C (ix2 l k) := by
  unfold_out out0_11
  refine (congrFun (View.canon_unit_zero off_zero _ _) _).trans ?_
  repeat rw [View.ld_unit_zero off_zero]
  unfold k0_pay3 k0_pay6
  pointwise

theorem point12 (P A : S512x1024.Idx → EReal) (B : S256x1024.Idx → EReal) (C : S384x1024.Idx → EReal) (D : S256x1024.Idx → EReal) (E : S128x1024.Idx → EReal) (ta tb tp : S512x128.Idx → EReal) (r : Fin 512) (l : Fin 256) :
    out0_12 (F := Ideal) P A B C D E ta tb tp (ix2 r l) = ∑ k : Fin 1024, P (ix2 r k) * D (ix2 l k) := by
  unfold_out out0_12
  refine (congrFun (View.canon_unit_zero off_zero _ _) _).trans ?_
  repeat rw [View.ld_unit_zero off_zero]
  unfold k0_pay4 k0_pay6
  pointwise

theorem point13 (P A : S512x1024.Idx → EReal) (B : S256x1024.Idx → EReal) (C : S384x1024.Idx → EReal) (D : S256x1024.Idx → EReal) (E : S128x1024.Idx → EReal) (ta tb tp : S512x128.Idx → EReal) (r : Fin 512) (l : Fin 128) :
    out0_13 (F := Ideal) P A B C D E ta tb tp (ix2 r l) = ∑ k : Fin 1024, P (ix2 r k) * E (ix2 l k) := by
  unfold_out out0_13
  refine (congrFun (View.canon_unit_zero off_zero _ _) _).trans ?_
  repeat rw [View.ld_unit_zero off_zero]
  unfold k0_pay5 k0_pay6
  pointwise

/-! ## The reference's results at an index -/

/-- Where a lane of the result sits in its half of a head. -/
abbrev pair (i : Fin 8192) (j : Fin 512) : Cert.InRefIdeal.S8192x8x32.Idx := ix3 i (⟨j.val / 64, by omega⟩ : Fin 8) (⟨j.val % 32, Nat.mod_lt _ (by decide)⟩ : Fin 32)

theorem dot_apply (h : S8192x1024.Idx → EReal) (w : S1024x1440.Idx → EReal) (i : Fin 8192) (j : Fin 1440) :
    val_main_v0 (F := Ideal) h w (ix2 i j) = ∑ k : Fin 1024, h (ix2 i k) * w (ix2 k j) := by
  rw [val_main_v0_apply]
  exact Finset.sum_congr rfl fun k _ => congrArg₂ (· * ·) (congrArg h (idx2 _ _ rfl rfl)) (congrArg w (idx2 _ _ rfl rfl))

/-- The queries: a head's two halves of lanes, turned by the row's angle. -/
theorem ref9_apply (h : S8192x1024.Idx → EReal) (w : S1024x1440.Idx → EReal) (pos : S8192.Idx → BitVec 32) (i : Fin 8192) (j : Fin 512) :
    val_main_v41 (F := Ideal) h w pos (ix2 i j) = if hj : j.val % 64 < 32
      then (∑ k : Fin 1024, h (ix2 i k) * w (ix2 k (⟨0 + j.val, by omega⟩ : Fin 1440))) * cosine pos i ⟨j.val % 32, Nat.mod_lt _ (by decide)⟩ - (∑ k : Fin 1024, h (ix2 i k) * w (ix2 k (⟨0 + (j.val + 32), by omega⟩ : Fin 1440))) * sine pos i ⟨j.val % 32, Nat.mod_lt _ (by decide)⟩
      else (∑ k : Fin 1024, h (ix2 i k) * w (ix2 k (⟨0 + j.val, by omega⟩ : Fin 1440))) * cosine pos i ⟨j.val % 32, Nat.mod_lt _ (by decide)⟩ + (∑ k : Fin 1024, h (ix2 i k) * w (ix2 k (⟨0 + (j.val - 32), by omega⟩ : Fin 1440))) * sine pos i ⟨j.val % 32, Nat.mod_lt _ (by decide)⟩ := by
  have hi : i.val < 8192 := i.isLt
  have hj0 : j.val < 512 := j.isLt
  rw [val_main_v41_apply]
  unfold val_main_v40
  split_ifs with hj
  · refine (concatenate_apply_piece (t := Cert.InRefIdeal.S8192x8x64) 2 _ _ _ 0 (by show 0 < 2; decide) Cert.InRefIdeal.S8192x8x32 (val_main_v34 (F := Ideal) h w pos) rfl rfl 0 (by rfl)
      (pair i j) (fun b hb => ?_) ?_).trans ?_
    · match b with
      | ⟨0, _⟩ => show i.val = (i.val * 512 + j.val) / 512; omega
      | ⟨1, _⟩ => show j.val / 64 = (i.val * 512 + j.val) / 64 % 8; omega
      | ⟨2, _⟩ => exact absurd rfl hb
    · show 0 + j.val % 32 = (i.val * 512 + j.val) % 64
      omega
    rw [val_main_v34_apply, val_main_v31_apply, val_main_v33_apply]
    show (val_main_v28 (F := Ideal) h w (pair i j) : EReal) * val_main_v30 (F := Ideal) pos (pair i j) - (val_main_v29 (F := Ideal) h w (pair i j) : EReal) * val_main_v32 (F := Ideal) pos (pair i j) = _
    refine congrArg₂ (fun a b : EReal => a - b) (congrArg₂ (· * ·) ?_ ?_) (congrArg₂ (· * ·) ?_ ?_)
    · rw [val_main_v28_apply, val_main_v7_apply, val_main_v1_apply]
      refine (congrArg (val_main_v0 (F := Ideal) h w) (idx2 _ (ix2 i (⟨0 + j.val, by omega⟩ : Fin 1440)) ?_ ?_)).trans (dot_apply h w i _)
      · show ((i.val * 8 + j.val / 64) * 64 + (j.val % 32)) / 512 = i.val; omega
      · show ((i.val * 8 + j.val / 64) * 64 + (j.val % 32)) % 512 = 0 + j.val; omega
    · rw [val_main_v30_apply, val_main_v25_apply, val_main_v24_apply]
      exact congrArg (FloatOps.hostUnary (F := Ideal) (φ := .f32) .cos) (congrArg (val_main_v23 (F := Ideal) pos) (idx2 _ _ rfl rfl))
    · rw [val_main_v29_apply, val_main_v7_apply, val_main_v1_apply]
      refine (congrArg (val_main_v0 (F := Ideal) h w) (idx2 _ (ix2 i (⟨0 + (j.val + 32), by omega⟩ : Fin 1440)) ?_ ?_)).trans (dot_apply h w i _)
      · show ((i.val * 8 + j.val / 64) * 64 + (32 + j.val % 32)) / 512 = i.val; omega
      · show ((i.val * 8 + j.val / 64) * 64 + (32 + j.val % 32)) % 512 = 0 + (j.val + 32); omega
    · rw [val_main_v32_apply, val_main_v27_apply, val_main_v26_apply]
      exact congrArg (FloatOps.hostUnary (F := Ideal) (φ := .f32) .sin) (congrArg (val_main_v23 (F := Ideal) pos) (idx2 _ _ rfl rfl))
  · refine (concatenate_apply_piece (t := Cert.InRefIdeal.S8192x8x64) 2 _ _ _ 1 (by show 1 < 2; decide) Cert.InRefIdeal.S8192x8x32 (val_main_v39 (F := Ideal) h w pos) rfl rfl 32 (by rfl)
      (pair i j) (fun b hb => ?_) ?_).trans ?_
    · match b with
      | ⟨0, _⟩ => show i.val = (i.val * 512 + j.val) / 512; omega
      | ⟨1, _⟩ => show j.val / 64 = (i.val * 512 + j.val) / 64 % 8; omega
      | ⟨2, _⟩ => exact absurd rfl hb
    · show 32 + j.val % 32 = (i.val * 512 + j.val) % 64
      omega
    rw [val_main_v39_apply, val_main_v36_apply, val_main_v38_apply]
    show (val_main_v29 (F := Ideal) h w (pair i j) : EReal) * val_main_v35 (F := Ideal) pos (pair i j) + (val_main_v28 (F := Ideal) h w (pair i j) : EReal) * val_main_v37 (F := Ideal) pos (pair i j) = _
    refine congrArg₂ (· + ·) (congrArg₂ (· * ·) ?_ ?_) (congrArg₂ (· * ·) ?_ ?_)
    · rw [val_main_v29_apply, val_main_v7_apply, val_main_v1_apply]
      refine (congrArg (val_main_v0 (F := Ideal) h w) (idx2 _ (ix2 i (⟨0 + j.val, by omega⟩ : Fin 1440)) ?_ ?_)).trans (dot_apply h w i _)
      · show ((i.val * 8 + j.val / 64) * 64 + (32 + j.val % 32)) / 512 = i.val; omega
      · show ((i.val * 8 + j.val / 64) * 64 + (32 + j.val % 32)) % 512 = 0 + j.val; omega
    · rw [val_main_v35_apply, val_main_v25_apply, val_main_v24_apply]
      exact congrArg (FloatOps.hostUnary (F := Ideal) (φ := .f32) .cos) (congrArg (val_main_v23 (F := Ideal) pos) (idx2 _ _ rfl rfl))
    · rw [val_main_v28_apply, val_main_v7_apply, val_main_v1_apply]
      refine (congrArg (val_main_v0 (F := Ideal) h w) (idx2 _ (ix2 i (⟨0 + (j.val - 32), by omega⟩ : Fin 1440)) ?_ ?_)).trans (dot_apply h w i _)
      · show ((i.val * 8 + j.val / 64) * 64 + (j.val % 32)) / 512 = i.val; omega
      · show ((i.val * 8 + j.val / 64) * 64 + (j.val % 32)) % 512 = 0 + (j.val - 32); omega
    · rw [val_main_v37_apply, val_main_v27_apply, val_main_v26_apply]
      exact congrArg (FloatOps.hostUnary (F := Ideal) (φ := .f32) .sin) (congrArg (val_main_v23 (F := Ideal) pos) (idx2 _ _ rfl rfl))

theorem ref10_apply (h : S8192x1024.Idx → EReal) (w : S1024x1440.Idx → EReal) (i : Fin 8192) (j : Fin 256) :
    val_main_v42 (F := Ideal) h w (ix2 i j) = ∑ k : Fin 1024, h (ix2 i k) * w (ix2 k ⟨512 + j.val, by omega⟩) := by
  unfold val_main_v42
  by_cases hj : j.val < 128
  · refine (concatenate_apply_piece (t := Cert.InRefIdeal.S8192x256) 1 _ _ _ 0 (by show 0 < 2; decide) Cert.InRefIdeal.S8192x128 (val_main_v2 (F := Ideal) h w) rfl rfl 0 (by rfl)
      (ix2 i (⟨j.val, by omega⟩ : Fin 128)) (fun b hb => ?_) ?_).trans ?_
    · match b with
      | ⟨0, _⟩ => rfl
      | ⟨1, _⟩ => exact absurd rfl hb
    · show 0 + (j.val) = j.val
      omega
    · rw [val_main_v2_apply]
      refine (congrArg (val_main_v0 (F := Ideal) h w) (idx2 _ (ix2 i ⟨512 + j.val, by omega⟩) ?_ ?_)).trans (dot_apply h w i _)
      · rfl
      · show 512 + j.val = 512 + j.val
        omega
  · refine (concatenate_apply_piece (t := Cert.InRefIdeal.S8192x256) 1 _ _ _ 1 (by show 1 < 2; decide) Cert.InRefIdeal.S8192x128 (val_main_v3 (F := Ideal) h w) rfl rfl 128 (by rfl)
      (ix2 i (⟨j.val - 128, by omega⟩ : Fin 128)) (fun b hb => ?_) ?_).trans ?_
    · match b with
      | ⟨0, _⟩ => rfl
      | ⟨1, _⟩ => exact absurd rfl hb
    · show 128 + (j.val - 128) = j.val
      omega
    · rw [val_main_v3_apply]
      refine (congrArg (val_main_v0 (F := Ideal) h w) (idx2 _ (ix2 i ⟨512 + j.val, by omega⟩) ?_ ?_)).trans (dot_apply h w i _)
      · rfl
      · show 640 + (j.val - 128) = 512 + j.val
        omega

theorem ref11_apply (h : S8192x1024.Idx → EReal) (w : S1024x1440.Idx → EReal) (i : Fin 8192) (j : Fin 384) :
    val_main_v4 (F := Ideal) h w (ix2 i j) = ∑ k : Fin 1024, h (ix2 i k) * w (ix2 k ⟨768 + j.val, by omega⟩) := by
  rw [val_main_v4_apply]
  refine (congrArg (val_main_v0 (F := Ideal) h w) (idx2 _ (ix2 i ⟨768 + j.val, by omega⟩) ?_ ?_)).trans (dot_apply h w i _) <;> rfl

theorem ref12_apply (h : S8192x1024.Idx → EReal) (w : S1024x1440.Idx → EReal) (i : Fin 8192) (j : Fin 256) :
    val_main_v5 (F := Ideal) h w (ix2 i j) = ∑ k : Fin 1024, h (ix2 i k) * w (ix2 k ⟨1152 + j.val, by omega⟩) := by
  rw [val_main_v5_apply]
  refine (congrArg (val_main_v0 (F := Ideal) h w) (idx2 _ (ix2 i ⟨1152 + j.val, by omega⟩) ?_ ?_)).trans (dot_apply h w i _) <;> rfl

/-- The shared key's columns, between columns of nothing. -/
theorem ref13_apply (h : S8192x1024.Idx → EReal) (w : S1024x1440.Idx → EReal) (i : Fin 8192) (j : Fin 128) :
    val_main_v45 (F := Ideal) h w (ix2 i j) = if hj : 64 ≤ j.val ∧ j.val < 96 then ∑ k : Fin 1024, h (ix2 i k) * w (ix2 k ⟨1408 + (j.val - 64), by omega⟩) else 0 := by
  unfold val_main_v45
  split_ifs with hj
  · refine (concatenate_apply_piece (t := Cert.InRefIdeal.S8192x128) 1 _ _ _ 1 (by show 1 < 3; decide) Cert.InRefIdeal.S8192x32 (val_main_v6 (F := Ideal) h w) rfl rfl 64 (by rfl)
      (ix2 i (⟨j.val - 64, by omega⟩ : Fin 32)) (fun b hb => ?_) ?_).trans ?_
    · match b with
      | ⟨0, _⟩ => rfl
      | ⟨1, _⟩ => exact absurd rfl hb
    · show 64 + (j.val - 64) = j.val
      omega
    · rw [val_main_v6_apply]
      refine (congrArg (val_main_v0 (F := Ideal) h w) (idx2 _ (ix2 i ⟨1408 + (j.val - 64), by omega⟩) ?_ ?_)).trans (dot_apply h w i _)
      · rfl
      · show 1408 + (j.val - 64) = 1408 + (j.val - 64)
        omega
  · by_cases h0 : j.val < 64
    · refine (concatenate_apply_piece (t := Cert.InRefIdeal.S8192x128) 1 _ _ _ 0 (by show 0 < 3; decide) Cert.InRefIdeal.S8192x64 (val_main_v43 (F := Ideal)) rfl rfl 0 (by rfl)
        (ix2 i (⟨j.val, by omega⟩ : Fin 64)) (fun b hb => ?_) ?_).trans ?_
      · match b with
        | ⟨0, _⟩ => rfl
        | ⟨1, _⟩ => exact absurd rfl hb
      · show 0 + (j.val) = j.val
        omega
      · rw [val_main_v43_apply]
        exact Ideal.ofBits_zero_f32
    · refine (concatenate_apply_piece (t := Cert.InRefIdeal.S8192x128) 1 _ _ _ 2 (by show 2 < 3; decide) Cert.InRefIdeal.S8192x32 (val_main_v44 (F := Ideal)) rfl rfl 96 (by rfl)
        (ix2 i (⟨j.val - 96, by omega⟩ : Fin 32)) (fun b hb => ?_) ?_).trans ?_
      · match b with
        | ⟨0, _⟩ => rfl
        | ⟨1, _⟩ => exact absurd rfl hb
      · show 96 + (j.val - 96) = j.val
        omega
      · rw [val_main_v44_apply]
        exact Ideal.ofBits_zero_f32

/-! ## The arrays the call leaves -/

theorem final9 (c : Dev nD) : (dats m 0 c).arrAt 9 cfg0.N
    = val_main_v41 (F := Ideal) (m ((c : Thread nD τ).loc main_arg0)) (m ((c : Thread nD τ).loc main_arg1)) (m ((c : Thread nD τ).loc main_arg2)) := by
  have hN : cfg0.N = 16 := by decide +kernel
  refine (dats m 0 c).arrAt_eq_of_cover 9 _ (fun t _ => ?_) (fun i => ?_)
  · rw [Value.flushed9]
    refine funext fun (y : S512x512.Idx) => ?_
    have hy0 : (y 0).val < 512 := (y 0).isLt
    have hy1 : (y 1).val < 512 := (y 1).isLt
    have ht : t.val < 16 := hN ▸ t.isLt
    refine Eq.trans ?_ (read9 t _ y (ix2 ⟨t.val * 512 + (y 0).val, by omega⟩ ⟨0 * 512 + (y 1).val, by omega⟩) rfl rfl).symm
    rw [ref9_apply]
    refine Eq.trans (congrArg (out0_9 (F := Ideal) (iblk m c 0 t) (iblk m c 1 t) (iblk m c 2 t) (iblk m c 3 t) (iblk m c 4 t) (iblk m c 5 t) (iblk m c 6 t) (iblk m c 7 t) (iblk m c 8 t)) (eq_ix2 y)) ?_
    refine (point9 _ _ _ _ _ _ _ _ _ (y 0) (y 1)).trans ?_
    have eS : ∀ (n : Fin 512) (n' : Fin 1440), n'.val = 0 + n.val → (∑ k : Fin 1024, (fun a b : EReal => a * b) (iblk m c 0 t (ix2 (y 0) k)) (iblk m c 1 t (ix2 n k)))
        = ∑ k : Fin 1024, (fun a b : EReal => a * b) ((m ((c : Thread nD τ).loc main_arg0)) (ix2 ⟨t.val * 512 + (y 0).val, by omega⟩ k)) ((m ((c : Thread nD τ).loc main_arg1)) (ix2 k n')) := fun n n' hn => by
      refine Finset.sum_congr rfl fun k _ => congrArg₂ (fun a b : EReal => a * b) ?_ ?_
      · exact (read0 t _ (ix2 (y 0) k) (ix2 ⟨t.val * 512 + (y 0).val, by omega⟩ k) rfl (by simp)).trans (congrFun (V_h m c) _)
      · refine (read1 t _ (ix2 n k) (ix2 n k) (by simp) (by simp)).trans ((V_v31_apply m c n k).trans ?_)
        exact congrArg (m ((c : Thread nD τ).loc main_arg1)) (idx2 _ _ rfl hn.symm)
    have hf : (⟨(y 1).val % 128 % 32, Nat.mod_lt _ (by decide)⟩ : Fin 32) = (⟨(0 * 512 + (y 1).val) % 32, Nat.mod_lt _ (by decide)⟩ : Fin 32) := Fin.ext (by show (y 1).val % 128 % 32 = (0 * 512 + (y 1).val) % 32; omega)
    have ea := (read6 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_a m c _ _)
    have eb := (read7 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_b m c _ _)
    have ep := (read8 t _ (ix2 (y 0) (⟨(y 1).val % 128, Nat.mod_lt _ (by decide)⟩ : Fin 128)) (ix2 ⟨t.val * 512 + (y 0).val, by omega⟩ (⟨(y 1).val % 128, Nat.mod_lt _ (by decide)⟩ : Fin 128)) rfl (by simp)).trans (table_p m c _ _)
    rw [hf] at ea eb ep
    have hz : (0 * 512 + (y 1).val) % 64 = (y 1).val % 128 % 64 := by omega
    split_ifs with hl
    · have hm : (y 1).val % 128 % 64 < 32 := hz ▸ hl
      refine Rope.early _ _ _ _ _ _ _ _ _ _ (eS _ _ ?_) (eS _ _ ?_) ea (eb.trans (if_pos hm)) (ep.trans (if_pos hm))
      · show 0 + (0 * 512 + (y 1).val) = 0 + (y 1).val
        omega
      · show 0 + ((0 * 512 + (y 1).val) + 32) = 0 + (128 * ((y 1).val / 128) + ((y 1).val % 128 + 32) % 128)
        omega
    · have hm : ¬ (y 1).val % 128 % 64 < 32 := hz ▸ hl
      refine Rope.late _ _ _ _ _ _ _ _ _ _ (eS _ _ ?_) (eS _ _ ?_) ea (eb.trans (if_neg hm)) (ep.trans (if_neg hm))
      · show 0 + (0 * 512 + (y 1).val) = 0 + (y 1).val
        omega
      · show 0 + ((0 * 512 + (y 1).val) - 32) = 0 + (128 * ((y 1).val / 128) + ((y 1).val % 128 + 96) % 128)
        omega
  · have h0 : (i 0 : Nat) < 8192 := (i 0).isLt
    have h1 : (i 1 : Nat) < 512 := (i 1).isLt
    have ht : (i 0 : Nat) / 512 < cfg0.N := by omega
    refine ⟨⟨(i 0 : Nat) / 512, ht⟩, flush0_9 _, ?_⟩
    show (show S8192x512.Idx from i) ∈ ((View.whole main_v37_0).slice (win0_9.rect ⟨(i 0 : Nat) / 512, ht⟩)).set
    rw [View.set_slice_whole, Rect.mem_set_unit]
    exact fun a => match a with
      | ⟨0, _⟩ => Rope.inside (b := 512) (i := (i 0 : Nat)) (index9 _).1 (by show (i 0 : Nat) / 512 * 512 ≤ _; omega) (by show _ < (i 0 : Nat) / 512 * 512 + 512; omega)
      | ⟨1, _⟩ => Rope.inside (b := 512) (i := (i 1 : Nat)) (index9 _).2 (by omega) (by omega)

theorem final10 (c : Dev nD) : (dats m 0 c).arrAt 10 cfg0.N
    = val_main_v42 (F := Ideal) (m ((c : Thread nD τ).loc main_arg0)) (m ((c : Thread nD τ).loc main_arg1)) := by
  have hN : cfg0.N = 16 := by decide +kernel
  refine (dats m 0 c).arrAt_eq_of_cover 10 _ (fun t _ => ?_) (fun i => ?_)
  · rw [Value.flushed10]
    refine funext fun (y : S512x256.Idx) => ?_
    have hy0 : (y 0).val < 512 := (y 0).isLt
    have hy1 : (y 1).val < 256 := (y 1).isLt
    have ht : t.val < 16 := hN ▸ t.isLt
    refine Eq.trans ?_ (read10 t _ y (ix2 ⟨t.val * 512 + (y 0).val, by omega⟩ ⟨0 * 256 + (y 1).val, by omega⟩) rfl rfl).symm
    rw [ref10_apply]
    refine Eq.trans (congrArg (out0_10 (F := Ideal) (iblk m c 0 t) (iblk m c 1 t) (iblk m c 2 t) (iblk m c 3 t) (iblk m c 4 t) (iblk m c 5 t) (iblk m c 6 t) (iblk m c 7 t) (iblk m c 8 t)) (eq_ix2 y)) ?_
    refine (point10 _ _ _ _ _ _ _ _ _ (y 0) (y 1)).trans ?_
    refine Finset.sum_congr rfl fun k _ => congrArg₂ (· * ·) ?_ ?_
    · exact (read0 t _ (ix2 (y 0) k) (ix2 ⟨t.val * 512 + (y 0).val, by omega⟩ k) rfl (by simp)).trans (congrFun (V_h m c) _)
    · exact (read2 t _ (ix2 (y 1) k) (ix2 ⟨0 * 256 + (y 1).val, by omega⟩ k) rfl (by simp)).trans (V_v32_apply m c _ _)
  · have h0 : (i 0 : Nat) < 8192 := (i 0).isLt
    have h1 : (i 1 : Nat) < 256 := (i 1).isLt
    have ht : (i 0 : Nat) / 512 < cfg0.N := by omega
    refine ⟨⟨(i 0 : Nat) / 512, ht⟩, flush0_10 _, ?_⟩
    show (show S8192x256.Idx from i) ∈ ((View.whole main_v37_1).slice (win0_10.rect ⟨(i 0 : Nat) / 512, ht⟩)).set
    rw [View.set_slice_whole, Rect.mem_set_unit]
    exact fun a => match a with
      | ⟨0, _⟩ => Rope.inside (b := 512) (i := (i 0 : Nat)) (index10 _).1 (by show (i 0 : Nat) / 512 * 512 ≤ _; omega) (by show _ < (i 0 : Nat) / 512 * 512 + 512; omega)
      | ⟨1, _⟩ => Rope.inside (b := 256) (i := (i 1 : Nat)) (index10 _).2 (by omega) (by omega)

theorem final11 (c : Dev nD) : (dats m 0 c).arrAt 11 cfg0.N
    = val_main_v4 (F := Ideal) (m ((c : Thread nD τ).loc main_arg0)) (m ((c : Thread nD τ).loc main_arg1)) := by
  have hN : cfg0.N = 16 := by decide +kernel
  refine (dats m 0 c).arrAt_eq_of_cover 11 _ (fun t _ => ?_) (fun i => ?_)
  · rw [Value.flushed11]
    refine funext fun (y : S512x384.Idx) => ?_
    have hy0 : (y 0).val < 512 := (y 0).isLt
    have hy1 : (y 1).val < 384 := (y 1).isLt
    have ht : t.val < 16 := hN ▸ t.isLt
    refine Eq.trans ?_ (read11 t _ y (ix2 ⟨t.val * 512 + (y 0).val, by omega⟩ ⟨0 * 384 + (y 1).val, by omega⟩) rfl rfl).symm
    rw [ref11_apply]
    refine Eq.trans (congrArg (out0_11 (F := Ideal) (iblk m c 0 t) (iblk m c 1 t) (iblk m c 2 t) (iblk m c 3 t) (iblk m c 4 t) (iblk m c 5 t) (iblk m c 6 t) (iblk m c 7 t) (iblk m c 8 t)) (eq_ix2 y)) ?_
    refine (point11 _ _ _ _ _ _ _ _ _ (y 0) (y 1)).trans ?_
    refine Finset.sum_congr rfl fun k _ => congrArg₂ (· * ·) ?_ ?_
    · exact (read0 t _ (ix2 (y 0) k) (ix2 ⟨t.val * 512 + (y 0).val, by omega⟩ k) rfl (by simp)).trans (congrFun (V_h m c) _)
    · exact (read3 t _ (ix2 (y 1) k) (ix2 ⟨0 * 384 + (y 1).val, by omega⟩ k) rfl (by simp)).trans (V_v33_apply m c _ _)
  · have h0 : (i 0 : Nat) < 8192 := (i 0).isLt
    have h1 : (i 1 : Nat) < 384 := (i 1).isLt
    have ht : (i 0 : Nat) / 512 < cfg0.N := by omega
    refine ⟨⟨(i 0 : Nat) / 512, ht⟩, flush0_11 _, ?_⟩
    show (show S8192x384.Idx from i) ∈ ((View.whole main_v37_2).slice (win0_11.rect ⟨(i 0 : Nat) / 512, ht⟩)).set
    rw [View.set_slice_whole, Rect.mem_set_unit]
    exact fun a => match a with
      | ⟨0, _⟩ => Rope.inside (b := 512) (i := (i 0 : Nat)) (index11 _).1 (by show (i 0 : Nat) / 512 * 512 ≤ _; omega) (by show _ < (i 0 : Nat) / 512 * 512 + 512; omega)
      | ⟨1, _⟩ => Rope.inside (b := 384) (i := (i 1 : Nat)) (index11 _).2 (by omega) (by omega)

theorem final12 (c : Dev nD) : (dats m 0 c).arrAt 12 cfg0.N
    = val_main_v5 (F := Ideal) (m ((c : Thread nD τ).loc main_arg0)) (m ((c : Thread nD τ).loc main_arg1)) := by
  have hN : cfg0.N = 16 := by decide +kernel
  refine (dats m 0 c).arrAt_eq_of_cover 12 _ (fun t _ => ?_) (fun i => ?_)
  · rw [Value.flushed12]
    refine funext fun (y : S512x256.Idx) => ?_
    have hy0 : (y 0).val < 512 := (y 0).isLt
    have hy1 : (y 1).val < 256 := (y 1).isLt
    have ht : t.val < 16 := hN ▸ t.isLt
    refine Eq.trans ?_ (read12 t _ y (ix2 ⟨t.val * 512 + (y 0).val, by omega⟩ ⟨0 * 256 + (y 1).val, by omega⟩) rfl rfl).symm
    rw [ref12_apply]
    refine Eq.trans (congrArg (out0_12 (F := Ideal) (iblk m c 0 t) (iblk m c 1 t) (iblk m c 2 t) (iblk m c 3 t) (iblk m c 4 t) (iblk m c 5 t) (iblk m c 6 t) (iblk m c 7 t) (iblk m c 8 t)) (eq_ix2 y)) ?_
    refine (point12 _ _ _ _ _ _ _ _ _ (y 0) (y 1)).trans ?_
    refine Finset.sum_congr rfl fun k _ => congrArg₂ (· * ·) ?_ ?_
    · exact (read0 t _ (ix2 (y 0) k) (ix2 ⟨t.val * 512 + (y 0).val, by omega⟩ k) rfl (by simp)).trans (congrFun (V_h m c) _)
    · exact (read4 t _ (ix2 (y 1) k) (ix2 ⟨0 * 256 + (y 1).val, by omega⟩ k) rfl (by simp)).trans (V_v34_apply m c _ _)
  · have h0 : (i 0 : Nat) < 8192 := (i 0).isLt
    have h1 : (i 1 : Nat) < 256 := (i 1).isLt
    have ht : (i 0 : Nat) / 512 < cfg0.N := by omega
    refine ⟨⟨(i 0 : Nat) / 512, ht⟩, flush0_12 _, ?_⟩
    show (show S8192x256.Idx from i) ∈ ((View.whole main_v37_3).slice (win0_12.rect ⟨(i 0 : Nat) / 512, ht⟩)).set
    rw [View.set_slice_whole, Rect.mem_set_unit]
    exact fun a => match a with
      | ⟨0, _⟩ => Rope.inside (b := 512) (i := (i 0 : Nat)) (index12 _).1 (by show (i 0 : Nat) / 512 * 512 ≤ _; omega) (by show _ < (i 0 : Nat) / 512 * 512 + 512; omega)
      | ⟨1, _⟩ => Rope.inside (b := 256) (i := (i 1 : Nat)) (index12 _).2 (by omega) (by omega)

theorem final13 (c : Dev nD) : (dats m 0 c).arrAt 13 cfg0.N
    = val_main_v45 (F := Ideal) (m ((c : Thread nD τ).loc main_arg0)) (m ((c : Thread nD τ).loc main_arg1)) := by
  have hN : cfg0.N = 16 := by decide +kernel
  refine (dats m 0 c).arrAt_eq_of_cover 13 _ (fun t _ => ?_) (fun i => ?_)
  · rw [Value.flushed13]
    refine funext fun (y : S512x128.Idx) => ?_
    have hy0 : (y 0).val < 512 := (y 0).isLt
    have hy1 : (y 1).val < 128 := (y 1).isLt
    have ht : t.val < 16 := hN ▸ t.isLt
    refine Eq.trans ?_ (read13 t _ y (ix2 ⟨t.val * 512 + (y 0).val, by omega⟩ ⟨0 * 128 + (y 1).val, by omega⟩) rfl rfl).symm
    rw [ref13_apply]
    refine Eq.trans (congrArg (out0_13 (F := Ideal) (iblk m c 0 t) (iblk m c 1 t) (iblk m c 2 t) (iblk m c 3 t) (iblk m c 4 t) (iblk m c 5 t) (iblk m c 6 t) (iblk m c 7 t) (iblk m c 8 t)) (eq_ix2 y)) ?_
    refine (point13 _ _ _ _ _ _ _ _ _ (y 0) (y 1)).trans ?_
    have e0 : ∀ k, iblk m c 0 t (ix2 (y 0) k) = m ((c : Thread nD τ).loc main_arg0) (ix2 ⟨t.val * 512 + (y 0).val, by omega⟩ k) := fun k =>
      (read0 t _ (ix2 (y 0) k) (ix2 ⟨t.val * 512 + (y 0).val, by omega⟩ k) rfl (by simp)).trans (congrFun (V_h m c) _)
    have e5 := fun k : Fin 1024 => read5 t (V m c main_v36) (ix2 (y 1) k) (ix2 ⟨0 * 128 + (y 1).val, by omega⟩ k) rfl (by simp)
    split_ifs with hl
    · exact Finset.sum_congr rfl fun k _ => congrArg₂ (· * ·) (e0 k) ((e5 k).trans (V_v36_in m c _ hl.1 hl.2 k))
    · refine Finset.sum_eq_zero fun k _ => ?_
      exact (congrArg (fun z : EReal => (fun a b : EReal => a * b) (iblk m c 0 t (ix2 (y 0) k)) z) ((e5 k).trans (V_v36_out m c _ hl k))).trans (mul_zero _)
  · have h0 : (i 0 : Nat) < 8192 := (i 0).isLt
    have h1 : (i 1 : Nat) < 128 := (i 1).isLt
    have ht : (i 0 : Nat) / 512 < cfg0.N := by omega
    refine ⟨⟨(i 0 : Nat) / 512, ht⟩, flush0_13 _, ?_⟩
    show (show S8192x128.Idx from i) ∈ ((View.whole main_v37_4).slice (win0_13.rect ⟨(i 0 : Nat) / 512, ht⟩)).set
    rw [View.set_slice_whole, Rect.mem_set_unit]
    exact fun a => match a with
      | ⟨0, _⟩ => Rope.inside (b := 512) (i := (i 0 : Nat)) (index13 _).1 (by show (i 0 : Nat) / 512 * 512 ≤ _; omega) (by show _ < (i 0 : Nat) / 512 * 512 + 512; omega)
      | ⟨1, _⟩ => Rope.inside (b := 128) (i := (i 1 : Nat)) (index13 _).2 (by omega) (by omega)

/-! ## The claims -/

/-- The reference runs, keeps its arguments, and has no semaphore. -/
theorem ref_frame : Cert.quiescent_InRefIdeal (hInRefIdeal := Cert.InRefIdeal.Gen.facts) := fun m g _ =>
  (θ_run Cert.InRefIdeal.defs _ _).mono (fun r h => ⟨fun c => (h c).2.2.2.2.2, sem_eq_zero_of_no_sems (by decide) r.2⟩)
    (Cert.InRefIdeal.Value.run m g)

/-- The call's results are the reference's. -/
theorem value : Cert.algebraic_InIdeal_InRefIdeal (hInIdeal := Cert.InIdeal.Gen.facts) (hInRefIdeal := Cert.InRefIdeal.Gen.facts) := by
  intro m g m' g' _ agree
  refine ⟨fun c => val_main_v41 (F := Ideal) (m ((c : Thread nD τ).loc main_arg0)) (m ((c : Thread nD τ).loc main_arg1)) (m ((c : Thread nD τ).loc main_arg2)), fun c => val_main_v42 (F := Ideal) (m ((c : Thread nD τ).loc main_arg0)) (m ((c : Thread nD τ).loc main_arg1)), fun c => val_main_v4 (F := Ideal) (m ((c : Thread nD τ).loc main_arg0)) (m ((c : Thread nD τ).loc main_arg1)), fun c => val_main_v5 (F := Ideal) (m ((c : Thread nD τ).loc main_arg0)) (m ((c : Thread nD τ).loc main_arg1)), fun c => val_main_v45 (F := Ideal) (m ((c : Thread nD τ).loc main_arg0)) (m ((c : Thread nD τ).loc main_arg1)), ?_, ?_⟩
  · refine (θ_run Cert.InIdeal.defs _ _).mono (fun r h c => ?_) (Value.run_blocks m g)
    exact ⟨(h c).1.trans (final9 m c), (h c).2.1.trans (final10 m c), (h c).2.2.1.trans (final11 m c), (h c).2.2.2.1.trans (final12 m c), (h c).2.2.2.2.1.trans (final13 m c), (h c).2.2.2.2.2⟩
  · refine (θ_run Cert.InRefIdeal.defs _ _).mono (fun r h c => ?_) (Cert.InRefIdeal.Value.run m' g')
    obtain ⟨e0, e1, e2⟩ := agree c
    refine ⟨((h c).1.trans (val_main_v41_eq m' c)).trans ?_, (h c).2.1.trans ?_, (h c).2.2.1.trans ?_, (h c).2.2.2.1.trans ?_, (h c).2.2.2.2.1.trans ?_, (h c).2.2.2.2.2⟩
    · rw [e0, e1, e2]
    · rw [e0, e1]
      exact val_main_v42_eq _ _
    · rw [e0, e1]
      exact val_main_v4_eq _ _
    · rw [e0, e1]
      exact val_main_v5_eq _ _
    · rw [e0, e1]
      exact val_main_v45_eq _ _

end Cert.Ffn.In

end
-- ==== Proof.FfnQkvX.lean ====
/- The input gradient of the query, key and value projections: three products, summed. -/
module

public import proofs.«01_k».proof.Defs
public import proofs.«01_k».proof.Proof.FfnLib
public import proofs.«01_k».proof.Proof.Gen.QkvX.Frame
public import proofs.«01_k».proof.Proof.Gen.QkvXIdeal.Value
public import proofs.«01_k».proof.Proof.Gen.QkvXRefIdeal.Run
public import proofs.«01_k».proof.Proof.Gen.QkvXRefIdeal.Read
public import Idealize.ShloMosaic.Lib.StableHlo.RunRead

@[expose] public section

set_option maxRecDepth 16384

noncomputable section

namespace Cert.Ffn.QkvX

open Idealize.ShloMosaic Idealize.ShloMosaic.TcCoe Idealize.SL.Sem
open Cert.QkvXIdeal Cert.QkvXIdeal.Gen Cert.QkvXRefIdeal.Read

variable (m : (ℓ : Loc nD τ sig) → Buf (Elt Ideal) ℓ)

/-! ## The arrays the call is given -/

theorem V_v2 (c : Dev nD) : V m c main_v2
    = extractStridedSlice S1024x1024 ![0, 0] (transpose S3072x1024 [1, 0] (m ((c : Thread nD τ).loc main_arg1) : S1024x3072.Idx → EReal) transposes_S1024x3072_S3072x1024_1_0) slices_S3072x1024_S1024x1024_0_0 := by
  unfold V
  after_reads_simp
  rfl

theorem V_v2_apply (c : Dev nD) (i : Fin 1024) (j : Fin 1024) :
    V m c main_v2 (ix2 i j) = (m ((c : Thread nD τ).loc main_arg1) : S1024x3072.Idx → EReal) (ix2 j ⟨0 + i.val, by omega⟩) := by
  rw [V_v2]
  generalize (m ((c : Thread nD τ).loc main_arg1) : S1024x3072.Idx → EReal) = A
  pointwise

theorem V_v3 (c : Dev nD) : V m c main_v3
    = extractStridedSlice S1024x1024 ![1024, 0] (transpose S3072x1024 [1, 0] (m ((c : Thread nD τ).loc main_arg1) : S1024x3072.Idx → EReal) transposes_S1024x3072_S3072x1024_1_0) slices_S3072x1024_S1024x1024_1024_0 := by
  unfold V
  after_reads_simp
  rfl

theorem V_v3_apply (c : Dev nD) (i : Fin 1024) (j : Fin 1024) :
    V m c main_v3 (ix2 i j) = (m ((c : Thread nD τ).loc main_arg1) : S1024x3072.Idx → EReal) (ix2 j ⟨1024 + i.val, by omega⟩) := by
  rw [V_v3]
  generalize (m ((c : Thread nD τ).loc main_arg1) : S1024x3072.Idx → EReal) = A
  pointwise

theorem V_v4 (c : Dev nD) : V m c main_v4
    = extractStridedSlice S1024x1024 ![2048, 0] (transpose S3072x1024 [1, 0] (m ((c : Thread nD τ).loc main_arg1) : S1024x3072.Idx → EReal) transposes_S1024x3072_S3072x1024_1_0) slices_S3072x1024_S1024x1024_2048_0 := by
  unfold V
  after_reads_simp
  rfl

theorem V_v4_apply (c : Dev nD) (i : Fin 1024) (j : Fin 1024) :
    V m c main_v4 (ix2 i j) = (m ((c : Thread nD τ).loc main_arg1) : S1024x3072.Idx → EReal) (ix2 j ⟨2048 + i.val, by omega⟩) := by
  rw [V_v4]
  generalize (m ((c : Thread nD τ).loc main_arg1) : S1024x3072.Idx → EReal) = A
  pointwise

/-! ## Where a point's blocks sit -/

theorem index0 : ∀ t : Fin cfg0.N, win0_0.index t 0 = t.val ∧ win0_0.index t 1 = 0 := by decide +kernel

theorem read0 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 0).blk t).view.read (Elt Ideal) A y = A i :=
  congrArg A (idx2 _ _ (emb_at win0_0 t y 0 (index0 t).1 h0) (emb_at win0_0 t y 1 (index0 t).2 h1))

theorem index1 : ∀ t : Fin cfg0.N, win0_1.index t 0 = t.val ∧ win0_1.index t 1 = 0 := by decide +kernel

theorem read1 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 1).blk t).view.read (Elt Ideal) A y = A i :=
  congrArg A (idx2 _ _ (emb_at win0_1 t y 0 (index1 t).1 h0) (emb_at win0_1 t y 1 (index1 t).2 h1))

theorem index2 : ∀ t : Fin cfg0.N, win0_2.index t 0 = t.val ∧ win0_2.index t 1 = 0 := by decide +kernel

theorem read2 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 2).blk t).view.read (Elt Ideal) A y = A i :=
  congrArg A (idx2 _ _ (emb_at win0_2 t y 0 (index2 t).1 h0) (emb_at win0_2 t y 1 (index2 t).2 h1))

theorem index3 : ∀ t : Fin cfg0.N, win0_3.index t 0 = 0 ∧ win0_3.index t 1 = 0 := by decide +kernel

theorem read3 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 3).blk t).view.read (Elt Ideal) A y = A i :=
  congrArg A (idx2 _ _ (emb_at win0_3 t y 0 (index3 t).1 h0) (emb_at win0_3 t y 1 (index3 t).2 h1))

theorem index4 : ∀ t : Fin cfg0.N, win0_4.index t 0 = 0 ∧ win0_4.index t 1 = 0 := by decide +kernel

theorem read4 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 4).blk t).view.read (Elt Ideal) A y = A i :=
  congrArg A (idx2 _ _ (emb_at win0_4 t y 0 (index4 t).1 h0) (emb_at win0_4 t y 1 (index4 t).2 h1))

theorem index5 : ∀ t : Fin cfg0.N, win0_5.index t 0 = 0 ∧ win0_5.index t 1 = 0 := by decide +kernel

theorem read5 (t : Fin cfg0.N) (A : S1024x1024.Idx → EReal) (y : S1024x1024.Idx) (i : S1024x1024.Idx)
    (h0 : (i 0).val = 0 * 1024 + (y 0).val) (h1 : (i 1).val = 0 * 1024 + (y 1).val) :
    ((cfg0.win 5).blk t).view.read (Elt Ideal) A y = A i :=
  congrArg A (idx2 _ _ (emb_at win0_5 t y 0 (index5 t).1 h0) (emb_at win0_5 t y 1 (index5 t).2 h1))

theorem index6 : ∀ t : Fin cfg0.N, win0_6.index t 0 = t.val ∧ win0_6.index t 1 = 0 := by decide +kernel

theorem read6 (t : Fin cfg0.N) (A : S8192x1024.Idx → EReal) (y : S512x1024.Idx) (i : S8192x1024.Idx)
    (h0 : (i 0).val = t.val * 512 + (y 0).val) (h1 : (i 1).val = 0 * 1024 + (y 1).val) :
    ((cfg0.win 6).blk t).view.read (Elt Ideal) A y = A i :=
  congrArg A (idx2 _ _ (emb_at win0_6 t y 0 (index6 t).1 h0) (emb_at win0_6 t y 1 (index6 t).2 h1))

/-! ## One point -/

theorem point (P Q R : S512x1024.Idx → EReal) (A B C : S1024x1024.Idx → EReal) (r : Fin 512) (l : Fin 1024) :
    out0_6 (F := Ideal) P Q R A B C (ix2 r l) = (∑ k : Fin 1024, P (ix2 r k) * A (ix2 k l)) + (∑ k : Fin 1024, Q (ix2 r k) * B (ix2 k l)) + ∑ k : Fin 1024, R (ix2 r k) * C (ix2 k l) := by
  unfold out0_6
  refine (congrFun (View.canon_unit_zero off_zero _ _) _).trans ?_
  repeat rw [View.ld_unit_zero off_zero]
  unfold k0_pay1
  pointwise

/-! ## The reference's result at an index -/

theorem split3 (f : Fin 3072 → EReal) :
    ∑ k, f k = (∑ k : Fin 1024, f ⟨0 + k.val, by omega⟩) + (∑ k : Fin 1024, f ⟨1024 + k.val, by omega⟩) + ∑ k : Fin 1024, f ⟨2048 + k.val, by omega⟩ := by
  refine (Fin.sum_univ_add (a := 2048) (b := 1024) f).trans (congrArg₂ (· + ·) ?_ rfl)
  refine (Fin.sum_univ_add (a := 1024) (b := 1024) (fun k : Fin 2048 => f (Fin.castAdd 1024 k))).trans (congrArg₂ (· + ·) ?_ rfl)
  refine Finset.sum_congr rfl fun k _ => congrArg f (Fin.ext ?_)
  show k.val = 0 + k.val
  omega

/-- The three cotangents laid side by side: a column of the joined array is a column of the part it falls in. -/
theorem joined (p q r : S8192x1024.Idx → EReal) (j : Cert.QkvXRefIdeal.S8192x3072.Idx) (n : Fin 3) (i : S8192x1024.Idx) (h0 : (i 0).val = (j 0).val)
    (hn : (j 1).val / 1024 = n.val) (h1 : (i 1).val = (j 1).val % 1024) :
    val_main_v4 (F := Ideal) p q r j = (![p, q, r] : Fin 3 → S8192x1024.Idx → EReal) n i := by
  refine concatenate_ofFn_apply (s₁ := S8192x1024) (t := Cert.QkvXRefIdeal.S8192x3072) 1 (![p, q, r] : Fin 3 → S8192x1024.Idx → EReal)
    Cert.QkvXRefIdeal.Facts₀.concatenates_S8192x1024_S8192x1024_S8192x1024_S8192x3072_d1 rfl 1024 rfl j n hn i h1 fun b hb => ?_
  match b with
  | ⟨0, _⟩ => exact h0
  | ⟨1, _⟩ => exact absurd rfl hb

theorem ref_apply (w : S1024x3072.Idx → EReal) (p q r : S8192x1024.Idx → EReal) (i : Fin 8192) (j : Fin 1024) :
    val_main_v5 (F := Ideal) w p q r (ix2 i j)
      = (∑ k : Fin 1024, p (ix2 i k) * w (ix2 j ⟨0 + k.val, by omega⟩)) + (∑ k : Fin 1024, q (ix2 i k) * w (ix2 j ⟨1024 + k.val, by omega⟩)) + ∑ k : Fin 1024, r (ix2 i k) * w (ix2 j ⟨2048 + k.val, by omega⟩) := by
  rw [val_main_v5_apply]
  refine (split3 _).trans (congrArg₂ (· + ·) (congrArg₂ (· + ·) ?_ ?_) ?_)
  · refine Finset.sum_congr rfl fun k _ => congrArg₂ (· * ·) ?_ (congrArg w (idx2 _ _ rfl rfl))
    exact joined p q r _ 0 (ix2 i k) rfl (show (0 + k.val) / 1024 = 0 by omega) (show k.val = (0 + k.val) % 1024 by omega)
  · refine Finset.sum_congr rfl fun k _ => congrArg₂ (· * ·) ?_ (congrArg w (idx2 _ _ rfl rfl))
    exact joined p q r _ 1 (ix2 i k) rfl (show (1024 + k.val) / 1024 = 1 by omega) (show k.val = (1024 + k.val) % 1024 by omega)
  · refine Finset.sum_congr rfl fun k _ => congrArg₂ (· * ·) ?_ (congrArg w (idx2 _ _ rfl rfl))
    exact joined p q r _ 2 (ix2 i k) rfl (show (2048 + k.val) / 1024 = 2 by omega) (show k.val = (2048 + k.val) % 1024 by omega)

/-! ## The array the call leaves -/

theorem final6 (c : Dev nD) : (dats m 0 c).arrAt 6 cfg0.N
    = val_main_v5 (F := Ideal) (m ((c : Thread nD τ).loc main_arg1)) (m ((c : Thread nD τ).loc main_arg2)) (m ((c : Thread nD τ).loc main_arg3)) (m ((c : Thread nD τ).loc main_arg4)) := by
  have hN : cfg0.N = 16 := by decide +kernel
  refine (dats m 0 c).arrAt_eq_of_cover 6 _ (fun t _ => ?_) (fun i => ?_)
  · rw [Value.flushed6]
    refine funext fun (y : S512x1024.Idx) => ?_
    have hy0 : (y 0).val < 512 := (y 0).isLt
    have hy1 : (y 1).val < 1024 := (y 1).isLt
    have ht : t.val < 16 := hN ▸ t.isLt
    refine Eq.trans ?_ (read6 t _ y (ix2 ⟨t.val * 512 + (y 0).val, by omega⟩ ⟨0 * 1024 + (y 1).val, by omega⟩) rfl rfl).symm
    rw [ref_apply]
    refine Eq.trans (congrArg (out0_6 (F := Ideal) (iblk m c 0 t) (iblk m c 1 t) (iblk m c 2 t) (iblk m c 3 t) (iblk m c 4 t) (iblk m c 5 t)) (eq_ix2 y)) ?_
    refine (point _ _ _ _ _ _ (y 0) (y 1)).trans ?_
    refine congrArg₂ (· + ·) (congrArg₂ (· + ·) ?_ ?_) ?_
    · refine Finset.sum_congr rfl fun k _ => congrArg₂ (· * ·) ?_ ?_
      · refine (read0 t _ (ix2 (y 0) k) (ix2 ⟨t.val * 512 + (y 0).val, by omega⟩ k) rfl (by simp)).trans ?_
        exact congrFun (V_main_arg2 m c) _
      · refine (read3 t _ (ix2 k (y 1)) (ix2 k ⟨0 * 1024 + (y 1).val, by omega⟩) (by simp) rfl).trans ?_
        exact V_v2_apply m c _ _
    · refine Finset.sum_congr rfl fun k _ => congrArg₂ (· * ·) ?_ ?_
      · refine (read1 t _ (ix2 (y 0) k) (ix2 ⟨t.val * 512 + (y 0).val, by omega⟩ k) rfl (by simp)).trans ?_
        exact congrFun (V_main_arg3 m c) _
      · refine (read4 t _ (ix2 k (y 1)) (ix2 k ⟨0 * 1024 + (y 1).val, by omega⟩) (by simp) rfl).trans ?_
        exact V_v3_apply m c _ _
    · refine Finset.sum_congr rfl fun k _ => congrArg₂ (· * ·) ?_ ?_
      · refine (read2 t _ (ix2 (y 0) k) (ix2 ⟨t.val * 512 + (y 0).val, by omega⟩ k) rfl (by simp)).trans ?_
        exact congrFun (V_main_arg4 m c) _
      · refine (read5 t _ (ix2 k (y 1)) (ix2 k ⟨0 * 1024 + (y 1).val, by omega⟩) (by simp) rfl).trans ?_
        exact V_v4_apply m c _ _
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, flush0_6 _, ?_⟩
    show (show S8192x1024.Idx from i) ∈ ((View.whole main_v5).slice (win0_6.rect ⟨(i 0 : Nat) / 512, ht⟩)).set
    rw [View.set_slice_whole, Rect.mem_set_unit]
    exact fun a => match a with
      | ⟨0, _⟩ => within (index6 _).1 (by show (i 0 : Nat) / 512 * 512 ≤ (i 0 : Nat) ∧ (i 0 : Nat) < (i 0 : Nat) / 512 * 512 + 512; omega)
      | ⟨1, _⟩ => within (index6 _).2 (by show 0 * 1024 ≤ (i 1 : Nat) ∧ (i 1 : Nat) < 0 * 1024 + 1024; omega)

/-! ## The claims -/

/-- The reference runs, keeps its arguments, and has no semaphore. -/
theorem ref_frame : Cert.quiescent_QkvXRefIdeal (hQkvXRefIdeal := Cert.QkvXRefIdeal.Gen.facts) := fun m g _ =>
  (θ_run Cert.QkvXRefIdeal.defs _ _).mono (fun r h => ⟨fun c => (h c).2, sem_eq_zero_of_no_sems (by decide) r.2⟩)
    (Cert.QkvXRefIdeal.Value.run m g)

/-- The call's results are the reference's. -/
theorem value : Cert.algebraic_QkvXIdeal_QkvXRefIdeal (hQkvXIdeal := Cert.QkvXIdeal.Gen.facts) (hQkvXRefIdeal := Cert.QkvXRefIdeal.Gen.facts) := by
  intro m g m' g' _ agree
  refine ⟨fun c => val_main_v5 (F := Ideal) (m ((c : Thread nD τ).loc main_arg1)) (m ((c : Thread nD τ).loc main_arg2)) (m ((c : Thread nD τ).loc main_arg3)) (m ((c : Thread nD τ).loc main_arg4)), ?_, ?_⟩
  · refine (θ_run Cert.QkvXIdeal.defs _ _).mono (fun r h c => ?_) (Value.run_blocks m g)
    exact ⟨(h c).1.trans (final6 m c), (h c).2⟩
  · refine (θ_run Cert.QkvXRefIdeal.defs _ _).mono (fun r h c => ?_) (Cert.QkvXRefIdeal.Value.run m' g')
    obtain ⟨e0, e1, e2, e3, e4⟩ := agree c
    refine ⟨(h c).1.trans ?_, (h c).2⟩
    · rw [e1, e2, e3, e4]
      exact val_main_v5_eq _ _ _ _

end Cert.Ffn.QkvX

end
-- ==== Proof.lean ====
/- The proof of the claim: every program's frame, the rewrite that names the mask's literal, the value of the
   sliding-window call's two results (Proof/SwaClaim.lean), and the values of the feed-forward calls' and the projections'
   results (the Ffn modules). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.SwaClaim
public import proofs.«01_k».proof.Proof.FfnGateUp
public import proofs.«01_k».proof.Proof.FfnDown
public import proofs.«01_k».proof.Proof.FfnAct
public import proofs.«01_k».proof.Proof.FfnDownW
public import proofs.«01_k».proof.Proof.FfnGateW
public import proofs.«01_k».proof.Proof.FfnGateX
public import proofs.«01_k».proof.Proof.FfnUpX
public import proofs.«01_k».proof.Proof.FfnOut
public import proofs.«01_k».proof.Proof.FfnOutX
public import proofs.«01_k».proof.Proof.FfnOutW
public import proofs.«01_k».proof.Proof.FfnOutA
public import proofs.«01_k».proof.Proof.FfnOutAX
public import proofs.«01_k».proof.Proof.FfnOutAW
public import proofs.«01_k».proof.Proof.FfnXq
public import proofs.«01_k».proof.Proof.FfnXqX
public import proofs.«01_k».proof.Proof.FfnXqW
public import proofs.«01_k».proof.Proof.FfnXo
public import proofs.«01_k».proof.Proof.FfnXoX
public import proofs.«01_k».proof.Proof.FfnXoW
public import proofs.«01_k».proof.Proof.FfnQkvW
public import proofs.«01_k».proof.Proof.FfnInX
public import proofs.«01_k».proof.Proof.FfnInQW
public import proofs.«01_k».proof.Proof.FfnInKvW
public import proofs.«01_k».proof.Proof.FfnInCqW
public import proofs.«01_k».proof.Proof.FfnInKrW
public import proofs.«01_k».proof.Proof.FfnUqX
public import proofs.«01_k».proof.Proof.FfnUqW
public import proofs.«01_k».proof.Proof.FfnUkvX
public import proofs.«01_k».proof.Proof.FfnUkvW
public import proofs.«01_k».proof.Proof.FfnUkv
public import proofs.«01_k».proof.Proof.FfnQkv
public import proofs.«01_k».proof.Proof.FfnUq
public import proofs.«01_k».proof.Proof.FfnXkv
public import proofs.«01_k».proof.Proof.FfnXkvX
public import proofs.«01_k».proof.Proof.FfnXkvW
public import proofs.«01_k».proof.Proof.FfnIn
public import proofs.«01_k».proof.Proof.FfnQkvX
public import Idealize.ShloMosaic.Adequacy
public import Idealize.ShloMosaic.Init

@[expose] public section

noncomputable section

namespace Cert.Proof

open Idealize.ShloMosaic Idealize.SL.Sem

/-- The reference runs, keeps its arguments, and has no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- The two results of the sliding-window call are the gradients the reference's differentiation makes. -/
theorem swa_value : Cert.algebraic_KernelIdeal_ReferenceIdeal_pre_finite (hKernelIdeal := Cert.KernelIdeal.Gen.facts)
    (hReferenceIdeal := Cert.ReferenceIdeal.Gen.facts) (hPre_finite := Cert.Swa.finite_facts) := by
  intro m g m' g' pre agree
  refine ⟨fun c => Cert.ReferenceIdeal.Read.val_main_v140 (F := Ideal) (Cert.Swa.aq m c) (Cert.Swa.ak m c) (Cert.Swa.av m c) (Cert.Swa.ask m c) (Cert.Swa.aw m c),
    fun c => Cert.ReferenceIdeal.Read.val_main_v144 (F := Ideal) (Cert.Swa.aq m c) (Cert.Swa.ak m c) (Cert.Swa.av m c) (Cert.Swa.ask m c) (Cert.Swa.aw m c), ?_, ?_⟩
  · refine (θ_run Cert.KernelIdeal.defs _ _).mono (fun r h c => ?_) (Cert.KernelIdeal.Value.run_blocks m g)
    have _ := Cert.Swa.finite_facts
    obtain ⟨q, k, v, sk, w, hq, hk, hv, hs, hw⟩ := Cert.Swa.finite_args _ _ _ _ _ (pre c)
    exact ⟨(h c).1.trans (Cert.Swa.out9_ref m c q k v sk w hq hk hv hs hw), (h c).2.1.trans (Cert.Swa.out10_ref m c q k v sk w hq hk hv hs hw), (h c).2.2⟩
  · refine (θ_run Cert.ReferenceIdeal.defs _ _).mono (fun r h c => ?_) (Cert.Swa.reference_run m' g')
    obtain ⟨e0, e1, e2, e3, e4⟩ := agree c
    refine ⟨(h c).1.trans ?_, (h c).2.1.trans ?_, (h c).2.2⟩
    · rw [e0, e1, e2, e3, e4]
    · rw [e0, e1, e2, e3, e4]

theorem claim : Cert.Claim :=
  ⟨Cert.Kernel.Gen.facts, Cert.KernelIdeal.Gen.facts, Cert.ReferenceIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    Cert.Act.Gen.facts, Cert.ActIdeal.Gen.facts, Cert.ActRefIdeal.Gen.facts,
    Cert.DownW.Gen.facts, Cert.DownWIdeal.Gen.facts, Cert.DownWRefIdeal.Gen.facts,
    Cert.GateW.Gen.facts, Cert.GateWIdeal.Gen.facts, Cert.GateWRefIdeal.Gen.facts,
    Cert.GateX.Gen.facts, Cert.GateXIdeal.Gen.facts, Cert.GateXRefIdeal.Gen.facts,
    Cert.UpX.Gen.facts, Cert.UpXIdeal.Gen.facts, Cert.UpXRefIdeal.Gen.facts,
    Cert.Out.Gen.facts, Cert.OutIdeal.Gen.facts, Cert.OutRefIdeal.Gen.facts,
    Cert.OutX.Gen.facts, Cert.OutXIdeal.Gen.facts, Cert.OutXRefIdeal.Gen.facts,
    Cert.OutW.Gen.facts, Cert.OutWIdeal.Gen.facts, Cert.OutWRefIdeal.Gen.facts,
    Cert.OutA.Gen.facts, Cert.OutAIdeal.Gen.facts, Cert.OutARefIdeal.Gen.facts,
    Cert.OutAX.Gen.facts, Cert.OutAXIdeal.Gen.facts, Cert.OutAXRefIdeal.Gen.facts,
    Cert.OutAW.Gen.facts, Cert.OutAWIdeal.Gen.facts, Cert.OutAWRefIdeal.Gen.facts,
    Cert.Xq.Gen.facts, Cert.XqIdeal.Gen.facts, Cert.XqRefIdeal.Gen.facts,
    Cert.XqX.Gen.facts, Cert.XqXIdeal.Gen.facts, Cert.XqXRefIdeal.Gen.facts,
    Cert.XqW.Gen.facts, Cert.XqWIdeal.Gen.facts, Cert.XqWRefIdeal.Gen.facts,
    Cert.Xo.Gen.facts, Cert.XoIdeal.Gen.facts, Cert.XoRefIdeal.Gen.facts,
    Cert.XoX.Gen.facts, Cert.XoXIdeal.Gen.facts, Cert.XoXRefIdeal.Gen.facts,
    Cert.XoW.Gen.facts, Cert.XoWIdeal.Gen.facts, Cert.XoWRefIdeal.Gen.facts,
    Cert.QkvX.Gen.facts, Cert.QkvXIdeal.Gen.facts, Cert.QkvXRefIdeal.Gen.facts,
    Cert.QkvW.Gen.facts, Cert.QkvWIdeal.Gen.facts, Cert.QkvWRefIdeal.Gen.facts,
    Cert.InX.Gen.facts, Cert.InXIdeal.Gen.facts, Cert.InXRefIdeal.Gen.facts,
    Cert.InQW.Gen.facts, Cert.InQWIdeal.Gen.facts, Cert.InQWRefIdeal.Gen.facts,
    Cert.InKvW.Gen.facts, Cert.InKvWIdeal.Gen.facts, Cert.InKvWRefIdeal.Gen.facts,
    Cert.InCqW.Gen.facts, Cert.InCqWIdeal.Gen.facts, Cert.InCqWRefIdeal.Gen.facts,
    Cert.InKrW.Gen.facts, Cert.InKrWIdeal.Gen.facts, Cert.InKrWRefIdeal.Gen.facts,
    Cert.UqX.Gen.facts, Cert.UqXIdeal.Gen.facts, Cert.UqXRefIdeal.Gen.facts,
    Cert.UqW.Gen.facts, Cert.UqWIdeal.Gen.facts, Cert.UqWRefIdeal.Gen.facts,
    Cert.UkvX.Gen.facts, Cert.UkvXIdeal.Gen.facts, Cert.UkvXRefIdeal.Gen.facts,
    Cert.UkvW.Gen.facts, Cert.UkvWIdeal.Gen.facts, Cert.UkvWRefIdeal.Gen.facts,
    Cert.Ukv.Gen.facts, Cert.UkvIdeal.Gen.facts, Cert.UkvRefIdeal.Gen.facts,
    Cert.Qkv.Gen.facts, Cert.QkvIdeal.Gen.facts, Cert.QkvRefIdeal.Gen.facts,
    Cert.In.Gen.facts, Cert.InIdeal.Gen.facts, Cert.InRefIdeal.Gen.facts,
    Cert.Uq.Gen.facts, Cert.UqIdeal.Gen.facts, Cert.UqRefIdeal.Gen.facts,
    Cert.Xkv.Gen.facts, Cert.XkvIdeal.Gen.facts, Cert.XkvRefIdeal.Gen.facts,
    Cert.XkvX.Gen.facts, Cert.XkvXIdeal.Gen.facts, Cert.XkvXRefIdeal.Gen.facts,
    Cert.XkvW.Gen.facts, Cert.XkvWIdeal.Gen.facts, Cert.XkvWRefIdeal.Gen.facts,
    Cert.Swa.finite_facts, Cert.Ffn.Act.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.GateUp.Gen.frame m g, fun m g _ => Cert.GateUpIdeal.Gen.frame m g, Cert.Ffn.GateUp.ref_frame,
    fun m g _ => Cert.Down.Gen.frame m g, fun m g _ => Cert.DownIdeal.Gen.frame m g, Cert.Ffn.Down.ref_frame,
    fun m g _ => Cert.Act.Gen.frame m g, fun m g _ => Cert.ActIdeal.Gen.frame m g, fun m g _ => Cert.ActIdeal.Gen.frame m g,
    Cert.Ffn.Act.ref_frame, fun m g _ => Cert.Ffn.Act.ref_frame m g trivial,
    fun m g _ => Cert.DownW.Gen.frame m g, fun m g _ => Cert.DownWIdeal.Gen.frame m g, Cert.Ffn.DownW.ref_frame,
    fun m g _ => Cert.GateW.Gen.frame m g, fun m g _ => Cert.GateWIdeal.Gen.frame m g, Cert.Ffn.GateW.ref_frame,
    fun m g _ => Cert.GateX.Gen.frame m g, fun m g _ => Cert.GateXIdeal.Gen.frame m g, Cert.Ffn.GateX.ref_frame,
    fun m g _ => Cert.UpX.Gen.frame m g, fun m g _ => Cert.UpXIdeal.Gen.frame m g, Cert.Ffn.UpX.ref_frame,
    fun m g _ => Cert.Out.Gen.frame m g, fun m g _ => Cert.OutIdeal.Gen.frame m g, Cert.Ffn.Out.ref_frame,
    fun m g _ => Cert.OutX.Gen.frame m g, fun m g _ => Cert.OutXIdeal.Gen.frame m g, Cert.Ffn.OutX.ref_frame,
    fun m g _ => Cert.OutW.Gen.frame m g, fun m g _ => Cert.OutWIdeal.Gen.frame m g, Cert.Ffn.OutW.ref_frame,
    fun m g _ => Cert.OutA.Gen.frame m g, fun m g _ => Cert.OutAIdeal.Gen.frame m g, Cert.Ffn.OutA.ref_frame,
    fun m g _ => Cert.OutAX.Gen.frame m g, fun m g _ => Cert.OutAXIdeal.Gen.frame m g, Cert.Ffn.OutAX.ref_frame,
    fun m g _ => Cert.OutAW.Gen.frame m g, fun m g _ => Cert.OutAWIdeal.Gen.frame m g, Cert.Ffn.OutAW.ref_frame,
    fun m g _ => Cert.Xq.Gen.frame m g, fun m g _ => Cert.XqIdeal.Gen.frame m g, Cert.Ffn.Xq.ref_frame,
    fun m g _ => Cert.XqX.Gen.frame m g, fun m g _ => Cert.XqXIdeal.Gen.frame m g, Cert.Ffn.XqX.ref_frame,
    fun m g _ => Cert.XqW.Gen.frame m g, fun m g _ => Cert.XqWIdeal.Gen.frame m g, Cert.Ffn.XqW.ref_frame,
    fun m g _ => Cert.Xo.Gen.frame m g, fun m g _ => Cert.XoIdeal.Gen.frame m g, Cert.Ffn.Xo.ref_frame,
    fun m g _ => Cert.XoX.Gen.frame m g, fun m g _ => Cert.XoXIdeal.Gen.frame m g, Cert.Ffn.XoX.ref_frame,
    fun m g _ => Cert.XoW.Gen.frame m g, fun m g _ => Cert.XoWIdeal.Gen.frame m g, Cert.Ffn.XoW.ref_frame,
    fun m g _ => Cert.QkvX.Gen.frame m g, fun m g _ => Cert.QkvXIdeal.Gen.frame m g, Cert.Ffn.QkvX.ref_frame,
    fun m g _ => Cert.QkvW.Gen.frame m g, fun m g _ => Cert.QkvWIdeal.Gen.frame m g, Cert.Ffn.QkvW.ref_frame,
    fun m g _ => Cert.InX.Gen.frame m g, fun m g _ => Cert.InXIdeal.Gen.frame m g, Cert.Ffn.InX.ref_frame,
    fun m g _ => Cert.InQW.Gen.frame m g, fun m g _ => Cert.InQWIdeal.Gen.frame m g, Cert.Ffn.InQW.ref_frame,
    fun m g _ => Cert.InKvW.Gen.frame m g, fun m g _ => Cert.InKvWIdeal.Gen.frame m g, Cert.Ffn.InKvW.ref_frame,
    fun m g _ => Cert.InCqW.Gen.frame m g, fun m g _ => Cert.InCqWIdeal.Gen.frame m g, Cert.Ffn.InCqW.ref_frame,
    fun m g _ => Cert.InKrW.Gen.frame m g, fun m g _ => Cert.InKrWIdeal.Gen.frame m g, Cert.Ffn.InKrW.ref_frame,
    fun m g _ => Cert.UqX.Gen.frame m g, fun m g _ => Cert.UqXIdeal.Gen.frame m g, Cert.Ffn.UqX.ref_frame,
    fun m g _ => Cert.UqW.Gen.frame m g, fun m g _ => Cert.UqWIdeal.Gen.frame m g, Cert.Ffn.UqW.ref_frame,
    fun m g _ => Cert.UkvX.Gen.frame m g, fun m g _ => Cert.UkvXIdeal.Gen.frame m g, Cert.Ffn.UkvX.ref_frame,
    fun m g _ => Cert.UkvW.Gen.frame m g, fun m g _ => Cert.UkvWIdeal.Gen.frame m g, Cert.Ffn.UkvW.ref_frame,
    fun m g _ => Cert.Ukv.Gen.frame m g, fun m g _ => Cert.UkvIdeal.Gen.frame m g, Cert.Ffn.Ukv.ref_frame,
    fun m g _ => Cert.Qkv.Gen.frame m g, fun m g _ => Cert.QkvIdeal.Gen.frame m g, Cert.Ffn.Qkv.ref_frame,
    fun m g _ => Cert.In.Gen.frame m g, fun m g _ => Cert.InIdeal.Gen.frame m g, Cert.Ffn.In.ref_frame,
    fun m g _ => Cert.Uq.Gen.frame m g, fun m g _ => Cert.UqIdeal.Gen.frame m g, Cert.Ffn.Uq.ref_frame,
    fun m g _ => Cert.Xkv.Gen.frame m g, fun m g _ => Cert.XkvIdeal.Gen.frame m g, Cert.Ffn.Xkv.ref_frame,
    fun m g _ => Cert.XkvX.Gen.frame m g, fun m g _ => Cert.XkvXIdeal.Gen.frame m g, Cert.Ffn.XkvX.ref_frame,
    fun m g _ => Cert.XkvW.Gen.frame m g, fun m g _ => Cert.XkvWIdeal.Gen.frame m g, Cert.Ffn.XkvW.ref_frame,
    IdealRules.named_const.statement Cert.KernelIdeal.κ "mask" .f32 0xF149F2CA#32 ⊥ rfl, swa_value,
    trivial, Cert.Ffn.GateUp.value, trivial, Cert.Ffn.Down.value, trivial, Cert.Ffn.Act.value, trivial, Cert.Ffn.DownW.value, trivial, Cert.Ffn.GateW.value, trivial, Cert.Ffn.GateX.value, trivial, Cert.Ffn.UpX.value, trivial, Cert.Ffn.Out.value, trivial, Cert.Ffn.OutX.value, trivial, Cert.Ffn.OutW.value, trivial, Cert.Ffn.OutA.value, trivial, Cert.Ffn.OutAX.value, trivial, Cert.Ffn.OutAW.value, trivial, Cert.Ffn.Xq.value, trivial, Cert.Ffn.XqX.value, trivial, Cert.Ffn.XqW.value, trivial, Cert.Ffn.Xo.value, trivial, Cert.Ffn.XoX.value, trivial, Cert.Ffn.XoW.value, trivial, Cert.Ffn.QkvX.value, trivial, Cert.Ffn.QkvW.value, trivial, Cert.Ffn.InX.value, trivial, Cert.Ffn.InQW.value, trivial, Cert.Ffn.InKvW.value, trivial, Cert.Ffn.InCqW.value, trivial, Cert.Ffn.InKrW.value, trivial, Cert.Ffn.UqX.value, trivial, Cert.Ffn.UqW.value, trivial, Cert.Ffn.UkvX.value, trivial, Cert.Ffn.UkvW.value, trivial, Cert.Ffn.Ukv.value, trivial, Cert.Ffn.Qkv.value, trivial, Cert.Ffn.In.value, trivial, Cert.Ffn.Uq.value, trivial, Cert.Ffn.Xkv.value, trivial, Cert.Ffn.XkvX.value, trivial, Cert.Ffn.XkvW.value⟩

end Cert.Proof

end
